-- ==== Defs.lean ====
def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).1 = (fun _ => 1#1)
    ∧ (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2 = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2 = (fun _ => 1#1)

def Pre_Kernel2Ideal_tiles [hPre_tiles : Cert.Pre_tiles.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles [hPre_tiles : Cert.Pre_tiles.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Kernel3 [hPre_experts_all : Cert.Pre_experts_all.Facts] (m : (ℓ : Loc Cert.Kernel3.nD Cert.Kernel3.τ Cert.Kernel3.sig) → Buf (Elt Bits) ℓ) : Prop :=
  ∀ c : Dev Cert.Kernel3.nD,
    (Cert.Pre_experts_all.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).1 = (fun _ => 1#1)
    ∧ (Cert.Pre_experts_all.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).2 = (fun _ => 1#1)

def Pre_Kernel3Ideal [hPre_experts_all : Cert.Pre_experts_all.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_experts_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2 = (fun _ => 1#1)

def Pre_Kernel3Ideal_tiles_all [hPre_tiles_all : Cert.Pre_tiles_all.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tiles_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_tiles_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_tiles_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_tiles_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_tiles_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tiles_all [hPre_tiles_all : Cert.Pre_tiles_all.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tiles_all.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_tiles_all.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_tiles_all.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_tiles_all.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_tiles_all.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 [hPre_experts_down : Cert.Pre_experts_down.Facts] (m : (ℓ : Loc Cert.Kernel4.nD Cert.Kernel4.τ Cert.Kernel4.sig) → Buf (Elt Bits) ℓ) : Prop :=
  ∀ c : Dev Cert.Kernel4.nD,
    (Cert.Pre_experts_down.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))).1 = (fun _ => 1#1)
    ∧ (Cert.Pre_experts_down.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))).2 = (fun _ => 1#1)

def Pre_Kernel4Ideal [hPre_experts_down : Cert.Pre_experts_down.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_down.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_experts_down.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2 = (fun _ => 1#1)

def Pre_Kernel4Ideal_tiles_down [hPre_tiles_down : Cert.Pre_tiles_down.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_tiles_down.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_tiles_down.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_tiles_down.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.1 = (fun _ => 1#1)
    ∧ (Cert.Pre_tiles_down.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2.1 = (fun _ => 1#1)
    ∧ (Cert.Pre_tiles_down.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_tiles_down [hPre_tiles_down : Cert.Pre_tiles_down.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_tiles_down.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_tiles_down.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_tiles_down.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.1 = (fun _ => 1#1)
    ∧ (Cert.Pre_tiles_down.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2.1 = (fun _ => 1#1)
    ∧ (Cert.Pre_tiles_down.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2.2 = (fun _ => 1#1)

def Pre_Kernel5 [hPre_experts_down_all : Cert.Pre_experts_down_all.Facts] (m : (ℓ : Loc Cert.Kernel5.nD Cert.Kernel5.τ Cert.Kernel5.sig) → Buf (Elt Bits) ℓ) : Prop :=
  ∀ c : Dev Cert.Kernel5.nD,
    (Cert.Pre_experts_down_all.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3))).1 = (fun _ => 1#1)
    ∧ (Cert.Pre_experts_down_all.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3))).2 = (fun _ => 1#1)

def Pre_Kernel5Ideal [hPre_experts_down_all : Cert.Pre_experts_down_all.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts_down_all.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_experts_down_all.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2 = (fun _ => 1#1)

def Pre_Kernel5Ideal_tiles_down_all [hPre_tiles_down_all : Cert.Pre_tiles_down_all.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_tiles_down_all.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_tiles_down_all.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_tiles_down_all.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.1 = (fun _ => 1#1)
    ∧ (Cert.Pre_tiles_down_all.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.2.1 = (fun _ => 1#1)
    ∧ (Cert.Pre_tiles_down_all.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_tiles_down_all [hPre_tiles_down_all : Cert.Pre_tiles_down_all.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_tiles_down_all.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_tiles_down_all.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_tiles_down_all.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.1 = (fun _ => 1#1)
    ∧ (Cert.Pre_tiles_down_all.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.2.1 = (fun _ => 1#1)
    ∧ (Cert.Pre_tiles_down_all.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.2.2 = (fun _ => 1#1)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_tiles [hKernel2Ideal : Cert.Kernel2Ideal.Facts] [hPre_tiles : Cert.Pre_tiles.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_tiles m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_tiles [hReference2Ideal : Cert.Reference2Ideal.Facts] [hPre_tiles : Cert.Pre_tiles.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel3 [hKernel3 : Cert.Kernel3.Facts] [hPre_experts_all : Cert.Pre_experts_all.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_experts_all : Cert.Pre_experts_all.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_tiles_all [hKernel3Ideal : Cert.Kernel3Ideal.Facts] [hPre_tiles_all : Cert.Pre_tiles_all.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_tiles_all m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_tiles_all [hReference3Ideal : Cert.Reference3Ideal.Facts] [hPre_tiles_all : Cert.Pre_tiles_all.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tiles_all m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] [hPre_experts_down : Cert.Pre_experts_down.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] [hPre_experts_down : Cert.Pre_experts_down.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_tiles_down [hKernel4Ideal : Cert.Kernel4Ideal.Facts] [hPre_tiles_down : Cert.Pre_tiles_down.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_tiles_down m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_tiles_down [hReference4Ideal : Cert.Reference4Ideal.Facts] [hPre_tiles_down : Cert.Pre_tiles_down.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_tiles_down m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] [hPre_experts_down_all : Cert.Pre_experts_down_all.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] [hPre_experts_down_all : Cert.Pre_experts_down_all.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_tiles_down_all [hKernel5Ideal : Cert.Kernel5Ideal.Facts] [hPre_tiles_down_all : Cert.Pre_tiles_down_all.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_tiles_down_all m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_tiles_down_all [hReference5Ideal : Cert.Reference5Ideal.Facts] [hPre_tiles_down_all : Cert.Pre_tiles_down_all.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_tiles_down_all m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel2_Kernel2Ideal : Prop :=
  True

def algebraic_Kernel2Ideal_Reference2Ideal_pre_tiles [hKernel2Ideal : Cert.Kernel2Ideal.Facts] [hReference2Ideal : Cert.Reference2Ideal.Facts] [hPre_tiles : Cert.Pre_tiles.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_tiles m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel3_Kernel3Ideal : Prop :=
  True

def algebraic_Kernel3Ideal_Reference3Ideal_pre_tiles_all [hKernel3Ideal : Cert.Kernel3Ideal.Facts] [hReference3Ideal : Cert.Reference3Ideal.Facts] [hPre_tiles_all : Cert.Pre_tiles_all.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_tiles_all m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_tiles_down [hKernel4Ideal : Cert.Kernel4Ideal.Facts] [hReference4Ideal : Cert.Reference4Ideal.Facts] [hPre_tiles_down : Cert.Pre_tiles_down.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_tiles_down m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_tiles_down_all [hKernel5Ideal : Cert.Kernel5Ideal.Facts] [hReference5Ideal : Cert.Reference5Ideal.Facts] [hPre_tiles_down_all : Cert.Pre_tiles_down_all.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_tiles_down_all m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel2 : Cert.Kernel2.Facts) (hKernel2Ideal : Cert.Kernel2Ideal.Facts) (hReference2Ideal : Cert.Reference2Ideal.Facts) (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_experts : Cert.Pre_experts.Facts) (hPre_tiles : Cert.Pre_tiles.Facts) (hPre_finite : Cert.Pre_finite.Facts) (hPre_experts_all : Cert.Pre_experts_all.Facts) (hPre_tiles_all : Cert.Pre_tiles_all.Facts) (hPre_experts_down : Cert.Pre_experts_down.Facts) (hPre_tiles_down : Cert.Pre_tiles_down.Facts) (hPre_experts_down_all : Cert.Pre_experts_down_all.Facts) (hPre_tiles_down_all : Cert.Pre_tiles_down_all.Facts),
    quiescent_Kernel2 (hKernel2 := hKernel2) (hPre_experts := hPre_experts)
    ∧ quiescent_Kernel2Ideal (hKernel2Ideal := hKernel2Ideal) (hPre_experts := hPre_experts)
    ∧ quiescent_Kernel2Ideal_pre_tiles (hKernel2Ideal := hKernel2Ideal) (hPre_tiles := hPre_tiles)
    ∧ quiescent_Reference2Ideal (hReference2Ideal := hReference2Ideal)
    ∧ quiescent_Reference2Ideal_pre_tiles (hReference2Ideal := hReference2Ideal) (hPre_tiles := hPre_tiles)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3) (hPre_experts_all := hPre_experts_all)
    ∧ quiescent_Kernel3Ideal (hKernel3Ideal := hKernel3Ideal) (hPre_experts_all := hPre_experts_all)
    ∧ quiescent_Kernel3Ideal_pre_tiles_all (hKernel3Ideal := hKernel3Ideal) (hPre_tiles_all := hPre_tiles_all)
    ∧ quiescent_Reference3Ideal (hReference3Ideal := hReference3Ideal)
    ∧ quiescent_Reference3Ideal_pre_tiles_all (hReference3Ideal := hReference3Ideal) (hPre_tiles_all := hPre_tiles_all)
    ∧ quiescent_Kernel4 (hKernel4 := hKernel4) (hPre_experts_down := hPre_experts_down)
    ∧ quiescent_Kernel4Ideal (hKernel4Ideal := hKernel4Ideal) (hPre_experts_down := hPre_experts_down)
    ∧ quiescent_Kernel4Ideal_pre_tiles_down (hKernel4Ideal := hKernel4Ideal) (hPre_tiles_down := hPre_tiles_down)
    ∧ quiescent_Reference4Ideal (hReference4Ideal := hReference4Ideal)
    ∧ quiescent_Reference4Ideal_pre_tiles_down (hReference4Ideal := hReference4Ideal) (hPre_tiles_down := hPre_tiles_down)
    ∧ quiescent_Kernel5 (hKernel5 := hKernel5) (hPre_experts_down_all := hPre_experts_down_all)
    ∧ quiescent_Kernel5Ideal (hKernel5Ideal := hKernel5Ideal) (hPre_experts_down_all := hPre_experts_down_all)
    ∧ quiescent_Kernel5Ideal_pre_tiles_down_all (hKernel5Ideal := hKernel5Ideal) (hPre_tiles_down_all := hPre_tiles_down_all)
    ∧ quiescent_Reference5Ideal (hReference5Ideal := hReference5Ideal)
    ∧ quiescent_Reference5Ideal_pre_tiles_down_all (hReference5Ideal := hReference5Ideal) (hPre_tiles_down_all := hPre_tiles_down_all)
    ∧ preserves_Kernel2_Kernel2Ideal
    ∧ algebraic_Kernel2Ideal_Reference2Ideal_pre_tiles (hKernel2Ideal := hKernel2Ideal) (hReference2Ideal := hReference2Ideal) (hPre_tiles := hPre_tiles)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal_pre_tiles_all (hKernel3Ideal := hKernel3Ideal) (hReference3Ideal := hReference3Ideal) (hPre_tiles_all := hPre_tiles_all)
    ∧ preserves_Kernel4_Kernel4Ideal
    ∧ algebraic_Kernel4Ideal_Reference4Ideal_pre_tiles_down (hKernel4Ideal := hKernel4Ideal) (hReference4Ideal := hReference4Ideal) (hPre_tiles_down := hPre_tiles_down)
    ∧ preserves_Kernel5_Kernel5Ideal
    ∧ algebraic_Kernel5Ideal_Reference5Ideal_pre_tiles_down_all (hKernel5Ideal := hKernel5Ideal) (hReference5Ideal := hReference5Ideal) (hPre_tiles_down_all := hPre_tiles_down_all)
-- ==== Pre_experts.lean ====
abbrev S20480x2048 : Shape := ⟨2, ![20480, 2048]⟩
abbrev S40 : Shape := ⟨1, ![40]⟩
abbrev S2x8x2048x4096 : Shape := ⟨4, ![2, 8, 2048, 4096]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S20480x2048 .f32) (main_arg1 : IVec S40 32) (main_arg2 : IVec S40 32) (main_arg3 : FVec F S2x8x2048x4096 .f32) (main_arg4 : FVec F S2x8x2048x4096 .f32) : IVec S40 1 × IVec S40 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 16#32
  let main_v2 : IVec S40 32 := broadcastInDim S40 ![] bcast_S_S40 main_c_0
  let main_v3 : IVec S40 1 := cmpi .slt main_arg1 main_v2
  (main_v1, main_v3)
-- ==== Pre_experts_all.lean ====
abbrev S22528x2048 : Shape := ⟨2, ![22528, 2048]⟩
abbrev S44 : Shape := ⟨1, ![44]⟩
abbrev S2x8x2048x4096 : Shape := ⟨4, ![2, 8, 2048, 4096]⟩
abbrev S_ : Shape := ⟨0, ![]⟩

class Facts : Prop where
  bcast_S_S44 : S_.BroadcastsInDim S44 (![] : Fin 0 → Fin S44.rank)

variable [Facts]

def fn {F : FTy → Type} [FloatOps F] (main_arg0 : FVec F S22528x2048 .f32) (main_arg1 : IVec S44 32) (main_arg2 : IVec S44 32) (main_arg3 : FVec F S2x8x2048x4096 .f32) (main_arg4 : FVec F S2x8x2048x4096 .f32) : IVec S44 1 × IVec S44 1 :=
  let main_c : IVec S_ 32 := constantI S_ 32 0#32
  let main_v0 : IVec S44 32 := broadcastInDim S44 ![] bcast_S_S44 main_c
  let main_v1 : IVec S44 1 := cmpi .sge main_arg1 main_v0
  let main_c_0 : IVec S_ 32 := constantI S_ 32 16#32
  let main_v2 : IVec S44 32 := broadcastInDim S44 ![] bcast_S_S44 main_c_0
  let main_v3 : IVec S44 1 := cmpi .slt main_arg1 main_v2
  (main_v1, main_v3)
-- ==== Pre_experts_down.lean ====
abbrev S20480x4096 : Shape := ⟨2, ![20480, 4096]⟩
abbrev S40 : Shape := ⟨1, ![40]⟩
abbrev S2x8x4096x2048 : Shape := ⟨4, ![2, 8, 4096, 2048]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S20480x4096 .bf16) (main_arg1 : IVec S40 32) (main_arg2 : IVec S40 32) (main_arg3 : FVec F S2x8x4096x2048 .f32) : IVec S40 1 × IVec S40 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 16#32
  let main_v2 : IVec S40 32 := broadcastInDim S40 ![] bcast_S_S40 main_c_0
  let main_v3 : IVec S40 1 := cmpi .slt main_arg1 main_v2
  (main_v1, main_v3)
-- ==== Pre_experts_down_all.lean ====
abbrev S22528x4096 : Shape := ⟨2, ![22528, 4096]⟩
abbrev S44 : Shape := ⟨1, ![44]⟩
abbrev S2x8x4096x2048 : Shape := ⟨4, ![2, 8, 4096, 2048]⟩
abbrev S_ : Shape := ⟨0, ![]⟩

class Facts : Prop where
  bcast_S_S44 : S_.BroadcastsInDim S44 (![] : Fin 0 → Fin S44.rank)

variable [Facts]

def fn {F : FTy → Type} [FloatOps F] (main_arg0 : FVec F S22528x4096 .bf16) (main_arg1 : IVec S44 32) (main_arg2 : IVec S44 32) (main_arg3 : FVec F S2x8x4096x2048 .f32) : IVec S44 1 × IVec S44 1 :=
  let main_c : IVec S_ 32 := constantI S_ 32 0#32
  let main_v0 : IVec S44 32 := broadcastInDim S44 ![] bcast_S_S44 main_c
  let main_v1 : IVec S44 1 := cmpi .sge main_arg1 main_v0
  let main_c_0 : IVec S_ 32 := constantI S_ 32 16#32
  let main_v2 : IVec S44 32 := broadcastInDim S44 ![] bcast_S_S44 main_c_0
  let main_v3 : IVec S44 1 := cmpi .slt main_arg1 main_v2
  (main_v1, main_v3)
-- ==== Pre_finite.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S4x256x16x128 : Shape := ⟨4, ![4, 256, 16, 128]⟩
abbrev S4x256x64 : Shape := ⟨3, ![4, 256, 64]⟩
abbrev S_ : Shape := ⟨0, ![]⟩

class Facts : Prop where
  bcast_S_S4x2048x16x128 : S_.BroadcastsInDim S4x2048x16x128 (![] : Fin 0 → Fin S4x2048x16x128.rank)
  bcast_S_S4x2048x16x64 : S_.BroadcastsInDim S4x2048x16x64 (![] : Fin 0 → Fin S4x2048x16x64.rank)
  bcast_S_S4x2048x64 : S_.BroadcastsInDim S4x2048x64 (![] : Fin 0 → Fin S4x2048x64.rank)
  bcast_S_S4x256x16x128 : S_.BroadcastsInDim S4x256x16x128 (![] : Fin 0 → Fin S4x256x16x128.rank)
  bcast_S_S4x256x64 : S_.BroadcastsInDim S4x256x64 (![] : Fin 0 → Fin S4x256x64.rank)

variable [Facts]

def fn {F : FTy → Type} [FloatOps F] (main_arg0 : FVec F S4x2048x16x128 .f32) (main_arg1 : FVec F S4x2048x16x64 .f32) (main_arg2 : FVec F S4x2048x16x128 .f32) (main_arg3 : FVec F S4x2048x64 .f32) (main_arg4 : FVec F S4x2048x16x128 .f32) (main_arg5 : FVec F S4x256x16x128 .f32) (main_arg6 : FVec F S4x256x64 .f32) (main_arg7 : FVec F S4x256x16x128 .f32) : IVec S4x2048x16x128 1 × IVec S4x2048x16x64 1 × IVec S4x2048x16x128 1 × IVec S4x2048x64 1 × IVec S4x256x16x128 1 × IVec S4x256x64 1 :=
  let main_v0 : FVec F S4x2048x16x128 .f32 := Host.absf main_arg0
  let main_cst : FVec F S_ .f32 := constant S_ .f32 0x7F800000#32
  let main_v1 : FVec F S4x2048x16x128 .f32 := broadcastInDim S4x2048x16x128 ![] bcast_S_S4x2048x16x128 main_cst
  let main_v2 : IVec S4x2048x16x128 1 := cmpf .olt main_v0 main_v1
  let main_v3 : FVec F S4x2048x16x64 .f32 := Host.absf main_arg1
  let main_cst_0 : FVec F S_ .f32 := constant S_ .f32 0x7F800000#32
  let main_v4 : FVec F S4x2048x16x64 .f32 := broadcastInDim S4x2048x16x64 ![] bcast_S_S4x2048x16x64 main_cst_0
  let main_v5 : IVec S4x2048x16x64 1 := cmpf .olt main_v3 main_v4
  let main_v6 : FVec F S4x2048x16x128 .f32 := Host.absf main_arg2
  let main_cst_1 : FVec F S_ .f32 := constant S_ .f32 0x7F800000#32
  let main_v7 : FVec F S4x2048x16x128 .f32 := broadcastInDim S4x2048x16x128 ![] bcast_S_S4x2048x16x128 main_cst_1
  let main_v8 : IVec S4x2048x16x128 1 := cmpf .olt main_v6 main_v7
  let main_v9 : FVec F S4x2048x64 .f32 := Host.absf main_arg3
  let main_cst_2 : FVec F S_ .f32 := constant S_ .f32 0x7F800000#32
  let main_v10 : FVec F S4x2048x64 .f32 := broadcastInDim S4x2048x64 ![] bcast_S_S4x2048x64 main_cst_2
  let main_v11 : IVec S4x2048x64 1 := cmpf .olt main_v9 main_v10
  let main_v12 : FVec F S4x256x16x128 .f32 := Host.absf main_arg5
  let main_cst_3 : FVec F S_ .f32 := constant S_ .f32 0x7F800000#32
  let main_v13 : FVec F S4x256x16x128 .f32 := broadcastInDim S4x256x16x128 ![] bcast_S_S4x256x16x128 main_cst_3
  let main_v14 : IVec S4x256x16x128 1 := cmpf .olt main_v12 main_v13
  let main_v15 : FVec F S4x256x64 .f32 := Host.absf main_arg6
  let main_cst_4 : FVec F S_ .f32 := constant S_ .f32 0x7F800000#32
  let main_v16 : FVec F S4x256x64 .f32 := broadcastInDim S4x256x64 ![] bcast_S_S4x256x64 main_cst_4
  let main_v17 : IVec S4x256x64 1 := cmpf .olt main_v15 main_v16
  (main_v2, main_v5, main_v8, main_v11, main_v14, main_v17)
-- ==== Pre_tiles.lean ====
abbrev S20480x2048 : Shape := ⟨2, ![20480, 2048]⟩
abbrev S40 : Shape := ⟨1, ![40]⟩
abbrev S2x8x2048x4096 : Shape := ⟨4, ![2, 8, 2048, 4096]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S20480x2048 .f32) (main_arg1 : IVec S40 32) (main_arg2 : IVec S40 32) (main_arg3 : FVec F S2x8x2048x4096 .f32) (main_arg4 : FVec F S2x8x2048x4096 .f32) : IVec S40 1 × IVec S40 1 × IVec S40 1 × IVec S40 1 × IVec S40 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 16#32
  let main_v2 : IVec S40 32 := broadcastInDim S40 ![] bcast_S_S40 main_c_0
  let main_v3 : IVec S40 1 := cmpi .slt main_arg1 main_v2
  let main_c_1 : IVec S_ 32 := constantI S_ 32 0#32
  let main_v4 : IVec S40 32 := broadcastInDim S40 ![] bcast_S_S40 main_c_1
  let main_v5 : IVec S40 1 := cmpi .sge main_arg2 main_v4
  let main_c_2 : IVec S_ 32 := constantI S_ 32 512#32
  let main_v6 : IVec S40 32 := broadcastInDim S40 ![] bcast_S_S40 main_c_2
  let main_v7 : IVec S40 1 := cmpi .sle main_arg2 main_v6
  let main_c_3 : IVec S_ 32 := constantI S_ 32 63#32
  let main_v8 : IVec S40 32 := broadcastInDim S40 ![] bcast_S_S40 main_c_3
  let main_v9 : IVec S40 32 := andi main_arg2 main_v8
  let main_c_4 : IVec S_ 32 := constantI S_ 32 0#32
  let main_v10 : IVec S40 32 := broadcastInDim S40 ![] bcast_S_S40 main_c_4
  let main_v11 : IVec S40 1 := cmpi .eq main_v9 main_v10
  (main_v1, main_v3, main_v5, main_v7, main_v11)
-- ==== Pre_tiles_all.lean ====
abbrev S22528x2048 : Shape := ⟨2, ![22528, 2048]⟩
abbrev S44 : Shape := ⟨1, ![44]⟩
abbrev S2x8x2048x4096 : Shape := ⟨4, ![2, 8, 2048, 4096]⟩
abbrev S_ : Shape := ⟨0, ![]⟩

class Facts : Prop where
  bcast_S_S44 : S_.BroadcastsInDim S44 (![] : Fin 0 → Fin S44.rank)

variable [Facts]

def fn {F : FTy → Type} [FloatOps F] (main_arg0 : FVec F S22528x2048 .f32) (main_arg1 : IVec S44 32) (main_arg2 : IVec S44 32) (main_arg3 : FVec F S2x8x2048x4096 .f32) (main_arg4 : FVec F S2x8x2048x4096 .f32) : IVec S44 1 × IVec S44 1 × IVec S44 1 × IVec S44 1 × IVec S44 1 :=
  let main_c : IVec S_ 32 := constantI S_ 32 0#32
  let main_v0 : IVec S44 32 := broadcastInDim S44 ![] bcast_S_S44 main_c
  let main_v1 : IVec S44 1 := cmpi .sge main_arg1 main_v0
  let main_c_0 : IVec S_ 32 := constantI S_ 32 16#32
  let main_v2 : IVec S44 32 := broadcastInDim S44 ![] bcast_S_S44 main_c_0
  let main_v3 : IVec S44 1 := cmpi .slt main_arg1 main_v2
  let main_c_1 : IVec S_ 32 := constantI S_ 32 0#32
  let main_v4 : IVec S44 32 := broadcastInDim S44 ![] bcast_S_S44 main_c_1
  let main_v5 : IVec S44 1 := cmpi .sge main_arg2 main_v4
  let main_c_2 : IVec S_ 32 := constantI S_ 32 512#32
  let main_v6 : IVec S44 32 := broadcastInDim S44 ![] bcast_S_S44 main_c_2
  let main_v7 : IVec S44 1 := cmpi .sle main_arg2 main_v6
  let main_c_3 : IVec S_ 32 := constantI S_ 32 63#32
  let main_v8 : IVec S44 32 := broadcastInDim S44 ![] bcast_S_S44 main_c_3
  let main_v9 : IVec S44 32 := andi main_arg2 main_v8
  let main_c_4 : IVec S_ 32 := constantI S_ 32 0#32
  let main_v10 : IVec S44 32 := broadcastInDim S44 ![] bcast_S_S44 main_c_4
  let main_v11 : IVec S44 1 := cmpi .eq main_v9 main_v10
  (main_v1, main_v3, main_v5, main_v7, main_v11)
-- ==== Pre_tiles_down.lean ====
abbrev S20480x4096 : Shape := ⟨2, ![20480, 4096]⟩
abbrev S40 : Shape := ⟨1, ![40]⟩
abbrev S2x8x4096x2048 : Shape := ⟨4, ![2, 8, 4096, 2048]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S20480x4096 .bf16) (main_arg1 : IVec S40 32) (main_arg2 : IVec S40 32) (main_arg3 : FVec F S2x8x4096x2048 .f32) : IVec S40 1 × IVec S40 1 × IVec S40 1 × IVec S40 1 × IVec S40 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 16#32
  let main_v2 : IVec S40 32 := broadcastInDim S40 ![] bcast_S_S40 main_c_0
  let main_v3 : IVec S40 1 := cmpi .slt main_arg1 main_v2
  let main_c_1 : IVec S_ 32 := constantI S_ 32 0#32
  let main_v4 : IVec S40 32 := broadcastInDim S40 ![] bcast_S_S40 main_c_1
  let main_v5 : IVec S40 1 := cmpi .sge main_arg2 main_v4
  let main_c_2 : IVec S_ 32 := constantI S_ 32 512#32
  let main_v6 : IVec S40 32 := broadcastInDim S40 ![] bcast_S_S40 main_c_2
  let main_v7 : IVec S40 1 := cmpi .sle main_arg2 main_v6
  let main_c_3 : IVec S_ 32 := constantI S_ 32 63#32
  let main_v8 : IVec S40 32 := broadcastInDim S40 ![] bcast_S_S40 main_c_3
  let main_v9 : IVec S40 32 := andi main_arg2 main_v8
  let main_c_4 : IVec S_ 32 := constantI S_ 32 0#32
  let main_v10 : IVec S40 32 := broadcastInDim S40 ![] bcast_S_S40 main_c_4
  let main_v11 : IVec S40 1 := cmpi .eq main_v9 main_v10
  (main_v1, main_v3, main_v5, main_v7, main_v11)
-- ==== Pre_tiles_down_all.lean ====
abbrev S22528x4096 : Shape := ⟨2, ![22528, 4096]⟩
abbrev S44 : Shape := ⟨1, ![44]⟩
abbrev S2x8x4096x2048 : Shape := ⟨4, ![2, 8, 4096, 2048]⟩
abbrev S_ : Shape := ⟨0, ![]⟩

class Facts : Prop where
  bcast_S_S44 : S_.BroadcastsInDim S44 (![] : Fin 0 → Fin S44.rank)

variable [Facts]

def fn {F : FTy → Type} [FloatOps F] (main_arg0 : FVec F S22528x4096 .bf16) (main_arg1 : IVec S44 32) (main_arg2 : IVec S44 32) (main_arg3 : FVec F S2x8x4096x2048 .f32) : IVec S44 1 × IVec S44 1 × IVec S44 1 × IVec S44 1 × IVec S44 1 :=
  let main_c : IVec S_ 32 := constantI S_ 32 0#32
  let main_v0 : IVec S44 32 := broadcastInDim S44 ![] bcast_S_S44 main_c
  let main_v1 : IVec S44 1 := cmpi .sge main_arg1 main_v0
  let main_c_0 : IVec S_ 32 := constantI S_ 32 16#32
  let main_v2 : IVec S44 32 := broadcastInDim S44 ![] bcast_S_S44 main_c_0
  let main_v3 : IVec S44 1 := cmpi .slt main_arg1 main_v2
  let main_c_1 : IVec S_ 32 := constantI S_ 32 0#32
  let main_v4 : IVec S44 32 := broadcastInDim S44 ![] bcast_S_S44 main_c_1
  let main_v5 : IVec S44 1 := cmpi .sge main_arg2 main_v4
  let main_c_2 : IVec S_ 32 := constantI S_ 32 512#32
  let main_v6 : IVec S44 32 := broadcastInDim S44 ![] bcast_S_S44 main_c_2
  let main_v7 : IVec S44 1 := cmpi .sle main_arg2 main_v6
  let main_c_3 : IVec S_ 32 := constantI S_ 32 63#32
  let main_v8 : IVec S44 32 := broadcastInDim S44 ![] bcast_S_S44 main_c_3
  let main_v9 : IVec S44 32 := andi main_arg2 main_v8
  let main_c_4 : IVec S_ 32 := constantI S_ 32 0#32
  let main_v10 : IVec S44 32 := broadcastInDim S44 ![] bcast_S_S44 main_c_4
  let main_v11 : IVec S44 1 := cmpi .eq main_v9 main_v10
  (main_v1, main_v3, main_v5, main_v7, main_v11)
-- ==== Kernel2.lean ====
abbrev S20480x2048 : Shape := ⟨2, ![20480, 2048]⟩
abbrev S40 : Shape := ⟨1, ![40]⟩
abbrev S2x8x2048x4096 : Shape := ⟨4, ![2, 8, 2048, 4096]⟩
abbrev S16x2048x4096 : Shape := ⟨3, ![16, 2048, 4096]⟩
abbrev S_ : Shape := ⟨0, ![]⟩
abbrev S1 : Shape := ⟨1, ![1]⟩
abbrev S39 : Shape := ⟨1, ![39]⟩
abbrev S40x1 : Shape := ⟨2, ![40, 1]⟩
abbrev S20480x4096 : Shape := ⟨2, ![20480, 4096]⟩
abbrev S512x2048 : Shape := ⟨2, ![512, 2048]⟩
abbrev S512x1024 : Shape := ⟨2, ![512, 1024]⟩
abbrev S2048x1024 : Shape := ⟨2, ![2048, 1024]⟩
abbrev S2 : Shape := ⟨1, ![2]⟩
abbrev S1x2048x1024 : Shape := ⟨3, ![1, 2048, 1024]⟩
abbrev S64x2048 : Shape := ⟨2, ![64, 2048]⟩
abbrev S64x1024 : Shape := ⟨2, ![64, 1024]⟩
abbrev S448x1024 : Shape := ⟨2, ![448, 1024]⟩
abbrev S128x2048 : Shape := ⟨2, ![128, 2048]⟩
abbrev S128x1024 : Shape := ⟨2, ![128, 1024]⟩
abbrev S384x1024 : Shape := ⟨2, ![384, 1024]⟩
abbrev S192x2048 : Shape := ⟨2, ![192, 2048]⟩
abbrev S192x1024 : Shape := ⟨2, ![192, 1024]⟩
abbrev S320x1024 : Shape := ⟨2, ![320, 1024]⟩
abbrev S256x2048 : Shape := ⟨2, ![256, 2048]⟩
abbrev S256x1024 : Shape := ⟨2, ![256, 1024]⟩
abbrev S320x2048 : Shape := ⟨2, ![320, 2048]⟩
abbrev S384x2048 : Shape := ⟨2, ![384, 2048]⟩
abbrev S448x2048 : Shape := ⟨2, ![448, 2048]⟩

abbrev nBuf : Space → Nat
  | .hbm => 31
  | .vmem => 8
  | .smem => 5
  | _ => 0

abbrev bufTy : (tb : Table) → Fin (tcTables nBuf tb) → BufTy
  | .hbm, ⟨0, _⟩ => ⟨S20480x2048, .f32⟩
  | .hbm, ⟨1, _⟩ => ⟨S40, .i32⟩
  | .hbm, ⟨2, _⟩ => ⟨S2x8x2048x4096, .f32⟩
  | .hbm, ⟨3, _⟩ => ⟨S2x8x2048x4096, .f32⟩
  | .hbm, ⟨4, _⟩ => ⟨S16x2048x4096, .f32⟩
  | .hbm, ⟨5, _⟩ => ⟨S16x2048x4096, .f32⟩
  | .hbm, ⟨6, _⟩ => ⟨S_, .i32⟩
  | .hbm, ⟨7, _⟩ => ⟨S1, .i32⟩
  | .hbm, ⟨8, _⟩ => ⟨S39, .i32⟩
  | .hbm, ⟨9, _⟩ => ⟨S39, .i32⟩
  | .hbm, ⟨10, _⟩ => ⟨S39, .i1⟩
  | .hbm, ⟨11, _⟩ => ⟨S39, .i32⟩
  | .hbm, ⟨12, _⟩ => ⟨S_, .i32⟩
  | .hbm, ⟨13, _⟩ => ⟨S_, .i32⟩
  | .hbm, ⟨14, _⟩ => ⟨S40, .i32⟩
  | .hbm, ⟨15, _⟩ => ⟨S_, .i32⟩
  | .hbm, ⟨16, _⟩ => ⟨S40, .i32⟩
  | .hbm, ⟨17, _⟩ => ⟨S_, .i32⟩
  | .hbm, ⟨18, _⟩ => ⟨S40, .i32⟩
  | .hbm, ⟨19, _⟩ => ⟨S_, .i32⟩
  | .hbm, ⟨20, _⟩ => ⟨S40, .i32⟩
  | .hbm, ⟨21, _⟩ => ⟨S40, .i1⟩
  | .hbm, ⟨22, _⟩ => ⟨S_, .i32⟩
  | .hbm, ⟨23, _⟩ => ⟨S40, .i32⟩
  | .hbm, ⟨24, _⟩ => ⟨S40, .i32⟩
  | .hbm, ⟨25, _⟩ => ⟨S40, .i32⟩
  | .hbm, ⟨26, _⟩ => ⟨S40x1, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S20480x4096, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .bf16⟩
  | .local _ .vmem, ⟨7, _⟩ => ⟨S2048x1024, .bf16⟩
  | .local _ .smem, ⟨0, _⟩ => ⟨S40, .i32⟩
  | .local _ .smem, ⟨1, _⟩ => ⟨S40, .i32⟩
  | .local _ .smem, ⟨2, _⟩ => ⟨S40, .i32⟩
  | .local _ .smem, ⟨3, _⟩ => ⟨S40, .i32⟩
  | .local _ .smem, ⟨4, _⟩ => ⟨S1, .i32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v22 : Ref sig .tc := ⟨.hbm, 30, rfl⟩
abbrev main_arg2 : Ref sig .tc := ⟨.smem, 0, rfl⟩
abbrev main_v7 : Ref sig .tc := ⟨.smem, 1, rfl⟩
abbrev main_v10 : Ref sig .tc := ⟨.smem, 2, rfl⟩
abbrev main_v18 : Ref sig .tc := ⟨.smem, 3, rfl⟩
abbrev main_v21 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 40], ![false, false]⟩

abbrev pre0 : Pipeline.Prefetch sig := ⟨5, ![main_arg2.idx, main_v7.idx, main_v10.idx, main_v18.idx, main_v21.idx], fun | 0 => main_arg2.names | 1 => main_v7.names | 2 => main_v10.names | 3 => main_v18.names | 4 => main_v21.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 : BitVec 32 :=
  let c0_i32_32 : BitVec 32 := 0#32
  c0_i32_32
def k0_off2 (v76 : BitVec 32) : Fin 3 → Nat :=
  let c0_i32_34 : BitVec 32 := 0#32
  let c0_i32_32 : BitVec 32 := 0#32
  let v77 : BitVec 32 := c0_i32_32
  ![v76.toNat, 0, 0]
def k0_cond1 (v4 : BitVec 32) : BitVec 1 :=
  let c1_i32 : BitVec 32 := 1#32
  let v5 : BitVec 1 := Scalar.cmpi .eq v4 c1_i32
  let v6 : BitVec 32 := Scalar.extui v5
  let c0_i32 : BitVec 32 := 0#32
  let v7 : BitVec 1 := Scalar.cmpi .ne v6 c0_i32
  v7

def k0_cond2 (i : grid0.Coords) (v1 : BitVec 32) : BitVec 1 :=
  let arg0 : BitVec 32 := BitVec.ofNat 32 (i 0).val
  let c0_i32_10 : BitVec 32 := 0#32
  let v37 : BitVec 1 := Scalar.cmpi .eq arg0 c0_i32_10
  let c0_i32_11 : BitVec 32 := 0#32
  let v38 : BitVec 1 := Scalar.cmpi .eq v1 c0_i32_11
  let v39 : BitVec 1 := Scalar.andi v37 v38
  let v40 : BitVec 32 := Scalar.extui v39
  let c0_i32_12 : BitVec 32 := 0#32
  let v41 : BitVec 1 := Scalar.cmpi .ne v40 c0_i32_12
  v41

def k0_chk1 (i : grid0.Coords) (v1 : BitVec 32) (v4 : BitVec 32) (v76 : BitVec 32) : Prop :=
  (∀ (k0_h1 : k0_cond1 v4 = 1#1), ∀ (k0_h2 : k0_cond2 i v1 = 1#1), ∀ a, (k0_off2 v76) a + S1x2048x1024.size a ≤ S16x2048x4096.size a)
theorem k0_off2_inb : ∀ (i : grid0.Coords) (v1 : BitVec 32) (v4 : BitVec 32) (v76 : BitVec 32) (k0_hw1 : k0_chk1 i v1 v4 v76), ∀ (k0_h1 : k0_cond1 v4 = 1#1), ∀ (k0_h2 : k0_cond2 i v1 = 1#1), ∀ a, (k0_off2 v76) a + S1x2048x1024.size a ≤ S16x2048x4096.size a := fun i v1 v4 v76 k0_hw1 k0_h1 k0_h2 => k0_hw1 k0_h1 k0_h2

def k0_off3 (v1 : BitVec 32) : Fin 1 → Nat :=
  let v42 : Index := Scalar.indexCast v1
  ![v42.toNat]

def k0_mult2 (i : grid0.Coords) : BitVec 32 :=
  let arg0 : BitVec 32 := BitVec.ofNat 32 (i 0).val
  let c0_i32_13 : BitVec 32 := 0#32
  let v44 : BitVec 32 := Scalar.addi arg0 c0_i32_13
  let c1024_i32 : BitVec 32 := 1024#32
  let v45 : BitVec 32 := Scalar.muli v44 c1024_i32
  v45
def k0_off4 (i : grid0.Coords) (v43 : BitVec 32) : Fin 3 → Nat :=
  let c0_i32_15 : BitVec 32 := 0#32
  let arg0 : BitVec 32 := BitVec.ofNat 32 (i 0).val
  let c0_i32_13 : BitVec 32 := 0#32
  let v44 : BitVec 32 := Scalar.addi arg0 c0_i32_13
  let c1024_i32 : BitVec 32 := 1024#32
  let v45 : BitVec 32 := Scalar.muli v44 c1024_i32
  let v46 : BitVec 32 := v45
  ![v43.toNat, 0, v46.toNat]

def k0_chk3 (i : grid0.Coords) (v4 : BitVec 32) (v43 : BitVec 32) : Prop :=
  (∀ (k0_h1 : k0_cond1 v4 = 1#1), ∀ a, (k0_off4 i v43) a + S1x2048x1024.size a ≤ S16x2048x4096.size a)
theorem k0_off4_inb : ∀ (i : grid0.Coords) (v4 : BitVec 32) (v43 : BitVec 32) (k0_hw3 : k0_chk3 i v4 v43), ∀ (k0_h1 : k0_cond1 v4 = 1#1), ∀ a, (k0_off4 i v43) a + S1x2048x1024.size a ≤ S16x2048x4096.size a := fun i v4 v43 k0_hw3 k0_h1 => k0_hw3 k0_h1

def k0_off5 (v1 : BitVec 32) (v2 : BitVec 32) : Fin 1 → Nat :=
  let c1_i32_26 : BitVec 32 := 1#32
  let v65 : BitVec 32 := Scalar.addi v1 c1_i32_26
  let v66 : BitVec 1 := Scalar.cmpi .sge v65 v2
  let c0_i32_28 : BitVec 32 := 0#32
  let c1_i32_27 : BitVec 32 := 1#32
  let v67 : BitVec 32 := Scalar.addi v1 c1_i32_27
  let v68 : BitVec 32 := Scalar.select v66 c0_i32_28 v67
  let v69 : Index := Scalar.indexCast v68
  ![v69.toNat]
def k0_mult3 (i : grid0.Coords) (v1 : BitVec 32) (v2 : BitVec 32) : BitVec 32 :=
  let c1_i32_26 : BitVec 32 := 1#32
  let v65 : BitVec 32 := Scalar.addi v1 c1_i32_26
  let v66 : BitVec 1 := Scalar.cmpi .sge v65 v2
  let arg0 : BitVec 32 := BitVec.ofNat 32 (i 0).val
  let c1_i32_29 : BitVec 32 := 1#32
  let v71 : BitVec 32 := Scalar.addi arg0 c1_i32_29
  let v72 : BitVec 32 := Scalar.select v66 v71 arg0
  let c0_i32_31 : BitVec 32 := 0#32
  let v76 : BitVec 32 := Scalar.addi v72 c0_i32_31
  let c1024_i32_32 : BitVec 32 := 1024#32
  let v77 : BitVec 32 := Scalar.muli v76 c1024_i32_32
  v77
def k0_cond3 (i : grid0.Coords) (v1 : BitVec 32) (v2 : BitVec 32) : BitVec 1 :=
  let c1_i32_26 : BitVec 32 := 1#32
  let v65 : BitVec 32 := Scalar.addi v1 c1_i32_26
  let v66 : BitVec 1 := Scalar.cmpi .sge v65 v2
  let arg0 : BitVec 32 := BitVec.ofNat 32 (i 0).val
  let c1_i32_29 : BitVec 32 := 1#32
  let v71 : BitVec 32 := Scalar.addi arg0 c1_i32_29
  let v72 : BitVec 32 := Scalar.select v66 v71 arg0
  let c4_i32 : BitVec 32 := 4#32
  let v73 : BitVec 1 := Scalar.cmpi .slt v72 c4_i32
  let v74 : BitVec 32 := Scalar.extui v73
  let c0_i32_30 : BitVec 32 := 0#32
  let v75 : BitVec 1 := Scalar.cmpi .ne v74 c0_i32_30
  v75

def k0_chk2 (i : grid0.Coords) (v1 : BitVec 32) (v2 : BitVec 32) (v4 : BitVec 32) : Prop :=
  (∀ (k0_h1 : k0_cond1 v4 = 1#1), ∀ a, (k0_off3 v1) a + S1.size a ≤ S40.size a) ∧
  (∀ (k0_h1 : k0_cond1 v4 = 1#1), ∀ a, (k0_off5 v1 v2) a + S1.size a ≤ S40.size a) ∧
  (∀ (k0_h1 : k0_cond1 v4 = 1#1), ∀ (k0_h3 : k0_cond3 i v1 v2 = 1#1), 1024 ∣ (k0_mult3 i v1 v2).toNat)
theorem k0_off3_inb : ∀ (i : grid0.Coords) (v1 : BitVec 32) (v2 : BitVec 32) (v4 : BitVec 32) (k0_hw2 : k0_chk2 i v1 v2 v4), ∀ (k0_h1 : k0_cond1 v4 = 1#1), ∀ a, (k0_off3 v1) a + S1.size a ≤ S40.size a := fun i v1 v2 v4 k0_hw2 k0_h1 => k0_hw2.1 k0_h1
theorem k0_off5_inb : ∀ (i : grid0.Coords) (v1 : BitVec 32) (v2 : BitVec 32) (v4 : BitVec 32) (k0_hw2 : k0_chk2 i v1 v2 v4), ∀ (k0_h1 : k0_cond1 v4 = 1#1), ∀ a, (k0_off5 v1 v2) a + S1.size a ≤ S40.size a := fun i v1 v2 v4 k0_hw2 k0_h1 => k0_hw2.2.1 k0_h1
theorem k0_mult3_dvd : ∀ (i : grid0.Coords) (v1 : BitVec 32) (v2 : BitVec 32) (v4 : BitVec 32) (k0_hw2 : k0_chk2 i v1 v2 v4), ∀ (k0_h1 : k0_cond1 v4 = 1#1), ∀ (k0_h3 : k0_cond3 i v1 v2 = 1#1), 1024 ∣ (k0_mult3 i v1 v2).toNat := fun i v1 v2 v4 k0_hw2 k0_h1 k0_h3 => k0_hw2.2.2 k0_h1 k0_h3

def k0_off6 (i : grid0.Coords) (v1 : BitVec 32) (v2 : BitVec 32) (v70 : BitVec 32) : Fin 3 → Nat :=
  let c0_i32_34 : BitVec 32 := 0#32
  let c1_i32_26 : BitVec 32 := 1#32
  let v65 : BitVec 32 := Scalar.addi v1 c1_i32_26
  let v66 : BitVec 1 := Scalar.cmpi .sge v65 v2
  let arg0 : BitVec 32 := BitVec.ofNat 32 (i 0).val
  let c1_i32_29 : BitVec 32 := 1#32
  let v71 : BitVec 32 := Scalar.addi arg0 c1_i32_29
  let v72 : BitVec 32 := Scalar.select v66 v71 arg0
  let c0_i32_31 : BitVec 32 := 0#32
  let v76 : BitVec 32 := Scalar.addi v72 c0_i32_31
  let c1024_i32_32 : BitVec 32 := 1024#32
  let v77 : BitVec 32 := Scalar.muli v76 c1024_i32_32
  let v78 : BitVec 32 := v77
  ![v70.toNat, 0, v78.toNat]

def k0_chk4 (i : grid0.Coords) (v1 : BitVec 32) (v2 : BitVec 32) (v4 : BitVec 32) (v70 : BitVec 32) : Prop :=
  (∀ (k0_h1 : k0_cond1 v4 = 1#1), ∀ (k0_h3 : k0_cond3 i v1 v2 = 1#1), ∀ a, (k0_off6 i v1 v2 v70) a + S1x2048x1024.size a ≤ S16x2048x4096.size a)
theorem k0_off6_inb : ∀ (i : grid0.Coords) (v1 : BitVec 32) (v2 : BitVec 32) (v4 : BitVec 32) (v70 : BitVec 32) (k0_hw4 : k0_chk4 i v1 v2 v4 v70), ∀ (k0_h1 : k0_cond1 v4 = 1#1), ∀ (k0_h3 : k0_cond3 i v1 v2 = 1#1), ∀ a, (k0_off6 i v1 v2 v70) a + S1x2048x1024.size a ≤ S16x2048x4096.size a := fun i v1 v2 v4 v70 k0_hw4 k0_h1 k0_h3 => k0_hw4 k0_h1 k0_h3

def k0_off7 (i : grid0.Coords) : Fin 1 → Nat :=
  let arg1 : BitVec 32 := BitVec.ofNat 32 (i 1).val
  let v8 : Index := Scalar.indexCast arg1
  ![v8.toNat]
def k0_cond4 (v9 : BitVec 32) : BitVec 1 :=
  let c64_i32 : BitVec 32 := 64#32
  let v10 : BitVec 1 := Scalar.cmpi .eq v9 c64_i32
  let v11 : BitVec 32 := Scalar.extui v10
  let c0_i32_0 : BitVec 32 := 0#32
  let v12 : BitVec 1 := Scalar.cmpi .ne v11 c0_i32_0
  v12

def k0_cond5 (v9 : BitVec 32) : BitVec 1 :=
  let c128_i32 : BitVec 32 := 128#32
  let v13 : BitVec 1 := Scalar.cmpi .eq v9 c128_i32
  let v14 : BitVec 32 := Scalar.extui v13
  let c0_i32_1 : BitVec 32 := 0#32
  let v15 : BitVec 1 := Scalar.cmpi .ne v14 c0_i32_1
  v15

def k0_cond6 (v9 : BitVec 32) : BitVec 1 :=
  let c192_i32 : BitVec 32 := 192#32
  let v16 : BitVec 1 := Scalar.cmpi .eq v9 c192_i32
  let v17 : BitVec 32 := Scalar.extui v16
  let c0_i32_2 : BitVec 32 := 0#32
  let v18 : BitVec 1 := Scalar.cmpi .ne v17 c0_i32_2
  v18

def k0_cond7 (v9 : BitVec 32) : BitVec 1 :=
  let c256_i32 : BitVec 32 := 256#32
  let v19 : BitVec 1 := Scalar.cmpi .eq v9 c256_i32
  let v20 : BitVec 32 := Scalar.extui v19
  let c0_i32_3 : BitVec 32 := 0#32
  let v21 : BitVec 1 := Scalar.cmpi .ne v20 c0_i32_3
  v21

def k0_cond8 (v9 : BitVec 32) : BitVec 1 :=
  let c320_i32 : BitVec 32 := 320#32
  let v22 : BitVec 1 := Scalar.cmpi .eq v9 c320_i32
  let v23 : BitVec 32 := Scalar.extui v22
  let c0_i32_4 : BitVec 32 := 0#32
  let v24 : BitVec 1 := Scalar.cmpi .ne v23 c0_i32_4
  v24

def k0_cond9 (v9 : BitVec 32) : BitVec 1 :=
  let c384_i32 : BitVec 32 := 384#32
  let v25 : BitVec 1 := Scalar.cmpi .eq v9 c384_i32
  let v26 : BitVec 32 := Scalar.extui v25
  let c0_i32_5 : BitVec 32 := 0#32
  let v27 : BitVec 1 := Scalar.cmpi .ne v26 c0_i32_5
  v27

def k0_cond10 (v9 : BitVec 32) : BitVec 1 :=
  let c448_i32 : BitVec 32 := 448#32
  let v28 : BitVec 1 := Scalar.cmpi .eq v9 c448_i32
  let v29 : BitVec 32 := Scalar.extui v28
  let c0_i32_6 : BitVec 32 := 0#32
  let v30 : BitVec 1 := Scalar.cmpi .ne v29 c0_i32_6
  v30

def k0_cond11 (v9 : BitVec 32) : BitVec 1 :=
  let c512_i32 : BitVec 32 := 512#32
  let v31 : BitVec 1 := Scalar.cmpi .eq v9 c512_i32
  let v32 : BitVec 32 := Scalar.extui v31
  let c0_i32_7 : BitVec 32 := 0#32
  let v33 : BitVec 1 := Scalar.cmpi .ne v32 c0_i32_7
  v33

def k0_cond12 (v9 : BitVec 32) : BitVec 1 :=
  let c0_i32_8 : BitVec 32 := 0#32
  let v34 : BitVec 1 := Scalar.cmpi .eq v9 c0_i32_8
  let v35 : BitVec 32 := Scalar.extui v34
  let c0_i32_9 : BitVec 32 := 0#32
  let v36 : BitVec 1 := Scalar.cmpi .ne v35 c0_i32_9
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Kernel2Ideal.lean ====
abbrev S20480x2048 : Shape := ⟨2, ![20480, 2048]⟩
abbrev S40 : Shape := ⟨1, ![40]⟩
abbrev S2x8x2048x4096 : Shape := ⟨4, ![2, 8, 2048, 4096]⟩
abbrev S16x2048x4096 : Shape := ⟨3, ![16, 2048, 4096]⟩
abbrev S_ : Shape := ⟨0, ![]⟩
abbrev S1 : Shape := ⟨1, ![1]⟩
abbrev S39 : Shape := ⟨1, ![39]⟩
abbrev S40x1 : Shape := ⟨2, ![40, 1]⟩
abbrev S20480x4096 : Shape := ⟨2, ![20480, 4096]⟩
abbrev S512x2048 : Shape := ⟨2, ![512, 2048]⟩
abbrev S512x1024 : Shape := ⟨2, ![512, 1024]⟩
abbrev S2048x1024 : Shape := ⟨2, ![2048, 1024]⟩
abbrev S2 : Shape := ⟨1, ![2]⟩
abbrev S1x2048x1024 : Shape := ⟨3, ![1, 2048, 1024]⟩
abbrev S64x2048 : Shape := ⟨2, ![64, 2048]⟩
abbrev S64x1024 : Shape := ⟨2, ![64, 1024]⟩
abbrev S448x1024 : Shape := ⟨2, ![448, 1024]⟩
abbrev S128x2048 : Shape := ⟨2, ![128, 2048]⟩
abbrev S128x1024 : Shape := ⟨2, ![128, 1024]⟩
abbrev S384x1024 : Shape := ⟨2, ![384, 1024]⟩
abbrev S192x2048 : Shape := ⟨2, ![192, 2048]⟩
abbrev S192x1024 : Shape := ⟨2, ![192, 1024]⟩
abbrev S320x1024 : Shape := ⟨2, ![320, 1024]⟩
abbrev S256x2048 : Shape := ⟨2, ![256, 2048]⟩
abbrev S256x1024 : Shape := ⟨2, ![256, 1024]⟩
abbrev S320x2048 : Shape := ⟨2, ![320, 2048]⟩
abbrev S384x2048 : Shape := ⟨2, ![384, 2048]⟩
abbrev S448x2048 : Shape := ⟨2, ![448, 2048]⟩

abbrev nBuf : Space → Nat
  | .hbm => 31
  | .vmem => 8
  | .smem => 5
  | _ => 0

abbrev bufTy : (tb : Table) → Fin (tcTables nBuf tb) → BufTy
  | .hbm, ⟨0, _⟩ => ⟨S20480x2048, .f32⟩
  | .hbm, ⟨1, _⟩ => ⟨S40, .i32⟩
  | .hbm, ⟨2, _⟩ => ⟨S2x8x2048x4096, .f32⟩
  | .hbm, ⟨3, _⟩ => ⟨S2x8x2048x4096, .f32⟩
  | .hbm, ⟨4, _⟩ => ⟨S16x2048x4096, .f32⟩
  | .hbm, ⟨5, _⟩ => ⟨S16x2048x4096, .f32⟩
  | .hbm, ⟨6, _⟩ => ⟨S_, .i32⟩
  | .hbm, ⟨7, _⟩ => ⟨S1, .i32⟩
  | .hbm, ⟨8, _⟩ => ⟨S39, .i32⟩
  | .hbm, ⟨9, _⟩ => ⟨S39, .i32⟩
  | .hbm, ⟨10, _⟩ => ⟨S39, .i1⟩
  | .hbm, ⟨11, _⟩ => ⟨S39, .i32⟩
  | .hbm, ⟨12, _⟩ => ⟨S_, .i32⟩
  | .hbm, ⟨13, _⟩ => ⟨S_, .i32⟩
  | .hbm, ⟨14, _⟩ => ⟨S40, .i32⟩
  | .hbm, ⟨15, _⟩ => ⟨S_, .i32⟩
  | .hbm, ⟨16, _⟩ => ⟨S40, .i32⟩
  | .hbm, ⟨17, _⟩ => ⟨S_, .i32⟩
  | .hbm, ⟨18, _⟩ => ⟨S40, .i32⟩
  | .hbm, ⟨19, _⟩ => ⟨S_, .i32⟩
  | .hbm, ⟨20, _⟩ => ⟨S40, .i32⟩
  | .hbm, ⟨21, _⟩ => ⟨S40, .i1⟩
  | .hbm, ⟨22, _⟩ => ⟨S_, .i32⟩
  | .hbm, ⟨23, _⟩ => ⟨S40, .i32⟩
  | .hbm, ⟨24, _⟩ => ⟨S40, .i32⟩
  | .hbm, ⟨25, _⟩ => ⟨S40, .i32⟩
  | .hbm, ⟨26, _⟩ => ⟨S40x1, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S20480x4096, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .bf16⟩
  | .local _ .vmem, ⟨7, _⟩ => ⟨S2048x1024, .bf16⟩
  | .local _ .smem, ⟨0, _⟩ => ⟨S40, .i32⟩
  | .local _ .smem, ⟨1, _⟩ => ⟨S40, .i32⟩
  | .local _ .smem, ⟨2, _⟩ => ⟨S40, .i32⟩
  | .local _ .smem, ⟨3, _⟩ => ⟨S40, .i32⟩
  | .local _ .smem, ⟨4, _⟩ => ⟨S1, .i32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v22 : Ref sig .tc := ⟨.hbm, 30, rfl⟩
abbrev main_arg2 : Ref sig .tc := ⟨.smem, 0, rfl⟩
abbrev main_v7 : Ref sig .tc := ⟨.smem, 1, rfl⟩
abbrev main_v10 : Ref sig .tc := ⟨.smem, 2, rfl⟩
abbrev main_v18 : Ref sig .tc := ⟨.smem, 3, rfl⟩
abbrev main_v21 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 40], ![false, false]⟩

abbrev pre0 : Pipeline.Prefetch sig := ⟨5, ![main_arg2.idx, main_v7.idx, main_v10.idx, main_v18.idx, main_v21.idx], fun | 0 => main_arg2.names | 1 => main_v7.names | 2 => main_v10.names | 3 => main_v18.names | 4 => main_v21.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 : BitVec 32 :=
  let c0_i32_32 : BitVec 32 := 0#32
  c0_i32_32
def k0_off2 (v76 : BitVec 32) : Fin 3 → Nat :=
  let c0_i32_34 : BitVec 32 := 0#32
  let c0_i32_32 : BitVec 32 := 0#32
  let v77 : BitVec 32 := c0_i32_32
  ![v76.toNat, 0, 0]
def k0_cond1 (v4 : BitVec 32) : BitVec 1 :=
  let c1_i32 : BitVec 32 := 1#32
  let v5 : BitVec 1 := Scalar.cmpi .eq v4 c1_i32
  let v6 : BitVec 32 := Scalar.extui v5
  let c0_i32 : BitVec 32 := 0#32
  let v7 : BitVec 1 := Scalar.cmpi .ne v6 c0_i32
  v7

def k0_cond2 (i : grid0.Coords) (v1 : BitVec 32) : BitVec 1 :=
  let arg0 : BitVec 32 := BitVec.ofNat 32 (i 0).val
  let c0_i32_10 : BitVec 32 := 0#32
  let v37 : BitVec 1 := Scalar.cmpi .eq arg0 c0_i32_10
  let c0_i32_11 : BitVec 32 := 0#32
  let v38 : BitVec 1 := Scalar.cmpi .eq v1 c0_i32_11
  let v39 : BitVec 1 := Scalar.andi v37 v38
  let v40 : BitVec 32 := Scalar.extui v39
  let c0_i32_12 : BitVec 32 := 0#32
  let v41 : BitVec 1 := Scalar.cmpi .ne v40 c0_i32_12
  v41

def k0_chk1 (i : grid0.Coords) (v1 : BitVec 32) (v4 : BitVec 32) (v76 : BitVec 32) : Prop :=
  (∀ (k0_h1 : k0_cond1 v4 = 1#1), ∀ (k0_h2 : k0_cond2 i v1 = 1#1), ∀ a, (k0_off2 v76) a + S1x2048x1024.size a ≤ S16x2048x4096.size a)
theorem k0_off2_inb : ∀ (i : grid0.Coords) (v1 : BitVec 32) (v4 : BitVec 32) (v76 : BitVec 32) (k0_hw1 : k0_chk1 i v1 v4 v76), ∀ (k0_h1 : k0_cond1 v4 = 1#1), ∀ (k0_h2 : k0_cond2 i v1 = 1#1), ∀ a, (k0_off2 v76) a + S1x2048x1024.size a ≤ S16x2048x4096.size a := fun i v1 v4 v76 k0_hw1 k0_h1 k0_h2 => k0_hw1 k0_h1 k0_h2

def k0_off3 (v1 : BitVec 32) : Fin 1 → Nat :=
  let v42 : Index := Scalar.indexCast v1
  ![v42.toNat]

def k0_mult2 (i : grid0.Coords) : BitVec 32 :=
  let arg0 : BitVec 32 := BitVec.ofNat 32 (i 0).val
  let c0_i32_13 : BitVec 32 := 0#32
  let v44 : BitVec 32 := Scalar.addi arg0 c0_i32_13
  let c1024_i32 : BitVec 32 := 1024#32
  let v45 : BitVec 32 := Scalar.muli v44 c1024_i32
  v45
def k0_off4 (i : grid0.Coords) (v43 : BitVec 32) : Fin 3 → Nat :=
  let c0_i32_15 : BitVec 32 := 0#32
  let arg0 : BitVec 32 := BitVec.ofNat 32 (i 0).val
  let c0_i32_13 : BitVec 32 := 0#32
  let v44 : BitVec 32 := Scalar.addi arg0 c0_i32_13
  let c1024_i32 : BitVec 32 := 1024#32
  let v45 : BitVec 32 := Scalar.muli v44 c1024_i32
  let v46 : BitVec 32 := v45
  ![v43.toNat, 0, v46.toNat]

def k0_chk3 (i : grid0.Coords) (v4 : BitVec 32) (v43 : BitVec 32) : Prop :=
  (∀ (k0_h1 : k0_cond1 v4 = 1#1), ∀ a, (k0_off4 i v43) a + S1x2048x1024.size a ≤ S16x2048x4096.size a)
theorem k0_off4_inb : ∀ (i : grid0.Coords) (v4 : BitVec 32) (v43 : BitVec 32) (k0_hw3 : k0_chk3 i v4 v43), ∀ (k0_h1 : k0_cond1 v4 = 1#1), ∀ a, (k0_off4 i v43) a + S1x2048x1024.size a ≤ S16x2048x4096.size a := fun i v4 v43 k0_hw3 k0_h1 => k0_hw3 k0_h1

def k0_off5 (v1 : BitVec 32) (v2 : BitVec 32) : Fin 1 → Nat :=
  let c1_i32_26 : BitVec 32 := 1#32
  let v65 : BitVec 32 := Scalar.addi v1 c1_i32_26
  let v66 : BitVec 1 := Scalar.cmpi .sge v65 v2
  let c0_i32_28 : BitVec 32 := 0#32
  let c1_i32_27 : BitVec 32 := 1#32
  let v67 : BitVec 32 := Scalar.addi v1 c1_i32_27
  let v68 : BitVec 32 := Scalar.select v66 c0_i32_28 v67
  let v69 : Index := Scalar.indexCast v68
  ![v69.toNat]
def k0_mult3 (i : grid0.Coords) (v1 : BitVec 32) (v2 : BitVec 32) : BitVec 32 :=
  let c1_i32_26 : BitVec 32 := 1#32
  let v65 : BitVec 32 := Scalar.addi v1 c1_i32_26
  let v66 : BitVec 1 := Scalar.cmpi .sge v65 v2
  let arg0 : BitVec 32 := BitVec.ofNat 32 (i 0).val
  let c1_i32_29 : BitVec 32 := 1#32
  let v71 : BitVec 32 := Scalar.addi arg0 c1_i32_29
  let v72 : BitVec 32 := Scalar.select v66 v71 arg0
  let c0_i32_31 : BitVec 32 := 0#32
  let v76 : BitVec 32 := Scalar.addi v72 c0_i32_31
  let c1024_i32_32 : BitVec 32 := 1024#32
  let v77 : BitVec 32 := Scalar.muli v76 c1024_i32_32
  v77
def k0_cond3 (i : grid0.Coords) (v1 : BitVec 32) (v2 : BitVec 32) : BitVec 1 :=
  let c1_i32_26 : BitVec 32 := 1#32
  let v65 : BitVec 32 := Scalar.addi v1 c1_i32_26
  let v66 : BitVec 1 := Scalar.cmpi .sge v65 v2
  let arg0 : BitVec 32 := BitVec.ofNat 32 (i 0).val
  let c1_i32_29 : BitVec 32 := 1#32
  let v71 : BitVec 32 := Scalar.addi arg0 c1_i32_29
  let v72 : BitVec 32 := Scalar.select v66 v71 arg0
  let c4_i32 : BitVec 32 := 4#32
  let v73 : BitVec 1 := Scalar.cmpi .slt v72 c4_i32
  let v74 : BitVec 32 := Scalar.extui v73
  let c0_i32_30 : BitVec 32 := 0#32
  let v75 : BitVec 1 := Scalar.cmpi .ne v74 c0_i32_30
  v75

def k0_chk2 (i : grid0.Coords) (v1 : BitVec 32) (v2 : BitVec 32) (v4 : BitVec 32) : Prop :=
  (∀ (k0_h1 : k0_cond1 v4 = 1#1), ∀ a, (k0_off3 v1) a + S1.size a ≤ S40.size a) ∧
  (∀ (k0_h1 : k0_cond1 v4 = 1#1), ∀ a, (k0_off5 v1 v2) a + S1.size a ≤ S40.size a) ∧
  (∀ (k0_h1 : k0_cond1 v4 = 1#1), ∀ (k0_h3 : k0_cond3 i v1 v2 = 1#1), 1024 ∣ (k0_mult3 i v1 v2).toNat)
theorem k0_off3_inb : ∀ (i : grid0.Coords) (v1 : BitVec 32) (v2 : BitVec 32) (v4 : BitVec 32) (k0_hw2 : k0_chk2 i v1 v2 v4), ∀ (k0_h1 : k0_cond1 v4 = 1#1), ∀ a, (k0_off3 v1) a + S1.size a ≤ S40.size a := fun i v1 v2 v4 k0_hw2 k0_h1 => k0_hw2.1 k0_h1
theorem k0_off5_inb : ∀ (i : grid0.Coords) (v1 : BitVec 32) (v2 : BitVec 32) (v4 : BitVec 32) (k0_hw2 : k0_chk2 i v1 v2 v4), ∀ (k0_h1 : k0_cond1 v4 = 1#1), ∀ a, (k0_off5 v1 v2) a + S1.size a ≤ S40.size a := fun i v1 v2 v4 k0_hw2 k0_h1 => k0_hw2.2.1 k0_h1
theorem k0_mult3_dvd : ∀ (i : grid0.Coords) (v1 : BitVec 32) (v2 : BitVec 32) (v4 : BitVec 32) (k0_hw2 : k0_chk2 i v1 v2 v4), ∀ (k0_h1 : k0_cond1 v4 = 1#1), ∀ (k0_h3 : k0_cond3 i v1 v2 = 1#1), 1024 ∣ (k0_mult3 i v1 v2).toNat := fun i v1 v2 v4 k0_hw2 k0_h1 k0_h3 => k0_hw2.2.2 k0_h1 k0_h3

def k0_off6 (i : grid0.Coords) (v1 : BitVec 32) (v2 : BitVec 32) (v70 : BitVec 32) : Fin 3 → Nat :=
  let c0_i32_34 : BitVec 32 := 0#32
  let c1_i32_26 : BitVec 32 := 1#32
  let v65 : BitVec 32 := Scalar.addi v1 c1_i32_26
  let v66 : BitVec 1 := Scalar.cmpi .sge v65 v2
  let arg0 : BitVec 32 := BitVec.ofNat 32 (i 0).val
  let c1_i32_29 : BitVec 32 := 1#32
  let v71 : BitVec 32 := Scalar.addi arg0 c1_i32_29
  let v72 : BitVec 32 := Scalar.select v66 v71 arg0
  let c0_i32_31 : BitVec 32 := 0#32
  let v76 : BitVec 32 := Scalar.addi v72 c0_i32_31
  let c1024_i32_32 : BitVec 32 := 1024#32
  let v77 : BitVec 32 := Scalar.muli v76 c1024_i32_32
  let v78 : BitVec 32 := v77
  ![v70.toNat, 0, v78.toNat]

def k0_chk4 (i : grid0.Coords) (v1 : BitVec 32) (v2 : BitVec 32) (v4 : BitVec 32) (v70 : BitVec 32) : Prop :=
  (∀ (k0_h1 : k0_cond1 v4 = 1#1), ∀ (k0_h3 : k0_cond3 i v1 v2 = 1#1), ∀ a, (k0_off6 i v1 v2 v70) a + S1x2048x1024.size a ≤ S16x2048x4096.size a)
theorem k0_off6_inb : ∀ (i : grid0.Coords) (v1 : BitVec 32) (v2 : BitVec 32) (v4 : BitVec 32) (v70 : BitVec 32) (k0_hw4 : k0_chk4 i v1 v2 v4 v70), ∀ (k0_h1 : k0_cond1 v4 = 1#1), ∀ (k0_h3 : k0_cond3 i v1 v2 = 1#1), ∀ a, (k0_off6 i v1 v2 v70) a + S1x2048x1024.size a ≤ S16x2048x4096.size a := fun i v1 v2 v4 v70 k0_hw4 k0_h1 k0_h3 => k0_hw4 k0_h1 k0_h3

def k0_off7 (i : grid0.Coords) : Fin 1 → Nat :=
  let arg1 : BitVec 32 := BitVec.ofNat 32 (i 1).val
  let v8 : Index := Scalar.indexCast arg1
  ![v8.toNat]
def k0_cond4 (v9 : BitVec 32) : BitVec 1 :=
  let c64_i32 : BitVec 32 := 64#32
  let v10 : BitVec 1 := Scalar.cmpi .eq v9 c64_i32
  let v11 : BitVec 32 := Scalar.extui v10
  let c0_i32_0 : BitVec 32 := 0#32
  let v12 : BitVec 1 := Scalar.cmpi .ne v11 c0_i32_0
  v12

def k0_cond5 (v9 : BitVec 32) : BitVec 1 :=
  let c128_i32 : BitVec 32 := 128#32
  let v13 : BitVec 1 := Scalar.cmpi .eq v9 c128_i32
  let v14 : BitVec 32 := Scalar.extui v13
  let c0_i32_1 : BitVec 32 := 0#32
  let v15 : BitVec 1 := Scalar.cmpi .ne v14 c0_i32_1
  v15

def k0_cond6 (v9 : BitVec 32) : BitVec 1 :=
  let c192_i32 : BitVec 32 := 192#32
  let v16 : BitVec 1 := Scalar.cmpi .eq v9 c192_i32
  let v17 : BitVec 32 := Scalar.extui v16
  let c0_i32_2 : BitVec 32 := 0#32
  let v18 : BitVec 1 := Scalar.cmpi .ne v17 c0_i32_2
  v18

def k0_cond7 (v9 : BitVec 32) : BitVec 1 :=
  let c256_i32 : BitVec 32 := 256#32
  let v19 : BitVec 1 := Scalar.cmpi .eq v9 c256_i32
  let v20 : BitVec 32 := Scalar.extui v19
  let c0_i32_3 : BitVec 32 := 0#32
  let v21 : BitVec 1 := Scalar.cmpi .ne v20 c0_i32_3
  v21

def k0_cond8 (v9 : BitVec 32) : BitVec 1 :=
  let c320_i32 : BitVec 32 := 320#32
  let v22 : BitVec 1 := Scalar.cmpi .eq v9 c320_i32
  let v23 : BitVec 32 := Scalar.extui v22
  let c0_i32_4 : BitVec 32 := 0#32
  let v24 : BitVec 1 := Scalar.cmpi .ne v23 c0_i32_4
  v24

def k0_cond9 (v9 : BitVec 32) : BitVec 1 :=
  let c384_i32 : BitVec 32 := 384#32
  let v25 : BitVec 1 := Scalar.cmpi .eq v9 c384_i32
  let v26 : BitVec 32 := Scalar.extui v25
  let c0_i32_5 : BitVec 32 := 0#32
  let v27 : BitVec 1 := Scalar.cmpi .ne v26 c0_i32_5
  v27

def k0_cond10 (v9 : BitVec 32) : BitVec 1 :=
  let c448_i32 : BitVec 32 := 448#32
  let v28 : BitVec 1 := Scalar.cmpi .eq v9 c448_i32
  let v29 : BitVec 32 := Scalar.extui v28
  let c0_i32_6 : BitVec 32 := 0#32
  let v30 : BitVec 1 := Scalar.cmpi .ne v29 c0_i32_6
  v30

def k0_cond11 (v9 : BitVec 32) : BitVec 1 :=
  let c512_i32 : BitVec 32 := 512#32
  let v31 : BitVec 1 := Scalar.cmpi .eq v9 c512_i32
  let v32 : BitVec 32 := Scalar.extui v31
  let c0_i32_7 : BitVec 32 := 0#32
  let v33 : BitVec 1 := Scalar.cmpi .ne v32 c0_i32_7
  v33

def k0_cond12 (v9 : BitVec 32) : BitVec 1 :=
  let c0_i32_8 : BitVec 32 := 0#32
  let v34 : BitVec 1 := Scalar.cmpi .eq v9 c0_i32_8
  let v35 : BitVec 32 := Scalar.extui v34
  let c0_i32_9 : BitVec 32 := 0#32
  let v36 : BitVec 1 := Scalar.cmpi .ne v35 c0_i32_9
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference2Ideal.lean ====
abbrev S20480x2048 : Shape := ⟨2, ![20480, 2048]⟩
abbrev S40 : Shape := ⟨1, ![40]⟩
abbrev S2x8x2048x4096 : Shape := ⟨4, ![2, 8, 2048, 4096]⟩
abbrev S40x512x2048 : Shape := ⟨3, ![40, 512, 2048]⟩
abbrev S16x2048x4096 : Shape := ⟨3, ![16, 2048, 4096]⟩
abbrev S_ : Shape := ⟨0, ![]⟩
abbrev S40x1 : Shape := ⟨2, ![40, 1]⟩
abbrev S40x2048x4096 : Shape := ⟨3, ![40, 2048, 4096]⟩
abbrev S40x512x4096 : Shape := ⟨3, ![40, 512, 4096]⟩
abbrev S512 : Shape := ⟨1, ![512]⟩
abbrev S1x512x1 : Shape := ⟨3, ![1, 512, 1]⟩
abbrev S40x1x1 : Shape := ⟨3, ![40, 1, 1]⟩
abbrev S40x512x1 : Shape := ⟨3, ![40, 512, 1]⟩
abbrev S20480x4096 : Shape := ⟨2, ![20480, 4096]⟩

abbrev nBuf : Space → Nat
  | .hbm => 51
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S40, .i32⟩
  | .hbm, ⟨2, _⟩ => ⟨S40, .i32⟩
  | .hbm, ⟨3, _⟩ => ⟨S2x8x2048x4096, .f32⟩
  | .hbm, ⟨4, _⟩ => ⟨S2x8x2048x4096, .f32⟩
  | .hbm, ⟨5, _⟩ => ⟨S40x512x2048, .f32⟩
  | .hbm, ⟨6, _⟩ => ⟨S16x2048x4096, .f32⟩
  | .hbm, ⟨7, _⟩ => ⟨S_, .i32⟩
  | .hbm, ⟨8, _⟩ => ⟨S40, .i32⟩
  | .hbm, ⟨9, _⟩ => ⟨S40, .i1⟩
  | .hbm, ⟨10, _⟩ => ⟨S_, .i32⟩
  | .hbm, ⟨11, _⟩ => ⟨S40, .i32⟩
  | .hbm, ⟨12, _⟩ => ⟨S40, .i32⟩
  | .hbm, ⟨13, _⟩ => ⟨S40, .i32⟩
  | .hbm, ⟨14, _⟩ => ⟨S40x1, .i32⟩
  | .hbm, ⟨15, _⟩ => ⟨S40x2048x4096, .f32⟩
  | .hbm, ⟨16, _⟩ => ⟨S40x512x4096, .f32⟩
  | .hbm, ⟨17, _⟩ => ⟨S16x2048x4096, .f32⟩
  | .hbm, ⟨18, _⟩ => ⟨S_, .i32⟩
  | .hbm, ⟨19, _⟩ => ⟨S40, .i32⟩
  | .hbm, ⟨20, _⟩ => ⟨S40, .i1⟩
  | .hbm, ⟨21, _⟩ => ⟨S_, .i32⟩
  | .hbm, ⟨22, _⟩ => ⟨S40, .i32⟩
  | .hbm, ⟨23, _⟩ => ⟨S40, .i32⟩
  | .hbm, ⟨24, _⟩ => ⟨S40, .i32⟩
  | .hbm, ⟨25, _⟩ => ⟨S40x1, .i32⟩
  | .hbm, ⟨26, _⟩ => ⟨S40x2048x4096, .f32⟩
  | .hbm, ⟨27, _⟩ => ⟨S40x512x4096, .f32⟩
  | .hbm, ⟨28, _⟩ => ⟨S512, .i32⟩
  | .hbm, ⟨29, _⟩ => ⟨S1x512x1, .i32⟩
  | .hbm, ⟨30, _⟩ => ⟨S40x1x1, .i32⟩
  | .hbm, ⟨31, _⟩ => ⟨S40x512x1, .i32⟩
  | .hbm, ⟨32, _⟩ => ⟨S40x512x1, .i32⟩
  | .hbm, ⟨33, _⟩ => ⟨S40x512x1, .i1⟩
  | .hbm, ⟨34, _⟩ => ⟨S40x512x4096, .f32⟩
  | .hbm, ⟨35, _⟩ => ⟨S40x512x4096, .f32⟩
  | .hbm, ⟨36, _⟩ => ⟨S_, .f32⟩
  | .hbm, ⟨37, _⟩ => ⟨S40x512x4096, .f32⟩
  | .hbm, ⟨38, _⟩ => ⟨S40x512x4096, .f32⟩
  | .hbm, ⟨39, _⟩ => ⟨S_, .f32⟩
  | .hbm, ⟨40, _⟩ => ⟨S40x512x4096, .f32⟩
  | .hbm, ⟨41, _⟩ => ⟨S40x512x4096, .f32⟩
  | .hbm, ⟨42, _⟩ => ⟨S40x512x4096, .f32⟩
  | .hbm, ⟨43, _⟩ => ⟨S40x512x4096, .f32⟩
  | .hbm, ⟨44, _⟩ => ⟨S_, .f32⟩
  | .hbm, ⟨45, _⟩ => ⟨S_, .f32⟩
  | .hbm, ⟨46, _⟩ => ⟨S40x512x4096, .i1⟩
  | .hbm, ⟨47, _⟩ => ⟨S40x512x4096, .f32⟩
  | .hbm, ⟨48, _⟩ => ⟨S40x512x4096, .f32⟩
  | .hbm, ⟨49, _⟩ => ⟨S20480x4096, .f32⟩
  | .hbm, ⟨50, _⟩ => ⟨S20480x4096, .bf16⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩

abbrev nD : Nat := 1
abbrev τ : Topo := Topo.v7x

variable {F : FTy → Type} [FloatOps F]
-- ==== Kernel.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S4x256x16x128 : Shape := ⟨4, ![4, 256, 16, 128]⟩
abbrev S4x256x64 : Shape := ⟨3, ![4, 256, 64]⟩
abbrev S_ : Shape := ⟨0, ![]⟩
abbrev S4x2048x16x256 : Shape := ⟨4, ![4, 2048, 16, 256]⟩
abbrev S8192x4096 : Shape := ⟨2, ![8192, 4096]⟩
abbrev S4x2048x1x64 : Shape := ⟨4, ![4, 2048, 1, 64]⟩
abbrev S8192x2048 : Shape := ⟨2, ![8192, 2048]⟩
abbrev S8192x6144 : Shape := ⟨2, ![8192, 6144]⟩
abbrev S4x256x1x64 : Shape := ⟨4, ![4, 256, 1, 64]⟩
abbrev S4x256x16x64 : Shape := ⟨4, ![4, 256, 16, 64]⟩
abbrev S4x256x16x256 : Shape := ⟨4, ![4, 256, 16, 256]⟩
abbrev S1024x4096 : Shape := ⟨2, ![1024, 4096]⟩
abbrev S1024x2048 : Shape := ⟨2, ![1024, 2048]⟩
abbrev S1024x6144 : Shape := ⟨2, ![1024, 6144]⟩
abbrev S9216x6144 : Shape := ⟨2, ![9216, 6144]⟩
abbrev S2048x256 : Shape := ⟨2, ![2048, 256]⟩
abbrev S256x256 : Shape := ⟨2, ![256, 256]⟩
abbrev S2048x128 : Shape := ⟨2, ![2048, 128]⟩
abbrev S256x128 : Shape := ⟨2, ![256, 128]⟩
abbrev S768x256 : Shape := ⟨2, ![768, 256]⟩
abbrev S768x128 : Shape := ⟨2, ![768, 128]⟩
abbrev S2048x768 : Shape := ⟨2, ![2048, 768]⟩
abbrev S2048 : Shape := ⟨1, ![2048]⟩
abbrev S2048x1 : Shape := ⟨2, ![2048, 1]⟩
abbrev S512x256 : Shape := ⟨2, ![512, 256]⟩
abbrev S512x128 : Shape := ⟨2, ![512, 128]⟩

abbrev nBuf : Space → Nat
  | .hbm => 39
  | .vmem => 12
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x16x64, .f32⟩
  | .hbm, ⟨2, _⟩ => ⟨S4x2048x16x128, .f32⟩
  | .hbm, ⟨3, _⟩ => ⟨S4x2048x64, .f32⟩
  | .hbm, ⟨4, _⟩ => ⟨S4x2048x16x128, .f32⟩
  | .hbm, ⟨5, _⟩ => ⟨S4x256x16x128, .f32⟩
  | .hbm, ⟨6, _⟩ => ⟨S4x256x64, .f32⟩
  | .hbm, ⟨7, _⟩ => ⟨S4x256x16x128, .f32⟩
  | .hbm, ⟨8, _⟩ => ⟨S_, .f32⟩
  | .hbm, ⟨9, _⟩ => ⟨S4x2048x16x64, .f32⟩
  | .hbm, ⟨10, _⟩ => ⟨S4x2048x16x256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x2048x16x256, .f32⟩
  | .hbm, ⟨17, _⟩ => ⟨S4x2048x16x256, .f32⟩
  | .hbm, ⟨18, _⟩ => ⟨S8192x4096, .f32⟩
  | .hbm, ⟨19, _⟩ => ⟨S8192x4096, .bf16⟩
  | .hbm, ⟨20, _⟩ => ⟨S4x2048x1x64, .f32⟩
  | .hbm, ⟨21, _⟩ => ⟨S4x2048x16x64, .f32⟩
  | .hbm, ⟨22, _⟩ => ⟨S_, .f32⟩
  | .hbm, ⟨23, _⟩ => ⟨S4x2048x16x64, .f32⟩
  | .hbm, ⟨24, _⟩ => ⟨S4x2048x16x256, .f32⟩
  | .hbm, ⟨25, _⟩ => ⟨S8192x4096, .f32⟩
  | .hbm, ⟨26, _⟩ => ⟨S8192x2048, .f32⟩
  | .hbm, ⟨27, _⟩ => ⟨S8192x6144, .f32⟩
  | .hbm, ⟨28, _⟩ => ⟨S4x256x1x64, .f32⟩
  | .hbm, ⟨29, _⟩ => ⟨S4x256x16x64, .f32⟩
  | .hbm, ⟨30, _⟩ => ⟨S_, .f32⟩
  | .hbm, ⟨31, _⟩ => ⟨S4x256x16x64, .f32⟩
  | .hbm, ⟨32, _⟩ => ⟨S4x256x16x256, .f32⟩
  | .hbm, ⟨33, _⟩ => ⟨S1024x4096, .f32⟩
  | .hbm, ⟨34, _⟩ => ⟨S1024x2048, .f32⟩
  | .hbm, ⟨35, _⟩ => ⟨S1024x6144, .f32⟩
  | .hbm, ⟨36, _⟩ => ⟨S9216x6144, .f32⟩
  | .hbm, ⟨37, _⟩ => ⟨S9216x6144, .bf16⟩
  | .hbm, ⟨38, _⟩ => ⟨S8192x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S256x256, .bf16⟩
  | .local _ .vmem, ⟨5, _⟩ => ⟨S256x256, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S2048x128, .bf16⟩
  | .local _ .vmem, ⟨11, _⟩ => ⟨S2048x128, .bf16⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c32_i32_0 : BitVec 32 := 32#32
  let v1 : BitVec 32 := Scalar.addi c32_i32_0 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S4x256x16x128 : Shape := ⟨4, ![4, 256, 16, 128]⟩
abbrev S4x256x64 : Shape := ⟨3, ![4, 256, 64]⟩
abbrev S4x2304x16x128 : Shape := ⟨4, ![4, 2304, 16, 128]⟩
abbrev S4x2304x64 : Shape := ⟨3, ![4, 2304, 64]⟩
abbrev S4x16x2048x2304 : Shape := ⟨4, ![4, 16, 2048, 2304]⟩
abbrev S4x2304x2048x16 : Shape := ⟨4, ![4, 2304, 2048, 16]⟩
abbrev S_ : Shape := ⟨0, ![]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S8192x2048 : Shape := ⟨2, ![8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x16x64, .f32⟩
  | .hbm, ⟨2, _⟩ => ⟨S4x2048x16x128, .f32⟩
  | .hbm, ⟨3, _⟩ => ⟨S4x2048x64, .f32⟩
  | .hbm, ⟨4, _⟩ => ⟨S4x2048x16x128, .f32⟩
  | .hbm, ⟨5, _⟩ => ⟨S4x256x16x128, .f32⟩
  | .hbm, ⟨6, _⟩ => ⟨S4x256x64, .f32⟩
  | .hbm, ⟨7, _⟩ => ⟨S4x256x16x128, .f32⟩
  | .hbm, ⟨8, _⟩ => ⟨S4x2304x16x128, .f32⟩
  | .hbm, ⟨9, _⟩ => ⟨S4x2304x64, .f32⟩
  | .hbm, ⟨10, _⟩ => ⟨S4x2304x16x128, .f32⟩
  | .hbm, ⟨11, _⟩ => ⟨S4x16x2048x2304, .f32⟩
  | .hbm, ⟨12, _⟩ => ⟨S4x2304x2048x16, .f32⟩
  | .hbm, ⟨13, _⟩ => ⟨S4x16x2048x2304, .f32⟩
  | .hbm, ⟨14, _⟩ => ⟨S4x16x2048x2304, .f32⟩
  | .hbm, ⟨15, _⟩ => ⟨S_, .f32⟩
  | .hbm, ⟨16, _⟩ => ⟨S_, .f32⟩
  | .hbm, ⟨17, _⟩ => ⟨S4x16x2048x2304, .f32⟩
  | .hbm, ⟨18, _⟩ => ⟨S4x16x2048x2304, .f32⟩
  | .hbm, ⟨19, _⟩ => ⟨S_, .f32⟩
  | .hbm, ⟨20, _⟩ => ⟨S4x16x2048, .f32⟩
  | .hbm, ⟨21, _⟩ => ⟨S_, .f32⟩
  | .hbm, ⟨22, _⟩ => ⟨S4x16x2048, .f32⟩
  | .hbm, ⟨23, _⟩ => ⟨S4x16x2048, .f32⟩
  | .hbm, ⟨24, _⟩ => ⟨S4x16x2048x1, .f32⟩
  | .hbm, ⟨25, _⟩ => ⟨S4x16x2048x2304, .f32⟩
  | .hbm, ⟨26, _⟩ => ⟨S4x16x2048x2304, .f32⟩
  | .hbm, ⟨27, _⟩ => ⟨S4x16x2048x2304, .f32⟩
  | .hbm, ⟨28, _⟩ => ⟨S_, .f32⟩
  | .hbm, ⟨29, _⟩ => ⟨S4x16x2048, .f32⟩
  | .hbm, ⟨30, _⟩ => ⟨S4x16x2048x1, .f32⟩
  | .hbm, ⟨31, _⟩ => ⟨S4x16x2048x2304, .f32⟩
  | .hbm, ⟨32, _⟩ => ⟨S4x16x2048x2304, .f32⟩
  | .hbm, ⟨33, _⟩ => ⟨S4x16x128x2048, .f32⟩
  | .hbm, ⟨34, _⟩ => ⟨S4x2048x16x128, .f32⟩
  | .hbm, ⟨35, _⟩ => ⟨S8192x2048, .f32⟩
  | .hbm, ⟨36, _⟩ => ⟨S8192x2048, .bf16⟩
  | _, _ => ⟨S4x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel3.lean ====
abbrev S22528x2048 : Shape := ⟨2, ![22528, 2048]⟩
abbrev S44 : Shape := ⟨1, ![44]⟩
abbrev S2x8x2048x4096 : Shape := ⟨4, ![2, 8, 2048, 4096]⟩
abbrev S16x2048x4096 : Shape := ⟨3, ![16, 2048, 4096]⟩
abbrev S_ : Shape := ⟨0, ![]⟩
abbrev S1 : Shape := ⟨1, ![1]⟩
abbrev S43 : Shape := ⟨1, ![43]⟩
abbrev S44x1 : Shape := ⟨2, ![44, 1]⟩
abbrev S22528x4096 : Shape := ⟨2, ![22528, 4096]⟩
abbrev S512x2048 : Shape := ⟨2, ![512, 2048]⟩
abbrev S512x1024 : Shape := ⟨2, ![512, 1024]⟩
abbrev S2048x1024 : Shape := ⟨2, ![2048, 1024]⟩
abbrev S2 : Shape := ⟨1, ![2]⟩
abbrev S1x2048x1024 : Shape := ⟨3, ![1, 2048, 1024]⟩
abbrev S64x2048 : Shape := ⟨2, ![64, 2048]⟩
abbrev S64x1024 : Shape := ⟨2, ![64, 1024]⟩
abbrev S448x1024 : Shape := ⟨2, ![448, 1024]⟩
abbrev S128x2048 : Shape := ⟨2, ![128, 2048]⟩
abbrev S128x1024 : Shape := ⟨2, ![128, 1024]⟩
abbrev S384x1024 : Shape := ⟨2, ![384, 1024]⟩
abbrev S192x2048 : Shape := ⟨2, ![192, 2048]⟩
abbrev S192x1024 : Shape := ⟨2, ![192, 1024]⟩
abbrev S320x1024 : Shape := ⟨2, ![320, 1024]⟩
abbrev S256x2048 : Shape := ⟨2, ![256, 2048]⟩
abbrev S256x1024 : Shape := ⟨2, ![256, 1024]⟩
abbrev S320x2048 : Shape := ⟨2, ![320, 2048]⟩
abbrev S384x2048 : Shape := ⟨2, ![384, 2048]⟩
abbrev S448x2048 : Shape := ⟨2, ![448, 2048]⟩

abbrev nBuf : Space → Nat
  | .hbm => 31
  | .vmem => 8
  | .smem => 5
  | _ => 0

abbrev bufTy : (tb : Table) → Fin (tcTables nBuf tb) → BufTy
  | .hbm, ⟨0, _⟩ => ⟨S22528x2048, .f32⟩
  | .hbm, ⟨1, _⟩ => ⟨S44, .i32⟩
  | .hbm, ⟨2, _⟩ => ⟨S2x8x2048x4096, .f32⟩
  | .hbm, ⟨3, _⟩ => ⟨S2x8x2048x4096, .f32⟩
  | .hbm, ⟨4, _⟩ => ⟨S16x2048x4096, .f32⟩
  | .hbm, ⟨5, _⟩ => ⟨S16x2048x4096, .f32⟩
  | .hbm, ⟨6, _⟩ => ⟨S_, .i32⟩
  | .hbm, ⟨7, _⟩ => ⟨S1, .i32⟩
  | .hbm, ⟨8, _⟩ => ⟨S43, .i32⟩
  | .hbm, ⟨9, _⟩ => ⟨S43, .i32⟩
  | .hbm, ⟨10, _⟩ => ⟨S43, .i1⟩
  | .hbm, ⟨11, _⟩ => ⟨S43, .i32⟩
  | .hbm, ⟨12, _⟩ => ⟨S_, .i32⟩
  | .hbm, ⟨13, _⟩ => ⟨S_, .i32⟩
  | .hbm, ⟨14, _⟩ => ⟨S44, .i32⟩
  | .hbm, ⟨15, _⟩ => ⟨S_, .i32⟩
  | .hbm, ⟨16, _⟩ => ⟨S44, .i32⟩
  | .hbm, ⟨17, _⟩ => ⟨S_, .i32⟩
  | .hbm, ⟨18, _⟩ => ⟨S44, .i32⟩
  | .hbm, ⟨19, _⟩ => ⟨S_, .i32⟩
  | .hbm, ⟨20, _⟩ => ⟨S44, .i32⟩
  | .hbm, ⟨21, _⟩ => ⟨S44, .i1⟩
  | .hbm, ⟨22, _⟩ => ⟨S_, .i32⟩
  | .hbm, ⟨23, _⟩ => ⟨S44, .i32⟩
  | .hbm, ⟨24, _⟩ => ⟨S44, .i32⟩
  | .hbm, ⟨25, _⟩ => ⟨S44, .i32⟩
  | .hbm, ⟨26, _⟩ => ⟨S44x1, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S22528x4096, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .bf16⟩
  | .local _ .vmem, ⟨7, _⟩ => ⟨S2048x1024, .bf16⟩
  | .local _ .smem, ⟨0, _⟩ => ⟨S44, .i32⟩
  | .local _ .smem, ⟨1, _⟩ => ⟨S44, .i32⟩
  | .local _ .smem, ⟨2, _⟩ => ⟨S44, .i32⟩
  | .local _ .smem, ⟨3, _⟩ => ⟨S44, .i32⟩
  | .local _ .smem, ⟨4, _⟩ => ⟨S1, .i32⟩
  | _, _ => ⟨S22528x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v22 : Ref sig .tc := ⟨.hbm, 30, rfl⟩
abbrev main_arg2 : Ref sig .tc := ⟨.smem, 0, rfl⟩
abbrev main_v7 : Ref sig .tc := ⟨.smem, 1, rfl⟩
abbrev main_v10 : Ref sig .tc := ⟨.smem, 2, rfl⟩
abbrev main_v18 : Ref sig .tc := ⟨.smem, 3, rfl⟩
abbrev main_v21 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 44], ![false, false]⟩

abbrev pre0 : Pipeline.Prefetch sig := ⟨5, ![main_arg2.idx, main_v7.idx, main_v10.idx, main_v18.idx, main_v21.idx], fun | 0 => main_arg2.names | 1 => main_v7.names | 2 => main_v10.names | 3 => main_v18.names | 4 => main_v21.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 : BitVec 32 :=
  let c0_i32_32 : BitVec 32 := 0#32
  c0_i32_32
def k0_off2 (v76 : BitVec 32) : Fin 3 → Nat :=
  let c0_i32_34 : BitVec 32 := 0#32
  let c0_i32_32 : BitVec 32 := 0#32
  let v77 : BitVec 32 := c0_i32_32
  ![v76.toNat, 0, 0]
def k0_cond1 (v4 : BitVec 32) : BitVec 1 :=
  let c1_i32 : BitVec 32 := 1#32
  let v5 : BitVec 1 := Scalar.cmpi .eq v4 c1_i32
  let v6 : BitVec 32 := Scalar.extui v5
  let c0_i32 : BitVec 32 := 0#32
  let v7 : BitVec 1 := Scalar.cmpi .ne v6 c0_i32
  v7

def k0_cond2 (i : grid0.Coords) (v1 : BitVec 32) : BitVec 1 :=
  let arg0 : BitVec 32 := BitVec.ofNat 32 (i 0).val
  let c0_i32_10 : BitVec 32 := 0#32
  let v37 : BitVec 1 := Scalar.cmpi .eq arg0 c0_i32_10
  let c0_i32_11 : BitVec 32 := 0#32
  let v38 : BitVec 1 := Scalar.cmpi .eq v1 c0_i32_11
  let v39 : BitVec 1 := Scalar.andi v37 v38
  let v40 : BitVec 32 := Scalar.extui v39
  let c0_i32_12 : BitVec 32 := 0#32
  let v41 : BitVec 1 := Scalar.cmpi .ne v40 c0_i32_12
  v41

def k0_chk1 (i : grid0.Coords) (v1 : BitVec 32) (v4 : BitVec 32) (v76 : BitVec 32) : Prop :=
  (∀ (k0_h1 : k0_cond1 v4 = 1#1), ∀ (k0_h2 : k0_cond2 i v1 = 1#1), ∀ a, (k0_off2 v76) a + S1x2048x1024.size a ≤ S16x2048x4096.size a)
theorem k0_off2_inb : ∀ (i : grid0.Coords) (v1 : BitVec 32) (v4 : BitVec 32) (v76 : BitVec 32) (k0_hw1 : k0_chk1 i v1 v4 v76), ∀ (k0_h1 : k0_cond1 v4 = 1#1), ∀ (k0_h2 : k0_cond2 i v1 = 1#1), ∀ a, (k0_off2 v76) a + S1x2048x1024.size a ≤ S16x2048x4096.size a := fun i v1 v4 v76 k0_hw1 k0_h1 k0_h2 => k0_hw1 k0_h1 k0_h2

def k0_off3 (v1 : BitVec 32) : Fin 1 → Nat :=
  let v42 : Index := Scalar.indexCast v1
  ![v42.toNat]

def k0_mult2 (i : grid0.Coords) : BitVec 32 :=
  let arg0 : BitVec 32 := BitVec.ofNat 32 (i 0).val
  let c0_i32_13 : BitVec 32 := 0#32
  let v44 : BitVec 32 := Scalar.addi arg0 c0_i32_13
  let c1024_i32 : BitVec 32 := 1024#32
  let v45 : BitVec 32 := Scalar.muli v44 c1024_i32
  v45
def k0_off4 (i : grid0.Coords) (v43 : BitVec 32) : Fin 3 → Nat :=
  let c0_i32_15 : BitVec 32 := 0#32
  let arg0 : BitVec 32 := BitVec.ofNat 32 (i 0).val
  let c0_i32_13 : BitVec 32 := 0#32
  let v44 : BitVec 32 := Scalar.addi arg0 c0_i32_13
  let c1024_i32 : BitVec 32 := 1024#32
  let v45 : BitVec 32 := Scalar.muli v44 c1024_i32
  let v46 : BitVec 32 := v45
  ![v43.toNat, 0, v46.toNat]

def k0_chk3 (i : grid0.Coords) (v4 : BitVec 32) (v43 : BitVec 32) : Prop :=
  (∀ (k0_h1 : k0_cond1 v4 = 1#1), ∀ a, (k0_off4 i v43) a + S1x2048x1024.size a ≤ S16x2048x4096.size a)
theorem k0_off4_inb : ∀ (i : grid0.Coords) (v4 : BitVec 32) (v43 : BitVec 32) (k0_hw3 : k0_chk3 i v4 v43), ∀ (k0_h1 : k0_cond1 v4 = 1#1), ∀ a, (k0_off4 i v43) a + S1x2048x1024.size a ≤ S16x2048x4096.size a := fun i v4 v43 k0_hw3 k0_h1 => k0_hw3 k0_h1

def k0_off5 (v1 : BitVec 32) (v2 : BitVec 32) : Fin 1 → Nat :=
  let c1_i32_26 : BitVec 32 := 1#32
  let v65 : BitVec 32 := Scalar.addi v1 c1_i32_26
  let v66 : BitVec 1 := Scalar.cmpi .sge v65 v2
  let c0_i32_28 : BitVec 32 := 0#32
  let c1_i32_27 : BitVec 32 := 1#32
  let v67 : BitVec 32 := Scalar.addi v1 c1_i32_27
  let v68 : BitVec 32 := Scalar.select v66 c0_i32_28 v67
  let v69 : Index := Scalar.indexCast v68
  ![v69.toNat]
def k0_mult3 (i : grid0.Coords) (v1 : BitVec 32) (v2 : BitVec 32) : BitVec 32 :=
  let c1_i32_26 : BitVec 32 := 1#32
  let v65 : BitVec 32 := Scalar.addi v1 c1_i32_26
  let v66 : BitVec 1 := Scalar.cmpi .sge v65 v2
  let arg0 : BitVec 32 := BitVec.ofNat 32 (i 0).val
  let c1_i32_29 : BitVec 32 := 1#32
  let v71 : BitVec 32 := Scalar.addi arg0 c1_i32_29
  let v72 : BitVec 32 := Scalar.select v66 v71 arg0
  let c0_i32_31 : BitVec 32 := 0#32
  let v76 : BitVec 32 := Scalar.addi v72 c0_i32_31
  let c1024_i32_32 : BitVec 32 := 1024#32
  let v77 : BitVec 32 := Scalar.muli v76 c1024_i32_32
  v77
def k0_cond3 (i : grid0.Coords) (v1 : BitVec 32) (v2 : BitVec 32) : BitVec 1 :=
  let c1_i32_26 : BitVec 32 := 1#32
  let v65 : BitVec 32 := Scalar.addi v1 c1_i32_26
  let v66 : BitVec 1 := Scalar.cmpi .sge v65 v2
  let arg0 : BitVec 32 := BitVec.ofNat 32 (i 0).val
  let c1_i32_29 : BitVec 32 := 1#32
  let v71 : BitVec 32 := Scalar.addi arg0 c1_i32_29
  let v72 : BitVec 32 := Scalar.select v66 v71 arg0
  let c4_i32 : BitVec 32 := 4#32
  let v73 : BitVec 1 := Scalar.cmpi .slt v72 c4_i32
  let v74 : BitVec 32 := Scalar.extui v73
  let c0_i32_30 : BitVec 32 := 0#32
  let v75 : BitVec 1 := Scalar.cmpi .ne v74 c0_i32_30
  v75

def k0_chk2 (i : grid0.Coords) (v1 : BitVec 32) (v2 : BitVec 32) (v4 : BitVec 32) : Prop :=
  (∀ (k0_h1 : k0_cond1 v4 = 1#1), ∀ a, (k0_off3 v1) a + S1.size a ≤ S44.size a) ∧
  (∀ (k0_h1 : k0_cond1 v4 = 1#1), ∀ a, (k0_off5 v1 v2) a + S1.size a ≤ S44.size a) ∧
  (∀ (k0_h1 : k0_cond1 v4 = 1#1), ∀ (k0_h3 : k0_cond3 i v1 v2 = 1#1), 1024 ∣ (k0_mult3 i v1 v2).toNat)
theorem k0_off3_inb : ∀ (i : grid0.Coords) (v1 : BitVec 32) (v2 : BitVec 32) (v4 : BitVec 32) (k0_hw2 : k0_chk2 i v1 v2 v4), ∀ (k0_h1 : k0_cond1 v4 = 1#1), ∀ a, (k0_off3 v1) a + S1.size a ≤ S44.size a := fun i v1 v2 v4 k0_hw2 k0_h1 => k0_hw2.1 k0_h1
theorem k0_off5_inb : ∀ (i : grid0.Coords) (v1 : BitVec 32) (v2 : BitVec 32) (v4 : BitVec 32) (k0_hw2 : k0_chk2 i v1 v2 v4), ∀ (k0_h1 : k0_cond1 v4 = 1#1), ∀ a, (k0_off5 v1 v2) a + S1.size a ≤ S44.size a := fun i v1 v2 v4 k0_hw2 k0_h1 => k0_hw2.2.1 k0_h1
theorem k0_mult3_dvd : ∀ (i : grid0.Coords) (v1 : BitVec 32) (v2 : BitVec 32) (v4 : BitVec 32) (k0_hw2 : k0_chk2 i v1 v2 v4), ∀ (k0_h1 : k0_cond1 v4 = 1#1), ∀ (k0_h3 : k0_cond3 i v1 v2 = 1#1), 1024 ∣ (k0_mult3 i v1 v2).toNat := fun i v1 v2 v4 k0_hw2 k0_h1 k0_h3 => k0_hw2.2.2 k0_h1 k0_h3

def k0_off6 (i : grid0.Coords) (v1 : BitVec 32) (v2 : BitVec 32) (v70 : BitVec 32) : Fin 3 → Nat :=
  let c0_i32_34 : BitVec 32 := 0#32
  let c1_i32_26 : BitVec 32 := 1#32
  let v65 : BitVec 32 := Scalar.addi v1 c1_i32_26
  let v66 : BitVec 1 := Scalar.cmpi .sge v65 v2
  let arg0 : BitVec 32 := BitVec.ofNat 32 (i 0).val
  let c1_i32_29 : BitVec 32 := 1#32
  let v71 : BitVec 32 := Scalar.addi arg0 c1_i32_29
  let v72 : BitVec 32 := Scalar.select v66 v71 arg0
  let c0_i32_31 : BitVec 32 := 0#32
  let v76 : BitVec 32 := Scalar.addi v72 c0_i32_31
  let c1024_i32_32 : BitVec 32 := 1024#32
  let v77 : BitVec 32 := Scalar.muli v76 c1024_i32_32
  let v78 : BitVec 32 := v77
  ![v70.toNat, 0, v78.toNat]

def k0_chk4 (i : grid0.Coords) (v1 : BitVec 32) (v2 : BitVec 32) (v4 : BitVec 32) (v70 : BitVec 32) : Prop :=
  (∀ (k0_h1 : k0_cond1 v4 = 1#1), ∀ (k0_h3 : k0_cond3 i v1 v2 = 1#1), ∀ a, (k0_off6 i v1 v2 v70) a + S1x2048x1024.size a ≤ S16x2048x4096.size a)
theorem k0_off6_inb : ∀ (i : grid0.Coords) (v1 : BitVec 32) (v2 : BitVec 32) (v4 : BitVec 32) (v70 : BitVec 32) (k0_hw4 : k0_chk4 i v1 v2 v4 v70), ∀ (k0_h1 : k0_cond1 v4 = 1#1), ∀ (k0_h3 : k0_cond3 i v1 v2 = 1#1), ∀ a, (k0_off6 i v1 v2 v70) a + S1x2048x1024.size a ≤ S16x2048x4096.size a := fun i v1 v2 v4 v70 k0_hw4 k0_h1 k0_h3 => k0_hw4 k0_h1 k0_h3

def k0_off7 (i : grid0.Coords) : Fin 1 → Nat :=
  let arg1 : BitVec 32 := BitVec.ofNat 32 (i 1).val
  let v8 : Index := Scalar.indexCast arg1
  ![v8.toNat]
def k0_cond4 (v9 : BitVec 32) : BitVec 1 :=
  let c64_i32 : BitVec 32 := 64#32
  let v10 : BitVec 1 := Scalar.cmpi .eq v9 c64_i32
  let v11 : BitVec 32 := Scalar.extui v10
  let c0_i32_0 : BitVec 32 := 0#32
  let v12 : BitVec 1 := Scalar.cmpi .ne v11 c0_i32_0
  v12

def k0_cond5 (v9 : BitVec 32) : BitVec 1 :=
  let c128_i32 : BitVec 32 := 128#32
  let v13 : BitVec 1 := Scalar.cmpi .eq v9 c128_i32
  let v14 : BitVec 32 := Scalar.extui v13
  let c0_i32_1 : BitVec 32 := 0#32
  let v15 : BitVec 1 := Scalar.cmpi .ne v14 c0_i32_1
  v15

def k0_cond6 (v9 : BitVec 32) : BitVec 1 :=
  let c192_i32 : BitVec 32 := 192#32
  let v16 : BitVec 1 := Scalar.cmpi .eq v9 c192_i32
  let v17 : BitVec 32 := Scalar.extui v16
  let c0_i32_2 : BitVec 32 := 0#32
  let v18 : BitVec 1 := Scalar.cmpi .ne v17 c0_i32_2
  v18

def k0_cond7 (v9 : BitVec 32) : BitVec 1 :=
  let c256_i32 : BitVec 32 := 256#32
  let v19 : BitVec 1 := Scalar.cmpi .eq v9 c256_i32
  let v20 : BitVec 32 := Scalar.extui v19
  let c0_i32_3 : BitVec 32 := 0#32
  let v21 : BitVec 1 := Scalar.cmpi .ne v20 c0_i32_3
  v21

def k0_cond8 (v9 : BitVec 32) : BitVec 1 :=
  let c320_i32 : BitVec 32 := 320#32
  let v22 : BitVec 1 := Scalar.cmpi .eq v9 c320_i32
  let v23 : BitVec 32 := Scalar.extui v22
  let c0_i32_4 : BitVec 32 := 0#32
  let v24 : BitVec 1 := Scalar.cmpi .ne v23 c0_i32_4
  v24

def k0_cond9 (v9 : BitVec 32) : BitVec 1 :=
  let c384_i32 : BitVec 32 := 384#32
  let v25 : BitVec 1 := Scalar.cmpi .eq v9 c384_i32
  let v26 : BitVec 32 := Scalar.extui v25
  let c0_i32_5 : BitVec 32 := 0#32
  let v27 : BitVec 1 := Scalar.cmpi .ne v26 c0_i32_5
  v27

def k0_cond10 (v9 : BitVec 32) : BitVec 1 :=
  let c448_i32 : BitVec 32 := 448#32
  let v28 : BitVec 1 := Scalar.cmpi .eq v9 c448_i32
  let v29 : BitVec 32 := Scalar.extui v28
  let c0_i32_6 : BitVec 32 := 0#32
  let v30 : BitVec 1 := Scalar.cmpi .ne v29 c0_i32_6
  v30

def k0_cond11 (v9 : BitVec 32) : BitVec 1 :=
  let c512_i32 : BitVec 32 := 512#32
  let v31 : BitVec 1 := Scalar.cmpi .eq v9 c512_i32
  let v32 : BitVec 32 := Scalar.extui v31
  let c0_i32_7 : BitVec 32 := 0#32
  let v33 : BitVec 1 := Scalar.cmpi .ne v32 c0_i32_7
  v33

def k0_cond12 (v9 : BitVec 32) : BitVec 1 :=
  let c0_i32_8 : BitVec 32 := 0#32
  let v34 : BitVec 1 := Scalar.cmpi .eq v9 c0_i32_8
  let v35 : BitVec 32 := Scalar.extui v34
  let c0_i32_9 : BitVec 32 := 0#32
  let v36 : BitVec 1 := Scalar.cmpi .ne v35 c0_i32_9
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference3Ideal.lean ====
abbrev S22528x2048 : Shape := ⟨2, ![22528, 2048]⟩
abbrev S44 : Shape := ⟨1, ![44]⟩
abbrev S2x8x2048x4096 : Shape := ⟨4, ![2, 8, 2048, 4096]⟩
abbrev S44x512x2048 : Shape := ⟨3, ![44, 512, 2048]⟩
abbrev S16x2048x4096 : Shape := ⟨3, ![16, 2048, 4096]⟩
abbrev S_ : Shape := ⟨0, ![]⟩
abbrev S44x1 : Shape := ⟨2, ![44, 1]⟩
abbrev S44x2048x4096 : Shape := ⟨3, ![44, 2048, 4096]⟩
abbrev S44x512x4096 : Shape := ⟨3, ![44, 512, 4096]⟩
abbrev S512 : Shape := ⟨1, ![512]⟩
abbrev S1x512x1 : Shape := ⟨3, ![1, 512, 1]⟩
abbrev S44x1x1 : Shape := ⟨3, ![44, 1, 1]⟩
abbrev S44x512x1 : Shape := ⟨3, ![44, 512, 1]⟩
abbrev S22528x4096 : Shape := ⟨2, ![22528, 4096]⟩

abbrev nBuf : Space → Nat
  | .hbm => 51
  | .vmem => 0
  | .smem => 0
  | _ => 0

abbrev bufTy : (tb : Table) → Fin (tcTables nBuf tb) → BufTy
  | .hbm, ⟨0, _⟩ => ⟨S22528x2048, .f32⟩
  | .hbm, ⟨1, _⟩ => ⟨S44, .i32⟩
  | .hbm, ⟨2, _⟩ => ⟨S44, .i32⟩
  | .hbm, ⟨3, _⟩ => ⟨S2x8x2048x4096, .f32⟩
  | .hbm, ⟨4, _⟩ => ⟨S2x8x2048x4096, .f32⟩
  | .hbm, ⟨5, _⟩ => ⟨S44x512x2048, .f32⟩
  | .hbm, ⟨6, _⟩ => ⟨S16x2048x4096, .f32⟩
  | .hbm, ⟨7, _⟩ => ⟨S_, .i32⟩
  | .hbm, ⟨8, _⟩ => ⟨S44, .i32⟩
  | .hbm, ⟨9, _⟩ => ⟨S44, .i1⟩
  | .hbm, ⟨10, _⟩ => ⟨S_, .i32⟩
  | .hbm, ⟨11, _⟩ => ⟨S44, .i32⟩
  | .hbm, ⟨12, _⟩ => ⟨S44, .i32⟩
  | .hbm, ⟨13, _⟩ => ⟨S44, .i32⟩
  | .hbm, ⟨14, _⟩ => ⟨S44x1, .i32⟩
  | .hbm, ⟨15, _⟩ => ⟨S44x2048x4096, .f32⟩
  | .hbm, ⟨16, _⟩ => ⟨S44x512x4096, .f32⟩
  | .hbm, ⟨17, _⟩ => ⟨S16x2048x4096, .f32⟩
  | .hbm, ⟨18, _⟩ => ⟨S_, .i32⟩
  | .hbm, ⟨19, _⟩ => ⟨S44, .i32⟩
  | .hbm, ⟨20, _⟩ => ⟨S44, .i1⟩
  | .hbm, ⟨21, _⟩ => ⟨S_, .i32⟩
  | .hbm, ⟨22, _⟩ => ⟨S44, .i32⟩
  | .hbm, ⟨23, _⟩ => ⟨S44, .i32⟩
  | .hbm, ⟨24, _⟩ => ⟨S44, .i32⟩
  | .hbm, ⟨25, _⟩ => ⟨S44x1, .i32⟩
  | .hbm, ⟨26, _⟩ => ⟨S44x2048x4096, .f32⟩
  | .hbm, ⟨27, _⟩ => ⟨S44x512x4096, .f32⟩
  | .hbm, ⟨28, _⟩ => ⟨S512, .i32⟩
  | .hbm, ⟨29, _⟩ => ⟨S1x512x1, .i32⟩
  | .hbm, ⟨30, _⟩ => ⟨S44x1x1, .i32⟩
  | .hbm, ⟨31, _⟩ => ⟨S44x512x1, .i32⟩
  | .hbm, ⟨32, _⟩ => ⟨S44x512x1, .i32⟩
  | .hbm, ⟨33, _⟩ => ⟨S44x512x1, .i1⟩
  | .hbm, ⟨34, _⟩ => ⟨S44x512x4096, .f32⟩
  | .hbm, ⟨35, _⟩ => ⟨S44x512x4096, .f32⟩
  | .hbm, ⟨36, _⟩ => ⟨S_, .f32⟩
  | .hbm, ⟨37, _⟩ => ⟨S44x512x4096, .f32⟩
  | .hbm, ⟨38, _⟩ => ⟨S44x512x4096, .f32⟩
  | .hbm, ⟨39, _⟩ => ⟨S_, .f32⟩
  | .hbm, ⟨40, _⟩ => ⟨S44x512x4096, .f32⟩
  | .hbm, ⟨41, _⟩ => ⟨S44x512x4096, .f32⟩
  | .hbm, ⟨42, _⟩ => ⟨S44x512x4096, .f32⟩
  | .hbm, ⟨43, _⟩ => ⟨S44x512x4096, .f32⟩
  | .hbm, ⟨44, _⟩ => ⟨S_, .f32⟩
  | .hbm, ⟨45, _⟩ => ⟨S_, .f32⟩
  | .hbm, ⟨46, _⟩ => ⟨S44x512x4096, .i1⟩
  | .hbm, ⟨47, _⟩ => ⟨S44x512x4096, .f32⟩
  | .hbm, ⟨48, _⟩ => ⟨S44x512x4096, .f32⟩
  | .hbm, ⟨49, _⟩ => ⟨S22528x4096, .f32⟩
  | .hbm, ⟨50, _⟩ => ⟨S22528x4096, .bf16⟩
  | _, _ => ⟨S22528x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩

abbrev nD : Nat := 1
abbrev τ : Topo := Topo.v7x

variable {F : FTy → Type} [FloatOps F]
-- ==== Kernel4.lean ====
abbrev S20480x4096 : Shape := ⟨2, ![20480, 4096]⟩
abbrev S40 : Shape := ⟨1, ![40]⟩
abbrev S2x8x4096x2048 : Shape := ⟨4, ![2, 8, 4096, 2048]⟩
abbrev S16x4096x2048 : Shape := ⟨3, ![16, 4096, 2048]⟩
abbrev S_ : Shape := ⟨0, ![]⟩
abbrev S1 : Shape := ⟨1, ![1]⟩
abbrev S39 : Shape := ⟨1, ![39]⟩
abbrev S40x1 : Shape := ⟨2, ![40, 1]⟩
abbrev S20480x2048 : Shape := ⟨2, ![20480, 2048]⟩
abbrev S512x4096 : Shape := ⟨2, ![512, 4096]⟩
abbrev S512x1024 : Shape := ⟨2, ![512, 1024]⟩
abbrev S4096x1024 : Shape := ⟨2, ![4096, 1024]⟩
abbrev S1x4096x1024 : Shape := ⟨3, ![1, 4096, 1024]⟩
abbrev S64x4096 : Shape := ⟨2, ![64, 4096]⟩
abbrev S64x1024 : Shape := ⟨2, ![64, 1024]⟩
abbrev S448x1024 : Shape := ⟨2, ![448, 1024]⟩
abbrev S128x4096 : Shape := ⟨2, ![128, 4096]⟩
abbrev S128x1024 : Shape := ⟨2, ![128, 1024]⟩
abbrev S384x1024 : Shape := ⟨2, ![384, 1024]⟩
abbrev S192x4096 : Shape := ⟨2, ![192, 4096]⟩
abbrev S192x1024 : Shape := ⟨2, ![192, 1024]⟩
abbrev S320x1024 : Shape := ⟨2, ![320, 1024]⟩
abbrev S256x4096 : Shape := ⟨2, ![256, 4096]⟩
abbrev S256x1024 : Shape := ⟨2, ![256, 1024]⟩
abbrev S320x4096 : Shape := ⟨2, ![320, 4096]⟩
abbrev S384x4096 : Shape := ⟨2, ![384, 4096]⟩
abbrev S448x4096 : Shape := ⟨2, ![448, 4096]⟩

abbrev nBuf : Space → Nat
  | .hbm => 29
  | .vmem => 6
  | .smem => 6
  | _ => 0

abbrev bufTy : (tb : Table) → Fin (tcTables nBuf tb) → BufTy
  | .hbm, ⟨0, _⟩ => ⟨S20480x4096, .bf16⟩
  | .hbm, ⟨1, _⟩ => ⟨S40, .i32⟩
  | .hbm, ⟨2, _⟩ => ⟨S2x8x4096x2048, .f32⟩
  | .hbm, ⟨3, _⟩ => ⟨S16x4096x2048, .f32⟩
  | .hbm, ⟨4, _⟩ => ⟨S_, .i32⟩
  | .hbm, ⟨5, _⟩ => ⟨S1, .i32⟩
  | .hbm, ⟨6, _⟩ => ⟨S39, .i32⟩
  | .hbm, ⟨7, _⟩ => ⟨S39, .i32⟩
  | .hbm, ⟨8, _⟩ => ⟨S39, .i1⟩
  | .hbm, ⟨9, _⟩ => ⟨S39, .i32⟩
  | .hbm, ⟨10, _⟩ => ⟨S_, .i32⟩
  | .hbm, ⟨11, _⟩ => ⟨S_, .i32⟩
  | .hbm, ⟨12, _⟩ => ⟨S40, .i32⟩
  | .hbm, ⟨13, _⟩ => ⟨S_, .i32⟩
  | .hbm, ⟨14, _⟩ => ⟨S40, .i32⟩
  | .hbm, ⟨15, _⟩ => ⟨S_, .i32⟩
  | .hbm, ⟨16, _⟩ => ⟨S40, .i32⟩
  | .hbm, ⟨17, _⟩ => ⟨S_, .i32⟩
  | .hbm, ⟨18, _⟩ => ⟨S40, .i32⟩
  | .hbm, ⟨19, _⟩ => ⟨S40, .i1⟩
  | .hbm, ⟨20, _⟩ => ⟨S_, .i32⟩
  | .hbm, ⟨21, _⟩ => ⟨S40, .i32⟩
  | .hbm, ⟨22, _⟩ => ⟨S40, .i32⟩
  | .hbm, ⟨23, _⟩ => ⟨S40, .i32⟩
  | .hbm, ⟨24, _⟩ => ⟨S40x1, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S20480x2048, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S4096x1024, .f32⟩
  | .local _ .vmem, ⟨5, _⟩ => ⟨S4096x1024, .bf16⟩
  | .local _ .smem, ⟨0, _⟩ => ⟨S40, .i32⟩
  | .local _ .smem, ⟨1, _⟩ => ⟨S40, .i32⟩
  | .local _ .smem, ⟨2, _⟩ => ⟨S40, .i32⟩
  | .local _ .smem, ⟨3, _⟩ => ⟨S40, .i32⟩
  | .local _ .smem, ⟨4, _⟩ => ⟨S40, .i32⟩
  | .local _ .smem, ⟨5, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_c : Ref sig .tc := ⟨.hbm, 10, rfl⟩
abbrev main_call0_call0_v0 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_c_1 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v19 : Ref sig .tc := ⟨.hbm, 25, rfl⟩
abbrev main_c_4 : Ref sig .tc := ⟨.hbm, 26, rfl⟩
abbrev main_v20 : Ref sig .tc := ⟨.hbm, 27, rfl⟩
abbrev main_v22 : Ref sig .tc := ⟨.hbm, 28, rfl⟩
abbrev main_v1 : Ref sig .tc := ⟨.smem, 0, rfl⟩
abbrev main_arg2 : Ref sig .tc := ⟨.smem, 1, rfl⟩
abbrev main_v7 : Ref sig .tc := ⟨.smem, 2, rfl⟩
abbrev main_v10 : Ref sig .tc := ⟨.smem, 3, rfl⟩
abbrev main_v18 : Ref sig .tc := ⟨.smem, 4, rfl⟩
abbrev main_v21 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 40], ![false, false]⟩

abbrev pre0 : Pipeline.Prefetch sig := ⟨6, ![main_v1.idx, main_arg2.idx, main_v7.idx, main_v10.idx, main_v18.idx, main_v21.idx], fun | 0 => main_v1.names | 1 => main_arg2.names | 2 => main_v7.names | 3 => main_v10.names | 4 => main_v18.names | 5 => main_v21.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 : BitVec 32 :=
  let c0_i32_26 : BitVec 32 := 0#32
  c0_i32_26
def k0_off2 (v67 : BitVec 32) : Fin 3 → Nat :=
  let c0_i32_28 : BitVec 32 := 0#32
  let c0_i32_26 : BitVec 32 := 0#32
  let v68 : BitVec 32 := c0_i32_26
  ![v67.toNat, 0, 0]
def k0_cond1 (v4 : BitVec 32) : BitVec 1 :=
  let c1_i32 : BitVec 32 := 1#32
  let v5 : BitVec 1 := Scalar.cmpi .eq v4 c1_i32
  let v6 : BitVec 32 := Scalar.extui v5
  let c0_i32 : BitVec 32 := 0#32
  let v7 : BitVec 1 := Scalar.cmpi .ne v6 c0_i32
  v7

def k0_cond2 (i : grid0.Coords) (v1 : BitVec 32) : BitVec 1 :=
  let arg0 : BitVec 32 := BitVec.ofNat 32 (i 0).val
  let c0_i32_10 : BitVec 32 := 0#32
  let v37 : BitVec 1 := Scalar.cmpi .eq arg0 c0_i32_10
  let c0_i32_11 : BitVec 32 := 0#32
  let v38 : BitVec 1 := Scalar.cmpi .eq v1 c0_i32_11
  let v39 : BitVec 1 := Scalar.andi v37 v38
  let v40 : BitVec 32 := Scalar.extui v39
  let c0_i32_12 : BitVec 32 := 0#32
  let v41 : BitVec 1 := Scalar.cmpi .ne v40 c0_i32_12
  v41

def k0_chk1 (i : grid0.Coords) (v1 : BitVec 32) (v4 : BitVec 32) (v67 : BitVec 32) : Prop :=
  (∀ (k0_h1 : k0_cond1 v4 = 1#1), ∀ (k0_h2 : k0_cond2 i v1 = 1#1), ∀ a, (k0_off2 v67) a + S1x4096x1024.size a ≤ S16x4096x2048.size a)
theorem k0_off2_inb : ∀ (i : grid0.Coords) (v1 : BitVec 32) (v4 : BitVec 32) (v67 : BitVec 32) (k0_hw1 : k0_chk1 i v1 v4 v67), ∀ (k0_h1 : k0_cond1 v4 = 1#1), ∀ (k0_h2 : k0_cond2 i v1 = 1#1), ∀ a, (k0_off2 v67) a + S1x4096x1024.size a ≤ S16x4096x2048.size a := fun i v1 v4 v67 k0_hw1 k0_h1 k0_h2 => k0_hw1 k0_h1 k0_h2

def k0_off3 (v1 : BitVec 32) : Fin 1 → Nat :=
  let v42 : Index := Scalar.indexCast v1
  ![v42.toNat]

def k0_mult2 (i : grid0.Coords) : BitVec 32 :=
  let arg0 : BitVec 32 := BitVec.ofNat 32 (i 0).val
  let c0_i32_13 : BitVec 32 := 0#32
  let v44 : BitVec 32 := Scalar.addi arg0 c0_i32_13
  let c1024_i32 : BitVec 32 := 1024#32
  let v45 : BitVec 32 := Scalar.muli v44 c1024_i32
  v45
def k0_off4 (i : grid0.Coords) (v43 : BitVec 32) : Fin 3 → Nat :=
  let c0_i32_15 : BitVec 32 := 0#32
  let arg0 : BitVec 32 := BitVec.ofNat 32 (i 0).val
  let c0_i32_13 : BitVec 32 := 0#32
  let v44 : BitVec 32 := Scalar.addi arg0 c0_i32_13
  let c1024_i32 : BitVec 32 := 1024#32
  let v45 : BitVec 32 := Scalar.muli v44 c1024_i32
  let v46 : BitVec 32 := v45
  ![v43.toNat, 0, v46.toNat]

def k0_chk3 (i : grid0.Coords) (v4 : BitVec 32) (v43 : BitVec 32) : Prop :=
  (∀ (k0_h1 : k0_cond1 v4 = 1#1), ∀ a, (k0_off4 i v43) a + S1x4096x1024.size a ≤ S16x4096x2048.size a)
theorem k0_off4_inb : ∀ (i : grid0.Coords) (v4 : BitVec 32) (v43 : BitVec 32) (k0_hw3 : k0_chk3 i v4 v43), ∀ (k0_h1 : k0_cond1 v4 = 1#1), ∀ a, (k0_off4 i v43) a + S1x4096x1024.size a ≤ S16x4096x2048.size a := fun i v4 v43 k0_hw3 k0_h1 => k0_hw3 k0_h1

def k0_off5 (v1 : BitVec 32) (v2 : BitVec 32) : Fin 1 → Nat :=
  let c1_i32_20 : BitVec 32 := 1#32
  let v56 : BitVec 32 := Scalar.addi v1 c1_i32_20
  let v57 : BitVec 1 := Scalar.cmpi .sge v56 v2
  let c0_i32_22 : BitVec 32 := 0#32
  let c1_i32_21 : BitVec 32 := 1#32
  let v58 : BitVec 32 := Scalar.addi v1 c1_i32_21
  let v59 : BitVec 32 := Scalar.select v57 c0_i32_22 v58
  let v60 : Index := Scalar.indexCast v59
  ![v60.toNat]
def k0_mult3 (i : grid0.Coords) (v1 : BitVec 32) (v2 : BitVec 32) : BitVec 32 :=
  let c1_i32_20 : BitVec 32 := 1#32
  let v56 : BitVec 32 := Scalar.addi v1 c1_i32_20
  let v57 : BitVec 1 := Scalar.cmpi .sge v56 v2
  let arg0 : BitVec 32 := BitVec.ofNat 32 (i 0).val
  let c1_i32_23 : BitVec 32 := 1#32
  let v62 : BitVec 32 := Scalar.addi arg0 c1_i32_23
  let v63 : BitVec 32 := Scalar.select v57 v62 arg0
  let c0_i32_25 : BitVec 32 := 0#32
  let v67 : BitVec 32 := Scalar.addi v63 c0_i32_25
  let c1024_i32_26 : BitVec 32 := 1024#32
  let v68 : BitVec 32 := Scalar.muli v67 c1024_i32_26
  v68
def k0_cond3 (i : grid0.Coords) (v1 : BitVec 32) (v2 : BitVec 32) : BitVec 1 :=
  let c1_i32_20 : BitVec 32 := 1#32
  let v56 : BitVec 32 := Scalar.addi v1 c1_i32_20
  let v57 : BitVec 1 := Scalar.cmpi .sge v56 v2
  let arg0 : BitVec 32 := BitVec.ofNat 32 (i 0).val
  let c1_i32_23 : BitVec 32 := 1#32
  let v62 : BitVec 32 := Scalar.addi arg0 c1_i32_23
  let v63 : BitVec 32 := Scalar.select v57 v62 arg0
  let c2_i32 : BitVec 32 := 2#32
  let v64 : BitVec 1 := Scalar.cmpi .slt v63 c2_i32
  let v65 : BitVec 32 := Scalar.extui v64
  let c0_i32_24 : BitVec 32 := 0#32
  let v66 : BitVec 1 := Scalar.cmpi .ne v65 c0_i32_24
  v66

def k0_chk2 (i : grid0.Coords) (v1 : BitVec 32) (v2 : BitVec 32) (v4 : BitVec 32) : Prop :=
  (∀ (k0_h1 : k0_cond1 v4 = 1#1), ∀ a, (k0_off3 v1) a + S1.size a ≤ S40.size a) ∧
  (∀ (k0_h1 : k0_cond1 v4 = 1#1), ∀ a, (k0_off5 v1 v2) a + S1.size a ≤ S40.size a) ∧
  (∀ (k0_h1 : k0_cond1 v4 = 1#1), ∀ (k0_h3 : k0_cond3 i v1 v2 = 1#1), 1024 ∣ (k0_mult3 i v1 v2).toNat)
theorem k0_off3_inb : ∀ (i : grid0.Coords) (v1 : BitVec 32) (v2 : BitVec 32) (v4 : BitVec 32) (k0_hw2 : k0_chk2 i v1 v2 v4), ∀ (k0_h1 : k0_cond1 v4 = 1#1), ∀ a, (k0_off3 v1) a + S1.size a ≤ S40.size a := fun i v1 v2 v4 k0_hw2 k0_h1 => k0_hw2.1 k0_h1
theorem k0_off5_inb : ∀ (i : grid0.Coords) (v1 : BitVec 32) (v2 : BitVec 32) (v4 : BitVec 32) (k0_hw2 : k0_chk2 i v1 v2 v4), ∀ (k0_h1 : k0_cond1 v4 = 1#1), ∀ a, (k0_off5 v1 v2) a + S1.size a ≤ S40.size a := fun i v1 v2 v4 k0_hw2 k0_h1 => k0_hw2.2.1 k0_h1
theorem k0_mult3_dvd : ∀ (i : grid0.Coords) (v1 : BitVec 32) (v2 : BitVec 32) (v4 : BitVec 32) (k0_hw2 : k0_chk2 i v1 v2 v4), ∀ (k0_h1 : k0_cond1 v4 = 1#1), ∀ (k0_h3 : k0_cond3 i v1 v2 = 1#1), 1024 ∣ (k0_mult3 i v1 v2).toNat := fun i v1 v2 v4 k0_hw2 k0_h1 k0_h3 => k0_hw2.2.2 k0_h1 k0_h3

def k0_off6 (i : grid0.Coords) (v1 : BitVec 32) (v2 : BitVec 32) (v61 : BitVec 32) : Fin 3 → Nat :=
  let c0_i32_28 : BitVec 32 := 0#32
  let c1_i32_20 : BitVec 32 := 1#32
  let v56 : BitVec 32 := Scalar.addi v1 c1_i32_20
  let v57 : BitVec 1 := Scalar.cmpi .sge v56 v2
  let arg0 : BitVec 32 := BitVec.ofNat 32 (i 0).val
  let c1_i32_23 : BitVec 32 := 1#32
  let v62 : BitVec 32 := Scalar.addi arg0 c1_i32_23
  let v63 : BitVec 32 := Scalar.select v57 v62 arg0
  let c0_i32_25 : BitVec 32 := 0#32
  let v67 : BitVec 32 := Scalar.addi v63 c0_i32_25
  let c1024_i32_26 : BitVec 32 := 1024#32
  let v68 : BitVec 32 := Scalar.muli v67 c1024_i32_26
  let v69 : BitVec 32 := v68
  ![v61.toNat, 0, v69.toNat]

def k0_chk4 (i : grid0.Coords) (v1 : BitVec 32) (v2 : BitVec 32) (v4 : BitVec 32) (v61 : BitVec 32) : Prop :=
  (∀ (k0_h1 : k0_cond1 v4 = 1#1), ∀ (k0_h3 : k0_cond3 i v1 v2 = 1#1), ∀ a, (k0_off6 i v1 v2 v61) a + S1x4096x1024.size a ≤ S16x4096x2048.size a)
theorem k0_off6_inb : ∀ (i : grid0.Coords) (v1 : BitVec 32) (v2 : BitVec 32) (v4 : BitVec 32) (v61 : BitVec 32) (k0_hw4 : k0_chk4 i v1 v2 v4 v61), ∀ (k0_h1 : k0_cond1 v4 = 1#1), ∀ (k0_h3 : k0_cond3 i v1 v2 = 1#1), ∀ a, (k0_off6 i v1 v2 v61) a + S1x4096x1024.size a ≤ S16x4096x2048.size a := fun i v1 v2 v4 v61 k0_hw4 k0_h1 k0_h3 => k0_hw4 k0_h1 k0_h3

def k0_off7 (i : grid0.Coords) : Fin 1 → Nat :=
  let arg1 : BitVec 32 := BitVec.ofNat 32 (i 1).val
  let v8 : Index := Scalar.indexCast arg1
  ![v8.toNat]
def k0_cond4 (v9 : BitVec 32) : BitVec 1 :=
  let c64_i32 : BitVec 32 := 64#32
  let v10 : BitVec 1 := Scalar.cmpi .eq v9 c64_i32
  let v11 : BitVec 32 := Scalar.extui v10
  let c0_i32_0 : BitVec 32 := 0#32
  let v12 : BitVec 1 := Scalar.cmpi .ne v11 c0_i32_0
  v12

def k0_cond5 (v9 : BitVec 32) : BitVec 1 :=
  let c128_i32 : BitVec 32 := 128#32
  let v13 : BitVec 1 := Scalar.cmpi .eq v9 c128_i32
  let v14 : BitVec 32 := Scalar.extui v13
  let c0_i32_1 : BitVec 32 := 0#32
  let v15 : BitVec 1 := Scalar.cmpi .ne v14 c0_i32_1
  v15

def k0_cond6 (v9 : BitVec 32) : BitVec 1 :=
  let c192_i32 : BitVec 32 := 192#32
  let v16 : BitVec 1 := Scalar.cmpi .eq v9 c192_i32
  let v17 : BitVec 32 := Scalar.extui v16
  let c0_i32_2 : BitVec 32 := 0#32
  let v18 : BitVec 1 := Scalar.cmpi .ne v17 c0_i32_2
  v18

def k0_cond7 (v9 : BitVec 32) : BitVec 1 :=
  let c256_i32 : BitVec 32 := 256#32
  let v19 : BitVec 1 := Scalar.cmpi .eq v9 c256_i32
  let v20 : BitVec 32 := Scalar.extui v19
  let c0_i32_3 : BitVec 32 := 0#32
  let v21 : BitVec 1 := Scalar.cmpi .ne v20 c0_i32_3
  v21

def k0_cond8 (v9 : BitVec 32) : BitVec 1 :=
  let c320_i32 : BitVec 32 := 320#32
  let v22 : BitVec 1 := Scalar.cmpi .eq v9 c320_i32
  let v23 : BitVec 32 := Scalar.extui v22
  let c0_i32_4 : BitVec 32 := 0#32
  let v24 : BitVec 1 := Scalar.cmpi .ne v23 c0_i32_4
  v24

def k0_cond9 (v9 : BitVec 32) : BitVec 1 :=
  let c384_i32 : BitVec 32 := 384#32
  let v25 : BitVec 1 := Scalar.cmpi .eq v9 c384_i32
  let v26 : BitVec 32 := Scalar.extui v25
  let c0_i32_5 : BitVec 32 := 0#32
  let v27 : BitVec 1 := Scalar.cmpi .ne v26 c0_i32_5
  v27

def k0_cond10 (v9 : BitVec 32) : BitVec 1 :=
  let c448_i32 : BitVec 32 := 448#32
  let v28 : BitVec 1 := Scalar.cmpi .eq v9 c448_i32
  let v29 : BitVec 32 := Scalar.extui v28
  let c0_i32_6 : BitVec 32 := 0#32
  let v30 : BitVec 1 := Scalar.cmpi .ne v29 c0_i32_6
  v30

def k0_cond11 (v9 : BitVec 32) : BitVec 1 :=
  let c512_i32 : BitVec 32 := 512#32
  let v31 : BitVec 1 := Scalar.cmpi .eq v9 c512_i32
  let v32 : BitVec 32 := Scalar.extui v31
  let c0_i32_7 : BitVec 32 := 0#32
  let v33 : BitVec 1 := Scalar.cmpi .ne v32 c0_i32_7
  v33

def k0_cond12 (v9 : BitVec 32) : BitVec 1 :=
  let c0_i32_8 : BitVec 32 := 0#32
  let v34 : BitVec 1 := Scalar.cmpi .eq v9 c0_i32_8
  let v35 : BitVec 32 := Scalar.extui v34
  let c0_i32_9 : BitVec 32 := 0#32
  let v36 : BitVec 1 := Scalar.cmpi .ne v35 c0_i32_9
  v36

def cc0_transform_0 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Kernel4Ideal.lean ====
abbrev S20480x4096 : Shape := ⟨2, ![20480, 4096]⟩
abbrev S40 : Shape := ⟨1, ![40]⟩
abbrev S2x8x4096x2048 : Shape := ⟨4, ![2, 8, 4096, 2048]⟩
abbrev S16x4096x2048 : Shape := ⟨3, ![16, 4096, 2048]⟩
abbrev S_ : Shape := ⟨0, ![]⟩
abbrev S1 : Shape := ⟨1, ![1]⟩
abbrev S39 : Shape := ⟨1, ![39]⟩
abbrev S40x1 : Shape := ⟨2, ![40, 1]⟩
abbrev S20480x2048 : Shape := ⟨2, ![20480, 2048]⟩
abbrev S512x4096 : Shape := ⟨2, ![512, 4096]⟩
abbrev S512x1024 : Shape := ⟨2, ![512, 1024]⟩
abbrev S4096x1024 : Shape := ⟨2, ![4096, 1024]⟩
abbrev S1x4096x1024 : Shape := ⟨3, ![1, 4096, 1024]⟩
abbrev S64x4096 : Shape := ⟨2, ![64, 4096]⟩
abbrev S64x1024 : Shape := ⟨2, ![64, 1024]⟩
abbrev S448x1024 : Shape := ⟨2, ![448, 1024]⟩
abbrev S128x4096 : Shape := ⟨2, ![128, 4096]⟩
abbrev S128x1024 : Shape := ⟨2, ![128, 1024]⟩
abbrev S384x1024 : Shape := ⟨2, ![384, 1024]⟩
abbrev S192x4096 : Shape := ⟨2, ![192, 4096]⟩
abbrev S192x1024 : Shape := ⟨2, ![192, 1024]⟩
abbrev S320x1024 : Shape := ⟨2, ![320, 1024]⟩
abbrev S256x4096 : Shape := ⟨2, ![256, 4096]⟩
abbrev S256x1024 : Shape := ⟨2, ![256, 1024]⟩
abbrev S320x4096 : Shape := ⟨2, ![320, 4096]⟩
abbrev S384x4096 : Shape := ⟨2, ![384, 4096]⟩
abbrev S448x4096 : Shape := ⟨2, ![448, 4096]⟩

abbrev nBuf : Space → Nat
  | .hbm => 29
  | .vmem => 6
  | .smem => 6
  | _ => 0

abbrev bufTy : (tb : Table) → Fin (tcTables nBuf tb) → BufTy
  | .hbm, ⟨0, _⟩ => ⟨S20480x4096, .bf16⟩
  | .hbm, ⟨1, _⟩ => ⟨S40, .i32⟩
  | .hbm, ⟨2, _⟩ => ⟨S2x8x4096x2048, .f32⟩
  | .hbm, ⟨3, _⟩ => ⟨S16x4096x2048, .f32⟩
  | .hbm, ⟨4, _⟩ => ⟨S_, .i32⟩
  | .hbm, ⟨5, _⟩ => ⟨S1, .i32⟩
  | .hbm, ⟨6, _⟩ => ⟨S39, .i32⟩
  | .hbm, ⟨7, _⟩ => ⟨S39, .i32⟩
  | .hbm, ⟨8, _⟩ => ⟨S39, .i1⟩
  | .hbm, ⟨9, _⟩ => ⟨S39, .i32⟩
  | .hbm, ⟨10, _⟩ => ⟨S_, .i32⟩
  | .hbm, ⟨11, _⟩ => ⟨S_, .i32⟩
  | .hbm, ⟨12, _⟩ => ⟨S40, .i32⟩
  | .hbm, ⟨13, _⟩ => ⟨S_, .i32⟩
  | .hbm, ⟨14, _⟩ => ⟨S40, .i32⟩
  | .hbm, ⟨15, _⟩ => ⟨S_, .i32⟩
  | .hbm, ⟨16, _⟩ => ⟨S40, .i32⟩
  | .hbm, ⟨17, _⟩ => ⟨S_, .i32⟩
  | .hbm, ⟨18, _⟩ => ⟨S40, .i32⟩
  | .hbm, ⟨19, _⟩ => ⟨S40, .i1⟩
  | .hbm, ⟨20, _⟩ => ⟨S_, .i32⟩
  | .hbm, ⟨21, _⟩ => ⟨S40, .i32⟩
  | .hbm, ⟨22, _⟩ => ⟨S40, .i32⟩
  | .hbm, ⟨23, _⟩ => ⟨S40, .i32⟩
  | .hbm, ⟨24, _⟩ => ⟨S40x1, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S20480x2048, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S4096x1024, .f32⟩
  | .local _ .vmem, ⟨5, _⟩ => ⟨S4096x1024, .bf16⟩
  | .local _ .smem, ⟨0, _⟩ => ⟨S40, .i32⟩
  | .local _ .smem, ⟨1, _⟩ => ⟨S40, .i32⟩
  | .local _ .smem, ⟨2, _⟩ => ⟨S40, .i32⟩
  | .local _ .smem, ⟨3, _⟩ => ⟨S40, .i32⟩
  | .local _ .smem, ⟨4, _⟩ => ⟨S40, .i32⟩
  | .local _ .smem, ⟨5, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_c : Ref sig .tc := ⟨.hbm, 10, rfl⟩
abbrev main_call0_call0_v0 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_c_1 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v19 : Ref sig .tc := ⟨.hbm, 25, rfl⟩
abbrev main_c_4 : Ref sig .tc := ⟨.hbm, 26, rfl⟩
abbrev main_v20 : Ref sig .tc := ⟨.hbm, 27, rfl⟩
abbrev main_v22 : Ref sig .tc := ⟨.hbm, 28, rfl⟩
abbrev main_v1 : Ref sig .tc := ⟨.smem, 0, rfl⟩
abbrev main_arg2 : Ref sig .tc := ⟨.smem, 1, rfl⟩
abbrev main_v7 : Ref sig .tc := ⟨.smem, 2, rfl⟩
abbrev main_v10 : Ref sig .tc := ⟨.smem, 3, rfl⟩
abbrev main_v18 : Ref sig .tc := ⟨.smem, 4, rfl⟩
abbrev main_v21 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 40], ![false, false]⟩

abbrev pre0 : Pipeline.Prefetch sig := ⟨6, ![main_v1.idx, main_arg2.idx, main_v7.idx, main_v10.idx, main_v18.idx, main_v21.idx], fun | 0 => main_v1.names | 1 => main_arg2.names | 2 => main_v7.names | 3 => main_v10.names | 4 => main_v18.names | 5 => main_v21.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 : BitVec 32 :=
  let c0_i32_26 : BitVec 32 := 0#32
  c0_i32_26
def k0_off2 (v67 : BitVec 32) : Fin 3 → Nat :=
  let c0_i32_28 : BitVec 32 := 0#32
  let c0_i32_26 : BitVec 32 := 0#32
  let v68 : BitVec 32 := c0_i32_26
  ![v67.toNat, 0, 0]
def k0_cond1 (v4 : BitVec 32) : BitVec 1 :=
  let c1_i32 : BitVec 32 := 1#32
  let v5 : BitVec 1 := Scalar.cmpi .eq v4 c1_i32
  let v6 : BitVec 32 := Scalar.extui v5
  let c0_i32 : BitVec 32 := 0#32
  let v7 : BitVec 1 := Scalar.cmpi .ne v6 c0_i32
  v7

def k0_cond2 (i : grid0.Coords) (v1 : BitVec 32) : BitVec 1 :=
  let arg0 : BitVec 32 := BitVec.ofNat 32 (i 0).val
  let c0_i32_10 : BitVec 32 := 0#32
  let v37 : BitVec 1 := Scalar.cmpi .eq arg0 c0_i32_10
  let c0_i32_11 : BitVec 32 := 0#32
  let v38 : BitVec 1 := Scalar.cmpi .eq v1 c0_i32_11
  let v39 : BitVec 1 := Scalar.andi v37 v38
  let v40 : BitVec 32 := Scalar.extui v39
  let c0_i32_12 : BitVec 32 := 0#32
  let v41 : BitVec 1 := Scalar.cmpi .ne v40 c0_i32_12
  v41

def k0_chk1 (i : grid0.Coords) (v1 : BitVec 32) (v4 : BitVec 32) (v67 : BitVec 32) : Prop :=
  (∀ (k0_h1 : k0_cond1 v4 = 1#1), ∀ (k0_h2 : k0_cond2 i v1 = 1#1), ∀ a, (k0_off2 v67) a + S1x4096x1024.size a ≤ S16x4096x2048.size a)
theorem k0_off2_inb : ∀ (i : grid0.Coords) (v1 : BitVec 32) (v4 : BitVec 32) (v67 : BitVec 32) (k0_hw1 : k0_chk1 i v1 v4 v67), ∀ (k0_h1 : k0_cond1 v4 = 1#1), ∀ (k0_h2 : k0_cond2 i v1 = 1#1), ∀ a, (k0_off2 v67) a + S1x4096x1024.size a ≤ S16x4096x2048.size a := fun i v1 v4 v67 k0_hw1 k0_h1 k0_h2 => k0_hw1 k0_h1 k0_h2

def k0_off3 (v1 : BitVec 32) : Fin 1 → Nat :=
  let v42 : Index := Scalar.indexCast v1
  ![v42.toNat]

def k0_mult2 (i : grid0.Coords) : BitVec 32 :=
  let arg0 : BitVec 32 := BitVec.ofNat 32 (i 0).val
  let c0_i32_13 : BitVec 32 := 0#32
  let v44 : BitVec 32 := Scalar.addi arg0 c0_i32_13
  let c1024_i32 : BitVec 32 := 1024#32
  let v45 : BitVec 32 := Scalar.muli v44 c1024_i32
  v45
def k0_off4 (i : grid0.Coords) (v43 : BitVec 32) : Fin 3 → Nat :=
  let c0_i32_15 : BitVec 32 := 0#32
  let arg0 : BitVec 32 := BitVec.ofNat 32 (i 0).val
  let c0_i32_13 : BitVec 32 := 0#32
  let v44 : BitVec 32 := Scalar.addi arg0 c0_i32_13
  let c1024_i32 : BitVec 32 := 1024#32
  let v45 : BitVec 32 := Scalar.muli v44 c1024_i32
  let v46 : BitVec 32 := v45
  ![v43.toNat, 0, v46.toNat]

def k0_chk3 (i : grid0.Coords) (v4 : BitVec 32) (v43 : BitVec 32) : Prop :=
  (∀ (k0_h1 : k0_cond1 v4 = 1#1), ∀ a, (k0_off4 i v43) a + S1x4096x1024.size a ≤ S16x4096x2048.size a)
theorem k0_off4_inb : ∀ (i : grid0.Coords) (v4 : BitVec 32) (v43 : BitVec 32) (k0_hw3 : k0_chk3 i v4 v43), ∀ (k0_h1 : k0_cond1 v4 = 1#1), ∀ a, (k0_off4 i v43) a + S1x4096x1024.size a ≤ S16x4096x2048.size a := fun i v4 v43 k0_hw3 k0_h1 => k0_hw3 k0_h1

def k0_off5 (v1 : BitVec 32) (v2 : BitVec 32) : Fin 1 → Nat :=
  let c1_i32_20 : BitVec 32 := 1#32
  let v56 : BitVec 32 := Scalar.addi v1 c1_i32_20
  let v57 : BitVec 1 := Scalar.cmpi .sge v56 v2
  let c0_i32_22 : BitVec 32 := 0#32
  let c1_i32_21 : BitVec 32 := 1#32
  let v58 : BitVec 32 := Scalar.addi v1 c1_i32_21
  let v59 : BitVec 32 := Scalar.select v57 c0_i32_22 v58
  let v60 : Index := Scalar.indexCast v59
  ![v60.toNat]
def k0_mult3 (i : grid0.Coords) (v1 : BitVec 32) (v2 : BitVec 32) : BitVec 32 :=
  let c1_i32_20 : BitVec 32 := 1#32
  let v56 : BitVec 32 := Scalar.addi v1 c1_i32_20
  let v57 : BitVec 1 := Scalar.cmpi .sge v56 v2
  let arg0 : BitVec 32 := BitVec.ofNat 32 (i 0).val
  let c1_i32_23 : BitVec 32 := 1#32
  let v62 : BitVec 32 := Scalar.addi arg0 c1_i32_23
  let v63 : BitVec 32 := Scalar.select v57 v62 arg0
  let c0_i32_25 : BitVec 32 := 0#32
  let v67 : BitVec 32 := Scalar.addi v63 c0_i32_25
  let c1024_i32_26 : BitVec 32 := 1024#32
  let v68 : BitVec 32 := Scalar.muli v67 c1024_i32_26
  v68
def k0_cond3 (i : grid0.Coords) (v1 : BitVec 32) (v2 : BitVec 32) : BitVec 1 :=
  let c1_i32_20 : BitVec 32 := 1#32
  let v56 : BitVec 32 := Scalar.addi v1 c1_i32_20
  let v57 : BitVec 1 := Scalar.cmpi .sge v56 v2
  let arg0 : BitVec 32 := BitVec.ofNat 32 (i 0).val
  let c1_i32_23 : BitVec 32 := 1#32
  let v62 : BitVec 32 := Scalar.addi arg0 c1_i32_23
  let v63 : BitVec 32 := Scalar.select v57 v62 arg0
  let c2_i32 : BitVec 32 := 2#32
  let v64 : BitVec 1 := Scalar.cmpi .slt v63 c2_i32
  let v65 : BitVec 32 := Scalar.extui v64
  let c0_i32_24 : BitVec 32 := 0#32
  let v66 : BitVec 1 := Scalar.cmpi .ne v65 c0_i32_24
  v66

def k0_chk2 (i : grid0.Coords) (v1 : BitVec 32) (v2 : BitVec 32) (v4 : BitVec 32) : Prop :=
  (∀ (k0_h1 : k0_cond1 v4 = 1#1), ∀ a, (k0_off3 v1) a + S1.size a ≤ S40.size a) ∧
  (∀ (k0_h1 : k0_cond1 v4 = 1#1), ∀ a, (k0_off5 v1 v2) a + S1.size a ≤ S40.size a) ∧
  (∀ (k0_h1 : k0_cond1 v4 = 1#1), ∀ (k0_h3 : k0_cond3 i v1 v2 = 1#1), 1024 ∣ (k0_mult3 i v1 v2).toNat)
theorem k0_off3_inb : ∀ (i : grid0.Coords) (v1 : BitVec 32) (v2 : BitVec 32) (v4 : BitVec 32) (k0_hw2 : k0_chk2 i v1 v2 v4), ∀ (k0_h1 : k0_cond1 v4 = 1#1), ∀ a, (k0_off3 v1) a + S1.size a ≤ S40.size a := fun i v1 v2 v4 k0_hw2 k0_h1 => k0_hw2.1 k0_h1
theorem k0_off5_inb : ∀ (i : grid0.Coords) (v1 : BitVec 32) (v2 : BitVec 32) (v4 : BitVec 32) (k0_hw2 : k0_chk2 i v1 v2 v4), ∀ (k0_h1 : k0_cond1 v4 = 1#1), ∀ a, (k0_off5 v1 v2) a + S1.size a ≤ S40.size a := fun i v1 v2 v4 k0_hw2 k0_h1 => k0_hw2.2.1 k0_h1
theorem k0_mult3_dvd : ∀ (i : grid0.Coords) (v1 : BitVec 32) (v2 : BitVec 32) (v4 : BitVec 32) (k0_hw2 : k0_chk2 i v1 v2 v4), ∀ (k0_h1 : k0_cond1 v4 = 1#1), ∀ (k0_h3 : k0_cond3 i v1 v2 = 1#1), 1024 ∣ (k0_mult3 i v1 v2).toNat := fun i v1 v2 v4 k0_hw2 k0_h1 k0_h3 => k0_hw2.2.2 k0_h1 k0_h3

def k0_off6 (i : grid0.Coords) (v1 : BitVec 32) (v2 : BitVec 32) (v61 : BitVec 32) : Fin 3 → Nat :=
  let c0_i32_28 : BitVec 32 := 0#32
  let c1_i32_20 : BitVec 32 := 1#32
  let v56 : BitVec 32 := Scalar.addi v1 c1_i32_20
  let v57 : BitVec 1 := Scalar.cmpi .sge v56 v2
  let arg0 : BitVec 32 := BitVec.ofNat 32 (i 0).val
  let c1_i32_23 : BitVec 32 := 1#32
  let v62 : BitVec 32 := Scalar.addi arg0 c1_i32_23
  let v63 : BitVec 32 := Scalar.select v57 v62 arg0
  let c0_i32_25 : BitVec 32 := 0#32
  let v67 : BitVec 32 := Scalar.addi v63 c0_i32_25
  let c1024_i32_26 : BitVec 32 := 1024#32
  let v68 : BitVec 32 := Scalar.muli v67 c1024_i32_26
  let v69 : BitVec 32 := v68
  ![v61.toNat, 0, v69.toNat]

def k0_chk4 (i : grid0.Coords) (v1 : BitVec 32) (v2 : BitVec 32) (v4 : BitVec 32) (v61 : BitVec 32) : Prop :=
  (∀ (k0_h1 : k0_cond1 v4 = 1#1), ∀ (k0_h3 : k0_cond3 i v1 v2 = 1#1), ∀ a, (k0_off6 i v1 v2 v61) a + S1x4096x1024.size a ≤ S16x4096x2048.size a)
theorem k0_off6_inb : ∀ (i : grid0.Coords) (v1 : BitVec 32) (v2 : BitVec 32) (v4 : BitVec 32) (v61 : BitVec 32) (k0_hw4 : k0_chk4 i v1 v2 v4 v61), ∀ (k0_h1 : k0_cond1 v4 = 1#1), ∀ (k0_h3 : k0_cond3 i v1 v2 = 1#1), ∀ a, (k0_off6 i v1 v2 v61) a + S1x4096x1024.size a ≤ S16x4096x2048.size a := fun i v1 v2 v4 v61 k0_hw4 k0_h1 k0_h3 => k0_hw4 k0_h1 k0_h3

def k0_off7 (i : grid0.Coords) : Fin 1 → Nat :=
  let arg1 : BitVec 32 := BitVec.ofNat 32 (i 1).val
  let v8 : Index := Scalar.indexCast arg1
  ![v8.toNat]
def k0_cond4 (v9 : BitVec 32) : BitVec 1 :=
  let c64_i32 : BitVec 32 := 64#32
  let v10 : BitVec 1 := Scalar.cmpi .eq v9 c64_i32
  let v11 : BitVec 32 := Scalar.extui v10
  let c0_i32_0 : BitVec 32 := 0#32
  let v12 : BitVec 1 := Scalar.cmpi .ne v11 c0_i32_0
  v12

def k0_cond5 (v9 : BitVec 32) : BitVec 1 :=
  let c128_i32 : BitVec 32 := 128#32
  let v13 : BitVec 1 := Scalar.cmpi .eq v9 c128_i32
  let v14 : BitVec 32 := Scalar.extui v13
  let c0_i32_1 : BitVec 32 := 0#32
  let v15 : BitVec 1 := Scalar.cmpi .ne v14 c0_i32_1
  v15

def k0_cond6 (v9 : BitVec 32) : BitVec 1 :=
  let c192_i32 : BitVec 32 := 192#32
  let v16 : BitVec 1 := Scalar.cmpi .eq v9 c192_i32
  let v17 : BitVec 32 := Scalar.extui v16
  let c0_i32_2 : BitVec 32 := 0#32
  let v18 : BitVec 1 := Scalar.cmpi .ne v17 c0_i32_2
  v18

def k0_cond7 (v9 : BitVec 32) : BitVec 1 :=
  let c256_i32 : BitVec 32 := 256#32
  let v19 : BitVec 1 := Scalar.cmpi .eq v9 c256_i32
  let v20 : BitVec 32 := Scalar.extui v19
  let c0_i32_3 : BitVec 32 := 0#32
  let v21 : BitVec 1 := Scalar.cmpi .ne v20 c0_i32_3
  v21

def k0_cond8 (v9 : BitVec 32) : BitVec 1 :=
  let c320_i32 : BitVec 32 := 320#32
  let v22 : BitVec 1 := Scalar.cmpi .eq v9 c320_i32
  let v23 : BitVec 32 := Scalar.extui v22
  let c0_i32_4 : BitVec 32 := 0#32
  let v24 : BitVec 1 := Scalar.cmpi .ne v23 c0_i32_4
  v24

def k0_cond9 (v9 : BitVec 32) : BitVec 1 :=
  let c384_i32 : BitVec 32 := 384#32
  let v25 : BitVec 1 := Scalar.cmpi .eq v9 c384_i32
  let v26 : BitVec 32 := Scalar.extui v25
  let c0_i32_5 : BitVec 32 := 0#32
  let v27 : BitVec 1 := Scalar.cmpi .ne v26 c0_i32_5
  v27

def k0_cond10 (v9 : BitVec 32) : BitVec 1 :=
  let c448_i32 : BitVec 32 := 448#32
  let v28 : BitVec 1 := Scalar.cmpi .eq v9 c448_i32
  let v29 : BitVec 32 := Scalar.extui v28
  let c0_i32_6 : BitVec 32 := 0#32
  let v30 : BitVec 1 := Scalar.cmpi .ne v29 c0_i32_6
  v30

def k0_cond11 (v9 : BitVec 32) : BitVec 1 :=
  let c512_i32 : BitVec 32 := 512#32
  let v31 : BitVec 1 := Scalar.cmpi .eq v9 c512_i32
  let v32 : BitVec 32 := Scalar.extui v31
  let c0_i32_7 : BitVec 32 := 0#32
  let v33 : BitVec 1 := Scalar.cmpi .ne v32 c0_i32_7
  v33

def k0_cond12 (v9 : BitVec 32) : BitVec 1 :=
  let c0_i32_8 : BitVec 32 := 0#32
  let v34 : BitVec 1 := Scalar.cmpi .eq v9 c0_i32_8
  let v35 : BitVec 32 := Scalar.extui v34
  let c0_i32_9 : BitVec 32 := 0#32
  let v36 : BitVec 1 := Scalar.cmpi .ne v35 c0_i32_9
  v36

def cc0_transform_0 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference4Ideal.lean ====
abbrev S20480x4096 : Shape := ⟨2, ![20480, 4096]⟩
abbrev S40 : Shape := ⟨1, ![40]⟩
abbrev S2x8x4096x2048 : Shape := ⟨4, ![2, 8, 4096, 2048]⟩
abbrev S40x512x4096 : Shape := ⟨3, ![40, 512, 4096]⟩
abbrev S16x4096x2048 : Shape := ⟨3, ![16, 4096, 2048]⟩
abbrev S_ : Shape := ⟨0, ![]⟩
abbrev S40x1 : Shape := ⟨2, ![40, 1]⟩
abbrev S40x4096x2048 : Shape := ⟨3, ![40, 4096, 2048]⟩
abbrev S40x512x2048 : Shape := ⟨3, ![40, 512, 2048]⟩
abbrev S512 : Shape := ⟨1, ![512]⟩
abbrev S1x512x1 : Shape := ⟨3, ![1, 512, 1]⟩
abbrev S40x1x1 : Shape := ⟨3, ![40, 1, 1]⟩
abbrev S40x512x1 : Shape := ⟨3, ![40, 512, 1]⟩
abbrev S20480x2048 : Shape := ⟨2, ![20480, 2048]⟩

abbrev nBuf : Space → Nat
  | .hbm => 28
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S40, .i32⟩
  | .hbm, ⟨2, _⟩ => ⟨S40, .i32⟩
  | .hbm, ⟨3, _⟩ => ⟨S2x8x4096x2048, .f32⟩
  | .hbm, ⟨4, _⟩ => ⟨S40x512x4096, .bf16⟩
  | .hbm, ⟨5, _⟩ => ⟨S16x4096x2048, .f32⟩
  | .hbm, ⟨6, _⟩ => ⟨S_, .i32⟩
  | .hbm, ⟨7, _⟩ => ⟨S40, .i32⟩
  | .hbm, ⟨8, _⟩ => ⟨S40, .i1⟩
  | .hbm, ⟨9, _⟩ => ⟨S_, .i32⟩
  | .hbm, ⟨10, _⟩ => ⟨S40, .i32⟩
  | .hbm, ⟨11, _⟩ => ⟨S40, .i32⟩
  | .hbm, ⟨12, _⟩ => ⟨S40, .i32⟩
  | .hbm, ⟨13, _⟩ => ⟨S40x1, .i32⟩
  | .hbm, ⟨14, _⟩ => ⟨S40x4096x2048, .f32⟩
  | .hbm, ⟨15, _⟩ => ⟨S40x512x2048, .f32⟩
  | .hbm, ⟨16, _⟩ => ⟨S512, .i32⟩
  | .hbm, ⟨17, _⟩ => ⟨S1x512x1, .i32⟩
  | .hbm, ⟨18, _⟩ => ⟨S40x1x1, .i32⟩
  | .hbm, ⟨19, _⟩ => ⟨S40x512x1, .i32⟩
  | .hbm, ⟨20, _⟩ => ⟨S40x512x1, .i32⟩
  | .hbm, ⟨21, _⟩ => ⟨S40x512x1, .i1⟩
  | .hbm, ⟨22, _⟩ => ⟨S_, .f32⟩
  | .hbm, ⟨23, _⟩ => ⟨S_, .f32⟩
  | .hbm, ⟨24, _⟩ => ⟨S40x512x2048, .i1⟩
  | .hbm, ⟨25, _⟩ => ⟨S40x512x2048, .f32⟩
  | .hbm, ⟨26, _⟩ => ⟨S40x512x2048, .f32⟩
  | .hbm, ⟨27, _⟩ => ⟨S20480x2048, .f32⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel5.lean ====
abbrev S22528x4096 : Shape := ⟨2, ![22528, 4096]⟩
abbrev S44 : Shape := ⟨1, ![44]⟩
abbrev S2x8x4096x2048 : Shape := ⟨4, ![2, 8, 4096, 2048]⟩
abbrev S16x4096x2048 : Shape := ⟨3, ![16, 4096, 2048]⟩
abbrev S_ : Shape := ⟨0, ![]⟩
abbrev S1 : Shape := ⟨1, ![1]⟩
abbrev S43 : Shape := ⟨1, ![43]⟩
abbrev S44x1 : Shape := ⟨2, ![44, 1]⟩
abbrev S22528x2048 : Shape := ⟨2, ![22528, 2048]⟩
abbrev S512x4096 : Shape := ⟨2, ![512, 4096]⟩
abbrev S512x1024 : Shape := ⟨2, ![512, 1024]⟩
abbrev S4096x1024 : Shape := ⟨2, ![4096, 1024]⟩
abbrev S1x4096x1024 : Shape := ⟨3, ![1, 4096, 1024]⟩
abbrev S64x4096 : Shape := ⟨2, ![64, 4096]⟩
abbrev S64x1024 : Shape := ⟨2, ![64, 1024]⟩
abbrev S448x1024 : Shape := ⟨2, ![448, 1024]⟩
abbrev S128x4096 : Shape := ⟨2, ![128, 4096]⟩
abbrev S128x1024 : Shape := ⟨2, ![128, 1024]⟩
abbrev S384x1024 : Shape := ⟨2, ![384, 1024]⟩
abbrev S192x4096 : Shape := ⟨2, ![192, 4096]⟩
abbrev S192x1024 : Shape := ⟨2, ![192, 1024]⟩
abbrev S320x1024 : Shape := ⟨2, ![320, 1024]⟩
abbrev S256x4096 : Shape := ⟨2, ![256, 4096]⟩
abbrev S256x1024 : Shape := ⟨2, ![256, 1024]⟩
abbrev S320x4096 : Shape := ⟨2, ![320, 4096]⟩
abbrev S384x4096 : Shape := ⟨2, ![384, 4096]⟩
abbrev S448x4096 : Shape := ⟨2, ![448, 4096]⟩

abbrev nBuf : Space → Nat
  | .hbm => 29
  | .vmem => 6
  | .smem => 6
  | _ => 0

abbrev bufTy : (tb : Table) → Fin (tcTables nBuf tb) → BufTy
  | .hbm, ⟨0, _⟩ => ⟨S22528x4096, .bf16⟩
  | .hbm, ⟨1, _⟩ => ⟨S44, .i32⟩
  | .hbm, ⟨2, _⟩ => ⟨S2x8x4096x2048, .f32⟩
  | .hbm, ⟨3, _⟩ => ⟨S16x4096x2048, .f32⟩
  | .hbm, ⟨4, _⟩ => ⟨S_, .i32⟩
  | .hbm, ⟨5, _⟩ => ⟨S1, .i32⟩
  | .hbm, ⟨6, _⟩ => ⟨S43, .i32⟩
  | .hbm, ⟨7, _⟩ => ⟨S43, .i32⟩
  | .hbm, ⟨8, _⟩ => ⟨S43, .i1⟩
  | .hbm, ⟨9, _⟩ => ⟨S43, .i32⟩
  | .hbm, ⟨10, _⟩ => ⟨S_, .i32⟩
  | .hbm, ⟨11, _⟩ => ⟨S_, .i32⟩
  | .hbm, ⟨12, _⟩ => ⟨S44, .i32⟩
  | .hbm, ⟨13, _⟩ => ⟨S_, .i32⟩
  | .hbm, ⟨14, _⟩ => ⟨S44, .i32⟩
  | .hbm, ⟨15, _⟩ => ⟨S_, .i32⟩
  | .hbm, ⟨16, _⟩ => ⟨S44, .i32⟩
  | .hbm, ⟨17, _⟩ => ⟨S_, .i32⟩
  | .hbm, ⟨18, _⟩ => ⟨S44, .i32⟩
  | .hbm, ⟨19, _⟩ => ⟨S44, .i1⟩
  | .hbm, ⟨20, _⟩ => ⟨S_, .i32⟩
  | .hbm, ⟨21, _⟩ => ⟨S44, .i32⟩
  | .hbm, ⟨22, _⟩ => ⟨S44, .i32⟩
  | .hbm, ⟨23, _⟩ => ⟨S44, .i32⟩
  | .hbm, ⟨24, _⟩ => ⟨S44x1, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S22528x2048, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S4096x1024, .f32⟩
  | .local _ .vmem, ⟨5, _⟩ => ⟨S4096x1024, .bf16⟩
  | .local _ .smem, ⟨0, _⟩ => ⟨S44, .i32⟩
  | .local _ .smem, ⟨1, _⟩ => ⟨S44, .i32⟩
  | .local _ .smem, ⟨2, _⟩ => ⟨S44, .i32⟩
  | .local _ .smem, ⟨3, _⟩ => ⟨S44, .i32⟩
  | .local _ .smem, ⟨4, _⟩ => ⟨S44, .i32⟩
  | .local _ .smem, ⟨5, _⟩ => ⟨S1, .i32⟩
  | _, _ => ⟨S22528x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_c : Ref sig .tc := ⟨.hbm, 10, rfl⟩
abbrev main_call0_call0_v0 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_c_1 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v19 : Ref sig .tc := ⟨.hbm, 25, rfl⟩
abbrev main_c_4 : Ref sig .tc := ⟨.hbm, 26, rfl⟩
abbrev main_v20 : Ref sig .tc := ⟨.hbm, 27, rfl⟩
abbrev main_v22 : Ref sig .tc := ⟨.hbm, 28, rfl⟩
abbrev main_v1 : Ref sig .tc := ⟨.smem, 0, rfl⟩
abbrev main_arg2 : Ref sig .tc := ⟨.smem, 1, rfl⟩
abbrev main_v7 : Ref sig .tc := ⟨.smem, 2, rfl⟩
abbrev main_v10 : Ref sig .tc := ⟨.smem, 3, rfl⟩
abbrev main_v18 : Ref sig .tc := ⟨.smem, 4, rfl⟩
abbrev main_v21 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 44], ![false, false]⟩

abbrev pre0 : Pipeline.Prefetch sig := ⟨6, ![main_v1.idx, main_arg2.idx, main_v7.idx, main_v10.idx, main_v18.idx, main_v21.idx], fun | 0 => main_v1.names | 1 => main_arg2.names | 2 => main_v7.names | 3 => main_v10.names | 4 => main_v18.names | 5 => main_v21.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 : BitVec 32 :=
  let c0_i32_26 : BitVec 32 := 0#32
  c0_i32_26
def k0_off2 (v67 : BitVec 32) : Fin 3 → Nat :=
  let c0_i32_28 : BitVec 32 := 0#32
  let c0_i32_26 : BitVec 32 := 0#32
  let v68 : BitVec 32 := c0_i32_26
  ![v67.toNat, 0, 0]
def k0_cond1 (v4 : BitVec 32) : BitVec 1 :=
  let c1_i32 : BitVec 32 := 1#32
  let v5 : BitVec 1 := Scalar.cmpi .eq v4 c1_i32
  let v6 : BitVec 32 := Scalar.extui v5
  let c0_i32 : BitVec 32 := 0#32
  let v7 : BitVec 1 := Scalar.cmpi .ne v6 c0_i32
  v7

def k0_cond2 (i : grid0.Coords) (v1 : BitVec 32) : BitVec 1 :=
  let arg0 : BitVec 32 := BitVec.ofNat 32 (i 0).val
  let c0_i32_10 : BitVec 32 := 0#32
  let v37 : BitVec 1 := Scalar.cmpi .eq arg0 c0_i32_10
  let c0_i32_11 : BitVec 32 := 0#32
  let v38 : BitVec 1 := Scalar.cmpi .eq v1 c0_i32_11
  let v39 : BitVec 1 := Scalar.andi v37 v38
  let v40 : BitVec 32 := Scalar.extui v39
  let c0_i32_12 : BitVec 32 := 0#32
  let v41 : BitVec 1 := Scalar.cmpi .ne v40 c0_i32_12
  v41

def k0_chk1 (i : grid0.Coords) (v1 : BitVec 32) (v4 : BitVec 32) (v67 : BitVec 32) : Prop :=
  (∀ (k0_h1 : k0_cond1 v4 = 1#1), ∀ (k0_h2 : k0_cond2 i v1 = 1#1), ∀ a, (k0_off2 v67) a + S1x4096x1024.size a ≤ S16x4096x2048.size a)
theorem k0_off2_inb : ∀ (i : grid0.Coords) (v1 : BitVec 32) (v4 : BitVec 32) (v67 : BitVec 32) (k0_hw1 : k0_chk1 i v1 v4 v67), ∀ (k0_h1 : k0_cond1 v4 = 1#1), ∀ (k0_h2 : k0_cond2 i v1 = 1#1), ∀ a, (k0_off2 v67) a + S1x4096x1024.size a ≤ S16x4096x2048.size a := fun i v1 v4 v67 k0_hw1 k0_h1 k0_h2 => k0_hw1 k0_h1 k0_h2

def k0_off3 (v1 : BitVec 32) : Fin 1 → Nat :=
  let v42 : Index := Scalar.indexCast v1
  ![v42.toNat]

def k0_mult2 (i : grid0.Coords) : BitVec 32 :=
  let arg0 : BitVec 32 := BitVec.ofNat 32 (i 0).val
  let c0_i32_13 : BitVec 32 := 0#32
  let v44 : BitVec 32 := Scalar.addi arg0 c0_i32_13
  let c1024_i32 : BitVec 32 := 1024#32
  let v45 : BitVec 32 := Scalar.muli v44 c1024_i32
  v45
def k0_off4 (i : grid0.Coords) (v43 : BitVec 32) : Fin 3 → Nat :=
  let c0_i32_15 : BitVec 32 := 0#32
  let arg0 : BitVec 32 := BitVec.ofNat 32 (i 0).val
  let c0_i32_13 : BitVec 32 := 0#32
  let v44 : BitVec 32 := Scalar.addi arg0 c0_i32_13
  let c1024_i32 : BitVec 32 := 1024#32
  let v45 : BitVec 32 := Scalar.muli v44 c1024_i32
  let v46 : BitVec 32 := v45
  ![v43.toNat, 0, v46.toNat]

def k0_chk3 (i : grid0.Coords) (v4 : BitVec 32) (v43 : BitVec 32) : Prop :=
  (∀ (k0_h1 : k0_cond1 v4 = 1#1), ∀ a, (k0_off4 i v43) a + S1x4096x1024.size a ≤ S16x4096x2048.size a)
theorem k0_off4_inb : ∀ (i : grid0.Coords) (v4 : BitVec 32) (v43 : BitVec 32) (k0_hw3 : k0_chk3 i v4 v43), ∀ (k0_h1 : k0_cond1 v4 = 1#1), ∀ a, (k0_off4 i v43) a + S1x4096x1024.size a ≤ S16x4096x2048.size a := fun i v4 v43 k0_hw3 k0_h1 => k0_hw3 k0_h1

def k0_off5 (v1 : BitVec 32) (v2 : BitVec 32) : Fin 1 → Nat :=
  let c1_i32_20 : BitVec 32 := 1#32
  let v56 : BitVec 32 := Scalar.addi v1 c1_i32_20
  let v57 : BitVec 1 := Scalar.cmpi .sge v56 v2
  let c0_i32_22 : BitVec 32 := 0#32
  let c1_i32_21 : BitVec 32 := 1#32
  let v58 : BitVec 32 := Scalar.addi v1 c1_i32_21
  let v59 : BitVec 32 := Scalar.select v57 c0_i32_22 v58
  let v60 : Index := Scalar.indexCast v59
  ![v60.toNat]
def k0_mult3 (i : grid0.Coords) (v1 : BitVec 32) (v2 : BitVec 32) : BitVec 32 :=
  let c1_i32_20 : BitVec 32 := 1#32
  let v56 : BitVec 32 := Scalar.addi v1 c1_i32_20
  let v57 : BitVec 1 := Scalar.cmpi .sge v56 v2
  let arg0 : BitVec 32 := BitVec.ofNat 32 (i 0).val
  let c1_i32_23 : BitVec 32 := 1#32
  let v62 : BitVec 32 := Scalar.addi arg0 c1_i32_23
  let v63 : BitVec 32 := Scalar.select v57 v62 arg0
  let c0_i32_25 : BitVec 32 := 0#32
  let v67 : BitVec 32 := Scalar.addi v63 c0_i32_25
  let c1024_i32_26 : BitVec 32 := 1024#32
  let v68 : BitVec 32 := Scalar.muli v67 c1024_i32_26
  v68
def k0_cond3 (i : grid0.Coords) (v1 : BitVec 32) (v2 : BitVec 32) : BitVec 1 :=
  let c1_i32_20 : BitVec 32 := 1#32
  let v56 : BitVec 32 := Scalar.addi v1 c1_i32_20
  let v57 : BitVec 1 := Scalar.cmpi .sge v56 v2
  let arg0 : BitVec 32 := BitVec.ofNat 32 (i 0).val
  let c1_i32_23 : BitVec 32 := 1#32
  let v62 : BitVec 32 := Scalar.addi arg0 c1_i32_23
  let v63 : BitVec 32 := Scalar.select v57 v62 arg0
  let c2_i32 : BitVec 32 := 2#32
  let v64 : BitVec 1 := Scalar.cmpi .slt v63 c2_i32
  let v65 : BitVec 32 := Scalar.extui v64
  let c0_i32_24 : BitVec 32 := 0#32
  let v66 : BitVec 1 := Scalar.cmpi .ne v65 c0_i32_24
  v66

def k0_chk2 (i : grid0.Coords) (v1 : BitVec 32) (v2 : BitVec 32) (v4 : BitVec 32) : Prop :=
  (∀ (k0_h1 : k0_cond1 v4 = 1#1), ∀ a, (k0_off3 v1) a + S1.size a ≤ S44.size a) ∧
  (∀ (k0_h1 : k0_cond1 v4 = 1#1), ∀ a, (k0_off5 v1 v2) a + S1.size a ≤ S44.size a) ∧
  (∀ (k0_h1 : k0_cond1 v4 = 1#1), ∀ (k0_h3 : k0_cond3 i v1 v2 = 1#1), 1024 ∣ (k0_mult3 i v1 v2).toNat)
theorem k0_off3_inb : ∀ (i : grid0.Coords) (v1 : BitVec 32) (v2 : BitVec 32) (v4 : BitVec 32) (k0_hw2 : k0_chk2 i v1 v2 v4), ∀ (k0_h1 : k0_cond1 v4 = 1#1), ∀ a, (k0_off3 v1) a + S1.size a ≤ S44.size a := fun i v1 v2 v4 k0_hw2 k0_h1 => k0_hw2.1 k0_h1
theorem k0_off5_inb : ∀ (i : grid0.Coords) (v1 : BitVec 32) (v2 : BitVec 32) (v4 : BitVec 32) (k0_hw2 : k0_chk2 i v1 v2 v4), ∀ (k0_h1 : k0_cond1 v4 = 1#1), ∀ a, (k0_off5 v1 v2) a + S1.size a ≤ S44.size a := fun i v1 v2 v4 k0_hw2 k0_h1 => k0_hw2.2.1 k0_h1
theorem k0_mult3_dvd : ∀ (i : grid0.Coords) (v1 : BitVec 32) (v2 : BitVec 32) (v4 : BitVec 32) (k0_hw2 : k0_chk2 i v1 v2 v4), ∀ (k0_h1 : k0_cond1 v4 = 1#1), ∀ (k0_h3 : k0_cond3 i v1 v2 = 1#1), 1024 ∣ (k0_mult3 i v1 v2).toNat := fun i v1 v2 v4 k0_hw2 k0_h1 k0_h3 => k0_hw2.2.2 k0_h1 k0_h3

def k0_off6 (i : grid0.Coords) (v1 : BitVec 32) (v2 : BitVec 32) (v61 : BitVec 32) : Fin 3 → Nat :=
  let c0_i32_28 : BitVec 32 := 0#32
  let c1_i32_20 : BitVec 32 := 1#32
  let v56 : BitVec 32 := Scalar.addi v1 c1_i32_20
  let v57 : BitVec 1 := Scalar.cmpi .sge v56 v2
  let arg0 : BitVec 32 := BitVec.ofNat 32 (i 0).val
  let c1_i32_23 : BitVec 32 := 1#32
  let v62 : BitVec 32 := Scalar.addi arg0 c1_i32_23
  let v63 : BitVec 32 := Scalar.select v57 v62 arg0
  let c0_i32_25 : BitVec 32 := 0#32
  let v67 : BitVec 32 := Scalar.addi v63 c0_i32_25
  let c1024_i32_26 : BitVec 32 := 1024#32
  let v68 : BitVec 32 := Scalar.muli v67 c1024_i32_26
  let v69 : BitVec 32 := v68
  ![v61.toNat, 0, v69.toNat]

def k0_chk4 (i : grid0.Coords) (v1 : BitVec 32) (v2 : BitVec 32) (v4 : BitVec 32) (v61 : BitVec 32) : Prop :=
  (∀ (k0_h1 : k0_cond1 v4 = 1#1), ∀ (k0_h3 : k0_cond3 i v1 v2 = 1#1), ∀ a, (k0_off6 i v1 v2 v61) a + S1x4096x1024.size a ≤ S16x4096x2048.size a)
theorem k0_off6_inb : ∀ (i : grid0.Coords) (v1 : BitVec 32) (v2 : BitVec 32) (v4 : BitVec 32) (v61 : BitVec 32) (k0_hw4 : k0_chk4 i v1 v2 v4 v61), ∀ (k0_h1 : k0_cond1 v4 = 1#1), ∀ (k0_h3 : k0_cond3 i v1 v2 = 1#1), ∀ a, (k0_off6 i v1 v2 v61) a + S1x4096x1024.size a ≤ S16x4096x2048.size a := fun i v1 v2 v4 v61 k0_hw4 k0_h1 k0_h3 => k0_hw4 k0_h1 k0_h3

def k0_off7 (i : grid0.Coords) : Fin 1 → Nat :=
  let arg1 : BitVec 32 := BitVec.ofNat 32 (i 1).val
  let v8 : Index := Scalar.indexCast arg1
  ![v8.toNat]
def k0_cond4 (v9 : BitVec 32) : BitVec 1 :=
  let c64_i32 : BitVec 32 := 64#32
  let v10 : BitVec 1 := Scalar.cmpi .eq v9 c64_i32
  let v11 : BitVec 32 := Scalar.extui v10
  let c0_i32_0 : BitVec 32 := 0#32
  let v12 : BitVec 1 := Scalar.cmpi .ne v11 c0_i32_0
  v12

def k0_cond5 (v9 : BitVec 32) : BitVec 1 :=
  let c128_i32 : BitVec 32 := 128#32
  let v13 : BitVec 1 := Scalar.cmpi .eq v9 c128_i32
  let v14 : BitVec 32 := Scalar.extui v13
  let c0_i32_1 : BitVec 32 := 0#32
  let v15 : BitVec 1 := Scalar.cmpi .ne v14 c0_i32_1
  v15

def k0_cond6 (v9 : BitVec 32) : BitVec 1 :=
  let c192_i32 : BitVec 32 := 192#32
  let v16 : BitVec 1 := Scalar.cmpi .eq v9 c192_i32
  let v17 : BitVec 32 := Scalar.extui v16
  let c0_i32_2 : BitVec 32 := 0#32
  let v18 : BitVec 1 := Scalar.cmpi .ne v17 c0_i32_2
  v18

def k0_cond7 (v9 : BitVec 32) : BitVec 1 :=
  let c256_i32 : BitVec 32 := 256#32
  let v19 : BitVec 1 := Scalar.cmpi .eq v9 c256_i32
  let v20 : BitVec 32 := Scalar.extui v19
  let c0_i32_3 : BitVec 32 := 0#32
  let v21 : BitVec 1 := Scalar.cmpi .ne v20 c0_i32_3
  v21

def k0_cond8 (v9 : BitVec 32) : BitVec 1 :=
  let c320_i32 : BitVec 32 := 320#32
  let v22 : BitVec 1 := Scalar.cmpi .eq v9 c320_i32
  let v23 : BitVec 32 := Scalar.extui v22
  let c0_i32_4 : BitVec 32 := 0#32
  let v24 : BitVec 1 := Scalar.cmpi .ne v23 c0_i32_4
  v24

def k0_cond9 (v9 : BitVec 32) : BitVec 1 :=
  let c384_i32 : BitVec 32 := 384#32
  let v25 : BitVec 1 := Scalar.cmpi .eq v9 c384_i32
  let v26 : BitVec 32 := Scalar.extui v25
  let c0_i32_5 : BitVec 32 := 0#32
  let v27 : BitVec 1 := Scalar.cmpi .ne v26 c0_i32_5
  v27

def k0_cond10 (v9 : BitVec 32) : BitVec 1 :=
  let c448_i32 : BitVec 32 := 448#32
  let v28 : BitVec 1 := Scalar.cmpi .eq v9 c448_i32
  let v29 : BitVec 32 := Scalar.extui v28
  let c0_i32_6 : BitVec 32 := 0#32
  let v30 : BitVec 1 := Scalar.cmpi .ne v29 c0_i32_6
  v30

def k0_cond11 (v9 : BitVec 32) : BitVec 1 :=
  let c512_i32 : BitVec 32 := 512#32
  let v31 : BitVec 1 := Scalar.cmpi .eq v9 c512_i32
  let v32 : BitVec 32 := Scalar.extui v31
  let c0_i32_7 : BitVec 32 := 0#32
  let v33 : BitVec 1 := Scalar.cmpi .ne v32 c0_i32_7
  v33

def k0_cond12 (v9 : BitVec 32) : BitVec 1 :=
  let c0_i32_8 : BitVec 32 := 0#32
  let v34 : BitVec 1 := Scalar.cmpi .eq v9 c0_i32_8
  let v35 : BitVec 32 := Scalar.extui v34
  let c0_i32_9 : BitVec 32 := 0#32
  let v36 : BitVec 1 := Scalar.cmpi .ne v35 c0_i32_9
  v36

def cc0_transform_0 (k0_off1_inb : ∀ i : grid0.Coords, ∀ a, (k0_off1 i) a + S1.size a ≤ S44.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S44) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference5Ideal.lean ====
abbrev S22528x4096 : Shape := ⟨2, ![22528, 4096]⟩
abbrev S44 : Shape := ⟨1, ![44]⟩
abbrev S2x8x4096x2048 : Shape := ⟨4, ![2, 8, 4096, 2048]⟩
abbrev S44x512x4096 : Shape := ⟨3, ![44, 512, 4096]⟩
abbrev S16x4096x2048 : Shape := ⟨3, ![16, 4096, 2048]⟩
abbrev S_ : Shape := ⟨0, ![]⟩
abbrev S44x1 : Shape := ⟨2, ![44, 1]⟩
abbrev S44x4096x2048 : Shape := ⟨3, ![44, 4096, 2048]⟩
abbrev S44x512x2048 : Shape := ⟨3, ![44, 512, 2048]⟩
abbrev S512 : Shape := ⟨1, ![512]⟩
abbrev S1x512x1 : Shape := ⟨3, ![1, 512, 1]⟩
abbrev S44x1x1 : Shape := ⟨3, ![44, 1, 1]⟩
abbrev S44x512x1 : Shape := ⟨3, ![44, 512, 1]⟩
abbrev S22528x2048 : Shape := ⟨2, ![22528, 2048]⟩

abbrev nBuf : Space → Nat
  | .hbm => 28
  | .vmem => 0
  | .smem => 0
  | _ => 0

abbrev bufTy : (tb : Table) → Fin (tcTables nBuf tb) → BufTy
  | .hbm, ⟨0, _⟩ => ⟨S22528x4096, .bf16⟩
  | .hbm, ⟨1, _⟩ => ⟨S44, .i32⟩
  | .hbm, ⟨2, _⟩ => ⟨S44, .i32⟩
  | .hbm, ⟨3, _⟩ => ⟨S2x8x4096x2048, .f32⟩
  | .hbm, ⟨4, _⟩ => ⟨S44x512x4096, .bf16⟩
  | .hbm, ⟨5, _⟩ => ⟨S16x4096x2048, .f32⟩
  | .hbm, ⟨6, _⟩ => ⟨S_, .i32⟩
  | .hbm, ⟨7, _⟩ => ⟨S44, .i32⟩
  | .hbm, ⟨8, _⟩ => ⟨S44, .i1⟩
  | .hbm, ⟨9, _⟩ => ⟨S_, .i32⟩
  | .hbm, ⟨10, _⟩ => ⟨S44, .i32⟩
  | .hbm, ⟨11, _⟩ => ⟨S44, .i32⟩
  | .hbm, ⟨12, _⟩ => ⟨S44, .i32⟩
  | .hbm, ⟨13, _⟩ => ⟨S44x1, .i32⟩
  | .hbm, ⟨14, _⟩ => ⟨S44x4096x2048, .f32⟩
  | .hbm, ⟨15, _⟩ => ⟨S44x512x2048, .f32⟩
  | .hbm, ⟨16, _⟩ => ⟨S512, .i32⟩
  | .hbm, ⟨17, _⟩ => ⟨S1x512x1, .i32⟩
  | .hbm, ⟨18, _⟩ => ⟨S44x1x1, .i32⟩
  | .hbm, ⟨19, _⟩ => ⟨S44x512x1, .i32⟩
  | .hbm, ⟨20, _⟩ => ⟨S44x512x1, .i32⟩
  | .hbm, ⟨21, _⟩ => ⟨S44x512x1, .i1⟩
  | .hbm, ⟨22, _⟩ => ⟨S_, .f32⟩
  | .hbm, ⟨23, _⟩ => ⟨S_, .f32⟩
  | .hbm, ⟨24, _⟩ => ⟨S44x512x2048, .i1⟩
  | .hbm, ⟨25, _⟩ => ⟨S44x512x2048, .f32⟩
  | .hbm, ⟨26, _⟩ => ⟨S44x512x2048, .f32⟩
  | .hbm, ⟨27, _⟩ => ⟨S22528x2048, .f32⟩
  | _, _ => ⟨S22528x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proof.Blocks.lean ====
/-
What the call reads at a step, an entry at a time: the block of queries of one batch and head, and the keys
and values of that batch and head, of the latents and of the context.
-/
module

public import proofs.«01_k».proof.Proof.Gen.KernelIdeal.Value
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- Which block of its array each window takes at step `t`: batch `t / 16`, head `t % 16`. -/
theorem idx : ∀ t : Fin cfg0.N,
    win0_0.index t = ![t.val / 16, t.val % 16] ∧ win0_1.index t = ![t.val / 16, t.val % 16]
    ∧ win0_2.index t = ![32 + t.val / 16, t.val % 16] ∧ win0_3.index t = ![t.val / 16, 32 + t.val % 16]
    ∧ win0_4.index t = ![32 + t.val / 16, 32 + t.val % 16] ∧ win0_5.index t = ![t.val / 16, t.val % 16] ∧ t.val / 16 < 4 :=
  (by decide +kernel : ∀ t : Fin grid0.N, _)

/-- The queries' block at a step. -/
theorem q_block (c : Dev nD) (t : Fin cfg0.N) (b : Fin 4) (h : Fin 16) (hb : t.val / 16 = b) (hh : t.val % 16 = h) (i : Fin 2048) (e : Fin 256) :
    iblk m c 0 t (ix2 i e) = V m c main_v8 (ix2 ⟨b * 2048 + i, by omega⟩ ⟨h * 256 + e, by omega⟩) := by
  blk_ext [iblk, idx t, hb, hh]

/-- The latents' keys at a step. -/
theorem k_block (c : Dev nD) (t : Fin cfg0.N) (b : Fin 4) (h : Fin 16) (hb : t.val / 16 = b) (hh : t.val % 16 = h) (i : Fin 2048) (e : Fin 256) :
    X0_1 m c t (ix2 i e) = V m c main_v24 (ix2 ⟨b * 2048 + i, by omega⟩ ⟨h * 256 + e, by omega⟩) := by
  unfold X0_1 Pipeline.Window.fill
  rw [dif_pos (moved0_1 t _)]
  blk_ext [iblk, idx t, hb, hh]

/-- The context's keys at a step. -/
theorem kc_block (c : Dev nD) (t : Fin cfg0.N) (b : Fin 4) (h : Fin 16) (hb : t.val / 16 = b) (hh : t.val % 16 = h) (i : Fin 256) (e : Fin 256) :
    iblk m c 2 t (ix2 i e) = V m c main_v24 (ix2 ⟨8192 + (b * 256 + i), by omega⟩ ⟨h * 256 + e, by omega⟩) := by
  blk_ext [iblk, idx t, hb, hh]

/-- The latents' values at a step. -/
theorem v_block (c : Dev nD) (t : Fin cfg0.N) (b : Fin 4) (h : Fin 16) (hb : t.val / 16 = b) (hh : t.val % 16 = h) (i : Fin 2048) (e : Fin 128) :
    X0_3 m c t (ix2 i e) = V m c main_v24 (ix2 ⟨b * 2048 + i, by omega⟩ ⟨4096 + h * 128 + e, by omega⟩) := by
  unfold X0_3 Pipeline.Window.fill
  rw [dif_pos (moved0_3 t _)]
  blk_ext [iblk, idx t, hb, hh]

/-- The context's values at a step. -/
theorem vc_block (c : Dev nD) (t : Fin cfg0.N) (b : Fin 4) (h : Fin 16) (hb : t.val / 16 = b) (hh : t.val % 16 = h) (i : Fin 256) (e : Fin 128) :
    iblk m c 4 t (ix2 i e) = V m c main_v24 (ix2 ⟨8192 + (b * 256 + i), by omega⟩ ⟨4096 + h * 128 + e, by omega⟩) := by
  blk_ext [iblk, idx t, hb, hh]

end Cert.KernelIdeal.Attn

end
-- ==== Proof.Softmax.lean ====
/-
The arithmetic of one query row of the attention, over the extended reals: a softmax taken in three
steps of 768 keys (each step with its own running maximum, rescaling what the steps before it summed)
gives every value the weight the plain softmax gives it.
-/
module

public import Idealize.ShloMosaic.Lib.Pointwise

@[expose] public section

noncomputable section

namespace Cert.Softmax

open Idealize.ShloMosaic

/-! ## Two constants -/

/-- The value a largest entry starts from is below every real. -/
theorem bottom : Ideal.ofBits .f32 0xFF800000#32 = (⊥ : EReal) := by
  show Ideal.ieee 8 23 0xFF800000#32 = ⊥
  unfold Ideal.ieee
  rw [if_pos (by decide), if_pos (by decide), if_pos (by decide)]

/-- The depth. -/
theorem bits_192 : Ideal.ofBits .f32 0x43400000#32 = ((192 : ℝ) : EReal) := by
  simp [Ideal.ofBits, Ideal.ieee, -EReal.coe_mul]; norm_num

/-! ## Sums and products with a real factor -/

/-- A nonnegative real factor goes into a sum of extended reals. -/
theorem coe_mul_sum {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- A sum of reals, taken among the extended reals. -/
theorem coe_sum {ι : Type} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The largest of finitely many reals, and not none of them, is a real. -/
theorem fold_max_real {ι : Type} [Fintype ι] [Nonempty ι] (f : ι → ℝ) :
    ∃ M : ℝ, Finset.univ.fold max (⊥ : EReal) (fun i => (f i : EReal)) = (M : EReal) := by
  classical
  have key : ∀ s : Finset ι, s.Nonempty →
      ∃ M : ℝ, s.fold max (⊥ : EReal) (fun i => (f i : EReal)) = (M : EReal) := by
    intro s hs
    induction hs using Finset.Nonempty.cons_induction with
    | singleton a => exact ⟨f a, by simp⟩
    | cons a s ha _ ih =>
      obtain ⟨M, hM⟩ := ih
      exact ⟨max (f a) M, by
        rw [Finset.fold_cons, hM]; exact (EReal.coe_strictMono.monotone.map_max).symm⟩
  exact key _ Finset.univ_nonempty

/-- The base-2 exponential of a real. -/
theorem exp2_coe (x : ℝ) : Ideal.exp2 (x : EReal) = ((2 : ℝ) ^ x : ℝ) := rfl

/-- The quotient by a positive real. -/
theorem div_pos_coe (x : EReal) {l : ℝ} (hl : 0 < l) : Ideal.div x (l : EReal) = ((l⁻¹ : ℝ) : EReal) * x := by
  unfold Ideal.div
  rw [if_neg (by exact_mod_cast hl.ne'), EReal.coe_inv, mul_comm]

/-! ## The plain softmax -/

/-- The weight the softmax of the base-2 logits `t` gives key `k`. -/
def weight {K : ℕ} (t : Fin K → ℝ) (k : Fin K) : ℝ := (2 : ℝ) ^ t k / ∑ j, (2 : ℝ) ^ t j

/-- The values summed with the softmax's weights. -/
def mix {K : ℕ} (t : Fin K → ℝ) (v : Fin K → EReal) : EReal := ∑ k, (weight t k : EReal) * v k

/-- The textbook form: the maximum taken off, exponentials divided by their sum, the weighted sum. -/
theorem plain {K : ℕ} [NeZero K] (t : Fin K → ℝ) (v : Fin K → EReal) (M : ℝ) :
    ∑ k, v k * Ideal.div (Ideal.exp (((Real.log 2 * t k : ℝ) : EReal) - (M : EReal)))
        (∑ j, Ideal.exp (((Real.log 2 * t j : ℝ) : EReal) - (M : EReal))) = mix t v := by
  have h : ∀ k, Ideal.exp (((Real.log 2 * t k : ℝ) : EReal) - (M : EReal))
      = (((2 : ℝ) ^ t k * Real.exp (-M) : ℝ) : EReal) := fun k => by
    rw [← EReal.coe_sub]
    show ((Real.exp (Real.log 2 * t k - M) : ℝ) : EReal) = _
    rw [Real.rpow_def_of_pos two_pos, ← Real.exp_add]; rfl
  have hL : 0 < ∑ j, (2 : ℝ) ^ t j :=
    Finset.sum_pos (fun j _ => Real.rpow_pos_of_pos two_pos _) Finset.univ_nonempty
  have hM := Real.exp_pos (-M)
  unfold mix
  refine Finset.sum_congr rfl fun k _ => ?_
  simp only [h]
  rw [coe_sum, ← Finset.sum_mul, div_pos_coe _ (mul_pos hL hM), ← EReal.coe_mul, mul_comm (v k)]
  congr 2
  unfold weight
  field_simp

/-! ## The softmax in three steps -/

/-- One step: the running sum of weights and the running weighted sum, rescaled and added to. -/
theorem three_steps {C : ℕ} [NeZero C] (a b c : Fin C → ℝ) (u v w : Fin C → EReal) (m₀ m₁ m₂ : ℝ) :
    Ideal.div
        (Ideal.exp2 ((m₁ : EReal) - m₂)
            * (Ideal.exp2 ((m₀ : EReal) - m₁) * ∑ j, Ideal.exp2 ((a j : EReal) - m₀) * u j
              + ∑ j, Ideal.exp2 ((b j : EReal) - m₁) * v j)
          + ∑ j, Ideal.exp2 ((c j : EReal) - m₂) * w j)
        (Ideal.exp2 ((m₁ : EReal) - m₂)
            * (Ideal.exp2 ((m₀ : EReal) - m₁) * ∑ j, Ideal.exp2 ((a j : EReal) - m₀)
              + ∑ j, Ideal.exp2 ((b j : EReal) - m₁))
          + ∑ j, Ideal.exp2 ((c j : EReal) - m₂))
      = (∑ j, (((2 : ℝ) ^ a j / (∑ j, (2 : ℝ) ^ a j + ∑ j, (2 : ℝ) ^ b j + ∑ j, (2 : ℝ) ^ c j) : ℝ) : EReal) * u j
        + ∑ j, (((2 : ℝ) ^ b j / (∑ j, (2 : ℝ) ^ a j + ∑ j, (2 : ℝ) ^ b j + ∑ j, (2 : ℝ) ^ c j) : ℝ) : EReal) * v j)
        + ∑ j, (((2 : ℝ) ^ c j / (∑ j, (2 : ℝ) ^ a j + ∑ j, (2 : ℝ) ^ b j + ∑ j, (2 : ℝ) ^ c j) : ℝ) : EReal) * w j := by
  have pos : ∀ x : ℝ, 0 < (2 : ℝ) ^ x := fun x => Real.rpow_pos_of_pos two_pos x
  have spos : ∀ f : Fin C → ℝ, 0 < ∑ j, (2 : ℝ) ^ f j := fun f =>
    Finset.sum_pos (fun j _ => pos _) Finset.univ_nonempty
  set L := ∑ j, (2 : ℝ) ^ a j + ∑ j, (2 : ℝ) ^ b j + ∑ j, (2 : ℝ) ^ c j with hL
  have hLp : 0 < L := add_pos (add_pos (spos a) (spos b)) (spos c)
  have e : ∀ x y : ℝ, Ideal.exp2 ((x : EReal) - y) = (((2 : ℝ) ^ x / (2 : ℝ) ^ y : ℝ) : EReal) := fun x y => by
    rw [← EReal.coe_sub, exp2_coe, Real.rpow_sub two_pos]
  simp only [e, coe_sum, ← EReal.coe_mul, ← EReal.coe_add]
  have hden : (2 : ℝ) ^ m₁ / 2 ^ m₂ * (2 ^ m₀ / 2 ^ m₁ * ∑ j, (2 : ℝ) ^ a j / 2 ^ m₀ + ∑ j, (2 : ℝ) ^ b j / 2 ^ m₁)
      + ∑ j, (2 : ℝ) ^ c j / 2 ^ m₂ = L / 2 ^ m₂ := by
    have p0 := (pos m₀).ne'; have p1 := (pos m₁).ne'; have p2 := (pos m₂).ne'
    rw [← Finset.sum_div, ← Finset.sum_div, ← Finset.sum_div, hL]
    field_simp
  have p0 := pos m₀; have p1 := pos m₁; have p2 := pos m₂
  rw [hden, div_pos_coe _ (div_pos hLp p2)]
  have d : ∀ (r : ℝ), 0 ≤ r → ∀ x y : EReal, (r : EReal) * (x + y) = r * x + r * y := fun r hr x y =>
    EReal.left_distrib_of_nonneg_of_ne_top (EReal.coe_nonneg.mpr hr) (EReal.coe_ne_top r) x y
  have hi : 0 ≤ (L / 2 ^ m₂)⁻¹ := (inv_pos.mpr (div_pos hLp p2)).le
  have h12 : 0 ≤ (2 : ℝ) ^ m₁ / 2 ^ m₂ := (div_pos p1 p2).le
  have h01 : 0 ≤ (2 : ℝ) ^ m₀ / 2 ^ m₁ := (div_pos p0 p1).le
  rw [d _ hi, d _ h12, d _ hi]
  simp only [coe_mul_sum _ h01, coe_mul_sum _ h12, coe_mul_sum _ hi, ← mul_assoc, ← EReal.coe_mul]
  congr 1; congr 1
  all_goals
    refine Finset.sum_congr rfl fun j _ => ?_
    congr 2
    field_simp

/-- The three steps over the 2304 keys in their order: the softmax of all of them. -/
theorem three_steps_mix (t : Fin 2304 → ℝ) (x : Fin 2304 → EReal) (a b c : Fin 768 → ℝ) (u v w : Fin 768 → EReal)
    (m₀ m₁ m₂ : ℝ)
    (ha : ∀ j, a j = t ⟨0 * 768 + j, by omega⟩) (hb : ∀ j, b j = t ⟨1 * 768 + j, by omega⟩) (hc : ∀ j, c j = t ⟨2 * 768 + j, by omega⟩)
    (hu : ∀ j, u j = x ⟨0 * 768 + j, by omega⟩) (hv : ∀ j, v j = x ⟨1 * 768 + j, by omega⟩) (hw : ∀ j, w j = x ⟨2 * 768 + j, by omega⟩) :
    Ideal.div
        (Ideal.exp2 ((m₁ : EReal) - m₂)
            * (Ideal.exp2 ((m₀ : EReal) - m₁) * ∑ j, Ideal.exp2 ((a j : EReal) - m₀) * u j
              + ∑ j, Ideal.exp2 ((b j : EReal) - m₁) * v j)
          + ∑ j, Ideal.exp2 ((c j : EReal) - m₂) * w j)
        (Ideal.exp2 ((m₁ : EReal) - m₂)
            * (Ideal.exp2 ((m₀ : EReal) - m₁) * ∑ j, Ideal.exp2 ((a j : EReal) - m₀)
              + ∑ j, Ideal.exp2 ((b j : EReal) - m₁))
          + ∑ j, Ideal.exp2 ((c j : EReal) - m₂))
      = mix t x := by
  rw [three_steps]
  unfold mix weight
  rw [Fin.sum_univ_tiles 3 768 rfl, Fin.sum_univ_tiles 3 768 rfl (fun j => (2 : ℝ) ^ t j), Fin.sum_univ_three, Fin.sum_univ_three]
  simp only [ha, hb, hc, hu, hv, hw]
  rfl

end Cert.Softmax

end
-- ==== Proof.Attention.lean ====
/-
The attention, entry by entry, over the reals: what both programs compute. A query has a part without
position and a rotary part; the keys are the latents' 2048 and then the context's 256; the logit, in base 2,
is the inner product over the root of 192 and over log 2; the result is the mix of the values by the weights.
-/
module

public import proofs.«01_k».proof.Proof.Softmax

@[expose] public section

noncomputable section

namespace Cert.Attention

open Idealize.ShloMosaic

/-- One of the 2304 keys: the latents' and then the context's. -/
def pick {α : Type} (x : Fin 2048 → α) (y : Fin 256 → α) (k : Fin 2304) : α :=
  if h : k.val < 2048 then x ⟨k, h⟩ else y ⟨k - 2048, by omega⟩

/-- The inner product of a query and a key, each in its two parts. -/
def dot (a b : Fin 128 → EReal) (a' b' : Fin 64 → EReal) : ℝ :=
  ∑ e, (a e).toReal * (b e).toReal + ∑ e, (a' e).toReal * (b' e).toReal

/-- The logit in base 2. -/
def logit (a b : Fin 128 → EReal) (a' b' : Fin 64 → EReal) : ℝ :=
  dot a b a' b' * ((Real.sqrt 192)⁻¹ * (Real.log 2)⁻¹)

/-- A number that is not infinite. -/
def Finite (x : EReal) : Prop := x = (x.toReal : EReal)

/-- A key's entries, when all keys' entries are not infinite. -/
theorem finite_pick {n : ℕ} {x : Fin 2048 → Fin n → EReal} {y : Fin 256 → Fin n → EReal} (hx : ∀ j e, Finite (x j e))
    (hy : ∀ j e, Finite (y j e)) (k : Fin 2304) (e : Fin n) : Finite (pick x y k e) := by
  unfold pick
  split
  · exact hx _ _
  · exact hy _ _

/-- An entry of the key picked is picked among the keys' entries. -/
theorem pick_apply {n : ℕ} (x : Fin 2048 → Fin n → EReal) (y : Fin 256 → Fin n → EReal) (k : Fin 2304) (e : Fin n) :
    pick (fun j => x j e) (fun j => y j e) k = pick x y k e := by
  unfold pick
  split <;> rfl

/-- A sum of products of numbers that are not infinite. -/
theorem sum_real {ι : Type} [Fintype ι] {a b : ι → EReal} (ha : ∀ e, Finite (a e)) (hb : ∀ e, Finite (b e)) :
    ∑ e, a e * b e = ((∑ e, (a e).toReal * (b e).toReal : ℝ) : EReal) := by
  rw [← Softmax.coe_sum]
  refine Finset.sum_congr rfl fun e _ => ?_
  rw [EReal.coe_mul, ← ha e, ← hb e]

/-- The reference's logit: the two parts' products, summed and scaled. It is `log 2` times the logit in base 2. -/
theorem plain_logit {a b : Fin 128 → EReal} {a' b' : Fin 64 → EReal} (ha : ∀ e, Finite (a e)) (hb : ∀ e, Finite (b e))
    (ha' : ∀ e, Finite (a' e)) (hb' : ∀ e, Finite (b' e)) :
    (∑ e, a e * b e + ∑ e, b' e * a' e) * (((Real.sqrt 192)⁻¹ : ℝ) : EReal) = ((Real.log 2 * logit a b a' b' : ℝ) : EReal) := by
  rw [sum_real ha hb, sum_real hb' ha', ← EReal.coe_add, ← EReal.coe_mul]
  have h2 : Real.log 2 ≠ 0 := (Real.log_pos (by norm_num)).ne'
  have hc : ∑ e, (b' e).toReal * (a' e).toReal = ∑ e, (a' e).toReal * (b' e).toReal :=
    Finset.sum_congr rfl fun e _ => mul_comm _ _
  rw [hc]
  unfold logit dot
  congr 1
  field_simp

/-- A query or key as it is packed: its two parts and zeros. -/
def packed (x : Fin 128 → EReal) (y : Fin 64 → EReal) (e : Fin 256) : EReal :=
  if h : e.val < 128 then x ⟨e, h⟩ else if h' : e.val - 128 < 64 then y ⟨e - 128, h'⟩ else 0

/-- The kernel's logit: one product of packed rows, the query's scaled beforehand. -/
theorem packed_logit {a b : Fin 128 → EReal} {a' b' : Fin 64 → EReal} (ha : ∀ e, Finite (a e)) (hb : ∀ e, Finite (b e))
    (ha' : ∀ e, Finite (a' e)) (hb' : ∀ e, Finite (b' e)) :
    ∑ e : Fin 256, packed a a' e * (((Real.sqrt 192)⁻¹ * (Real.log 2)⁻¹ : ℝ) : EReal) * packed b b' e = (logit a b a' b' : EReal) := by
  have hs : ∀ f : Fin 256 → EReal, ∑ e, f e = ∑ e : Fin 128, f ⟨e, by omega⟩ + ∑ e : Fin 64, f ⟨128 + e, by omega⟩
      + ∑ e : Fin 64, f ⟨192 + e, by omega⟩ := fun f => by
    have h1 := Fin.sum_univ_add (a := 192) (b := 64) f
    have h2 := Fin.sum_univ_add (a := 128) (b := 64) fun e => f (Fin.castAdd 64 e)
    exact h1.trans (congrArg (· + _) h2)
  rw [hs]
  have e1 : ∀ (x : Fin 128 → EReal) (y : Fin 64 → EReal) (e : Fin 128), packed x y ⟨e, by omega⟩ = x e := fun x y e => by
    unfold packed; rw [dif_pos e.isLt]
  have e2 : ∀ (x : Fin 128 → EReal) (y : Fin 64 → EReal) (e : Fin 64), packed x y ⟨128 + e, by omega⟩ = y e := fun x y e => by
    unfold packed
    rw [dif_neg (by simp), dif_pos (by simp)]
    simp
  have e3 : ∀ (x : Fin 128 → EReal) (y : Fin 64 → EReal) (e : Fin 64), packed x y ⟨192 + e, by omega⟩ = 0 := fun x y e => by
    unfold packed
    rw [dif_neg (by simp; omega), dif_neg (by simp; omega)]
  simp only [e1, e2, e3, mul_zero, zero_mul, Finset.sum_const_zero, add_zero]
  have hr : ∀ {n : ℕ} {u w : Fin n → EReal}, (∀ e, Finite (u e)) → (∀ e, Finite (w e)) →
      ∑ e, u e * (((Real.sqrt 192)⁻¹ * (Real.log 2)⁻¹ : ℝ) : EReal) * w e
        = (((∑ e, (u e).toReal * (w e).toReal) * ((Real.sqrt 192)⁻¹ * (Real.log 2)⁻¹) : ℝ) : EReal) := fun {n u w} hu hw => by
    rw [Finset.sum_mul, ← Softmax.coe_sum]
    refine Finset.sum_congr rfl fun e _ => ?_
    conv_lhs => rw [hu e, hw e]
    rw [← EReal.coe_mul, ← EReal.coe_mul]
    congr 1
    ring
  rw [hr ha hb, hr ha' hb', ← EReal.coe_add]
  unfold logit dot
  congr 1
  ring

/-- The arrays a head attends over, and the result at batch `b`, query `i`, head `h` and channel `d`. -/
def result (qn : FVec Ideal ⟨4, ![4, 2048, 16, 128]⟩ .f32) (qr : FVec Ideal ⟨4, ![4, 2048, 16, 64]⟩ .f32)
    (kn : FVec Ideal ⟨4, ![4, 2048, 16, 128]⟩ .f32) (kr : FVec Ideal ⟨3, ![4, 2048, 64]⟩ .f32) (vl : FVec Ideal ⟨4, ![4, 2048, 16, 128]⟩ .f32)
    (kn' : FVec Ideal ⟨4, ![4, 256, 16, 128]⟩ .f32) (kr' : FVec Ideal ⟨3, ![4, 256, 64]⟩ .f32) (vc : FVec Ideal ⟨4, ![4, 256, 16, 128]⟩ .f32)
    (b : Fin 4) (i : Fin 2048) (h : Fin 16) (d : Fin 128) : EReal :=
  Softmax.mix
    (fun k => logit (fun e => qn (ix4 b i h e)) (pick (fun j e => kn (ix4 b j h e)) (fun j e => kn' (ix4 b j h e)) k)
      (fun e => qr (ix4 b i h e)) (pick (fun j e => kr (ix3 b j e)) (fun j e => kr' (ix3 b j e)) k))
    (pick (fun j => vl (ix4 b j h d)) fun j => vc (ix4 b j h d))

end Cert.Attention

end
-- ==== Proof.Host.lean ====
/-
The arrays the attention call is given, from the arguments: the queries, scaled and packed head by head,
and the keys and values of the latents and of the context, packed side by side.
-/
module

public import proofs.«01_k».proof.Proof.Gen.KernelIdeal.Value
public import proofs.«01_k».proof.Proof.Attention
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-! ## The packed arrays -/

/-- The factor on the logits: over the root of the depth, and from natural to base-2 exponentials. -/
def factor : FVec Ideal S_ .f32 :=
  Host.divf (Host.rsqrt (constant S_ .f32 0x43400000#32)) (Host.log (constant S_ .f32 0x40000000#32))

/-- The queries: per head the part without position, the rotary part and zeros, scaled. -/
def queries (a0 : FVec Ideal S4x2048x16x128 .f32) (a1 : FVec Ideal S4x2048x16x64 .f32) : FVec Ideal S8192x4096 .bf16 :=
  truncf .bf16 (shapeCast S8192x4096 (mulf (concatenate S4x2048x16x256 3 [⟨S4x2048x16x128, a0⟩, ⟨S4x2048x16x64, a1⟩,
      ⟨S4x2048x16x64, broadcastInDim S4x2048x16x64 ![] bcast_S_S4x2048x16x64 (constant S_ .f32 0x00000000#32)⟩]
      concatenates_S4x2048x16x128_S4x2048x16x64_S4x2048x16x64_S4x2048x16x256_d3)
    (broadcastInDim S4x2048x16x256 ![] bcast_S_S4x2048x16x256 factor)) shapeCasts_S4x2048x16x256_S8192x4096) bitsLt_bf16_f32

/-- The latents' keys and values. -/
def latentKV (a2 : FVec Ideal S4x2048x16x128 .f32) (a3 : FVec Ideal S4x2048x64 .f32) (a4 : FVec Ideal S4x2048x16x128 .f32) :
    FVec Ideal S8192x6144 .f32 :=
  concatenate S8192x6144 1 [⟨S8192x4096, shapeCast S8192x4096 (concatenate S4x2048x16x256 3 [⟨S4x2048x16x128, a2⟩,
      ⟨S4x2048x16x64, broadcastInDim S4x2048x16x64 ![0, 1, 2, 3] bcast_S4x2048x1x64_S4x2048x16x64_0_1_2_3
        (broadcastInDim S4x2048x1x64 ![0, 1, 3] bcast_S4x2048x64_S4x2048x1x64_0_1_3 a3)⟩,
      ⟨S4x2048x16x64, broadcastInDim S4x2048x16x64 ![] bcast_S_S4x2048x16x64 (constant S_ .f32 0x00000000#32)⟩]
      concatenates_S4x2048x16x128_S4x2048x16x64_S4x2048x16x64_S4x2048x16x256_d3) shapeCasts_S4x2048x16x256_S8192x4096⟩,
    ⟨S8192x2048, shapeCast S8192x2048 a4 shapeCasts_S4x2048x16x128_S8192x2048⟩] concatenates_S8192x4096_S8192x2048_S8192x6144_d1

/-- The context's keys and values. -/
def contextKV (a5 : FVec Ideal S4x256x16x128 .f32) (a6 : FVec Ideal S4x256x64 .f32) (a7 : FVec Ideal S4x256x16x128 .f32) :
    FVec Ideal S1024x6144 .f32 :=
  concatenate S1024x6144 1 [⟨S1024x4096, shapeCast S1024x4096 (concatenate S4x256x16x256 3 [⟨S4x256x16x128, a5⟩,
      ⟨S4x256x16x64, broadcastInDim S4x256x16x64 ![0, 1, 2, 3] bcast_S4x256x1x64_S4x256x16x64_0_1_2_3
        (broadcastInDim S4x256x1x64 ![0, 1, 3] bcast_S4x256x64_S4x256x1x64_0_1_3 a6)⟩,
      ⟨S4x256x16x64, broadcastInDim S4x256x16x64 ![] bcast_S_S4x256x16x64 (constant S_ .f32 0x00000000#32)⟩]
      concatenates_S4x256x16x128_S4x256x16x64_S4x256x16x64_S4x256x16x256_d3) shapeCasts_S4x256x16x256_S1024x4096⟩,
    ⟨S1024x2048, shapeCast S1024x2048 a7 shapeCasts_S4x256x16x128_S1024x2048⟩] concatenates_S1024x4096_S1024x2048_S1024x6144_d1

/-- Keys and values, the latents' rows and then the context's. -/
def allKV (x : FVec Ideal S8192x6144 .f32) (y : FVec Ideal S1024x6144 .f32) : FVec Ideal S9216x6144 .bf16 :=
  truncf .bf16 (concatenate S9216x6144 0 [⟨S8192x6144, x⟩, ⟨S1024x6144, y⟩] concatenates_S8192x6144_S1024x6144_S9216x6144_d0)
    bitsLt_bf16_f32

/-! ## They are what the call is given -/

variable (m : (ℓ : Loc nD τ sig) → Buf (Elt Ideal) ℓ)

set_option maxHeartbeats 1000000 in
/-- The first argument of the call. -/
theorem entry_queries (c : Dev nD) :
    V m c main_v8 = queries (m ((c : Thread nD τ).loc main_arg0)) (m ((c : Thread nD τ).loc main_arg1)) := by
  show StableHlo.after hostOps0 _ _ = _
  after_results
  all_goals rfl

set_option maxHeartbeats 1000000 in
/-- The array of keys and values, which the call takes four times. -/
theorem entry_kv (c : Dev nD) :
    V m c main_v24 = allKV (latentKV (m ((c : Thread nD τ).loc main_arg2)) (m ((c : Thread nD τ).loc main_arg3)) (m ((c : Thread nD τ).loc main_arg4)))
      (contextKV (m ((c : Thread nD τ).loc main_arg5)) (m ((c : Thread nD τ).loc main_arg6)) (m ((c : Thread nD τ).loc main_arg7))) := by
  show StableHlo.after hostOps0 _ _ = _
  after_results
  all_goals rfl

/-! ## Their entries -/

/-- A packed query. -/
theorem queries_at (a0 : FVec Ideal S4x2048x16x128 .f32) (a1 : FVec Ideal S4x2048x16x64 .f32) (b : Fin 4) (i : Fin 2048) (h : Fin 16) (e : Fin 256) :
    queries a0 a1 (ix2 ⟨b * 2048 + i, by omega⟩ ⟨h * 256 + e, by omega⟩)
      = Attention.packed (fun d => a0 (ix4 b i h d)) (fun d => a1 (ix4 b i h d)) e * factor ix0 := by
  pointwise [queries]
  rfl

/-- The latents' rows come first. -/
theorem latent_row_at (x : FVec Ideal S8192x6144 .f32) (y : FVec Ideal S1024x6144 .f32) (r : Fin 8192) (e : Fin 6144) :
    allKV x y (ix2 ⟨r, by omega⟩ e) = x (ix2 r e) := by
  have h1 : (r : ℕ) < 8192 := r.isLt
  pointwise [allKV, h1]

/-- The context's rows follow. -/
theorem context_row_at (x : FVec Ideal S8192x6144 .f32) (y : FVec Ideal S1024x6144 .f32) (r : Fin 1024) (e : Fin 6144) :
    allKV x y (ix2 ⟨8192 + r, by omega⟩ e) = y (ix2 r e) := by
  have h1 : ¬ (8192 + (r : ℕ) < 8192) := by omega
  pointwise [allKV, h1]

/-- A latent's packed key. -/
theorem latent_key_at (a2 : FVec Ideal S4x2048x16x128 .f32) (a3 : FVec Ideal S4x2048x64 .f32) (a4 : FVec Ideal S4x2048x16x128 .f32)
    (y : FVec Ideal S1024x6144 .f32) (b : Fin 4) (i : Fin 2048) (h : Fin 16) (e : Fin 256) :
    allKV (latentKV a2 a3 a4) y (ix2 ⟨b * 2048 + i, by omega⟩ ⟨h * 256 + e, by omega⟩)
      = Attention.packed (fun d => a2 (ix4 b i h d)) (fun d => a3 (ix3 b i d)) e := by
  refine (latent_row_at _ y ⟨b * 2048 + i, by omega⟩ _).trans ?_
  have h2 : (h : ℕ) * 256 + e < 4096 := by omega
  pointwise [latentKV, h2]
  rfl

/-- A context key. -/
theorem context_key_at (x : FVec Ideal S8192x6144 .f32) (a5 : FVec Ideal S4x256x16x128 .f32) (a6 : FVec Ideal S4x256x64 .f32)
    (a7 : FVec Ideal S4x256x16x128 .f32) (b : Fin 4) (i : Fin 256) (h : Fin 16) (e : Fin 256) :
    allKV x (contextKV a5 a6 a7) (ix2 ⟨8192 + (b * 256 + i), by omega⟩ ⟨h * 256 + e, by omega⟩)
      = Attention.packed (fun d => a5 (ix4 b i h d)) (fun d => a6 (ix3 b i d)) e := by
  refine (context_row_at x _ ⟨b * 256 + i, by omega⟩ _).trans ?_
  have h2 : (h : ℕ) * 256 + e < 4096 := by omega
  pointwise [contextKV, h2]
  rfl

/-- A latent's value. -/
theorem latent_value_at (a2 : FVec Ideal S4x2048x16x128 .f32) (a3 : FVec Ideal S4x2048x64 .f32) (a4 : FVec Ideal S4x2048x16x128 .f32)
    (y : FVec Ideal S1024x6144 .f32) (b : Fin 4) (i : Fin 2048) (h : Fin 16) (e : Fin 128) :
    allKV (latentKV a2 a3 a4) y (ix2 ⟨b * 2048 + i, by omega⟩ ⟨4096 + h * 128 + e, by omega⟩)
      = a4 (ix4 b i h e) := by
  refine (latent_row_at _ y ⟨b * 2048 + i, by omega⟩ _).trans ?_
  have h2 : ¬ (4096 + (h : ℕ) * 128 + e < 4096) := by omega
  pointwise [latentKV, h2]
  exact congrArg₂ (fun p q => a4 (ix4 b i p q)) (Fin.ext (by show (4096 + (h : ℕ) * 128 + e - 4096) / 128 = h; omega))
    (Fin.ext (by show (4096 + (h : ℕ) * 128 + e - 4096) % 128 = e; omega))

/-- A context value. -/
theorem context_value_at (x : FVec Ideal S8192x6144 .f32) (a5 : FVec Ideal S4x256x16x128 .f32) (a6 : FVec Ideal S4x256x64 .f32)
    (a7 : FVec Ideal S4x256x16x128 .f32) (b : Fin 4) (i : Fin 256) (h : Fin 16) (e : Fin 128) :
    allKV x (contextKV a5 a6 a7) (ix2 ⟨8192 + (b * 256 + i), by omega⟩ ⟨4096 + h * 128 + e, by omega⟩)
      = a7 (ix4 b i h e) := by
  refine (context_row_at x _ ⟨b * 256 + i, by omega⟩ _).trans ?_
  have h2 : ¬ (4096 + (h : ℕ) * 128 + e < 4096) := by omega
  pointwise [contextKV, h2]
  exact congrArg₂ (fun p q => a7 (ix4 b i p q)) (Fin.ext (by show (4096 + (h : ℕ) * 128 + e - 4096) / 128 = h; omega))
    (Fin.ext (by show (4096 + (h : ℕ) * 128 + e - 4096) % 128 = e; omega))

/-- Two. -/
theorem bits_2 : Ideal.ofBits .f32 0x40000000#32 = ((2 : ℝ) : EReal) := by
  simp [Ideal.ofBits, Ideal.ieee, -EReal.coe_mul]; norm_num

/-- The factor is the real `1 / √192 / log 2`. -/
theorem factor_eq : factor ix0 = (((Real.sqrt 192)⁻¹ * (Real.log 2)⁻¹ : ℝ) : EReal) := by
  pointwise [factor]
  rw [Softmax.bits_192, bits_2]
  show Ideal.div (Ideal.rsqrt _) (Ideal.log _) = _
  rw [Ideal.rsqrt_coe, Ideal.log_coe, if_neg (by norm_num), if_neg (by norm_num), if_neg (by norm_num)]
  unfold Ideal.div
  rw [if_neg (by exact_mod_cast (Real.log_pos one_lt_two).ne'), EReal.coe_mul, EReal.coe_inv (Real.log 2)]

end Cert.KernelIdeal.Attn

end
-- ==== Proof.Row.lean ====
/-
What the attention's body stores for one query row and one value column: the softmax of the row's base-2
logits, mixed over the values, when all the logits are reals.
-/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Attn

open Cert.Softmax (bottom)
open Cert.KernelIdeal Cert.KernelIdeal.Gen Idealize.ShloMosaic Idealize.ShloMosaic.TcCoe Idealize.SL.Sem

/-! ## The body's operations, read at an index -/

/-- Logits: query row `i` against key row `j`. -/
theorem logits_at (q : FVec Ideal S2048x256 .bf16) (k : FVec Ideal S768x256 .bf16) (i : Fin 2048) (j : Fin 768) :
    matmul dot_S2048x256_S768x256_S2048x768_1_1_0_0_n_n none q k (constant S2048x768 .f32 0x00000000#32) (ix2 i j)
      = ∑ d : Fin 256, q (ix2 i d) * k (ix2 j d) := by
  pointwise []

/-- The largest entry of a row. -/
theorem rowmax_at (s : FVec Ideal S2048x768 .f32) (i : Fin 2048) :
    shapeCast S2048x1 (multiReduction .maximumf [1] S2048 s 0xFF800000#32 reduces_S2048x768_S2048 (.inl rfl) rfl)
        shapeCasts_S2048_S2048x1 (ix2 i 0)
      = Finset.univ.fold max (Ideal.ofBits .f32 0xFF800000#32) fun j : Fin 768 => s (ix2 i j) := by
  pointwise []

/-- The sum of a row. -/
theorem rowsum_at (s : FVec Ideal S2048x768 .f32) (i : Fin 2048) :
    shapeCast S2048x1 (multiReduction .add [1] S2048 s 0x00000000#32 reduces_S2048x768_S2048 (.inl rfl) rfl)
        shapeCasts_S2048_S2048x1 (ix2 i 0)
      = ∑ j : Fin 768, s (ix2 i j) := by
  pointwise []

/-- The exponential of a row with its running maximum taken off. -/
theorem weights_at (s : FVec Ideal S2048x768 .f32) (m : FVec Ideal S2048x1 .f32) (i : Fin 2048) (j : Fin 768) :
    exp2 (subf s (broadcastTo S2048x768 m broadcasts_S2048x1_S2048x768)) (ix2 i j)
      = Ideal.exp2 (s (ix2 i j) - m (ix2 i 0)) := by
  pointwise []
  rfl

/-- The factor a new maximum rescales by. -/
theorem factor_at (m m' : FVec Ideal S2048x1 .f32) (i : Fin 2048) :
    exp2 (subf m m') (ix2 i 0) = Ideal.exp2 (m (ix2 i 0) - m' (ix2 i 0)) := rfl

/-- The larger of two running maxima. -/
theorem larger_at (m m' : FVec Ideal S2048x1 .f32) (i : Fin 2048) :
    maximumf m m' (ix2 i 0) = max (m (ix2 i 0)) (m' (ix2 i 0)) := rfl

/-- The weighted sum of a chunk's values. -/
theorem values_at (p : FVec Ideal S2048x768 .f32) (v : FVec Ideal S768x128 .bf16) (i : Fin 2048) (d : Fin 128) :
    matmul dot_S2048x768_S768x128_S2048x128_1_0_0_1_n_n none (truncf .bf16 p bitsLt_bf16_f32) v
        (constant S2048x128 .f32 0x00000000#32) (ix2 i d)
      = ∑ j : Fin 768, p (ix2 i j) * v (ix2 j d) := by
  pointwise []

/-- The running sum of weights, rescaled and added to. -/
theorem carry_sum_at (a l s : FVec Ideal S2048x1 .f32) (i : Fin 2048) :
    addf (mulf a l) s (ix2 i 0) = a (ix2 i 0) * l (ix2 i 0) + s (ix2 i 0) := rfl

/-- The running weighted sum, rescaled and added to. -/
theorem carry_values_at (a : FVec Ideal S2048x1 .f32) (acc s : FVec Ideal S2048x128 .f32) (i : Fin 2048) (d : Fin 128) :
    addf (mulf (broadcastTo S2048x128 a broadcasts_S2048x1_S2048x128) acc) s (ix2 i d)
      = a (ix2 i 0) * acc (ix2 i d) + s (ix2 i d) := by
  pointwise []

/-- The quotient that is stored. -/
theorem quotient_at (acc : FVec Ideal S2048x128 .f32) (l : FVec Ideal S2048x1 .f32) (i : Fin 2048) (d : Fin 128) :
    truncf .bf16 (divf acc (broadcastTo S2048x128 l broadcasts_S2048x1_S2048x128)) bitsLt_bf16_f32 (ix2 i d)
      = Ideal.div (acc (ix2 i d)) (l (ix2 i 0)) := by
  pointwise []

/-- Two chunks of rows, one above the other: 512 rows and then 256. -/
theorem stacked_keys_at (x : FVec Ideal S512x256 .bf16) (y : FVec Ideal S256x256 .bf16) (j : Fin 768) (d : Fin 256) :
    concatenate S768x256 0 [⟨S512x256, x⟩, ⟨S256x256, y⟩] concatenates_S512x256_S256x256_S768x256_d0 (ix2 j d)
      = if h : (j : ℕ) < 512 then x (ix2 ⟨j, h⟩ d) else y (ix2 ⟨j - 512, by omega⟩ d) := by
  pointwise []

/-- The same for the values. -/
theorem stacked_values_at (x : FVec Ideal S512x128 .bf16) (y : FVec Ideal S256x128 .bf16) (j : Fin 768) (d : Fin 128) :
    concatenate S768x128 0 [⟨S512x128, x⟩, ⟨S256x128, y⟩] concatenates_S512x128_S256x128_S768x128_d0 (ix2 j d)
      = if h : (j : ℕ) < 512 then x (ix2 ⟨j, h⟩ d) else y (ix2 ⟨j - 512, by omega⟩ d) := by
  pointwise []

/-! ## The payloads -/

variable (q : FVec Ideal S2048x256 .bf16) (k k' : FVec Ideal S768x256 .bf16)

theorem pay2_eq : k0_pay2 (F := Ideal) q = q := shapeCast_self _ _

theorem pay3_at (i : Fin 2048) (j : Fin 768) :
    k0_pay3 (F := Ideal) q k (ix2 i j) = ∑ d : Fin 256, q (ix2 i d) * k (ix2 j d) := by
  have h := logits_at q k i j
  unfold k0_pay3
  rw [pay2_eq, shapeCast_self]
  exact h

theorem pay6_at (i : Fin 2048) (j : Fin 768) :
    k0_pay6 (F := Ideal) q k (ix2 i j) = ∑ d : Fin 256, q (ix2 i d) * k (ix2 j d) := pay3_at q k i j

theorem pay4_at (i : Fin 2048) :
    k0_pay4 (F := Ideal) q k (ix2 i 0)
      = Finset.univ.fold max (⊥ : EReal) fun j : Fin 768 => k0_pay3 (F := Ideal) q k (ix2 i j) := by
  rw [← bottom]
  exact rowmax_at (k0_pay3 (F := Ideal) q k) i

theorem pay5_at (i : Fin 2048) (j : Fin 768) :
    k0_pay5 (F := Ideal) q k (ix2 i j)
      = Ideal.exp2 (k0_pay3 (F := Ideal) q k (ix2 i j) - k0_pay4 (F := Ideal) q k (ix2 i 0)) :=
  weights_at (k0_pay3 (F := Ideal) q k) (k0_pay4 (F := Ideal) q k) i j

theorem pay7_at (i : Fin 2048) :
    k0_pay7 (F := Ideal) q k k' (ix2 i 0)
      = max (k0_pay4 (F := Ideal) q k (ix2 i 0))
          (Finset.univ.fold max (⊥ : EReal) fun j : Fin 768 => k0_pay6 (F := Ideal) q k' (ix2 i j)) := by
  rw [← bottom]
  rw [← rowmax_at (k0_pay6 (F := Ideal) q k') i]
  exact larger_at (k0_pay4 (F := Ideal) q k) _ i

theorem pay8_at (i : Fin 2048) (j : Fin 768) :
    k0_pay8 (F := Ideal) q k k' (ix2 i j)
      = Ideal.exp2 (k0_pay6 (F := Ideal) q k' (ix2 i j) - k0_pay7 (F := Ideal) q k k' (ix2 i 0)) :=
  weights_at (k0_pay6 (F := Ideal) q k') (k0_pay7 (F := Ideal) q k k') i j

theorem pay9_at (i : Fin 2048) :
    k0_pay9 (F := Ideal) q k k' (ix2 i 0)
      = Ideal.exp2 (k0_pay4 (F := Ideal) q k (ix2 i 0) - k0_pay7 (F := Ideal) q k k' (ix2 i 0)) :=
  factor_at (k0_pay4 (F := Ideal) q k) (k0_pay7 (F := Ideal) q k k') i

theorem pay10_at (i : Fin 2048) :
    k0_pay10 (F := Ideal) q k k' (ix2 i 0)
      = k0_pay9 (F := Ideal) q k k' (ix2 i 0) * ∑ j, k0_pay5 (F := Ideal) q k (ix2 i j)
        + ∑ j, k0_pay8 (F := Ideal) q k k' (ix2 i j) := by
  rw [← rowsum_at (k0_pay5 (F := Ideal) q k) i, ← rowsum_at (k0_pay8 (F := Ideal) q k k') i]
  exact carry_sum_at (k0_pay9 (F := Ideal) q k k') _ _ i

theorem pay11_at (v v' : FVec Ideal S768x128 .bf16) (i : Fin 2048) (d : Fin 128) :
    k0_pay11 (F := Ideal) q k v k' v' (ix2 i d)
      = k0_pay9 (F := Ideal) q k k' (ix2 i 0) * ∑ j, k0_pay5 (F := Ideal) q k (ix2 i j) * v (ix2 j d)
        + ∑ j, k0_pay8 (F := Ideal) q k k' (ix2 i j) * v' (ix2 j d) := by
  unfold k0_pay11
  rw [shapeCast_self, shapeCast_self, ← values_at (k0_pay5 (F := Ideal) q k) v i d,
    ← values_at (k0_pay8 (F := Ideal) q k k') v' i d]
  exact carry_values_at (k0_pay9 (F := Ideal) q k k') _ _ i d

/-- The last step and the quotient, over a chunk of keys and a chunk of values. -/
def last (q : FVec Ideal S2048x256 .bf16) (m l : FVec Ideal S2048x1 .f32) (acc : FVec Ideal S2048x128 .f32)
    (k : FVec Ideal S768x256 .bf16) (v : FVec Ideal S768x128 .bf16) (i : Fin 2048) (d : Fin 128) : EReal :=
  let s : Fin 768 → EReal := fun j => ∑ d : Fin 256, q (ix2 i d) * k (ix2 j d)
  let m' : EReal := max (m (ix2 i 0)) (Finset.univ.fold max (⊥ : EReal) s)
  Ideal.div
    (Ideal.exp2 (m (ix2 i 0) - m') * acc (ix2 i d) + ∑ j, Ideal.exp2 (s j - m') * v (ix2 j d))
    (Ideal.exp2 (m (ix2 i 0) - m') * l (ix2 i 0) + ∑ j, Ideal.exp2 (s j - m'))

theorem last_at (q : FVec Ideal S2048x256 .bf16) (m l : FVec Ideal S2048x1 .f32) (acc : FVec Ideal S2048x128 .f32)
    (k : FVec Ideal S768x256 .bf16) (v : FVec Ideal S768x128 .bf16) (i : Fin 2048) (d : Fin 128)
    (s : FVec Ideal S2048x768 .f32)
    (hs : s = matmul dot_S2048x256_S768x256_S2048x768_1_1_0_0_n_n none q k (constant S2048x768 .f32 0x00000000#32))
    (m' : FVec Ideal S2048x1 .f32)
    (hm : m' = maximumf m (shapeCast S2048x1 (multiReduction .maximumf [1] S2048 s 0xFF800000#32 reduces_S2048x768_S2048 (.inl rfl) rfl)
        shapeCasts_S2048_S2048x1)) (p : FVec Ideal S2048x768 .f32)
    (hp : p = exp2 (subf s (broadcastTo S2048x768 m' broadcasts_S2048x1_S2048x768))) :
    truncf .bf16 (divf
        (addf (mulf (broadcastTo S2048x128 (exp2 (subf m m')) broadcasts_S2048x1_S2048x128) acc)
          (matmul dot_S2048x768_S768x128_S2048x128_1_0_0_1_n_n none (truncf .bf16 p bitsLt_bf16_f32) v
            (constant S2048x128 .f32 0x00000000#32)))
        (broadcastTo S2048x128 (addf (mulf (exp2 (subf m m')) l)
          (shapeCast S2048x1 (multiReduction .add [1] S2048 p 0x00000000#32 reduces_S2048x768_S2048 (.inl rfl) rfl)
            shapeCasts_S2048_S2048x1)) broadcasts_S2048x1_S2048x128)) bitsLt_bf16_f32 (ix2 i d)
      = last q m l acc k v i d := by
  have es : ∀ j, s (ix2 i j) = ∑ d : Fin 256, q (ix2 i d) * k (ix2 j d) := fun j => by rw [hs]; exact logits_at q k i j
  have em : m' (ix2 i 0) = max (m (ix2 i 0)) (Finset.univ.fold max (⊥ : EReal) fun j : Fin 768 => s (ix2 i j)) := by
    rw [hm, ← bottom]
    rw [larger_at, rowmax_at]
  have ep : ∀ j, p (ix2 i j) = Ideal.exp2 (s (ix2 i j) - m' (ix2 i 0)) := fun j => by rw [hp]; exact weights_at s m' i j
  rw [quotient_at, carry_values_at, carry_sum_at, values_at, rowsum_at, factor_at]
  simp only [ep, em, es]
  rfl

theorem pay1_at (m l : FVec Ideal S2048x1 .f32) (acc : FVec Ideal S2048x128 .f32)
    (kl : FVec Ideal S512x256 .bf16) (kc : FVec Ideal S256x256 .bf16) (vl : FVec Ideal S512x128 .bf16) (vc : FVec Ideal S256x128 .bf16)
    (i : Fin 2048) (d : Fin 128) :
    k0_pay1 (F := Ideal) q m l acc kl kc vl vc (ix2 i d)
      = last q m l acc (concatenate S768x256 0 [⟨S512x256, kl⟩, ⟨S256x256, kc⟩] concatenates_S512x256_S256x256_S768x256_d0)
          (concatenate S768x128 0 [⟨S512x128, vl⟩, ⟨S256x128, vc⟩] concatenates_S512x128_S256x128_S768x128_d0) i d := by
  unfold k0_pay1
  rw [shapeCast_self, shapeCast_self, shapeCast_self, shapeCast_self]
  exact last_at q m l acc _ _ i d _ rfl _ rfl _ rfl

/-! ## One row -/

/-- A largest entry of finitely many reals is a real. -/
theorem max_real {f : Fin 768 → EReal} {a : Fin 768 → ℝ} (h : ∀ j, f j = (a j : EReal)) :
    ∃ M : ℝ, Finset.univ.fold max (⊥ : EReal) f = (M : EReal) := by
  rw [show f = fun j => (a j : EReal) from funext h]
  exact Softmax.fold_max_real a

/-- What the body stores for row `i` and column `d`: the softmax of the row's logits `t`, mixed over the values `x`. -/
theorem row (v v' : FVec Ideal S768x128 .bf16)
    (kl : FVec Ideal S512x256 .bf16) (kc : FVec Ideal S256x256 .bf16) (vl : FVec Ideal S512x128 .bf16) (vc : FVec Ideal S256x128 .bf16)
    (i : Fin 2048) (d : Fin 128) (t : Fin 2304 → ℝ) (x : Fin 2304 → EReal)
    (h0 : ∀ j : Fin 768, ∑ e : Fin 256, q (ix2 i e) * k (ix2 j e) = (t ⟨0 * 768 + j, by omega⟩ : EReal))
    (h1 : ∀ j : Fin 768, ∑ e : Fin 256, q (ix2 i e) * k' (ix2 j e) = (t ⟨1 * 768 + j, by omega⟩ : EReal))
    (h2 : ∀ j : Fin 768, ∑ e : Fin 256, q (ix2 i e)
        * (if h : (j : ℕ) < 512 then kl (ix2 ⟨j, h⟩ e) else kc (ix2 ⟨j - 512, by omega⟩ e) : EReal) = (t ⟨2 * 768 + j, by omega⟩ : EReal))
    (x0 : ∀ j : Fin 768, v (ix2 j d) = x ⟨0 * 768 + j, by omega⟩)
    (x1 : ∀ j : Fin 768, v' (ix2 j d) = x ⟨1 * 768 + j, by omega⟩)
    (x2 : ∀ j : Fin 768, (if h : (j : ℕ) < 512 then vl (ix2 ⟨j, h⟩ d) else vc (ix2 ⟨j - 512, by omega⟩ d) : EReal)
        = x ⟨2 * 768 + j, by omega⟩) :
    k0_pay1 (F := Ideal) (k0_pay2 q) (k0_pay7 q k k') (k0_pay10 q k k') (k0_pay11 q k v k' v') kl kc vl vc (ix2 i d)
      = Softmax.mix t x := by
  have e3 : ∀ j, k0_pay3 (F := Ideal) q k (ix2 i j) = (t ⟨0 * 768 + j, by omega⟩ : EReal) := fun j => (pay3_at q k i j).trans (h0 j)
  have e6 : ∀ j, k0_pay6 (F := Ideal) q k' (ix2 i j) = (t ⟨1 * 768 + j, by omega⟩ : EReal) := fun j => (pay6_at q k' i j).trans (h1 j)
  obtain ⟨m0, hm0⟩ := max_real e3
  have e4 := (pay4_at q k i).trans hm0
  obtain ⟨n1, hn1⟩ := max_real e6
  have e7 : k0_pay7 (F := Ideal) q k k' (ix2 i 0) = ((max m0 n1 : ℝ) : EReal) := by
    rw [pay7_at, e4, hn1]; exact (EReal.coe_strictMono.monotone.map_max).symm
  rw [pay2_eq, pay1_at]
  unfold last
  simp only [stacked_keys_at, stacked_values_at, x2, h2]
  obtain ⟨n2, hn2⟩ := Softmax.fold_max_real (fun j : Fin 768 => t ⟨2 * 768 + j, by omega⟩)
  rw [hn2, e7, pay10_at, pay11_at, pay9_at, e4, e7]
  simp only [pay5_at, pay8_at, e3, e6, e4, e7, x0, x1]
  rw [show max ((max m0 n1 : ℝ) : EReal) (n2 : EReal) = ((max (max m0 n1) n2 : ℝ) : EReal) from
    (EReal.coe_strictMono.monotone.map_max).symm]
  exact Softmax.three_steps_mix t x _ _ _ _ _ _ m0 _ _ (fun _ => rfl) (fun _ => rfl) (fun _ => rfl) (fun _ => rfl) (fun _ => rfl) (fun _ => rfl)

end Cert.KernelIdeal.Attn

end
-- ==== Proof.Final.lean ====
/-
The kernel's result, an entry at a time: what a step writes for its batch and head is the attention there, and
the steps' blocks make up the result.
-/
module

public import proofs.«01_k».proof.Proof.Blocks
public import proofs.«01_k».proof.Proof.Host
public import proofs.«01_k».proof.Proof.Row

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The queries and keys hold no infinity. -/
structure Bounded (c : Dev nD) : Prop where
  qn : ∀ b i h e, Attention.Finite (m ((c.tc : Thread nD τ).loc main_arg0) (ix4 b i h e))
  qr : ∀ b i h e, Attention.Finite (m ((c.tc : Thread nD τ).loc main_arg1) (ix4 b i h e))
  kn : ∀ b i h e, Attention.Finite (m ((c.tc : Thread nD τ).loc main_arg2) (ix4 b i h e))
  kr : ∀ b i e, Attention.Finite (m ((c.tc : Thread nD τ).loc main_arg3) (ix3 b i e))
  kn' : ∀ b i h e, Attention.Finite (m ((c.tc : Thread nD τ).loc main_arg5) (ix4 b i h e))
  kr' : ∀ b i e, Attention.Finite (m ((c.tc : Thread nD τ).loc main_arg6) (ix3 b i e))

/-- The attention, of the kernel's arguments. -/
abbrev attn (c : Dev nD) (b : Fin 4) (i : Fin 2048) (h : Fin 16) (d : Fin 128) : EReal :=
  Attention.result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) b i h d

/-! ## What a step reads, in the arguments -/

section
variable (c : Dev nD) (t : Fin cfg0.N) (b : Fin 4) (h : Fin 16) (hb : t.val / 16 = b) (hh : t.val % 16 = h)
include hb hh

theorem query (i : Fin 2048) (e : Fin 256) :
    iblk m c 0 t (ix2 i e) = Attention.packed (fun d => m ((c.tc : Thread nD τ).loc main_arg0) (ix4 b i h d))
      (fun d => m ((c.tc : Thread nD τ).loc main_arg1) (ix4 b i h d)) e * (((Real.sqrt 192)⁻¹ * (Real.log 2)⁻¹ : ℝ) : EReal) := by
  rw [q_block m c t b h hb hh, entry_queries, queries_at, factor_eq]

theorem latent_key (i : Fin 2048) (e : Fin 256) :
    X0_1 m c t (ix2 i e) = Attention.packed (fun d => m ((c.tc : Thread nD τ).loc main_arg2) (ix4 b i h d))
      (fun d => m ((c.tc : Thread nD τ).loc main_arg3) (ix3 b i d)) e := by
  rw [k_block m c t b h hb hh, entry_kv, latent_key_at]

theorem context_key (i : Fin 256) (e : Fin 256) :
    iblk m c 2 t (ix2 i e) = Attention.packed (fun d => m ((c.tc : Thread nD τ).loc main_arg5) (ix4 b i h d))
      (fun d => m ((c.tc : Thread nD τ).loc main_arg6) (ix3 b i d)) e := by
  rw [kc_block m c t b h hb hh, entry_kv, context_key_at]

theorem latent_value (i : Fin 2048) (e : Fin 128) :
    X0_3 m c t (ix2 i e) = m ((c.tc : Thread nD τ).loc main_arg4) (ix4 b i h e) := by
  rw [v_block m c t b h hb hh, entry_kv, latent_value_at]

theorem context_value (i : Fin 256) (e : Fin 128) :
    iblk m c 4 t (ix2 i e) = m ((c.tc : Thread nD τ).loc main_arg7) (ix4 b i h e) := by
  rw [vc_block m c t b h hb hh, entry_kv, context_value_at]

end

/-! ## What a step writes -/

section
variable (X : S2048x256.Idx → Elt Ideal .bf16) (Y : S2048x128.Idx → Elt Ideal .bf16)

theorem first_keys (j : Fin 768) (e : Fin 256) :
    View.ld X (Rect.unit (s := S2048x256) ![0, 0] ![768, 256] inb_S2048x256_S768x256_0_0) (ix2 j e) = X (ix2 ⟨j, by omega⟩ e) := by
  pointwise []

theorem second_keys (j : Fin 768) (e : Fin 256) :
    View.ld X (Rect.unit (s := S2048x256) ![768, 0] ![768, 256] inb_S2048x256_S768x256_768_0) (ix2 j e) = X (ix2 ⟨768 + j, by omega⟩ e) := by
  pointwise []

theorem last_keys (j : Fin 512) (e : Fin 256) :
    View.ld X (Rect.unit (s := S2048x256) ![1536, 0] ![512, 256] inb_S2048x256_S512x256_1536_0) (ix2 j e) = X (ix2 ⟨1536 + j, by omega⟩ e) := by
  pointwise []

theorem first_values (j : Fin 768) (e : Fin 128) :
    View.ld Y (Rect.unit (s := S2048x128) ![0, 0] ![768, 128] inb_S2048x128_S768x128_0_0) (ix2 j e) = Y (ix2 ⟨j, by omega⟩ e) := by
  pointwise []

theorem second_values (j : Fin 768) (e : Fin 128) :
    View.ld Y (Rect.unit (s := S2048x128) ![768, 0] ![768, 128] inb_S2048x128_S768x128_768_0) (ix2 j e) = Y (ix2 ⟨768 + j, by omega⟩ e) := by
  pointwise []

theorem last_values (j : Fin 512) (e : Fin 128) :
    View.ld Y (Rect.unit (s := S2048x128) ![1536, 0] ![512, 128] inb_S2048x128_S512x128_1536_0) (ix2 j e) = Y (ix2 ⟨1536 + j, by omega⟩ e) := by
  pointwise []

end

/-- One of the latents' keys is picked among them. -/
theorem pick_latent {α : Type} (x : Fin 2048 → α) (y : Fin 256 → α) (k : Fin 2304) (j : Fin 2048) (h : k.val = j) :
    Attention.pick x y k = x j := by
  unfold Attention.pick
  rw [dif_pos (by omega)]
  exact congrArg x (Fin.ext h)

/-- One of the context's. -/
theorem pick_context {α : Type} (x : Fin 2048 → α) (y : Fin 256 → α) (k : Fin 2304) (j : Fin 256) (h : k.val = 2048 + j) :
    Attention.pick x y k = y j := by
  unfold Attention.pick
  rw [dif_neg (by omega)]
  exact congrArg y (Fin.ext (by show k.val - 2048 = j; omega))

/-- The rows of a step's block are rows of the attention of its batch and head. -/
theorem step (c : Dev nD) (hf : Bounded m c) (t : Fin cfg0.N) (b : Fin 4) (h : Fin 16) (hb : t.val / 16 = b) (hh : t.val % 16 = h)
    (i : Fin 2048) (d : Fin 128) :
    k0_pay1 (F := Ideal) (k0_pay2 (iblk m c 0 t))
      (k0_pay7 (iblk m c 0 t) (View.ld (X0_1 m c t) (Rect.unit ![0, 0] ![768, 256] inb_S2048x256_S768x256_0_0))
        (View.ld (X0_1 m c t) (Rect.unit ![768, 0] ![768, 256] inb_S2048x256_S768x256_768_0)))
      (k0_pay10 (iblk m c 0 t) (View.ld (X0_1 m c t) (Rect.unit ![0, 0] ![768, 256] inb_S2048x256_S768x256_0_0))
        (View.ld (X0_1 m c t) (Rect.unit ![768, 0] ![768, 256] inb_S2048x256_S768x256_768_0)))
      (k0_pay11 (iblk m c 0 t) (View.ld (X0_1 m c t) (Rect.unit ![0, 0] ![768, 256] inb_S2048x256_S768x256_0_0))
        (View.ld (X0_3 m c t) (Rect.unit ![0, 0] ![768, 128] inb_S2048x128_S768x128_0_0))
        (View.ld (X0_1 m c t) (Rect.unit ![768, 0] ![768, 256] inb_S2048x256_S768x256_768_0))
        (View.ld (X0_3 m c t) (Rect.unit ![768, 0] ![768, 128] inb_S2048x128_S768x128_768_0)))
      (View.ld (X0_1 m c t) (Rect.unit ![1536, 0] ![512, 256] inb_S2048x256_S512x256_1536_0)) (iblk m c 2 t)
      (View.ld (X0_3 m c t) (Rect.unit ![1536, 0] ![512, 128] inb_S2048x128_S512x128_1536_0)) (iblk m c 4 t) (ix2 i d)
      = attn m c b i h d := by
  have hl : ∀ j : Fin 2048, _ := fun j => Attention.packed_logit (hf.qn b i h) (hf.kn b j h) (hf.qr b i h) (hf.kr b j)
  have hc : ∀ j : Fin 256, _ := fun j => Attention.packed_logit (hf.qn b i h) (hf.kn' b j h) (hf.qr b i h) (hf.kr' b j)
  refine row _ _ _ _ _ _ _ _ _ i d _ _ (fun j => ?_) (fun j => ?_) (fun j => ?_) (fun j => ?_) (fun j => ?_) (fun j => ?_)
  · rw [pick_latent _ _ _ ⟨j, by omega⟩ (by show 0 * 768 + (j : ℕ) = j; omega), pick_latent _ _ _ ⟨j, by omega⟩ (by show 0 * 768 + (j : ℕ) = j; omega)]
    exact (Finset.sum_congr rfl fun e _ => by rw [first_keys, query m c t b h hb hh, latent_key m c t b h hb hh]).trans (hl _)
  · rw [pick_latent _ _ _ ⟨768 + j, by omega⟩ (by show 1 * 768 + (j : ℕ) = 768 + j; omega), pick_latent _ _ _ ⟨768 + j, by omega⟩ (by show 1 * 768 + (j : ℕ) = 768 + j; omega)]
    exact (Finset.sum_congr rfl fun e _ => by rw [second_keys, query m c t b h hb hh, latent_key m c t b h hb hh]).trans (hl _)
  · by_cases h5 : (j : ℕ) < 512
    · rw [pick_latent _ _ _ ⟨1536 + j, by omega⟩ (by show 2 * 768 + (j : ℕ) = 1536 + j; omega), pick_latent _ _ _ ⟨1536 + j, by omega⟩ (by show 2 * 768 + (j : ℕ) = 1536 + j; omega)]
      exact (Finset.sum_congr rfl fun e _ => by rw [dif_pos h5, last_keys, query m c t b h hb hh, latent_key m c t b h hb hh]).trans (hl _)
    · rw [pick_context _ _ _ ⟨j - 512, by omega⟩ (by show 2 * 768 + (j : ℕ) = 2048 + (j - 512); omega), pick_context _ _ _ ⟨j - 512, by omega⟩ (by show 2 * 768 + (j : ℕ) = 2048 + (j - 512); omega)]
      exact (Finset.sum_congr rfl fun e _ => by rw [dif_neg h5, query m c t b h hb hh, context_key m c t b h hb hh]).trans (hc _)
  · rw [pick_latent _ _ _ ⟨j, by omega⟩ (by show 0 * 768 + (j : ℕ) = j; omega), first_values, latent_value m c t b h hb hh]
  · rw [pick_latent _ _ _ ⟨768 + j, by omega⟩ (by show 1 * 768 + (j : ℕ) = 768 + j; omega), second_values, latent_value m c t b h hb hh]
  · by_cases h5 : (j : ℕ) < 512
    · rw [dif_pos h5, pick_latent _ _ _ ⟨1536 + j, by omega⟩ (by show 2 * 768 + (j : ℕ) = 1536 + j; omega), last_values, latent_value m c t b h hb hh]
    · rw [dif_neg h5, pick_context _ _ _ ⟨j - 512, by omega⟩ (by show 2 * 768 + (j : ℕ) = 2048 + (j - 512); omega), context_value m c t b h hb hh]

/-- The kernel's result is any array whose entries are the attention's. -/
theorem final (c : Dev nD) (hf : Bounded m c) (G : FVec Ideal S8192x2048 .bf16)
    (hG : ∀ (b : Fin 4) (i : Fin 2048) (h : Fin 16) (d : Fin 128),
      G (ix2 ⟨b * 2048 + i, by omega⟩ ⟨h * 128 + d, by omega⟩) = attn m c b i h d) :
    (dats m 0 c).arrAt 5 (cfgs 0).N = G := by
  refine (dats m 0 c).arrAt_eq_of_covers 5 _ (by decide +kernel) fun t _ y => ?_
  blk_simp
  rw [after0_5]
  unfold outsAt0
  frame_out
  have hb : t.val / 16 < 4 := (idx t).2.2.2.2.2.2
  have hh : t.val % 16 < 16 := Nat.mod_lt _ (by norm_num)
  have key : ∀ (i : Fin 2048) (d : Fin 128), G (((View.whole main_v25).slice (win0_5.rect t)).emb (ix2 i d))
      = attn m c ⟨t.val / 16, hb⟩ i ⟨t.val % 16, hh⟩ d := fun i d => by
    rw [← hG]
    blk_ext [idx t]
  rw [show y = ix2 (n0 := 2048) (n1 := 128) (y 0) (y 1) from eq_ix2 (n0 := 2048) (n1 := 128) y]
  exact (step m c hf t ⟨t.val / 16, hb⟩ ⟨t.val % 16, hh⟩ rfl rfl (y 0) (y 1)).trans (key (y 0) (y 1)).symm

end Cert.KernelIdeal.Attn

end
-- ==== Proof.Reference.lean ====
/-
The reference's result, an entry at a time: the scores, their softmax over the 2304 keys, and the mix of the values.
-/
module

public import proofs.«01_k».proof.Proof.Gen.ReferenceIdeal.Run
public import proofs.«01_k».proof.Proof.Attention
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-! ## The reference in stages -/

/-- The latents' keys or values and then the context's. -/
def joined (x : FVec Ideal S4x2048x16x128 .f32) (y : FVec Ideal S4x256x16x128 .f32) : FVec Ideal S4x2304x16x128 .f32 :=
  concatenate S4x2304x16x128 1 [⟨S4x2048x16x128, x⟩, ⟨S4x256x16x128, y⟩] concatenates_S4x2048x16x128_S4x256x16x128_S4x2304x16x128_d1

/-- The rotary keys, the latents' and then the context's. -/
def joinedRot (x : FVec Ideal S4x2048x64 .f32) (y : FVec Ideal S4x256x64 .f32) : FVec Ideal S4x2304x64 .f32 :=
  concatenate S4x2304x64 1 [⟨S4x2048x64, x⟩, ⟨S4x256x64, y⟩] concatenates_S4x2048x64_S4x256x64_S4x2304x64_d1

/-- The scores. -/
def scores (qn : FVec Ideal S4x2048x16x128 .f32) (qr : FVec Ideal S4x2048x16x64 .f32) (k : FVec Ideal S4x2304x16x128 .f32)
    (kr : FVec Ideal S4x2304x64 .f32) : FVec Ideal S4x16x2048x2304 .f32 :=
  mulf (addf (Host.dotGeneral dot_S4x2048x16x128_S4x2304x16x128_S4x16x2048x2304_3_3_1_1_02_02 none qn k)
      (transpose S4x16x2048x2304 [0, 3, 2, 1] (Host.dotGeneral dot_S4x2304x64_S4x2048x16x64_S4x2304x2048x16_2_3_1_12_0_0 none kr qr)
        transposes_S4x2304x2048x16_S4x16x2048x2304_0_3_2_1))
    (broadcastInDim S4x16x2048x2304 ![] bcast_S_S4x16x2048x2304 (Host.rsqrt (constant S_ .f32 0x43400000#32)))

/-- The largest score of a query. -/
def rowmax (s : FVec Ideal S4x16x2048x2304 .f32) : FVec Ideal S4x16x2048 .f32 :=
  Host.reduce FloatOps.maximumf s (constant S_ .f32 0xFF800000#32) reducesTo_S4x16x2048x2304_S4x16x2048_d3 h_S_

/-- What the largest score is compared with. -/
def floor : FVec Ideal S4x16x2048 .f32 :=
  broadcastInDim S4x16x2048 ![] bcast_S_S4x16x2048 (constant S_ .f32 0xFF800000#32)

/-- What a query's scores are taken less of. -/
def largest (s : FVec Ideal S4x16x2048x2304 .f32) : FVec Ideal S4x16x2048 .f32 := maximumf floor (rowmax s)

/-- A number for each query, at each of its keys. -/
def spread (x : FVec Ideal S4x16x2048 .f32) : FVec Ideal S4x16x2048x2304 .f32 :=
  broadcastInDim S4x16x2048x2304 ![0, 1, 2, 3] bcast_S4x16x2048x1_S4x16x2048x2304_0_1_2_3
    (broadcastInDim S4x16x2048x1 ![0, 1, 2] bcast_S4x16x2048_S4x16x2048x1_0_1_2 x)

/-- The exponentials of the scores less `x`. -/
def exps (s : FVec Ideal S4x16x2048x2304 .f32) (x : FVec Ideal S4x16x2048 .f32) : FVec Ideal S4x16x2048x2304 .f32 :=
  Host.exp (subf s (spread x))

/-- Each exponential over its query's sum of them. -/
def shares (p : FVec Ideal S4x16x2048x2304 .f32) : FVec Ideal S4x16x2048x2304 .f32 :=
  Host.divf p (spread (Host.reduceAdd p (constant S_ .f32 0x00000000#32) reducesTo_S4x16x2048x2304_S4x16x2048_d3 h_S_))

/-- The values mixed, a row for each query. -/
def mixed (v : FVec Ideal S4x2304x16x128 .f32) (p : FVec Ideal S4x16x2048x2304 .f32) : FVec Ideal S8192x2048 .bf16 :=
  truncf .bf16 (shapeCast _ (transpose S4x2048x16x128 [0, 3, 1, 2]
    (Host.dotGeneral dot_S4x2304x16x128_S4x16x2048x2304_S4x16x128x2048_1_3_3_2_02_01 none v p)
    transposes_S4x16x128x2048_S4x2048x16x128_0_3_1_2) shapeCasts_S4x2048x16x128_S8192x2048) bitsLt_bf16_f32

/-- The stages make up the reference. -/
theorem stages (m : (ℓ : Loc nD τ sig) → Buf (Elt Ideal) ℓ) (c : Dev nD) (s : FVec Ideal S4x16x2048x2304 .f32)
    (hs : s = scores (m ((c.tc : Thread nD τ).loc main_arg0)) (m ((c.tc : Thread nD τ).loc main_arg1))
      (joined (m ((c.tc : Thread nD τ).loc main_arg2)) (m ((c.tc : Thread nD τ).loc main_arg5)))
      (joinedRot (m ((c.tc : Thread nD τ).loc main_arg3)) (m ((c.tc : Thread nD τ).loc main_arg6)))) :
    Value.res_main_v24 m c = mixed (joined (m ((c.tc : Thread nD τ).loc main_arg4)) (m ((c.tc : Thread nD τ).loc main_arg7)))
      (shares (exps s (largest s))) := by
  subst hs
  rfl

/-! ## Each stage, an entry at a time -/

/-- One of the 2304 keys or values. -/
theorem joined_at (x : FVec Ideal S4x2048x16x128 .f32) (y : FVec Ideal S4x256x16x128 .f32) (b : Fin 4) (k : Fin 2304) (h : Fin 16)
    (e : Fin 128) : joined x y (ix4 b k h e) = Attention.pick (fun j => x (ix4 b j h e)) (fun j => y (ix4 b j h e)) k := by
  pointwise [joined]
  rfl

/-- One of the 2304 rotary keys. -/
theorem joinedRot_at (x : FVec Ideal S4x2048x64 .f32) (y : FVec Ideal S4x256x64 .f32) (b : Fin 4) (k : Fin 2304)
    (e : Fin 64) : joinedRot x y (ix3 b k e) = Attention.pick (fun j => x (ix3 b j e)) (fun j => y (ix3 b j e)) k := by
  pointwise [joinedRot]
  rfl

/-- A score. -/
theorem scores_at (qn : FVec Ideal S4x2048x16x128 .f32) (qr : FVec Ideal S4x2048x16x64 .f32) (k : FVec Ideal S4x2304x16x128 .f32)
    (kr : FVec Ideal S4x2304x64 .f32) (b : Fin 4) (h : Fin 16) (i : Fin 2048) (j : Fin 2304) :
    scores qn qr k kr (ix4 b h i j) = (∑ e : Fin 128, qn (ix4 b i h e) * k (ix4 b j h e) + ∑ e : Fin 64, kr (ix3 b j e) * qr (ix4 b i h e))
      * Ideal.rsqrt (Ideal.ofBits .f32 0x43400000#32) := by
  pointwise [scores]

/-- The largest of a row. -/
theorem rowmax_at (s : FVec Ideal S4x16x2048x2304 .f32) (b : Fin 4) (h : Fin 16) (i : Fin 2048) :
    rowmax s (ix3 b h i) = Finset.univ.fold max (Ideal.ofBits .f32 0xFF800000#32) fun j : Fin 2304 => s (ix4 b h i j) := by
  pointwise [rowmax]

/-- It is one number everywhere. -/
theorem floor_at (b : Fin 4) (h : Fin 16) (i : Fin 2048) : floor (ix3 b h i) = Ideal.ofBits .f32 0xFF800000#32 := by
  pointwise [floor]

/-- The larger of two entries. -/
theorem larger_at {x y : FVec Ideal S4x16x2048 .f32} {j : S4x16x2048.Idx} {u w : EReal} (hx : x j = u) (hy : y j = w) :
    maximumf x y j = max u w := by
  subst hx hy
  rfl

/-- What a row is taken less of. -/
theorem largest_at (s : FVec Ideal S4x16x2048x2304 .f32) (b : Fin 4) (h : Fin 16) (i : Fin 2048) :
    largest s (ix3 b h i) = max (Ideal.ofBits .f32 0xFF800000#32)
      (Finset.univ.fold max (Ideal.ofBits .f32 0xFF800000#32) fun j : Fin 2304 => s (ix4 b h i j)) :=
  larger_at (floor_at b h i) (rowmax_at s b h i)

/-- An exponential. -/
theorem exps_at (s : FVec Ideal S4x16x2048x2304 .f32) (x : FVec Ideal S4x16x2048 .f32) (b : Fin 4) (h : Fin 16) (i : Fin 2048) (j : Fin 2304) :
    exps s x (ix4 b h i j) = Ideal.exp (s (ix4 b h i j) - x (ix3 b h i)) := by
  pointwise [exps, spread]

/-- A share. -/
theorem shares_at (p : FVec Ideal S4x16x2048x2304 .f32) (b : Fin 4) (h : Fin 16) (i : Fin 2048) (j : Fin 2304) :
    shares p (ix4 b h i j) = Ideal.div (p (ix4 b h i j)) (∑ k : Fin 2304, p (ix4 b h i k)) := by
  pointwise [shares, spread]

/-- An entry of the result. -/
theorem mixed_at (v : FVec Ideal S4x2304x16x128 .f32) (p : FVec Ideal S4x16x2048x2304 .f32) (b : Fin 4) (i : Fin 2048) (h : Fin 16) (d : Fin 128) :
    mixed v p (ix2 ⟨b * 2048 + i, by omega⟩ ⟨h * 128 + d, by omega⟩) = ∑ k : Fin 2304, v (ix4 b k h d) * p (ix4 b h i k) := by
  pointwise [mixed]

/-! ## The result -/

/-- With scores that are `log 2` times reals, the softmax and the mix are those of the reals. -/
theorem mixed_shares_at (v : FVec Ideal S4x2304x16x128 .f32) (s : FVec Ideal S4x16x2048x2304 .f32) (b : Fin 4) (i : Fin 2048)
    (h : Fin 16) (d : Fin 128) (t : Fin 2304 → ℝ) (hs : ∀ j, s (ix4 b h i j) = ((Real.log 2 * t j : ℝ) : EReal)) :
    mixed v (shares (exps s (largest s))) (ix2 ⟨b * 2048 + i, by omega⟩ ⟨h * 128 + d, by omega⟩)
      = Softmax.mix t fun k => v (ix4 b k h d) := by
  obtain ⟨M, hM⟩ := Softmax.fold_max_real fun j => Real.log 2 * t j
  have hl : largest s (ix3 b h i) = (M : EReal) := by
    rw [largest_at, Softmax.bottom]
    simp only [hs]
    rw [hM]
    exact max_eq_right bot_le
  rw [mixed_at, ← Softmax.plain t _ M]
  simp only [shares_at, exps_at, hs, hl]

/-- An entry of the reference's result, when queries and keys are not infinite. -/
theorem result_at (m : (ℓ : Loc nD τ sig) → Buf (Elt Ideal) ℓ) (c : Dev nD) (b : Fin 4) (i : Fin 2048) (h : Fin 16) (d : Fin 128)
    (qn : ∀ e, Attention.Finite (m ((c.tc : Thread nD τ).loc main_arg0) (ix4 b i h e)))
    (qr : ∀ e, Attention.Finite (m ((c.tc : Thread nD τ).loc main_arg1) (ix4 b i h e)))
    (kn : ∀ j e, Attention.Finite (m ((c.tc : Thread nD τ).loc main_arg2) (ix4 b j h e)))
    (kr : ∀ j e, Attention.Finite (m ((c.tc : Thread nD τ).loc main_arg3) (ix3 b j e)))
    (kn' : ∀ j e, Attention.Finite (m ((c.tc : Thread nD τ).loc main_arg5) (ix4 b j h e)))
    (kr' : ∀ j e, Attention.Finite (m ((c.tc : Thread nD τ).loc main_arg6) (ix3 b j e))) :
    Value.res_main_v24 m c (ix2 ⟨b * 2048 + i, by omega⟩ ⟨h * 128 + d, by omega⟩)
      = Attention.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) b i h d := by
  rw [stages m c _ rfl, mixed_shares_at _ _ b i h d _ fun j => ?_]
  · simp only [joined_at]
    rfl
  · rw [scores_at, Softmax.bits_192, Ideal.rsqrt_coe, if_neg (by norm_num), if_neg (by norm_num)]
    have e1 : ∀ e, joined (m ((c.tc : Thread nD τ).loc main_arg2)) (m ((c.tc : Thread nD τ).loc main_arg5)) (ix4 b j h e) = _ :=
      fun e => (joined_at _ _ b j h e).trans (Attention.pick_apply (fun j e => m ((c.tc : Thread nD τ).loc main_arg2) (ix4 b j h e))
        (fun j e => m ((c.tc : Thread nD τ).loc main_arg5) (ix4 b j h e)) j e)
    have e2 : ∀ e, joinedRot (m ((c.tc : Thread nD τ).loc main_arg3)) (m ((c.tc : Thread nD τ).loc main_arg6)) (ix3 b j e) = _ :=
      fun e => (joinedRot_at _ _ b j e).trans (Attention.pick_apply (fun j e => m ((c.tc : Thread nD τ).loc main_arg3) (ix3 b j e))
        (fun j e => m ((c.tc : Thread nD τ).loc main_arg6) (ix3 b j e)) j e)
    simp only [e1, e2]
    exact Attention.plain_logit qn (Attention.finite_pick kn kn' j) qr (Attention.finite_pick kr kr' j)

end Cert.ReferenceIdeal.Attn

end
-- ==== Proof.Finite.lean ====
/-
The precondition, read: an array whose entries' absolute values are below infinity holds no infinity.
-/
module

public import proofs.«01_k».proof.Pre_finite
public import proofs.«01_k».proof.Proof.Attention
public import Idealize.ShloMosaic.Lib.Pointwise

@[expose] public section

set_option maxRecDepth 16384

noncomputable section

namespace Cert.Attention

open Idealize.ShloMosaic

/-- The bound the absolute values stay below. -/
theorem infinity : Ideal.ofBits .f32 0x7F800000#32 = (⊤ : EReal) := by
  show Ideal.ieee 8 23 0x7F800000#32 = ⊤
  unfold Ideal.ieee
  rw [if_pos (by decide), if_pos (by decide), if_neg (by decide)]

/-- A number whose absolute value is below infinity is not infinite. -/
theorem finite_of {x : EReal} (h : max x (-x) < ⊤) : Finite x := by
  refine (EReal.coe_toReal (fun ht => ?_) fun hb => ?_).symm
  · rw [ht] at h; simp at h
  · rw [hb] at h; simp at h

/-- An array that passes the precondition's test. -/
theorem finite_of_below {S : Shape} (x : FVec Ideal S .f32) (hb : Cert.Pre_finite.S_.BroadcastsInDim S (![] : Fin 0 → Fin S.rank))
    (h : cmpf .olt (Host.absf x) (broadcastInDim S ![] hb (constant Cert.Pre_finite.S_ .f32 0x7F800000#32)) = fun _ => 1#1) (j : S.Idx) :
    Finite (x j) := by
  have h1 := congrFun h j
  pointwise at h1
  rw [infinity] at h1
  refine finite_of ?_
  by_contra hn
  rw [show decide ((FloatOps.absf (F := Ideal) (φ := .f32) (x j) : EReal) < ⊤) = false from decide_eq_false hn] at h1
  exact absurd h1 (by decide)

end Cert.Attention

end
-- ==== Proof.Up.Entry.lean ====
/- The expert up-projection's launch: what the buffers hold when its region is entered, the prefetched
   tables read off them, and the region reached from @main. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

/-- All host operations before the region, in order. -/
abbrev hostAll : List (HloOp τ sig (Elt F)) := [hostOps0, hostOps0_1, hostOps0_2].flatten

/-- What core `c`'s buffers hold when the region is entered. -/
abbrev V (c : Dev nD) (b : Ref sig .tc) : Buf (Elt F) ((c : Thread nD τ).loc b) :=
  StableHlo.after hostAll (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

set_option maxHeartbeats 800000 in
/-- @main is the three host stretches, then the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

/-- The five tables as the region finds them. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl

abbrev adm : (pcfg0 (F := F)).Adm := ⟨tbl m, trivial⟩
abbrev cfgM : Pipeline.Cfg sig Λ₀ := cfg0 (adm m)

abbrev T0 : Memref sig .tc .smem S40 .i32 := Memref.whole main_arg2
abbrev T1 : Memref sig .tc .smem S40 .i32 := Memref.whole main_v7
abbrev T2 : Memref sig .tc .smem S40 .i32 := Memref.whole main_v10
abbrev T3 : Memref sig .tc .smem S40 .i32 := Memref.whole main_v18
abbrev T4 : Memref sig .tc .smem S1 .i32 := Memref.whole main_v21
abbrev WG : Memref sig .tc .hbm S16x2048x4096 .f32 := Memref.whole main_v0
abbrev WU : Memref sig .tc .hbm S16x2048x4096 .f32 := Memref.whole main_v1
abbrev SG : Memref sig .tc .vmem S2048x1024 .f32 := Memref.whole cc0_scratch0
abbrev SU : Memref sig .tc .vmem S2048x1024 .f32 := Memref.whole cc0_scratch1
abbrev BG : Memref sig .tc .vmem S2048x1024 .bf16 := Memref.whole cc0_scratch2
abbrev BU : Memref sig .tc .vmem S2048x1024 .bf16 := Memref.whole cc0_scratch3

/-- A whole memref's buffer on core `c`, its contents' type and the buffer held at a share. -/
abbrev MBuf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : MBuf (F := F) c M) : sProp 𝕄 :=
  M.view.loc (c : Thread nD τ) ↦{q} f

/-- The tables' halves the region hands the body, table by table. -/
theorem PhiT_eq (c : Dev nD) : (Pipeline.ΦT pre0 (tbl m) c : sProp 𝕄)
    = iprop(pt c T0 fullShare.right (tbl m 0) ∗ pt c T1 fullShare.right (tbl m 1) ∗ pt c T2 fullShare.right (tbl m 2)
        ∗ pt c T3 fullShare.right (tbl m 3) ∗ pt c T4 fullShare.right (tbl m 4)) := by
  unfold Pipeline.ΦT Pipeline.prefHeld
  rw [show (Finset.univ : Finset (Fin 5)) = insert 0 (insert 1 (insert 2 (insert 3 {4}))) from by decide,
    bigSep_insert (by decide), bigSep_insert (by decide), bigSep_insert (by decide), bigSep_insert (by decide), bigSep_singleton]
  rfl

/-- The two cells of the body's own transfers. -/
abbrev osem : Fin 2 → SemLoc sig := fun | 0 => .dma ⟨4, by decide⟩ | 1 => .dma ⟨5, by decide⟩
theorem ownSemFacts : Pipeline.OwnSemFacts spec0 osem := by decide

/-- The stacked weights, held by the body through the region. -/
abbrev HW : Finset (Ref sig .tc) := {main_v0, main_v1}
theorem HW_sub : HW ⊆ Pipeline.restRefsP sig pre0 spec0 := by decide

end Cert.Up

end
-- ==== Proof.Up.Sched.lean ====
/-
The schedule the routing gives the expert products: which tile opens a group of equal experts, the
number of a tile's group, and the expert of each group.
-/
module

public import proofs.«01_k».proof.Proof.Up.Entry
public import Idealize.ShloMosaic.Lib.Routing.Ops
public import Idealize.ShloMosaic.Lib.Routing.OpsOne
public import Idealize.ShloMosaic.Lib.Routing.OpsOrder
public import Idealize.ShloMosaic.Lib.Routing.OpsPair
public import Idealize.ShloMosaic.Lib.Pipeline.ValueKit
public import Idealize.ShloMosaic.Lib.Pointwise

@[expose] public section

set_option maxRecDepth 16384

noncomputable section

namespace Cert.Up

open Cert.Kernel2Ideal Cert.Kernel2Ideal.Gen
open Idealize.ShloMosaic Idealize.ShloMosaic.TcCoe Idealize.ShloMosaic.Routing Idealize.SL.Sem

/-! ## In numbers -/

/-- Whether tile `n` opens a group. -/
def opens (te : ℕ → BitVec 32) : ℕ → Bool
  | 0 => true
  | n + 1 => decide (te (n + 1) ≠ te n)

/-- The number of the group tile `n` is in. -/
def grp (te : ℕ → BitVec 32) : ℕ → ℕ
  | 0 => 0
  | n + 1 => grp te n + (opens te (n + 1)).toNat

theorem grp_le (te : ℕ → BitVec 32) (n : ℕ) : grp te n ≤ n := by
  induction n with
  | zero => exact le_refl _
  | succ n ih =>
    have := Bool.toNat_le (opens te (n + 1))
    show grp te n + (opens te (n + 1)).toNat ≤ n + 1
    omega

theorem grp_mono (te : ℕ → BitVec 32) {a b : ℕ} (h : a ≤ b) : grp te a ≤ grp te b := by
  induction h with
  | refl => exact le_refl _
  | step _ ih => exact ih.trans (Nat.le_add_right _ _)

/-- Tiles of one group have one expert. -/
theorem te_of_grp_le (te : ℕ → BitVec 32) (a d : ℕ) (e : grp te (a + d) = grp te a) : te (a + d) = te a := by
  induction d with
  | zero => rfl
  | succ d ih =>
    have h1 : grp te (a + d) ≤ grp te (a + d) + (opens te (a + d + 1)).toNat := Nat.le_add_right _ _
    have h2 : grp te (a + (d + 1)) = grp te (a + d) + (opens te (a + d + 1)).toNat := rfl
    have h3 : grp te a ≤ grp te (a + d) := grp_mono te (Nat.le_add_right _ _)
    have h4 : (opens te (a + d + 1)).toNat = 0 := by omega
    have h5 : grp te (a + d) = grp te a := by omega
    have h6 : opens te (a + d + 1) = false := by
      cases h : opens te (a + d + 1) with
      | false => rfl
      | true => rw [h] at h4; cases h4
    have h7 : te (a + d + 1) = te (a + d) := by
      have := of_decide_eq_false h6
      exact not_not.1 this
    exact h7.trans (ih h5)

theorem te_of_grp (te : ℕ → BitVec 32) {a b : ℕ} (e : grp te a = grp te b) : te a = te b := by
  rcases Nat.le_total a b with h | h
  · obtain ⟨d, rfl⟩ := Nat.exists_eq_add_of_le h; exact (te_of_grp_le te a d e.symm).symm
  · obtain ⟨d, rfl⟩ := Nat.exists_eq_add_of_le h; exact te_of_grp_le te b d e

/-- A prefix sum of the openings is one more than the group's number. -/
theorem sum_opens (te : ℕ → BitVec 32) (n : ℕ) : ((List.range (n + 1)).map fun k => (opens te k).toNat).sum = grp te n + 1 := by
  induction n with
  | zero => rfl
  | succ n ih =>
    rw [List.range_succ, List.map_append, List.sum_append, ih]
    show grp te n + 1 + ((opens te (n + 1)).toNat + 0) = grp te n + (opens te (n + 1)).toNat + 1
    omega

/-- A fold that only ever meets one value, and meets it, ends in that value. -/
theorem foldl_meets {α β : Type} (f : β → β → β) (p : α → Prop) [DecidablePred p] (u : α → β) (z v : β) (hzv : f z v = v) (hvv : f v v = v)
    (L : List α) (hu : ∀ n ∈ L, p n → u n = v) :
    (L.foldl (fun a n => if p n then f a (u n) else a) v = v)
      ∧ ((∃ n ∈ L, p n) → L.foldl (fun a n => if p n then f a (u n) else a) z = v) := by
  induction L with
  | nil => exact ⟨rfl, fun ⟨_, h, _⟩ => absurd h List.not_mem_nil⟩
  | cons x L ih =>
    obtain ⟨i1, i2⟩ := ih fun n hn => hu n (List.mem_cons_of_mem _ hn)
    simp only [List.foldl_cons]
    by_cases hp : p x
    · simp only [if_pos hp, hu x List.mem_cons_self hp, hzv, hvv]
      exact ⟨i1, fun _ => i1⟩
    · simp only [if_neg hp]
      refine ⟨i1, fun ⟨n, hn, hq⟩ => i2 ⟨n, ?_, hq⟩⟩
      rcases List.mem_cons.1 hn with rfl | h
      · exact absurd hq hp
      · exact h

/-! ## As the host computes it -/

variable {F : FTy → Type} [FloatOps F]
variable (m : (ℓ : Loc nD τ sig) → Buf (Elt F) ℓ)

/-- Where a group opens, as an array of words. -/
def firstOf (a : IVec S40 32) : IVec S40 32 :=
  concatenate S40 0 [⟨S1, broadcastInDim S1 ![] bcast_S_S1 (constantI S_ 32 1#32)⟩,
    ⟨S39, extui 32 (cmpi .ne (extractStridedSlice S39 ![1] a slices_S40_S39_1) (extractStridedSlice S39 ![0] a slices_S40_S39_0)) natLt_1_32⟩] concatenates_S1_S39_S40_d0

/-- The groups' numbers, as an array of words. -/
def gidOf (f : IVec S40 32) : IVec S40 32 :=
  subi (Host.reduceWindow IntOp.addi ![40] ![1] ![39] ![0] f (broadcastInDim S_ ![] bcast_S_S_ (constantI S_ 32 0#32)) reduceWindows_S40_S40_w40s1p39_0 h_S_)
    (broadcastInDim S40 ![] bcast_S_S40 (constantI S_ 32 1#32))

/-- The groups' experts, as an array of words. -/
def geOf (g a : IVec S40 32) : IVec S40 32 :=
  Host.scatter scatter_S40_S40x1_S40_n_0_0_1 IntOp.maxsi (broadcastInDim S40 ![] bcast_S_S40 (constantI S_ 32 0#32))
    (broadcastInDim S40x1 ![0] bcast_S40_S40x1_0 (select (cmpi .slt g (broadcastInDim S40 ![] bcast_S_S40 (constantI S_ 32 0#32)))
      (addi g (broadcastInDim S40 ![] bcast_S_S40 (constantI S_ 32 40#32))) g)) a

/-- The number of groups, as an array of one word. -/
def ngOf (g : IVec S40 32) : IVec S1 32 :=
  addi (extractStridedSlice S1 ![39] g slices_S40_S1_39) (broadcastInDim S1 ![] bcast_S_S1 (constantI S_ 32 1#32))

set_option maxHeartbeats 1000000 in
theorem entry_first (c : Dev nD) : V m c main_v7 = firstOf (m ((c : Thread nD τ).loc main_arg1)) := by
  show StableHlo.after hostAll _ _ = _
  simp only [hostAll, hostOps0, hostOps0_1, hostOps0_2, List.flatten_cons, List.flatten_nil, List.append_nil, List.cons_append, List.nil_append]
  after_results
  unfold firstOf
  rfl

set_option maxHeartbeats 1000000 in
theorem entry_gid (c : Dev nD) : V m c main_v10 = gidOf (firstOf (m ((c : Thread nD τ).loc main_arg1))) := by
  show StableHlo.after hostAll _ _ = _
  simp only [hostAll, hostOps0, hostOps0_1, hostOps0_2, List.flatten_cons, List.flatten_nil, List.append_nil, List.cons_append, List.nil_append]
  after_results
  simp only [StableHlo.TRef.ofBuf, StableHlo.TRef.toBuf, cast_eq, cast_cast]
  unfold gidOf firstOf
  rfl

set_option maxHeartbeats 1000000 in
theorem entry_ge (c : Dev nD) : V m c main_v18 = geOf (gidOf (firstOf (m ((c : Thread nD τ).loc main_arg1)))) (m ((c : Thread nD τ).loc main_arg1)) := by
  show StableHlo.after hostAll _ _ = _
  simp only [hostAll, hostOps0, hostOps0_1, hostOps0_2, List.flatten_cons, List.flatten_nil, List.append_nil, List.cons_append, List.nil_append]
  after_results
  simp only [StableHlo.TRef.ofBuf, StableHlo.TRef.toBuf, cast_eq, cast_cast]
  unfold geOf gidOf firstOf
  rfl

set_option maxHeartbeats 1000000 in
theorem entry_ng (c : Dev nD) : V m c main_v21 = ngOf (gidOf (firstOf (m ((c : Thread nD τ).loc main_arg1)))) := by
  show StableHlo.after hostAll _ _ = _
  simp only [hostAll, hostOps0, hostOps0_1, hostOps0_2, List.flatten_cons, List.flatten_nil, List.append_nil, List.cons_append, List.nil_append]
  after_results
  simp only [StableHlo.TRef.ofBuf, StableHlo.TRef.toBuf, cast_eq, cast_cast]
  unfold ngOf gidOf firstOf
  rfl

end Cert.Up

end
-- ==== Proof.Up.Tables.lean ====
/-
The tables the routing is turned into, word by word: what the kernel loads from them is the schedule.
-/
module

public import proofs.«01_k».proof.Proof.Up.Sched

@[expose] public section

set_option maxRecDepth 16384

noncomputable section

namespace Cert.Up

open Cert.Kernel2Ideal Cert.Kernel2Ideal.Gen
open Idealize.ShloMosaic Idealize.ShloMosaic.TcCoe Idealize.ShloMosaic.Routing Idealize.SL.Sem

/-- A vector of words as a function of numbers. -/
def wordAt (a : IVec S40 32) (n : ℕ) : BitVec 32 := if h : n < 40 then a (ix1 ⟨n, h⟩) else 0#32

theorem first_at (a : IVec S40 32) (n : Fin 40) : firstOf a (ix1 n) = BitVec.ofNat 32 (opens (wordAt a) n).toNat := by
  rcases n with ⟨n, hn⟩
  cases n with
  | zero =>
    unfold firstOf
    pointwise
    rfl
  | succ n =>
    unfold firstOf
    pointwise
    rw [dif_neg (by omega)]
    have e1 : wordAt a (n + 1) = a (ix1 ⟨1 + (n + 1 - 1), by omega⟩) := (dif_pos hn).trans (congrArg (fun k => a (ix1 k)) (Fin.ext (by show n + 1 = 1 + (n + 1 - 1); omega)))
    have e2 : wordAt a n = a (ix1 ⟨n + 1 - 1, by omega⟩) := dif_pos (by omega)
    show _ = BitVec.ofNat 32 (decide (wordAt a (n + 1) ≠ wordAt a n)).toNat
    rw [e1, e2]
    generalize a (ix1 ⟨1 + (n + 1 - 1), _⟩) = u
    generalize a (ix1 ⟨n + 1 - 1, _⟩) = v
    by_cases e : u = v
    · subst e; simp [IntOp.cmpi]
    · have h1 : (u != v) = true := bne_iff_ne.2 e
      simp [IntOp.cmpi, e, h1]

theorem gid_at (a : IVec S40 32) (n : Fin 40) : gidOf (firstOf a) (ix1 n) = BitVec.ofNat 32 (grp (wordAt a) n) := by
  have h := cumsum1 (N := 40) (Nm1 := 39) rfl (firstOf a) (fun k => (opens (wordAt a) k).toNat) (first_at a)
    (broadcastInDim S_ ![] bcast_S_S_ (constantI S_ 32 0#32)) rfl reduceWindows_S40_S40_w40s1p39_0 h_S_ n
  show IntOp.subi (Host.reduceWindow IntOp.addi ![40] ![1] ![39] ![0] (firstOf a) _ reduceWindows_S40_S40_w40s1p39_0 h_S_ (ix1 n)) 1#32 = _
  refine (congrArg (fun w => IntOp.subi w 1#32) (h.trans (congrArg (BitVec.ofNat 32) (sum_opens _ _)))).trans ?_
  show BitVec.ofNat 32 (grp (wordAt a) n + 1) - 1#32 = _
  rw [BitVec.ofNat_add, BitVec.add_sub_cancel]

theorem ng_at (a : IVec S40 32) (x : S1.Idx) : ngOf (gidOf (firstOf a)) x = BitVec.ofNat 32 (grp (wordAt a) 39 + 1) := by
  have h := gid_at a 39
  have e : ngOf (gidOf (firstOf a)) x = gidOf (firstOf a) (ix1 39) + 1#32 := by
    unfold ngOf
    pointwise
    rfl
  rw [e, h, BitVec.ofNat_add]; rfl

theorem maxsi_zero (v : BitVec 32) (h : v.toNat < 16) : IntOp.maxsi 0#32 v = v := by
  unfold IntOp.maxsi
  have e : v = BitVec.ofNat 32 v.toNat := BitVec.eq_of_toNat_eq (by rw [BitVec.toNat_ofNat]; omega)
  rw [e]
  generalize v.toNat = k at h
  interval_cases k <;> rfl

theorem maxsi_self (v : BitVec 32) : IntOp.maxsi v v = v := by
  unfold IntOp.maxsi; simp

theorem ge_lt (a : IVec S40 32) (ha : ∀ i, (a i).toNat < 16) (g : IVec S40 32) (i : S40.Idx) : (geOf g a i).toNat < 16 := by
  unfold geOf
  refine scatter_forall _ IntOp.maxsi (fun v => v.toNat < 16) (fun u v hu hv => ?_) _ _ _ (fun _ => by show (0#32).toNat < 16; decide) ha i
  show (IntOp.maxsi u v).toNat < 16
  unfold IntOp.maxsi
  split <;> assumption

theorem ge_at (a : IVec S40 32) (ha : ∀ i, (a i).toNat < 16) (n : Fin 40) (x : Fin 40) (hx : grp (wordAt a) n = x) :
    geOf (gidOf (firstOf a)) a (ix1 x) = a (ix1 n) := by
  have hidx : ∀ k : Fin 40, (broadcastInDim S40x1 ![0] bcast_S40_S40x1_0 (select (cmpi .slt (gidOf (firstOf a)) (broadcastInDim S40 ![] bcast_S_S40 (constantI S_ 32 0#32)))
      (addi (gidOf (firstOf a)) (broadcastInDim S40 ![] bcast_S_S40 (constantI S_ 32 40#32))) (gidOf (firstOf a)))) (ix2 k (0 : Fin 1)) = BitVec.ofNat 32 (grp (wordAt a) k) := by
    intro k
    pointwise
    rw [gid_at]
    have hk : grp (wordAt a) k < 40 := (grp_le (wordAt a) k).trans_lt k.isLt
    have hc : IntOp.cmpi CmpIPredicate.slt (BitVec.ofNat 32 (grp (wordAt a) k)) 0#32 = 0#1 := by
      generalize grp (wordAt a) k = g at hk
      interval_cases g <;> rfl
    rw [hc]; rfl
  have hl := fun k : Fin 40 => scatter_lands (N := 40) scatter_S40_S40x1_S40_n_0_0_1 rfl rfl rfl _ (grp (wordAt a)) hidx (fun k => by have := grp_le (wordAt a) k; omega) k x
  unfold geOf
  rw [scatter_at]
  refine (foldl_meets IntOp.maxsi _ _ _ (a (ix1 n)) (maxsi_zero _ (ha _)) (maxsi_self _) _ ?_).2 ?_
  · intro k _ hk
    rw [symm1] at hk ⊢
    have hg := (hl (k.cast (numel1 40))).1 hk
    have := te_of_grp (wordAt a) (hg.trans hx.symm)
    exact (dif_pos (k.cast (numel1 40)).isLt).symm.trans (this.trans (dif_pos n.isLt))
  · refine ⟨n.cast (numel1 40).symm, List.mem_finRange _, ?_⟩
    rw [symm1]
    exact (hl n).2 hx

end Cert.Up

end
-- ==== Proof.Up.Body.lean ====
/- The expert up-projection's body, run: what a grid point reads, computes, stores and leaves in flight. -/
module

public import proofs.«01_k».proof.Proof.Up.Entry
public import Idealize.ShloMosaic.Lib.WholeRead
public import Idealize.ShloMosaic.Lib.WritesUnit

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

abbrev s4 : DmaSem sig := ⟨4, by decide⟩
abbrev s5 : DmaSem sig := ⟨5, by decide⟩

/-- A staging buffer held whole, at raw contents. -/
abbrev ptS (c : Dev nD) {sp : Space} {S : Shape} {e : EltTy} (M : Memref sig .tc sp S e) (f : MBuf (F := F) c M) : sProp 𝕄 :=
  M.view.loc (c : Thread nD τ) ↦[M.view.set]{fullShare} f

/-- One copy of a weight block in flight on `sem` to the staging buffer `S`, out of the stacked weights `M`. -/
abbrev flight (c : Dev nD) (sem : DmaSem sig) (S : Memref sig .tc .vmem S2048x1024 .f32) (M : Memref sig .tc .hbm S16x2048x4096 .f32)
    (g : MBuf (F := F) c S) (w : MBuf (F := F) c M) : sProp 𝕄 :=
  Transfers.Flight (countersEmb (U := Pipeline.UD sig nD τ)) (c : Thread nD τ) (.dma sem) () (S.view.amount (SemLoc.dma (sig := sig) sem))
    iprop(pt c S fullShare g ∗ pt c M fullShare w)

/-- The word a table of 40 holds where the kernel loads it from. -/
def rd (c : Dev nD) (M : Memref sig .tc .smem S40 .i32) (t : MBuf (F := F) c M) (off : Fin 1 → ℕ) (h : ∀ a, off a + S1.size a ≤ S40.size a) : BitVec 32 :=
  View.readAt (Elt F) M.view (Rect.unit (s := S40) off S1.size h).toLoadRect t (Shape.Idx.first (by show 0 < S1.numel; decide))
/-- The number of groups, as the kernel loads it. -/
def rdN (c : Dev nD) (t : MBuf (F := F) c T4) : BitVec 32 :=
  View.readAt (Elt F) T4.view (Rect.unit (s := S1) ![0] S1.size inb_S1_S1_0).toLoadRect t (Shape.Idx.first (by decide))

/-- The part of a block a rectangle names. -/
def part {s : Shape} {e : EltTy} (x : Vec F s e) (r : Rect s) : r.shape.Idx → Elt F e := fun y => x (r.toLoadRect.idx y)

/-- What a grid point whose valid-row word is `n` writes to its output block, last first: the gated products of its valid rows and
    zeros below them. -/
def outPieces (n : BitVec 32) (x : Vec F S512x2048 .f32) (a b : Vec F S2048x1024 .bf16) : List (View.Piece (Elt F) S512x1024 .bf16) :=
  if n = 64#32 then
    [⟨Rect.unit (s := S512x1024) ![64, 0] S448x1024.size inb_S512x1024_S448x1024_64_0, k0_pay6⟩,
      ⟨Rect.unit (s := S512x1024) ![0, 0] S64x1024.size inb_S512x1024_S64x1024_0_0,
        k0_pay5 (part x (Rect.unit (s := S512x2048) ![0, 0] S64x2048.size inb_S512x2048_S64x2048_0_0)) a b⟩]
  else if n = 128#32 then
    [⟨Rect.unit (s := S512x1024) ![128, 0] S384x1024.size inb_S512x1024_S384x1024_128_0, k0_pay8⟩,
      ⟨Rect.unit (s := S512x1024) ![0, 0] S128x1024.size inb_S512x1024_S128x1024_0_0,
        k0_pay7 (part x (Rect.unit (s := S512x2048) ![0, 0] S128x2048.size inb_S512x2048_S128x2048_0_0)) a b⟩]
  else if n = 192#32 then
    [⟨Rect.unit (s := S512x1024) ![192, 0] S320x1024.size inb_S512x1024_S320x1024_192_0, k0_pay10⟩,
      ⟨Rect.unit (s := S512x1024) ![0, 0] S192x1024.size inb_S512x1024_S192x1024_0_0,
        k0_pay9 (part x (Rect.unit (s := S512x2048) ![0, 0] S192x2048.size inb_S512x2048_S192x2048_0_0)) a b⟩]
  else if n = 256#32 then
    [⟨Rect.unit (s := S512x1024) ![256, 0] S256x1024.size inb_S512x1024_S256x1024_256_0, k0_pay12⟩,
      ⟨Rect.unit (s := S512x1024) ![0, 0] S256x1024.size inb_S512x1024_S256x1024_0_0,
        k0_pay11 (part x (Rect.unit (s := S512x2048) ![0, 0] S256x2048.size inb_S512x2048_S256x2048_0_0)) a b⟩]
  else if n = 320#32 then
    [⟨Rect.unit (s := S512x1024) ![320, 0] S192x1024.size inb_S512x1024_S192x1024_320_0, k0_pay14⟩,
      ⟨Rect.unit (s := S512x1024) ![0, 0] S320x1024.size inb_S512x1024_S320x1024_0_0,
        k0_pay13 (part x (Rect.unit (s := S512x2048) ![0, 0] S320x2048.size inb_S512x2048_S320x2048_0_0)) a b⟩]
  else if n = 384#32 then
    [⟨Rect.unit (s := S512x1024) ![384, 0] S128x1024.size inb_S512x1024_S128x1024_384_0, k0_pay16⟩,
      ⟨Rect.unit (s := S512x1024) ![0, 0] S384x1024.size inb_S512x1024_S384x1024_0_0,
        k0_pay15 (part x (Rect.unit (s := S512x2048) ![0, 0] S384x2048.size inb_S512x2048_S384x2048_0_0)) a b⟩]
  else if n = 448#32 then
    [⟨Rect.unit (s := S512x1024) ![448, 0] S64x1024.size inb_S512x1024_S64x1024_448_0, k0_pay18⟩,
      ⟨Rect.unit (s := S512x1024) ![0, 0] S448x1024.size inb_S512x1024_S448x1024_0_0,
        k0_pay17 (part x (Rect.unit (s := S512x2048) ![0, 0] S448x2048.size inb_S512x2048_S448x2048_0_0)) a b⟩]
  else if n = 512#32 then
    [⟨Rect.unit (s := S512x1024) ![0, 0] S512x1024.size inb_S512x1024_S512x1024_0_0,
      k0_pay1 (part x (Rect.unit (s := S512x2048) ![0, 0] S512x2048.size inb_S512x2048_S512x2048_0_0)) a b⟩]
  else if n = 0#32 then
    [⟨Rect.unit (s := S512x1024) ![0, 0] S512x1024.size inb_S512x1024_S512x1024_0_0, k0_pay2⟩]
  else []

abbrev BOut : Memref sig .tc .vmem S512x1024 .bf16 := spec0_1.stage 0

/-- The output block a grid point with valid-row word `n` leaves. -/
def outVal (n : BitVec 32) (x : Vec F S512x2048 .f32) (a b : Vec F S2048x1024 .bf16) : Vec F S512x1024 .bf16 :=
  BOut.view.read (Elt F) (BOut.view.writes (Elt F) BOut.view.junk (outPieces n x a b))

/-- The words the kernel counts valid rows by. -/
def Legal (n : BitVec 32) : Prop := n = 0#32 ∨ n = 64#32 ∨ n = 128#32 ∨ n = 192#32 ∨ n = 256#32 ∨ n = 320#32 ∨ n = 384#32 ∨ n = 448#32 ∨ n = 512#32

theorem mem_rows {off size : Fin 2 → ℕ} (h : ∀ a : Fin 2, off a + size a ≤ S512x1024.size a) (y : S512x1024.Idx)
    (h0 : off 0 ≤ (y 0).val ∧ (y 0).val < off 0 + size 0) (h1 : off 1 = 0) (h1' : size 1 = 1024) :
    y ∈ (Rect.unit (s := S512x1024) off size h).set := by
  rw [Rect.mem_set_unit]
  intro a
  fin_cases a
  · exact h0
  · have : (y (1 : Fin 2)).val < 1024 := (y (1 : Fin 2)).isLt
    show off 1 ≤ (y (1 : Fin 2)).val ∧ (y (1 : Fin 2)).val < off 1 + size 1
    omega

theorem Legal.cover {n : BitVec 32} (h : Legal n) (x : Vec F S512x2048 .f32) (a b : Vec F S2048x1024 .bf16) :
    ∀ y, ∃ p ∈ outPieces n x a b, y ∈ p.1.set := by
  intro y
  have hy : (y 0).val < 512 := (y 0).isLt
  unfold Legal at h
  rcases h with rfl | rfl | rfl | rfl | rfl | rfl | rfl | rfl | rfl
  · exact ⟨_, List.mem_cons_self, mem_rows inb_S512x1024_S512x1024_0_0 y ⟨Nat.zero_le _, by simpa using hy⟩ rfl rfl⟩
  · by_cases hr : (y 0).val < 64
    · exact ⟨_, List.mem_cons_of_mem _ List.mem_cons_self, mem_rows inb_S512x1024_S64x1024_0_0 y ⟨Nat.zero_le _, by simpa using hr⟩ rfl rfl⟩
    · exact ⟨_, List.mem_cons_self, mem_rows inb_S512x1024_S448x1024_64_0 y ⟨by simpa using hr, by simpa using hy⟩ rfl rfl⟩
  · by_cases hr : (y 0).val < 128
    · exact ⟨_, List.mem_cons_of_mem _ List.mem_cons_self, mem_rows inb_S512x1024_S128x1024_0_0 y ⟨Nat.zero_le _, by simpa using hr⟩ rfl rfl⟩
    · exact ⟨_, List.mem_cons_self, mem_rows inb_S512x1024_S384x1024_128_0 y ⟨by simpa using hr, by simpa using hy⟩ rfl rfl⟩
  · by_cases hr : (y 0).val < 192
    · exact ⟨_, List.mem_cons_of_mem _ List.mem_cons_self, mem_rows inb_S512x1024_S192x1024_0_0 y ⟨Nat.zero_le _, by simpa using hr⟩ rfl rfl⟩
    · exact ⟨_, List.mem_cons_self, mem_rows inb_S512x1024_S320x1024_192_0 y ⟨by simpa using hr, by simpa using hy⟩ rfl rfl⟩
  · by_cases hr : (y 0).val < 256
    · exact ⟨_, List.mem_cons_of_mem _ List.mem_cons_self, mem_rows inb_S512x1024_S256x1024_0_0 y ⟨Nat.zero_le _, by simpa using hr⟩ rfl rfl⟩
    · exact ⟨_, List.mem_cons_self, mem_rows inb_S512x1024_S256x1024_256_0 y ⟨by simpa using hr, by simpa using hy⟩ rfl rfl⟩
  · by_cases hr : (y 0).val < 320
    · exact ⟨_, List.mem_cons_of_mem _ List.mem_cons_self, mem_rows inb_S512x1024_S320x1024_0_0 y ⟨Nat.zero_le _, by simpa using hr⟩ rfl rfl⟩
    · exact ⟨_, List.mem_cons_self, mem_rows inb_S512x1024_S192x1024_320_0 y ⟨by simpa using hr, by simpa using hy⟩ rfl rfl⟩
  · by_cases hr : (y 0).val < 384
    · exact ⟨_, List.mem_cons_of_mem _ List.mem_cons_self, mem_rows inb_S512x1024_S384x1024_0_0 y ⟨Nat.zero_le _, by simpa using hr⟩ rfl rfl⟩
    · exact ⟨_, List.mem_cons_self, mem_rows inb_S512x1024_S128x1024_384_0 y ⟨by simpa using hr, by simpa using hy⟩ rfl rfl⟩
  · by_cases hr : (y 0).val < 448
    · exact ⟨_, List.mem_cons_of_mem _ List.mem_cons_self, mem_rows inb_S512x1024_S448x1024_0_0 y ⟨Nat.zero_le _, by simpa using hr⟩ rfl rfl⟩
    · exact ⟨_, List.mem_cons_self, mem_rows inb_S512x1024_S64x1024_448_0 y ⟨by simpa using hr, by simpa using hy⟩ rfl rfl⟩
  · exact ⟨_, List.mem_cons_self, mem_rows inb_S512x1024_S512x1024_0_0 y ⟨Nat.zero_le _, by simpa using hy⟩ rfl rfl⟩

/-- The two staged weight blocks, bf16, as the body holds them. -/
abbrev wts (c : Dev nD) (a b : Vec F S2048x1024 .bf16) : sProp 𝕄 :=
  iprop(pt c BG fullShare ((Memref.isWhole_whole cc0_scratch2).unread a) ∗ pt c BU fullShare ((Memref.isWhole_whole cc0_scratch3).unread b))

/-- Reading a staged bf16 block whole is reading its contents. -/
theorem readAt_wts (M : Memref sig .tc .vmem S2048x1024 .bf16) (h : M.IsWhole) (a : Vec F S2048x1024 .bf16)
    (hb : ∀ k, (![0, 0] : Fin 2 → ℕ) k + S2048x1024.size k ≤ S2048x1024.size k) :
    View.readAt (Elt F) M.view (Rect.unit (s := S2048x1024) ![0, 0] S2048x1024.size hb).toLoadRect (h.unread a) = a := by
  funext y
  rw [h.readAt_unread]
  congr 1
  funext k
  refine Fin.ext ?_
  fin_cases k <;> simp [LoadRect.idx, Rect.unit, Rect.toLoadRect]

theorem readAt_part {S : Shape} {e : EltTy} (M : Memref sig .tc .vmem S e) (h : M.IsWhole) (x : Vec F S e) (r : Rect S) :
    View.readAt (Elt F) M.view r.toLoadRect (h.unread x) = part x r := funext fun y => h.readAt_unread x r.toLoadRect y

/-- The five tables' halves, as the body reads them. -/
abbrev tabs (c : Dev nD) (t0 : MBuf (F := F) c T0) (t1 : MBuf (F := F) c T1) (t2 : MBuf (F := F) c T2) (t3 : MBuf (F := F) c T3)
    (t4 : MBuf (F := F) c T4) : sProp 𝕄 :=
  iprop(pt c T0 fullShare.right t0 ∗ pt c T1 fullShare.right t1 ∗ pt c T2 fullShare.right t2 ∗ pt c T3 fullShare.right t3 ∗ pt c T4 fullShare.right t4)

/-- The output block a point leaves: determined by its valid-row word when that word is one the kernel counts by. -/
abbrev outAt (c : Dev nD) (M : Memref sig .tc .vmem S512x1024 .bf16) (n : BitVec 32) (x : Vec F S512x2048 .f32) (a b : Vec F S2048x1024 .bf16) : sProp 𝕄 :=
  iprop(∃ X, ⌜Legal n → X = outVal n x a b⌝ ∗ owns (c : Thread nD τ) M fullShare X)

theorem outAt_intro (c : Dev nD) (M : Memref sig .tc .vmem S512x1024 .bf16) (n : BitVec 32) (x : Vec F S512x2048 .f32) (a b : Vec F S2048x1024 .bf16)
    (f : MBuf (F := F) c M) (L : List (View.Piece (Elt F) S512x1024 .bf16)) (h : L = outPieces n x a b) :
    ptS c M (M.view.writes (Elt F) f L) ⊢ outAt c M n x a b := by
  subst h
  unfold outAt owns
  iintro H
  iexists _; isplitr
  swap
  · iexists _; isplitr
    swap; · iexact H
    ipureintro; rfl
  ipureintro
  intro hL
  exact View.read_writes_of_cover _ _ _ _ _ (hL.cover x a b)

/-- Which of the kernel's nine row conditions hold at a valid-row word, and the writes that go with them. -/
theorem condCases (n : BitVec 32) :
    (k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a b, outPieces (F := F) n x a b = [⟨Rect.unit (s := S512x1024) ![64, 0] S448x1024.size inb_S512x1024_S448x1024_64_0, k0_pay6⟩, ⟨Rect.unit (s := S512x1024) ![0, 0] S64x1024.size inb_S512x1024_S64x1024_0_0, k0_pay5 (part x (Rect.unit (s := S512x2048) ![0, 0] S64x2048.size inb_S512x2048_S64x2048_0_0)) a b⟩])
    ∨ (¬ k0_cond4 n = 1#1 ∧ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a b, outPieces (F := F) n x a b = [⟨Rect.unit (s := S512x1024) ![128, 0] S384x1024.size inb_S512x1024_S384x1024_128_0, k0_pay8⟩, ⟨Rect.unit (s := S512x1024) ![0, 0] S128x1024.size inb_S512x1024_S128x1024_0_0, k0_pay7 (part x (Rect.unit (s := S512x2048) ![0, 0] S128x2048.size inb_S512x2048_S128x2048_0_0)) a b⟩])
    ∨ (¬ k0_cond4 n = 1#1 ∧ ¬ k0_cond5 n = 1#1 ∧ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a b, outPieces (F := F) n x a b = [⟨Rect.unit (s := S512x1024) ![192, 0] S320x1024.size inb_S512x1024_S320x1024_192_0, k0_pay10⟩, ⟨Rect.unit (s := S512x1024) ![0, 0] S192x1024.size inb_S512x1024_S192x1024_0_0, k0_pay9 (part x (Rect.unit (s := S512x2048) ![0, 0] S192x2048.size inb_S512x2048_S192x2048_0_0)) a b⟩])
    ∨ (¬ k0_cond4 n = 1#1 ∧ ¬ k0_cond5 n = 1#1 ∧ ¬ k0_cond6 n = 1#1 ∧ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a b, outPieces (F := F) n x a b = [⟨Rect.unit (s := S512x1024) ![256, 0] S256x1024.size inb_S512x1024_S256x1024_256_0, k0_pay12⟩, ⟨Rect.unit (s := S512x1024) ![0, 0] S256x1024.size inb_S512x1024_S256x1024_0_0, k0_pay11 (part x (Rect.unit (s := S512x2048) ![0, 0] S256x2048.size inb_S512x2048_S256x2048_0_0)) a b⟩])
    ∨ (¬ k0_cond4 n = 1#1 ∧ ¬ k0_cond5 n = 1#1 ∧ ¬ k0_cond6 n = 1#1 ∧ ¬ k0_cond7 n = 1#1 ∧ k0_cond8 n = 1#1 ∧ ¬ k0_cond9 n = 1#1 ∧ ¬ k0_cond10 n = 1#1 ∧ ¬ k0_cond11 n = 1#1 ∧ ¬ k0_cond12 n = 1#1
      ∧ ∀ x a b, outPieces (F := F) n x a b = [⟨Rect.unit (s := S512x1024) ![320, 0] S192x1024.size inb_S512x1024_S192x1024_320_0, k0_pay14⟩, ⟨Rect.unit (s := S512x1024) ![0, 0] S320x1024.size inb_S512x1024_S320x1024_0_0, k0_pay13 (part x (Rect.unit (s := S512x2048) ![0, 0] S320x2048.size inb_S512x2048_S320x2048_0_0)) a b⟩])
    ∨ (¬ k0_cond4 n = 1#1 ∧ ¬ k0_cond5 n = 1#1 ∧ ¬ k0_cond6 n = 1#1 ∧ ¬ k0_cond7 n = 1#1 ∧ ¬ k0_cond8 n = 1#1 ∧ k0_cond9 n = 1#1 ∧ ¬ k0_cond10 n = 1#1 ∧ ¬ k0_cond11 n = 1#1 ∧ ¬ k0_cond12 n = 1#1
      ∧ ∀ x a b, outPieces (F := F) n x a b = [⟨Rect.unit (s := S512x1024) ![384, 0] S128x1024.size inb_S512x1024_S128x1024_384_0, k0_pay16⟩, ⟨Rect.unit (s := S512x1024) ![0, 0] S384x1024.size inb_S512x1024_S384x1024_0_0, k0_pay15 (part x (Rect.unit (s := S512x2048) ![0, 0] S384x2048.size inb_S512x2048_S384x2048_0_0)) a b⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ k0_cond10 n = 1#1 ∧ ¬ k0_cond11 n = 1#1 ∧ ¬ k0_cond12 n = 1#1
      ∧ ∀ x a b, outPieces (F := F) n x a b = [⟨Rect.unit (s := S512x1024) ![448, 0] S64x1024.size inb_S512x1024_S64x1024_448_0, k0_pay18⟩, ⟨Rect.unit (s := S512x1024) ![0, 0] S448x1024.size inb_S512x1024_S448x1024_0_0, k0_pay17 (part x (Rect.unit (s := S512x2048) ![0, 0] S448x2048.size inb_S512x2048_S448x2048_0_0)) a b⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ k0_cond11 n = 1#1 ∧ ¬ k0_cond12 n = 1#1
      ∧ ∀ x a b, outPieces (F := F) n x a b = [⟨Rect.unit (s := S512x1024) ![0, 0] S512x1024.size inb_S512x1024_S512x1024_0_0, k0_pay1 (part x (Rect.unit (s := S512x2048) ![0, 0] S512x2048.size inb_S512x2048_S512x2048_0_0)) a b⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ k0_cond12 n = 1#1
      ∧ ∀ x a b, outPieces (F := F) n x a b = [⟨Rect.unit (s := S512x1024) ![0, 0] S512x1024.size inb_S512x1024_S512x1024_0_0, k0_pay2⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a b, outPieces (F := F) n x a b = []) := by
  have key : ∀ k : BitVec 32, (Scalar.cmpi .ne (Scalar.extui (Scalar.cmpi .eq n k) : BitVec 32) 0#32 = 1#1) ↔ n = k := by
    intro k
    by_cases h : n = k
    · simp [Scalar.cmpi, Scalar.extui, IntOp.cmpi, h]
    · have hb : (n == k) = false := by simpa using h
      simp [Scalar.cmpi, Scalar.extui, IntOp.cmpi, h, hb]
  have c4 : k0_cond4 n = 1#1 ↔ n = 64#32 := key _
  have c5 : k0_cond5 n = 1#1 ↔ n = 128#32 := key _
  have c6 : k0_cond6 n = 1#1 ↔ n = 192#32 := key _
  have c7 : k0_cond7 n = 1#1 ↔ n = 256#32 := key _
  have c8 : k0_cond8 n = 1#1 ↔ n = 320#32 := key _
  have c9 : k0_cond9 n = 1#1 ↔ n = 384#32 := key _
  have c10 : k0_cond10 n = 1#1 ↔ n = 448#32 := key _
  have c11 : k0_cond11 n = 1#1 ↔ n = 512#32 := key _
  have c12 : k0_cond12 n = 1#1 ↔ n = 0#32 := key _
  rw [c4, c5, c6, c7, c8, c9, c10, c11, c12]
  by_cases g4 : n = 64#32
  · subst g4; left; refine ⟨rfl, by decide, by decide, by decide, by decide, by decide, by decide, by decide, by decide, fun x a b => rfl⟩
  by_cases g5 : n = 128#32
  · subst g5; right; left; refine ⟨by decide, rfl, by decide, by decide, by decide, by decide, by decide, by decide, by decide, fun x a b => rfl⟩
  by_cases g6 : n = 192#32
  · subst g6; right; right; left; refine ⟨by decide, by decide, rfl, by decide, by decide, by decide, by decide, by decide, by decide, fun x a b => rfl⟩
  by_cases g7 : n = 256#32
  · subst g7; right; right; right; left; refine ⟨by decide, by decide, by decide, rfl, by decide, by decide, by decide, by decide, by decide, fun x a b => rfl⟩
  by_cases g8 : n = 320#32
  · subst g8; right; right; right; right; left; refine ⟨by decide, by decide, by decide, by decide, rfl, by decide, by decide, by decide, by decide, fun x a b => rfl⟩
  by_cases g9 : n = 384#32
  · subst g9; right; right; right; right; right; left; refine ⟨by decide, by decide, by decide, by decide, by decide, rfl, by decide, by decide, by decide, fun x a b => rfl⟩
  by_cases g10 : n = 448#32
  · subst g10; right; right; right; right; right; right; left; refine ⟨by decide, by decide, by decide, by decide, by decide, by decide, rfl, by decide, by decide, fun x a b => rfl⟩
  by_cases g11 : n = 512#32
  · subst g11; right; right; right; right; right; right; right; left; refine ⟨by decide, by decide, by decide, by decide, by decide, by decide, by decide, rfl, by decide, fun x a b => rfl⟩
  by_cases g12 : n = 0#32
  · subst g12; right; right; right; right; right; right; right; right; left; refine ⟨by decide, by decide, by decide, by decide, by decide, by decide, by decide, by decide, rfl, fun x a b => rfl⟩
  right; right; right; right; right; right; right; right; right
  exact ⟨g4, g5, g6, g7, g8, g9, g10, g11, g12, fun x a b => by unfold outPieces; rw [if_neg g4, if_neg g5, if_neg g6, if_neg g7, if_neg g8, if_neg g9, if_neg g10, if_neg g11, if_neg g12]⟩

/-- A store of the whole staged block leaves its payload. -/
theorem read_writes_wts {e : EltTy} (M : Memref sig .tc .vmem S2048x1024 e) (f : M.view.ty.Contents (Elt F))
    (hb : ∀ k, (![0, 0] : Fin 2 → ℕ) k + S2048x1024.size k ≤ S2048x1024.size k) (p : Vec F S2048x1024 e) (L : List (View.Piece (Elt F) S2048x1024 e)) :
    M.view.read (Elt F) (M.view.writes (Elt F) f (⟨Rect.unit (s := S2048x1024) ![0, 0] S2048x1024.size hb, p⟩ :: L)) = p := by
  funext y
  refine View.read_writes_cons_unit_of_mem M.view f hb p L y y rfl fun k => ?_
  fin_cases k <;> exact (Nat.zero_add _).symm

theorem pt_wts (c : Dev nD) (M : Memref sig .tc .vmem S2048x1024 .bf16) (hM : M.IsWhole) (f : MBuf (F := F) c M)
    (hb : ∀ k, (![0, 0] : Fin 2 → ℕ) k + S2048x1024.size k ≤ S2048x1024.size k) (p q : Vec F S2048x1024 .bf16) (h : p = q) :
    pt c M fullShare (M.view.writes (Elt F) f [⟨Rect.unit (s := S2048x1024) ![0, 0] S2048x1024.size hb, p⟩]) ⊢ pt c M fullShare (hM.unread q) := by
  subst h
  rw [← hM.eq_unread (read_writes_wts M f hb p [])]

/-- Reading a staged f32 block whole is reading its contents. -/
theorem readAt_stage (c : Dev nD) (M : Memref sig .tc .vmem S2048x1024 .f32) (g : MBuf (F := F) c M)
    (hb : ∀ k, (![0, 0] : Fin 2 → ℕ) k + S2048x1024.size k ≤ S2048x1024.size k) :
    View.readAt (Elt F) M.view (Rect.unit (s := S2048x1024) ![0, 0] S2048x1024.size hb).toLoadRect g = M.view.read (Elt F) g := by
  funext y
  show M.view.read (Elt F) g _ = M.view.read (Elt F) g y
  congr 1
  funext k
  refine Fin.ext ?_
  fin_cases k <;> simp [LoadRect.idx, Rect.unit, Rect.toLoadRect]

/-- The weight block at `off` of the stacked weights. -/
def blk (c : Dev nD) (M : Memref sig .tc .hbm S16x2048x4096 .f32) (w : MBuf (F := F) c M) (off : Fin 3 → ℕ)
    (h : ∀ a, off a + S1x2048x1024.size a ≤ S16x2048x4096.size a) : Vec F S2048x1024 .f32 :=
  ((M.slice (Rect.unit (s := S16x2048x4096) off S1x2048x1024.size h) (fun _ => rfl)).squeeze S2048x1024 squeezes_S1x2048x1024_S2048x1024).view.read (Elt F) w

/-- A flight out of part of an array, with the rest of the array: a flight that delivers the array whole. -/
theorem flight_whole (c : Dev nD) (sm : SemLoc sig) (N : ℕ) (D : sProp 𝕄) {ℓ : Loc nD τ sig} (I : Finset (Idx ℓ)) (w : Buf (Elt F) ℓ) :
    iprop(Transfers.Flight (countersEmb (U := Pipeline.UD sig nD τ)) (c : Thread nD τ) sm () N iprop(D ∗ ℓ ↦[I]{fullShare} w) ∗ ℓ ↦[Finset.univ \ I]{fullShare} w)
      ⊢ (Transfers.Flight (countersEmb (U := Pipeline.UD sig nD τ)) (c : Thread nD τ) sm () N iprop(D ∗ ℓ ↦{fullShare} w) : sProp 𝕄) := by
  unfold Transfers.Flight
  iintro ⟨⟨⟨%R, HR, %hcap, %hpeek⟩, Hcred⟩, Hrest⟩
  isplitr [Hcred]
  · iexists iprop(R ∗ ℓ ↦[Finset.univ \ I]{fullShare} w)
    isplitl [HR Hrest]; · isplitl [HR] <;> iassumption
    isplit
    · ipureintro
      intro K
      iintro ⟨⟨HR, Hrest⟩, HK⟩
      iapply (hcap K)
      isplitl [HR]; · iexact HR
      iintro ⟨Hv, HD, Hs⟩
      iapply HK
      isplitl [Hv]; · iexact Hv
      isplitl [HD]; · iexact HD
      iapply (pointsTo_split_subset (Finset.subset_univ I)).2
      isplitl [Hs] <;> iassumption
    · ipureintro
      intro K
      iintro ⟨⟨HR, Hrest⟩, HK⟩
      iapply (hpeek K)
      isplitl [HR]; · iexact HR
      iintro HR
      iapply HK
      isplitl [HR] <;> iassumption
  · iexact Hcred

theorem blk_congr (c : Dev nD) (M : Memref sig .tc .hbm S16x2048x4096 .f32) (w : MBuf (F := F) c M) {off off' : Fin 3 → ℕ} (e : off = off')
    (h : ∀ a, off a + S1x2048x1024.size a ≤ S16x2048x4096.size a) (h' : ∀ a, off' a + S1x2048x1024.size a ≤ S16x2048x4096.size a) :
    blk c M w off h = blk c M w off' h' := by
  subst e; rfl

end Cert.Up

end
-- ==== Proof.Up.Words.lean ====
/-
The kernel's words at a grid point: its conditions, offsets and side conditions, under the schedule.
-/
module

public import proofs.«01_k».proof.Proof.Up.Tables
public import proofs.«01_k».proof.Proof.Up.Body

@[expose] public section

set_option maxRecDepth 16384

noncomputable section

namespace Cert.Up

open Cert.Kernel2Ideal Cert.Kernel2Ideal.Gen
open Idealize.ShloMosaic Idealize.ShloMosaic.TcCoe Idealize.ShloMosaic.Routing Idealize.SL.Sem

variable {F : FTy → Type} [FloatOps F]

theorem rd_T0 (c : Dev nD) (t : MBuf (F := F) c T0) (off : Fin 1 → ℕ) (h : ∀ a, off a + S1.size a ≤ S40.size a) :
    rd c T0 t off h = (t : IVec S40 32) (ix1 ⟨off 0, by have := h 0; change off 0 + 1 ≤ 40 at this; omega⟩) := by
  show (t : IVec S40 32) _ = _
  congr 1; funext k; fin_cases k; refine Fin.ext ?_; simp [ix1, LoadRect.idx, Rect.unit, Rect.toLoadRect]
theorem rd_T1 (c : Dev nD) (t : MBuf (F := F) c T1) (off : Fin 1 → ℕ) (h : ∀ a, off a + S1.size a ≤ S40.size a) :
    rd c T1 t off h = (t : IVec S40 32) (ix1 ⟨off 0, by have := h 0; change off 0 + 1 ≤ 40 at this; omega⟩) := by
  show (t : IVec S40 32) _ = _
  congr 1; funext k; fin_cases k; refine Fin.ext ?_; simp [ix1, LoadRect.idx, Rect.unit, Rect.toLoadRect]
theorem rd_T2 (c : Dev nD) (t : MBuf (F := F) c T2) (off : Fin 1 → ℕ) (h : ∀ a, off a + S1.size a ≤ S40.size a) :
    rd c T2 t off h = (t : IVec S40 32) (ix1 ⟨off 0, by have := h 0; change off 0 + 1 ≤ 40 at this; omega⟩) := by
  show (t : IVec S40 32) _ = _
  congr 1; funext k; fin_cases k; refine Fin.ext ?_; simp [ix1, LoadRect.idx, Rect.unit, Rect.toLoadRect]
theorem rd_T3 (c : Dev nD) (t : MBuf (F := F) c T3) (off : Fin 1 → ℕ) (h : ∀ a, off a + S1.size a ≤ S40.size a) :
    rd c T3 t off h = (t : IVec S40 32) (ix1 ⟨off 0, by have := h 0; change off 0 + 1 ≤ 40 at this; omega⟩) := by
  show (t : IVec S40 32) _ = _
  congr 1; funext k; fin_cases k; refine Fin.ext ?_; simp [ix1, LoadRect.idx, Rect.unit, Rect.toLoadRect]

/-- The tables' words are the schedule of the experts `te`. -/
structure Ok (c : Dev nD) (te : ℕ → BitVec 32) (t1 : MBuf (F := F) c T1) (t2 : MBuf (F := F) c T2) (t3 : MBuf (F := F) c T3) (t4 : MBuf (F := F) c T4) : Prop where
  lt : ∀ n, (te n).toNat < 16
  f1 : ∀ off h, rd c T1 t1 off h = BitVec.ofNat 32 (opens te (off 0)).toNat
  f2 : ∀ off h, rd c T2 t2 off h = BitVec.ofNat 32 (grp te (off 0))
  f3lt : ∀ off h, (rd c T3 t3 off h).toNat < 16
  f3 : ∀ off h n, n < 40 → off 0 = grp te n → rd c T3 t3 off h = te n
  f4 : rdN c t4 = BitVec.ofNat 32 (grp te 39 + 1)

/-! ## The words -/

theorem off1_eq (i : grid0.Coords) : k0_off1 i 0 = (i 1).val := by
  have h : (i 1).val < 40 := (i 1).isLt
  show (BitVec.ofNat 32 (i 1).val).toNat = _
  rw [BitVec.toNat_ofNat]; omega
theorem off7_eq (i : grid0.Coords) : k0_off7 i 0 = (i 1).val := off1_eq i

theorem cond1_iff (b : Bool) : k0_cond1 (BitVec.ofNat 32 b.toNat) = 1#1 ↔ b = true := by
  cases b <;> decide

/-- Whether the group after `g` of `N` is one of the same column. -/
theorem sge_word : ∀ g : Fin 40, ∀ N : Fin 41, Scalar.cmpi .sge (Scalar.addi (BitVec.ofNat 32 g) 1#32) (BitVec.ofNat 32 N) = BitVec.ofBool (decide (N.val ≤ g.val + 1)) := by
  decide +kernel

/-- The group after `g` of `N`, and its column when `g` is in column `j`. -/
def nxt (g N : ℕ) : ℕ := if N ≤ g + 1 then 0 else g + 1
def col (g N j : ℕ) : ℕ := if N ≤ g + 1 then j + 1 else j

theorem cond2_iff (i : grid0.Coords) (g : ℕ) (hg : g < 40) : k0_cond2 i (BitVec.ofNat 32 g) = 1#1 ↔ (i 0).val = 0 ∧ g = 0 := by
  have h : (i 0).val < 4 := (i 0).isLt
  unfold k0_cond2
  generalize (i 0).val = j at h
  have key : ∀ j : Fin 4, ∀ g : Fin 40, Scalar.cmpi .ne (Scalar.extui (Scalar.andi (Scalar.cmpi .eq (BitVec.ofNat 32 j) 0#32) (Scalar.cmpi .eq (BitVec.ofNat 32 g) 0#32))) 0#32 = 1#1 ↔ j.val = 0 ∧ g.val = 0 := by
    decide +kernel
  exact key ⟨j, h⟩ ⟨g, hg⟩

theorem cond3_iff (i : grid0.Coords) (g N : ℕ) (hg : g < 40) (hN : N < 41) :
    k0_cond3 i (BitVec.ofNat 32 g) (BitVec.ofNat 32 N) = 1#1 ↔ col g N (i 0).val < 4 := by
  have h : (i 0).val < 4 := (i 0).isLt
  have hs := sge_word ⟨g, hg⟩ ⟨N, hN⟩
  unfold k0_cond3 col
  generalize (i 0).val = j at h
  simp only at hs ⊢
  rw [hs]
  by_cases e : N ≤ g + 1
  · simp only [e, if_true, decide_true]
    interval_cases j <;> decide
  · simp only [e, if_false, decide_false]
    interval_cases j <;> decide

theorem off3_eq (g : ℕ) (hg : g < 40) : k0_off3 (BitVec.ofNat 32 g) = ![g] := by
  show ![(BitVec.ofNat 32 g).toNat] = _
  rw [BitVec.toNat_ofNat, Nat.mod_eq_of_lt (by omega)]

theorem off5_eq (g N : ℕ) (hg : g < 40) (hN : N < 41) : k0_off5 (BitVec.ofNat 32 g) (BitVec.ofNat 32 N) = ![nxt g N] := by
  have hs := sge_word ⟨g, hg⟩ ⟨N, hN⟩
  unfold k0_off5 nxt
  simp only at hs ⊢
  rw [hs]
  by_cases e : N ≤ g + 1
  · simp only [e, if_true, decide_true]; rfl
  · simp only [e, if_false, decide_false]
    show ![(BitVec.ofNat 32 g + 1#32).toNat] = _
    rw [BitVec.toNat_add, BitVec.toNat_ofNat]
    congr 1
    show (g % 2 ^ 32 + 1) % 2 ^ 32 = _
    omega

theorem mult3_eq (i : grid0.Coords) (g N : ℕ) (hg : g < 40) (hN : N < 41) :
    (k0_mult3 i (BitVec.ofNat 32 g) (BitVec.ofNat 32 N)).toNat = col g N (i 0).val * 1024 := by
  have h : (i 0).val < 4 := (i 0).isLt
  have hs := sge_word ⟨g, hg⟩ ⟨N, hN⟩
  unfold k0_mult3 col
  generalize (i 0).val = j at h
  simp only at hs ⊢
  rw [hs]
  by_cases e : N ≤ g + 1
  · simp only [e, if_true, decide_true]
    interval_cases j <;> rfl
  · simp only [e, if_false, decide_false]
    interval_cases j <;> rfl

theorem off6_eq (i : grid0.Coords) (g N : ℕ) (hg : g < 40) (hN : N < 41) (w : BitVec 32) :
    k0_off6 i (BitVec.ofNat 32 g) (BitVec.ofNat 32 N) w = ![w.toNat, 0, col g N (i 0).val * 1024] := by
  rw [← mult3_eq i g N hg hN]; rfl

theorem off4_eq (i : grid0.Coords) (w : BitVec 32) : k0_off4 i w = ![w.toNat, 0, (i 0).val * 1024] := by
  have h : (i 0).val < 4 := (i 0).isLt
  have e : (k0_mult2 i).toNat = (i 0).val * 1024 := by
    unfold k0_mult2
    generalize (i 0).val = j at h
    interval_cases j <;> rfl
  rw [← e]; rfl

/-- A weight block's offsets lie in the array. -/
theorem inb_block {e j : ℕ} (he : e < 16) (hj : j < 4) : ∀ a, (![e, 0, j * 1024] : Fin 3 → ℕ) a + S1x2048x1024.size a ≤ S16x2048x4096.size a := by
  intro a
  fin_cases a
  · show e + 1 ≤ 16; omega
  · show 0 + 2048 ≤ 2048; omega
  · show j * 1024 + 1024 ≤ 4096; omega

theorem inb_word {g : ℕ} (h : g < 40) : ∀ a, (![g] : Fin 1 → ℕ) a + S1.size a ≤ S40.size a := by
  intro a
  fin_cases a
  show g + 1 ≤ 40
  omega

theorem nxt_lt {g N : ℕ} (hN : N < 41) : nxt g N < 40 := by
  unfold nxt; split <;> omega

theorem chk2_ok (i : grid0.Coords) (g N : ℕ) (hg : g < 40) (hN : N < 41) (w : BitVec 32) : k0_chk2 i (BitVec.ofNat 32 g) (BitVec.ofNat 32 N) w := by
  refine ⟨fun _ => ?_, fun _ => ?_, fun _ _ => ?_⟩
  · rw [off3_eq g hg]; exact inb_word hg
  · rw [off5_eq g N hg hN]; exact inb_word (nxt_lt hN)
  · rw [mult3_eq i g N hg hN]; exact Dvd.intro_left _ rfl

theorem chk3_ok (i : grid0.Coords) (w v : BitVec 32) (hv : v.toNat < 16) : k0_chk3 i w v := fun _ => by
  rw [off4_eq]; exact inb_block hv (i 0).isLt

theorem chk1_ok (i : grid0.Coords) (u w v : BitVec 32) (hv : v.toNat < 16) : k0_chk1 i u w v := fun _ _ => inb_block (j := 0) hv (by omega)

theorem chk4_ok (i : grid0.Coords) (g N : ℕ) (hg : g < 40) (hN : N < 41) (w v : BitVec 32) (hv : v.toNat < 16) :
    k0_chk4 i (BitVec.ofNat 32 g) (BitVec.ofNat 32 N) w v := fun _ h3 => by
  rw [off6_eq i g N hg hN]; exact inb_block hv ((cond3_iff i g N hg hN).1 h3)

end Cert.Up

end
-- ==== Proof.Up.Start.lean ====
/-
The tables the kernel reads are the schedule of the experts it is given, and its arguments are
what the call finds.
-/
module

public import proofs.«01_k».proof.Proof.Up.Tables
public import proofs.«01_k».proof.Proof.Up.Words

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI

variable {F : FTy → Type} [FloatOps F]
variable (m : (ℓ : Loc nD τ sig) → Buf (Elt F) ℓ)

set_option maxHeartbeats 1000000 in
theorem V_arg0 (c : Dev nD) : V m c main_arg0 = m ((c : Thread nD τ).loc main_arg0) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg1 (c : Dev nD) : V m c main_arg1 = m ((c : Thread nD τ).loc main_arg1) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg2 (c : Dev nD) : V m c main_arg2 = m ((c : Thread nD τ).loc main_arg2) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg3 (c : Dev nD) : V m c main_arg3 = m ((c : Thread nD τ).loc main_arg3) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg4 (c : Dev nD) : V m c main_arg4 = m ((c : Thread nD τ).loc main_arg4) := by
  show StableHlo.after hostAll _ _ = _
  simp only [hostAll, hostOps0, hostOps0_1, hostOps0_2, List.flatten_cons, List.flatten_nil, List.append_nil, List.cons_append, List.nil_append]
  after_results

/-- The experts of the tiles, as the kernel is given them. -/
abbrev tea (c : Dev nD) : IVec S40 32 := m ((c : Thread nD τ).loc main_arg1)
/-- Every expert is one of the sixteen. -/
def Experts : Prop := ∀ (c : Dev nD) i, (tea m c i).toNat < 16

theorem wordAt_lt (a : IVec S40 32) (ha : ∀ i, (a i).toNat < 16) (n : ℕ) : (wordAt a n).toNat < 16 := by
  unfold wordAt; split
  · exact ha _
  · decide

/-- The tables, as the call finds them. -/
def W0 (c : Dev nD) : MBuf (F := F) c T0 := V m c main_arg2
def W1 (c : Dev nD) : MBuf (F := F) c T1 := V m c main_v7
def W2 (c : Dev nD) : MBuf (F := F) c T2 := V m c main_v10
def W3 (c : Dev nD) : MBuf (F := F) c T3 := V m c main_v18
def W4 (c : Dev nD) : MBuf (F := F) c T4 := V m c main_v21

/-- The tables' words are the schedule of the experts. -/
theorem ok_tbl (hm : Experts m) (c : Dev nD) : Ok c (wordAt (tea m c)) (W1 m c) (W2 m c) (W3 m c) (W4 m c) := by
  have e1 : W1 m c = firstOf (tea m c) := entry_first m c
  have e2 : W2 m c = gidOf (firstOf (tea m c)) := entry_gid m c
  have e3 : W3 m c = geOf (gidOf (firstOf (tea m c))) (tea m c) := entry_ge m c
  have e4 : W4 m c = ngOf (gidOf (firstOf (tea m c))) := entry_ng m c
  refine ⟨wordAt_lt _ (hm c), fun off h => ?_, fun off h => ?_, fun off h => ?_, fun off h n hn hx => ?_, ?_⟩
  · exact (rd_T1 c _ off h).trans ((congrFun e1 _).trans (first_at _ _))
  · exact (rd_T2 c _ off h).trans ((congrFun e2 _).trans (gid_at _ _))
  · rw [rd_T3 c _ off h]; exact (congrArg BitVec.toNat (congrFun e3 _)).trans_lt (ge_lt _ (hm c) _ _)
  · refine (rd_T3 c _ off h).trans ((congrFun e3 _).trans ((ge_at _ (hm c) ⟨n, hn⟩ ⟨off 0, _⟩ hx.symm).trans ?_))
    unfold wordAt; rw [dif_pos hn]
  · exact (congrArg (rdN c) e4).trans (ng_at _ _)

end Cert.Up

end
-- ==== Proof.Up.Carry.lean ====
/- A grid point whose tile goes on with the group of the tile before it. -/
module

public import proofs.«01_k».proof.Proof.Up.Body

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 2000000 in
/-- A point whose tile goes on with the group before it: the staged blocks are used as they stand. -/
theorem body_carry (c : Dev nD) (i : grid0.Coords)
    (arg7 : Memref sig .tc .vmem S512x2048 .f32) (harg7 : arg7.IsWhole) (arg10 : Memref sig .tc .vmem S512x1024 .bf16) (harg10 : arg10.IsWhole)
    (t0 : MBuf (F := F) c T0) (t1 : MBuf (F := F) c T1) (t2 : MBuf (F := F) c T2) (t3 : MBuf (F := F) c T3) (t4 : MBuf (F := F) c T4)
    (x : Vec F S512x2048 .f32) (a b : Vec F S2048x1024 .bf16)
    (h1 : ¬ k0_cond1 (rd c T1 t1 (k0_off1 i) (k0_off1_inb i)) = 1#1) (K : PUnit → sProp 𝕄) :
    iprop(tabs c t0 t1 t2 t3 t4 ∗ wts c a b ∗ owns (c : Thread nD τ) arg7 fullShare x ∗ (∃ X, owns (c : Thread nD τ) arg10 fullShare X)
        ∗ (iprop(tabs c t0 t1 t2 t3 t4 ∗ wts c a b ∗ owns (c : Thread nD τ) arg7 fullShare x
            ∗ outAt c arg10 (rd c T0 t0 (k0_off7 i) (k0_off7_inb i)) x a b) -∗ K ⟨⟩))
      ⊢ wp frame (wpE (defs₀ (F := F)) Variants.none c none) Set.univ (cc0_moe_up (F := F) i T0 (Memref.isWhole_whole _) T1 (Memref.isWhole_whole _) T2 (Memref.isWhole_whole _) T3 (Memref.isWhole_whole _) T4 (Memref.isWhole_whole _) arg7 harg7 WG (Memref.isWhole_whole _) WU (Memref.isWhole_whole _) arg10 harg10 SG (Memref.isWhole_whole _) SU (Memref.isWhole_whole _) BG (Memref.isWhole_whole _) BU (Memref.isWhole_whole _) cc0_scratch4) K := by
  simp only [cc0_moe_up_eq_skeleton]; unfold cc0_moe_up_skel
  simp only [k0_part2_eq_skeleton]
  have h2 : ∀ w1 w2, k0_chk2 i w1 w2 (rd c T1 t1 (k0_off1 i) (k0_off1_inb i)) :=
    fun w1 w2 => ⟨fun k => absurd k h1, fun k => absurd k h1, fun k => absurd k h1⟩
  unfold owns
  iintro ⟨⟨HT0, HT1, HT2, HT3, HT4⟩, ⟨HBG, HBU⟩, ⟨%f7, %hf7, H7⟩, ⟨%X10, %f10, -, H10⟩, Hk⟩
  obtain rfl := harg7.eq_unread hf7
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact h1 | exact h2 _ _ | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HBG HBU]
    · isplitl [HBG]; · iexact HBG
      iexact HBU
    isplitl [H7]
    · iexists _; isplitr; · ipureintro; exact harg7.read_unread _
      iexact H7
    first
      | (iapply (outAt_intro c arg10 _ x a b f10 [] (hp x a b).symm)
         iexact H10)
      | (iapply outAt_intro
         rotate_left
         · iexact H10
         · try simp only [readAt_part]
           first
             | exact (hp x a b).symm
             | exact (hp x _ _).symm.trans (congrArg₂ (outPieces _ x) (readAt_wts BG (Memref.isWhole_whole _) a _) (readAt_wts BU (Memref.isWhole_whole _) b _)))

end Cert.Up

end
-- ==== Proof.Up.Last.lean ====
/- A grid point that opens the last group of the last column. -/
module

public import proofs.«01_k».proof.Proof.Up.Body

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 4000000 in
/-- A point that opens the last group of the last column: it waits for its weight blocks and starts no copy. -/
theorem body_last (c : Dev nD) (i : grid0.Coords)
    (arg7 : Memref sig .tc .vmem S512x2048 .f32) (harg7 : arg7.IsWhole) (arg10 : Memref sig .tc .vmem S512x1024 .bf16) (harg10 : arg10.IsWhole)
    (t0 : MBuf (F := F) c T0) (t1 : MBuf (F := F) c T1) (t2 : MBuf (F := F) c T2) (t3 : MBuf (F := F) c T3) (t4 : MBuf (F := F) c T4)
    (x : Vec F S512x2048 .f32) (wg : MBuf (F := F) c WG) (wu : MBuf (F := F) c WU)
    (w1 w2 : BitVec 32) (hw1 : rd c T2 t2 (k0_off1 i) (k0_off1_inb i) = w1) (hw2 : rdN c t4 = w2)
    (h1 : k0_cond1 (rd c T1 t1 (k0_off1 i) (k0_off1_inb i)) = 1#1)
    (hk2 : k0_chk2 i w1 w2 (rd c T1 t1 (k0_off1 i) (k0_off1_inb i)))
    (hk3 : ∀ h, k0_chk3 i (rd c T1 t1 (k0_off1 i) (k0_off1_inb i)) (rd c T3 t3 (k0_off3 w1) h))
    (g : MBuf (F := F) c SG) (u : MBuf (F := F) c SU)
    (h2 : ¬ k0_cond2 i w1 = 1#1)
    (h3 : ¬ k0_cond3 i w1 w2 = 1#1)
    (W : Waits sig Unit) (K : PUnit → sProp 𝕄) :
    iprop(tabs c t0 t1 t2 t3 t4 ∗ (∃ f, pt c BG fullShare f) ∗ (∃ f, pt c BU fullShare f) ∗ flight c s4 SG WG g wg ∗ flight c s5 SU WU u wu ∗ owes (c : Thread nD τ) 0 W
        ∗ owns (c : Thread nD τ) arg7 fullShare x ∗ (∃ X, owns (c : Thread nD τ) arg10 fullShare X)
        ∗ (iprop(tabs c t0 t1 t2 t3 t4 ∗ wts c (k0_pay3 (SG.view.read (Elt F) g)) (k0_pay4 (SU.view.read (Elt F) u)) ∗ (pt c SG fullShare g ∗ pt c SU fullShare u ∗ pt c WG fullShare wg ∗ pt c WU fullShare wu ∗ semVal ((c : Thread nD τ), SemLoc.dma s4) 0 ∗ semVal ((c : Thread nD τ), SemLoc.dma s5) 0) ∗ (∃ W, owes (c : Thread nD τ) 0 W)
            ∗ owns (c : Thread nD τ) arg7 fullShare x
            ∗ outAt c arg10 (rd c T0 t0 (k0_off7 i) (k0_off7_inb i)) x (k0_pay3 (SG.view.read (Elt F) g)) (k0_pay4 (SU.view.read (Elt F) u))) -∗ K ⟨⟩))
      ⊢ wp frame (wpE (defs₀ (F := F)) Variants.none c none) Set.univ (cc0_moe_up (F := F) i T0 (Memref.isWhole_whole _) T1 (Memref.isWhole_whole _) T2 (Memref.isWhole_whole _) T3 (Memref.isWhole_whole _) T4 (Memref.isWhole_whole _) arg7 harg7 WG (Memref.isWhole_whole _) WU (Memref.isWhole_whole _) arg10 harg10 SG (Memref.isWhole_whole _) SU (Memref.isWhole_whole _) BG (Memref.isWhole_whole _) BU (Memref.isWhole_whole _) cc0_scratch4) K := by
  subst hw1 hw2
  simp only [cc0_moe_up_eq_skeleton]; unfold cc0_moe_up_skel
  simp only [k0_part2_eq_skeleton]; unfold k0_part2_skel; simp only [k0_part1_eq_skeleton]
  unfold owns
  iintro ⟨⟨HT0, HT1, HT2, HT3, HT4⟩, ⟨%fg, HBG⟩, ⟨%fu, HBU⟩, HFg, HFu, HO, ⟨%f7, %hf7, H7⟩, ⟨%X10, %f10, -, H10⟩, Hk⟩
  obtain rfl := harg7.eq_unread hf7
  set_option sl_exec.stopBefore "k0_cond4" in sl_exec (disch := first  | exact fun _ k => absurd k h3 | exact h2 | exact h3 | exact h1 | exact hk2 | exact hk3 _)
  generalize hA : k0_pay3 (SG.view.read (Elt F) g) = A
  generalize hB : k0_pay4 (SU.view.read (Elt F) u) = B
  ihave HBG' := (pt_wts c BG (Memref.isWhole_whole _) fg _ _ A ((congrArg k0_pay3 (readAt_stage c SG _ _)).trans hA)) $$ HBG
  ihave HBU' := (pt_wts c BU (Memref.isWhole_whole _) fu _ _ B ((congrArg k0_pay4 (readAt_stage c SU _ _)).trans hB)) $$ HBU
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HBG' HBU']
    · isplitl [HBG']; · iexact HBG'
      iexact HBU'
    isplitl [HFg_dst HFu_dst HFg_src HFu_src HFg HFu]
    · isplitl [HFg_dst]; · iexact HFg_dst
      isplitl [HFu_dst]; · iexact HFu_dst
      isplitl [HFg_src]; · iexact HFg_src
      isplitl [HFu_src]; · iexact HFu_src
      isplitl [HFg]; · iexact HFg
      iexact HFu
    isplitl [HO]; · iexists _; iexact HO
    isplitl [H7]
    · iexists _; isplitr; · ipureintro; exact harg7.read_unread _
      iexact H7
    first
      | (iapply (outAt_intro c arg10 _ x A B f10 [] (hp x A B).symm)
         iexact H10)
      | (iapply outAt_intro
         rotate_left
         · iexact H10
         · try simp only [readAt_part]
           first
             | exact (hp x A B).symm
             | exact (hp x _ _).symm.trans (congrArg₂ (outPieces _ x) (readAt_wts BG (Memref.isWhole_whole _) A _) (readAt_wts BU (Memref.isWhole_whole _) B _)))

end Cert.Up

end
-- ==== Proof.Up.Next.lean ====
/- A grid point that opens a group and starts the next group's copies. -/
module

public import proofs.«01_k».proof.Proof.Up.Body

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 4000000 in
/-- A point that opens a group: it waits for its weight blocks and starts the copies of the next group's. -/
theorem body_next (c : Dev nD) (i : grid0.Coords)
    (arg7 : Memref sig .tc .vmem S512x2048 .f32) (harg7 : arg7.IsWhole) (arg10 : Memref sig .tc .vmem S512x1024 .bf16) (harg10 : arg10.IsWhole)
    (t0 : MBuf (F := F) c T0) (t1 : MBuf (F := F) c T1) (t2 : MBuf (F := F) c T2) (t3 : MBuf (F := F) c T3) (t4 : MBuf (F := F) c T4)
    (x : Vec F S512x2048 .f32) (wg : MBuf (F := F) c WG) (wu : MBuf (F := F) c WU)
    (w1 w2 : BitVec 32) (hw1 : rd c T2 t2 (k0_off1 i) (k0_off1_inb i) = w1) (hw2 : rdN c t4 = w2)
    (h1 : k0_cond1 (rd c T1 t1 (k0_off1 i) (k0_off1_inb i)) = 1#1)
    (hk2 : k0_chk2 i w1 w2 (rd c T1 t1 (k0_off1 i) (k0_off1_inb i)))
    (hk3 : ∀ h, k0_chk3 i (rd c T1 t1 (k0_off1 i) (k0_off1_inb i)) (rd c T3 t3 (k0_off3 w1) h))
    (g : MBuf (F := F) c SG) (u : MBuf (F := F) c SU)
    (h2 : ¬ k0_cond2 i w1 = 1#1)
    (h3 : k0_cond3 i w1 w2 = 1#1) (hk4 : ∀ h, k0_chk4 i w1 w2 (rd c T1 t1 (k0_off1 i) (k0_off1_inb i)) (rd c T3 t3 (k0_off5 w1 w2) h))
    (off' : Fin 3 → ℕ) (hoff' : ∀ h, k0_off6 i w1 w2 (rd c T3 t3 (k0_off5 w1 w2) h) = off') (hin' : ∀ a, off' a + S1x2048x1024.size a ≤ S16x2048x4096.size a)
    (W : Waits sig Unit) (K : PUnit → sProp 𝕄) :
    iprop(tabs c t0 t1 t2 t3 t4 ∗ (∃ f, pt c BG fullShare f) ∗ (∃ f, pt c BU fullShare f) ∗ flight c s4 SG WG g wg ∗ flight c s5 SU WU u wu ∗ owes (c : Thread nD τ) 0 W
        ∗ owns (c : Thread nD τ) arg7 fullShare x ∗ (∃ X, owns (c : Thread nD τ) arg10 fullShare X)
        ∗ (iprop(tabs c t0 t1 t2 t3 t4 ∗ wts c (k0_pay3 (SG.view.read (Elt F) g)) (k0_pay4 (SU.view.read (Elt F) u)) ∗ (∃ g' u', ⌜SG.view.read (Elt F) g' = blk c WG wg off' hin' ∧ SU.view.read (Elt F) u' = blk c WU wu off' hin'⌝ ∗ flight c s4 SG WG g' wg ∗ flight c s5 SU WU u' wu) ∗ (∃ W, owes (c : Thread nD τ) 0 W)
            ∗ owns (c : Thread nD τ) arg7 fullShare x
            ∗ outAt c arg10 (rd c T0 t0 (k0_off7 i) (k0_off7_inb i)) x (k0_pay3 (SG.view.read (Elt F) g)) (k0_pay4 (SU.view.read (Elt F) u))) -∗ K ⟨⟩))
      ⊢ wp frame (wpE (defs₀ (F := F)) Variants.none c none) Set.univ (cc0_moe_up (F := F) i T0 (Memref.isWhole_whole _) T1 (Memref.isWhole_whole _) T2 (Memref.isWhole_whole _) T3 (Memref.isWhole_whole _) T4 (Memref.isWhole_whole _) arg7 harg7 WG (Memref.isWhole_whole _) WU (Memref.isWhole_whole _) arg10 harg10 SG (Memref.isWhole_whole _) SU (Memref.isWhole_whole _) BG (Memref.isWhole_whole _) BU (Memref.isWhole_whole _) cc0_scratch4) K := by
  subst hw1 hw2
  simp only [cc0_moe_up_eq_skeleton]; unfold cc0_moe_up_skel
  simp only [k0_part2_eq_skeleton]; unfold k0_part2_skel; simp only [k0_part1_eq_skeleton]
  unfold owns
  iintro ⟨⟨HT0, HT1, HT2, HT3, HT4⟩, ⟨%fg, HBG⟩, ⟨%fu, HBU⟩, HFg, HFu, HO, ⟨%f7, %hf7, H7⟩, ⟨%X10, %f10, -, H10⟩, Hk⟩
  obtain rfl := harg7.eq_unread hf7
  set_option sl_exec.stopBefore "k0_cond4" in sl_exec (disch := first | exact h2 | exact h3 | exact hk4 _ | exact h1 | exact hk2 | exact hk3 _)
  generalize hA : k0_pay3 (SG.view.read (Elt F) g) = A
  generalize hB : k0_pay4 (SU.view.read (Elt F) u) = B
  ihave HBG' := (pt_wts c BG (Memref.isWhole_whole _) fg _ _ A ((congrArg k0_pay3 (readAt_stage c SG _ _)).trans hA)) $$ HBG
  ihave HBU' := (pt_wts c BU (Memref.isWhole_whole _) fu _ _ B ((congrArg k0_pay4 (readAt_stage c SU _ _)).trans hB)) $$ HBU
  ihave HFg' := (flight_whole c _ _ _ _ wg) $$ [HFg HFg_src]
  · isplitl [HFg] <;> iassumption
  ihave HFu' := (flight_whole c _ _ _ _ wu) $$ [HFu HFu_src]
  · isplitl [HFu] <;> iassumption
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HBG' HBU']
    · isplitl [HBG']; · iexact HBG'
      iexact HBU'
    isplitl [HFg' HFu']
    · iexists _, _
      isplitr
      swap
      · isplitl [HFg']; · iexact HFg'
        iexact HFu'
      ipureintro
      refine ⟨(View.read_write_univ _ _).trans ?_, (View.read_write_univ _ _).trans ?_⟩
      · exact blk_congr c WG wg (hoff' _) _ hin'
      · exact blk_congr c WU wu (hoff' _) _ hin'
    isplitl [HO]; · iexists _; iexact HO
    isplitl [H7]
    · iexists _; isplitr; · ipureintro; exact harg7.read_unread _
      iexact H7
    first
      | (iapply (outAt_intro c arg10 _ x A B f10 [] (hp x A B).symm)
         iexact H10)
      | (iapply outAt_intro
         rotate_left
         · iexact H10
         · try simp only [readAt_part]
           first
             | exact (hp x A B).symm
             | exact (hp x _ _).symm.trans (congrArg₂ (outPieces _ x) (readAt_wts BG (Memref.isWhole_whole _) A _) (readAt_wts BU (Memref.isWhole_whole _) B _)))

end Cert.Up

end
-- ==== Proof.Up.First.lean ====
/- The first grid point, which starts its own copies. -/
module

public import proofs.«01_k».proof.Proof.Up.Body

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

theorem pt_wts_imp (c : Dev nD) (M : Memref sig .tc .vmem S2048x1024 .bf16) (hM : M.IsWhole) (f : MBuf (F := F) c M)
    (hb : ∀ k, (![0, 0] : Fin 2 → ℕ) k + S2048x1024.size k ≤ S2048x1024.size k) (p q : Vec F S2048x1024 .bf16) :
    pt c M fullShare (M.view.writes (Elt F) f [⟨Rect.unit (s := S2048x1024) ![0, 0] S2048x1024.size hb, p⟩]) ⊢ iprop(⌜p = q⌝ -∗ pt c M fullShare (hM.unread q)) := by
  iintro H %h
  iapply (pt_wts c M hM f hb p q h)
  iexact H

set_option maxHeartbeats 4000000 in
/-- The first point: it starts and awaits its own weight blocks, then starts the copies of the next group's. -/
theorem body_first (c : Dev nD) (i : grid0.Coords)
    (arg7 : Memref sig .tc .vmem S512x2048 .f32) (harg7 : arg7.IsWhole) (arg10 : Memref sig .tc .vmem S512x1024 .bf16) (harg10 : arg10.IsWhole)
    (t0 : MBuf (F := F) c T0) (t1 : MBuf (F := F) c T1) (t2 : MBuf (F := F) c T2) (t3 : MBuf (F := F) c T3) (t4 : MBuf (F := F) c T4)
    (x : Vec F S512x2048 .f32) (wg : MBuf (F := F) c WG) (wu : MBuf (F := F) c WU)
    (w1 w2 : BitVec 32) (hw1 : rd c T2 t2 (k0_off1 i) (k0_off1_inb i) = w1) (hw2 : rdN c t4 = w2)
    (h1 : k0_cond1 (rd c T1 t1 (k0_off1 i) (k0_off1_inb i)) = 1#1)
    (hk2 : k0_chk2 i w1 w2 (rd c T1 t1 (k0_off1 i) (k0_off1_inb i)))
    (hk3 : ∀ h, k0_chk3 i (rd c T1 t1 (k0_off1 i) (k0_off1_inb i)) (rd c T3 t3 (k0_off3 w1) h))
    (h2 : k0_cond2 i w1 = 1#1) (hk1 : ∀ v, v = rd c T3 t3 ![0] inb_S40_S1_0 → k0_chk1 i w1 (rd c T1 t1 (k0_off1 i) (k0_off1_inb i)) v)
    (off : Fin 3 → ℕ) (hoff : k0_off2 (rd c T3 t3 ![0] inb_S40_S1_0) = off) (hin : ∀ a, off a + S1x2048x1024.size a ≤ S16x2048x4096.size a)
    (h3 : k0_cond3 i w1 w2 = 1#1) (hk4 : ∀ h, k0_chk4 i w1 w2 (rd c T1 t1 (k0_off1 i) (k0_off1_inb i)) (rd c T3 t3 (k0_off5 w1 w2) h))
    (off' : Fin 3 → ℕ) (hoff' : ∀ h, k0_off6 i w1 w2 (rd c T3 t3 (k0_off5 w1 w2) h) = off') (hin' : ∀ a, off' a + S1x2048x1024.size a ≤ S16x2048x4096.size a)
    (W : Waits sig Unit) (K : PUnit → sProp 𝕄) :
    iprop(tabs c t0 t1 t2 t3 t4 ∗ (∃ f, pt c BG fullShare f) ∗ (∃ f, pt c BU fullShare f) ∗ (∃ g, pt c SG fullShare g) ∗ (∃ u, pt c SU fullShare u) ∗ pt c WG fullShare wg ∗ pt c WU fullShare wu ∗ semVal ((c : Thread nD τ), SemLoc.dma s4) 0 ∗ semVal ((c : Thread nD τ), SemLoc.dma s5) 0 ∗ owes (c : Thread nD τ) 0 W
        ∗ owns (c : Thread nD τ) arg7 fullShare x ∗ (∃ X, owns (c : Thread nD τ) arg10 fullShare X)
        ∗ (iprop(tabs c t0 t1 t2 t3 t4 ∗ wts c (k0_pay3 (blk c WG wg off hin)) (k0_pay4 (blk c WU wu off hin)) ∗ (∃ g' u', ⌜SG.view.read (Elt F) g' = blk c WG wg off' hin' ∧ SU.view.read (Elt F) u' = blk c WU wu off' hin'⌝ ∗ flight c s4 SG WG g' wg ∗ flight c s5 SU WU u' wu) ∗ (∃ W, owes (c : Thread nD τ) 0 W)
            ∗ owns (c : Thread nD τ) arg7 fullShare x
            ∗ outAt c arg10 (rd c T0 t0 (k0_off7 i) (k0_off7_inb i)) x (k0_pay3 (blk c WG wg off hin)) (k0_pay4 (blk c WU wu off hin))) -∗ K ⟨⟩))
      ⊢ wp frame (wpE (defs₀ (F := F)) Variants.none c none) Set.univ (cc0_moe_up (F := F) i T0 (Memref.isWhole_whole _) T1 (Memref.isWhole_whole _) T2 (Memref.isWhole_whole _) T3 (Memref.isWhole_whole _) T4 (Memref.isWhole_whole _) arg7 harg7 WG (Memref.isWhole_whole _) WU (Memref.isWhole_whole _) arg10 harg10 SG (Memref.isWhole_whole _) SU (Memref.isWhole_whole _) BG (Memref.isWhole_whole _) BU (Memref.isWhole_whole _) cc0_scratch4) K := by
  subst hw1 hw2
  simp only [cc0_moe_up_eq_skeleton]; unfold cc0_moe_up_skel
  simp only [k0_part2_eq_skeleton]; unfold k0_part2_skel; simp only [k0_part1_eq_skeleton]
  unfold owns
  iintro ⟨⟨HT0, HT1, HT2, HT3, HT4⟩, ⟨%fg, HBG⟩, ⟨%fu, HBU⟩, ⟨%g, HSG⟩, ⟨%u, HSU⟩, HWG, HWU, HFg, HFu, HO, ⟨%f7, %hf7, H7⟩, ⟨%X10, %f10, -, H10⟩, Hk⟩
  obtain rfl := harg7.eq_unread hf7
  set_option sl_exec.stopBefore "k0_cond4" in sl_exec (disch := first | exact h2 | exact h3 | exact hk1 _ rfl | exact hk4 _ | exact h1 | exact hk2 | exact hk3 _)
  generalize hA : k0_pay3 (blk c WG wg off hin) = A
  generalize hB : k0_pay4 (blk c WU wu off hin) = B
  ihave HBG1 := (pt_wts_imp c BG (Memref.isWhole_whole _) fg _ _ A) $$ HBG
  ihave HBG' := HBG1 $$ []
  · ipureintro
    refine (congrArg k0_pay3 ((readAt_stage c SG _ _).trans ((View.read_write_univ _ _).trans ?_))).trans hA
    exact blk_congr c WG wg hoff _ hin
  ihave HBU1 := (pt_wts_imp c BU (Memref.isWhole_whole _) fu _ _ B) $$ HBU
  ihave HBU' := HBU1 $$ []
  · ipureintro
    refine (congrArg k0_pay4 ((readAt_stage c SU _ _).trans ((View.read_write_univ _ _).trans ?_))).trans hB
    exact blk_congr c WU wu hoff _ hin
  ihave HFg' := (flight_whole c _ _ _ _ wg) $$ [HFg HWG]
  · isplitl [HFg] <;> iassumption
  ihave HFu' := (flight_whole c _ _ _ _ wu) $$ [HFu HWU]
  · isplitl [HFu] <;> iassumption
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HBG' HBU']
    · isplitl [HBG']; · iexact HBG'
      iexact HBU'
    isplitl [HFg' HFu']
    · iexists _, _
      isplitr
      swap
      · isplitl [HFg']; · iexact HFg'
        iexact HFu'
      ipureintro
      refine ⟨(View.read_write_univ _ _).trans ?_, (View.read_write_univ _ _).trans ?_⟩
      · exact blk_congr c WG wg (hoff' _) _ hin'
      · exact blk_congr c WU wu (hoff' _) _ hin'
    isplitl [HO]; · iexists _; iexact HO
    isplitl [H7]
    · iexists _; isplitr; · ipureintro; exact harg7.read_unread _
      iexact H7
    first
      | (iapply (outAt_intro c arg10 _ x A B f10 [] (hp x A B).symm)
         iexact H10)
      | (iapply outAt_intro
         rotate_left
         · iexact H10
         · try simp only [readAt_part]
           first
             | exact (hp x A B).symm
             | exact (hp x _ _).symm.trans (congrArg₂ (outPieces _ x) (readAt_wts BG (Memref.isWhole_whole _) A _) (readAt_wts BU (Memref.isWhole_whole _) B _)))

end Cert.Up

end
-- ==== Proof.Up.Step.lean ====
/-
What the kernel holds between grid points, and one point's step: the weights' rounded blocks of the
tile's expert, and the copies of the next group's blocks under way.
-/
module

public import proofs.«01_k».proof.Proof.Up.Words
public import proofs.«01_k».proof.Proof.Up.Carry
public import proofs.«01_k».proof.Proof.Up.Last
public import proofs.«01_k».proof.Proof.Up.Next
public import proofs.«01_k».proof.Proof.Up.First

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The block of expert `e` and column `j` of a stacked weight. -/
def bk (c : Dev nD) (M : Memref sig .tc .hbm S16x2048x4096 .f32) (w : MBuf (F := F) c M) (e j : ℕ) : Vec F S2048x1024 .f32 :=
  blk c M w ![e % 16, 0, j % 4 * 1024] (inb_block (Nat.mod_lt _ (by omega)) (Nat.mod_lt _ (by omega)))

theorem blk_bk (c : Dev nD) (M : Memref sig .tc .hbm S16x2048x4096 .f32) (w : MBuf (F := F) c M) (e j : ℕ) (he : e < 16) (hj : j < 4)
    (off : Fin 3 → ℕ) (h : ∀ a, off a + S1x2048x1024.size a ≤ S16x2048x4096.size a) (ho : off = ![e, 0, j * 1024]) :
    blk c M w off h = bk c M w e j :=
  blk_congr c M w (by rw [ho, Nat.mod_eq_of_lt he, Nat.mod_eq_of_lt hj]) _ _

/-- The expert of group `k`, as the table gives it. -/
def expOf (c : Dev nD) (t3 : MBuf (F := F) c T3) (k : ℕ) : ℕ := if h : k < 40 then (rd c T3 t3 ![k] (inb_word h)).toNat else 0

/-- No copy under way. -/
def idle (c : Dev nD) (wg : MBuf (F := F) c WG) (wu : MBuf (F := F) c WU) : sProp 𝕄 :=
  iprop((∃ g, pt c SG fullShare g) ∗ (∃ u, pt c SU fullShare u) ∗ pt c WG fullShare wg ∗ pt c WU fullShare wu ∗ semVal ((c : Thread nD τ), SemLoc.dma s4) 0 ∗ semVal ((c : Thread nD τ), SemLoc.dma s5) 0)

/-- The copies of one block of either weight under way. -/
def inflight (c : Dev nD) (wg : MBuf (F := F) c WG) (wu : MBuf (F := F) c WU) (e j : ℕ) : sProp 𝕄 :=
  iprop(∃ g u, ⌜SG.view.read (Elt F) g = bk c WG wg e j ∧ SU.view.read (Elt F) u = bk c WU wu e j⌝ ∗ flight c s4 SG WG g wg ∗ flight c s5 SU WU u wu)

/-- The copies after a point in group `g` of `N`, column `j`. -/
def stage (c : Dev nD) (t3 : MBuf (F := F) c T3) (wg : MBuf (F := F) c WG) (wu : MBuf (F := F) c WU) (N g j : ℕ) : sProp 𝕄 :=
  if col g N j < 4 then inflight c wg wu (expOf c t3 (nxt g N)) (col g N j) else idle c wg wu

/-- The rounded blocks of expert `e` and column `j`. -/
def gateB (c : Dev nD) (wg : MBuf (F := F) c WG) (e j : ℕ) : Vec F S2048x1024 .bf16 := k0_pay3 (bk c WG wg e j)
def upB (c : Dev nD) (wu : MBuf (F := F) c WU) (e j : ℕ) : Vec F S2048x1024 .bf16 := k0_pay4 (bk c WU wu e j)

/-- What the body holds before point `t`, beside the tables and the windows. -/
def held (c : Dev nD) (te : ℕ → BitVec 32) (t3 : MBuf (F := F) c T3) (wg : MBuf (F := F) c WG) (wu : MBuf (F := F) c WU) : ℕ → sProp 𝕄
  | 0 => iprop((∃ f, pt c BG fullShare f) ∗ (∃ f, pt c BU fullShare f) ∗ idle c wg wu)
  | p + 1 => iprop(wts c (gateB c wg (te (p % 40)).toNat (p / 40)) (upB c wu (te (p % 40)).toNat (p / 40)) ∗ stage c t3 wg wu (grp te 39 + 1) (grp te (p % 40)) (p / 40))

variable {c : Dev nD} {te : ℕ → BitVec 32} {t1 : MBuf (F := F) c T1} {t2 : MBuf (F := F) c T2} {t3 : MBuf (F := F) c T3} {t4 : MBuf (F := F) c T4}

theorem rd3_congr {off off' : Fin 1 → ℕ} (e : off = off') (h : ∀ a, off a + S1.size a ≤ S40.size a) (h' : ∀ a, off' a + S1.size a ≤ S40.size a) :
    rd c T3 t3 off h = rd c T3 t3 off' h' := by subst e; rfl

theorem expOf_lt (ok : Ok c te t1 t2 t3 t4) (k : ℕ) : expOf c t3 k < 16 := by
  unfold expOf; split
  · exact ok.f3lt _ _
  · omega

theorem expOf_eq (ok : Ok c te t1 t2 t3 t4) (n : ℕ) (hn : n < 40) : expOf c t3 (grp te n) = (te n).toNat := by
  have h := grp_le te n
  unfold expOf
  rw [dif_pos (by omega)]
  exact congrArg BitVec.toNat (ok.f3 _ _ n hn rfl)

theorem grp_lt (te : ℕ → BitVec 32) {n : ℕ} (hn : n < 40) : grp te n < 40 := (grp_le te n).trans_lt hn
theorem ng_lt (te : ℕ → BitVec 32) : grp te 39 + 1 < 41 := by have := grp_le te 39; omega

/-- The opening of a tile's group finds its blocks under way. -/
theorem stage_opens (ok : Ok c te t1 t2 t3 t4) (wg : MBuf (F := F) c WG) (wu : MBuf (F := F) c WU) (p : ℕ) (hp : p + 1 < 160) (ho : opens te ((p + 1) % 40) = true) :
    stage c t3 wg wu (grp te 39 + 1) (grp te (p % 40)) (p / 40) = inflight c wg wu (te ((p + 1) % 40)).toNat ((p + 1) / 40) := by
  have key : ∀ n j, n < 40 → j < 4 → nxt (grp te (p % 40)) (grp te 39 + 1) = grp te n → col (grp te (p % 40)) (grp te 39 + 1) (p / 40) = j →
      stage c t3 wg wu (grp te 39 + 1) (grp te (p % 40)) (p / 40) = inflight c wg wu (te n).toNat j := by
    intro n j hn hj e1 e2
    unfold stage
    rw [e1, e2, if_pos hj, expOf_eq ok n hn]
  refine key _ _ (Nat.mod_lt _ (by omega)) (by omega) ?_ ?_
  all_goals
    by_cases h : p % 40 = 39
    · rw [show (p + 1) % 40 = 0 by omega] at *
      first
        | (rw [h]; unfold nxt; rw [if_pos (le_refl _)]; rfl)
        | (rw [h]; unfold col; rw [if_pos (le_refl _)]; omega)
    · have e : (p + 1) % 40 = p % 40 + 1 := by omega
      rw [e] at ho
      have hg : grp te (p % 40 + 1) = grp te (p % 40) + 1 := by
        show grp te (p % 40) + (opens te (p % 40 + 1)).toNat = _
        rw [ho]; rfl
      have hm : grp te (p % 40 + 1) ≤ grp te 39 := grp_mono te (by omega)
      first
        | (rw [e, hg]; unfold nxt; rw [if_neg (by omega)])
        | (unfold col; rw [if_neg (by omega)]; omega)

/-- A tile that opens no group leaves what is held as it is. -/
theorem held_carry (wg : MBuf (F := F) c WG) (wu : MBuf (F := F) c WU) (p : ℕ) (ho : opens te ((p + 1) % 40) = false) :
    held c te t3 wg wu (p + 1 + 1) = held c te t3 wg wu (p + 1) := by
  have h0 : (p + 1) % 40 ≠ 0 := fun h => by rw [h] at ho; cases ho
  have e : (p + 1) % 40 = p % 40 + 1 := by omega
  have e' : (p + 1) / 40 = p / 40 := by omega
  rw [e] at ho
  have hg : grp te (p % 40 + 1) = grp te (p % 40) := by
    show grp te (p % 40) + (opens te (p % 40 + 1)).toNat = _
    rw [ho]; rfl
  have ht : te (p % 40 + 1) = te (p % 40) := te_of_grp te hg
  simp only [held]
  rw [e, e', hg, ht]

variable (i : grid0.Coords)
    (arg7 : Memref sig .tc .vmem S512x2048 .f32) (harg7 : arg7.IsWhole) (arg10 : Memref sig .tc .vmem S512x1024 .bf16) (harg10 : arg10.IsWhole)
    (t0 : MBuf (F := F) c T0) (x : Vec F S512x2048 .f32) (wg : MBuf (F := F) c WG) (wu : MBuf (F := F) c WU)

set_option maxHeartbeats 1000000 in
/-- One grid point. -/
theorem body_step (ok : Ok c te t1 t2 t3 t4) (t : ℕ) (ht : t < 160) (i0 : (i 0).val = t / 40) (i1 : (i 1).val = t % 40)
    (W : Waits sig Unit) (K : PUnit → sProp 𝕄) :
    iprop(tabs c t0 t1 t2 t3 t4 ∗ held c te t3 wg wu t ∗ owes (c : Thread nD τ) 0 W ∗ owns (c : Thread nD τ) arg7 fullShare x ∗ (∃ X, owns (c : Thread nD τ) arg10 fullShare X)
        ∗ (iprop(tabs c t0 t1 t2 t3 t4 ∗ held c te t3 wg wu (t + 1) ∗ (∃ W, owes (c : Thread nD τ) 0 W) ∗ owns (c : Thread nD τ) arg7 fullShare x
            ∗ outAt c arg10 (rd c T0 t0 (k0_off7 i) (k0_off7_inb i)) x (gateB c wg (te (t % 40)).toNat (t / 40)) (upB c wu (te (t % 40)).toNat (t / 40))) -∗ K ⟨⟩))
      ⊢ wp frame (wpE (defs₀ (F := F)) Variants.none c none) Set.univ (cc0_moe_up (F := F) i T0 (Memref.isWhole_whole _) T1 (Memref.isWhole_whole _) T2 (Memref.isWhole_whole _) T3 (Memref.isWhole_whole _) T4 (Memref.isWhole_whole _) arg7 harg7 WG (Memref.isWhole_whole _) WU (Memref.isWhole_whole _) arg10 harg10 SG (Memref.isWhole_whole _) SU (Memref.isWhole_whole _) BG (Memref.isWhole_whole _) BU (Memref.isWhole_whole _) cc0_scratch4) K := by
  have hn : t % 40 < 40 := Nat.mod_lt _ (by omega)
  have hj : t / 40 < 4 := by omega
  have hg := grp_lt te hn
  have hN := ng_lt te
  have e1 : rd c T1 t1 (k0_off1 i) (k0_off1_inb i) = BitVec.ofNat 32 (opens te (t % 40)).toNat := by rw [ok.f1, off1_eq, i1]
  have e2 : rd c T2 t2 (k0_off1 i) (k0_off1_inb i) = BitVec.ofNat 32 (grp te (t % 40)) := by rw [ok.f2, off1_eq, i1]
  have hk2 := chk2_ok i (grp te (t % 40)) (grp te 39 + 1) hg hN (rd c T1 t1 (k0_off1 i) (k0_off1_inb i))
  have hk3 : ∀ h, k0_chk3 i (rd c T1 t1 (k0_off1 i) (k0_off1_inb i)) (rd c T3 t3 (k0_off3 (BitVec.ofNat 32 (grp te (t % 40)))) h) := fun h => chk3_ok i _ _ (ok.f3lt _ _)
  have hk4 : ∀ h, k0_chk4 i (BitVec.ofNat 32 (grp te (t % 40))) (BitVec.ofNat 32 (grp te 39 + 1)) (rd c T1 t1 (k0_off1 i) (k0_off1_inb i)) (rd c T3 t3 (k0_off5 (BitVec.ofNat 32 (grp te (t % 40))) (BitVec.ofNat 32 (grp te 39 + 1))) h) :=
    fun h => chk4_ok i _ _ hg hN _ _ (ok.f3lt _ _)
  have hoff : ∀ h, k0_off6 i (BitVec.ofNat 32 (grp te (t % 40))) (BitVec.ofNat 32 (grp te 39 + 1)) (rd c T3 t3 (k0_off5 (BitVec.ofNat 32 (grp te (t % 40))) (BitVec.ofNat 32 (grp te 39 + 1))) h)
      = ![expOf c t3 (nxt (grp te (t % 40)) (grp te 39 + 1)), 0, col (grp te (t % 40)) (grp te 39 + 1) (t / 40) * 1024] := fun h => by
    rw [off6_eq i _ _ hg hN, i0]
    congr 1
    unfold expOf
    rw [dif_pos (nxt_lt hN)]
    exact congrArg BitVec.toNat (rd3_congr (off5_eq _ _ hg hN) _ _)
  have h3 := cond3_iff i (grp te (t % 40)) (grp te 39 + 1) hg hN
  rw [i0] at h3
  have hinb : col (grp te (t % 40)) (grp te 39 + 1) (t / 40) < 4 → ∀ a, (![expOf c t3 (nxt (grp te (t % 40)) (grp te 39 + 1)), 0, col (grp te (t % 40)) (grp te 39 + 1) (t / 40) * 1024] : Fin 3 → ℕ) a + S1x2048x1024.size a ≤ S16x2048x4096.size a :=
    fun h => inb_block (expOf_lt ok _) h
  cases hop : opens te (t % 40) with
  | false =>
    cases t with
    | zero => cases hop
    | succ p =>
      rw [held_carry wg wu p hop]
      simp only [held]
      have h0 : (p + 1) % 40 ≠ 0 := fun h => by rw [h] at hop; cases hop
      have e : (p + 1) % 40 = p % 40 + 1 := by omega
      have e' : (p + 1) / 40 = p / 40 := by omega
      have ht : te ((p + 1) % 40) = te (p % 40) := by
        rw [e]
        refine te_of_grp te ?_
        show grp te (p % 40) + (opens te (p % 40 + 1)).toNat = _
        rw [← e, hop]; rfl
      rw [ht, e']
      iintro ⟨HT, ⟨HW, HS⟩, HO, H7, H10, Hk⟩
      iapply (body_carry c i arg7 harg7 arg10 harg10 t0 t1 t2 t3 t4 x _ _ (by rw [e1, hop, cond1_iff]; exact Bool.false_ne_true) K)
      isplitl [HT]; · iexact HT
      isplitl [HW]; · iexact HW
      isplitl [H7]; · iexact H7
      isplitl [H10]; · iexact H10
      iintro ⟨HT, HW, H7, H10⟩
      iapply Hk
      isplitl [HT]; · iexact HT
      isplitl [HW HS]
      · isplitl [HW]; · iexact HW
        iexact HS
      isplitl [HO]; · iexists _; iexact HO
      isplitl [H7]; · iexact H7
      iexact H10
  | true =>
    have h1 : k0_cond1 (rd c T1 t1 (k0_off1 i) (k0_off1_inb i)) = 1#1 := by rw [e1, hop, cond1_iff]
    cases t with
    | zero =>
      have hc : col (grp te (0 % 40)) (grp te 39 + 1) (0 / 40) < 4 := by unfold col; split <;> omega
      have hr : rd c T3 t3 ![0] inb_S40_S1_0 = te (0 % 40) := ok.f3 _ _ 0 (by omega) rfl
      have ho2 : k0_off2 (rd c T3 t3 ![0] inb_S40_S1_0) = ![(te (0 % 40)).toNat, 0, 0 / 40 * 1024] := by
        rw [hr]; rfl
      have hin2 : ∀ a, (![(te (0 % 40)).toNat, 0, 0 / 40 * 1024] : Fin 3 → ℕ) a + S1x2048x1024.size a ≤ S16x2048x4096.size a := inb_block (ok.lt _) hj
      simp only [held]
      unfold stage idle inflight
      rw [if_pos hc]
      iintro ⟨HT, ⟨HBG, HBU, HI⟩, HO, H7, H10, Hk⟩
      icases HI with ⟨HA, HB, HC, HD, HE, HF⟩
      iapply (body_first c i arg7 harg7 arg10 harg10 t0 t1 t2 t3 t4 x wg wu _ _ e2 ok.f4 h1 hk2 hk3
        ((cond2_iff i _ hg).2 ⟨by rw [i0], rfl⟩) (fun v hv => chk1_ok i _ _ _ (by rw [hv]; exact ok.f3lt _ _)) _ ho2 hin2 (h3.2 hc) hk4 _ hoff (hinb hc) W K)
      isplitl [HT]; · iexact HT
      isplitl [HBG]; · iexact HBG
      isplitl [HBU]; · iexact HBU
      isplitl [HA]; · iexact HA
      isplitl [HB]; · iexact HB
      isplitl [HC]; · iexact HC
      isplitl [HD]; · iexact HD
      isplitl [HE]; · iexact HE
      isplitl [HF]; · iexact HF
      isplitl [HO]; · iexact HO
      isplitl [H7]; · iexact H7
      isplitl [H10]; · iexact H10
      rw [blk_bk c WG wg _ _ (ok.lt _) hj _ hin2 rfl, blk_bk c WU wu _ _ (ok.lt _) hj _ hin2 rfl, blk_bk c WG wg _ _ (expOf_lt ok _) hc _ (hinb hc) rfl, blk_bk c WU wu _ _ (expOf_lt ok _) hc _ (hinb hc) rfl]
      iintro ⟨HT, HW, HS, HO, H7, H10⟩
      iapply Hk
      isplitl [HT]; · iexact HT
      isplitl [HW HS]
      · isplitl [HW]; · iexact HW
        iexact HS
      isplitl [HO]; · iexact HO
      isplitl [H7]; · iexact H7
      iexact H10
    | succ p =>
      have h2 : ¬ k0_cond2 i (BitVec.ofNat 32 (grp te ((p + 1) % 40))) = 1#1 := by
        rw [cond2_iff i _ hg, i0]
        rintro ⟨ha, hb⟩
        have e : (p + 1) % 40 = p + 1 := by omega
        rw [e] at hop hb
        have hb' : grp te p + (opens te (p + 1)).toNat = 0 := hb
        rw [hop] at hb'
        have hb'' : grp te p + 1 = 0 := hb'
        omega
      simp only [held]
      rw [stage_opens ok wg wu p ht hop]
      by_cases hc : col (grp te ((p + 1) % 40)) (grp te 39 + 1) ((p + 1) / 40) < 4
      · unfold stage inflight
        rw [if_pos hc]
        iintro ⟨HT, ⟨⟨HBG, HBU⟩, ⟨%g, %u, %hgu, HFg, HFu⟩⟩, HO, H7, H10, Hk⟩
        obtain ⟨hg', hu'⟩ := hgu
        iapply (body_next c i arg7 harg7 arg10 harg10 t0 t1 t2 t3 t4 x wg wu _ _ e2 ok.f4 h1 hk2 hk3 g u h2 (h3.2 hc) hk4 _ hoff (hinb hc) W K)
        isplitl [HT]; · iexact HT
        isplitl [HBG]; · iexists _; iexact HBG
        isplitl [HBU]; · iexists _; iexact HBU
        isplitl [HFg]; · iexact HFg
        isplitl [HFu]; · iexact HFu
        isplitl [HO]; · iexact HO
        isplitl [H7]; · iexact H7
        isplitl [H10]; · iexact H10
        rw [hg', hu', blk_bk c WG wg _ _ (expOf_lt ok _) hc _ (hinb hc) rfl, blk_bk c WU wu _ _ (expOf_lt ok _) hc _ (hinb hc) rfl]
        iintro ⟨HT, HW, HS, HO, H7, H10⟩
        iapply Hk
        isplitl [HT]; · iexact HT
        isplitl [HW HS]
        · isplitl [HW]; · iexact HW
          iexact HS
        isplitl [HO]; · iexact HO
        isplitl [H7]; · iexact H7
        iexact H10
      · unfold stage inflight idle
        rw [if_neg hc]
        iintro ⟨HT, ⟨⟨HBG, HBU⟩, ⟨%g, %u, %hgu, HFg, HFu⟩⟩, HO, H7, H10, Hk⟩
        obtain ⟨hg', hu'⟩ := hgu
        iapply (body_last c i arg7 harg7 arg10 harg10 t0 t1 t2 t3 t4 x wg wu _ _ e2 ok.f4 h1 hk2 hk3 g u h2 (fun h => hc (h3.1 h)) W K)
        isplitl [HT]; · iexact HT
        isplitl [HBG]; · iexists _; iexact HBG
        isplitl [HBU]; · iexists _; iexact HBU
        isplitl [HFg]; · iexact HFg
        isplitl [HFu]; · iexact HFu
        isplitl [HO]; · iexact HO
        isplitl [H7]; · iexact H7
        isplitl [H10]; · iexact H10
        rw [hg', hu']
        iintro ⟨HT, HW, ⟨HA, HB, HC, HD, HE, HF⟩, HO, H7, H10⟩
        iapply Hk
        isplitl [HT]; · iexact HT
        isplitl [HW HA HB HC HD HE HF]
        · isplitl [HW]; · iexact HW
          isplitl [HA]; · iexists _; iexact HA
          isplitl [HB]; · iexists _; iexact HB
          isplitl [HC]; · iexact HC
          isplitl [HD]; · iexact HD
          isplitl [HE]; · iexact HE
          iexact HF
        isplitl [HO]; · iexact HO
        isplitl [H7]; · iexact H7
        iexact H10

end Cert.Up

end
-- ==== Proof.Up.Run.lean ====
/-
The grid's run: what every point finds and leaves, and what the call leaves behind.
-/
module

public import proofs.«01_k».proof.Proof.Up.Start
public import proofs.«01_k».proof.Proof.Up.Step
public import Idealize.ShloMosaic.Lib.Claim

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

/-- The stacked weights, as the call finds them. -/
def G0 (c : Dev nD) : MBuf (F := F) c WG := V m c main_v0
def U0 (c : Dev nD) : MBuf (F := F) c WU := V m c main_v1

/-- Window `w`'s block at point `t`, of the arrays the call finds. -/
def iblk (c : Dev nD) (w : Fin 2) (t : Fin (cfgM m).N) := (((cfgM m).win w).blk t).view.read (Elt F) (V m c (Pipeline.arrRef spec0 w))

/-- The block of tokens at point `t`. -/
def xblk (c : Dev nD) (t : Fin (cfgM m).N) : Vec F S512x2048 .f32 := iblk m c 0 t

/-- The output block of point `t`. -/
def outT (c : Dev nD) (t : Fin (cfgM m).N) : Vec F S512x1024 .bf16 :=
  outVal (rd c T0 (W0 m c) (k0_off7 (grid0.coords t)) (k0_off7_inb (grid0.coords t))) (xblk m c t)
    (gateB c (G0 m c) (wordAt (tea m c) (t.val % 40)).toNat (t.val / 40)) (upB c (U0 m c) (wordAt (tea m c) (t.val % 40)).toNat (t.val / 40))

/-- What the body holds before point `t`. -/
def Phi (c : Dev nD) (t : ℕ) : sProp 𝕄 :=
  iprop(tabs c (W0 m c) (W1 m c) (W2 m c) (W3 m c) (W4 m c) ∗ (∃ r, prngReg c r) ∗ held c (wordAt (tea m c)) (W3 m c) (G0 m c) (U0 m c) t)

/-- The call's data. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outT m c t
  Φ t := Phi m c t.val
  q _ := fullShare
  owed _ := 0

theorem A_eq (c : Dev nD) (w : Fin (cfgM m).W) : (dats m 0 c).A w = V m c (Pipeline.arrRef spec0 w) := by dsimp only [dats]
theorem after_0 (c : Dev nD) (t : Fin (cfgM m).N) : (dats m 0 c).after 0 t = iblk m c 0 t := rfl
theorem after_1 (c : Dev nD) (t : Fin (cfgM m).N) : (dats m 0 c).after 1 t = outT m c t := rfl
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-- The body's call at point `t`. -/
theorem row (t : Fin (cfgM m).N) : defs₀ (F := F) .tc (cfgM m).body ((cfgM m).bodyArgs t ((cfgM m).slots t))
    = cc0_moe_up (F := F) (grid0.coords t) T0 (Memref.isWhole_whole _) T1 (Memref.isWhole_whole _) T2 (Memref.isWhole_whole _) T3 (Memref.isWhole_whole _) T4 (Memref.isWhole_whole _) (spec0_0.stage ((cfgM m).slots t 0)) (hstage0_0 (((cfgM m).slots t 0).cast nbuf0_0)) WG (Memref.isWhole_whole _) WU (Memref.isWhole_whole _) (spec0_1.stage ((cfgM m).slots t 1)) (hstage0_1 (((cfgM m).slots t 1).cast nbuf0_1)) SG (Memref.isWhole_whole _) SU (Memref.isWhole_whole _) BG (Memref.isWhole_whole _) BU (Memref.isWhole_whole _) cc0_scratch4 := by
  unfold defs₀; rw [Defs.onTc_tc]

theorem lt_N (t : Fin (cfgM m).N) : t.val < 160 := t.isLt.trans_eq N_0

theorem coord0 (t : Fin (cfgM m).N) : (grid0.coords t 0).val = t.val / 40 := by
  have := lt_N m t
  rw [show (grid0.coords t 0).val = t.val / 40 % 4 from Pipeline.Grid.coords_val (G := grid0) t 0 (S := 40) (B := 4) (by decide) rfl]; omega
theorem coord1 (t : Fin (cfgM m).N) : (grid0.coords t 1).val = t.val % 40 := by
  have := lt_N m t
  rw [show (grid0.coords t 1).val = t.val / 1 % 40 from Pipeline.Grid.coords_val (G := grid0) t 1 (S := 1) (B := 40) (by decide) rfl]; omega

/-- One point of the run, in the call's own terms. -/
theorem point (hm : Experts m) (c : Dev nD) (t : Fin (cfgM m).N) (K : PUnit → sProp 𝕄) :
    iprop(Phi m c t.val ∗ (dats m 0 c).owesAt () t.castSucc ∗ owns (c : Thread nD τ) (spec0_0.stage ((cfgM m).slots t 0)) fullShare (xblk m c t)
        ∗ (∃ X, owns (c : Thread nD τ) (spec0_1.stage ((cfgM m).slots t 1)) fullShare X)
        ∗ (iprop(Phi m c (t.val + 1) ∗ (dats m 0 c).owesAt () t.succ ∗ owns (c : Thread nD τ) (spec0_0.stage ((cfgM m).slots t 0)) fullShare (xblk m c t)
            ∗ (∃ X, ⌜Legal (rd c T0 (W0 m c) (k0_off7 (grid0.coords t)) (k0_off7_inb (grid0.coords t))) → X = outT m c t⌝
                ∗ owns (c : Thread nD τ) (spec0_1.stage ((cfgM m).slots t 1)) fullShare X)) -∗ K ⟨⟩))
      ⊢ wp frame (wpE (defs₀ (F := F)) Variants.none c none) Set.univ (defs₀ (F := F) .tc (cfgM m).body ((cfgM m).bodyArgs t ((cfgM m).slots t))) K := by
  rw [row]
  unfold Phi Dat.owesAt Pipeline.owesWithin
  rw [show (dats m 0 c).owed t.castSucc = 0 from rfl, show (dats m 0 c).owed t.succ = 0 from rfl]
  istart
  iintro ⟨⟨HT, HP, HH⟩, ⟨%W, %hW, HO⟩, HX, HY, HK⟩
  iapply (body_step (F := F) (c := c) (grid0.coords t) (spec0_0.stage ((cfgM m).slots t 0)) (hstage0_0 (((cfgM m).slots t 0).cast nbuf0_0))
    (spec0_1.stage ((cfgM m).slots t 1)) (hstage0_1 (((cfgM m).slots t 1).cast nbuf0_1)) (W0 m c) (xblk m c t) (G0 m c) (U0 m c)
    (ok_tbl m hm c) t.val (lt_N m t) (coord0 m t) (coord1 m t) W K)
  iframe HT HH HO HX HY
  iintro ⟨HT, HH, ⟨%W', HO⟩, HX, ⟨%X, %hX, HY⟩⟩
  iapply HK
  iframe HT HP HH HX
  isplitl [HO]
  · iexists W'
    isplitr
    · ipureintro; exact fun _ _ => Or.inl trivial
    · iexact HO
  · iexists X
    isplitr
    · ipureintro; exact hX
    · iexact HY

/-- The same, of the windows as the call numbers them. -/
theorem point' (hm : Experts m) (c : Dev nD) (t : Fin (cfgM m).N) (K : PUnit → sProp 𝕄) :
    iprop(Phi m c t.val ∗ (dats m 0 c).owesAt () t.castSucc ∗ owns (c : Thread nD τ) (((cfgM m).win 0).stage ((cfgM m).slots t 0)) fullShare (iblk m c 0 t)
        ∗ (∃ X, owns (c : Thread nD τ) (((cfgM m).win 1).stage ((cfgM m).slots t 1)) fullShare X)
        ∗ (iprop(Phi m c (t.val + 1) ∗ (dats m 0 c).owesAt () t.succ ∗ owns (c : Thread nD τ) (((cfgM m).win 0).stage ((cfgM m).slots t 0)) fullShare (iblk m c 0 t)
            ∗ (∃ X, ⌜Legal (rd c T0 (W0 m c) (k0_off7 (grid0.coords t)) (k0_off7_inb (grid0.coords t))) → X = (dats m 0 c).after 1 t⌝
                ∗ owns (c : Thread nD τ) (((cfgM m).win 1).stage ((cfgM m).slots t 1)) fullShare X)) -∗ K ⟨⟩))
      ⊢ wp frame (wpE (defs₀ (F := F)) Variants.none c none) Set.univ (defs₀ (F := F) .tc (cfgM m).body ((cfgM m).bodyArgs t ((cfgM m).slots t))) K :=
  point m hm c t K

/-! ## Into the run and out of it -/

theorem held_0 (c : Dev nD) (te : ℕ → BitVec 32) (t3 : MBuf (F := F) c T3) (wg : MBuf (F := F) c WG) (wu : MBuf (F := F) c WU) :
    (held c te t3 wg wu 0 : sProp 𝕄) = iprop((∃ f, pt c BG fullShare f) ∗ (∃ f, pt c BU fullShare f) ∗ idle c wg wu) := rfl

/-- After the last point no copy is under way. -/
theorem held_last (c : Dev nD) (te : ℕ → BitVec 32) (t3 : MBuf (F := F) c T3) (wg : MBuf (F := F) c WG) (wu : MBuf (F := F) c WU) :
    ∃ a b, (held c te t3 wg wu 160 : sProp 𝕄) = iprop(wts c a b ∗ idle c wg wu) := by
  refine ⟨gateB c wg (te (159 % 40)).toNat (159 / 40), upB c wu (te (159 % 40)).toNat (159 / 40), ?_⟩
  show iprop(wts c (gateB c wg (te (159 % 40)).toNat (159 / 40)) (upB c wu (te (159 % 40)).toNat (159 / 40)) ∗ stage c t3 wg wu (grp te 39 + 1) (grp te 39) 3) = _
  unfold stage col
  rw [if_neg (by rw [if_pos (le_refl _)]; omega)]

theorem own_eq (c : Dev nD) : (Pipeline.ownSems0 (Ix := Unit) (Name := ℕ) (U := Pipeline.UD sig nD τ) (Lvl := ℕ) (Val := Elt F) (τ := τ) osem c : sProp 𝕄)
    = iprop(semVal ((c : Thread nD τ), SemLoc.dma s4) 0 ∗ semVal ((c : Thread nD τ), SemLoc.dma s5) 0) := by
  unfold Pipeline.ownSems0
  rw [show (Finset.univ : Finset (Fin 2)) = insert 0 {1} from by decide, bigSep_insert (by decide), bigSep_singleton]
  rfl

theorem HW_eq (c : Dev nD) : (bigSep HW fun b => ((c : Thread nD τ).loc b) ↦{fullShare} V m c b : sProp 𝕄)
    = iprop(pt c WG fullShare (G0 m c) ∗ pt c WU fullShare (U0 m c)) := by
  rw [bigSep_insert (by decide), bigSep_singleton]
  rfl

theorem tabs_eq (c : Dev nD) : (Pipeline.ΦT pre0 (tbl m) c : sProp 𝕄) = tabs c (W0 m c) (W1 m c) (W2 m c) (W3 m c) (W4 m c) := by
  rw [PhiT_eq]
  obtain rfl : c = 0 := Subsingleton.elim _ _
  rfl

theorem hin (c : Dev nD) : iprop(Pipeline.ΦD osem spec0 HW (V m) c ∗ Pipeline.ΦT pre0 (tbl m) c) ⊢ (Phi m c 0 : sProp 𝕄) := by
  rw [Pipeline.ΦD_eq, own_eq, HW_eq, tabs_eq, scopedRest0_eq]
  unfold Phi
  rw [held_0]
  unfold idle
  istart
  iintro ⟨⟨⟨H0, H1, H2, H3⟩, HP, ⟨S4, S5⟩, ⟨HG, HU⟩⟩, HT⟩
  iframe HT HP H2 H3 H0 H1 HG HU S4 S5

theorem hout (c : Dev nD) : (Phi m c 160 : sProp 𝕄) ⊢ Pipeline.ΦD osem spec0 HW (V m) c := by
  rw [Pipeline.ΦD_eq, own_eq, HW_eq, scopedRest0_eq]
  unfold Phi
  obtain ⟨a, b, h⟩ := held_last c (wordAt (tea m c)) (W3 m c) (G0 m c) (U0 m c)
  rw [h]
  unfold idle
  istart
  iintro ⟨HT, HP, ⟨HA, HB⟩, ⟨H0, H1, HG, HU, S4, S5⟩⟩
  iframe HP H0 H1 HG HU S4 S5
  isplitl [HA]
  · iexists _; iexact HA
  · iexists _; iexact HB

/-! ## The obligations -/

/-- The output window's contents left unnamed. -/
abbrev fgt : Fin 2 → Bool := fun w => w == 1

theorem phi_before (c : Dev nD) (t : Fin (cfgM m).N) : (dats m 0 c).Φ t.castSucc = Phi m c t.val := by
  dsimp only [dats]; exact Dat.Φ_castSucc (fun n _ => Phi m c n) t
theorem phi_after (c : Dev nD) (t : Fin (cfgM m).N) : (dats m 0 c).Φ t.succ = Phi m c (t.val + 1) := rfl

theorem body_forget (hm : Experts m) (c : Dev nD) : BodyObligationLoose (dats m 0 c) (defs₀ (F := F)) Variants.none () Set.univ fgt := by
  intro t
  rw [bigSep_W0, bigSep_W0]
  rw [phi_before, phi_after]
  show iprop(Phi m c t.val ∗ (dats m 0 c).owesAt () t.castSucc ∗ ((∃ d, owns (c : Thread nD τ) (((cfgM m).win 0).stage ((cfgM m).slots t 0)) fullShare ((dats m 0 c).before 0 t d)) ∗ (∃ X, owns (c : Thread nD τ) (((cfgM m).win 1).stage ((cfgM m).slots t 1)) fullShare X)))
    ⊢ wp frame (wpE (defs₀ (F := F)) Variants.none c none) Set.univ (defs₀ (F := F) .tc (cfgM m).body ((cfgM m).bodyArgs t ((cfgM m).slots t)))
      (fun _ => iprop(Phi m c (t.val + 1) ∗ (dats m 0 c).owesAt () t.succ ∗ (owns (c : Thread nD τ) (((cfgM m).win 0).stage ((cfgM m).slots t 0)) fullShare ((dats m 0 c).after 0 t) ∗ (∃ X, owns (c : Thread nD τ) (((cfgM m).win 1).stage ((cfgM m).slots t 1)) fullShare X))))
  istart
  iintro ⟨HΦ, HO, ⟨%d, HX⟩, HY⟩
  iapply (point' m hm c t)
  rw [before_0, after_0]
  iframe HΦ HO HX HY
  iintro ⟨HΦ, HO, HX, ⟨%X, %hX, HY⟩⟩
  iframe HΦ HO HX
  iexists X
  iexact HY

end Cert.Up

end
-- ==== Proof.Up.Launch.lean ====
/-
The whole run: it ends, its arguments are as they were, every counter is at zero, and where the
valid-row words are ones the kernel counts by its result is the points' blocks.
-/
module

public import proofs.«01_k».proof.Proof.Up.Run

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every valid-row word is one the kernel counts by. -/
def Rows : Prop := ∀ (c : Dev nD) i, Legal (m ((c : Thread nD τ).loc main_arg2) i)

theorem legal_word (hr : Rows m) (c : Dev nD) (off : Fin 1 → ℕ) (h : ∀ a, off a + S1.size a ≤ S40.size a) : Legal (rd c T0 (W0 m c) off h) := by
  rw [rd_T0 c _ off h]
  have e : W0 m c = m ((c : Thread nD τ).loc main_arg2) := V_arg2 m c
  exact (congrFun e _).symm ▸ hr c _

/-- Every point writes its output block back. -/
theorem flush_1 (t : Fin (cfgM m).N) : ((cfgM m).win 1).flush t = true :=
  (Pipeline.Window.flush_reads ((cfgM m).win 1) rfl (1 : Fin 2) (show 1 < grid0.bound 1 by decide) rfl
    (fun i i' h => Pipeline.Window.sep_of_coord cc0_transform_3 (1 : Fin 2) (0 : Fin 2) (fun _ => rfl) (by decide) i i' h) (P := 1) (m := 0) (show grid0.stride 1 = 1 by decide) rfl t).2 (Nat.mod_one _)

theorem leaves_1 (c : Dev nD) (t : Fin (cfgM m).N) :
    (owns (c : Thread nD τ) (((cfgM m).win 1).stage ((cfgM m).slots t 1)) fullShare ((dats m 0 c).after 1 t) : sProp 𝕄) ⊢ (dats m 0 c).leavesExact 1 t := by
  unfold Dat.leavesExact
  rw [flush_1]
  cases (cfgM m).idle 1 ((cfgM m).grid.coords t)
  · exact .rfl
  · exact .rfl

theorem body_exact (hm : Experts m) (hr : Rows m) (c : Dev nD) : BodyObligation (dats m 0 c) (defs₀ (F := F)) Variants.none () Set.univ := by
  intro t
  rw [bigSep_W0, bigSep_W0]
  rw [phi_before, phi_after]
  show iprop(Phi m c t.val ∗ (dats m 0 c).owesAt () t.castSucc ∗ ((∃ d, owns (c : Thread nD τ) (((cfgM m).win 0).stage ((cfgM m).slots t 0)) fullShare ((dats m 0 c).before 0 t d)) ∗ (∃ d, owns (c : Thread nD τ) (((cfgM m).win 1).stage ((cfgM m).slots t 1)) fullShare ((dats m 0 c).before 1 t d))))
    ⊢ wp frame (wpE (defs₀ (F := F)) Variants.none c none) Set.univ (defs₀ (F := F) .tc (cfgM m).body ((cfgM m).bodyArgs t ((cfgM m).slots t)))
      (fun _ => iprop(Phi m c (t.val + 1) ∗ (dats m 0 c).owesAt () t.succ ∗ (owns (c : Thread nD τ) (((cfgM m).win 0).stage ((cfgM m).slots t 0)) fullShare ((dats m 0 c).after 0 t) ∗ (dats m 0 c).leavesExact 1 t)))
  istart
  iintro ⟨HΦ, HO, ⟨%d, HX⟩, ⟨%d', HY⟩⟩
  iapply (point' m hm c t)
  rw [before_0, after_0]
  iframe HΦ HO HX
  isplitl [HY]
  · iexists _; iexact HY
  iintro ⟨HΦ, HO, HX, ⟨%X, %hX, HY⟩⟩
  iframe HΦ HO HX
  obtain rfl := hX (legal_word m hr c _ _)
  iapply (leaves_1 m c t)
  iexact HY

theorem hA (c : Dev nD) (w : Fin (cfgM m).W) : (dats m 0 c).A w = V m c (Pipeline.arrRef spec0 w) := A_eq m c w

set_option backward.isDefEq.respectTransparency.types false in
/-- The run, its result left unnamed. -/
theorem run_forget (hm : Experts m) : θ_run defs (onTc (τ := τ) (main (F := F))) (s₀ m ρ)
    (fun r => Pipeline.RDat.FramePost (cfgM m) (fun c => (dats m 0 c).toRForget fgt) (V m) r ∧ r.2.sem = fun _ => 0) :=
  Pipeline.θ_run_frameP_dma_forget (Q' := _) pcfgs (fun _ => adm m) (dats m) (0 : Fin 1) launch0 osem defs₀ Variants.none fgt ownSemFacts HW HW_sub m ρ main
    (hbody := body_forget m hm) (hshare := fun c w => by fin_cases w <;> rfl) (howed := fun _ _ => rfl) (V := V m) (hmain := hmain m Variants.none) (hA := A_eq m) (hpf := V_pre m)
    (hin := hin m) (hout := hout m)

set_option backward.isDefEq.respectTransparency.types false in
/-- The run, its result the points' blocks. -/
theorem run_exact (hm : Experts m) (hr : Rows m) : θ_run defs (onTc (τ := τ) (main (F := F))) (s₀ m ρ)
    (fun r => Pipeline.FramePost (Pipeline.pin pcfgs (fun _ => adm m)) (dats m) 0 (V m) r ∧ r.2.sem = fun _ => 0) :=
  Pipeline.θ_run_frameP_dma (Q' := _) pcfgs (fun _ => adm m) (dats m) (0 : Fin 1) launch0 osem defs₀ Variants.none ownSemFacts HW HW_sub m ρ main
    (hbody := fun c => (body_exact m hm hr c).loose) (hshare := fun c w => by fin_cases w <;> rfl) (howed := fun _ _ => rfl) (V := V m) (hmain := hmain m Variants.none) (hA := A_eq m) (hpf := V_pre m)
    (hin := hin m) (hout := hout m)

/-- What the run leaves in the arguments. -/
theorem kept (σ : MemSt nD τ sig (Elt F)) (h : Pipeline.RDat.FramePost (cfgM m) (fun c => (dats m 0 c).toRForget fgt) (V m) (⟨⟩, σ)) (c : Dev nD) :
    σ.mem ((c.tc : Thread nD τ).loc main_arg0) = m ((c.tc : Thread nD τ).loc main_arg0)
      ∧ σ.mem ((c.tc : Thread nD τ).loc main_arg1) = m ((c.tc : Thread nD τ).loc main_arg1)
      ∧ σ.mem ((c.tc : Thread nD τ).loc main_arg2) = m ((c.tc : Thread nD τ).loc main_arg2)
      ∧ σ.mem ((c.tc : Thread nD τ).loc main_arg3) = m ((c.tc : Thread nD τ).loc main_arg3)
      ∧ σ.mem ((c.tc : Thread nD τ).loc main_arg4) = m ((c.tc : Thread nD τ).loc main_arg4) := by
  obtain ⟨hw, hrest⟩ := h c
  have hrest' : ∀ b ∈ Pipeline.restRefs sig spec0, σ.mem ((c.tc : Thread nD τ).loc b) = V m c b := hrest
  have e0 : σ.mem ((c.tc : Thread nD τ).loc main_arg0) = V m c main_arg0 :=
    (congrFun (Pipeline.RDat.ArrAt_in ((dats m 0 c).toRForget fgt) (0 : Fin 2) rfl (cfgM m).N) _).mp (hw (0 : Fin 2))
  refine ⟨e0.trans (V_arg0 m c), ?_, ?_, ?_, ?_⟩
  · exact (hrest' main_arg1 (Pipeline.mem_restRefs_of (win := spec0) main_arg1 (by decide) (by decide))).trans (V_arg1 m c)
  · exact (hrest' main_arg2 (Pipeline.mem_restRefs_of (win := spec0) main_arg2 (by decide) (by decide))).trans (V_arg2 m c)
  · exact (hrest' main_arg3 (Pipeline.mem_restRefs_of (win := spec0) main_arg3 (by decide) (by decide))).trans (V_arg3 m c)
  · exact (hrest' main_arg4 (Pipeline.mem_restRefs_of (win := spec0) main_arg4 (by decide) (by decide))).trans (V_arg4 m c)

/-- The arguments end as they were and every counter at zero. -/
theorem frame_run (hm : Experts m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m r.2 h.1 c, h.2⟩) (run_forget m ρ hm)

/-- The result after the run. -/
theorem result_run (hm : Experts m) (hr : Rows m) : θ_run defs (onTc (τ := τ) (main (F := F))) ⟨m, fun _ => 0, ρ⟩ (fun r => ∀ c : Dev nD,
      r.2.mem ((c.tc : Thread nD τ).loc main_v22) = (dats m 0 c).arrAt 1 (cfgM m).N) :=
  (θ_run defs _ _).mono (fun r h c => (h.1 c).1 (1 : Fin 2)) (run_exact m ρ hm hr)

end Cert.Up

end
-- ==== Proof.Up.Blocks.lean ====
/-
What a point reads of the arguments, an entry at a time: its tile of tokens and its block of the
expert's weights.
-/
module

public import proofs.«01_k».proof.Proof.Up.Launch
public import Idealize.ShloMosaic.Lib.Pointwise
public import Idealize.ShloMosaic.Lib.ValueLayout
public import Idealize.ShloMosaic.Lib.Pipeline.ValueKit

@[expose] public section

set_option maxRecDepth 16384

noncomputable section

namespace Cert.Up

open Cert.Kernel2Ideal Cert.Kernel2Ideal.Gen
open Idealize.ShloMosaic Idealize.ShloMosaic.TcCoe Idealize.ShloMosaic.Tactic

variable (m : (ℓ : Loc nD τ sig) → Buf (Elt Ideal) ℓ)

/-- Which block of its array each window takes at point `t`. -/
theorem index_0' (t : Fin (cfgM m).N) : cc0_transform_0 (grid0.coords t) = ![t.val % 40, 0] := by
  show cc0_transform_0 (grid0.coords t) = _
  have h := coord1 m t
  funext k
  fin_cases k
  · show (BitVec.ofNat 32 (grid0.coords t 1).val).toNat = _
    rw [h, BitVec.toNat_ofNat]; show _ = t.val % 40; omega
  · rfl

theorem index_1' (t : Fin (cfgM m).N) : cc0_transform_3 (grid0.coords t) = ![t.val % 40, t.val / 40] := by
  show cc0_transform_3 (grid0.coords t) = _
  have h := coord1 m t
  have h' := coord0 m t
  have := lt_N m t
  funext k
  fin_cases k
  · show (BitVec.ofNat 32 (grid0.coords t 1).val).toNat = _
    rw [h, BitVec.toNat_ofNat]; show _ = t.val % 40; omega
  · show (BitVec.ofNat 32 (grid0.coords t 0).val).toNat = _
    rw [h', BitVec.toNat_ofNat]; show _ = t.val / 40; omega

/-- The tile of tokens. -/
theorem xblk_at (c : Dev nD) (t : Fin (cfgM m).N) (n : Fin 40) (hn : t.val % 40 = n) (i : Fin 512) (k : Fin 2048) :
    xblk m c t (ix2 i k) = m ((c : Thread nD τ).loc main_arg0) (ix2 ⟨n * 512 + i, by omega⟩ k) := by
  rw [← V_arg0 m c]
  unfold xblk iblk
  show V m c main_arg0 _ = _
  congr 1
  funext a
  refine Fin.ext ?_
  fin_cases a
  · show (cc0_transform_0 (grid0.coords t) 0) * 512 + 1 * (i : ℕ) = _
    rw [index_0' m t]; show t.val % 40 * 512 + 1 * (i : ℕ) = _; rw [hn, one_mul]; rfl
  · show (cc0_transform_0 (grid0.coords t) 1) * 2048 + 1 * (k : ℕ) = _
    rw [index_0' m t]; show 0 * 2048 + 1 * (k : ℕ) = (k : ℕ); omega

/-- The stacked weights are the arguments reshaped. -/
theorem G0_eq (c : Dev nD) : G0 m c = shapeCast S16x2048x4096 (m ((c : Thread nD τ).loc main_arg3)) shapeCasts_S2x8x2048x4096_S16x2048x4096 := by
  show StableHlo.after hostAll _ _ = _
  simp only [hostAll, hostOps0, hostOps0_1, hostOps0_2, List.flatten_cons, List.flatten_nil, List.append_nil, List.cons_append, List.nil_append]
  after_results
  rfl
theorem U0_eq (c : Dev nD) : U0 m c = shapeCast S16x2048x4096 (m ((c : Thread nD τ).loc main_arg4)) shapeCasts_S2x8x2048x4096_S16x2048x4096 := by
  show StableHlo.after hostAll _ _ = _
  simp only [hostAll, hostOps0, hostOps0_1, hostOps0_2, List.flatten_cons, List.flatten_nil, List.append_nil, List.cons_append, List.nil_append]
  after_results
  rfl

theorem bk_WG_at (c : Dev nD) (w : MBuf (F := Ideal) c WG) (e : Fin 16) (j : Fin 4) (k : Fin 2048) (f : Fin 1024) :
    bk c WG w e j (ix2 k f) = w (ix3 e k ⟨j * 1024 + f, by omega⟩) := by
  unfold bk blk
  have he : (e : ℕ) % 16 = e := Nat.mod_eq_of_lt e.isLt
  have hj : (j : ℕ) % 4 = j := Nat.mod_eq_of_lt j.isLt
  show w ((Rect.unit (s := S16x2048x4096) ![(e : ℕ) % 16, 0, (j : ℕ) % 4 * 1024] S1x2048x1024.size
    (inb_block (Nat.mod_lt _ (by omega)) (Nat.mod_lt _ (by omega)))).emb (Shape.reshapeEquiv _ (ix2 k f))) = _
  refine (congrArg (fun z => w (Rect.emb _ z)) (ValueIdx.reshapeEquiv_ix2_1ab (a := 2048) (b := 1024) _ k f)).trans ?_
  congr 1
  funext a
  refine Fin.ext ?_
  fin_cases a
  · show (e : ℕ) % 16 + 1 * 0 = (e : ℕ); omega
  · show 0 + 1 * (k : ℕ) = (k : ℕ); omega
  · show (j : ℕ) % 4 * 1024 + 1 * (f : ℕ) = (j : ℕ) * 1024 + f; omega

theorem gateB_at (c : Dev nD) (w : MBuf (F := Ideal) c WG) (e : Fin 16) (j : Fin 4) (k : Fin 2048) (f : Fin 1024) :
    gateB c w e j (ix2 k f) = w (ix3 e k ⟨j * 1024 + f, by omega⟩) := by
  rw [← bk_WG_at c w e j k f]
  unfold gateB
  pointwise [k0_pay3]

theorem bk_WU_at (c : Dev nD) (w : MBuf (F := Ideal) c WU) (e : Fin 16) (j : Fin 4) (k : Fin 2048) (f : Fin 1024) :
    bk c WU w e j (ix2 k f) = w (ix3 e k ⟨j * 1024 + f, by omega⟩) := bk_WG_at c w e j k f

theorem upB_at (c : Dev nD) (w : MBuf (F := Ideal) c WU) (e : Fin 16) (j : Fin 4) (k : Fin 2048) (f : Fin 1024) :
    upB c w e j (ix2 k f) = w (ix3 e k ⟨j * 1024 + f, by omega⟩) := by
  rw [← bk_WU_at c w e j k f]
  unfold upB
  pointwise [k0_pay4]

end Cert.Up

end
-- ==== Proof.Up.Glu.lean ====
/-
The gated product an expert's hidden entry is, in the two forms it is computed in.
-/
module

public import Idealize.ShloMosaic.PureOps.Ideal
public import Mathlib.Data.EReal.Inv

@[expose] public section

noncomputable section

namespace Cert.Up

open Idealize.ShloMosaic

/-- `silu g · u`, the quotient taken of `g` at once. -/
def glu (g u : EReal) : EReal := Ideal.div g (1 + Ideal.exp (0 - g)) * u

/-- An entry of row `i` of a tile with `n` rows in use: the gated product of the row's two sums, or zero. -/
def cell (n i : ℕ) (x a b : Fin 2048 → EReal) : EReal :=
  if i < n then glu (∑ k, x k * a k) (∑ k, x k * b k) else 0

theorem exp_nonneg (x : EReal) : 0 ≤ Ideal.exp x := by
  unfold Ideal.exp
  split
  · exact le_refl _
  · exact le_top
  · exact EReal.coe_nonneg.2 (Real.exp_pos _).le

theorem one_add_exp_ne (x : EReal) : 1 + Ideal.exp x ≠ 0 := fun h =>
  absurd (le_add_of_nonneg_right (exp_nonneg x) : (1 : EReal) ≤ 1 + Ideal.exp x) (by rw [h]; exact not_le.2 zero_lt_one)

/-- The same with the quotient taken of one and multiplied by `g`. -/
theorem glu_eq (g u : EReal) : g * Ideal.div 1 (1 + Ideal.exp (-g)) * u = glu g u := by
  unfold glu Ideal.div
  rw [zero_sub, if_neg (one_add_exp_ne _), if_neg (one_add_exp_ne _), one_mul]

theorem bits_one : Ideal.ofBits .f32 0x3F800000#32 = 1 := by
  simp [Ideal.ofBits, Ideal.ieee, -EReal.coe_mul]; norm_num
theorem bits_zero : Ideal.ofBits .f32 0x00000000#32 = 0 := by
  simp [Ideal.ofBits, Ideal.ieee, -EReal.coe_mul]
theorem bits_zero' : Ideal.ofBits .bf16 0x0000#16 = 0 := by
  simp [Ideal.ofBits, Ideal.ieee, -EReal.coe_mul]

end Cert.Up

end
-- ==== Proof.Up.Pays.lean ====
/-
What a tile's products and zeros are, an entry at a time.
-/
module

public import proofs.«01_k».proof.Proof.Up.Body
public import proofs.«01_k».proof.Proof.Up.Glu
public import Idealize.ShloMosaic.Lib.Pointwise

@[expose] public section

set_option maxRecDepth 16384

noncomputable section

namespace Cert.Up

open Cert.Kernel2Ideal Cert.Kernel2Ideal.Gen
open Idealize.ShloMosaic Idealize.ShloMosaic.TcCoe

variable (a b : Vec Ideal S2048x1024 .bf16)

/-- The gated product of a row. -/
abbrev gp (x a b : Fin 2048 → EReal) : EReal := glu (∑ k, x k * a k) (∑ k, x k * b k)

theorem pay5_at (x : Vec Ideal S64x2048 .f32) (i : Fin 64) (f : Fin 1024) :
    k0_pay5 x a b (ix2 i f) = gp (fun k => x (ix2 i k)) (fun k => a (ix2 k f)) (fun k => b (ix2 k f)) := by
  pointwise [k0_pay5]
  rfl

theorem pay7_at (x : Vec Ideal S128x2048 .f32) (i : Fin 128) (f : Fin 1024) :
    k0_pay7 x a b (ix2 i f) = gp (fun k => x (ix2 i k)) (fun k => a (ix2 k f)) (fun k => b (ix2 k f)) := by
  pointwise [k0_pay7]
  rfl

theorem pay9_at (x : Vec Ideal S192x2048 .f32) (i : Fin 192) (f : Fin 1024) :
    k0_pay9 x a b (ix2 i f) = gp (fun k => x (ix2 i k)) (fun k => a (ix2 k f)) (fun k => b (ix2 k f)) := by
  pointwise [k0_pay9]
  rfl

theorem pay11_at (x : Vec Ideal S256x2048 .f32) (i : Fin 256) (f : Fin 1024) :
    k0_pay11 x a b (ix2 i f) = gp (fun k => x (ix2 i k)) (fun k => a (ix2 k f)) (fun k => b (ix2 k f)) := by
  pointwise [k0_pay11]
  rfl

theorem pay13_at (x : Vec Ideal S320x2048 .f32) (i : Fin 320) (f : Fin 1024) :
    k0_pay13 x a b (ix2 i f) = gp (fun k => x (ix2 i k)) (fun k => a (ix2 k f)) (fun k => b (ix2 k f)) := by
  pointwise [k0_pay13]
  rfl

theorem pay15_at (x : Vec Ideal S384x2048 .f32) (i : Fin 384) (f : Fin 1024) :
    k0_pay15 x a b (ix2 i f) = gp (fun k => x (ix2 i k)) (fun k => a (ix2 k f)) (fun k => b (ix2 k f)) := by
  pointwise [k0_pay15]
  rfl

theorem pay17_at (x : Vec Ideal S448x2048 .f32) (i : Fin 448) (f : Fin 1024) :
    k0_pay17 x a b (ix2 i f) = gp (fun k => x (ix2 i k)) (fun k => a (ix2 k f)) (fun k => b (ix2 k f)) := by
  pointwise [k0_pay17]
  rfl

theorem pay1_at (x : Vec Ideal S512x2048 .f32) (i : Fin 512) (f : Fin 1024) :
    k0_pay1 x a b (ix2 i f) = gp (fun k => x (ix2 i k)) (fun k => a (ix2 k f)) (fun k => b (ix2 k f)) := by
  pointwise [k0_pay1]
  rfl

theorem pay6_at (y : S448x1024.Idx) : k0_pay6 (F := Ideal) y = 0 := by
  rw [eq_ix2 (n0 := 448) (n1 := 1024) y]
  pointwise [k0_pay6]

theorem pay8_at (y : S384x1024.Idx) : k0_pay8 (F := Ideal) y = 0 := by
  rw [eq_ix2 (n0 := 384) (n1 := 1024) y]
  pointwise [k0_pay8]

theorem pay10_at (y : S320x1024.Idx) : k0_pay10 (F := Ideal) y = 0 := by
  rw [eq_ix2 (n0 := 320) (n1 := 1024) y]
  pointwise [k0_pay10]

theorem pay12_at (y : S256x1024.Idx) : k0_pay12 (F := Ideal) y = 0 := by
  rw [eq_ix2 (n0 := 256) (n1 := 1024) y]
  pointwise [k0_pay12]

theorem pay14_at (y : S192x1024.Idx) : k0_pay14 (F := Ideal) y = 0 := by
  rw [eq_ix2 (n0 := 192) (n1 := 1024) y]
  pointwise [k0_pay14]

theorem pay16_at (y : S128x1024.Idx) : k0_pay16 (F := Ideal) y = 0 := by
  rw [eq_ix2 (n0 := 128) (n1 := 1024) y]
  pointwise [k0_pay16]

theorem pay18_at (y : S64x1024.Idx) : k0_pay18 (F := Ideal) y = 0 := by
  rw [eq_ix2 (n0 := 64) (n1 := 1024) y]
  pointwise [k0_pay18]

theorem pay2_at (y : S512x1024.Idx) : k0_pay2 (F := Ideal) y = 0 := by
  rw [eq_ix2 (n0 := 512) (n1 := 1024) y]
  pointwise [k0_pay2]

/-- Rows of the block of tokens, read off its part. -/
theorem part_rows {n : ℕ} (x : Vec Ideal S512x2048 .f32) (h : ∀ k, (![0, 0] : Fin 2 → ℕ) k + (![n, 2048] : Fin 2 → ℕ) k ≤ S512x2048.size k) (i : Fin n) (hi : (i : ℕ) < 512) (k : Fin 2048) :
    part x (Rect.unit (s := S512x2048) ![0, 0] ![n, 2048] h) (ix2 i k) = x (ix2 ⟨i, hi⟩ k) := by
  unfold part
  congr 1
  funext j
  refine Fin.ext ?_
  fin_cases j
  · show 0 + 1 * (i : ℕ) = i; omega
  · show 0 + 1 * (k : ℕ) = k; omega

section
variable {sg : RefSig} (v : View sg .tc .vmem S512x1024 .bf16) (g : v.ty.Contents (Elt Ideal))

/-- One piece over the whole block, read back. -/
theorem read_one (inb : ∀ k, (![0, 0] : Fin 2 → ℕ) k + S512x1024.size k ≤ S512x1024.size k) (w : Vec Ideal S512x1024 .bf16) (i : Fin 512) (f : Fin 1024) :
    v.read (Elt Ideal) (v.writes (Elt Ideal) g [⟨Rect.unit (s := S512x1024) ![0, 0] S512x1024.size inb, w⟩]) (ix2 i f) = w (ix2 i f) :=
  View.read_writes_cons_rows_of_mem (d := ![512, 1024]) (o := 0) v g inb w [] (ix2 i f) (ix2 i f) rfl (Nat.zero_add _).symm rfl

/-- Two pieces, one above the other, read back. -/
theorem read_two {n r : ℕ} (h : n + r = 512) (inb : ∀ k, (![n, 0] : Fin 2 → ℕ) k + (![r, 1024] : Fin 2 → ℕ) k ≤ S512x1024.size k)
    (inb' : ∀ k, (![0, 0] : Fin 2 → ℕ) k + (![n, 1024] : Fin 2 → ℕ) k ≤ S512x1024.size k)
    (z : Vec Ideal (⟨2, ![r, 1024]⟩ : Shape) .bf16) (w : Vec Ideal (⟨2, ![n, 1024]⟩ : Shape) .bf16) (i : Fin 512) (f : Fin 1024) :
    v.read (Elt Ideal) (v.writes (Elt Ideal) g [⟨Rect.unit (s := S512x1024) ![n, 0] ![r, 1024] inb, z⟩, ⟨Rect.unit (s := S512x1024) ![0, 0] ![n, 1024] inb', w⟩]) (ix2 i f)
      = if hi : (i : ℕ) < n then w (ix2 ⟨i, hi⟩ f) else z (ix2 ⟨i - n, by omega⟩ f) := by
  by_cases hi : (i : ℕ) < n
  · rw [dif_pos hi]
    refine (View.read_writes_cons_rows_of_not_mem (d := ![512, 1024]) (o := n) (W := r) v g inb z _ (ix2 i f) rfl rfl (Or.inl hi)).trans ?_
    exact View.read_writes_cons_rows_of_mem (d := ![512, 1024]) (o := 0) v g inb' w [] (ix2 i f) (ix2 ⟨i, hi⟩ f) rfl (Nat.zero_add _).symm rfl
  · rw [dif_neg hi]
    exact View.read_writes_cons_rows_of_mem (d := ![512, 1024]) (o := n) v g inb z _ (ix2 i f) (ix2 ⟨i - n, by omega⟩ f) rfl
      (by show (i : ℕ) = n + (i - n); omega) rfl

theorem pieces_0 (x : Vec Ideal S512x2048 .f32) (i : Fin 512) (f : Fin 1024) :
    v.read (Elt Ideal) (v.writes (Elt Ideal) g (outPieces 0#32 x a b)) (ix2 i f) = cell 0 i (fun k => x (ix2 i k)) (fun k => a (ix2 k f)) (fun k => b (ix2 k f)) := by
  unfold cell
  rw [if_neg (by omega)]
  exact (read_one v g inb_S512x1024_S512x1024_0_0 (k0_pay2 (F := Ideal)) i f).trans (pay2_at _)

theorem pieces_64 (x : Vec Ideal S512x2048 .f32) (i : Fin 512) (f : Fin 1024) :
    v.read (Elt Ideal) (v.writes (Elt Ideal) g (outPieces 64#32 x a b)) (ix2 i f) = cell 64 i (fun k => x (ix2 i k)) (fun k => a (ix2 k f)) (fun k => b (ix2 k f)) := by
  unfold cell
  refine (read_two v g (n := 64) (r := 448) rfl inb_S512x1024_S448x1024_64_0 inb_S512x1024_S64x1024_0_0 (k0_pay6 (F := Ideal))
    (k0_pay5 (F := Ideal) (part x (Rect.unit (s := S512x2048) ![0, 0] S64x2048.size inb_S512x2048_S64x2048_0_0)) a b) i f).trans ?_
  by_cases h : (i : ℕ) < 64
  · rw [dif_pos h, if_pos h]
    refine (pay5_at a b _ ⟨i, h⟩ f).trans ?_
    unfold gp
    rw [funext fun k => part_rows x inb_S512x2048_S64x2048_0_0 ⟨i, h⟩ i.isLt k]
  · rw [dif_neg h, if_neg h]
    exact pay6_at _

theorem pieces_128 (x : Vec Ideal S512x2048 .f32) (i : Fin 512) (f : Fin 1024) :
    v.read (Elt Ideal) (v.writes (Elt Ideal) g (outPieces 128#32 x a b)) (ix2 i f) = cell 128 i (fun k => x (ix2 i k)) (fun k => a (ix2 k f)) (fun k => b (ix2 k f)) := by
  unfold cell
  refine (read_two v g (n := 128) (r := 384) rfl inb_S512x1024_S384x1024_128_0 inb_S512x1024_S128x1024_0_0 (k0_pay8 (F := Ideal))
    (k0_pay7 (F := Ideal) (part x (Rect.unit (s := S512x2048) ![0, 0] S128x2048.size inb_S512x2048_S128x2048_0_0)) a b) i f).trans ?_
  by_cases h : (i : ℕ) < 128
  · rw [dif_pos h, if_pos h]
    refine (pay7_at a b _ ⟨i, h⟩ f).trans ?_
    unfold gp
    rw [funext fun k => part_rows x inb_S512x2048_S128x2048_0_0 ⟨i, h⟩ i.isLt k]
  · rw [dif_neg h, if_neg h]
    exact pay8_at _

theorem pieces_192 (x : Vec Ideal S512x2048 .f32) (i : Fin 512) (f : Fin 1024) :
    v.read (Elt Ideal) (v.writes (Elt Ideal) g (outPieces 192#32 x a b)) (ix2 i f) = cell 192 i (fun k => x (ix2 i k)) (fun k => a (ix2 k f)) (fun k => b (ix2 k f)) := by
  unfold cell
  refine (read_two v g (n := 192) (r := 320) rfl inb_S512x1024_S320x1024_192_0 inb_S512x1024_S192x1024_0_0 (k0_pay10 (F := Ideal))
    (k0_pay9 (F := Ideal) (part x (Rect.unit (s := S512x2048) ![0, 0] S192x2048.size inb_S512x2048_S192x2048_0_0)) a b) i f).trans ?_
  by_cases h : (i : ℕ) < 192
  · rw [dif_pos h, if_pos h]
    refine (pay9_at a b _ ⟨i, h⟩ f).trans ?_
    unfold gp
    rw [funext fun k => part_rows x inb_S512x2048_S192x2048_0_0 ⟨i, h⟩ i.isLt k]
  · rw [dif_neg h, if_neg h]
    exact pay10_at _

theorem pieces_256 (x : Vec Ideal S512x2048 .f32) (i : Fin 512) (f : Fin 1024) :
    v.read (Elt Ideal) (v.writes (Elt Ideal) g (outPieces 256#32 x a b)) (ix2 i f) = cell 256 i (fun k => x (ix2 i k)) (fun k => a (ix2 k f)) (fun k => b (ix2 k f)) := by
  unfold cell
  refine (read_two v g (n := 256) (r := 256) rfl inb_S512x1024_S256x1024_256_0 inb_S512x1024_S256x1024_0_0 (k0_pay12 (F := Ideal))
    (k0_pay11 (F := Ideal) (part x (Rect.unit (s := S512x2048) ![0, 0] S256x2048.size inb_S512x2048_S256x2048_0_0)) a b) i f).trans ?_
  by_cases h : (i : ℕ) < 256
  · rw [dif_pos h, if_pos h]
    refine (pay11_at a b _ ⟨i, h⟩ f).trans ?_
    unfold gp
    rw [funext fun k => part_rows x inb_S512x2048_S256x2048_0_0 ⟨i, h⟩ i.isLt k]
  · rw [dif_neg h, if_neg h]
    exact pay12_at _

theorem pieces_320 (x : Vec Ideal S512x2048 .f32) (i : Fin 512) (f : Fin 1024) :
    v.read (Elt Ideal) (v.writes (Elt Ideal) g (outPieces 320#32 x a b)) (ix2 i f) = cell 320 i (fun k => x (ix2 i k)) (fun k => a (ix2 k f)) (fun k => b (ix2 k f)) := by
  unfold cell
  refine (read_two v g (n := 320) (r := 192) rfl inb_S512x1024_S192x1024_320_0 inb_S512x1024_S320x1024_0_0 (k0_pay14 (F := Ideal))
    (k0_pay13 (F := Ideal) (part x (Rect.unit (s := S512x2048) ![0, 0] S320x2048.size inb_S512x2048_S320x2048_0_0)) a b) i f).trans ?_
  by_cases h : (i : ℕ) < 320
  · rw [dif_pos h, if_pos h]
    refine (pay13_at a b _ ⟨i, h⟩ f).trans ?_
    unfold gp
    rw [funext fun k => part_rows x inb_S512x2048_S320x2048_0_0 ⟨i, h⟩ i.isLt k]
  · rw [dif_neg h, if_neg h]
    exact pay14_at _

theorem pieces_384 (x : Vec Ideal S512x2048 .f32) (i : Fin 512) (f : Fin 1024) :
    v.read (Elt Ideal) (v.writes (Elt Ideal) g (outPieces 384#32 x a b)) (ix2 i f) = cell 384 i (fun k => x (ix2 i k)) (fun k => a (ix2 k f)) (fun k => b (ix2 k f)) := by
  unfold cell
  refine (read_two v g (n := 384) (r := 128) rfl inb_S512x1024_S128x1024_384_0 inb_S512x1024_S384x1024_0_0 (k0_pay16 (F := Ideal))
    (k0_pay15 (F := Ideal) (part x (Rect.unit (s := S512x2048) ![0, 0] S384x2048.size inb_S512x2048_S384x2048_0_0)) a b) i f).trans ?_
  by_cases h : (i : ℕ) < 384
  · rw [dif_pos h, if_pos h]
    refine (pay15_at a b _ ⟨i, h⟩ f).trans ?_
    unfold gp
    rw [funext fun k => part_rows x inb_S512x2048_S384x2048_0_0 ⟨i, h⟩ i.isLt k]
  · rw [dif_neg h, if_neg h]
    exact pay16_at _

theorem pieces_448 (x : Vec Ideal S512x2048 .f32) (i : Fin 512) (f : Fin 1024) :
    v.read (Elt Ideal) (v.writes (Elt Ideal) g (outPieces 448#32 x a b)) (ix2 i f) = cell 448 i (fun k => x (ix2 i k)) (fun k => a (ix2 k f)) (fun k => b (ix2 k f)) := by
  unfold cell
  refine (read_two v g (n := 448) (r := 64) rfl inb_S512x1024_S64x1024_448_0 inb_S512x1024_S448x1024_0_0 (k0_pay18 (F := Ideal))
    (k0_pay17 (F := Ideal) (part x (Rect.unit (s := S512x2048) ![0, 0] S448x2048.size inb_S512x2048_S448x2048_0_0)) a b) i f).trans ?_
  by_cases h : (i : ℕ) < 448
  · rw [dif_pos h, if_pos h]
    refine (pay17_at a b _ ⟨i, h⟩ f).trans ?_
    unfold gp
    rw [funext fun k => part_rows x inb_S512x2048_S448x2048_0_0 ⟨i, h⟩ i.isLt k]
  · rw [dif_neg h, if_neg h]
    exact pay18_at _

theorem pieces_512 (x : Vec Ideal S512x2048 .f32) (i : Fin 512) (f : Fin 1024) :
    v.read (Elt Ideal) (v.writes (Elt Ideal) g (outPieces 512#32 x a b)) (ix2 i f) = cell 512 i (fun k => x (ix2 i k)) (fun k => a (ix2 k f)) (fun k => b (ix2 k f)) := by
  unfold cell
  rw [if_pos (by omega)]
  refine (read_one v g inb_S512x1024_S512x1024_0_0 (k0_pay1 (F := Ideal) (part x (Rect.unit (s := S512x2048) ![0, 0] S512x2048.size inb_S512x2048_S512x2048_0_0)) a b) i f).trans ((pay1_at a b _ i f).trans ?_)
  unfold gp
  rw [funext fun k => part_rows x inb_S512x2048_S512x2048_0_0 i i.isLt k]

/-- A point's pieces, written over anything and read back, an entry at a time. -/
theorem pieces_at {n : BitVec 32} (hn : Legal n) (x : Vec Ideal S512x2048 .f32) (i : Fin 512) (f : Fin 1024) :
    v.read (Elt Ideal) (v.writes (Elt Ideal) g (outPieces n x a b)) (ix2 i f) = cell n.toNat i (fun k => x (ix2 i k)) (fun k => a (ix2 k f)) (fun k => b (ix2 k f)) := by
  unfold Legal at hn
  rcases hn with rfl | rfl | rfl | rfl | rfl | rfl | rfl | rfl | rfl
  · exact pieces_0 a b v g x i f
  · exact pieces_64 a b v g x i f
  · exact pieces_128 a b v g x i f
  · exact pieces_192 a b v g x i f
  · exact pieces_256 a b v g x i f
  · exact pieces_320 a b v g x i f
  · exact pieces_384 a b v g x i f
  · exact pieces_448 a b v g x i f
  · exact pieces_512 a b v g x i f
end

/-- What a point leaves, an entry at a time. -/
theorem outVal_at {n : BitVec 32} (hn : Legal n) (x : Vec Ideal S512x2048 .f32) (i : Fin 512) (f : Fin 1024) :
    outVal n x a b (ix2 i f) = cell n.toNat i (fun k => x (ix2 i k)) (fun k => a (ix2 k f)) (fun k => b (ix2 k f)) :=
  pieces_at a b BOut.view BOut.view.junk hn x i f

end Cert.Up

end
-- ==== Proof.Up.Out.lean ====
/-
The kernel's result, an entry at a time: what a point writes for its tile and column block is the gated product of
the tile's valid rows, and the points' blocks make up the result.
-/
module

public import proofs.«01_k».proof.Proof.Up.Blocks
public import proofs.«01_k».proof.Proof.Up.Pays

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.ShloMosaic.Pipeline (Dat)

variable (m : (ℓ : Loc nD τ sig) → Buf (Elt Ideal) ℓ)

/-- The entry of tile `n`, row `i` and column `f`, of the kernel's arguments. -/
abbrev entry (c : Dev nD) (n : Fin 40) (i : Fin 512) (f : Fin 4096) (e : Fin 16) : EReal :=
  cell ((m ((c : Thread nD τ).loc main_arg2) : IVec S40 32) (ix1 n)).toNat i
    (fun k => (m ((c : Thread nD τ).loc main_arg0) : FVec Ideal S20480x2048 .f32) (ix2 ⟨n * 512 + i, by omega⟩ k))
    (fun k => shapeCast S16x2048x4096 (m ((c : Thread nD τ).loc main_arg3)) shapeCasts_S2x8x2048x4096_S16x2048x4096 (ix3 e k f))
    (fun k => shapeCast S16x2048x4096 (m ((c : Thread nD τ).loc main_arg4)) shapeCasts_S2x8x2048x4096_S16x2048x4096 (ix3 e k f))

/-- A point's word of valid rows. -/
theorem rows_word (c : Dev nD) (t : Fin (cfgM m).N) (n : Fin 40) (hn : t.val % 40 = n) :
    rd c T0 (W0 m c) (k0_off7 (grid0.coords t)) (k0_off7_inb (grid0.coords t)) = (m ((c : Thread nD τ).loc main_arg2) : IVec S40 32) (ix1 n) := by
  have h1 := coord1 m t
  have ht := lt_N m t
  have e : W0 m c = m ((c : Thread nD τ).loc main_arg2) := V_arg2 m c
  refine (rd_T0 c _ _ _).trans ((congrFun e _).trans ?_)
  congr 1
  congr 1
  refine Fin.ext ?_
  show k0_off7 (grid0.coords t) 0 = n
  show (BitVec.ofNat 32 (grid0.coords t 1).val).toNat = n
  rw [h1, BitVec.toNat_ofNat]
  omega

/-- A point's block, an entry at a time. -/
theorem outT_at (hr : Rows m) (c : Dev nD) (t : Fin (cfgM m).N) (n : Fin 40) (hn : t.val % 40 = n) (j : Fin 4) (hj : t.val / 40 = j)
    (e : Fin 16) (he : (tea m c (ix1 n)).toNat = e) (i : Fin 512) (f : Fin 1024) :
    outT m c t (ix2 i f) = entry m c n i ⟨j * 1024 + f, by omega⟩ e := by
  have hw : (wordAt (tea m c) (t.val % 40)).toNat = e := by
    unfold wordAt
    rw [dif_pos (Nat.mod_lt _ (by norm_num))]
    rw [← he]
    congr 3
    exact Fin.ext hn
  unfold outT
  rw [outVal_at _ _ (legal_word m hr c _ _), rows_word m c t n hn, hw, hj]
  unfold entry
  rw [funext fun k => xblk_at m c t n hn i k, funext fun k => gateB_at c (G0 m c) e j k f, funext fun k => upB_at c (U0 m c) e j k f,
    G0_eq, U0_eq]

/-- Every block of the result is some point's. -/
theorem covers : ((cfgM m).win 1).Covers := by
  refine ⟨fun a => ?_, fun β => ?_⟩
  · match a with
    | ⟨0, _⟩ => exact (by norm_num : 0 < 512)
    | ⟨1, _⟩ => exact (by norm_num : 0 < 1024)
  · have h0 : (β (0 : Fin 2)).val < 40 := (β (0 : Fin 2)).isLt.trans_eq (show (20480 + 512 - 1) / 512 = 40 by norm_num)
    have h1 : (β (1 : Fin 2)).val < 4 := (β (1 : Fin 2)).isLt.trans_eq (show (4096 + 1024 - 1) / 1024 = 4 by norm_num)
    let t : Fin (cfgM m).N := ⟨(β (1 : Fin 2)).val * 40 + (β (0 : Fin 2)).val, by rw [show (cfgM m).N = 160 from N_0]; omega⟩
    refine ⟨t, flush_1 m t, fun a => ⟨?_, Or.inl ?_⟩⟩
    · match a with
      | ⟨0, _⟩ =>
        refine (congrFun (index_1' m t) (0 : Fin 2)).trans ?_
        show ((β (1 : Fin 2)).val * 40 + (β (0 : Fin 2)).val) % 40 = (β (0 : Fin 2)).val
        omega
      | ⟨1, _⟩ =>
        refine (congrFun (index_1' m t) (1 : Fin 2)).trans ?_
        show ((β (1 : Fin 2)).val * 40 + (β (0 : Fin 2)).val) / 40 = (β (1 : Fin 2)).val
        omega
    · rfl

/-- Where a point's block lies in the result. -/
theorem place (t : Fin (cfgM m).N) (i : Fin 512) (f : Fin 1024) (n : Fin 40) (hn : t.val % 40 = n) (j : Fin 4) (hj : t.val / 40 = j) :
    (((cfgM m).win 1).blk t).view.emb (ix2 i f) = (ix2 (⟨n * 512 + i, by omega⟩ : Fin 20480) (⟨j * 1024 + f, by omega⟩ : Fin 4096) : S20480x4096.Idx) := by
  funext a
  refine Fin.ext ?_
  fin_cases a
  · show (cc0_transform_3 (grid0.coords t) 0) * 512 + 1 * (i : ℕ) = (n : ℕ) * 512 + i
    rw [index_1' m t]; show t.val % 40 * 512 + 1 * (i : ℕ) = _; rw [hn, one_mul]
  · show (cc0_transform_3 (grid0.coords t) 1) * 1024 + 1 * (f : ℕ) = (j : ℕ) * 1024 + f
    rw [index_1' m t]; show t.val / 40 * 1024 + 1 * (f : ℕ) = _; rw [hj, one_mul]

/-- The kernel's result is any array of these entries. -/
theorem final (hm : Experts m) (hr : Rows m) (c : Dev nD) (G : FVec Ideal S20480x4096 .bf16)
    (hG : ∀ (n : Fin 40) (i : Fin 512) (f : Fin 4096), G (ix2 ⟨n * 512 + i, by omega⟩ f)
      = entry m c n i f ⟨(tea m c (ix1 n)).toNat, hm c _⟩) :
    (dats m 0 c).arrAt 1 (cfgM m).N = G := by
  refine (dats m 0 c).arrAt_eq_of_covers 1 _ (covers m) fun t _ y => ?_
  have ht := lt_N m t
  rw [after_1]
  have key : ∀ (i : Fin 512) (f : Fin 1024), outT m c t (ix2 i f) = G ((((cfgM m).win 1).blk t).view.emb (ix2 i f)) := fun i f => by
    rw [outT_at m hr c t ⟨t.val % 40, by omega⟩ rfl ⟨t.val / 40, by omega⟩ rfl ⟨(tea m c (ix1 ⟨t.val % 40, by omega⟩)).toNat, hm c _⟩ rfl i f, ← hG]
    exact congrArg G (place m t i f ⟨t.val % 40, by omega⟩ rfl ⟨t.val / 40, by omega⟩ rfl).symm
  have all : ∀ z : (⟨2, ![512, 1024]⟩ : Shape).Idx, outT m c t z = G ((((cfgM m).win 1).blk t).view.emb z) := fun z => by
    rw [eq_ix2 z]; exact key (z 0) (z 1)
  exact all y

end Cert.Up

end
-- ==== Proof.Up.Ref.lean ====
/-
The reference's result, an entry at a time: each tile's rows times its expert's weights, gated, and zero below the
tile's valid rows.
-/
module

public import proofs.«01_k».proof.Proof.Gen.Reference2Ideal.Run
public import proofs.«01_k».proof.Proof.Up.Glu
public import Idealize.ShloMosaic.Lib.Pointwise
public import Idealize.ShloMosaic.Lib.WordCmp

@[expose] public section

set_option maxRecDepth 16384

noncomputable section

namespace Cert.Up.Ref

open Cert.Reference2Ideal Cert.Reference2Ideal.Gen
open Idealize.ShloMosaic Idealize.ShloMosaic.TcCoe Idealize.ShloMosaic.Tactic

/-- The experts, as the gather is given them: a negative one counted from the end. -/
def picks (te : IVec S40 32) : IVec S40x1 32 :=
  broadcastInDim S40x1 ![0] bcast_S40_S40x1_0 (select (cmpi .slt te (broadcastInDim S40 ![] bcast_S_S40 (constantI S_ 32 0#32)))
    (addi te (broadcastInDim S40 ![] bcast_S_S40 (constantI S_ 32 16#32))) te)

/-- Each tile's expert's weights. -/
def weights (w : FVec Ideal S2x8x2048x4096 .f32) (te : IVec S40 32) : FVec Ideal S40x2048x4096 .f32 :=
  Host.gather gather_S16x2048x4096_S40x1_S40x2048x4096_12_0_n_n_0_1_120484096 (shapeCast _ w shapeCasts_S2x8x2048x4096_S16x2048x4096) (picks te)

/-- The tiles of tokens times their experts' weights. -/
def prods (x : FVec Ideal S20480x2048 .f32) (w : FVec Ideal S40x2048x4096 .f32) : FVec Ideal S40x512x4096 .f32 :=
  Host.dotGeneral dot_S40x512x2048_S40x2048x4096_S40x512x4096_2_1_1_2_0_0 none (shapeCast _ x shapeCasts_S20480x2048_S40x512x2048) w

/-- The logistic function, as the reference computes it. -/
def logistic (g : FVec Ideal S40x512x4096 .f32) : FVec Ideal S40x512x4096 .f32 :=
  Host.divf (broadcastInDim S40x512x4096 ![] bcast_S_S40x512x4096 (constant S_ .f32 0x3F800000#32))
    (addf (broadcastInDim S40x512x4096 ![] bcast_S_S40x512x4096 (constant S_ .f32 0x3F800000#32)) (Host.exp (Host.negf g)))

/-- The rows that are valid. -/
def valid (vr : IVec S40 32) : IVec S40x512x1 1 :=
  cmpi .slt (broadcastInDim S40x512x1 ![0, 1, 2] bcast_S1x512x1_S40x512x1_0_1_2 (broadcastInDim S1x512x1 ![1] bcast_S512_S1x512x1_1 (iotaInDim S512 32 0)))
    (broadcastInDim S40x512x1 ![0, 1, 2] bcast_S40x1x1_S40x512x1_0_1_2 (broadcastInDim S40x1x1 ![0] bcast_S40_S40x1x1_0 vr))

/-- The gated products of the valid rows, and zeros. -/
def gated (g u : FVec Ideal S40x512x4096 .f32) (vr : IVec S40 32) : FVec Ideal S20480x4096 .bf16 :=
  truncf .bf16 (shapeCast _ (select (broadcastInDim S40x512x4096 ![0, 1, 2] bcast_S40x512x1_S40x512x4096_0_1_2 (valid vr))
    (mulf (mulf g (logistic g)) u)
    (broadcastInDim S40x512x4096 ![] bcast_S_S40x512x4096 (id (constant S_ .f32 0x00000000#32)))) shapeCasts_S40x512x4096_S20480x4096) bitsLt_bf16_f32

/-- The reference's result, of its arguments. -/
def result (x : FVec Ideal S20480x2048 .f32) (te vr : IVec S40 32) (wg wu : FVec Ideal S2x8x2048x4096 .f32) : FVec Ideal S20480x4096 .bf16 :=
  gated (prods x (weights wg te)) (prods x (weights wu te)) vr

theorem picks_at (te : IVec S40 32) (n : Fin 40) (h : (te (ix1 n)).toNat < 16) : picks te (ix2 n (0 : Fin 1)) = te (ix1 n) := by
  have h0 : IntOp.cmpi .slt (te (ix1 n)) 0#32 = 0#1 := by
    rw [WordCmp.cmpi_slt_of_lt (by norm_num; omega) (by norm_num)]
    simp
  pointwise [picks]
  rw [h0]
  rfl

theorem weights_at (w : FVec Ideal S2x8x2048x4096 .f32) (te : IVec S40 32) (n : Fin 40) (k : Fin 2048) (f : Fin 4096) (h : (te (ix1 n)).toNat < 16) :
    weights w te (ix3 n k f) = shapeCast S16x2048x4096 w shapeCasts_S2x8x2048x4096_S16x2048x4096 (ix3 ⟨(te (ix1 n)).toNat, h⟩ k f) := by
  have hp := picks_at te n h
  unfold weights
  generalize shapeCast S16x2048x4096 w shapeCasts_S2x8x2048x4096_S16x2048x4096 = W
  generalize picks te = p at hp ⊢
  unfold Host.gather
  congr 1
  funext a
  refine Fin.ext ?_
  have h1 : a = 0 ∨ a = 1 ∨ a = 2 := by
    match a with
    | ⟨0, _⟩ => exact Or.inl rfl
    | ⟨1, _⟩ => exact Or.inr (Or.inl rfl)
    | ⟨2, _⟩ => exact Or.inr (Or.inr rfl)
  show GatherDims.start gather_S16x2048x4096_S40x1_S40x2048x4096_12_0_n_n_0_1_120484096 (ix3 n k f) p a
    + GatherDims.batchCoord gather_S16x2048x4096_S40x1_S40x2048x4096_12_0_n_n_0_1_120484096 (ix3 n k f) a
    + GatherDims.offCoord gather_S16x2048x4096_S40x1_S40x2048x4096_12_0_n_n_0_1_120484096 (ix3 n k f) a = _
  rw [GatherDims.batchCoord_eq_zero _ _ _ (show a ∉ ([] : List (Fin 3)) from List.not_mem_nil), Nat.add_zero]
  rcases h1 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S16x2048x4096_S40x1_S40x2048x4096_12_0_n_n_0_1_120484096.startIndexMap from List.mem_singleton.mpr rfl)]
    have hsi : GatherDims.siIdx gather_S16x2048x4096_S40x1_S40x2048x4096_12_0_n_n_0_1_120484096 (ix3 n k f) ⟨List.idxOf (0 : Fin 3) [0],
        List.idxOf_lt_length_iff.2 (List.mem_singleton.mpr rfl)⟩ = ix2 n (0 : Fin 1) := by
      funext b; refine Fin.ext ?_
      match b with
      | ⟨0, _⟩ => rfl
      | ⟨1, _⟩ => rfl
    refine (congrArg (fun z => min z.toInt.toNat 15) ((congrArg p hsi).trans hp)).trans ?_
    show min (te (ix1 n)).toInt.toNat 15 = (te (ix1 n)).toNat
    rw [BitVec.toInt_eq_toNat_of_lt (by omega)]
    omega
  · unfold GatherDims.start
    rw [dif_neg (show (1 : Fin 3) ∉ gather_S16x2048x4096_S40x1_S40x2048x4096_12_0_n_n_0_1_120484096.startIndexMap by decide), Nat.zero_add]
    rfl
  · unfold GatherDims.start
    rw [dif_neg (show (2 : Fin 3) ∉ gather_S16x2048x4096_S40x1_S40x2048x4096_12_0_n_n_0_1_120484096.startIndexMap by decide), Nat.zero_add]
    rfl

theorem prods_at (x : FVec Ideal S20480x2048 .f32) (w : FVec Ideal S40x2048x4096 .f32) (n : Fin 40) (i : Fin 512) (f : Fin 4096) :
    prods x w (ix3 n i f) = ∑ k : Fin 2048, x (ix2 ⟨n * 512 + i, by omega⟩ k) * w (ix3 n k f) := by
  pointwise [prods]

theorem logistic_at (g : FVec Ideal S40x512x4096 .f32) (y : S40x512x4096.Idx) : logistic g y = Ideal.div 1 (1 + Ideal.exp (-(g y))) := by
  obtain ⟨n, i, f, rfl⟩ : ∃ n i f, y = ix3 (n0 := 40) (n1 := 512) (n2 := 4096) n i f := ⟨y 0, y 1, y 2, eq_ix3 (n0 := 40) (n1 := 512) (n2 := 4096) y⟩
  pointwise [logistic]

theorem valid_at (vr : IVec S40 32) (n : Fin 40) (i : Fin 512) (h : (vr (ix1 n)).toNat ≤ 512) :
    valid vr (ix3 n i (0 : Fin 1)) = if (i : ℕ) < (vr (ix1 n)).toNat then 1#1 else 0#1 := by
  pointwise [valid]
  have hi : (BitVec.ofNat 32 (i : ℕ)).toNat = i := by rw [BitVec.toNat_ofNat]; omega
  rw [WordCmp.cmpi_slt_of_lt (by rw [hi]; norm_num; omega) (by norm_num; omega), hi]
  by_cases hc : (i : ℕ) < (vr (ix1 n)).toNat
  · rw [if_pos hc, decide_eq_true hc]; rfl
  · rw [if_neg hc, decide_eq_false hc]; rfl

theorem result_at (x : FVec Ideal S20480x2048 .f32) (te vr : IVec S40 32) (wg wu : FVec Ideal S2x8x2048x4096 .f32)
    (n : Fin 40) (i : Fin 512) (f : Fin 4096) (h : (te (ix1 n)).toNat < 16) (hv : (vr (ix1 n)).toNat ≤ 512) :
    result x te vr wg wu (ix2 ⟨n * 512 + i, by omega⟩ f) = cell (vr (ix1 n)).toNat i (fun k => x (ix2 ⟨n * 512 + i, by omega⟩ k))
      (fun k => shapeCast S16x2048x4096 wg shapeCasts_S2x8x2048x4096_S16x2048x4096 (ix3 ⟨(te (ix1 n)).toNat, h⟩ k f))
      (fun k => shapeCast S16x2048x4096 wu shapeCasts_S2x8x2048x4096_S16x2048x4096 (ix3 ⟨(te (ix1 n)).toNat, h⟩ k f)) := by
  have e : ∀ w, prods x (weights w te) (ix3 n i f) = ∑ k : Fin 2048, x (ix2 ⟨n * 512 + i, by omega⟩ k)
      * shapeCast S16x2048x4096 w shapeCasts_S2x8x2048x4096_S16x2048x4096 (ix3 ⟨(te (ix1 n)).toNat, h⟩ k f) := fun w =>
    (prods_at _ _ _ _ _).trans (Finset.sum_congr rfl fun k _ => by rw [weights_at w te n k f h])
  unfold result cell
  rw [← e wg, ← e wu, ← glu_eq]
  generalize prods x (weights wg te) = g
  generalize prods x (weights wu te) = u
  rw [← logistic_at g (ix3 n i f)]
  have hl := valid_at vr n i hv
  pointwise [gated]
  rw [hl]
  by_cases hc : (i : ℕ) < (vr (ix1 n)).toNat
  · rw [if_pos hc, if_pos hc]; rfl
  · rw [if_neg hc, if_neg hc]; exact bits_zero

end Cert.Up.Ref

end
-- ==== Proof.Up.Pre.lean ====
/-
The preconditions, a word at a time: an expert from zero to fifteen, and a number of valid rows that is a multiple of 64
up to 512.
-/
module

public import proofs.«01_k».proof.Proof.Up.Body
public import Idealize.ShloMosaic.Lib.WordCmp

@[expose] public section

noncomputable section

namespace Cert.Up

open Idealize.ShloMosaic

theorem ofBool_one {p : Prop} [Decidable p] (h : BitVec.ofBool (decide p) = 1#1) : p := by
  by_contra hp
  rw [decide_eq_false hp] at h
  exact absurd h (by decide)

theorem expert_word (w : BitVec 32) (h0 : IntOp.cmpi .sge w 0#32 = 1#1) (h1 : IntOp.cmpi .slt w 16#32 = 1#1) : w.toNat < 16 := by
  rw [WordCmp.cmpi_sge_eq] at h0
  rw [WordCmp.cmpi_slt_eq] at h1
  have a0 := ofBool_one h0
  have a1 := ofBool_one h1
  have := w.isLt
  rw [show (0#32 : BitVec 32).toInt = 0 from rfl, BitVec.toInt_eq_toNat_cond] at a0
  rw [show (16#32 : BitVec 32).toInt = 16 from rfl, BitVec.toInt_eq_toNat_cond] at a1
  split at a0 <;> omega

theorem rows_legal (w : BitVec 32) (h0 : IntOp.cmpi .sge w 0#32 = 1#1) (h1 : IntOp.cmpi .sle w 512#32 = 1#1)
    (h2 : IntOp.cmpi .eq (IntOp.andi w 63#32) 0#32 = 1#1) : Legal w := by
  rw [WordCmp.cmpi_sge_eq] at h0
  rw [WordCmp.cmpi_sle_eq] at h1
  have a0 := ofBool_one h0
  have a1 := ofBool_one h1
  have a2 : w &&& 63#32 = 0#32 := ofBool_one (p := w &&& 63#32 = 0#32) (by rw [← h2]; exact congrArg BitVec.ofBool (by first | rfl | simp [IntOp.andi]))
  have := w.isLt
  rw [show (0#32 : BitVec 32).toInt = 0 from rfl, BitVec.toInt_eq_toNat_cond] at a0
  rw [show (512#32 : BitVec 32).toInt = 512 from rfl, BitVec.toInt_eq_toNat_cond] at a1
  have hn : w.toNat ≤ 512 := by split at a0 <;> omega
  have a3 : w.toNat % 64 = 0 := by
    have := congrArg BitVec.toNat a2
    rw [BitVec.toNat_and] at this
    rw [← Nat.and_two_pow_sub_one_eq_mod w.toNat 6]
    exact this
  obtain ⟨q, hq⟩ : ∃ q, w.toNat = 64 * q := ⟨w.toNat / 64, by omega⟩
  have hw : w = BitVec.ofNat 32 (64 * q) := by rw [← hq, BitVec.ofNat_toNat, BitVec.setWidth_eq]
  have hq8 : q ≤ 8 := by omega
  rw [hw]
  unfold Legal
  have hq9 : q = 0 ∨ q = 1 ∨ q = 2 ∨ q = 3 ∨ q = 4 ∨ q = 5 ∨ q = 6 ∨ q = 7 ∨ q = 8 := by omega
  rcases hq9 with rfl | rfl | rfl | rfl | rfl | rfl | rfl | rfl | rfl <;> decide

theorem legal_le {n : BitVec 32} (h : Legal n) : n.toNat ≤ 512 := by
  unfold Legal at h
  rcases h with rfl | rfl | rfl | rfl | rfl | rfl | rfl | rfl | rfl <;> decide

end Cert.Up

end
-- ==== Proof.Up.Bits.lean ====
/-
The gate and up projections' kernel is printed twice, once to be read at machine floats and once at the extended reals.
The two printings are one program, over any floats: the same body at every grid point, and the same steps on the host.
-/
module

public import proofs.«01_k».proof.Proof.Gen.Kernel2
public import proofs.«01_k».proof.Proof.Gen.Kernel2.Skeleton
public import proofs.«01_k».proof.Proof.Gen.Kernel2Ideal
public import proofs.«01_k».proof.Proof.Gen.Kernel2Ideal.Skeleton

@[expose] public section

noncomputable section

namespace Cert.Up.Same

open Idealize.ShloMosaic Idealize.ShloMosaic.TcCoe Idealize.SL.Sem

variable {F : FTy → Type} [FloatOps F]

local instance : Cert.Kernel2.Facts := Cert.Kernel2.Gen.facts
local instance : Cert.Kernel2Ideal.Facts := Cert.Kernel2Ideal.Gen.facts

/-- The bodies the two programs name are the same. -/
theorem bodies : Cert.Kernel2.defs₀ (F := F) = Cert.Kernel2Ideal.defs₀ (F := F) := by
  unfold Cert.Kernel2.defs₀ Cert.Kernel2Ideal.defs₀
  refine congrArg Defs.onTc ?_
  funext l x
  match l, x with
  | 0, (t, s) => rfl
  | ⟨_ + 1, h⟩, _ => exact absurd h (Nat.not_lt.2 (Nat.le_add_left _ _))

theorem tables : Cert.Kernel2.defs (F := F) = Cert.Kernel2Ideal.defs (F := F) :=
  congrArg (Pipeline.defs Cert.Kernel2Ideal.pcfgs) bodies

/-- The running sum over the tiles, in its inner function and in its outer one. -/
theorem sum_inner (a : StableHlo.TRef Cert.Kernel2.sig ⟨Cert.Kernel2.S40, .i32⟩) :
    @Cert.Kernel2.fn_cumsum_0.body F _ _ a Cert.Kernel2.main_call0_call0
      = @Cert.Kernel2Ideal.fn_cumsum_0.body F _ _ a Cert.Kernel2Ideal.main_call0_call0 := rfl

theorem sum_outer (a : StableHlo.TRef Cert.Kernel2.sig ⟨Cert.Kernel2.S40, .i32⟩) :
    @Cert.Kernel2.fn_cumsum.body F _ _ a Cert.Kernel2.main_call0
      = @Cert.Kernel2Ideal.fn_cumsum.body F _ _ a Cert.Kernel2Ideal.main_call0 := by
  unfold Cert.Kernel2.fn_cumsum.body Cert.Kernel2Ideal.fn_cumsum.body
  exact congrArg (fun p => p >>= fun _ => pure PUnit.unit) (sum_inner a)

set_option maxHeartbeats 4000000 in
/-- The host's steps are the same, the running sum among them. -/
theorem hosts : Cert.Kernel2.main (F := F) = Cert.Kernel2Ideal.main (F := F) := by
  funext d
  unfold Cert.Kernel2.main Cert.Kernel2Ideal.main
  rw [sum_outer]
  rfl

end Cert.Up.Same

end

end
-- ==== Proof.Wide.Entry.lean ====
/- The expert up-projection's launch: what the buffers hold when its region is entered, the prefetched
   tables read off them, and the region reached from @main. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Wide

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

/-- All host operations before the region, in order. -/
abbrev hostAll : List (HloOp τ sig (Elt F)) := [hostOps0, hostOps0_1, hostOps0_2].flatten

/-- What core `c`'s buffers hold when the region is entered. -/
abbrev V (c : Dev nD) (b : Ref sig .tc) : Buf (Elt F) ((c : Thread nD τ).loc b) :=
  StableHlo.after hostAll (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

set_option maxHeartbeats 800000 in
/-- @main is the three host stretches, then the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

/-- The five tables as the region finds them. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl

abbrev adm : (pcfg0 (F := F)).Adm := ⟨tbl m, trivial⟩
abbrev cfgM : Pipeline.Cfg sig Λ₀ := cfg0 (adm m)

abbrev T0 : Memref sig .tc .smem S44 .i32 := Memref.whole main_arg2
abbrev T1 : Memref sig .tc .smem S44 .i32 := Memref.whole main_v7
abbrev T2 : Memref sig .tc .smem S44 .i32 := Memref.whole main_v10
abbrev T3 : Memref sig .tc .smem S44 .i32 := Memref.whole main_v18
abbrev T4 : Memref sig .tc .smem S1 .i32 := Memref.whole main_v21
abbrev WG : Memref sig .tc .hbm S16x2048x4096 .f32 := Memref.whole main_v0
abbrev WU : Memref sig .tc .hbm S16x2048x4096 .f32 := Memref.whole main_v1
abbrev SG : Memref sig .tc .vmem S2048x1024 .f32 := Memref.whole cc0_scratch0
abbrev SU : Memref sig .tc .vmem S2048x1024 .f32 := Memref.whole cc0_scratch1
abbrev BG : Memref sig .tc .vmem S2048x1024 .bf16 := Memref.whole cc0_scratch2
abbrev BU : Memref sig .tc .vmem S2048x1024 .bf16 := Memref.whole cc0_scratch3

/-- A whole memref's buffer on core `c`, its contents' type and the buffer held at a share. -/
abbrev MBuf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : MBuf (F := F) c M) : sProp 𝕄 :=
  M.view.loc (c : Thread nD τ) ↦{q} f

/-- The tables' halves the region hands the body, table by table. -/
theorem PhiT_eq (c : Dev nD) : (Pipeline.ΦT pre0 (tbl m) c : sProp 𝕄)
    = iprop(pt c T0 fullShare.right (tbl m 0) ∗ pt c T1 fullShare.right (tbl m 1) ∗ pt c T2 fullShare.right (tbl m 2)
        ∗ pt c T3 fullShare.right (tbl m 3) ∗ pt c T4 fullShare.right (tbl m 4)) := by
  unfold Pipeline.ΦT Pipeline.prefHeld
  rw [show (Finset.univ : Finset (Fin 5)) = insert 0 (insert 1 (insert 2 (insert 3 {4}))) from by decide,
    bigSep_insert (by decide), bigSep_insert (by decide), bigSep_insert (by decide), bigSep_insert (by decide), bigSep_singleton]
  rfl

/-- The two cells of the body's own transfers. -/
abbrev osem : Fin 2 → SemLoc sig := fun | 0 => .dma ⟨4, by decide⟩ | 1 => .dma ⟨5, by decide⟩
theorem ownSemFacts : Pipeline.OwnSemFacts spec0 osem := by decide

/-- The stacked weights, held by the body through the region. -/
abbrev HW : Finset (Ref sig .tc) := {main_v0, main_v1}
theorem HW_sub : HW ⊆ Pipeline.restRefsP sig pre0 spec0 := by decide

end Cert.Wide

end
-- ==== Proof.Wide.Sched.lean ====
/-
The schedule the routing gives the expert products: which tile opens a group of equal experts, the
number of a tile's group, and the expert of each group.
-/
module

public import proofs.«01_k».proof.Proof.Wide.Entry
public import Idealize.ShloMosaic.Lib.Routing.Ops
public import Idealize.ShloMosaic.Lib.Routing.OpsOne
public import Idealize.ShloMosaic.Lib.Routing.OpsOrder
public import Idealize.ShloMosaic.Lib.Routing.OpsPair
public import Idealize.ShloMosaic.Lib.Pipeline.ValueKit
public import Idealize.ShloMosaic.Lib.Pointwise

@[expose] public section

set_option maxRecDepth 16384

noncomputable section

namespace Cert.Wide

open Cert.Kernel3Ideal Cert.Kernel3Ideal.Gen
open Idealize.ShloMosaic Idealize.ShloMosaic.TcCoe Idealize.ShloMosaic.Routing Idealize.SL.Sem

/-! ## In numbers -/

/-- Whether tile `n` opens a group. -/
def opens (te : ℕ → BitVec 32) : ℕ → Bool
  | 0 => true
  | n + 1 => decide (te (n + 1) ≠ te n)

/-- The number of the group tile `n` is in. -/
def grp (te : ℕ → BitVec 32) : ℕ → ℕ
  | 0 => 0
  | n + 1 => grp te n + (opens te (n + 1)).toNat

theorem grp_le (te : ℕ → BitVec 32) (n : ℕ) : grp te n ≤ n := by
  induction n with
  | zero => exact le_refl _
  | succ n ih =>
    have := Bool.toNat_le (opens te (n + 1))
    show grp te n + (opens te (n + 1)).toNat ≤ n + 1
    omega

theorem grp_mono (te : ℕ → BitVec 32) {a b : ℕ} (h : a ≤ b) : grp te a ≤ grp te b := by
  induction h with
  | refl => exact le_refl _
  | step _ ih => exact ih.trans (Nat.le_add_right _ _)

/-- Tiles of one group have one expert. -/
theorem te_of_grp_le (te : ℕ → BitVec 32) (a d : ℕ) (e : grp te (a + d) = grp te a) : te (a + d) = te a := by
  induction d with
  | zero => rfl
  | succ d ih =>
    have h1 : grp te (a + d) ≤ grp te (a + d) + (opens te (a + d + 1)).toNat := Nat.le_add_right _ _
    have h2 : grp te (a + (d + 1)) = grp te (a + d) + (opens te (a + d + 1)).toNat := rfl
    have h3 : grp te a ≤ grp te (a + d) := grp_mono te (Nat.le_add_right _ _)
    have h4 : (opens te (a + d + 1)).toNat = 0 := by omega
    have h5 : grp te (a + d) = grp te a := by omega
    have h6 : opens te (a + d + 1) = false := by
      cases h : opens te (a + d + 1) with
      | false => rfl
      | true => rw [h] at h4; cases h4
    have h7 : te (a + d + 1) = te (a + d) := by
      have := of_decide_eq_false h6
      exact not_not.1 this
    exact h7.trans (ih h5)

theorem te_of_grp (te : ℕ → BitVec 32) {a b : ℕ} (e : grp te a = grp te b) : te a = te b := by
  rcases Nat.le_total a b with h | h
  · obtain ⟨d, rfl⟩ := Nat.exists_eq_add_of_le h; exact (te_of_grp_le te a d e.symm).symm
  · obtain ⟨d, rfl⟩ := Nat.exists_eq_add_of_le h; exact te_of_grp_le te b d e

/-- A prefix sum of the openings is one more than the group's number. -/
theorem sum_opens (te : ℕ → BitVec 32) (n : ℕ) : ((List.range (n + 1)).map fun k => (opens te k).toNat).sum = grp te n + 1 := by
  induction n with
  | zero => rfl
  | succ n ih =>
    rw [List.range_succ, List.map_append, List.sum_append, ih]
    show grp te n + 1 + ((opens te (n + 1)).toNat + 0) = grp te n + (opens te (n + 1)).toNat + 1
    omega

/-- A fold that only ever meets one value, and meets it, ends in that value. -/
theorem foldl_meets {α β : Type} (f : β → β → β) (p : α → Prop) [DecidablePred p] (u : α → β) (z v : β) (hzv : f z v = v) (hvv : f v v = v)
    (L : List α) (hu : ∀ n ∈ L, p n → u n = v) :
    (L.foldl (fun a n => if p n then f a (u n) else a) v = v)
      ∧ ((∃ n ∈ L, p n) → L.foldl (fun a n => if p n then f a (u n) else a) z = v) := by
  induction L with
  | nil => exact ⟨rfl, fun ⟨_, h, _⟩ => absurd h List.not_mem_nil⟩
  | cons x L ih =>
    obtain ⟨i1, i2⟩ := ih fun n hn => hu n (List.mem_cons_of_mem _ hn)
    simp only [List.foldl_cons]
    by_cases hp : p x
    · simp only [if_pos hp, hu x List.mem_cons_self hp, hzv, hvv]
      exact ⟨i1, fun _ => i1⟩
    · simp only [if_neg hp]
      refine ⟨i1, fun ⟨n, hn, hq⟩ => i2 ⟨n, ?_, hq⟩⟩
      rcases List.mem_cons.1 hn with rfl | h
      · exact absurd hq hp
      · exact h

/-! ## As the host computes it -/

variable {F : FTy → Type} [FloatOps F]
variable (m : (ℓ : Loc nD τ sig) → Buf (Elt F) ℓ)

/-- Where a group opens, as an array of words. -/
def firstOf (a : IVec S44 32) : IVec S44 32 :=
  concatenate S44 0 [⟨S1, broadcastInDim S1 ![] bcast_S_S1 (constantI S_ 32 1#32)⟩,
    ⟨S43, extui 32 (cmpi .ne (extractStridedSlice S43 ![1] a slices_S44_S43_1) (extractStridedSlice S43 ![0] a slices_S44_S43_0)) natLt_1_32⟩] concatenates_S1_S43_S44_d0

/-- The groups' numbers, as an array of words. -/
def gidOf (f : IVec S44 32) : IVec S44 32 :=
  subi (Host.reduceWindow IntOp.addi ![44] ![1] ![43] ![0] f (broadcastInDim S_ ![] bcast_S_S_ (constantI S_ 32 0#32)) reduceWindows_S44_S44_w44s1p43_0 h_S_)
    (broadcastInDim S44 ![] bcast_S_S44 (constantI S_ 32 1#32))

/-- The groups' experts, as an array of words. -/
def geOf (g a : IVec S44 32) : IVec S44 32 :=
  Host.scatter scatter_S44_S44x1_S44_n_0_0_1 IntOp.maxsi (broadcastInDim S44 ![] bcast_S_S44 (constantI S_ 32 0#32))
    (broadcastInDim S44x1 ![0] bcast_S44_S44x1_0 (select (cmpi .slt g (broadcastInDim S44 ![] bcast_S_S44 (constantI S_ 32 0#32)))
      (addi g (broadcastInDim S44 ![] bcast_S_S44 (constantI S_ 32 44#32))) g)) a

/-- The number of groups, as an array of one word. -/
def ngOf (g : IVec S44 32) : IVec S1 32 :=
  addi (extractStridedSlice S1 ![43] g slices_S44_S1_43) (broadcastInDim S1 ![] bcast_S_S1 (constantI S_ 32 1#32))

set_option maxHeartbeats 1000000 in
theorem entry_first (c : Dev nD) : V m c main_v7 = firstOf (m ((c : Thread nD τ).loc main_arg1)) := by
  show StableHlo.after hostAll _ _ = _
  simp only [hostAll, hostOps0, hostOps0_1, hostOps0_2, List.flatten_cons, List.flatten_nil, List.append_nil, List.cons_append, List.nil_append]
  after_results
  unfold firstOf
  rfl

set_option maxHeartbeats 1000000 in
theorem entry_gid (c : Dev nD) : V m c main_v10 = gidOf (firstOf (m ((c : Thread nD τ).loc main_arg1))) := by
  show StableHlo.after hostAll _ _ = _
  simp only [hostAll, hostOps0, hostOps0_1, hostOps0_2, List.flatten_cons, List.flatten_nil, List.append_nil, List.cons_append, List.nil_append]
  after_results
  simp only [StableHlo.TRef.ofBuf, StableHlo.TRef.toBuf, cast_eq, cast_cast]
  unfold gidOf firstOf
  rfl

set_option maxHeartbeats 1000000 in
theorem entry_ge (c : Dev nD) : V m c main_v18 = geOf (gidOf (firstOf (m ((c : Thread nD τ).loc main_arg1)))) (m ((c : Thread nD τ).loc main_arg1)) := by
  show StableHlo.after hostAll _ _ = _
  simp only [hostAll, hostOps0, hostOps0_1, hostOps0_2, List.flatten_cons, List.flatten_nil, List.append_nil, List.cons_append, List.nil_append]
  after_results
  simp only [StableHlo.TRef.ofBuf, StableHlo.TRef.toBuf, cast_eq, cast_cast]
  unfold geOf gidOf firstOf
  rfl

set_option maxHeartbeats 1000000 in
theorem entry_ng (c : Dev nD) : V m c main_v21 = ngOf (gidOf (firstOf (m ((c : Thread nD τ).loc main_arg1)))) := by
  show StableHlo.after hostAll _ _ = _
  simp only [hostAll, hostOps0, hostOps0_1, hostOps0_2, List.flatten_cons, List.flatten_nil, List.append_nil, List.cons_append, List.nil_append]
  after_results
  simp only [StableHlo.TRef.ofBuf, StableHlo.TRef.toBuf, cast_eq, cast_cast]
  unfold ngOf gidOf firstOf
  rfl

end Cert.Wide

end
-- ==== Proof.Wide.Tables.lean ====
/-
The tables the routing is turned into, word by word: what the kernel loads from them is the schedule.
-/
module

public import proofs.«01_k».proof.Proof.Wide.Sched

@[expose] public section

set_option maxRecDepth 16384

noncomputable section

namespace Cert.Wide

open Cert.Kernel3Ideal Cert.Kernel3Ideal.Gen
open Idealize.ShloMosaic Idealize.ShloMosaic.TcCoe Idealize.ShloMosaic.Routing Idealize.SL.Sem

/-- A vector of words as a function of numbers. -/
def wordAt (a : IVec S44 32) (n : ℕ) : BitVec 32 := if h : n < 44 then a (ix1 ⟨n, h⟩) else 0#32

theorem first_at (a : IVec S44 32) (n : Fin 44) : firstOf a (ix1 n) = BitVec.ofNat 32 (opens (wordAt a) n).toNat := by
  rcases n with ⟨n, hn⟩
  cases n with
  | zero =>
    unfold firstOf
    pointwise
    rfl
  | succ n =>
    unfold firstOf
    pointwise
    rw [dif_neg (by omega)]
    have e1 : wordAt a (n + 1) = a (ix1 ⟨1 + (n + 1 - 1), by omega⟩) := (dif_pos hn).trans (congrArg (fun k => a (ix1 k)) (Fin.ext (by show n + 1 = 1 + (n + 1 - 1); omega)))
    have e2 : wordAt a n = a (ix1 ⟨n + 1 - 1, by omega⟩) := dif_pos (by omega)
    show _ = BitVec.ofNat 32 (decide (wordAt a (n + 1) ≠ wordAt a n)).toNat
    rw [e1, e2]
    generalize a (ix1 ⟨1 + (n + 1 - 1), _⟩) = u
    generalize a (ix1 ⟨n + 1 - 1, _⟩) = v
    by_cases e : u = v
    · subst e; simp [IntOp.cmpi]
    · have h1 : (u != v) = true := bne_iff_ne.2 e
      simp [IntOp.cmpi, e, h1]

theorem gid_at (a : IVec S44 32) (n : Fin 44) : gidOf (firstOf a) (ix1 n) = BitVec.ofNat 32 (grp (wordAt a) n) := by
  have h := cumsum1 (N := 44) (Nm1 := 43) rfl (firstOf a) (fun k => (opens (wordAt a) k).toNat) (first_at a)
    (broadcastInDim S_ ![] bcast_S_S_ (constantI S_ 32 0#32)) rfl reduceWindows_S44_S44_w44s1p43_0 h_S_ n
  show IntOp.subi (Host.reduceWindow IntOp.addi ![44] ![1] ![43] ![0] (firstOf a) _ reduceWindows_S44_S44_w44s1p43_0 h_S_ (ix1 n)) 1#32 = _
  refine (congrArg (fun w => IntOp.subi w 1#32) (h.trans (congrArg (BitVec.ofNat 32) (sum_opens _ _)))).trans ?_
  show BitVec.ofNat 32 (grp (wordAt a) n + 1) - 1#32 = _
  rw [BitVec.ofNat_add, BitVec.add_sub_cancel]

theorem ng_at (a : IVec S44 32) (x : S1.Idx) : ngOf (gidOf (firstOf a)) x = BitVec.ofNat 32 (grp (wordAt a) 43 + 1) := by
  have h := gid_at a 43
  have e : ngOf (gidOf (firstOf a)) x = gidOf (firstOf a) (ix1 43) + 1#32 := by
    unfold ngOf
    pointwise
    rfl
  rw [e, h, BitVec.ofNat_add]; rfl

theorem maxsi_zero (v : BitVec 32) (h : v.toNat < 16) : IntOp.maxsi 0#32 v = v := by
  unfold IntOp.maxsi
  have e : v = BitVec.ofNat 32 v.toNat := BitVec.eq_of_toNat_eq (by rw [BitVec.toNat_ofNat]; omega)
  rw [e]
  generalize v.toNat = k at h
  interval_cases k <;> rfl

theorem maxsi_self (v : BitVec 32) : IntOp.maxsi v v = v := by
  unfold IntOp.maxsi; simp

theorem ge_lt (a : IVec S44 32) (ha : ∀ i, (a i).toNat < 16) (g : IVec S44 32) (i : S44.Idx) : (geOf g a i).toNat < 16 := by
  unfold geOf
  refine scatter_forall _ IntOp.maxsi (fun v => v.toNat < 16) (fun u v hu hv => ?_) _ _ _ (fun _ => by show (0#32).toNat < 16; decide) ha i
  show (IntOp.maxsi u v).toNat < 16
  unfold IntOp.maxsi
  split <;> assumption

theorem ge_at (a : IVec S44 32) (ha : ∀ i, (a i).toNat < 16) (n : Fin 44) (x : Fin 44) (hx : grp (wordAt a) n = x) :
    geOf (gidOf (firstOf a)) a (ix1 x) = a (ix1 n) := by
  have hidx : ∀ k : Fin 44, (broadcastInDim S44x1 ![0] bcast_S44_S44x1_0 (select (cmpi .slt (gidOf (firstOf a)) (broadcastInDim S44 ![] bcast_S_S44 (constantI S_ 32 0#32)))
      (addi (gidOf (firstOf a)) (broadcastInDim S44 ![] bcast_S_S44 (constantI S_ 32 44#32))) (gidOf (firstOf a)))) (ix2 k (0 : Fin 1)) = BitVec.ofNat 32 (grp (wordAt a) k) := by
    intro k
    pointwise
    rw [gid_at]
    have hk : grp (wordAt a) k < 44 := (grp_le (wordAt a) k).trans_lt k.isLt
    have hc : IntOp.cmpi CmpIPredicate.slt (BitVec.ofNat 32 (grp (wordAt a) k)) 0#32 = 0#1 := by
      generalize grp (wordAt a) k = g at hk
      interval_cases g <;> rfl
    rw [hc]; rfl
  have hl := fun k : Fin 44 => scatter_lands (N := 44) scatter_S44_S44x1_S44_n_0_0_1 rfl rfl rfl _ (grp (wordAt a)) hidx (fun k => by have := grp_le (wordAt a) k; omega) k x
  unfold geOf
  rw [scatter_at]
  refine (foldl_meets IntOp.maxsi _ _ _ (a (ix1 n)) (maxsi_zero _ (ha _)) (maxsi_self _) _ ?_).2 ?_
  · intro k _ hk
    rw [symm1] at hk ⊢
    have hg := (hl (k.cast (numel1 44))).1 hk
    have := te_of_grp (wordAt a) (hg.trans hx.symm)
    exact (dif_pos (k.cast (numel1 44)).isLt).symm.trans (this.trans (dif_pos n.isLt))
  · refine ⟨n.cast (numel1 44).symm, List.mem_finRange _, ?_⟩
    rw [symm1]
    exact (hl n).2 hx

end Cert.Wide

end
-- ==== Proof.Wide.Body.lean ====
/- The expert up-projection's body, run: what a grid point reads, computes, stores and leaves in flight. -/
module

public import proofs.«01_k».proof.Proof.Wide.Entry
public import proofs.«01_k».proof.Proof.Up.Body
public import Idealize.ShloMosaic.Lib.WholeRead
public import Idealize.ShloMosaic.Lib.WritesUnit

@[expose] public section

set_option maxRecDepth 16384

noncomputable section

namespace Cert.Wide

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

abbrev s4 : DmaSem sig := ⟨4, by decide⟩
abbrev s5 : DmaSem sig := ⟨5, by decide⟩

/-- A staging buffer held whole, at raw contents. -/
abbrev ptS (c : Dev nD) {sp : Space} {S : Shape} {e : EltTy} (M : Memref sig .tc sp S e) (f : MBuf (F := F) c M) : sProp 𝕄 :=
  M.view.loc (c : Thread nD τ) ↦[M.view.set]{fullShare} f

/-- One copy of a weight block in flight on `sem` to the staging buffer `S`, out of the stacked weights `M`. -/
abbrev flight (c : Dev nD) (sem : DmaSem sig) (S : Memref sig .tc .vmem S2048x1024 .f32) (M : Memref sig .tc .hbm S16x2048x4096 .f32)
    (g : MBuf (F := F) c S) (w : MBuf (F := F) c M) : sProp 𝕄 :=
  Transfers.Flight (countersEmb (U := Pipeline.UD sig nD τ)) (c : Thread nD τ) (.dma sem) () (S.view.amount (SemLoc.dma (sig := sig) sem))
    iprop(pt c S fullShare g ∗ pt c M fullShare w)

/-- The word a table of 44 holds where the kernel loads it from. -/
def rd (c : Dev nD) (M : Memref sig .tc .smem S44 .i32) (t : MBuf (F := F) c M) (off : Fin 1 → ℕ) (h : ∀ a, off a + S1.size a ≤ S44.size a) : BitVec 32 :=
  View.readAt (Elt F) M.view (Rect.unit (s := S44) off S1.size h).toLoadRect t (Shape.Idx.first (by show 0 < S1.numel; decide))
/-- The number of groups, as the kernel loads it. -/
def rdN (c : Dev nD) (t : MBuf (F := F) c T4) : BitVec 32 :=
  View.readAt (Elt F) T4.view (Rect.unit (s := S1) ![0] S1.size inb_S1_S1_0).toLoadRect t (Shape.Idx.first (by decide))

/-- The part of a block a rectangle names. -/
def part {s : Shape} {e : EltTy} (x : Vec F s e) (r : Rect s) : r.shape.Idx → Elt F e := fun y => x (r.toLoadRect.idx y)

/-- What a grid point whose valid-row word is `n` writes to its output block, last first: the gated products of its valid rows and
    zeros below them. -/
def outPieces (n : BitVec 32) (x : Vec F S512x2048 .f32) (a b : Vec F S2048x1024 .bf16) : List (View.Piece (Elt F) S512x1024 .bf16) :=
  Cert.Up.outPieces n x a b

abbrev BOut : Memref sig .tc .vmem S512x1024 .bf16 := spec0_1.stage 0

/-- The output block a grid point with valid-row word `n` leaves. -/
def outVal (n : BitVec 32) (x : Vec F S512x2048 .f32) (a b : Vec F S2048x1024 .bf16) : Vec F S512x1024 .bf16 :=
  BOut.view.read (Elt F) (BOut.view.writes (Elt F) BOut.view.junk (outPieces n x a b))

/-- The words the kernel counts valid rows by. -/
def Legal (n : BitVec 32) : Prop := n = 0#32 ∨ n = 64#32 ∨ n = 128#32 ∨ n = 192#32 ∨ n = 256#32 ∨ n = 320#32 ∨ n = 384#32 ∨ n = 448#32 ∨ n = 512#32

theorem Legal.cover {n : BitVec 32} (h : Legal n) (x : Vec F S512x2048 .f32) (a b : Vec F S2048x1024 .bf16) :
    ∀ y, ∃ p ∈ outPieces n x a b, y ∈ p.1.set := Cert.Up.Legal.cover h x a b

/-- The two staged weight blocks, bf16, as the body holds them. -/
abbrev wts (c : Dev nD) (a b : Vec F S2048x1024 .bf16) : sProp 𝕄 :=
  iprop(pt c BG fullShare ((Memref.isWhole_whole cc0_scratch2).unread a) ∗ pt c BU fullShare ((Memref.isWhole_whole cc0_scratch3).unread b))

/-- Reading a staged bf16 block whole is reading its contents. -/
theorem readAt_wts (M : Memref sig .tc .vmem S2048x1024 .bf16) (h : M.IsWhole) (a : Vec F S2048x1024 .bf16)
    (hb : ∀ k, (![0, 0] : Fin 2 → ℕ) k + S2048x1024.size k ≤ S2048x1024.size k) :
    View.readAt (Elt F) M.view (Rect.unit (s := S2048x1024) ![0, 0] S2048x1024.size hb).toLoadRect (h.unread a) = a := by
  funext y
  rw [h.readAt_unread]
  congr 1
  funext k
  refine Fin.ext ?_
  fin_cases k <;> simp [LoadRect.idx, Rect.unit, Rect.toLoadRect]

theorem readAt_part {S : Shape} {e : EltTy} (M : Memref sig .tc .vmem S e) (h : M.IsWhole) (x : Vec F S e) (r : Rect S) :
    View.readAt (Elt F) M.view r.toLoadRect (h.unread x) = part x r := funext fun y => h.readAt_unread x r.toLoadRect y

/-- The five tables' halves, as the body reads them. -/
abbrev tabs (c : Dev nD) (t0 : MBuf (F := F) c T0) (t1 : MBuf (F := F) c T1) (t2 : MBuf (F := F) c T2) (t3 : MBuf (F := F) c T3)
    (t4 : MBuf (F := F) c T4) : sProp 𝕄 :=
  iprop(pt c T0 fullShare.right t0 ∗ pt c T1 fullShare.right t1 ∗ pt c T2 fullShare.right t2 ∗ pt c T3 fullShare.right t3 ∗ pt c T4 fullShare.right t4)

/-- The output block a point leaves: determined by its valid-row word when that word is one the kernel counts by. -/
abbrev outAt (c : Dev nD) (M : Memref sig .tc .vmem S512x1024 .bf16) (n : BitVec 32) (x : Vec F S512x2048 .f32) (a b : Vec F S2048x1024 .bf16) : sProp 𝕄 :=
  iprop(∃ X, ⌜Legal n → X = outVal n x a b⌝ ∗ owns (c : Thread nD τ) M fullShare X)

theorem outAt_intro (c : Dev nD) (M : Memref sig .tc .vmem S512x1024 .bf16) (n : BitVec 32) (x : Vec F S512x2048 .f32) (a b : Vec F S2048x1024 .bf16)
    (f : MBuf (F := F) c M) (L : List (View.Piece (Elt F) S512x1024 .bf16)) (h : L = outPieces n x a b) :
    ptS c M (M.view.writes (Elt F) f L) ⊢ outAt c M n x a b := by
  subst h
  unfold outAt owns
  iintro H
  iexists _; isplitr
  swap
  · iexists _; isplitr
    swap; · iexact H
    ipureintro; rfl
  ipureintro
  intro hL
  exact View.read_writes_of_cover _ _ _ _ _ (hL.cover x a b)

/-- Which of the kernel's nine row conditions hold at a valid-row word, and the writes that go with them. -/
theorem condCases (n : BitVec 32) :
    (k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a b, outPieces (F := F) n x a b = [⟨Rect.unit (s := S512x1024) ![64, 0] S448x1024.size inb_S512x1024_S448x1024_64_0, k0_pay6⟩, ⟨Rect.unit (s := S512x1024) ![0, 0] S64x1024.size inb_S512x1024_S64x1024_0_0, k0_pay5 (part x (Rect.unit (s := S512x2048) ![0, 0] S64x2048.size inb_S512x2048_S64x2048_0_0)) a b⟩])
    ∨ (¬ k0_cond4 n = 1#1 ∧ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a b, outPieces (F := F) n x a b = [⟨Rect.unit (s := S512x1024) ![128, 0] S384x1024.size inb_S512x1024_S384x1024_128_0, k0_pay8⟩, ⟨Rect.unit (s := S512x1024) ![0, 0] S128x1024.size inb_S512x1024_S128x1024_0_0, k0_pay7 (part x (Rect.unit (s := S512x2048) ![0, 0] S128x2048.size inb_S512x2048_S128x2048_0_0)) a b⟩])
    ∨ (¬ k0_cond4 n = 1#1 ∧ ¬ k0_cond5 n = 1#1 ∧ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a b, outPieces (F := F) n x a b = [⟨Rect.unit (s := S512x1024) ![192, 0] S320x1024.size inb_S512x1024_S320x1024_192_0, k0_pay10⟩, ⟨Rect.unit (s := S512x1024) ![0, 0] S192x1024.size inb_S512x1024_S192x1024_0_0, k0_pay9 (part x (Rect.unit (s := S512x2048) ![0, 0] S192x2048.size inb_S512x2048_S192x2048_0_0)) a b⟩])
    ∨ (¬ k0_cond4 n = 1#1 ∧ ¬ k0_cond5 n = 1#1 ∧ ¬ k0_cond6 n = 1#1 ∧ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a b, outPieces (F := F) n x a b = [⟨Rect.unit (s := S512x1024) ![256, 0] S256x1024.size inb_S512x1024_S256x1024_256_0, k0_pay12⟩, ⟨Rect.unit (s := S512x1024) ![0, 0] S256x1024.size inb_S512x1024_S256x1024_0_0, k0_pay11 (part x (Rect.unit (s := S512x2048) ![0, 0] S256x2048.size inb_S512x2048_S256x2048_0_0)) a b⟩])
    ∨ (¬ k0_cond4 n = 1#1 ∧ ¬ k0_cond5 n = 1#1 ∧ ¬ k0_cond6 n = 1#1 ∧ ¬ k0_cond7 n = 1#1 ∧ k0_cond8 n = 1#1 ∧ ¬ k0_cond9 n = 1#1 ∧ ¬ k0_cond10 n = 1#1 ∧ ¬ k0_cond11 n = 1#1 ∧ ¬ k0_cond12 n = 1#1
      ∧ ∀ x a b, outPieces (F := F) n x a b = [⟨Rect.unit (s := S512x1024) ![320, 0] S192x1024.size inb_S512x1024_S192x1024_320_0, k0_pay14⟩, ⟨Rect.unit (s := S512x1024) ![0, 0] S320x1024.size inb_S512x1024_S320x1024_0_0, k0_pay13 (part x (Rect.unit (s := S512x2048) ![0, 0] S320x2048.size inb_S512x2048_S320x2048_0_0)) a b⟩])
    ∨ (¬ k0_cond4 n = 1#1 ∧ ¬ k0_cond5 n = 1#1 ∧ ¬ k0_cond6 n = 1#1 ∧ ¬ k0_cond7 n = 1#1 ∧ ¬ k0_cond8 n = 1#1 ∧ k0_cond9 n = 1#1 ∧ ¬ k0_cond10 n = 1#1 ∧ ¬ k0_cond11 n = 1#1 ∧ ¬ k0_cond12 n = 1#1
      ∧ ∀ x a b, outPieces (F := F) n x a b = [⟨Rect.unit (s := S512x1024) ![384, 0] S128x1024.size inb_S512x1024_S128x1024_384_0, k0_pay16⟩, ⟨Rect.unit (s := S512x1024) ![0, 0] S384x1024.size inb_S512x1024_S384x1024_0_0, k0_pay15 (part x (Rect.unit (s := S512x2048) ![0, 0] S384x2048.size inb_S512x2048_S384x2048_0_0)) a b⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ k0_cond10 n = 1#1 ∧ ¬ k0_cond11 n = 1#1 ∧ ¬ k0_cond12 n = 1#1
      ∧ ∀ x a b, outPieces (F := F) n x a b = [⟨Rect.unit (s := S512x1024) ![448, 0] S64x1024.size inb_S512x1024_S64x1024_448_0, k0_pay18⟩, ⟨Rect.unit (s := S512x1024) ![0, 0] S448x1024.size inb_S512x1024_S448x1024_0_0, k0_pay17 (part x (Rect.unit (s := S512x2048) ![0, 0] S448x2048.size inb_S512x2048_S448x2048_0_0)) a b⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ k0_cond11 n = 1#1 ∧ ¬ k0_cond12 n = 1#1
      ∧ ∀ x a b, outPieces (F := F) n x a b = [⟨Rect.unit (s := S512x1024) ![0, 0] S512x1024.size inb_S512x1024_S512x1024_0_0, k0_pay1 (part x (Rect.unit (s := S512x2048) ![0, 0] S512x2048.size inb_S512x2048_S512x2048_0_0)) a b⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ k0_cond12 n = 1#1
      ∧ ∀ x a b, outPieces (F := F) n x a b = [⟨Rect.unit (s := S512x1024) ![0, 0] S512x1024.size inb_S512x1024_S512x1024_0_0, k0_pay2⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a b, outPieces (F := F) n x a b = []) := Cert.Up.condCases n

/-- A store of the whole staged block leaves its payload. -/
theorem read_writes_wts {e : EltTy} (M : Memref sig .tc .vmem S2048x1024 e) (f : M.view.ty.Contents (Elt F))
    (hb : ∀ k, (![0, 0] : Fin 2 → ℕ) k + S2048x1024.size k ≤ S2048x1024.size k) (p : Vec F S2048x1024 e) (L : List (View.Piece (Elt F) S2048x1024 e)) :
    M.view.read (Elt F) (M.view.writes (Elt F) f (⟨Rect.unit (s := S2048x1024) ![0, 0] S2048x1024.size hb, p⟩ :: L)) = p := by
  funext y
  refine View.read_writes_cons_unit_of_mem M.view f hb p L y y rfl fun k => ?_
  fin_cases k <;> exact (Nat.zero_add _).symm

theorem pt_wts (c : Dev nD) (M : Memref sig .tc .vmem S2048x1024 .bf16) (hM : M.IsWhole) (f : MBuf (F := F) c M)
    (hb : ∀ k, (![0, 0] : Fin 2 → ℕ) k + S2048x1024.size k ≤ S2048x1024.size k) (p q : Vec F S2048x1024 .bf16) (h : p = q) :
    pt c M fullShare (M.view.writes (Elt F) f [⟨Rect.unit (s := S2048x1024) ![0, 0] S2048x1024.size hb, p⟩]) ⊢ pt c M fullShare (hM.unread q) := by
  subst h
  rw [← hM.eq_unread (read_writes_wts M f hb p [])]

/-- Reading a staged f32 block whole is reading its contents. -/
theorem readAt_stage (c : Dev nD) (M : Memref sig .tc .vmem S2048x1024 .f32) (g : MBuf (F := F) c M)
    (hb : ∀ k, (![0, 0] : Fin 2 → ℕ) k + S2048x1024.size k ≤ S2048x1024.size k) :
    View.readAt (Elt F) M.view (Rect.unit (s := S2048x1024) ![0, 0] S2048x1024.size hb).toLoadRect g = M.view.read (Elt F) g := by
  funext y
  show M.view.read (Elt F) g _ = M.view.read (Elt F) g y
  congr 1
  funext k
  refine Fin.ext ?_
  fin_cases k <;> simp [LoadRect.idx, Rect.unit, Rect.toLoadRect]

/-- The weight block at `off` of the stacked weights. -/
def blk (c : Dev nD) (M : Memref sig .tc .hbm S16x2048x4096 .f32) (w : MBuf (F := F) c M) (off : Fin 3 → ℕ)
    (h : ∀ a, off a + S1x2048x1024.size a ≤ S16x2048x4096.size a) : Vec F S2048x1024 .f32 :=
  ((M.slice (Rect.unit (s := S16x2048x4096) off S1x2048x1024.size h) (fun _ => rfl)).squeeze S2048x1024 squeezes_S1x2048x1024_S2048x1024).view.read (Elt F) w

/-- A flight out of part of an array, with the rest of the array: a flight that delivers the array whole. -/
theorem flight_whole (c : Dev nD) (sm : SemLoc sig) (N : ℕ) (D : sProp 𝕄) {ℓ : Loc nD τ sig} (I : Finset (Idx ℓ)) (w : Buf (Elt F) ℓ) :
    iprop(Transfers.Flight (countersEmb (U := Pipeline.UD sig nD τ)) (c : Thread nD τ) sm () N iprop(D ∗ ℓ ↦[I]{fullShare} w) ∗ ℓ ↦[Finset.univ \ I]{fullShare} w)
      ⊢ (Transfers.Flight (countersEmb (U := Pipeline.UD sig nD τ)) (c : Thread nD τ) sm () N iprop(D ∗ ℓ ↦{fullShare} w) : sProp 𝕄) := by
  unfold Transfers.Flight
  iintro ⟨⟨⟨%R, HR, %hcap, %hpeek⟩, Hcred⟩, Hrest⟩
  isplitr [Hcred]
  · iexists iprop(R ∗ ℓ ↦[Finset.univ \ I]{fullShare} w)
    isplitl [HR Hrest]; · isplitl [HR] <;> iassumption
    isplit
    · ipureintro
      intro K
      iintro ⟨⟨HR, Hrest⟩, HK⟩
      iapply (hcap K)
      isplitl [HR]; · iexact HR
      iintro ⟨Hv, HD, Hs⟩
      iapply HK
      isplitl [Hv]; · iexact Hv
      isplitl [HD]; · iexact HD
      iapply (pointsTo_split_subset (Finset.subset_univ I)).2
      isplitl [Hs] <;> iassumption
    · ipureintro
      intro K
      iintro ⟨⟨HR, Hrest⟩, HK⟩
      iapply (hpeek K)
      isplitl [HR]; · iexact HR
      iintro HR
      iapply HK
      isplitl [HR] <;> iassumption
  · iexact Hcred

theorem blk_congr (c : Dev nD) (M : Memref sig .tc .hbm S16x2048x4096 .f32) (w : MBuf (F := F) c M) {off off' : Fin 3 → ℕ} (e : off = off')
    (h : ∀ a, off a + S1x2048x1024.size a ≤ S16x2048x4096.size a) (h' : ∀ a, off' a + S1x2048x1024.size a ≤ S16x2048x4096.size a) :
    blk c M w off h = blk c M w off' h' := by
  subst e; rfl

end Cert.Wide

end
-- ==== Proof.Wide.Words.lean ====
/-
The kernel's words at a grid point: its conditions, offsets and side conditions, under the schedule.
-/
module

public import proofs.«01_k».proof.Proof.Wide.Tables
public import proofs.«01_k».proof.Proof.Wide.Body

@[expose] public section

set_option maxRecDepth 16384

noncomputable section

namespace Cert.Wide

open Cert.Kernel3Ideal Cert.Kernel3Ideal.Gen
open Idealize.ShloMosaic Idealize.ShloMosaic.TcCoe Idealize.ShloMosaic.Routing Idealize.SL.Sem

variable {F : FTy → Type} [FloatOps F]

theorem rd_T0 (c : Dev nD) (t : MBuf (F := F) c T0) (off : Fin 1 → ℕ) (h : ∀ a, off a + S1.size a ≤ S44.size a) :
    rd c T0 t off h = (t : IVec S44 32) (ix1 ⟨off 0, by have := h 0; change off 0 + 1 ≤ 44 at this; omega⟩) := by
  show (t : IVec S44 32) _ = _
  congr 1; funext k; fin_cases k; refine Fin.ext ?_; simp [ix1, LoadRect.idx, Rect.unit, Rect.toLoadRect]
theorem rd_T1 (c : Dev nD) (t : MBuf (F := F) c T1) (off : Fin 1 → ℕ) (h : ∀ a, off a + S1.size a ≤ S44.size a) :
    rd c T1 t off h = (t : IVec S44 32) (ix1 ⟨off 0, by have := h 0; change off 0 + 1 ≤ 44 at this; omega⟩) := by
  show (t : IVec S44 32) _ = _
  congr 1; funext k; fin_cases k; refine Fin.ext ?_; simp [ix1, LoadRect.idx, Rect.unit, Rect.toLoadRect]
theorem rd_T2 (c : Dev nD) (t : MBuf (F := F) c T2) (off : Fin 1 → ℕ) (h : ∀ a, off a + S1.size a ≤ S44.size a) :
    rd c T2 t off h = (t : IVec S44 32) (ix1 ⟨off 0, by have := h 0; change off 0 + 1 ≤ 44 at this; omega⟩) := by
  show (t : IVec S44 32) _ = _
  congr 1; funext k; fin_cases k; refine Fin.ext ?_; simp [ix1, LoadRect.idx, Rect.unit, Rect.toLoadRect]
theorem rd_T3 (c : Dev nD) (t : MBuf (F := F) c T3) (off : Fin 1 → ℕ) (h : ∀ a, off a + S1.size a ≤ S44.size a) :
    rd c T3 t off h = (t : IVec S44 32) (ix1 ⟨off 0, by have := h 0; change off 0 + 1 ≤ 44 at this; omega⟩) := by
  show (t : IVec S44 32) _ = _
  congr 1; funext k; fin_cases k; refine Fin.ext ?_; simp [ix1, LoadRect.idx, Rect.unit, Rect.toLoadRect]

/-- The tables' words are the schedule of the experts `te`. -/
structure Ok (c : Dev nD) (te : ℕ → BitVec 32) (t1 : MBuf (F := F) c T1) (t2 : MBuf (F := F) c T2) (t3 : MBuf (F := F) c T3) (t4 : MBuf (F := F) c T4) : Prop where
  lt : ∀ n, (te n).toNat < 16
  f1 : ∀ off h, rd c T1 t1 off h = BitVec.ofNat 32 (opens te (off 0)).toNat
  f2 : ∀ off h, rd c T2 t2 off h = BitVec.ofNat 32 (grp te (off 0))
  f3lt : ∀ off h, (rd c T3 t3 off h).toNat < 16
  f3 : ∀ off h n, n < 44 → off 0 = grp te n → rd c T3 t3 off h = te n
  f4 : rdN c t4 = BitVec.ofNat 32 (grp te 43 + 1)

/-! ## The words -/

theorem off1_eq (i : grid0.Coords) : k0_off1 i 0 = (i 1).val := by
  have h : (i 1).val < 44 := (i 1).isLt
  show (BitVec.ofNat 32 (i 1).val).toNat = _
  rw [BitVec.toNat_ofNat]; omega
theorem off7_eq (i : grid0.Coords) : k0_off7 i 0 = (i 1).val := off1_eq i

theorem cond1_iff (b : Bool) : k0_cond1 (BitVec.ofNat 32 b.toNat) = 1#1 ↔ b = true := by
  cases b <;> decide

/-- Whether the group after `g` of `N` is one of the same column. -/
theorem sge_word : ∀ g : Fin 44, ∀ N : Fin 45, Scalar.cmpi .sge (Scalar.addi (BitVec.ofNat 32 g) 1#32) (BitVec.ofNat 32 N) = BitVec.ofBool (decide (N.val ≤ g.val + 1)) := by
  decide +kernel

/-- The group after `g` of `N`, and its column when `g` is in column `j`. -/
def nxt (g N : ℕ) : ℕ := if N ≤ g + 1 then 0 else g + 1
def col (g N j : ℕ) : ℕ := if N ≤ g + 1 then j + 1 else j

theorem cond2_iff (i : grid0.Coords) (g : ℕ) (hg : g < 44) : k0_cond2 i (BitVec.ofNat 32 g) = 1#1 ↔ (i 0).val = 0 ∧ g = 0 := by
  have h : (i 0).val < 4 := (i 0).isLt
  unfold k0_cond2
  generalize (i 0).val = j at h
  have key : ∀ j : Fin 4, ∀ g : Fin 44, Scalar.cmpi .ne (Scalar.extui (Scalar.andi (Scalar.cmpi .eq (BitVec.ofNat 32 j) 0#32) (Scalar.cmpi .eq (BitVec.ofNat 32 g) 0#32))) 0#32 = 1#1 ↔ j.val = 0 ∧ g.val = 0 := by
    decide +kernel
  exact key ⟨j, h⟩ ⟨g, hg⟩

theorem cond3_iff (i : grid0.Coords) (g N : ℕ) (hg : g < 44) (hN : N < 45) :
    k0_cond3 i (BitVec.ofNat 32 g) (BitVec.ofNat 32 N) = 1#1 ↔ col g N (i 0).val < 4 := by
  have h : (i 0).val < 4 := (i 0).isLt
  have hs := sge_word ⟨g, hg⟩ ⟨N, hN⟩
  unfold k0_cond3 col
  generalize (i 0).val = j at h
  simp only at hs ⊢
  rw [hs]
  by_cases e : N ≤ g + 1
  · simp only [e, if_true, decide_true]
    interval_cases j <;> decide
  · simp only [e, if_false, decide_false]
    interval_cases j <;> decide

theorem off3_eq (g : ℕ) (hg : g < 44) : k0_off3 (BitVec.ofNat 32 g) = ![g] := by
  show ![(BitVec.ofNat 32 g).toNat] = _
  rw [BitVec.toNat_ofNat, Nat.mod_eq_of_lt (by omega)]

theorem off5_eq (g N : ℕ) (hg : g < 44) (hN : N < 45) : k0_off5 (BitVec.ofNat 32 g) (BitVec.ofNat 32 N) = ![nxt g N] := by
  have hs := sge_word ⟨g, hg⟩ ⟨N, hN⟩
  unfold k0_off5 nxt
  simp only at hs ⊢
  rw [hs]
  by_cases e : N ≤ g + 1
  · simp only [e, if_true, decide_true]; rfl
  · simp only [e, if_false, decide_false]
    show ![(BitVec.ofNat 32 g + 1#32).toNat] = _
    rw [BitVec.toNat_add, BitVec.toNat_ofNat]
    congr 1
    show (g % 2 ^ 32 + 1) % 2 ^ 32 = _
    omega

theorem mult3_eq (i : grid0.Coords) (g N : ℕ) (hg : g < 44) (hN : N < 45) :
    (k0_mult3 i (BitVec.ofNat 32 g) (BitVec.ofNat 32 N)).toNat = col g N (i 0).val * 1024 := by
  have h : (i 0).val < 4 := (i 0).isLt
  have hs := sge_word ⟨g, hg⟩ ⟨N, hN⟩
  unfold k0_mult3 col
  generalize (i 0).val = j at h
  simp only at hs ⊢
  rw [hs]
  by_cases e : N ≤ g + 1
  · simp only [e, if_true, decide_true]
    interval_cases j <;> rfl
  · simp only [e, if_false, decide_false]
    interval_cases j <;> rfl

theorem off6_eq (i : grid0.Coords) (g N : ℕ) (hg : g < 44) (hN : N < 45) (w : BitVec 32) :
    k0_off6 i (BitVec.ofNat 32 g) (BitVec.ofNat 32 N) w = ![w.toNat, 0, col g N (i 0).val * 1024] := by
  rw [← mult3_eq i g N hg hN]; rfl

theorem off4_eq (i : grid0.Coords) (w : BitVec 32) : k0_off4 i w = ![w.toNat, 0, (i 0).val * 1024] := by
  have h : (i 0).val < 4 := (i 0).isLt
  have e : (k0_mult2 i).toNat = (i 0).val * 1024 := by
    unfold k0_mult2
    generalize (i 0).val = j at h
    interval_cases j <;> rfl
  rw [← e]; rfl

/-- A weight block's offsets lie in the array. -/
theorem inb_block {e j : ℕ} (he : e < 16) (hj : j < 4) : ∀ a, (![e, 0, j * 1024] : Fin 3 → ℕ) a + S1x2048x1024.size a ≤ S16x2048x4096.size a := by
  intro a
  fin_cases a
  · show e + 1 ≤ 16; omega
  · show 0 + 2048 ≤ 2048; omega
  · show j * 1024 + 1024 ≤ 4096; omega

theorem inb_word {g : ℕ} (h : g < 44) : ∀ a, (![g] : Fin 1 → ℕ) a + S1.size a ≤ S44.size a := by
  intro a
  fin_cases a
  show g + 1 ≤ 44
  omega

theorem nxt_lt {g N : ℕ} (hN : N < 45) : nxt g N < 44 := by
  unfold nxt; split <;> omega

theorem chk2_ok (i : grid0.Coords) (g N : ℕ) (hg : g < 44) (hN : N < 45) (w : BitVec 32) : k0_chk2 i (BitVec.ofNat 32 g) (BitVec.ofNat 32 N) w := by
  refine ⟨fun _ => ?_, fun _ => ?_, fun _ _ => ?_⟩
  · rw [off3_eq g hg]; exact inb_word hg
  · rw [off5_eq g N hg hN]; exact inb_word (nxt_lt hN)
  · rw [mult3_eq i g N hg hN]; exact Dvd.intro_left _ rfl

theorem chk3_ok (i : grid0.Coords) (w v : BitVec 32) (hv : v.toNat < 16) : k0_chk3 i w v := fun _ => by
  rw [off4_eq]; exact inb_block hv (i 0).isLt

theorem chk1_ok (i : grid0.Coords) (u w v : BitVec 32) (hv : v.toNat < 16) : k0_chk1 i u w v := fun _ _ => inb_block (j := 0) hv (by omega)

theorem chk4_ok (i : grid0.Coords) (g N : ℕ) (hg : g < 44) (hN : N < 45) (w v : BitVec 32) (hv : v.toNat < 16) :
    k0_chk4 i (BitVec.ofNat 32 g) (BitVec.ofNat 32 N) w v := fun _ h3 => by
  rw [off6_eq i g N hg hN]; exact inb_block hv ((cond3_iff i g N hg hN).1 h3)

end Cert.Wide

end
-- ==== Proof.Wide.Start.lean ====
/-
The tables the kernel reads are the schedule of the experts it is given, and its arguments are
what the call finds.
-/
module

public import proofs.«01_k».proof.Proof.Wide.Tables
public import proofs.«01_k».proof.Proof.Wide.Words

@[expose] public section

set_option maxRecDepth 16384

noncomputable section

namespace Cert.Wide

open Cert.Kernel3Ideal Cert.Kernel3Ideal.Gen
open Idealize.ShloMosaic Idealize.ShloMosaic.TcCoe Idealize.ShloMosaic.Tactic
open Idealize.SL Idealize.SL.RA Idealize.SL.BI

variable {F : FTy → Type} [FloatOps F]
variable (m : (ℓ : Loc nD τ sig) → Buf (Elt F) ℓ)

set_option maxHeartbeats 1000000 in
theorem V_arg0 (c : Dev nD) : V m c main_arg0 = m ((c : Thread nD τ).loc main_arg0) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg1 (c : Dev nD) : V m c main_arg1 = m ((c : Thread nD τ).loc main_arg1) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg2 (c : Dev nD) : V m c main_arg2 = m ((c : Thread nD τ).loc main_arg2) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg3 (c : Dev nD) : V m c main_arg3 = m ((c : Thread nD τ).loc main_arg3) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg4 (c : Dev nD) : V m c main_arg4 = m ((c : Thread nD τ).loc main_arg4) := by
  show StableHlo.after hostAll _ _ = _
  simp only [hostAll, hostOps0, hostOps0_1, hostOps0_2, List.flatten_cons, List.flatten_nil, List.append_nil, List.cons_append, List.nil_append]
  after_results

/-- The experts of the tiles, as the kernel is given them. -/
abbrev tea (c : Dev nD) : IVec S44 32 := m ((c : Thread nD τ).loc main_arg1)
/-- Every expert is one of the sixteen. -/
def Experts : Prop := ∀ (c : Dev nD) i, (tea m c i).toNat < 16

theorem wordAt_lt (a : IVec S44 32) (ha : ∀ i, (a i).toNat < 16) (n : ℕ) : (wordAt a n).toNat < 16 := by
  unfold wordAt; split
  · exact ha _
  · decide

/-- The tables, as the call finds them. -/
def W0 (c : Dev nD) : MBuf (F := F) c T0 := V m c main_arg2
def W1 (c : Dev nD) : MBuf (F := F) c T1 := V m c main_v7
def W2 (c : Dev nD) : MBuf (F := F) c T2 := V m c main_v10
def W3 (c : Dev nD) : MBuf (F := F) c T3 := V m c main_v18
def W4 (c : Dev nD) : MBuf (F := F) c T4 := V m c main_v21

/-- The tables' words are the schedule of the experts. -/
theorem ok_tbl (hm : Experts m) (c : Dev nD) : Ok c (wordAt (tea m c)) (W1 m c) (W2 m c) (W3 m c) (W4 m c) := by
  have e1 : W1 m c = firstOf (tea m c) := entry_first m c
  have e2 : W2 m c = gidOf (firstOf (tea m c)) := entry_gid m c
  have e3 : W3 m c = geOf (gidOf (firstOf (tea m c))) (tea m c) := entry_ge m c
  have e4 : W4 m c = ngOf (gidOf (firstOf (tea m c))) := entry_ng m c
  refine ⟨wordAt_lt _ (hm c), fun off h => ?_, fun off h => ?_, fun off h => ?_, fun off h n hn hx => ?_, ?_⟩
  · exact (rd_T1 c _ off h).trans ((congrFun e1 _).trans (first_at _ _))
  · exact (rd_T2 c _ off h).trans ((congrFun e2 _).trans (gid_at _ _))
  · rw [rd_T3 c _ off h]; exact (congrArg BitVec.toNat (congrFun e3 _)).trans_lt (ge_lt _ (hm c) _ _)
  · refine (rd_T3 c _ off h).trans ((congrFun e3 _).trans ((ge_at _ (hm c) ⟨n, hn⟩ ⟨off 0, _⟩ hx.symm).trans ?_))
    unfold wordAt; rw [dif_pos hn]
  · exact (congrArg (rdN c) e4).trans (ng_at _ _)

end Cert.Wide

end
-- ==== Proof.Wide.Carry.lean ====
/- A grid point whose tile goes on with the group of the tile before it. -/
module

public import proofs.«01_k».proof.Proof.Wide.Body

@[expose] public section

set_option maxRecDepth 16384

noncomputable section

namespace Cert.Wide

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 2000000 in
/-- A point whose tile goes on with the group before it: the staged blocks are used as they stand. -/
theorem body_carry (c : Dev nD) (i : grid0.Coords)
    (arg7 : Memref sig .tc .vmem S512x2048 .f32) (harg7 : arg7.IsWhole) (arg10 : Memref sig .tc .vmem S512x1024 .bf16) (harg10 : arg10.IsWhole)
    (t0 : MBuf (F := F) c T0) (t1 : MBuf (F := F) c T1) (t2 : MBuf (F := F) c T2) (t3 : MBuf (F := F) c T3) (t4 : MBuf (F := F) c T4)
    (x : Vec F S512x2048 .f32) (a b : Vec F S2048x1024 .bf16)
    (h1 : ¬ k0_cond1 (rd c T1 t1 (k0_off1 i) (k0_off1_inb i)) = 1#1) (K : PUnit → sProp 𝕄) :
    iprop(tabs c t0 t1 t2 t3 t4 ∗ wts c a b ∗ owns (c : Thread nD τ) arg7 fullShare x ∗ (∃ X, owns (c : Thread nD τ) arg10 fullShare X)
        ∗ (iprop(tabs c t0 t1 t2 t3 t4 ∗ wts c a b ∗ owns (c : Thread nD τ) arg7 fullShare x
            ∗ outAt c arg10 (rd c T0 t0 (k0_off7 i) (k0_off7_inb i)) x a b) -∗ K ⟨⟩))
      ⊢ wp frame (wpE (defs₀ (F := F)) Variants.none c none) Set.univ (cc0_moe_up (F := F) i T0 (Memref.isWhole_whole _) T1 (Memref.isWhole_whole _) T2 (Memref.isWhole_whole _) T3 (Memref.isWhole_whole _) T4 (Memref.isWhole_whole _) arg7 harg7 WG (Memref.isWhole_whole _) WU (Memref.isWhole_whole _) arg10 harg10 SG (Memref.isWhole_whole _) SU (Memref.isWhole_whole _) BG (Memref.isWhole_whole _) BU (Memref.isWhole_whole _) cc0_scratch4) K := by
  simp only [cc0_moe_up_eq_skeleton]; unfold cc0_moe_up_skel
  simp only [k0_part2_eq_skeleton]
  have h2 : ∀ w1 w2, k0_chk2 i w1 w2 (rd c T1 t1 (k0_off1 i) (k0_off1_inb i)) :=
    fun w1 w2 => ⟨fun k => absurd k h1, fun k => absurd k h1, fun k => absurd k h1⟩
  unfold owns
  iintro ⟨⟨HT0, HT1, HT2, HT3, HT4⟩, ⟨HBG, HBU⟩, ⟨%f7, %hf7, H7⟩, ⟨%X10, %f10, -, H10⟩, Hk⟩
  obtain rfl := harg7.eq_unread hf7
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact h1 | exact h2 _ _ | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HBG HBU]
    · isplitl [HBG]; · iexact HBG
      iexact HBU
    isplitl [H7]
    · iexists _; isplitr; · ipureintro; exact harg7.read_unread _
      iexact H7
    first
      | (iapply (outAt_intro c arg10 _ x a b f10 [] (hp x a b).symm)
         iexact H10)
      | (iapply outAt_intro
         rotate_left
         · iexact H10
         · try simp only [readAt_part]
           first
             | exact (hp x a b).symm
             | exact (hp x _ _).symm.trans (congrArg₂ (outPieces _ x) (readAt_wts BG (Memref.isWhole_whole _) a _) (readAt_wts BU (Memref.isWhole_whole _) b _)))

end Cert.Wide

end
-- ==== Proof.Wide.Last.lean ====
/- A grid point that opens the last group of the last column. -/
module

public import proofs.«01_k».proof.Proof.Wide.Body

@[expose] public section

set_option maxRecDepth 16384

noncomputable section

namespace Cert.Wide

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 4000000 in
/-- A point that opens the last group of the last column: it waits for its weight blocks and starts no copy. -/
theorem body_last (c : Dev nD) (i : grid0.Coords)
    (arg7 : Memref sig .tc .vmem S512x2048 .f32) (harg7 : arg7.IsWhole) (arg10 : Memref sig .tc .vmem S512x1024 .bf16) (harg10 : arg10.IsWhole)
    (t0 : MBuf (F := F) c T0) (t1 : MBuf (F := F) c T1) (t2 : MBuf (F := F) c T2) (t3 : MBuf (F := F) c T3) (t4 : MBuf (F := F) c T4)
    (x : Vec F S512x2048 .f32) (wg : MBuf (F := F) c WG) (wu : MBuf (F := F) c WU)
    (w1 w2 : BitVec 32) (hw1 : rd c T2 t2 (k0_off1 i) (k0_off1_inb i) = w1) (hw2 : rdN c t4 = w2)
    (h1 : k0_cond1 (rd c T1 t1 (k0_off1 i) (k0_off1_inb i)) = 1#1)
    (hk2 : k0_chk2 i w1 w2 (rd c T1 t1 (k0_off1 i) (k0_off1_inb i)))
    (hk3 : ∀ h, k0_chk3 i (rd c T1 t1 (k0_off1 i) (k0_off1_inb i)) (rd c T3 t3 (k0_off3 w1) h))
    (g : MBuf (F := F) c SG) (u : MBuf (F := F) c SU)
    (h2 : ¬ k0_cond2 i w1 = 1#1)
    (h3 : ¬ k0_cond3 i w1 w2 = 1#1)
    (W : Waits sig Unit) (K : PUnit → sProp 𝕄) :
    iprop(tabs c t0 t1 t2 t3 t4 ∗ (∃ f, pt c BG fullShare f) ∗ (∃ f, pt c BU fullShare f) ∗ flight c s4 SG WG g wg ∗ flight c s5 SU WU u wu ∗ owes (c : Thread nD τ) 0 W
        ∗ owns (c : Thread nD τ) arg7 fullShare x ∗ (∃ X, owns (c : Thread nD τ) arg10 fullShare X)
        ∗ (iprop(tabs c t0 t1 t2 t3 t4 ∗ wts c (k0_pay3 (SG.view.read (Elt F) g)) (k0_pay4 (SU.view.read (Elt F) u)) ∗ (pt c SG fullShare g ∗ pt c SU fullShare u ∗ pt c WG fullShare wg ∗ pt c WU fullShare wu ∗ semVal ((c : Thread nD τ), SemLoc.dma s4) 0 ∗ semVal ((c : Thread nD τ), SemLoc.dma s5) 0) ∗ (∃ W, owes (c : Thread nD τ) 0 W)
            ∗ owns (c : Thread nD τ) arg7 fullShare x
            ∗ outAt c arg10 (rd c T0 t0 (k0_off7 i) (k0_off7_inb i)) x (k0_pay3 (SG.view.read (Elt F) g)) (k0_pay4 (SU.view.read (Elt F) u))) -∗ K ⟨⟩))
      ⊢ wp frame (wpE (defs₀ (F := F)) Variants.none c none) Set.univ (cc0_moe_up (F := F) i T0 (Memref.isWhole_whole _) T1 (Memref.isWhole_whole _) T2 (Memref.isWhole_whole _) T3 (Memref.isWhole_whole _) T4 (Memref.isWhole_whole _) arg7 harg7 WG (Memref.isWhole_whole _) WU (Memref.isWhole_whole _) arg10 harg10 SG (Memref.isWhole_whole _) SU (Memref.isWhole_whole _) BG (Memref.isWhole_whole _) BU (Memref.isWhole_whole _) cc0_scratch4) K := by
  subst hw1 hw2
  simp only [cc0_moe_up_eq_skeleton]; unfold cc0_moe_up_skel
  simp only [k0_part2_eq_skeleton]; unfold k0_part2_skel; simp only [k0_part1_eq_skeleton]
  unfold owns
  iintro ⟨⟨HT0, HT1, HT2, HT3, HT4⟩, ⟨%fg, HBG⟩, ⟨%fu, HBU⟩, HFg, HFu, HO, ⟨%f7, %hf7, H7⟩, ⟨%X10, %f10, -, H10⟩, Hk⟩
  obtain rfl := harg7.eq_unread hf7
  set_option sl_exec.stopBefore "k0_cond4" in sl_exec (disch := first  | exact fun _ k => absurd k h3 | exact h2 | exact h3 | exact h1 | exact hk2 | exact hk3 _)
  generalize hA : k0_pay3 (SG.view.read (Elt F) g) = A
  generalize hB : k0_pay4 (SU.view.read (Elt F) u) = B
  ihave HBG' := (pt_wts c BG (Memref.isWhole_whole _) fg _ _ A ((congrArg k0_pay3 (readAt_stage c SG _ _)).trans hA)) $$ HBG
  ihave HBU' := (pt_wts c BU (Memref.isWhole_whole _) fu _ _ B ((congrArg k0_pay4 (readAt_stage c SU _ _)).trans hB)) $$ HBU
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HBG' HBU']
    · isplitl [HBG']; · iexact HBG'
      iexact HBU'
    isplitl [HFg_dst HFu_dst HFg_src HFu_src HFg HFu]
    · isplitl [HFg_dst]; · iexact HFg_dst
      isplitl [HFu_dst]; · iexact HFu_dst
      isplitl [HFg_src]; · iexact HFg_src
      isplitl [HFu_src]; · iexact HFu_src
      isplitl [HFg]; · iexact HFg
      iexact HFu
    isplitl [HO]; · iexists _; iexact HO
    isplitl [H7]
    · iexists _; isplitr; · ipureintro; exact harg7.read_unread _
      iexact H7
    first
      | (iapply (outAt_intro c arg10 _ x A B f10 [] (hp x A B).symm)
         iexact H10)
      | (iapply outAt_intro
         rotate_left
         · iexact H10
         · try simp only [readAt_part]
           first
             | exact (hp x A B).symm
             | exact (hp x _ _).symm.trans (congrArg₂ (outPieces _ x) (readAt_wts BG (Memref.isWhole_whole _) A _) (readAt_wts BU (Memref.isWhole_whole _) B _)))

end Cert.Wide

end
-- ==== Proof.Wide.Next.lean ====
/- A grid point that opens a group and starts the next group's copies. -/
module

public import proofs.«01_k».proof.Proof.Wide.Body

@[expose] public section

set_option maxRecDepth 16384

noncomputable section

namespace Cert.Wide

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 4000000 in
/-- A point that opens a group: it waits for its weight blocks and starts the copies of the next group's. -/
theorem body_next (c : Dev nD) (i : grid0.Coords)
    (arg7 : Memref sig .tc .vmem S512x2048 .f32) (harg7 : arg7.IsWhole) (arg10 : Memref sig .tc .vmem S512x1024 .bf16) (harg10 : arg10.IsWhole)
    (t0 : MBuf (F := F) c T0) (t1 : MBuf (F := F) c T1) (t2 : MBuf (F := F) c T2) (t3 : MBuf (F := F) c T3) (t4 : MBuf (F := F) c T4)
    (x : Vec F S512x2048 .f32) (wg : MBuf (F := F) c WG) (wu : MBuf (F := F) c WU)
    (w1 w2 : BitVec 32) (hw1 : rd c T2 t2 (k0_off1 i) (k0_off1_inb i) = w1) (hw2 : rdN c t4 = w2)
    (h1 : k0_cond1 (rd c T1 t1 (k0_off1 i) (k0_off1_inb i)) = 1#1)
    (hk2 : k0_chk2 i w1 w2 (rd c T1 t1 (k0_off1 i) (k0_off1_inb i)))
    (hk3 : ∀ h, k0_chk3 i (rd c T1 t1 (k0_off1 i) (k0_off1_inb i)) (rd c T3 t3 (k0_off3 w1) h))
    (g : MBuf (F := F) c SG) (u : MBuf (F := F) c SU)
    (h2 : ¬ k0_cond2 i w1 = 1#1)
    (h3 : k0_cond3 i w1 w2 = 1#1) (hk4 : ∀ h, k0_chk4 i w1 w2 (rd c T1 t1 (k0_off1 i) (k0_off1_inb i)) (rd c T3 t3 (k0_off5 w1 w2) h))
    (off' : Fin 3 → ℕ) (hoff' : ∀ h, k0_off6 i w1 w2 (rd c T3 t3 (k0_off5 w1 w2) h) = off') (hin' : ∀ a, off' a + S1x2048x1024.size a ≤ S16x2048x4096.size a)
    (W : Waits sig Unit) (K : PUnit → sProp 𝕄) :
    iprop(tabs c t0 t1 t2 t3 t4 ∗ (∃ f, pt c BG fullShare f) ∗ (∃ f, pt c BU fullShare f) ∗ flight c s4 SG WG g wg ∗ flight c s5 SU WU u wu ∗ owes (c : Thread nD τ) 0 W
        ∗ owns (c : Thread nD τ) arg7 fullShare x ∗ (∃ X, owns (c : Thread nD τ) arg10 fullShare X)
        ∗ (iprop(tabs c t0 t1 t2 t3 t4 ∗ wts c (k0_pay3 (SG.view.read (Elt F) g)) (k0_pay4 (SU.view.read (Elt F) u)) ∗ (∃ g' u', ⌜SG.view.read (Elt F) g' = blk c WG wg off' hin' ∧ SU.view.read (Elt F) u' = blk c WU wu off' hin'⌝ ∗ flight c s4 SG WG g' wg ∗ flight c s5 SU WU u' wu) ∗ (∃ W, owes (c : Thread nD τ) 0 W)
            ∗ owns (c : Thread nD τ) arg7 fullShare x
            ∗ outAt c arg10 (rd c T0 t0 (k0_off7 i) (k0_off7_inb i)) x (k0_pay3 (SG.view.read (Elt F) g)) (k0_pay4 (SU.view.read (Elt F) u))) -∗ K ⟨⟩))
      ⊢ wp frame (wpE (defs₀ (F := F)) Variants.none c none) Set.univ (cc0_moe_up (F := F) i T0 (Memref.isWhole_whole _) T1 (Memref.isWhole_whole _) T2 (Memref.isWhole_whole _) T3 (Memref.isWhole_whole _) T4 (Memref.isWhole_whole _) arg7 harg7 WG (Memref.isWhole_whole _) WU (Memref.isWhole_whole _) arg10 harg10 SG (Memref.isWhole_whole _) SU (Memref.isWhole_whole _) BG (Memref.isWhole_whole _) BU (Memref.isWhole_whole _) cc0_scratch4) K := by
  subst hw1 hw2
  simp only [cc0_moe_up_eq_skeleton]; unfold cc0_moe_up_skel
  simp only [k0_part2_eq_skeleton]; unfold k0_part2_skel; simp only [k0_part1_eq_skeleton]
  unfold owns
  iintro ⟨⟨HT0, HT1, HT2, HT3, HT4⟩, ⟨%fg, HBG⟩, ⟨%fu, HBU⟩, HFg, HFu, HO, ⟨%f7, %hf7, H7⟩, ⟨%X10, %f10, -, H10⟩, Hk⟩
  obtain rfl := harg7.eq_unread hf7
  set_option sl_exec.stopBefore "k0_cond4" in sl_exec (disch := first | exact h2 | exact h3 | exact hk4 _ | exact h1 | exact hk2 | exact hk3 _)
  generalize hA : k0_pay3 (SG.view.read (Elt F) g) = A
  generalize hB : k0_pay4 (SU.view.read (Elt F) u) = B
  ihave HBG' := (pt_wts c BG (Memref.isWhole_whole _) fg _ _ A ((congrArg k0_pay3 (readAt_stage c SG _ _)).trans hA)) $$ HBG
  ihave HBU' := (pt_wts c BU (Memref.isWhole_whole _) fu _ _ B ((congrArg k0_pay4 (readAt_stage c SU _ _)).trans hB)) $$ HBU
  ihave HFg' := (flight_whole c _ _ _ _ wg) $$ [HFg HFg_src]
  · isplitl [HFg] <;> iassumption
  ihave HFu' := (flight_whole c _ _ _ _ wu) $$ [HFu HFu_src]
  · isplitl [HFu] <;> iassumption
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HBG' HBU']
    · isplitl [HBG']; · iexact HBG'
      iexact HBU'
    isplitl [HFg' HFu']
    · iexists _, _
      isplitr
      swap
      · isplitl [HFg']; · iexact HFg'
        iexact HFu'
      ipureintro
      refine ⟨(View.read_write_univ _ _).trans ?_, (View.read_write_univ _ _).trans ?_⟩
      · exact blk_congr c WG wg (hoff' _) _ hin'
      · exact blk_congr c WU wu (hoff' _) _ hin'
    isplitl [HO]; · iexists _; iexact HO
    isplitl [H7]
    · iexists _; isplitr; · ipureintro; exact harg7.read_unread _
      iexact H7
    first
      | (iapply (outAt_intro c arg10 _ x A B f10 [] (hp x A B).symm)
         iexact H10)
      | (iapply outAt_intro
         rotate_left
         · iexact H10
         · try simp only [readAt_part]
           first
             | exact (hp x A B).symm
             | exact (hp x _ _).symm.trans (congrArg₂ (outPieces _ x) (readAt_wts BG (Memref.isWhole_whole _) A _) (readAt_wts BU (Memref.isWhole_whole _) B _)))

end Cert.Wide

end
-- ==== Proof.Wide.First.lean ====
/- The first grid point, which starts its own copies. -/
module

public import proofs.«01_k».proof.Proof.Wide.Body

@[expose] public section

set_option maxRecDepth 16384

noncomputable section

namespace Cert.Wide

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

theorem pt_wts_imp (c : Dev nD) (M : Memref sig .tc .vmem S2048x1024 .bf16) (hM : M.IsWhole) (f : MBuf (F := F) c M)
    (hb : ∀ k, (![0, 0] : Fin 2 → ℕ) k + S2048x1024.size k ≤ S2048x1024.size k) (p q : Vec F S2048x1024 .bf16) :
    pt c M fullShare (M.view.writes (Elt F) f [⟨Rect.unit (s := S2048x1024) ![0, 0] S2048x1024.size hb, p⟩]) ⊢ iprop(⌜p = q⌝ -∗ pt c M fullShare (hM.unread q)) := by
  iintro H %h
  iapply (pt_wts c M hM f hb p q h)
  iexact H

set_option maxHeartbeats 4000000 in
/-- The first point: it starts and awaits its own weight blocks, then starts the copies of the next group's. -/
theorem body_first (c : Dev nD) (i : grid0.Coords)
    (arg7 : Memref sig .tc .vmem S512x2048 .f32) (harg7 : arg7.IsWhole) (arg10 : Memref sig .tc .vmem S512x1024 .bf16) (harg10 : arg10.IsWhole)
    (t0 : MBuf (F := F) c T0) (t1 : MBuf (F := F) c T1) (t2 : MBuf (F := F) c T2) (t3 : MBuf (F := F) c T3) (t4 : MBuf (F := F) c T4)
    (x : Vec F S512x2048 .f32) (wg : MBuf (F := F) c WG) (wu : MBuf (F := F) c WU)
    (w1 w2 : BitVec 32) (hw1 : rd c T2 t2 (k0_off1 i) (k0_off1_inb i) = w1) (hw2 : rdN c t4 = w2)
    (h1 : k0_cond1 (rd c T1 t1 (k0_off1 i) (k0_off1_inb i)) = 1#1)
    (hk2 : k0_chk2 i w1 w2 (rd c T1 t1 (k0_off1 i) (k0_off1_inb i)))
    (hk3 : ∀ h, k0_chk3 i (rd c T1 t1 (k0_off1 i) (k0_off1_inb i)) (rd c T3 t3 (k0_off3 w1) h))
    (h2 : k0_cond2 i w1 = 1#1) (hk1 : ∀ v, v = rd c T3 t3 ![0] inb_S44_S1_0 → k0_chk1 i w1 (rd c T1 t1 (k0_off1 i) (k0_off1_inb i)) v)
    (off : Fin 3 → ℕ) (hoff : k0_off2 (rd c T3 t3 ![0] inb_S44_S1_0) = off) (hin : ∀ a, off a + S1x2048x1024.size a ≤ S16x2048x4096.size a)
    (h3 : k0_cond3 i w1 w2 = 1#1) (hk4 : ∀ h, k0_chk4 i w1 w2 (rd c T1 t1 (k0_off1 i) (k0_off1_inb i)) (rd c T3 t3 (k0_off5 w1 w2) h))
    (off' : Fin 3 → ℕ) (hoff' : ∀ h, k0_off6 i w1 w2 (rd c T3 t3 (k0_off5 w1 w2) h) = off') (hin' : ∀ a, off' a + S1x2048x1024.size a ≤ S16x2048x4096.size a)
    (W : Waits sig Unit) (K : PUnit → sProp 𝕄) :
    iprop(tabs c t0 t1 t2 t3 t4 ∗ (∃ f, pt c BG fullShare f) ∗ (∃ f, pt c BU fullShare f) ∗ (∃ g, pt c SG fullShare g) ∗ (∃ u, pt c SU fullShare u) ∗ pt c WG fullShare wg ∗ pt c WU fullShare wu ∗ semVal ((c : Thread nD τ), SemLoc.dma s4) 0 ∗ semVal ((c : Thread nD τ), SemLoc.dma s5) 0 ∗ owes (c : Thread nD τ) 0 W
        ∗ owns (c : Thread nD τ) arg7 fullShare x ∗ (∃ X, owns (c : Thread nD τ) arg10 fullShare X)
        ∗ (iprop(tabs c t0 t1 t2 t3 t4 ∗ wts c (k0_pay3 (blk c WG wg off hin)) (k0_pay4 (blk c WU wu off hin)) ∗ (∃ g' u', ⌜SG.view.read (Elt F) g' = blk c WG wg off' hin' ∧ SU.view.read (Elt F) u' = blk c WU wu off' hin'⌝ ∗ flight c s4 SG WG g' wg ∗ flight c s5 SU WU u' wu) ∗ (∃ W, owes (c : Thread nD τ) 0 W)
            ∗ owns (c : Thread nD τ) arg7 fullShare x
            ∗ outAt c arg10 (rd c T0 t0 (k0_off7 i) (k0_off7_inb i)) x (k0_pay3 (blk c WG wg off hin)) (k0_pay4 (blk c WU wu off hin))) -∗ K ⟨⟩))
      ⊢ wp frame (wpE (defs₀ (F := F)) Variants.none c none) Set.univ (cc0_moe_up (F := F) i T0 (Memref.isWhole_whole _) T1 (Memref.isWhole_whole _) T2 (Memref.isWhole_whole _) T3 (Memref.isWhole_whole _) T4 (Memref.isWhole_whole _) arg7 harg7 WG (Memref.isWhole_whole _) WU (Memref.isWhole_whole _) arg10 harg10 SG (Memref.isWhole_whole _) SU (Memref.isWhole_whole _) BG (Memref.isWhole_whole _) BU (Memref.isWhole_whole _) cc0_scratch4) K := by
  subst hw1 hw2
  simp only [cc0_moe_up_eq_skeleton]; unfold cc0_moe_up_skel
  simp only [k0_part2_eq_skeleton]; unfold k0_part2_skel; simp only [k0_part1_eq_skeleton]
  unfold owns
  iintro ⟨⟨HT0, HT1, HT2, HT3, HT4⟩, ⟨%fg, HBG⟩, ⟨%fu, HBU⟩, ⟨%g, HSG⟩, ⟨%u, HSU⟩, HWG, HWU, HFg, HFu, HO, ⟨%f7, %hf7, H7⟩, ⟨%X10, %f10, -, H10⟩, Hk⟩
  obtain rfl := harg7.eq_unread hf7
  set_option sl_exec.stopBefore "k0_cond4" in sl_exec (disch := first | exact h2 | exact h3 | exact hk1 _ rfl | exact hk4 _ | exact h1 | exact hk2 | exact hk3 _)
  generalize hA : k0_pay3 (blk c WG wg off hin) = A
  generalize hB : k0_pay4 (blk c WU wu off hin) = B
  ihave HBG1 := (pt_wts_imp c BG (Memref.isWhole_whole _) fg _ _ A) $$ HBG
  ihave HBG' := HBG1 $$ []
  · ipureintro
    refine (congrArg k0_pay3 ((readAt_stage c SG _ _).trans ((View.read_write_univ _ _).trans ?_))).trans hA
    exact blk_congr c WG wg hoff _ hin
  ihave HBU1 := (pt_wts_imp c BU (Memref.isWhole_whole _) fu _ _ B) $$ HBU
  ihave HBU' := HBU1 $$ []
  · ipureintro
    refine (congrArg k0_pay4 ((readAt_stage c SU _ _).trans ((View.read_write_univ _ _).trans ?_))).trans hB
    exact blk_congr c WU wu hoff _ hin
  ihave HFg' := (flight_whole c _ _ _ _ wg) $$ [HFg HWG]
  · isplitl [HFg] <;> iassumption
  ihave HFu' := (flight_whole c _ _ _ _ wu) $$ [HFu HWU]
  · isplitl [HFu] <;> iassumption
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HBG' HBU']
    · isplitl [HBG']; · iexact HBG'
      iexact HBU'
    isplitl [HFg' HFu']
    · iexists _, _
      isplitr
      swap
      · isplitl [HFg']; · iexact HFg'
        iexact HFu'
      ipureintro
      refine ⟨(View.read_write_univ _ _).trans ?_, (View.read_write_univ _ _).trans ?_⟩
      · exact blk_congr c WG wg (hoff' _) _ hin'
      · exact blk_congr c WU wu (hoff' _) _ hin'
    isplitl [HO]; · iexists _; iexact HO
    isplitl [H7]
    · iexists _; isplitr; · ipureintro; exact harg7.read_unread _
      iexact H7
    first
      | (iapply (outAt_intro c arg10 _ x A B f10 [] (hp x A B).symm)
         iexact H10)
      | (iapply outAt_intro
         rotate_left
         · iexact H10
         · try simp only [readAt_part]
           first
             | exact (hp x A B).symm
             | exact (hp x _ _).symm.trans (congrArg₂ (outPieces _ x) (readAt_wts BG (Memref.isWhole_whole _) A _) (readAt_wts BU (Memref.isWhole_whole _) B _)))

end Cert.Wide

end
-- ==== Proof.Wide.Step.lean ====
/-
What the kernel holds between grid points, and one point's step: the weights' rounded blocks of the
tile's expert, and the copies of the next group's blocks under way.
-/
module

public import proofs.«01_k».proof.Proof.Wide.Words
public import proofs.«01_k».proof.Proof.Wide.Carry
public import proofs.«01_k».proof.Proof.Wide.Last
public import proofs.«01_k».proof.Proof.Wide.Next
public import proofs.«01_k».proof.Proof.Wide.First

@[expose] public section

set_option maxRecDepth 16384

noncomputable section

namespace Cert.Wide

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The block of expert `e` and column `j` of a stacked weight. -/
def bk (c : Dev nD) (M : Memref sig .tc .hbm S16x2048x4096 .f32) (w : MBuf (F := F) c M) (e j : ℕ) : Vec F S2048x1024 .f32 :=
  blk c M w ![e % 16, 0, j % 4 * 1024] (inb_block (Nat.mod_lt _ (by omega)) (Nat.mod_lt _ (by omega)))

theorem blk_bk (c : Dev nD) (M : Memref sig .tc .hbm S16x2048x4096 .f32) (w : MBuf (F := F) c M) (e j : ℕ) (he : e < 16) (hj : j < 4)
    (off : Fin 3 → ℕ) (h : ∀ a, off a + S1x2048x1024.size a ≤ S16x2048x4096.size a) (ho : off = ![e, 0, j * 1024]) :
    blk c M w off h = bk c M w e j :=
  blk_congr c M w (by rw [ho, Nat.mod_eq_of_lt he, Nat.mod_eq_of_lt hj]) _ _

/-- The expert of group `k`, as the table gives it. -/
def expOf (c : Dev nD) (t3 : MBuf (F := F) c T3) (k : ℕ) : ℕ := if h : k < 44 then (rd c T3 t3 ![k] (inb_word h)).toNat else 0

/-- No copy under way. -/
def idle (c : Dev nD) (wg : MBuf (F := F) c WG) (wu : MBuf (F := F) c WU) : sProp 𝕄 :=
  iprop((∃ g, pt c SG fullShare g) ∗ (∃ u, pt c SU fullShare u) ∗ pt c WG fullShare wg ∗ pt c WU fullShare wu ∗ semVal ((c : Thread nD τ), SemLoc.dma s4) 0 ∗ semVal ((c : Thread nD τ), SemLoc.dma s5) 0)

/-- The copies of one block of either weight under way. -/
def inflight (c : Dev nD) (wg : MBuf (F := F) c WG) (wu : MBuf (F := F) c WU) (e j : ℕ) : sProp 𝕄 :=
  iprop(∃ g u, ⌜SG.view.read (Elt F) g = bk c WG wg e j ∧ SU.view.read (Elt F) u = bk c WU wu e j⌝ ∗ flight c s4 SG WG g wg ∗ flight c s5 SU WU u wu)

/-- The copies after a point in group `g` of `N`, column `j`. -/
def stage (c : Dev nD) (t3 : MBuf (F := F) c T3) (wg : MBuf (F := F) c WG) (wu : MBuf (F := F) c WU) (N g j : ℕ) : sProp 𝕄 :=
  if col g N j < 4 then inflight c wg wu (expOf c t3 (nxt g N)) (col g N j) else idle c wg wu

/-- The rounded blocks of expert `e` and column `j`. -/
def gateB (c : Dev nD) (wg : MBuf (F := F) c WG) (e j : ℕ) : Vec F S2048x1024 .bf16 := k0_pay3 (bk c WG wg e j)
def upB (c : Dev nD) (wu : MBuf (F := F) c WU) (e j : ℕ) : Vec F S2048x1024 .bf16 := k0_pay4 (bk c WU wu e j)

/-- What the body holds before point `t`, beside the tables and the windows. -/
def held (c : Dev nD) (te : ℕ → BitVec 32) (t3 : MBuf (F := F) c T3) (wg : MBuf (F := F) c WG) (wu : MBuf (F := F) c WU) : ℕ → sProp 𝕄
  | 0 => iprop((∃ f, pt c BG fullShare f) ∗ (∃ f, pt c BU fullShare f) ∗ idle c wg wu)
  | p + 1 => iprop(wts c (gateB c wg (te (p % 44)).toNat (p / 44)) (upB c wu (te (p % 44)).toNat (p / 44)) ∗ stage c t3 wg wu (grp te 43 + 1) (grp te (p % 44)) (p / 44))

variable {c : Dev nD} {te : ℕ → BitVec 32} {t1 : MBuf (F := F) c T1} {t2 : MBuf (F := F) c T2} {t3 : MBuf (F := F) c T3} {t4 : MBuf (F := F) c T4}

theorem rd3_congr {off off' : Fin 1 → ℕ} (e : off = off') (h : ∀ a, off a + S1.size a ≤ S44.size a) (h' : ∀ a, off' a + S1.size a ≤ S44.size a) :
    rd c T3 t3 off h = rd c T3 t3 off' h' := by subst e; rfl

theorem expOf_lt (ok : Ok c te t1 t2 t3 t4) (k : ℕ) : expOf c t3 k < 16 := by
  unfold expOf; split
  · exact ok.f3lt _ _
  · omega

theorem expOf_eq (ok : Ok c te t1 t2 t3 t4) (n : ℕ) (hn : n < 44) : expOf c t3 (grp te n) = (te n).toNat := by
  have h := grp_le te n
  unfold expOf
  rw [dif_pos (by omega)]
  exact congrArg BitVec.toNat (ok.f3 _ _ n hn rfl)

theorem grp_lt (te : ℕ → BitVec 32) {n : ℕ} (hn : n < 44) : grp te n < 44 := (grp_le te n).trans_lt hn
theorem ng_lt (te : ℕ → BitVec 32) : grp te 43 + 1 < 45 := by have := grp_le te 43; omega

/-- The opening of a tile's group finds its blocks under way. -/
theorem stage_opens (ok : Ok c te t1 t2 t3 t4) (wg : MBuf (F := F) c WG) (wu : MBuf (F := F) c WU) (p : ℕ) (hp : p + 1 < 176) (ho : opens te ((p + 1) % 44) = true) :
    stage c t3 wg wu (grp te 43 + 1) (grp te (p % 44)) (p / 44) = inflight c wg wu (te ((p + 1) % 44)).toNat ((p + 1) / 44) := by
  have key : ∀ n j, n < 44 → j < 4 → nxt (grp te (p % 44)) (grp te 43 + 1) = grp te n → col (grp te (p % 44)) (grp te 43 + 1) (p / 44) = j →
      stage c t3 wg wu (grp te 43 + 1) (grp te (p % 44)) (p / 44) = inflight c wg wu (te n).toNat j := by
    intro n j hn hj e1 e2
    unfold stage
    rw [e1, e2, if_pos hj, expOf_eq ok n hn]
  refine key _ _ (Nat.mod_lt _ (by omega)) (by omega) ?_ ?_
  all_goals
    by_cases h : p % 44 = 43
    · rw [show (p + 1) % 44 = 0 by omega] at *
      first
        | (rw [h]; unfold nxt; rw [if_pos (le_refl _)]; rfl)
        | (rw [h]; unfold col; rw [if_pos (le_refl _)]; omega)
    · have e : (p + 1) % 44 = p % 44 + 1 := by omega
      rw [e] at ho
      have hg : grp te (p % 44 + 1) = grp te (p % 44) + 1 := by
        show grp te (p % 44) + (opens te (p % 44 + 1)).toNat = _
        rw [ho]; rfl
      have hm : grp te (p % 44 + 1) ≤ grp te 43 := grp_mono te (by omega)
      first
        | (rw [e, hg]; unfold nxt; rw [if_neg (by omega)])
        | (unfold col; rw [if_neg (by omega)]; omega)

/-- A tile that opens no group leaves what is held as it is. -/
theorem held_carry (wg : MBuf (F := F) c WG) (wu : MBuf (F := F) c WU) (p : ℕ) (ho : opens te ((p + 1) % 44) = false) :
    held c te t3 wg wu (p + 1 + 1) = held c te t3 wg wu (p + 1) := by
  have h0 : (p + 1) % 44 ≠ 0 := fun h => by rw [h] at ho; cases ho
  have e : (p + 1) % 44 = p % 44 + 1 := by omega
  have e' : (p + 1) / 44 = p / 44 := by omega
  rw [e] at ho
  have hg : grp te (p % 44 + 1) = grp te (p % 44) := by
    show grp te (p % 44) + (opens te (p % 44 + 1)).toNat = _
    rw [ho]; rfl
  have ht : te (p % 44 + 1) = te (p % 44) := te_of_grp te hg
  simp only [held]
  rw [e, e', hg, ht]

variable (i : grid0.Coords)
    (arg7 : Memref sig .tc .vmem S512x2048 .f32) (harg7 : arg7.IsWhole) (arg10 : Memref sig .tc .vmem S512x1024 .bf16) (harg10 : arg10.IsWhole)
    (t0 : MBuf (F := F) c T0) (x : Vec F S512x2048 .f32) (wg : MBuf (F := F) c WG) (wu : MBuf (F := F) c WU)

set_option maxHeartbeats 1000000 in
/-- One grid point. -/
theorem body_step (ok : Ok c te t1 t2 t3 t4) (t : ℕ) (ht : t < 176) (i0 : (i 0).val = t / 44) (i1 : (i 1).val = t % 44)
    (W : Waits sig Unit) (K : PUnit → sProp 𝕄) :
    iprop(tabs c t0 t1 t2 t3 t4 ∗ held c te t3 wg wu t ∗ owes (c : Thread nD τ) 0 W ∗ owns (c : Thread nD τ) arg7 fullShare x ∗ (∃ X, owns (c : Thread nD τ) arg10 fullShare X)
        ∗ (iprop(tabs c t0 t1 t2 t3 t4 ∗ held c te t3 wg wu (t + 1) ∗ (∃ W, owes (c : Thread nD τ) 0 W) ∗ owns (c : Thread nD τ) arg7 fullShare x
            ∗ outAt c arg10 (rd c T0 t0 (k0_off7 i) (k0_off7_inb i)) x (gateB c wg (te (t % 44)).toNat (t / 44)) (upB c wu (te (t % 44)).toNat (t / 44))) -∗ K ⟨⟩))
      ⊢ wp frame (wpE (defs₀ (F := F)) Variants.none c none) Set.univ (cc0_moe_up (F := F) i T0 (Memref.isWhole_whole _) T1 (Memref.isWhole_whole _) T2 (Memref.isWhole_whole _) T3 (Memref.isWhole_whole _) T4 (Memref.isWhole_whole _) arg7 harg7 WG (Memref.isWhole_whole _) WU (Memref.isWhole_whole _) arg10 harg10 SG (Memref.isWhole_whole _) SU (Memref.isWhole_whole _) BG (Memref.isWhole_whole _) BU (Memref.isWhole_whole _) cc0_scratch4) K := by
  have hn : t % 44 < 44 := Nat.mod_lt _ (by omega)
  have hj : t / 44 < 4 := by omega
  have hg := grp_lt te hn
  have hN := ng_lt te
  have e1 : rd c T1 t1 (k0_off1 i) (k0_off1_inb i) = BitVec.ofNat 32 (opens te (t % 44)).toNat := by rw [ok.f1, off1_eq, i1]
  have e2 : rd c T2 t2 (k0_off1 i) (k0_off1_inb i) = BitVec.ofNat 32 (grp te (t % 44)) := by rw [ok.f2, off1_eq, i1]
  have hk2 := chk2_ok i (grp te (t % 44)) (grp te 43 + 1) hg hN (rd c T1 t1 (k0_off1 i) (k0_off1_inb i))
  have hk3 : ∀ h, k0_chk3 i (rd c T1 t1 (k0_off1 i) (k0_off1_inb i)) (rd c T3 t3 (k0_off3 (BitVec.ofNat 32 (grp te (t % 44)))) h) := fun h => chk3_ok i _ _ (ok.f3lt _ _)
  have hk4 : ∀ h, k0_chk4 i (BitVec.ofNat 32 (grp te (t % 44))) (BitVec.ofNat 32 (grp te 43 + 1)) (rd c T1 t1 (k0_off1 i) (k0_off1_inb i)) (rd c T3 t3 (k0_off5 (BitVec.ofNat 32 (grp te (t % 44))) (BitVec.ofNat 32 (grp te 43 + 1))) h) :=
    fun h => chk4_ok i _ _ hg hN _ _ (ok.f3lt _ _)
  have hoff : ∀ h, k0_off6 i (BitVec.ofNat 32 (grp te (t % 44))) (BitVec.ofNat 32 (grp te 43 + 1)) (rd c T3 t3 (k0_off5 (BitVec.ofNat 32 (grp te (t % 44))) (BitVec.ofNat 32 (grp te 43 + 1))) h)
      = ![expOf c t3 (nxt (grp te (t % 44)) (grp te 43 + 1)), 0, col (grp te (t % 44)) (grp te 43 + 1) (t / 44) * 1024] := fun h => by
    rw [off6_eq i _ _ hg hN, i0]
    congr 1
    unfold expOf
    rw [dif_pos (nxt_lt hN)]
    exact congrArg BitVec.toNat (rd3_congr (off5_eq _ _ hg hN) _ _)
  have h3 := cond3_iff i (grp te (t % 44)) (grp te 43 + 1) hg hN
  rw [i0] at h3
  have hinb : col (grp te (t % 44)) (grp te 43 + 1) (t / 44) < 4 → ∀ a, (![expOf c t3 (nxt (grp te (t % 44)) (grp te 43 + 1)), 0, col (grp te (t % 44)) (grp te 43 + 1) (t / 44) * 1024] : Fin 3 → ℕ) a + S1x2048x1024.size a ≤ S16x2048x4096.size a :=
    fun h => inb_block (expOf_lt ok _) h
  cases hop : opens te (t % 44) with
  | false =>
    cases t with
    | zero => cases hop
    | succ p =>
      rw [held_carry wg wu p hop]
      simp only [held]
      have h0 : (p + 1) % 44 ≠ 0 := fun h => by rw [h] at hop; cases hop
      have e : (p + 1) % 44 = p % 44 + 1 := by omega
      have e' : (p + 1) / 44 = p / 44 := by omega
      have ht : te ((p + 1) % 44) = te (p % 44) := by
        rw [e]
        refine te_of_grp te ?_
        show grp te (p % 44) + (opens te (p % 44 + 1)).toNat = _
        rw [← e, hop]; rfl
      rw [ht, e']
      iintro ⟨HT, ⟨HW, HS⟩, HO, H7, H10, Hk⟩
      iapply (body_carry c i arg7 harg7 arg10 harg10 t0 t1 t2 t3 t4 x _ _ (by rw [e1, hop, cond1_iff]; exact Bool.false_ne_true) K)
      isplitl [HT]; · iexact HT
      isplitl [HW]; · iexact HW
      isplitl [H7]; · iexact H7
      isplitl [H10]; · iexact H10
      iintro ⟨HT, HW, H7, H10⟩
      iapply Hk
      isplitl [HT]; · iexact HT
      isplitl [HW HS]
      · isplitl [HW]; · iexact HW
        iexact HS
      isplitl [HO]; · iexists _; iexact HO
      isplitl [H7]; · iexact H7
      iexact H10
  | true =>
    have h1 : k0_cond1 (rd c T1 t1 (k0_off1 i) (k0_off1_inb i)) = 1#1 := by rw [e1, hop, cond1_iff]
    cases t with
    | zero =>
      have hc : col (grp te (0 % 44)) (grp te 43 + 1) (0 / 44) < 4 := by unfold col; split <;> omega
      have hr : rd c T3 t3 ![0] inb_S44_S1_0 = te (0 % 44) := ok.f3 _ _ 0 (by omega) rfl
      have ho2 : k0_off2 (rd c T3 t3 ![0] inb_S44_S1_0) = ![(te (0 % 44)).toNat, 0, 0 / 44 * 1024] := by
        rw [hr]; rfl
      have hin2 : ∀ a, (![(te (0 % 44)).toNat, 0, 0 / 44 * 1024] : Fin 3 → ℕ) a + S1x2048x1024.size a ≤ S16x2048x4096.size a := inb_block (ok.lt _) hj
      simp only [held]
      unfold stage idle inflight
      rw [if_pos hc]
      iintro ⟨HT, ⟨HBG, HBU, HI⟩, HO, H7, H10, Hk⟩
      icases HI with ⟨HA, HB, HC, HD, HE, HF⟩
      iapply (body_first c i arg7 harg7 arg10 harg10 t0 t1 t2 t3 t4 x wg wu _ _ e2 ok.f4 h1 hk2 hk3
        ((cond2_iff i _ hg).2 ⟨by rw [i0], rfl⟩) (fun v hv => chk1_ok i _ _ _ (by rw [hv]; exact ok.f3lt _ _)) _ ho2 hin2 (h3.2 hc) hk4 _ hoff (hinb hc) W K)
      isplitl [HT]; · iexact HT
      isplitl [HBG]; · iexact HBG
      isplitl [HBU]; · iexact HBU
      isplitl [HA]; · iexact HA
      isplitl [HB]; · iexact HB
      isplitl [HC]; · iexact HC
      isplitl [HD]; · iexact HD
      isplitl [HE]; · iexact HE
      isplitl [HF]; · iexact HF
      isplitl [HO]; · iexact HO
      isplitl [H7]; · iexact H7
      isplitl [H10]; · iexact H10
      rw [blk_bk c WG wg _ _ (ok.lt _) hj _ hin2 rfl, blk_bk c WU wu _ _ (ok.lt _) hj _ hin2 rfl, blk_bk c WG wg _ _ (expOf_lt ok _) hc _ (hinb hc) rfl, blk_bk c WU wu _ _ (expOf_lt ok _) hc _ (hinb hc) rfl]
      iintro ⟨HT, HW, HS, HO, H7, H10⟩
      iapply Hk
      isplitl [HT]; · iexact HT
      isplitl [HW HS]
      · isplitl [HW]; · iexact HW
        iexact HS
      isplitl [HO]; · iexact HO
      isplitl [H7]; · iexact H7
      iexact H10
    | succ p =>
      have h2 : ¬ k0_cond2 i (BitVec.ofNat 32 (grp te ((p + 1) % 44))) = 1#1 := by
        rw [cond2_iff i _ hg, i0]
        rintro ⟨ha, hb⟩
        have e : (p + 1) % 44 = p + 1 := by omega
        rw [e] at hop hb
        have hb' : grp te p + (opens te (p + 1)).toNat = 0 := hb
        rw [hop] at hb'
        have hb'' : grp te p + 1 = 0 := hb'
        omega
      simp only [held]
      rw [stage_opens ok wg wu p ht hop]
      by_cases hc : col (grp te ((p + 1) % 44)) (grp te 43 + 1) ((p + 1) / 44) < 4
      · unfold stage inflight
        rw [if_pos hc]
        iintro ⟨HT, ⟨⟨HBG, HBU⟩, ⟨%g, %u, %hgu, HFg, HFu⟩⟩, HO, H7, H10, Hk⟩
        obtain ⟨hg', hu'⟩ := hgu
        iapply (body_next c i arg7 harg7 arg10 harg10 t0 t1 t2 t3 t4 x wg wu _ _ e2 ok.f4 h1 hk2 hk3 g u h2 (h3.2 hc) hk4 _ hoff (hinb hc) W K)
        isplitl [HT]; · iexact HT
        isplitl [HBG]; · iexists _; iexact HBG
        isplitl [HBU]; · iexists _; iexact HBU
        isplitl [HFg]; · iexact HFg
        isplitl [HFu]; · iexact HFu
        isplitl [HO]; · iexact HO
        isplitl [H7]; · iexact H7
        isplitl [H10]; · iexact H10
        rw [hg', hu', blk_bk c WG wg _ _ (expOf_lt ok _) hc _ (hinb hc) rfl, blk_bk c WU wu _ _ (expOf_lt ok _) hc _ (hinb hc) rfl]
        iintro ⟨HT, HW, HS, HO, H7, H10⟩
        iapply Hk
        isplitl [HT]; · iexact HT
        isplitl [HW HS]
        · isplitl [HW]; · iexact HW
          iexact HS
        isplitl [HO]; · iexact HO
        isplitl [H7]; · iexact H7
        iexact H10
      · unfold stage inflight idle
        rw [if_neg hc]
        iintro ⟨HT, ⟨⟨HBG, HBU⟩, ⟨%g, %u, %hgu, HFg, HFu⟩⟩, HO, H7, H10, Hk⟩
        obtain ⟨hg', hu'⟩ := hgu
        iapply (body_last c i arg7 harg7 arg10 harg10 t0 t1 t2 t3 t4 x wg wu _ _ e2 ok.f4 h1 hk2 hk3 g u h2 (fun h => hc (h3.1 h)) W K)
        isplitl [HT]; · iexact HT
        isplitl [HBG]; · iexists _; iexact HBG
        isplitl [HBU]; · iexists _; iexact HBU
        isplitl [HFg]; · iexact HFg
        isplitl [HFu]; · iexact HFu
        isplitl [HO]; · iexact HO
        isplitl [H7]; · iexact H7
        isplitl [H10]; · iexact H10
        rw [hg', hu']
        iintro ⟨HT, HW, ⟨HA, HB, HC, HD, HE, HF⟩, HO, H7, H10⟩
        iapply Hk
        isplitl [HT]; · iexact HT
        isplitl [HW HA HB HC HD HE HF]
        · isplitl [HW]; · iexact HW
          isplitl [HA]; · iexists _; iexact HA
          isplitl [HB]; · iexists _; iexact HB
          isplitl [HC]; · iexact HC
          isplitl [HD]; · iexact HD
          isplitl [HE]; · iexact HE
          iexact HF
        isplitl [HO]; · iexact HO
        isplitl [H7]; · iexact H7
        iexact H10

end Cert.Wide

end
-- ==== Proof.Wide.Run.lean ====
/-
The grid's run: what every point finds and leaves, and what the call leaves behind.
-/
module

public import proofs.«01_k».proof.Proof.Wide.Start
public import proofs.«01_k».proof.Proof.Wide.Step
public import Idealize.ShloMosaic.Lib.Claim

@[expose] public section

set_option maxRecDepth 16384

noncomputable section

namespace Cert.Wide

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

/-- The stacked weights, as the call finds them. -/
def G0 (c : Dev nD) : MBuf (F := F) c WG := V m c main_v0
def U0 (c : Dev nD) : MBuf (F := F) c WU := V m c main_v1

/-- Window `w`'s block at point `t`, of the arrays the call finds. -/
def iblk (c : Dev nD) (w : Fin 2) (t : Fin (cfgM m).N) := (((cfgM m).win w).blk t).view.read (Elt F) (V m c (Pipeline.arrRef spec0 w))

/-- The block of tokens at point `t`. -/
def xblk (c : Dev nD) (t : Fin (cfgM m).N) : Vec F S512x2048 .f32 := iblk m c 0 t

/-- The output block of point `t`. -/
def outT (c : Dev nD) (t : Fin (cfgM m).N) : Vec F S512x1024 .bf16 :=
  outVal (rd c T0 (W0 m c) (k0_off7 (grid0.coords t)) (k0_off7_inb (grid0.coords t))) (xblk m c t)
    (gateB c (G0 m c) (wordAt (tea m c) (t.val % 44)).toNat (t.val / 44)) (upB c (U0 m c) (wordAt (tea m c) (t.val % 44)).toNat (t.val / 44))

/-- What the body holds before point `t`. -/
def Phi (c : Dev nD) (t : ℕ) : sProp 𝕄 :=
  iprop(tabs c (W0 m c) (W1 m c) (W2 m c) (W3 m c) (W4 m c) ∗ (∃ r, prngReg c r) ∗ held c (wordAt (tea m c)) (W3 m c) (G0 m c) (U0 m c) t)

/-- The call's data. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outT m c t
  Φ t := Phi m c t.val
  q _ := fullShare
  owed _ := 0

theorem A_eq (c : Dev nD) (w : Fin (cfgM m).W) : (dats m 0 c).A w = V m c (Pipeline.arrRef spec0 w) := by dsimp only [dats]
theorem after_0 (c : Dev nD) (t : Fin (cfgM m).N) : (dats m 0 c).after 0 t = iblk m c 0 t := rfl
theorem after_1 (c : Dev nD) (t : Fin (cfgM m).N) : (dats m 0 c).after 1 t = outT m c t := rfl
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-- The body's call at point `t`. -/
theorem row (t : Fin (cfgM m).N) : defs₀ (F := F) .tc (cfgM m).body ((cfgM m).bodyArgs t ((cfgM m).slots t))
    = cc0_moe_up (F := F) (grid0.coords t) T0 (Memref.isWhole_whole _) T1 (Memref.isWhole_whole _) T2 (Memref.isWhole_whole _) T3 (Memref.isWhole_whole _) T4 (Memref.isWhole_whole _) (spec0_0.stage ((cfgM m).slots t 0)) (hstage0_0 (((cfgM m).slots t 0).cast nbuf0_0)) WG (Memref.isWhole_whole _) WU (Memref.isWhole_whole _) (spec0_1.stage ((cfgM m).slots t 1)) (hstage0_1 (((cfgM m).slots t 1).cast nbuf0_1)) SG (Memref.isWhole_whole _) SU (Memref.isWhole_whole _) BG (Memref.isWhole_whole _) BU (Memref.isWhole_whole _) cc0_scratch4 := by
  unfold defs₀; rw [Defs.onTc_tc]

theorem lt_N (t : Fin (cfgM m).N) : t.val < 176 := t.isLt.trans_eq N_0

theorem coord0 (t : Fin (cfgM m).N) : (grid0.coords t 0).val = t.val / 44 := by
  have := lt_N m t
  rw [show (grid0.coords t 0).val = t.val / 44 % 4 from Pipeline.Grid.coords_val (G := grid0) t 0 (S := 44) (B := 4) (by decide) rfl]; omega
theorem coord1 (t : Fin (cfgM m).N) : (grid0.coords t 1).val = t.val % 44 := by
  have := lt_N m t
  rw [show (grid0.coords t 1).val = t.val / 1 % 44 from Pipeline.Grid.coords_val (G := grid0) t 1 (S := 1) (B := 44) (by decide) rfl]; omega

/-- One point of the run, in the call's own terms. -/
theorem point (hm : Experts m) (c : Dev nD) (t : Fin (cfgM m).N) (K : PUnit → sProp 𝕄) :
    iprop(Phi m c t.val ∗ (dats m 0 c).owesAt () t.castSucc ∗ owns (c : Thread nD τ) (spec0_0.stage ((cfgM m).slots t 0)) fullShare (xblk m c t)
        ∗ (∃ X, owns (c : Thread nD τ) (spec0_1.stage ((cfgM m).slots t 1)) fullShare X)
        ∗ (iprop(Phi m c (t.val + 1) ∗ (dats m 0 c).owesAt () t.succ ∗ owns (c : Thread nD τ) (spec0_0.stage ((cfgM m).slots t 0)) fullShare (xblk m c t)
            ∗ (∃ X, ⌜Legal (rd c T0 (W0 m c) (k0_off7 (grid0.coords t)) (k0_off7_inb (grid0.coords t))) → X = outT m c t⌝
                ∗ owns (c : Thread nD τ) (spec0_1.stage ((cfgM m).slots t 1)) fullShare X)) -∗ K ⟨⟩))
      ⊢ wp frame (wpE (defs₀ (F := F)) Variants.none c none) Set.univ (defs₀ (F := F) .tc (cfgM m).body ((cfgM m).bodyArgs t ((cfgM m).slots t))) K := by
  rw [row]
  unfold Phi Dat.owesAt Pipeline.owesWithin
  rw [show (dats m 0 c).owed t.castSucc = 0 from rfl, show (dats m 0 c).owed t.succ = 0 from rfl]
  istart
  iintro ⟨⟨HT, HP, HH⟩, ⟨%W, %hW, HO⟩, HX, HY, HK⟩
  iapply (body_step (F := F) (c := c) (grid0.coords t) (spec0_0.stage ((cfgM m).slots t 0)) (hstage0_0 (((cfgM m).slots t 0).cast nbuf0_0))
    (spec0_1.stage ((cfgM m).slots t 1)) (hstage0_1 (((cfgM m).slots t 1).cast nbuf0_1)) (W0 m c) (xblk m c t) (G0 m c) (U0 m c)
    (ok_tbl m hm c) t.val (lt_N m t) (coord0 m t) (coord1 m t) W K)
  iframe HT HH HO HX HY
  iintro ⟨HT, HH, ⟨%W', HO⟩, HX, ⟨%X, %hX, HY⟩⟩
  iapply HK
  iframe HT HP HH HX
  isplitl [HO]
  · iexists W'
    isplitr
    · ipureintro; exact fun _ _ => Or.inl trivial
    · iexact HO
  · iexists X
    isplitr
    · ipureintro; exact hX
    · iexact HY

/-- The same, of the windows as the call numbers them. -/
theorem point' (hm : Experts m) (c : Dev nD) (t : Fin (cfgM m).N) (K : PUnit → sProp 𝕄) :
    iprop(Phi m c t.val ∗ (dats m 0 c).owesAt () t.castSucc ∗ owns (c : Thread nD τ) (((cfgM m).win 0).stage ((cfgM m).slots t 0)) fullShare (iblk m c 0 t)
        ∗ (∃ X, owns (c : Thread nD τ) (((cfgM m).win 1).stage ((cfgM m).slots t 1)) fullShare X)
        ∗ (iprop(Phi m c (t.val + 1) ∗ (dats m 0 c).owesAt () t.succ ∗ owns (c : Thread nD τ) (((cfgM m).win 0).stage ((cfgM m).slots t 0)) fullShare (iblk m c 0 t)
            ∗ (∃ X, ⌜Legal (rd c T0 (W0 m c) (k0_off7 (grid0.coords t)) (k0_off7_inb (grid0.coords t))) → X = (dats m 0 c).after 1 t⌝
                ∗ owns (c : Thread nD τ) (((cfgM m).win 1).stage ((cfgM m).slots t 1)) fullShare X)) -∗ K ⟨⟩))
      ⊢ wp frame (wpE (defs₀ (F := F)) Variants.none c none) Set.univ (defs₀ (F := F) .tc (cfgM m).body ((cfgM m).bodyArgs t ((cfgM m).slots t))) K :=
  point m hm c t K

/-! ## Into the run and out of it -/

theorem held_0 (c : Dev nD) (te : ℕ → BitVec 32) (t3 : MBuf (F := F) c T3) (wg : MBuf (F := F) c WG) (wu : MBuf (F := F) c WU) :
    (held c te t3 wg wu 0 : sProp 𝕄) = iprop((∃ f, pt c BG fullShare f) ∗ (∃ f, pt c BU fullShare f) ∗ idle c wg wu) := rfl

/-- After the last point no copy is under way. -/
theorem held_last (c : Dev nD) (te : ℕ → BitVec 32) (t3 : MBuf (F := F) c T3) (wg : MBuf (F := F) c WG) (wu : MBuf (F := F) c WU) :
    ∃ a b, (held c te t3 wg wu 176 : sProp 𝕄) = iprop(wts c a b ∗ idle c wg wu) := by
  refine ⟨gateB c wg (te (175 % 44)).toNat (175 / 44), upB c wu (te (175 % 44)).toNat (175 / 44), ?_⟩
  show iprop(wts c (gateB c wg (te (175 % 44)).toNat (175 / 44)) (upB c wu (te (175 % 44)).toNat (175 / 44)) ∗ stage c t3 wg wu (grp te 43 + 1) (grp te 43) 3) = _
  unfold stage col
  rw [if_neg (by rw [if_pos (le_refl _)]; omega)]

theorem own_eq (c : Dev nD) : (Pipeline.ownSems0 (Ix := Unit) (Name := ℕ) (U := Pipeline.UD sig nD τ) (Lvl := ℕ) (Val := Elt F) (τ := τ) osem c : sProp 𝕄)
    = iprop(semVal ((c : Thread nD τ), SemLoc.dma s4) 0 ∗ semVal ((c : Thread nD τ), SemLoc.dma s5) 0) := by
  unfold Pipeline.ownSems0
  rw [show (Finset.univ : Finset (Fin 2)) = insert 0 {1} from by decide, bigSep_insert (by decide), bigSep_singleton]
  rfl

theorem HW_eq (c : Dev nD) : (bigSep HW fun b => ((c : Thread nD τ).loc b) ↦{fullShare} V m c b : sProp 𝕄)
    = iprop(pt c WG fullShare (G0 m c) ∗ pt c WU fullShare (U0 m c)) := by
  rw [bigSep_insert (by decide), bigSep_singleton]
  rfl

theorem tabs_eq (c : Dev nD) : (Pipeline.ΦT pre0 (tbl m) c : sProp 𝕄) = tabs c (W0 m c) (W1 m c) (W2 m c) (W3 m c) (W4 m c) := by
  rw [PhiT_eq]
  obtain rfl : c = 0 := Subsingleton.elim _ _
  rfl

theorem hin (c : Dev nD) : iprop(Pipeline.ΦD osem spec0 HW (V m) c ∗ Pipeline.ΦT pre0 (tbl m) c) ⊢ (Phi m c 0 : sProp 𝕄) := by
  rw [Pipeline.ΦD_eq, own_eq, HW_eq, tabs_eq, scopedRest0_eq]
  unfold Phi
  rw [held_0]
  unfold idle
  istart
  iintro ⟨⟨⟨H0, H1, H2, H3⟩, HP, ⟨S4, S5⟩, ⟨HG, HU⟩⟩, HT⟩
  iframe HT HP H2 H3 H0 H1 HG HU S4 S5

theorem hout (c : Dev nD) : (Phi m c 176 : sProp 𝕄) ⊢ Pipeline.ΦD osem spec0 HW (V m) c := by
  rw [Pipeline.ΦD_eq, own_eq, HW_eq, scopedRest0_eq]
  unfold Phi
  obtain ⟨a, b, h⟩ := held_last c (wordAt (tea m c)) (W3 m c) (G0 m c) (U0 m c)
  rw [h]
  unfold idle
  istart
  iintro ⟨HT, HP, ⟨HA, HB⟩, ⟨H0, H1, HG, HU, S4, S5⟩⟩
  iframe HP H0 H1 HG HU S4 S5
  isplitl [HA]
  · iexists _; iexact HA
  · iexists _; iexact HB

/-! ## The obligations -/

/-- The output window's contents left unnamed. -/
abbrev fgt : Fin 2 → Bool := fun w => w == 1

theorem phi_before (c : Dev nD) (t : Fin (cfgM m).N) : (dats m 0 c).Φ t.castSucc = Phi m c t.val := by
  dsimp only [dats]; exact Dat.Φ_castSucc (fun n _ => Phi m c n) t
theorem phi_after (c : Dev nD) (t : Fin (cfgM m).N) : (dats m 0 c).Φ t.succ = Phi m c (t.val + 1) := rfl

theorem body_forget (hm : Experts m) (c : Dev nD) : BodyObligationLoose (dats m 0 c) (defs₀ (F := F)) Variants.none () Set.univ fgt := by
  intro t
  rw [bigSep_W0, bigSep_W0]
  rw [phi_before, phi_after]
  show iprop(Phi m c t.val ∗ (dats m 0 c).owesAt () t.castSucc ∗ ((∃ d, owns (c : Thread nD τ) (((cfgM m).win 0).stage ((cfgM m).slots t 0)) fullShare ((dats m 0 c).before 0 t d)) ∗ (∃ X, owns (c : Thread nD τ) (((cfgM m).win 1).stage ((cfgM m).slots t 1)) fullShare X)))
    ⊢ wp frame (wpE (defs₀ (F := F)) Variants.none c none) Set.univ (defs₀ (F := F) .tc (cfgM m).body ((cfgM m).bodyArgs t ((cfgM m).slots t)))
      (fun _ => iprop(Phi m c (t.val + 1) ∗ (dats m 0 c).owesAt () t.succ ∗ (owns (c : Thread nD τ) (((cfgM m).win 0).stage ((cfgM m).slots t 0)) fullShare ((dats m 0 c).after 0 t) ∗ (∃ X, owns (c : Thread nD τ) (((cfgM m).win 1).stage ((cfgM m).slots t 1)) fullShare X))))
  istart
  iintro ⟨HΦ, HO, ⟨%d, HX⟩, HY⟩
  iapply (point' m hm c t)
  rw [before_0, after_0]
  iframe HΦ HO HX HY
  iintro ⟨HΦ, HO, HX, ⟨%X, %hX, HY⟩⟩
  iframe HΦ HO HX
  iexists X
  iexact HY

end Cert.Wide

end
-- ==== Proof.Wide.Launch.lean ====
/-
The whole run: it ends, its arguments are as they were, every counter is at zero, and where the
valid-row words are ones the kernel counts by its result is the points' blocks.
-/
module

public import proofs.«01_k».proof.Proof.Wide.Run

@[expose] public section

set_option maxRecDepth 16384

noncomputable section

namespace Cert.Wide

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every valid-row word is one the kernel counts by. -/
def Rows : Prop := ∀ (c : Dev nD) i, Legal (m ((c : Thread nD τ).loc main_arg2) i)

theorem legal_word (hr : Rows m) (c : Dev nD) (off : Fin 1 → ℕ) (h : ∀ a, off a + S1.size a ≤ S44.size a) : Legal (rd c T0 (W0 m c) off h) := by
  rw [rd_T0 c _ off h]
  have e : W0 m c = m ((c : Thread nD τ).loc main_arg2) := V_arg2 m c
  exact (congrFun e _).symm ▸ hr c _

/-- Every point writes its output block back. -/
theorem flush_1 (t : Fin (cfgM m).N) : ((cfgM m).win 1).flush t = true :=
  (Pipeline.Window.flush_reads ((cfgM m).win 1) rfl (1 : Fin 2) (show 1 < grid0.bound 1 by decide) rfl
    (fun i i' h => Pipeline.Window.sep_of_coord cc0_transform_3 (1 : Fin 2) (0 : Fin 2) (fun _ => rfl) (by decide) i i' h) (P := 1) (m := 0) (show grid0.stride 1 = 1 by decide) rfl t).2 (Nat.mod_one _)

theorem leaves_1 (c : Dev nD) (t : Fin (cfgM m).N) :
    (owns (c : Thread nD τ) (((cfgM m).win 1).stage ((cfgM m).slots t 1)) fullShare ((dats m 0 c).after 1 t) : sProp 𝕄) ⊢ (dats m 0 c).leavesExact 1 t := by
  unfold Dat.leavesExact
  rw [flush_1]
  cases (cfgM m).idle 1 ((cfgM m).grid.coords t)
  · exact .rfl
  · exact .rfl

theorem body_exact (hm : Experts m) (hr : Rows m) (c : Dev nD) : BodyObligation (dats m 0 c) (defs₀ (F := F)) Variants.none () Set.univ := by
  intro t
  rw [bigSep_W0, bigSep_W0]
  rw [phi_before, phi_after]
  show iprop(Phi m c t.val ∗ (dats m 0 c).owesAt () t.castSucc ∗ ((∃ d, owns (c : Thread nD τ) (((cfgM m).win 0).stage ((cfgM m).slots t 0)) fullShare ((dats m 0 c).before 0 t d)) ∗ (∃ d, owns (c : Thread nD τ) (((cfgM m).win 1).stage ((cfgM m).slots t 1)) fullShare ((dats m 0 c).before 1 t d))))
    ⊢ wp frame (wpE (defs₀ (F := F)) Variants.none c none) Set.univ (defs₀ (F := F) .tc (cfgM m).body ((cfgM m).bodyArgs t ((cfgM m).slots t)))
      (fun _ => iprop(Phi m c (t.val + 1) ∗ (dats m 0 c).owesAt () t.succ ∗ (owns (c : Thread nD τ) (((cfgM m).win 0).stage ((cfgM m).slots t 0)) fullShare ((dats m 0 c).after 0 t) ∗ (dats m 0 c).leavesExact 1 t)))
  istart
  iintro ⟨HΦ, HO, ⟨%d, HX⟩, ⟨%d', HY⟩⟩
  iapply (point' m hm c t)
  rw [before_0, after_0]
  iframe HΦ HO HX
  isplitl [HY]
  · iexists _; iexact HY
  iintro ⟨HΦ, HO, HX, ⟨%X, %hX, HY⟩⟩
  iframe HΦ HO HX
  obtain rfl := hX (legal_word m hr c _ _)
  iapply (leaves_1 m c t)
  iexact HY

theorem hA (c : Dev nD) (w : Fin (cfgM m).W) : (dats m 0 c).A w = V m c (Pipeline.arrRef spec0 w) := A_eq m c w

set_option backward.isDefEq.respectTransparency.types false in
/-- The run, its result left unnamed. -/
theorem run_forget (hm : Experts m) : θ_run defs (onTc (τ := τ) (main (F := F))) (s₀ m ρ)
    (fun r => Pipeline.RDat.FramePost (cfgM m) (fun c => (dats m 0 c).toRForget fgt) (V m) r ∧ r.2.sem = fun _ => 0) :=
  Pipeline.θ_run_frameP_dma_forget (Q' := _) pcfgs (fun _ => adm m) (dats m) (0 : Fin 1) launch0 osem defs₀ Variants.none fgt ownSemFacts HW HW_sub m ρ main
    (hbody := body_forget m hm) (hshare := fun c w => by fin_cases w <;> rfl) (howed := fun _ _ => rfl) (V := V m) (hmain := hmain m Variants.none) (hA := A_eq m) (hpf := V_pre m)
    (hin := hin m) (hout := hout m)

set_option backward.isDefEq.respectTransparency.types false in
/-- The run, its result the points' blocks. -/
theorem run_exact (hm : Experts m) (hr : Rows m) : θ_run defs (onTc (τ := τ) (main (F := F))) (s₀ m ρ)
    (fun r => Pipeline.FramePost (Pipeline.pin pcfgs (fun _ => adm m)) (dats m) 0 (V m) r ∧ r.2.sem = fun _ => 0) :=
  Pipeline.θ_run_frameP_dma (Q' := _) pcfgs (fun _ => adm m) (dats m) (0 : Fin 1) launch0 osem defs₀ Variants.none ownSemFacts HW HW_sub m ρ main
    (hbody := fun c => (body_exact m hm hr c).loose) (hshare := fun c w => by fin_cases w <;> rfl) (howed := fun _ _ => rfl) (V := V m) (hmain := hmain m Variants.none) (hA := A_eq m) (hpf := V_pre m)
    (hin := hin m) (hout := hout m)

/-- What the run leaves in the arguments. -/
theorem kept (σ : MemSt nD τ sig (Elt F)) (h : Pipeline.RDat.FramePost (cfgM m) (fun c => (dats m 0 c).toRForget fgt) (V m) (⟨⟩, σ)) (c : Dev nD) :
    σ.mem ((c.tc : Thread nD τ).loc main_arg0) = m ((c.tc : Thread nD τ).loc main_arg0)
      ∧ σ.mem ((c.tc : Thread nD τ).loc main_arg1) = m ((c.tc : Thread nD τ).loc main_arg1)
      ∧ σ.mem ((c.tc : Thread nD τ).loc main_arg2) = m ((c.tc : Thread nD τ).loc main_arg2)
      ∧ σ.mem ((c.tc : Thread nD τ).loc main_arg3) = m ((c.tc : Thread nD τ).loc main_arg3)
      ∧ σ.mem ((c.tc : Thread nD τ).loc main_arg4) = m ((c.tc : Thread nD τ).loc main_arg4) := by
  obtain ⟨hw, hrest⟩ := h c
  have hrest' : ∀ b ∈ Pipeline.restRefs sig spec0, σ.mem ((c.tc : Thread nD τ).loc b) = V m c b := hrest
  have e0 : σ.mem ((c.tc : Thread nD τ).loc main_arg0) = V m c main_arg0 :=
    (congrFun (Pipeline.RDat.ArrAt_in ((dats m 0 c).toRForget fgt) (0 : Fin 2) rfl (cfgM m).N) _).mp (hw (0 : Fin 2))
  refine ⟨e0.trans (V_arg0 m c), ?_, ?_, ?_, ?_⟩
  · exact (hrest' main_arg1 (Pipeline.mem_restRefs_of (win := spec0) main_arg1 (by decide) (by decide))).trans (V_arg1 m c)
  · exact (hrest' main_arg2 (Pipeline.mem_restRefs_of (win := spec0) main_arg2 (by decide) (by decide))).trans (V_arg2 m c)
  · exact (hrest' main_arg3 (Pipeline.mem_restRefs_of (win := spec0) main_arg3 (by decide) (by decide))).trans (V_arg3 m c)
  · exact (hrest' main_arg4 (Pipeline.mem_restRefs_of (win := spec0) main_arg4 (by decide) (by decide))).trans (V_arg4 m c)

/-- The arguments end as they were and every counter at zero. -/
theorem frame_run (hm : Experts m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m r.2 h.1 c, h.2⟩) (run_forget m ρ hm)

/-- The result after the run. -/
theorem result_run (hm : Experts m) (hr : Rows m) : θ_run defs (onTc (τ := τ) (main (F := F))) ⟨m, fun _ => 0, ρ⟩ (fun r => ∀ c : Dev nD,
      r.2.mem ((c.tc : Thread nD τ).loc main_v22) = (dats m 0 c).arrAt 1 (cfgM m).N) :=
  (θ_run defs _ _).mono (fun r h c => (h.1 c).1 (1 : Fin 2)) (run_exact m ρ hm hr)

end Cert.Wide

end
-- ==== Proof.Wide.Blocks.lean ====
/-
What a point reads of the arguments, an entry at a time: its tile of tokens and its block of the
expert's weights.
-/
module

public import proofs.«01_k».proof.Proof.Wide.Launch
public import Idealize.ShloMosaic.Lib.Pointwise
public import Idealize.ShloMosaic.Lib.ValueLayout
public import Idealize.ShloMosaic.Lib.Pipeline.ValueKit

@[expose] public section

set_option maxRecDepth 16384

noncomputable section

namespace Cert.Wide

open Cert.Kernel3Ideal Cert.Kernel3Ideal.Gen
open Idealize.ShloMosaic Idealize.ShloMosaic.TcCoe Idealize.ShloMosaic.Tactic

variable (m : (ℓ : Loc nD τ sig) → Buf (Elt Ideal) ℓ)

/-- Which block of its array each window takes at point `t`. -/
theorem index_0' (t : Fin (cfgM m).N) : cc0_transform_0 (grid0.coords t) = ![t.val % 44, 0] := by
  show cc0_transform_0 (grid0.coords t) = _
  have h := coord1 m t
  funext k
  fin_cases k
  · show (BitVec.ofNat 32 (grid0.coords t 1).val).toNat = _
    rw [h, BitVec.toNat_ofNat]; show _ = t.val % 44; omega
  · rfl

theorem index_1' (t : Fin (cfgM m).N) : cc0_transform_3 (grid0.coords t) = ![t.val % 44, t.val / 44] := by
  show cc0_transform_3 (grid0.coords t) = _
  have h := coord1 m t
  have h' := coord0 m t
  have := lt_N m t
  funext k
  fin_cases k
  · show (BitVec.ofNat 32 (grid0.coords t 1).val).toNat = _
    rw [h, BitVec.toNat_ofNat]; show _ = t.val % 44; omega
  · show (BitVec.ofNat 32 (grid0.coords t 0).val).toNat = _
    rw [h', BitVec.toNat_ofNat]; show _ = t.val / 44; omega

/-- The tile of tokens. -/
theorem xblk_at (c : Dev nD) (t : Fin (cfgM m).N) (n : Fin 44) (hn : t.val % 44 = n) (i : Fin 512) (k : Fin 2048) :
    xblk m c t (ix2 i k) = m ((c : Thread nD τ).loc main_arg0) (ix2 ⟨n * 512 + i, by omega⟩ k) := by
  rw [← V_arg0 m c]
  unfold xblk iblk
  show V m c main_arg0 _ = _
  congr 1
  funext a
  refine Fin.ext ?_
  fin_cases a
  · show (cc0_transform_0 (grid0.coords t) 0) * 512 + 1 * (i : ℕ) = _
    rw [index_0' m t]; show t.val % 44 * 512 + 1 * (i : ℕ) = _; rw [hn, one_mul]; rfl
  · show (cc0_transform_0 (grid0.coords t) 1) * 2048 + 1 * (k : ℕ) = _
    rw [index_0' m t]; show 0 * 2048 + 1 * (k : ℕ) = (k : ℕ); omega

/-- The stacked weights are the arguments reshaped. -/
theorem G0_eq (c : Dev nD) : G0 m c = shapeCast S16x2048x4096 (m ((c : Thread nD τ).loc main_arg3)) shapeCasts_S2x8x2048x4096_S16x2048x4096 := by
  show StableHlo.after hostAll _ _ = _
  simp only [hostAll, hostOps0, hostOps0_1, hostOps0_2, List.flatten_cons, List.flatten_nil, List.append_nil, List.cons_append, List.nil_append]
  after_results
  rfl
theorem U0_eq (c : Dev nD) : U0 m c = shapeCast S16x2048x4096 (m ((c : Thread nD τ).loc main_arg4)) shapeCasts_S2x8x2048x4096_S16x2048x4096 := by
  show StableHlo.after hostAll _ _ = _
  simp only [hostAll, hostOps0, hostOps0_1, hostOps0_2, List.flatten_cons, List.flatten_nil, List.append_nil, List.cons_append, List.nil_append]
  after_results
  rfl

theorem bk_WG_at (c : Dev nD) (w : MBuf (F := Ideal) c WG) (e : Fin 16) (j : Fin 4) (k : Fin 2048) (f : Fin 1024) :
    bk c WG w e j (ix2 k f) = w (ix3 e k ⟨j * 1024 + f, by omega⟩) := by
  unfold bk blk
  have he : (e : ℕ) % 16 = e := Nat.mod_eq_of_lt e.isLt
  have hj : (j : ℕ) % 4 = j := Nat.mod_eq_of_lt j.isLt
  show w ((Rect.unit (s := S16x2048x4096) ![(e : ℕ) % 16, 0, (j : ℕ) % 4 * 1024] S1x2048x1024.size
    (inb_block (Nat.mod_lt _ (by omega)) (Nat.mod_lt _ (by omega)))).emb (Shape.reshapeEquiv _ (ix2 k f))) = _
  refine (congrArg (fun z => w (Rect.emb _ z)) (ValueIdx.reshapeEquiv_ix2_1ab (a := 2048) (b := 1024) _ k f)).trans ?_
  congr 1
  funext a
  refine Fin.ext ?_
  fin_cases a
  · show (e : ℕ) % 16 + 1 * 0 = (e : ℕ); omega
  · show 0 + 1 * (k : ℕ) = (k : ℕ); omega
  · show (j : ℕ) % 4 * 1024 + 1 * (f : ℕ) = (j : ℕ) * 1024 + f; omega

theorem gateB_at (c : Dev nD) (w : MBuf (F := Ideal) c WG) (e : Fin 16) (j : Fin 4) (k : Fin 2048) (f : Fin 1024) :
    gateB c w e j (ix2 k f) = w (ix3 e k ⟨j * 1024 + f, by omega⟩) := by
  rw [← bk_WG_at c w e j k f]
  unfold gateB
  pointwise [k0_pay3]

theorem bk_WU_at (c : Dev nD) (w : MBuf (F := Ideal) c WU) (e : Fin 16) (j : Fin 4) (k : Fin 2048) (f : Fin 1024) :
    bk c WU w e j (ix2 k f) = w (ix3 e k ⟨j * 1024 + f, by omega⟩) := bk_WG_at c w e j k f

theorem upB_at (c : Dev nD) (w : MBuf (F := Ideal) c WU) (e : Fin 16) (j : Fin 4) (k : Fin 2048) (f : Fin 1024) :
    upB c w e j (ix2 k f) = w (ix3 e k ⟨j * 1024 + f, by omega⟩) := by
  rw [← bk_WU_at c w e j k f]
  unfold upB
  pointwise [k0_pay4]

end Cert.Wide

end
-- ==== Proof.Wide.Pays.lean ====
/-
What a tile's products and zeros are, an entry at a time.
-/
module

public import proofs.«01_k».proof.Proof.Wide.Body
public import proofs.«01_k».proof.Proof.Up.Pays
public import Idealize.ShloMosaic.Lib.Pointwise

@[expose] public section

set_option maxRecDepth 16384

noncomputable section

namespace Cert.Wide

open Cert.Up (glu cell)
open Cert.Kernel3Ideal Cert.Kernel3Ideal.Gen
open Idealize.ShloMosaic Idealize.ShloMosaic.TcCoe

/-- What a point leaves, an entry at a time: its pieces are those of the call over 40 tiles. -/
theorem outVal_at (a b : Vec Ideal S2048x1024 .bf16) {n : BitVec 32} (hn : Legal n) (x : Vec Ideal S512x2048 .f32) (i : Fin 512) (f : Fin 1024) :
    outVal n x a b (ix2 i f) = cell n.toNat i (fun k => x (ix2 i k)) (fun k => a (ix2 k f)) (fun k => b (ix2 k f)) :=
  Cert.Up.pieces_at a b BOut.view BOut.view.junk hn x i f

end Cert.Wide

end
-- ==== Proof.Wide.Out.lean ====
/-
The kernel's result, an entry at a time: what a point writes for its tile and column block is the gated product of
the tile's valid rows, and the points' blocks make up the result.
-/
module

public import proofs.«01_k».proof.Proof.Wide.Blocks
public import proofs.«01_k».proof.Proof.Wide.Pays

@[expose] public section

set_option maxRecDepth 16384

noncomputable section

namespace Cert.Wide

open Cert.Up (cell)
open Cert.Kernel3Ideal Cert.Kernel3Ideal.Gen
open Idealize.ShloMosaic Idealize.ShloMosaic.TcCoe Idealize.ShloMosaic.Tactic
open Idealize.ShloMosaic.Pipeline (Dat)

variable (m : (ℓ : Loc nD τ sig) → Buf (Elt Ideal) ℓ)

/-- The entry of tile `n`, row `i` and column `f`, of the kernel's arguments. -/
abbrev entry (c : Dev nD) (n : Fin 44) (i : Fin 512) (f : Fin 4096) (e : Fin 16) : EReal :=
  cell ((m ((c : Thread nD τ).loc main_arg2) : IVec S44 32) (ix1 n)).toNat i
    (fun k => (m ((c : Thread nD τ).loc main_arg0) : FVec Ideal S22528x2048 .f32) (ix2 ⟨n * 512 + i, by omega⟩ k))
    (fun k => shapeCast S16x2048x4096 (m ((c : Thread nD τ).loc main_arg3)) shapeCasts_S2x8x2048x4096_S16x2048x4096 (ix3 e k f))
    (fun k => shapeCast S16x2048x4096 (m ((c : Thread nD τ).loc main_arg4)) shapeCasts_S2x8x2048x4096_S16x2048x4096 (ix3 e k f))

/-- A point's word of valid rows. -/
theorem rows_word (c : Dev nD) (t : Fin (cfgM m).N) (n : Fin 44) (hn : t.val % 44 = n) :
    rd c T0 (W0 m c) (k0_off7 (grid0.coords t)) (k0_off7_inb (grid0.coords t)) = (m ((c : Thread nD τ).loc main_arg2) : IVec S44 32) (ix1 n) := by
  have h1 := coord1 m t
  have ht := lt_N m t
  have e : W0 m c = m ((c : Thread nD τ).loc main_arg2) := V_arg2 m c
  refine (rd_T0 c _ _ _).trans ((congrFun e _).trans ?_)
  congr 1
  congr 1
  refine Fin.ext ?_
  show k0_off7 (grid0.coords t) 0 = n
  show (BitVec.ofNat 32 (grid0.coords t 1).val).toNat = n
  rw [h1, BitVec.toNat_ofNat]
  omega

/-- A point's block, an entry at a time. -/
theorem outT_at (hr : Rows m) (c : Dev nD) (t : Fin (cfgM m).N) (n : Fin 44) (hn : t.val % 44 = n) (j : Fin 4) (hj : t.val / 44 = j)
    (e : Fin 16) (he : (tea m c (ix1 n)).toNat = e) (i : Fin 512) (f : Fin 1024) :
    outT m c t (ix2 i f) = entry m c n i ⟨j * 1024 + f, by omega⟩ e := by
  have hw : (wordAt (tea m c) (t.val % 44)).toNat = e := by
    unfold wordAt
    rw [dif_pos (Nat.mod_lt _ (by norm_num))]
    rw [← he]
    congr 3
    exact Fin.ext hn
  unfold outT
  rw [outVal_at _ _ (legal_word m hr c _ _), rows_word m c t n hn, hw, hj]
  unfold entry
  rw [funext fun k => xblk_at m c t n hn i k, funext fun k => gateB_at c (G0 m c) e j k f, funext fun k => upB_at c (U0 m c) e j k f,
    G0_eq, U0_eq]

/-- Every block of the result is some point's. -/
theorem covers : ((cfgM m).win 1).Covers := by
  refine ⟨fun a => ?_, fun β => ?_⟩
  · match a with
    | ⟨0, _⟩ => exact (by norm_num : 0 < 512)
    | ⟨1, _⟩ => exact (by norm_num : 0 < 1024)
  · have h0 : (β (0 : Fin 2)).val < 44 := (β (0 : Fin 2)).isLt.trans_eq (show (22528 + 512 - 1) / 512 = 44 by norm_num)
    have h1 : (β (1 : Fin 2)).val < 4 := (β (1 : Fin 2)).isLt.trans_eq (show (4096 + 1024 - 1) / 1024 = 4 by norm_num)
    let t : Fin (cfgM m).N := ⟨(β (1 : Fin 2)).val * 44 + (β (0 : Fin 2)).val, by rw [show (cfgM m).N = 176 from N_0]; omega⟩
    refine ⟨t, flush_1 m t, fun a => ⟨?_, Or.inl ?_⟩⟩
    · match a with
      | ⟨0, _⟩ =>
        refine (congrFun (index_1' m t) (0 : Fin 2)).trans ?_
        show ((β (1 : Fin 2)).val * 44 + (β (0 : Fin 2)).val) % 44 = (β (0 : Fin 2)).val
        omega
      | ⟨1, _⟩ =>
        refine (congrFun (index_1' m t) (1 : Fin 2)).trans ?_
        show ((β (1 : Fin 2)).val * 44 + (β (0 : Fin 2)).val) / 44 = (β (1 : Fin 2)).val
        omega
    · rfl

/-- Where a point's block lies in the result. -/
theorem place (t : Fin (cfgM m).N) (i : Fin 512) (f : Fin 1024) (n : Fin 44) (hn : t.val % 44 = n) (j : Fin 4) (hj : t.val / 44 = j) :
    (((cfgM m).win 1).blk t).view.emb (ix2 i f) = (ix2 (⟨n * 512 + i, by omega⟩ : Fin 22528) (⟨j * 1024 + f, by omega⟩ : Fin 4096) : S22528x4096.Idx) := by
  funext a
  refine Fin.ext ?_
  fin_cases a
  · show (cc0_transform_3 (grid0.coords t) 0) * 512 + 1 * (i : ℕ) = (n : ℕ) * 512 + i
    rw [index_1' m t]; show t.val % 44 * 512 + 1 * (i : ℕ) = _; rw [hn, one_mul]
  · show (cc0_transform_3 (grid0.coords t) 1) * 1024 + 1 * (f : ℕ) = (j : ℕ) * 1024 + f
    rw [index_1' m t]; show t.val / 44 * 1024 + 1 * (f : ℕ) = _; rw [hj, one_mul]

/-- The kernel's result is any array of these entries. -/
theorem final (hm : Experts m) (hr : Rows m) (c : Dev nD) (G : FVec Ideal S22528x4096 .bf16)
    (hG : ∀ (n : Fin 44) (i : Fin 512) (f : Fin 4096), G (ix2 ⟨n * 512 + i, by omega⟩ f)
      = entry m c n i f ⟨(tea m c (ix1 n)).toNat, hm c _⟩) :
    (dats m 0 c).arrAt 1 (cfgM m).N = G := by
  refine (dats m 0 c).arrAt_eq_of_covers 1 _ (covers m) fun t _ y => ?_
  have ht := lt_N m t
  rw [after_1]
  have key : ∀ (i : Fin 512) (f : Fin 1024), outT m c t (ix2 i f) = G ((((cfgM m).win 1).blk t).view.emb (ix2 i f)) := fun i f => by
    rw [outT_at m hr c t ⟨t.val % 44, by omega⟩ rfl ⟨t.val / 44, by omega⟩ rfl ⟨(tea m c (ix1 ⟨t.val % 44, by omega⟩)).toNat, hm c _⟩ rfl i f, ← hG]
    exact congrArg G (place m t i f ⟨t.val % 44, by omega⟩ rfl ⟨t.val / 44, by omega⟩ rfl).symm
  have all : ∀ z : (⟨2, ![512, 1024]⟩ : Shape).Idx, outT m c t z = G ((((cfgM m).win 1).blk t).view.emb z) := fun z => by
    rw [eq_ix2 z]; exact key (z 0) (z 1)
  exact all y

end Cert.Wide

end
-- ==== Proof.Wide.Ref.lean ====
/-
The reference's result, an entry at a time: each tile's rows times its expert's weights, gated, and zero below the
tile's valid rows.
-/
module

public import proofs.«01_k».proof.Proof.Gen.Reference3Ideal.Run
public import proofs.«01_k».proof.Proof.Up.Glu
public import Idealize.ShloMosaic.Lib.Pointwise
public import Idealize.ShloMosaic.Lib.WordCmp

@[expose] public section

set_option maxRecDepth 16384

noncomputable section

namespace Cert.Wide.Ref

open Cert.Up (cell glu_eq bits_zero)
open Cert.Reference3Ideal Cert.Reference3Ideal.Gen
open Idealize.ShloMosaic Idealize.ShloMosaic.TcCoe Idealize.ShloMosaic.Tactic

/-- The experts, as the gather is given them: a negative one counted from the end. -/
def picks (te : IVec S44 32) : IVec S44x1 32 :=
  broadcastInDim S44x1 ![0] bcast_S44_S44x1_0 (select (cmpi .slt te (broadcastInDim S44 ![] bcast_S_S44 (constantI S_ 32 0#32)))
    (addi te (broadcastInDim S44 ![] bcast_S_S44 (constantI S_ 32 16#32))) te)

/-- Each tile's expert's weights. -/
def weights (w : FVec Ideal S2x8x2048x4096 .f32) (te : IVec S44 32) : FVec Ideal S44x2048x4096 .f32 :=
  Host.gather gather_S16x2048x4096_S44x1_S44x2048x4096_12_0_n_n_0_1_120484096 (shapeCast _ w shapeCasts_S2x8x2048x4096_S16x2048x4096) (picks te)

/-- The tiles of tokens times their experts' weights. -/
def prods (x : FVec Ideal S22528x2048 .f32) (w : FVec Ideal S44x2048x4096 .f32) : FVec Ideal S44x512x4096 .f32 :=
  Host.dotGeneral dot_S44x512x2048_S44x2048x4096_S44x512x4096_2_1_1_2_0_0 none (shapeCast _ x shapeCasts_S22528x2048_S44x512x2048) w

/-- The logistic function, as the reference computes it. -/
def logistic (g : FVec Ideal S44x512x4096 .f32) : FVec Ideal S44x512x4096 .f32 :=
  Host.divf (broadcastInDim S44x512x4096 ![] bcast_S_S44x512x4096 (constant S_ .f32 0x3F800000#32))
    (addf (broadcastInDim S44x512x4096 ![] bcast_S_S44x512x4096 (constant S_ .f32 0x3F800000#32)) (Host.exp (Host.negf g)))

/-- The rows that are valid. -/
def valid (vr : IVec S44 32) : IVec S44x512x1 1 :=
  cmpi .slt (broadcastInDim S44x512x1 ![0, 1, 2] bcast_S1x512x1_S44x512x1_0_1_2 (broadcastInDim S1x512x1 ![1] bcast_S512_S1x512x1_1 (iotaInDim S512 32 0)))
    (broadcastInDim S44x512x1 ![0, 1, 2] bcast_S44x1x1_S44x512x1_0_1_2 (broadcastInDim S44x1x1 ![0] bcast_S44_S44x1x1_0 vr))

/-- The gated products of the valid rows, and zeros. -/
def gated (g u : FVec Ideal S44x512x4096 .f32) (vr : IVec S44 32) : FVec Ideal S22528x4096 .bf16 :=
  truncf .bf16 (shapeCast _ (select (broadcastInDim S44x512x4096 ![0, 1, 2] bcast_S44x512x1_S44x512x4096_0_1_2 (valid vr))
    (mulf (mulf g (logistic g)) u)
    (broadcastInDim S44x512x4096 ![] bcast_S_S44x512x4096 (id (constant S_ .f32 0x00000000#32)))) shapeCasts_S44x512x4096_S22528x4096) bitsLt_bf16_f32

/-- The reference's result, of its arguments. -/
def result (x : FVec Ideal S22528x2048 .f32) (te vr : IVec S44 32) (wg wu : FVec Ideal S2x8x2048x4096 .f32) : FVec Ideal S22528x4096 .bf16 :=
  gated (prods x (weights wg te)) (prods x (weights wu te)) vr

theorem picks_at (te : IVec S44 32) (n : Fin 44) (h : (te (ix1 n)).toNat < 16) : picks te (ix2 n (0 : Fin 1)) = te (ix1 n) := by
  have h0 : IntOp.cmpi .slt (te (ix1 n)) 0#32 = 0#1 := by
    rw [WordCmp.cmpi_slt_of_lt (by norm_num; omega) (by norm_num)]
    simp
  pointwise [picks]
  rw [h0]
  rfl

theorem weights_at (w : FVec Ideal S2x8x2048x4096 .f32) (te : IVec S44 32) (n : Fin 44) (k : Fin 2048) (f : Fin 4096) (h : (te (ix1 n)).toNat < 16) :
    weights w te (ix3 n k f) = shapeCast S16x2048x4096 w shapeCasts_S2x8x2048x4096_S16x2048x4096 (ix3 ⟨(te (ix1 n)).toNat, h⟩ k f) := by
  have hp := picks_at te n h
  unfold weights
  generalize shapeCast S16x2048x4096 w shapeCasts_S2x8x2048x4096_S16x2048x4096 = W
  generalize picks te = p at hp ⊢
  unfold Host.gather
  congr 1
  funext a
  refine Fin.ext ?_
  have h1 : a = 0 ∨ a = 1 ∨ a = 2 := by
    match a with
    | ⟨0, _⟩ => exact Or.inl rfl
    | ⟨1, _⟩ => exact Or.inr (Or.inl rfl)
    | ⟨2, _⟩ => exact Or.inr (Or.inr rfl)
  show GatherDims.start gather_S16x2048x4096_S44x1_S44x2048x4096_12_0_n_n_0_1_120484096 (ix3 n k f) p a
    + GatherDims.batchCoord gather_S16x2048x4096_S44x1_S44x2048x4096_12_0_n_n_0_1_120484096 (ix3 n k f) a
    + GatherDims.offCoord gather_S16x2048x4096_S44x1_S44x2048x4096_12_0_n_n_0_1_120484096 (ix3 n k f) a = _
  rw [GatherDims.batchCoord_eq_zero _ _ _ (show a ∉ ([] : List (Fin 3)) from List.not_mem_nil), Nat.add_zero]
  rcases h1 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S16x2048x4096_S44x1_S44x2048x4096_12_0_n_n_0_1_120484096.startIndexMap from List.mem_singleton.mpr rfl)]
    have hsi : GatherDims.siIdx gather_S16x2048x4096_S44x1_S44x2048x4096_12_0_n_n_0_1_120484096 (ix3 n k f) ⟨List.idxOf (0 : Fin 3) [0],
        List.idxOf_lt_length_iff.2 (List.mem_singleton.mpr rfl)⟩ = ix2 n (0 : Fin 1) := by
      funext b; refine Fin.ext ?_
      match b with
      | ⟨0, _⟩ => rfl
      | ⟨1, _⟩ => rfl
    refine (congrArg (fun z => min z.toInt.toNat 15) ((congrArg p hsi).trans hp)).trans ?_
    show min (te (ix1 n)).toInt.toNat 15 = (te (ix1 n)).toNat
    rw [BitVec.toInt_eq_toNat_of_lt (by omega)]
    omega
  · unfold GatherDims.start
    rw [dif_neg (show (1 : Fin 3) ∉ gather_S16x2048x4096_S44x1_S44x2048x4096_12_0_n_n_0_1_120484096.startIndexMap by decide), Nat.zero_add]
    rfl
  · unfold GatherDims.start
    rw [dif_neg (show (2 : Fin 3) ∉ gather_S16x2048x4096_S44x1_S44x2048x4096_12_0_n_n_0_1_120484096.startIndexMap by decide), Nat.zero_add]
    rfl

theorem prods_at (x : FVec Ideal S22528x2048 .f32) (w : FVec Ideal S44x2048x4096 .f32) (n : Fin 44) (i : Fin 512) (f : Fin 4096) :
    prods x w (ix3 n i f) = ∑ k : Fin 2048, x (ix2 ⟨n * 512 + i, by omega⟩ k) * w (ix3 n k f) := by
  pointwise [prods]

theorem logistic_at (g : FVec Ideal S44x512x4096 .f32) (y : S44x512x4096.Idx) : logistic g y = Ideal.div 1 (1 + Ideal.exp (-(g y))) := by
  obtain ⟨n, i, f, rfl⟩ : ∃ n i f, y = ix3 (n0 := 44) (n1 := 512) (n2 := 4096) n i f := ⟨y 0, y 1, y 2, eq_ix3 (n0 := 44) (n1 := 512) (n2 := 4096) y⟩
  pointwise [logistic]

theorem valid_at (vr : IVec S44 32) (n : Fin 44) (i : Fin 512) (h : (vr (ix1 n)).toNat ≤ 512) :
    valid vr (ix3 n i (0 : Fin 1)) = if (i : ℕ) < (vr (ix1 n)).toNat then 1#1 else 0#1 := by
  pointwise [valid]
  have hi : (BitVec.ofNat 32 (i : ℕ)).toNat = i := by rw [BitVec.toNat_ofNat]; omega
  rw [WordCmp.cmpi_slt_of_lt (by rw [hi]; norm_num; omega) (by norm_num; omega), hi]
  by_cases hc : (i : ℕ) < (vr (ix1 n)).toNat
  · rw [if_pos hc, decide_eq_true hc]; rfl
  · rw [if_neg hc, decide_eq_false hc]; rfl

theorem result_at (x : FVec Ideal S22528x2048 .f32) (te vr : IVec S44 32) (wg wu : FVec Ideal S2x8x2048x4096 .f32)
    (n : Fin 44) (i : Fin 512) (f : Fin 4096) (h : (te (ix1 n)).toNat < 16) (hv : (vr (ix1 n)).toNat ≤ 512) :
    result x te vr wg wu (ix2 ⟨n * 512 + i, by omega⟩ f) = cell (vr (ix1 n)).toNat i (fun k => x (ix2 ⟨n * 512 + i, by omega⟩ k))
      (fun k => shapeCast S16x2048x4096 wg shapeCasts_S2x8x2048x4096_S16x2048x4096 (ix3 ⟨(te (ix1 n)).toNat, h⟩ k f))
      (fun k => shapeCast S16x2048x4096 wu shapeCasts_S2x8x2048x4096_S16x2048x4096 (ix3 ⟨(te (ix1 n)).toNat, h⟩ k f)) := by
  have e : ∀ w, prods x (weights w te) (ix3 n i f) = ∑ k : Fin 2048, x (ix2 ⟨n * 512 + i, by omega⟩ k)
      * shapeCast S16x2048x4096 w shapeCasts_S2x8x2048x4096_S16x2048x4096 (ix3 ⟨(te (ix1 n)).toNat, h⟩ k f) := fun w =>
    (prods_at _ _ _ _ _).trans (Finset.sum_congr rfl fun k _ => by rw [weights_at w te n k f h])
  unfold result cell
  rw [← e wg, ← e wu, ← glu_eq]
  generalize prods x (weights wg te) = g
  generalize prods x (weights wu te) = u
  rw [← logistic_at g (ix3 n i f)]
  have hl := valid_at vr n i hv
  pointwise [gated]
  rw [hl]
  by_cases hc : (i : ℕ) < (vr (ix1 n)).toNat
  · rw [if_pos hc, if_pos hc]; rfl
  · rw [if_neg hc, if_neg hc]; exact bits_zero

end Cert.Wide.Ref

end
-- ==== Proof.Wide.Bits.lean ====
/-
The gate and up projections' kernel is printed twice, once to be read at machine floats and once at the extended reals.
The two printings are one program, over any floats: the same body at every grid point, and the same steps on the host.
-/
module

public import proofs.«01_k».proof.Proof.Gen.Kernel3
public import proofs.«01_k».proof.Proof.Gen.Kernel3.Skeleton
public import proofs.«01_k».proof.Proof.Gen.Kernel3Ideal
public import proofs.«01_k».proof.Proof.Gen.Kernel3Ideal.Skeleton

@[expose] public section

noncomputable section

namespace Cert.Wide.Same

open Idealize.ShloMosaic Idealize.ShloMosaic.TcCoe Idealize.SL.Sem

variable {F : FTy → Type} [FloatOps F]

local instance : Cert.Kernel3.Facts := Cert.Kernel3.Gen.facts
local instance : Cert.Kernel3Ideal.Facts := Cert.Kernel3Ideal.Gen.facts

/-- The bodies the two programs name are the same. -/
theorem bodies : Cert.Kernel3.defs₀ (F := F) = Cert.Kernel3Ideal.defs₀ (F := F) := by
  unfold Cert.Kernel3.defs₀ Cert.Kernel3Ideal.defs₀
  refine congrArg Defs.onTc ?_
  funext l x
  match l, x with
  | 0, (t, s) => rfl
  | ⟨_ + 1, h⟩, _ => exact absurd h (Nat.not_lt.2 (Nat.le_add_left _ _))

theorem tables : Cert.Kernel3.defs (F := F) = Cert.Kernel3Ideal.defs (F := F) :=
  congrArg (Pipeline.defs Cert.Kernel3Ideal.pcfgs) bodies

/-- The running sum over the tiles, in its inner function and in its outer one. -/
theorem sum_inner (a : StableHlo.TRef Cert.Kernel3.sig ⟨Cert.Kernel3.S44, .i32⟩) :
    @Cert.Kernel3.fn_cumsum_0.body F _ _ a Cert.Kernel3.main_call0_call0
      = @Cert.Kernel3Ideal.fn_cumsum_0.body F _ _ a Cert.Kernel3Ideal.main_call0_call0 := rfl

theorem sum_outer (a : StableHlo.TRef Cert.Kernel3.sig ⟨Cert.Kernel3.S44, .i32⟩) :
    @Cert.Kernel3.fn_cumsum.body F _ _ a Cert.Kernel3.main_call0
      = @Cert.Kernel3Ideal.fn_cumsum.body F _ _ a Cert.Kernel3Ideal.main_call0 := by
  unfold Cert.Kernel3.fn_cumsum.body Cert.Kernel3Ideal.fn_cumsum.body
  exact congrArg (fun p => p >>= fun _ => pure PUnit.unit) (sum_inner a)

set_option maxHeartbeats 4000000 in
/-- The host's steps are the same, the running sum among them. -/
theorem hosts : Cert.Kernel3.main (F := F) = Cert.Kernel3Ideal.main (F := F) := by
  funext d
  unfold Cert.Kernel3.main Cert.Kernel3Ideal.main
  rw [sum_outer]
  rfl

end Cert.Wide.Same

end

end
-- ==== Proof.Down.Entry.lean ====
/- The expert down-projection's launch: what the buffers hold when its region is entered, the prefetched
   tables read off them, and the region reached from @main. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Down

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

/-- All host operations before the region, in order. -/
abbrev hostAll : List (HloOp τ sig (Elt F)) := [hostOps0, hostOps0_1, hostOps0_2].flatten

/-- What core `c`'s buffers hold when the region is entered. -/
abbrev V (c : Dev nD) (b : Ref sig .tc) : Buf (Elt F) ((c : Thread nD τ).loc b) :=
  StableHlo.after hostAll (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

set_option maxHeartbeats 800000 in
/-- @main is the three host stretches, then the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

/-- The six tables as the region finds them. -/
def tbl : pre0.Contents (Elt F) := fun j => V m (0 : Dev nD) (pre0.ref j)
theorem V_pre (c : Dev nD) (j : Fin 6) : V m c (pre0.ref j) = tbl m j := by
  obtain rfl : c = 0 := Subsingleton.elim _ _; rfl

/-- The first table counts the tiles. -/
theorem entry_tiles (c : Dev nD) : V m c main_v1 = iotaInDim S40 32 0 := by
  show StableHlo.after hostAll _ _ = _
  simp only [hostAll, hostOps0, hostOps0_1, hostOps0_2, List.flatten_cons, List.flatten_nil, List.append_nil, List.cons_append, List.nil_append]
  after_results

/-- Which block of the rows each point takes: its tile's. -/
theorem rows_block (i : grid0.Coords) : cc0_transform_0 k0_off1_inb numel1_S1 (tbl m) i = ![(i 1).val, 0] := by
  have h : (i 1).val < 40 := (i 1).isLt
  have e0 : tbl m 0 = (iotaInDim S40 32 0 : IVec S40 32) := entry_tiles m 0
  funext k
  fin_cases k
  · show ((tbl m).at 0 (Rect.unit (s := S40) ![(BitVec.ofNat 32 (i 1).val).toNat] S1.size _) numel1_S1 : BitVec 32).toNat = (i 1).val
    show (tbl m 0 _ : BitVec 32).toNat = _
    rw [e0]
    show (BitVec.ofNat 32 ((BitVec.ofNat 32 (i 1).val).toNat + 1 * 0)).toNat = _
    rw [BitVec.toNat_ofNat, BitVec.toNat_ofNat]; omega
  · rfl

/-- The blocks the first table names lie in the rows' array. -/
theorem tbl_ok : ok0 (tbl m) := fun i => by
  have h : (i 1).val < 40 := (i 1).isLt
  rw [rows_block]
  refine ⟨fun a => ?_, Or.inr ?_⟩
  · fin_cases a
    · show ((i 1).val + 1) * 512 ≤ 20480; omega
    · show (0 + 1) * 4096 ≤ 4096; omega
  · exact Affine.block_words_dvd (of_decide_eq_true rfl) (by decide)

abbrev adm : (pcfg0 (F := F)).Adm := ⟨tbl m, tbl_ok m⟩
abbrev cfgM : Pipeline.Cfg sig Λ₀ := cfg0 (adm m)

abbrev TX : Memref sig .tc .smem S40 .i32 := Memref.whole main_v1
abbrev T0 : Memref sig .tc .smem S40 .i32 := Memref.whole main_arg2
abbrev T1 : Memref sig .tc .smem S40 .i32 := Memref.whole main_v7
abbrev T2 : Memref sig .tc .smem S40 .i32 := Memref.whole main_v10
abbrev T3 : Memref sig .tc .smem S40 .i32 := Memref.whole main_v18
abbrev T4 : Memref sig .tc .smem S1 .i32 := Memref.whole main_v21
abbrev WD : Memref sig .tc .hbm S16x4096x2048 .f32 := Memref.whole main_v0
abbrev SD : Memref sig .tc .vmem S4096x1024 .f32 := Memref.whole cc0_scratch0
abbrev BD : Memref sig .tc .vmem S4096x1024 .bf16 := Memref.whole cc0_scratch1

/-- A whole memref's buffer on core `c`, its contents' type and the buffer held at a share. -/
abbrev MBuf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : MBuf (F := F) c M) : sProp 𝕄 :=
  M.view.loc (c : Thread nD τ) ↦{q} f

/-- The tables' halves the region hands the body, table by table. -/
theorem PhiT_eq (c : Dev nD) : (Pipeline.ΦT pre0 (tbl m) c : sProp 𝕄)
    = iprop(pt c TX fullShare.right (tbl m 0) ∗ pt c T0 fullShare.right (tbl m 1) ∗ pt c T1 fullShare.right (tbl m 2) ∗ pt c T2 fullShare.right (tbl m 3)
        ∗ pt c T3 fullShare.right (tbl m 4) ∗ pt c T4 fullShare.right (tbl m 5)) := by
  unfold Pipeline.ΦT Pipeline.prefHeld
  rw [show (Finset.univ : Finset (Fin 6)) = insert 0 (insert 1 (insert 2 (insert 3 (insert 4 {5})))) from by decide,
    bigSep_insert (by decide), bigSep_insert (by decide), bigSep_insert (by decide), bigSep_insert (by decide), bigSep_insert (by decide), bigSep_singleton]
  rfl

/-- The cell of the body's own transfers. -/
abbrev osem : Fin 1 → SemLoc sig := fun _ => .dma ⟨4, by decide⟩
theorem ownSemFacts : Pipeline.OwnSemFacts spec0 osem := by decide

/-- The stacked weights, held by the body through the region. -/
abbrev HW : Finset (Ref sig .tc) := {main_v0}
theorem HW_sub : HW ⊆ Pipeline.restRefsP sig pre0 spec0 := by decide

end Cert.Down

end
-- ==== Proof.Down.Sched.lean ====
/-
The schedule the routing gives the expert products, as the down projection's host steps compute it: the up
projection's schedule of the same experts.
-/
module

public import proofs.«01_k».proof.Proof.Down.Entry
public import proofs.«01_k».proof.Proof.Up.Tables
public import proofs.«01_k».proof.Proof.Up.Words
public import proofs.«01_k».proof.Proof.Up.Step

@[expose] public section

set_option maxRecDepth 16384

noncomputable section

namespace Cert.Down

open Cert.Kernel4Ideal Cert.Kernel4Ideal.Gen
open Cert.Up (firstOf gidOf geOf ngOf)
open Idealize.ShloMosaic Idealize.ShloMosaic.TcCoe

variable {F : FTy → Type} [FloatOps F]
variable (m : (ℓ : Loc nD τ sig) → Buf (Elt F) ℓ)

set_option maxHeartbeats 1000000 in
theorem entry_first (c : Dev nD) : V m c main_v7 = firstOf (m ((c : Thread nD τ).loc main_arg1)) := by
  show StableHlo.after hostAll _ _ = _
  simp only [hostAll, hostOps0, hostOps0_1, hostOps0_2, List.flatten_cons, List.flatten_nil, List.append_nil, List.cons_append, List.nil_append]
  after_results
  unfold firstOf
  rfl

set_option maxHeartbeats 1000000 in
theorem entry_gid (c : Dev nD) : V m c main_v10 = gidOf (firstOf (m ((c : Thread nD τ).loc main_arg1))) := by
  show StableHlo.after hostAll _ _ = _
  simp only [hostAll, hostOps0, hostOps0_1, hostOps0_2, List.flatten_cons, List.flatten_nil, List.append_nil, List.cons_append, List.nil_append]
  after_results
  simp only [StableHlo.TRef.ofBuf, StableHlo.TRef.toBuf, cast_eq, cast_cast]
  unfold gidOf firstOf
  rfl

set_option maxHeartbeats 1000000 in
theorem entry_ge (c : Dev nD) : V m c main_v18 = geOf (gidOf (firstOf (m ((c : Thread nD τ).loc main_arg1)))) (m ((c : Thread nD τ).loc main_arg1)) := by
  show StableHlo.after hostAll _ _ = _
  simp only [hostAll, hostOps0, hostOps0_1, hostOps0_2, List.flatten_cons, List.flatten_nil, List.append_nil, List.cons_append, List.nil_append]
  after_results
  simp only [StableHlo.TRef.ofBuf, StableHlo.TRef.toBuf, cast_eq, cast_cast]
  unfold geOf gidOf firstOf
  rfl

set_option maxHeartbeats 1000000 in
theorem entry_ng (c : Dev nD) : V m c main_v21 = ngOf (gidOf (firstOf (m ((c : Thread nD τ).loc main_arg1)))) := by
  show StableHlo.after hostAll _ _ = _
  simp only [hostAll, hostOps0, hostOps0_1, hostOps0_2, List.flatten_cons, List.flatten_nil, List.append_nil, List.cons_append, List.nil_append]
  after_results
  simp only [StableHlo.TRef.ofBuf, StableHlo.TRef.toBuf, cast_eq, cast_cast]
  unfold ngOf gidOf firstOf
  rfl

end Cert.Down

end
-- ==== Proof.Down.Body.lean ====
/- The expert down projection's body, run: what a grid point reads, computes, stores and leaves in flight. -/
module

public import proofs.«01_k».proof.Proof.Down.Entry
public import Idealize.ShloMosaic.Lib.WholeRead
public import Idealize.ShloMosaic.Lib.WritesUnit

@[expose] public section

set_option maxRecDepth 16384

noncomputable section

namespace Cert.Down

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

abbrev s4 : DmaSem sig := ⟨4, by decide⟩

/-- A staging buffer held whole, at raw contents. -/
abbrev ptS (c : Dev nD) {sp : Space} {S : Shape} {e : EltTy} (M : Memref sig .tc sp S e) (f : MBuf (F := F) c M) : sProp 𝕄 :=
  M.view.loc (c : Thread nD τ) ↦[M.view.set]{fullShare} f

/-- One copy of a weight block in flight on `sem` to the staging buffer `S`, out of the stacked weights `M`. -/
abbrev flight (c : Dev nD) (sem : DmaSem sig) (S : Memref sig .tc .vmem S4096x1024 .f32) (M : Memref sig .tc .hbm S16x4096x2048 .f32)
    (g : MBuf (F := F) c S) (w : MBuf (F := F) c M) : sProp 𝕄 :=
  Transfers.Flight (countersEmb (U := Pipeline.UD sig nD τ)) (c : Thread nD τ) (.dma sem) () (S.view.amount (SemLoc.dma (sig := sig) sem))
    iprop(pt c S fullShare g ∗ pt c M fullShare w)

/-- The word a table of 40 holds where the kernel loads it from. -/
def rd (c : Dev nD) (M : Memref sig .tc .smem S40 .i32) (t : MBuf (F := F) c M) (off : Fin 1 → ℕ) (h : ∀ a, off a + S1.size a ≤ S40.size a) : BitVec 32 :=
  View.readAt (Elt F) M.view (Rect.unit (s := S40) off S1.size h).toLoadRect t (Shape.Idx.first (by show 0 < S1.numel; decide))
/-- The number of groups, as the kernel loads it. -/
def rdN (c : Dev nD) (t : MBuf (F := F) c T4) : BitVec 32 :=
  View.readAt (Elt F) T4.view (Rect.unit (s := S1) ![0] S1.size inb_S1_S1_0).toLoadRect t (Shape.Idx.first (by decide))

/-- The part of a block a rectangle names. -/
def part {s : Shape} {e : EltTy} (x : Vec F s e) (r : Rect s) : r.shape.Idx → Elt F e := fun y => x (r.toLoadRect.idx y)

/-- What a grid point whose valid-row word is `n` writes to its output block, last first: the products of its valid rows and
    zeros below them. -/
def outPieces (n : BitVec 32) (x : Vec F S512x4096 .bf16) (a : Vec F S4096x1024 .bf16) : List (View.Piece (Elt F) S512x1024 .f32) :=
  if n = 64#32 then
    [⟨Rect.unit (s := S512x1024) ![64, 0] S448x1024.size inb_S512x1024_S448x1024_64_0, k0_pay5⟩,
      ⟨Rect.unit (s := S512x1024) ![0, 0] S64x1024.size inb_S512x1024_S64x1024_0_0,
        k0_pay4 (part x (Rect.unit (s := S512x4096) ![0, 0] S64x4096.size inb_S512x4096_S64x4096_0_0)) a⟩]
  else if n = 128#32 then
    [⟨Rect.unit (s := S512x1024) ![128, 0] S384x1024.size inb_S512x1024_S384x1024_128_0, k0_pay7⟩,
      ⟨Rect.unit (s := S512x1024) ![0, 0] S128x1024.size inb_S512x1024_S128x1024_0_0,
        k0_pay6 (part x (Rect.unit (s := S512x4096) ![0, 0] S128x4096.size inb_S512x4096_S128x4096_0_0)) a⟩]
  else if n = 192#32 then
    [⟨Rect.unit (s := S512x1024) ![192, 0] S320x1024.size inb_S512x1024_S320x1024_192_0, k0_pay9⟩,
      ⟨Rect.unit (s := S512x1024) ![0, 0] S192x1024.size inb_S512x1024_S192x1024_0_0,
        k0_pay8 (part x (Rect.unit (s := S512x4096) ![0, 0] S192x4096.size inb_S512x4096_S192x4096_0_0)) a⟩]
  else if n = 256#32 then
    [⟨Rect.unit (s := S512x1024) ![256, 0] S256x1024.size inb_S512x1024_S256x1024_256_0, k0_pay11⟩,
      ⟨Rect.unit (s := S512x1024) ![0, 0] S256x1024.size inb_S512x1024_S256x1024_0_0,
        k0_pay10 (part x (Rect.unit (s := S512x4096) ![0, 0] S256x4096.size inb_S512x4096_S256x4096_0_0)) a⟩]
  else if n = 320#32 then
    [⟨Rect.unit (s := S512x1024) ![320, 0] S192x1024.size inb_S512x1024_S192x1024_320_0, k0_pay13⟩,
      ⟨Rect.unit (s := S512x1024) ![0, 0] S320x1024.size inb_S512x1024_S320x1024_0_0,
        k0_pay12 (part x (Rect.unit (s := S512x4096) ![0, 0] S320x4096.size inb_S512x4096_S320x4096_0_0)) a⟩]
  else if n = 384#32 then
    [⟨Rect.unit (s := S512x1024) ![384, 0] S128x1024.size inb_S512x1024_S128x1024_384_0, k0_pay15⟩,
      ⟨Rect.unit (s := S512x1024) ![0, 0] S384x1024.size inb_S512x1024_S384x1024_0_0,
        k0_pay14 (part x (Rect.unit (s := S512x4096) ![0, 0] S384x4096.size inb_S512x4096_S384x4096_0_0)) a⟩]
  else if n = 448#32 then
    [⟨Rect.unit (s := S512x1024) ![448, 0] S64x1024.size inb_S512x1024_S64x1024_448_0, k0_pay17⟩,
      ⟨Rect.unit (s := S512x1024) ![0, 0] S448x1024.size inb_S512x1024_S448x1024_0_0,
        k0_pay16 (part x (Rect.unit (s := S512x4096) ![0, 0] S448x4096.size inb_S512x4096_S448x4096_0_0)) a⟩]
  else if n = 512#32 then
    [⟨Rect.unit (s := S512x1024) ![0, 0] S512x1024.size inb_S512x1024_S512x1024_0_0,
      k0_pay1 (part x (Rect.unit (s := S512x4096) ![0, 0] S512x4096.size inb_S512x4096_S512x4096_0_0)) a⟩]
  else if n = 0#32 then
    [⟨Rect.unit (s := S512x1024) ![0, 0] S512x1024.size inb_S512x1024_S512x1024_0_0, k0_pay2⟩]
  else []

abbrev BOut : Memref sig .tc .vmem S512x1024 .f32 := spec0_1.stage 0

/-- The output block a grid point with valid-row word `n` leaves. -/
def outVal (n : BitVec 32) (x : Vec F S512x4096 .bf16) (a : Vec F S4096x1024 .bf16) : Vec F S512x1024 .f32 :=
  BOut.view.read (Elt F) (BOut.view.writes (Elt F) BOut.view.junk (outPieces n x a))

/-- The words the kernel counts valid rows by. -/
def Legal (n : BitVec 32) : Prop := n = 0#32 ∨ n = 64#32 ∨ n = 128#32 ∨ n = 192#32 ∨ n = 256#32 ∨ n = 320#32 ∨ n = 384#32 ∨ n = 448#32 ∨ n = 512#32

theorem mem_rows {off size : Fin 2 → ℕ} (h : ∀ a : Fin 2, off a + size a ≤ S512x1024.size a) (y : S512x1024.Idx)
    (h0 : off 0 ≤ (y 0).val ∧ (y 0).val < off 0 + size 0) (h1 : off 1 = 0) (h1' : size 1 = 1024) :
    y ∈ (Rect.unit (s := S512x1024) off size h).set := by
  rw [Rect.mem_set_unit]
  intro a
  fin_cases a
  · exact h0
  · have : (y (1 : Fin 2)).val < 1024 := (y (1 : Fin 2)).isLt
    show off 1 ≤ (y (1 : Fin 2)).val ∧ (y (1 : Fin 2)).val < off 1 + size 1
    omega

theorem Legal.cover {n : BitVec 32} (h : Legal n) (x : Vec F S512x4096 .bf16) (a : Vec F S4096x1024 .bf16) :
    ∀ y, ∃ p ∈ outPieces n x a, y ∈ p.1.set := by
  intro y
  have hy : (y 0).val < 512 := (y 0).isLt
  unfold Legal at h
  rcases h with rfl | rfl | rfl | rfl | rfl | rfl | rfl | rfl | rfl
  · exact ⟨_, List.mem_cons_self, mem_rows inb_S512x1024_S512x1024_0_0 y ⟨Nat.zero_le _, by simpa using hy⟩ rfl rfl⟩
  · by_cases hr : (y 0).val < 64
    · exact ⟨_, List.mem_cons_of_mem _ List.mem_cons_self, mem_rows inb_S512x1024_S64x1024_0_0 y ⟨Nat.zero_le _, by simpa using hr⟩ rfl rfl⟩
    · exact ⟨_, List.mem_cons_self, mem_rows inb_S512x1024_S448x1024_64_0 y ⟨by simpa using hr, by simpa using hy⟩ rfl rfl⟩
  · by_cases hr : (y 0).val < 128
    · exact ⟨_, List.mem_cons_of_mem _ List.mem_cons_self, mem_rows inb_S512x1024_S128x1024_0_0 y ⟨Nat.zero_le _, by simpa using hr⟩ rfl rfl⟩
    · exact ⟨_, List.mem_cons_self, mem_rows inb_S512x1024_S384x1024_128_0 y ⟨by simpa using hr, by simpa using hy⟩ rfl rfl⟩
  · by_cases hr : (y 0).val < 192
    · exact ⟨_, List.mem_cons_of_mem _ List.mem_cons_self, mem_rows inb_S512x1024_S192x1024_0_0 y ⟨Nat.zero_le _, by simpa using hr⟩ rfl rfl⟩
    · exact ⟨_, List.mem_cons_self, mem_rows inb_S512x1024_S320x1024_192_0 y ⟨by simpa using hr, by simpa using hy⟩ rfl rfl⟩
  · by_cases hr : (y 0).val < 256
    · exact ⟨_, List.mem_cons_of_mem _ List.mem_cons_self, mem_rows inb_S512x1024_S256x1024_0_0 y ⟨Nat.zero_le _, by simpa using hr⟩ rfl rfl⟩
    · exact ⟨_, List.mem_cons_self, mem_rows inb_S512x1024_S256x1024_256_0 y ⟨by simpa using hr, by simpa using hy⟩ rfl rfl⟩
  · by_cases hr : (y 0).val < 320
    · exact ⟨_, List.mem_cons_of_mem _ List.mem_cons_self, mem_rows inb_S512x1024_S320x1024_0_0 y ⟨Nat.zero_le _, by simpa using hr⟩ rfl rfl⟩
    · exact ⟨_, List.mem_cons_self, mem_rows inb_S512x1024_S192x1024_320_0 y ⟨by simpa using hr, by simpa using hy⟩ rfl rfl⟩
  · by_cases hr : (y 0).val < 384
    · exact ⟨_, List.mem_cons_of_mem _ List.mem_cons_self, mem_rows inb_S512x1024_S384x1024_0_0 y ⟨Nat.zero_le _, by simpa using hr⟩ rfl rfl⟩
    · exact ⟨_, List.mem_cons_self, mem_rows inb_S512x1024_S128x1024_384_0 y ⟨by simpa using hr, by simpa using hy⟩ rfl rfl⟩
  · by_cases hr : (y 0).val < 448
    · exact ⟨_, List.mem_cons_of_mem _ List.mem_cons_self, mem_rows inb_S512x1024_S448x1024_0_0 y ⟨Nat.zero_le _, by simpa using hr⟩ rfl rfl⟩
    · exact ⟨_, List.mem_cons_self, mem_rows inb_S512x1024_S64x1024_448_0 y ⟨by simpa using hr, by simpa using hy⟩ rfl rfl⟩
  · exact ⟨_, List.mem_cons_self, mem_rows inb_S512x1024_S512x1024_0_0 y ⟨Nat.zero_le _, by simpa using hy⟩ rfl rfl⟩

/-- The staged weight block, bf16, as the body holds it. -/
abbrev wts (c : Dev nD) (a : Vec F S4096x1024 .bf16) : sProp 𝕄 :=
  iprop(pt c BD fullShare ((Memref.isWhole_whole cc0_scratch1).unread a))

/-- Reading a staged bf16 block whole is reading its contents. -/
theorem readAt_wts (M : Memref sig .tc .vmem S4096x1024 .bf16) (h : M.IsWhole) (a : Vec F S4096x1024 .bf16)
    (hb : ∀ k, (![0, 0] : Fin 2 → ℕ) k + S4096x1024.size k ≤ S4096x1024.size k) :
    View.readAt (Elt F) M.view (Rect.unit (s := S4096x1024) ![0, 0] S4096x1024.size hb).toLoadRect (h.unread a) = a := by
  funext y
  rw [h.readAt_unread]
  congr 1
  funext k
  refine Fin.ext ?_
  fin_cases k <;> simp [LoadRect.idx, Rect.unit, Rect.toLoadRect]

theorem readAt_part {S : Shape} {e : EltTy} (M : Memref sig .tc .vmem S e) (h : M.IsWhole) (x : Vec F S e) (r : Rect S) :
    View.readAt (Elt F) M.view r.toLoadRect (h.unread x) = part x r := funext fun y => h.readAt_unread x r.toLoadRect y

/-- The halves of the five tables the body reads. -/
abbrev tabs (c : Dev nD) (t0 : MBuf (F := F) c T0) (t1 : MBuf (F := F) c T1) (t2 : MBuf (F := F) c T2) (t3 : MBuf (F := F) c T3)
    (t4 : MBuf (F := F) c T4) : sProp 𝕄 :=
  iprop(pt c T0 fullShare.right t0 ∗ pt c T1 fullShare.right t1 ∗ pt c T2 fullShare.right t2 ∗ pt c T3 fullShare.right t3 ∗ pt c T4 fullShare.right t4)

/-- The output block a point leaves: determined by its valid-row word when that word is one the kernel counts by. -/
abbrev outAt (c : Dev nD) (M : Memref sig .tc .vmem S512x1024 .f32) (n : BitVec 32) (x : Vec F S512x4096 .bf16) (a : Vec F S4096x1024 .bf16) : sProp 𝕄 :=
  iprop(∃ X, ⌜Legal n → X = outVal n x a⌝ ∗ owns (c : Thread nD τ) M fullShare X)

theorem outAt_intro (c : Dev nD) (M : Memref sig .tc .vmem S512x1024 .f32) (n : BitVec 32) (x : Vec F S512x4096 .bf16) (a : Vec F S4096x1024 .bf16)
    (f : MBuf (F := F) c M) (L : List (View.Piece (Elt F) S512x1024 .f32)) (h : L = outPieces n x a) :
    ptS c M (M.view.writes (Elt F) f L) ⊢ outAt c M n x a := by
  subst h
  unfold outAt owns
  iintro H
  iexists _; isplitr
  swap
  · iexists _; isplitr
    swap; · iexact H
    ipureintro; rfl
  ipureintro
  intro hL
  exact View.read_writes_of_cover _ _ _ _ _ (hL.cover x a)

/-- Which of the kernel's nine row conditions hold at a valid-row word, and the writes that go with them. -/
theorem condCases (n : BitVec 32) :
    (k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a, outPieces (F := F) n x a = [⟨Rect.unit (s := S512x1024) ![64, 0] S448x1024.size inb_S512x1024_S448x1024_64_0, k0_pay5⟩, ⟨Rect.unit (s := S512x1024) ![0, 0] S64x1024.size inb_S512x1024_S64x1024_0_0, k0_pay4 (part x (Rect.unit (s := S512x4096) ![0, 0] S64x4096.size inb_S512x4096_S64x4096_0_0)) a⟩])
    ∨ (¬ k0_cond4 n = 1#1 ∧ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a, outPieces (F := F) n x a = [⟨Rect.unit (s := S512x1024) ![128, 0] S384x1024.size inb_S512x1024_S384x1024_128_0, k0_pay7⟩, ⟨Rect.unit (s := S512x1024) ![0, 0] S128x1024.size inb_S512x1024_S128x1024_0_0, k0_pay6 (part x (Rect.unit (s := S512x4096) ![0, 0] S128x4096.size inb_S512x4096_S128x4096_0_0)) a⟩])
    ∨ (¬ k0_cond4 n = 1#1 ∧ ¬ k0_cond5 n = 1#1 ∧ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a, outPieces (F := F) n x a = [⟨Rect.unit (s := S512x1024) ![192, 0] S320x1024.size inb_S512x1024_S320x1024_192_0, k0_pay9⟩, ⟨Rect.unit (s := S512x1024) ![0, 0] S192x1024.size inb_S512x1024_S192x1024_0_0, k0_pay8 (part x (Rect.unit (s := S512x4096) ![0, 0] S192x4096.size inb_S512x4096_S192x4096_0_0)) a⟩])
    ∨ (¬ k0_cond4 n = 1#1 ∧ ¬ k0_cond5 n = 1#1 ∧ ¬ k0_cond6 n = 1#1 ∧ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a, outPieces (F := F) n x a = [⟨Rect.unit (s := S512x1024) ![256, 0] S256x1024.size inb_S512x1024_S256x1024_256_0, k0_pay11⟩, ⟨Rect.unit (s := S512x1024) ![0, 0] S256x1024.size inb_S512x1024_S256x1024_0_0, k0_pay10 (part x (Rect.unit (s := S512x4096) ![0, 0] S256x4096.size inb_S512x4096_S256x4096_0_0)) a⟩])
    ∨ (¬ k0_cond4 n = 1#1 ∧ ¬ k0_cond5 n = 1#1 ∧ ¬ k0_cond6 n = 1#1 ∧ ¬ k0_cond7 n = 1#1 ∧ k0_cond8 n = 1#1 ∧ ¬ k0_cond9 n = 1#1 ∧ ¬ k0_cond10 n = 1#1 ∧ ¬ k0_cond11 n = 1#1 ∧ ¬ k0_cond12 n = 1#1
      ∧ ∀ x a, outPieces (F := F) n x a = [⟨Rect.unit (s := S512x1024) ![320, 0] S192x1024.size inb_S512x1024_S192x1024_320_0, k0_pay13⟩, ⟨Rect.unit (s := S512x1024) ![0, 0] S320x1024.size inb_S512x1024_S320x1024_0_0, k0_pay12 (part x (Rect.unit (s := S512x4096) ![0, 0] S320x4096.size inb_S512x4096_S320x4096_0_0)) a⟩])
    ∨ (¬ k0_cond4 n = 1#1 ∧ ¬ k0_cond5 n = 1#1 ∧ ¬ k0_cond6 n = 1#1 ∧ ¬ k0_cond7 n = 1#1 ∧ ¬ k0_cond8 n = 1#1 ∧ k0_cond9 n = 1#1 ∧ ¬ k0_cond10 n = 1#1 ∧ ¬ k0_cond11 n = 1#1 ∧ ¬ k0_cond12 n = 1#1
      ∧ ∀ x a, outPieces (F := F) n x a = [⟨Rect.unit (s := S512x1024) ![384, 0] S128x1024.size inb_S512x1024_S128x1024_384_0, k0_pay15⟩, ⟨Rect.unit (s := S512x1024) ![0, 0] S384x1024.size inb_S512x1024_S384x1024_0_0, k0_pay14 (part x (Rect.unit (s := S512x4096) ![0, 0] S384x4096.size inb_S512x4096_S384x4096_0_0)) a⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ k0_cond10 n = 1#1 ∧ ¬ k0_cond11 n = 1#1 ∧ ¬ k0_cond12 n = 1#1
      ∧ ∀ x a, outPieces (F := F) n x a = [⟨Rect.unit (s := S512x1024) ![448, 0] S64x1024.size inb_S512x1024_S64x1024_448_0, k0_pay17⟩, ⟨Rect.unit (s := S512x1024) ![0, 0] S448x1024.size inb_S512x1024_S448x1024_0_0, k0_pay16 (part x (Rect.unit (s := S512x4096) ![0, 0] S448x4096.size inb_S512x4096_S448x4096_0_0)) a⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ k0_cond11 n = 1#1 ∧ ¬ k0_cond12 n = 1#1
      ∧ ∀ x a, outPieces (F := F) n x a = [⟨Rect.unit (s := S512x1024) ![0, 0] S512x1024.size inb_S512x1024_S512x1024_0_0, k0_pay1 (part x (Rect.unit (s := S512x4096) ![0, 0] S512x4096.size inb_S512x4096_S512x4096_0_0)) a⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ k0_cond12 n = 1#1
      ∧ ∀ x a, outPieces (F := F) n x a = [⟨Rect.unit (s := S512x1024) ![0, 0] S512x1024.size inb_S512x1024_S512x1024_0_0, k0_pay2⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a, outPieces (F := F) n x a = []) := by
  have key : ∀ k : BitVec 32, (Scalar.cmpi .ne (Scalar.extui (Scalar.cmpi .eq n k) : BitVec 32) 0#32 = 1#1) ↔ n = k := by
    intro k
    by_cases h : n = k
    · simp [Scalar.cmpi, Scalar.extui, IntOp.cmpi, h]
    · have hb : (n == k) = false := by simpa using h
      simp [Scalar.cmpi, Scalar.extui, IntOp.cmpi, h, hb]
  have c4 : k0_cond4 n = 1#1 ↔ n = 64#32 := key _
  have c5 : k0_cond5 n = 1#1 ↔ n = 128#32 := key _
  have c6 : k0_cond6 n = 1#1 ↔ n = 192#32 := key _
  have c7 : k0_cond7 n = 1#1 ↔ n = 256#32 := key _
  have c8 : k0_cond8 n = 1#1 ↔ n = 320#32 := key _
  have c9 : k0_cond9 n = 1#1 ↔ n = 384#32 := key _
  have c10 : k0_cond10 n = 1#1 ↔ n = 448#32 := key _
  have c11 : k0_cond11 n = 1#1 ↔ n = 512#32 := key _
  have c12 : k0_cond12 n = 1#1 ↔ n = 0#32 := key _
  rw [c4, c5, c6, c7, c8, c9, c10, c11, c12]
  by_cases g4 : n = 64#32
  · subst g4; left; refine ⟨rfl, by decide, by decide, by decide, by decide, by decide, by decide, by decide, by decide, fun x a => rfl⟩
  by_cases g5 : n = 128#32
  · subst g5; right; left; refine ⟨by decide, rfl, by decide, by decide, by decide, by decide, by decide, by decide, by decide, fun x a => rfl⟩
  by_cases g6 : n = 192#32
  · subst g6; right; right; left; refine ⟨by decide, by decide, rfl, by decide, by decide, by decide, by decide, by decide, by decide, fun x a => rfl⟩
  by_cases g7 : n = 256#32
  · subst g7; right; right; right; left; refine ⟨by decide, by decide, by decide, rfl, by decide, by decide, by decide, by decide, by decide, fun x a => rfl⟩
  by_cases g8 : n = 320#32
  · subst g8; right; right; right; right; left; refine ⟨by decide, by decide, by decide, by decide, rfl, by decide, by decide, by decide, by decide, fun x a => rfl⟩
  by_cases g9 : n = 384#32
  · subst g9; right; right; right; right; right; left; refine ⟨by decide, by decide, by decide, by decide, by decide, rfl, by decide, by decide, by decide, fun x a => rfl⟩
  by_cases g10 : n = 448#32
  · subst g10; right; right; right; right; right; right; left; refine ⟨by decide, by decide, by decide, by decide, by decide, by decide, rfl, by decide, by decide, fun x a => rfl⟩
  by_cases g11 : n = 512#32
  · subst g11; right; right; right; right; right; right; right; left; refine ⟨by decide, by decide, by decide, by decide, by decide, by decide, by decide, rfl, by decide, fun x a => rfl⟩
  by_cases g12 : n = 0#32
  · subst g12; right; right; right; right; right; right; right; right; left; refine ⟨by decide, by decide, by decide, by decide, by decide, by decide, by decide, by decide, rfl, fun x a => rfl⟩
  right; right; right; right; right; right; right; right; right
  exact ⟨g4, g5, g6, g7, g8, g9, g10, g11, g12, fun x a => by unfold outPieces; rw [if_neg g4, if_neg g5, if_neg g6, if_neg g7, if_neg g8, if_neg g9, if_neg g10, if_neg g11, if_neg g12]⟩

/-- A store of the whole staged block leaves its payload. -/
theorem read_writes_wts {e : EltTy} (M : Memref sig .tc .vmem S4096x1024 e) (f : M.view.ty.Contents (Elt F))
    (hb : ∀ k, (![0, 0] : Fin 2 → ℕ) k + S4096x1024.size k ≤ S4096x1024.size k) (p : Vec F S4096x1024 e) (L : List (View.Piece (Elt F) S4096x1024 e)) :
    M.view.read (Elt F) (M.view.writes (Elt F) f (⟨Rect.unit (s := S4096x1024) ![0, 0] S4096x1024.size hb, p⟩ :: L)) = p := by
  funext y
  refine View.read_writes_cons_unit_of_mem M.view f hb p L y y rfl fun k => ?_
  fin_cases k <;> exact (Nat.zero_add _).symm

theorem pt_wts (c : Dev nD) (M : Memref sig .tc .vmem S4096x1024 .bf16) (hM : M.IsWhole) (f : MBuf (F := F) c M)
    (hb : ∀ k, (![0, 0] : Fin 2 → ℕ) k + S4096x1024.size k ≤ S4096x1024.size k) (p q : Vec F S4096x1024 .bf16) (h : p = q) :
    pt c M fullShare (M.view.writes (Elt F) f [⟨Rect.unit (s := S4096x1024) ![0, 0] S4096x1024.size hb, p⟩]) ⊢ pt c M fullShare (hM.unread q) := by
  subst h
  rw [← hM.eq_unread (read_writes_wts M f hb p [])]

/-- Reading a staged f32 block whole is reading its contents. -/
theorem readAt_stage (c : Dev nD) (M : Memref sig .tc .vmem S4096x1024 .f32) (g : MBuf (F := F) c M)
    (hb : ∀ k, (![0, 0] : Fin 2 → ℕ) k + S4096x1024.size k ≤ S4096x1024.size k) :
    View.readAt (Elt F) M.view (Rect.unit (s := S4096x1024) ![0, 0] S4096x1024.size hb).toLoadRect g = M.view.read (Elt F) g := by
  funext y
  show M.view.read (Elt F) g _ = M.view.read (Elt F) g y
  congr 1
  funext k
  refine Fin.ext ?_
  fin_cases k <;> simp [LoadRect.idx, Rect.unit, Rect.toLoadRect]

/-- The weight block at `off` of the stacked weights. -/
def blk (c : Dev nD) (M : Memref sig .tc .hbm S16x4096x2048 .f32) (w : MBuf (F := F) c M) (off : Fin 3 → ℕ)
    (h : ∀ a, off a + S1x4096x1024.size a ≤ S16x4096x2048.size a) : Vec F S4096x1024 .f32 :=
  ((M.slice (Rect.unit (s := S16x4096x2048) off S1x4096x1024.size h) (fun _ => rfl)).squeeze S4096x1024 squeezes_S1x4096x1024_S4096x1024).view.read (Elt F) w

/-- A flight out of part of an array, with the rest of the array: a flight that delivers the array whole. -/
theorem flight_whole (c : Dev nD) (sm : SemLoc sig) (N : ℕ) (D : sProp 𝕄) {ℓ : Loc nD τ sig} (I : Finset (Idx ℓ)) (w : Buf (Elt F) ℓ) :
    iprop(Transfers.Flight (countersEmb (U := Pipeline.UD sig nD τ)) (c : Thread nD τ) sm () N iprop(D ∗ ℓ ↦[I]{fullShare} w) ∗ ℓ ↦[Finset.univ \ I]{fullShare} w)
      ⊢ (Transfers.Flight (countersEmb (U := Pipeline.UD sig nD τ)) (c : Thread nD τ) sm () N iprop(D ∗ ℓ ↦{fullShare} w) : sProp 𝕄) := by
  unfold Transfers.Flight
  iintro ⟨⟨⟨%R, HR, %hcap, %hpeek⟩, Hcred⟩, Hrest⟩
  isplitr [Hcred]
  · iexists iprop(R ∗ ℓ ↦[Finset.univ \ I]{fullShare} w)
    isplitl [HR Hrest]; · isplitl [HR] <;> iassumption
    isplit
    · ipureintro
      intro K
      iintro ⟨⟨HR, Hrest⟩, HK⟩
      iapply (hcap K)
      isplitl [HR]; · iexact HR
      iintro ⟨Hv, HD, Hs⟩
      iapply HK
      isplitl [Hv]; · iexact Hv
      isplitl [HD]; · iexact HD
      iapply (pointsTo_split_subset (Finset.subset_univ I)).2
      isplitl [Hs] <;> iassumption
    · ipureintro
      intro K
      iintro ⟨⟨HR, Hrest⟩, HK⟩
      iapply (hpeek K)
      isplitl [HR]; · iexact HR
      iintro HR
      iapply HK
      isplitl [HR] <;> iassumption
  · iexact Hcred

theorem blk_congr (c : Dev nD) (M : Memref sig .tc .hbm S16x4096x2048 .f32) (w : MBuf (F := F) c M) {off off' : Fin 3 → ℕ} (e : off = off')
    (h : ∀ a, off a + S1x4096x1024.size a ≤ S16x4096x2048.size a) (h' : ∀ a, off' a + S1x4096x1024.size a ≤ S16x4096x2048.size a) :
    blk c M w off h = blk c M w off' h' := by
  subst e; rfl

end Cert.Down

end
-- ==== Proof.Down.Words.lean ====
/-
The kernel's words at a grid point: its conditions, offsets and side conditions, under the schedule.
-/
module

public import proofs.«01_k».proof.Proof.Down.Sched
public import proofs.«01_k».proof.Proof.Down.Body

@[expose] public section

set_option maxRecDepth 16384

noncomputable section

namespace Cert.Down

open Cert.Kernel4Ideal Cert.Kernel4Ideal.Gen
open Cert.Up (opens grp nxt nxt_lt col sge_word)
open Idealize.ShloMosaic Idealize.ShloMosaic.TcCoe Idealize.ShloMosaic.Routing Idealize.SL.Sem

variable {F : FTy → Type} [FloatOps F]

theorem rd_T0 (c : Dev nD) (t : MBuf (F := F) c T0) (off : Fin 1 → ℕ) (h : ∀ a, off a + S1.size a ≤ S40.size a) :
    rd c T0 t off h = (t : IVec S40 32) (ix1 ⟨off 0, by have := h 0; change off 0 + 1 ≤ 40 at this; omega⟩) := by
  show (t : IVec S40 32) _ = _
  congr 1; funext k; fin_cases k; refine Fin.ext ?_; simp [ix1, LoadRect.idx, Rect.unit, Rect.toLoadRect]
theorem rd_T1 (c : Dev nD) (t : MBuf (F := F) c T1) (off : Fin 1 → ℕ) (h : ∀ a, off a + S1.size a ≤ S40.size a) :
    rd c T1 t off h = (t : IVec S40 32) (ix1 ⟨off 0, by have := h 0; change off 0 + 1 ≤ 40 at this; omega⟩) := by
  show (t : IVec S40 32) _ = _
  congr 1; funext k; fin_cases k; refine Fin.ext ?_; simp [ix1, LoadRect.idx, Rect.unit, Rect.toLoadRect]
theorem rd_T2 (c : Dev nD) (t : MBuf (F := F) c T2) (off : Fin 1 → ℕ) (h : ∀ a, off a + S1.size a ≤ S40.size a) :
    rd c T2 t off h = (t : IVec S40 32) (ix1 ⟨off 0, by have := h 0; change off 0 + 1 ≤ 40 at this; omega⟩) := by
  show (t : IVec S40 32) _ = _
  congr 1; funext k; fin_cases k; refine Fin.ext ?_; simp [ix1, LoadRect.idx, Rect.unit, Rect.toLoadRect]
theorem rd_T3 (c : Dev nD) (t : MBuf (F := F) c T3) (off : Fin 1 → ℕ) (h : ∀ a, off a + S1.size a ≤ S40.size a) :
    rd c T3 t off h = (t : IVec S40 32) (ix1 ⟨off 0, by have := h 0; change off 0 + 1 ≤ 40 at this; omega⟩) := by
  show (t : IVec S40 32) _ = _
  congr 1; funext k; fin_cases k; refine Fin.ext ?_; simp [ix1, LoadRect.idx, Rect.unit, Rect.toLoadRect]

/-- The tables' words are the schedule of the experts `te`. -/
structure Ok (c : Dev nD) (te : ℕ → BitVec 32) (t1 : MBuf (F := F) c T1) (t2 : MBuf (F := F) c T2) (t3 : MBuf (F := F) c T3) (t4 : MBuf (F := F) c T4) : Prop where
  lt : ∀ n, (te n).toNat < 16
  f1 : ∀ off h, rd c T1 t1 off h = BitVec.ofNat 32 (opens te (off 0)).toNat
  f2 : ∀ off h, rd c T2 t2 off h = BitVec.ofNat 32 (grp te (off 0))
  f3lt : ∀ off h, (rd c T3 t3 off h).toNat < 16
  f3 : ∀ off h n, n < 40 → off 0 = grp te n → rd c T3 t3 off h = te n
  f4 : rdN c t4 = BitVec.ofNat 32 (grp te 39 + 1)

/-! ## The words -/

theorem off1_eq (i : grid0.Coords) : k0_off1 i 0 = (i 1).val := by
  have h : (i 1).val < 40 := (i 1).isLt
  show (BitVec.ofNat 32 (i 1).val).toNat = _
  rw [BitVec.toNat_ofNat]; omega
theorem off7_eq (i : grid0.Coords) : k0_off7 i 0 = (i 1).val := off1_eq i

theorem cond1_iff (b : Bool) : k0_cond1 (BitVec.ofNat 32 b.toNat) = 1#1 ↔ b = true := by
  cases b <;> decide

theorem cond2_iff (i : grid0.Coords) (g : ℕ) (hg : g < 40) : k0_cond2 i (BitVec.ofNat 32 g) = 1#1 ↔ (i 0).val = 0 ∧ g = 0 := by
  have h : (i 0).val < 2 := (i 0).isLt
  unfold k0_cond2
  generalize (i 0).val = j at h
  have key : ∀ j : Fin 2, ∀ g : Fin 40, Scalar.cmpi .ne (Scalar.extui (Scalar.andi (Scalar.cmpi .eq (BitVec.ofNat 32 j) 0#32) (Scalar.cmpi .eq (BitVec.ofNat 32 g) 0#32))) 0#32 = 1#1 ↔ j.val = 0 ∧ g.val = 0 := by
    decide +kernel
  exact key ⟨j, h⟩ ⟨g, hg⟩

theorem cond3_iff (i : grid0.Coords) (g N : ℕ) (hg : g < 40) (hN : N < 41) :
    k0_cond3 i (BitVec.ofNat 32 g) (BitVec.ofNat 32 N) = 1#1 ↔ col g N (i 0).val < 2 := by
  have h : (i 0).val < 2 := (i 0).isLt
  have hs := sge_word ⟨g, hg⟩ ⟨N, hN⟩
  unfold k0_cond3 col
  generalize (i 0).val = j at h
  simp only at hs ⊢
  rw [hs]
  by_cases e : N ≤ g + 1
  · simp only [e, if_true, decide_true]
    interval_cases j <;> decide
  · simp only [e, if_false, decide_false]
    interval_cases j <;> decide

theorem off3_eq (g : ℕ) (hg : g < 40) : k0_off3 (BitVec.ofNat 32 g) = ![g] := by
  show ![(BitVec.ofNat 32 g).toNat] = _
  rw [BitVec.toNat_ofNat, Nat.mod_eq_of_lt (by omega)]

theorem off5_eq (g N : ℕ) (hg : g < 40) (hN : N < 41) : k0_off5 (BitVec.ofNat 32 g) (BitVec.ofNat 32 N) = ![nxt g N] := by
  have hs := sge_word ⟨g, hg⟩ ⟨N, hN⟩
  unfold k0_off5 nxt
  simp only at hs ⊢
  rw [hs]
  by_cases e : N ≤ g + 1
  · simp only [e, if_true, decide_true]; rfl
  · simp only [e, if_false, decide_false]
    show ![(BitVec.ofNat 32 g + 1#32).toNat] = _
    rw [BitVec.toNat_add, BitVec.toNat_ofNat]
    congr 1
    show (g % 2 ^ 32 + 1) % 2 ^ 32 = _
    omega

theorem mult3_eq (i : grid0.Coords) (g N : ℕ) (hg : g < 40) (hN : N < 41) :
    (k0_mult3 i (BitVec.ofNat 32 g) (BitVec.ofNat 32 N)).toNat = col g N (i 0).val * 1024 := by
  have h : (i 0).val < 2 := (i 0).isLt
  have hs := sge_word ⟨g, hg⟩ ⟨N, hN⟩
  unfold k0_mult3 col
  generalize (i 0).val = j at h
  simp only at hs ⊢
  rw [hs]
  by_cases e : N ≤ g + 1
  · simp only [e, if_true, decide_true]
    interval_cases j <;> rfl
  · simp only [e, if_false, decide_false]
    interval_cases j <;> rfl

theorem off6_eq (i : grid0.Coords) (g N : ℕ) (hg : g < 40) (hN : N < 41) (w : BitVec 32) :
    k0_off6 i (BitVec.ofNat 32 g) (BitVec.ofNat 32 N) w = ![w.toNat, 0, col g N (i 0).val * 1024] := by
  rw [← mult3_eq i g N hg hN]; rfl

theorem off4_eq (i : grid0.Coords) (w : BitVec 32) : k0_off4 i w = ![w.toNat, 0, (i 0).val * 1024] := by
  have h : (i 0).val < 2 := (i 0).isLt
  have e : (k0_mult2 i).toNat = (i 0).val * 1024 := by
    unfold k0_mult2
    generalize (i 0).val = j at h
    interval_cases j <;> rfl
  rw [← e]; rfl

/-- A weight block's offsets lie in the array. -/
theorem inb_block {e j : ℕ} (he : e < 16) (hj : j < 2) : ∀ a, (![e, 0, j * 1024] : Fin 3 → ℕ) a + S1x4096x1024.size a ≤ S16x4096x2048.size a := by
  intro a
  fin_cases a
  · show e + 1 ≤ 16; omega
  · show 0 + 4096 ≤ 4096; omega
  · show j * 1024 + 1024 ≤ 2048; omega

theorem inb_word {g : ℕ} (h : g < 40) : ∀ a, (![g] : Fin 1 → ℕ) a + S1.size a ≤ S40.size a := by
  intro a
  fin_cases a
  show g + 1 ≤ 40
  omega

theorem chk2_ok (i : grid0.Coords) (g N : ℕ) (hg : g < 40) (hN : N < 41) (w : BitVec 32) : k0_chk2 i (BitVec.ofNat 32 g) (BitVec.ofNat 32 N) w := by
  refine ⟨fun _ => ?_, fun _ => ?_, fun _ _ => ?_⟩
  · rw [off3_eq g hg]; exact inb_word hg
  · rw [off5_eq g N hg hN]; exact inb_word (nxt_lt hN)
  · rw [mult3_eq i g N hg hN]; exact Dvd.intro_left _ rfl

theorem chk3_ok (i : grid0.Coords) (w v : BitVec 32) (hv : v.toNat < 16) : k0_chk3 i w v := fun _ => by
  rw [off4_eq]; exact inb_block hv (i 0).isLt

theorem chk1_ok (i : grid0.Coords) (u w v : BitVec 32) (hv : v.toNat < 16) : k0_chk1 i u w v := fun _ _ => inb_block (j := 0) hv (by omega)

theorem chk4_ok (i : grid0.Coords) (g N : ℕ) (hg : g < 40) (hN : N < 41) (w v : BitVec 32) (hv : v.toNat < 16) :
    k0_chk4 i (BitVec.ofNat 32 g) (BitVec.ofNat 32 N) w v := fun _ h3 => by
  rw [off6_eq i g N hg hN]; exact inb_block hv ((cond3_iff i g N hg hN).1 h3)

end Cert.Down

end
-- ==== Proof.Down.Start.lean ====
/-
The tables the kernel reads are the schedule of the experts it is given, and its arguments are
what the call finds.
-/
module

public import proofs.«01_k».proof.Proof.Down.Sched
public import proofs.«01_k».proof.Proof.Down.Words

@[expose] public section

set_option maxRecDepth 16384

noncomputable section

namespace Cert.Down

open Cert.Kernel4Ideal Cert.Kernel4Ideal.Gen
open Cert.Up (firstOf gidOf geOf ngOf wordAt first_at gid_at ng_at ge_at ge_lt)
open Idealize.ShloMosaic Idealize.ShloMosaic.TcCoe Idealize.ShloMosaic.Tactic
open Idealize.SL Idealize.SL.RA Idealize.SL.BI

variable {F : FTy → Type} [FloatOps F]
variable (m : (ℓ : Loc nD τ sig) → Buf (Elt F) ℓ)

set_option maxHeartbeats 1000000 in
theorem V_arg0 (c : Dev nD) : V m c main_arg0 = m ((c : Thread nD τ).loc main_arg0) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg1 (c : Dev nD) : V m c main_arg1 = m ((c : Thread nD τ).loc main_arg1) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg2 (c : Dev nD) : V m c main_arg2 = m ((c : Thread nD τ).loc main_arg2) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg3 (c : Dev nD) : V m c main_arg3 = m ((c : Thread nD τ).loc main_arg3) := by
  show StableHlo.after hostAll _ _ = _
  simp only [hostAll, hostOps0, hostOps0_1, hostOps0_2, List.flatten_cons, List.flatten_nil, List.append_nil, List.cons_append, List.nil_append]
  after_results

/-- The experts of the tiles, as the kernel is given them. -/
abbrev tea (c : Dev nD) : IVec S40 32 := m ((c : Thread nD τ).loc main_arg1)
/-- Every expert is one of the sixteen. -/
def Experts : Prop := ∀ (c : Dev nD) i, (tea m c i).toNat < 16

theorem wordAt_lt (a : IVec S40 32) (ha : ∀ i, (a i).toNat < 16) (n : ℕ) : (wordAt a n).toNat < 16 := by
  unfold wordAt; split
  · exact ha _
  · decide

/-- The tables, as the call finds them. -/
def WX (c : Dev nD) : MBuf (F := F) c TX := V m c main_v1
def W0 (c : Dev nD) : MBuf (F := F) c T0 := V m c main_arg2
def W1 (c : Dev nD) : MBuf (F := F) c T1 := V m c main_v7
def W2 (c : Dev nD) : MBuf (F := F) c T2 := V m c main_v10
def W3 (c : Dev nD) : MBuf (F := F) c T3 := V m c main_v18
def W4 (c : Dev nD) : MBuf (F := F) c T4 := V m c main_v21

/-- The tables' words are the schedule of the experts. -/
theorem ok_tbl (hm : Experts m) (c : Dev nD) : Ok c (wordAt (tea m c)) (W1 m c) (W2 m c) (W3 m c) (W4 m c) := by
  have e1 : W1 m c = firstOf (tea m c) := entry_first m c
  have e2 : W2 m c = gidOf (firstOf (tea m c)) := entry_gid m c
  have e3 : W3 m c = geOf (gidOf (firstOf (tea m c))) (tea m c) := entry_ge m c
  have e4 : W4 m c = ngOf (gidOf (firstOf (tea m c))) := entry_ng m c
  refine ⟨wordAt_lt _ (hm c), fun off h => ?_, fun off h => ?_, fun off h => ?_, fun off h n hn hx => ?_, ?_⟩
  · exact (rd_T1 c _ off h).trans ((congrFun e1 _).trans (first_at _ _))
  · exact (rd_T2 c _ off h).trans ((congrFun e2 _).trans (gid_at _ _))
  · rw [rd_T3 c _ off h]; exact (congrArg BitVec.toNat (congrFun e3 _)).trans_lt (ge_lt _ (hm c) _ _)
  · refine (rd_T3 c _ off h).trans ((congrFun e3 _).trans ((ge_at _ (hm c) ⟨n, hn⟩ ⟨off 0, _⟩ hx.symm).trans ?_))
    unfold wordAt; rw [dif_pos hn]
  · exact (congrArg (rdN c) e4).trans (ng_at _ _)

end Cert.Down

end
-- ==== Proof.Down.Carry.lean ====
/- A grid point whose tile goes on with the group of the tile before it. -/
module

public import proofs.«01_k».proof.Proof.Down.Body

@[expose] public section

set_option maxRecDepth 16384

noncomputable section

namespace Cert.Down

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 2000000 in
/-- A point whose tile goes on with the group before it: the staged blocks are used as they stand. -/
theorem body_carry (c : Dev nD) (i : grid0.Coords)
    (arg8 : Memref sig .tc .vmem S512x4096 .bf16) (harg8 : arg8.IsWhole) (arg10 : Memref sig .tc .vmem S512x1024 .f32) (harg10 : arg10.IsWhole)
    (t0 : MBuf (F := F) c T0) (t1 : MBuf (F := F) c T1) (t2 : MBuf (F := F) c T2) (t3 : MBuf (F := F) c T3) (t4 : MBuf (F := F) c T4)
    (x : Vec F S512x4096 .bf16) (a : Vec F S4096x1024 .bf16)
    (h1 : ¬ k0_cond1 (rd c T1 t1 (k0_off1 i) (k0_off1_inb i)) = 1#1) (K : PUnit → sProp 𝕄) :
    iprop(tabs c t0 t1 t2 t3 t4 ∗ wts c a ∗ owns (c : Thread nD τ) arg8 fullShare x ∗ (∃ X, owns (c : Thread nD τ) arg10 fullShare X)
        ∗ (iprop(tabs c t0 t1 t2 t3 t4 ∗ wts c a ∗ owns (c : Thread nD τ) arg8 fullShare x
            ∗ outAt c arg10 (rd c T0 t0 (k0_off7 i) (k0_off7_inb i)) x a) -∗ K ⟨⟩))
      ⊢ wp frame (wpE (defs₀ (F := F)) Variants.none c none) Set.univ (cc0_moe_down (F := F) i TX (Memref.isWhole_whole _) T0 (Memref.isWhole_whole _) T1 (Memref.isWhole_whole _) T2 (Memref.isWhole_whole _) T3 (Memref.isWhole_whole _) T4 (Memref.isWhole_whole _) arg8 harg8 WD (Memref.isWhole_whole _) arg10 harg10 SD (Memref.isWhole_whole _) BD (Memref.isWhole_whole _) cc0_scratch2) K := by
  simp only [cc0_moe_down_eq_skeleton]; unfold cc0_moe_down_skel
  simp only [k0_part1_eq_skeleton]
  have h2 : ∀ w1 w2, k0_chk2 i w1 w2 (rd c T1 t1 (k0_off1 i) (k0_off1_inb i)) :=
    fun w1 w2 => ⟨fun k => absurd k h1, fun k => absurd k h1, fun k => absurd k h1⟩
  unfold owns
  iintro ⟨⟨HT0, HT1, HT2, HT3, HT4⟩, HB, ⟨%f7, %hf7, H7⟩, ⟨%X10, %f10, -, H10⟩, Hk⟩
  obtain rfl := harg8.eq_unread hf7
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact h1 | exact h2 _ _ | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HB]; · iexact HB
    isplitl [H7]
    · iexists _; isplitr; · ipureintro; exact harg8.read_unread _
      iexact H7
    first
      | (iapply (outAt_intro c arg10 _ x a f10 [] (hp x a).symm)
         iexact H10)
      | (iapply outAt_intro
         rotate_left
         · iexact H10
         · try simp only [readAt_part]
           first
             | exact (hp x a).symm
             | exact (hp x _).symm.trans (congrArg (outPieces _ x) (readAt_wts BD (Memref.isWhole_whole _) a _)))

end Cert.Down

end
-- ==== Proof.Down.Last.lean ====
/- A grid point that opens the last group of the last column. -/
module

public import proofs.«01_k».proof.Proof.Down.Body

@[expose] public section

set_option maxRecDepth 16384

noncomputable section

namespace Cert.Down

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 4000000 in
/-- A point that opens the last group of the last column: it waits for its weight blocks and starts no copy. -/
theorem body_last (c : Dev nD) (i : grid0.Coords)
    (arg8 : Memref sig .tc .vmem S512x4096 .bf16) (harg8 : arg8.IsWhole) (arg10 : Memref sig .tc .vmem S512x1024 .f32) (harg10 : arg10.IsWhole)
    (t0 : MBuf (F := F) c T0) (t1 : MBuf (F := F) c T1) (t2 : MBuf (F := F) c T2) (t3 : MBuf (F := F) c T3) (t4 : MBuf (F := F) c T4)
    (x : Vec F S512x4096 .bf16) (wg : MBuf (F := F) c WD)
    (w1 w2 : BitVec 32) (hw1 : rd c T2 t2 (k0_off1 i) (k0_off1_inb i) = w1) (hw2 : rdN c t4 = w2)
    (h1 : k0_cond1 (rd c T1 t1 (k0_off1 i) (k0_off1_inb i)) = 1#1)
    (hk2 : k0_chk2 i w1 w2 (rd c T1 t1 (k0_off1 i) (k0_off1_inb i)))
    (hk3 : ∀ h, k0_chk3 i (rd c T1 t1 (k0_off1 i) (k0_off1_inb i)) (rd c T3 t3 (k0_off3 w1) h))
    (g : MBuf (F := F) c SD)
    (h2 : ¬ k0_cond2 i w1 = 1#1)
    (h3 : ¬ k0_cond3 i w1 w2 = 1#1)
    (W : Waits sig Unit) (K : PUnit → sProp 𝕄) :
    iprop(tabs c t0 t1 t2 t3 t4 ∗ (∃ f, pt c BD fullShare f) ∗ flight c s4 SD WD g wg ∗ owes (c : Thread nD τ) 0 W
        ∗ owns (c : Thread nD τ) arg8 fullShare x ∗ (∃ X, owns (c : Thread nD τ) arg10 fullShare X)
        ∗ (iprop(tabs c t0 t1 t2 t3 t4 ∗ wts c (k0_pay3 (SD.view.read (Elt F) g)) ∗ (pt c SD fullShare g ∗ pt c WD fullShare wg ∗ semVal ((c : Thread nD τ), SemLoc.dma s4) 0) ∗ (∃ W, owes (c : Thread nD τ) 0 W)
            ∗ owns (c : Thread nD τ) arg8 fullShare x
            ∗ outAt c arg10 (rd c T0 t0 (k0_off7 i) (k0_off7_inb i)) x (k0_pay3 (SD.view.read (Elt F) g))) -∗ K ⟨⟩))
      ⊢ wp frame (wpE (defs₀ (F := F)) Variants.none c none) Set.univ (cc0_moe_down (F := F) i TX (Memref.isWhole_whole _) T0 (Memref.isWhole_whole _) T1 (Memref.isWhole_whole _) T2 (Memref.isWhole_whole _) T3 (Memref.isWhole_whole _) T4 (Memref.isWhole_whole _) arg8 harg8 WD (Memref.isWhole_whole _) arg10 harg10 SD (Memref.isWhole_whole _) BD (Memref.isWhole_whole _) cc0_scratch2) K := by
  subst hw1 hw2
  simp only [cc0_moe_down_eq_skeleton]; unfold cc0_moe_down_skel
  simp only [k0_part1_eq_skeleton]; unfold k0_part1_skel
  unfold owns
  iintro ⟨⟨HT0, HT1, HT2, HT3, HT4⟩, ⟨%fg, HB⟩, HF, HO, ⟨%f7, %hf7, H7⟩, ⟨%X10, %f10, -, H10⟩, Hk⟩
  obtain rfl := harg8.eq_unread hf7
  set_option sl_exec.stopBefore "k0_cond4" in sl_exec (disch := first  | exact fun _ k => absurd k h3 | exact h2 | exact h3 | exact h1 | exact hk2 | exact hk3 _)
  generalize hA : k0_pay3 (SD.view.read (Elt F) g) = A
  ihave HB' := (pt_wts c BD (Memref.isWhole_whole _) fg _ _ A ((congrArg k0_pay3 (readAt_stage c SD _ _)).trans hA)) $$ HB
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HB']; · iexact HB'
    isplitl [HF_dst HF_src HF]
    · isplitl [HF_dst]; · iexact HF_dst
      isplitl [HF_src]; · iexact HF_src
      iexact HF
    isplitl [HO]; · iexists _; iexact HO
    isplitl [H7]
    · iexists _; isplitr; · ipureintro; exact harg8.read_unread _
      iexact H7
    first
      | (iapply (outAt_intro c arg10 _ x A f10 [] (hp x A).symm)
         iexact H10)
      | (iapply outAt_intro
         rotate_left
         · iexact H10
         · try simp only [readAt_part]
           first
             | exact (hp x A).symm
             | exact (hp x _).symm.trans (congrArg (outPieces _ x) (readAt_wts BD (Memref.isWhole_whole _) A _)))

end Cert.Down

end
-- ==== Proof.Down.Next.lean ====
/- A grid point that opens a group and starts the next group's copies. -/
module

public import proofs.«01_k».proof.Proof.Down.Body

@[expose] public section

set_option maxRecDepth 16384

noncomputable section

namespace Cert.Down

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 4000000 in
/-- A point that opens a group: it waits for its weight blocks and starts the copies of the next group's. -/
theorem body_next (c : Dev nD) (i : grid0.Coords)
    (arg8 : Memref sig .tc .vmem S512x4096 .bf16) (harg8 : arg8.IsWhole) (arg10 : Memref sig .tc .vmem S512x1024 .f32) (harg10 : arg10.IsWhole)
    (t0 : MBuf (F := F) c T0) (t1 : MBuf (F := F) c T1) (t2 : MBuf (F := F) c T2) (t3 : MBuf (F := F) c T3) (t4 : MBuf (F := F) c T4)
    (x : Vec F S512x4096 .bf16) (wg : MBuf (F := F) c WD)
    (w1 w2 : BitVec 32) (hw1 : rd c T2 t2 (k0_off1 i) (k0_off1_inb i) = w1) (hw2 : rdN c t4 = w2)
    (h1 : k0_cond1 (rd c T1 t1 (k0_off1 i) (k0_off1_inb i)) = 1#1)
    (hk2 : k0_chk2 i w1 w2 (rd c T1 t1 (k0_off1 i) (k0_off1_inb i)))
    (hk3 : ∀ h, k0_chk3 i (rd c T1 t1 (k0_off1 i) (k0_off1_inb i)) (rd c T3 t3 (k0_off3 w1) h))
    (g : MBuf (F := F) c SD)
    (h2 : ¬ k0_cond2 i w1 = 1#1)
    (h3 : k0_cond3 i w1 w2 = 1#1) (hk4 : ∀ h, k0_chk4 i w1 w2 (rd c T1 t1 (k0_off1 i) (k0_off1_inb i)) (rd c T3 t3 (k0_off5 w1 w2) h))
    (off' : Fin 3 → ℕ) (hoff' : ∀ h, k0_off6 i w1 w2 (rd c T3 t3 (k0_off5 w1 w2) h) = off') (hin' : ∀ a, off' a + S1x4096x1024.size a ≤ S16x4096x2048.size a)
    (W : Waits sig Unit) (K : PUnit → sProp 𝕄) :
    iprop(tabs c t0 t1 t2 t3 t4 ∗ (∃ f, pt c BD fullShare f) ∗ flight c s4 SD WD g wg ∗ owes (c : Thread nD τ) 0 W
        ∗ owns (c : Thread nD τ) arg8 fullShare x ∗ (∃ X, owns (c : Thread nD τ) arg10 fullShare X)
        ∗ (iprop(tabs c t0 t1 t2 t3 t4 ∗ wts c (k0_pay3 (SD.view.read (Elt F) g)) ∗ (∃ g', ⌜SD.view.read (Elt F) g' = blk c WD wg off' hin'⌝ ∗ flight c s4 SD WD g' wg) ∗ (∃ W, owes (c : Thread nD τ) 0 W)
            ∗ owns (c : Thread nD τ) arg8 fullShare x
            ∗ outAt c arg10 (rd c T0 t0 (k0_off7 i) (k0_off7_inb i)) x (k0_pay3 (SD.view.read (Elt F) g))) -∗ K ⟨⟩))
      ⊢ wp frame (wpE (defs₀ (F := F)) Variants.none c none) Set.univ (cc0_moe_down (F := F) i TX (Memref.isWhole_whole _) T0 (Memref.isWhole_whole _) T1 (Memref.isWhole_whole _) T2 (Memref.isWhole_whole _) T3 (Memref.isWhole_whole _) T4 (Memref.isWhole_whole _) arg8 harg8 WD (Memref.isWhole_whole _) arg10 harg10 SD (Memref.isWhole_whole _) BD (Memref.isWhole_whole _) cc0_scratch2) K := by
  subst hw1 hw2
  simp only [cc0_moe_down_eq_skeleton]; unfold cc0_moe_down_skel
  simp only [k0_part1_eq_skeleton]; unfold k0_part1_skel
  unfold owns
  iintro ⟨⟨HT0, HT1, HT2, HT3, HT4⟩, ⟨%fg, HB⟩, HF, HO, ⟨%f7, %hf7, H7⟩, ⟨%X10, %f10, -, H10⟩, Hk⟩
  obtain rfl := harg8.eq_unread hf7
  set_option sl_exec.stopBefore "k0_cond4" in sl_exec (disch := first | exact h2 | exact h3 | exact hk4 _ | exact h1 | exact hk2 | exact hk3 _)
  generalize hA : k0_pay3 (SD.view.read (Elt F) g) = A
  ihave HB' := (pt_wts c BD (Memref.isWhole_whole _) fg _ _ A ((congrArg k0_pay3 (readAt_stage c SD _ _)).trans hA)) $$ HB
  ihave HF' := (flight_whole c _ _ _ _ wg) $$ [HF HF_src]
  · isplitl [HF] <;> iassumption
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HB']; · iexact HB'
    isplitl [HF']
    · iexists _
      isplitr
      swap
      · iexact HF'
      ipureintro
      exact (View.read_write_univ _ _).trans (blk_congr c WD wg (hoff' _) _ hin')
    isplitl [HO]; · iexists _; iexact HO
    isplitl [H7]
    · iexists _; isplitr; · ipureintro; exact harg8.read_unread _
      iexact H7
    first
      | (iapply (outAt_intro c arg10 _ x A f10 [] (hp x A).symm)
         iexact H10)
      | (iapply outAt_intro
         rotate_left
         · iexact H10
         · try simp only [readAt_part]
           first
             | exact (hp x A).symm
             | exact (hp x _).symm.trans (congrArg (outPieces _ x) (readAt_wts BD (Memref.isWhole_whole _) A _)))

end Cert.Down

end
-- ==== Proof.Down.First.lean ====
/- The first grid point, which starts its own copies. -/
module

public import proofs.«01_k».proof.Proof.Down.Body

@[expose] public section

set_option maxRecDepth 16384

noncomputable section

namespace Cert.Down

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

theorem pt_wts_imp (c : Dev nD) (M : Memref sig .tc .vmem S4096x1024 .bf16) (hM : M.IsWhole) (f : MBuf (F := F) c M)
    (hb : ∀ k, (![0, 0] : Fin 2 → ℕ) k + S4096x1024.size k ≤ S4096x1024.size k) (p q : Vec F S4096x1024 .bf16) :
    pt c M fullShare (M.view.writes (Elt F) f [⟨Rect.unit (s := S4096x1024) ![0, 0] S4096x1024.size hb, p⟩]) ⊢ iprop(⌜p = q⌝ -∗ pt c M fullShare (hM.unread q)) := by
  iintro H %h
  iapply (pt_wts c M hM f hb p q h)
  iexact H

set_option maxHeartbeats 4000000 in
/-- The first point: it starts and awaits its own weight blocks, then starts the copies of the next group's. -/
theorem body_first (c : Dev nD) (i : grid0.Coords)
    (arg8 : Memref sig .tc .vmem S512x4096 .bf16) (harg8 : arg8.IsWhole) (arg10 : Memref sig .tc .vmem S512x1024 .f32) (harg10 : arg10.IsWhole)
    (t0 : MBuf (F := F) c T0) (t1 : MBuf (F := F) c T1) (t2 : MBuf (F := F) c T2) (t3 : MBuf (F := F) c T3) (t4 : MBuf (F := F) c T4)
    (x : Vec F S512x4096 .bf16) (wg : MBuf (F := F) c WD)
    (w1 w2 : BitVec 32) (hw1 : rd c T2 t2 (k0_off1 i) (k0_off1_inb i) = w1) (hw2 : rdN c t4 = w2)
    (h1 : k0_cond1 (rd c T1 t1 (k0_off1 i) (k0_off1_inb i)) = 1#1)
    (hk2 : k0_chk2 i w1 w2 (rd c T1 t1 (k0_off1 i) (k0_off1_inb i)))
    (hk3 : ∀ h, k0_chk3 i (rd c T1 t1 (k0_off1 i) (k0_off1_inb i)) (rd c T3 t3 (k0_off3 w1) h))
    (h2 : k0_cond2 i w1 = 1#1) (hk1 : ∀ v, v = rd c T3 t3 ![0] inb_S40_S1_0 → k0_chk1 i w1 (rd c T1 t1 (k0_off1 i) (k0_off1_inb i)) v)
    (off : Fin 3 → ℕ) (hoff : k0_off2 (rd c T3 t3 ![0] inb_S40_S1_0) = off) (hin : ∀ a, off a + S1x4096x1024.size a ≤ S16x4096x2048.size a)
    (h3 : k0_cond3 i w1 w2 = 1#1) (hk4 : ∀ h, k0_chk4 i w1 w2 (rd c T1 t1 (k0_off1 i) (k0_off1_inb i)) (rd c T3 t3 (k0_off5 w1 w2) h))
    (off' : Fin 3 → ℕ) (hoff' : ∀ h, k0_off6 i w1 w2 (rd c T3 t3 (k0_off5 w1 w2) h) = off') (hin' : ∀ a, off' a + S1x4096x1024.size a ≤ S16x4096x2048.size a)
    (W : Waits sig Unit) (K : PUnit → sProp 𝕄) :
    iprop(tabs c t0 t1 t2 t3 t4 ∗ (∃ f, pt c BD fullShare f) ∗ (∃ g, pt c SD fullShare g) ∗ pt c WD fullShare wg ∗ semVal ((c : Thread nD τ), SemLoc.dma s4) 0 ∗ owes (c : Thread nD τ) 0 W
        ∗ owns (c : Thread nD τ) arg8 fullShare x ∗ (∃ X, owns (c : Thread nD τ) arg10 fullShare X)
        ∗ (iprop(tabs c t0 t1 t2 t3 t4 ∗ wts c (k0_pay3 (blk c WD wg off hin)) ∗ (∃ g', ⌜SD.view.read (Elt F) g' = blk c WD wg off' hin'⌝ ∗ flight c s4 SD WD g' wg) ∗ (∃ W, owes (c : Thread nD τ) 0 W)
            ∗ owns (c : Thread nD τ) arg8 fullShare x
            ∗ outAt c arg10 (rd c T0 t0 (k0_off7 i) (k0_off7_inb i)) x (k0_pay3 (blk c WD wg off hin))) -∗ K ⟨⟩))
      ⊢ wp frame (wpE (defs₀ (F := F)) Variants.none c none) Set.univ (cc0_moe_down (F := F) i TX (Memref.isWhole_whole _) T0 (Memref.isWhole_whole _) T1 (Memref.isWhole_whole _) T2 (Memref.isWhole_whole _) T3 (Memref.isWhole_whole _) T4 (Memref.isWhole_whole _) arg8 harg8 WD (Memref.isWhole_whole _) arg10 harg10 SD (Memref.isWhole_whole _) BD (Memref.isWhole_whole _) cc0_scratch2) K := by
  subst hw1 hw2
  simp only [cc0_moe_down_eq_skeleton]; unfold cc0_moe_down_skel
  simp only [k0_part1_eq_skeleton]; unfold k0_part1_skel
  unfold owns
  iintro ⟨⟨HT0, HT1, HT2, HT3, HT4⟩, ⟨%fg, HB⟩, ⟨%g, HS⟩, HW_, HF, HO, ⟨%f7, %hf7, H7⟩, ⟨%X10, %f10, -, H10⟩, Hk⟩
  obtain rfl := harg8.eq_unread hf7
  set_option sl_exec.stopBefore "k0_cond4" in sl_exec (disch := first | exact h2 | exact h3 | exact hk1 _ rfl | exact hk4 _ | exact h1 | exact hk2 | exact hk3 _)
  generalize hA : k0_pay3 (blk c WD wg off hin) = A
  ihave HB1 := (pt_wts_imp c BD (Memref.isWhole_whole _) fg _ _ A) $$ HB
  ihave HB' := HB1 $$ []
  · ipureintro
    refine (congrArg k0_pay3 ((readAt_stage c SD _ _).trans ((View.read_write_univ _ _).trans ?_))).trans hA
    exact blk_congr c WD wg hoff _ hin
  ihave HF' := (flight_whole c _ _ _ _ wg) $$ [HF HW_]
  · isplitl [HF] <;> iassumption
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HB']; · iexact HB'
    isplitl [HF']
    · iexists _
      isplitr
      swap
      · iexact HF'
      ipureintro
      exact (View.read_write_univ _ _).trans (blk_congr c WD wg (hoff' _) _ hin')
    isplitl [HO]; · iexists _; iexact HO
    isplitl [H7]
    · iexists _; isplitr; · ipureintro; exact harg8.read_unread _
      iexact H7
    first
      | (iapply (outAt_intro c arg10 _ x A f10 [] (hp x A).symm)
         iexact H10)
      | (iapply outAt_intro
         rotate_left
         · iexact H10
         · try simp only [readAt_part]
           first
             | exact (hp x A).symm
             | exact (hp x _).symm.trans (congrArg (outPieces _ x) (readAt_wts BD (Memref.isWhole_whole _) A _)))

end Cert.Down

end
-- ==== Proof.Down.Step.lean ====
/-
What the kernel holds between grid points, and one point's step: the weights' rounded blocks of the
tile's expert, and the copies of the next group's blocks under way.
-/
module

public import proofs.«01_k».proof.Proof.Down.Words
public import proofs.«01_k».proof.Proof.Down.Carry
public import proofs.«01_k».proof.Proof.Down.Last
public import proofs.«01_k».proof.Proof.Down.Next
public import proofs.«01_k».proof.Proof.Down.First

@[expose] public section

set_option maxRecDepth 16384

noncomputable section

namespace Cert.Down

open Cert.Kernel4Ideal Cert.Kernel4Ideal.Gen
open Cert.Up (opens grp grp_le grp_mono te_of_grp nxt nxt_lt col grp_lt ng_lt)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The block of expert `e` and column `j` of a stacked weight. -/
def bk (c : Dev nD) (M : Memref sig .tc .hbm S16x4096x2048 .f32) (w : MBuf (F := F) c M) (e j : ℕ) : Vec F S4096x1024 .f32 :=
  blk c M w ![e % 16, 0, j % 2 * 1024] (inb_block (Nat.mod_lt _ (by omega)) (Nat.mod_lt _ (by omega)))

theorem blk_bk (c : Dev nD) (M : Memref sig .tc .hbm S16x4096x2048 .f32) (w : MBuf (F := F) c M) (e j : ℕ) (he : e < 16) (hj : j < 2)
    (off : Fin 3 → ℕ) (h : ∀ a, off a + S1x4096x1024.size a ≤ S16x4096x2048.size a) (ho : off = ![e, 0, j * 1024]) :
    blk c M w off h = bk c M w e j :=
  blk_congr c M w (by rw [ho, Nat.mod_eq_of_lt he, Nat.mod_eq_of_lt hj]) _ _

/-- The expert of group `k`, as the table gives it. -/
def expOf (c : Dev nD) (t3 : MBuf (F := F) c T3) (k : ℕ) : ℕ := if h : k < 40 then (rd c T3 t3 ![k] (inb_word h)).toNat else 0

/-- No copy under way. -/
def idle (c : Dev nD) (wg : MBuf (F := F) c WD) : sProp 𝕄 :=
  iprop((∃ g, pt c SD fullShare g) ∗ pt c WD fullShare wg ∗ semVal ((c : Thread nD τ), SemLoc.dma s4) 0)

/-- The copy of one block of the weight under way. -/
def inflight (c : Dev nD) (wg : MBuf (F := F) c WD) (e j : ℕ) : sProp 𝕄 :=
  iprop(∃ g, ⌜SD.view.read (Elt F) g = bk c WD wg e j⌝ ∗ flight c s4 SD WD g wg)

/-- The copies after a point in group `g` of `N`, column `j`. -/
def stage (c : Dev nD) (t3 : MBuf (F := F) c T3) (wg : MBuf (F := F) c WD) (N g j : ℕ) : sProp 𝕄 :=
  if col g N j < 2 then inflight c wg (expOf c t3 (nxt g N)) (col g N j) else idle c wg

/-- The rounded blocks of expert `e` and column `j`. -/
def wB (c : Dev nD) (wg : MBuf (F := F) c WD) (e j : ℕ) : Vec F S4096x1024 .bf16 := k0_pay3 (bk c WD wg e j)

/-- What the body holds before point `t`, beside the tables and the windows. -/
def held (c : Dev nD) (te : ℕ → BitVec 32) (t3 : MBuf (F := F) c T3) (wg : MBuf (F := F) c WD) : ℕ → sProp 𝕄
  | 0 => iprop((∃ f, pt c BD fullShare f) ∗ idle c wg)
  | p + 1 => iprop(wts c (wB c wg (te (p % 40)).toNat (p / 40)) ∗ stage c t3 wg (grp te 39 + 1) (grp te (p % 40)) (p / 40))

variable {c : Dev nD} {te : ℕ → BitVec 32} {t1 : MBuf (F := F) c T1} {t2 : MBuf (F := F) c T2} {t3 : MBuf (F := F) c T3} {t4 : MBuf (F := F) c T4}

theorem rd3_congr {off off' : Fin 1 → ℕ} (e : off = off') (h : ∀ a, off a + S1.size a ≤ S40.size a) (h' : ∀ a, off' a + S1.size a ≤ S40.size a) :
    rd c T3 t3 off h = rd c T3 t3 off' h' := by subst e; rfl

theorem expOf_lt (ok : Ok c te t1 t2 t3 t4) (k : ℕ) : expOf c t3 k < 16 := by
  unfold expOf; split
  · exact ok.f3lt _ _
  · omega

theorem expOf_eq (ok : Ok c te t1 t2 t3 t4) (n : ℕ) (hn : n < 40) : expOf c t3 (grp te n) = (te n).toNat := by
  have h := grp_le te n
  unfold expOf
  rw [dif_pos (by omega)]
  exact congrArg BitVec.toNat (ok.f3 _ _ n hn rfl)

/-- The opening of a tile's group finds its blocks under way. -/
theorem stage_opens (ok : Ok c te t1 t2 t3 t4) (wg : MBuf (F := F) c WD) (p : ℕ) (hp : p + 1 < 80) (ho : opens te ((p + 1) % 40) = true) :
    stage c t3 wg (grp te 39 + 1) (grp te (p % 40)) (p / 40) = inflight c wg (te ((p + 1) % 40)).toNat ((p + 1) / 40) := by
  have key : ∀ n j, n < 40 → j < 2 → nxt (grp te (p % 40)) (grp te 39 + 1) = grp te n → col (grp te (p % 40)) (grp te 39 + 1) (p / 40) = j →
      stage c t3 wg (grp te 39 + 1) (grp te (p % 40)) (p / 40) = inflight c wg (te n).toNat j := by
    intro n j hn hj e1 e2
    unfold stage
    rw [e1, e2, if_pos hj, expOf_eq ok n hn]
  refine key _ _ (Nat.mod_lt _ (by omega)) (by omega) ?_ ?_
  all_goals
    by_cases h : p % 40 = 39
    · rw [show (p + 1) % 40 = 0 by omega] at *
      first
        | (rw [h]; unfold nxt; rw [if_pos (le_refl _)]; rfl)
        | (rw [h]; unfold col; rw [if_pos (le_refl _)]; omega)
    · have e : (p + 1) % 40 = p % 40 + 1 := by omega
      rw [e] at ho
      have hg : grp te (p % 40 + 1) = grp te (p % 40) + 1 := by
        show grp te (p % 40) + (opens te (p % 40 + 1)).toNat = _
        rw [ho]; rfl
      have hm : grp te (p % 40 + 1) ≤ grp te 39 := grp_mono te (by omega)
      first
        | (rw [e, hg]; unfold nxt; rw [if_neg (by omega)])
        | (unfold col; rw [if_neg (by omega)]; omega)

/-- A tile that opens no group leaves what is held as it is. -/
theorem held_carry (wg : MBuf (F := F) c WD) (p : ℕ) (ho : opens te ((p + 1) % 40) = false) :
    held c te t3 wg (p + 1 + 1) = held c te t3 wg (p + 1) := by
  have h0 : (p + 1) % 40 ≠ 0 := fun h => by rw [h] at ho; cases ho
  have e : (p + 1) % 40 = p % 40 + 1 := by omega
  have e' : (p + 1) / 40 = p / 40 := by omega
  rw [e] at ho
  have hg : grp te (p % 40 + 1) = grp te (p % 40) := by
    show grp te (p % 40) + (opens te (p % 40 + 1)).toNat = _
    rw [ho]; rfl
  have ht : te (p % 40 + 1) = te (p % 40) := te_of_grp te hg
  simp only [held]
  rw [e, e', hg, ht]

variable (i : grid0.Coords)
    (arg8 : Memref sig .tc .vmem S512x4096 .bf16) (harg8 : arg8.IsWhole) (arg10 : Memref sig .tc .vmem S512x1024 .f32) (harg10 : arg10.IsWhole)
    (t0 : MBuf (F := F) c T0) (x : Vec F S512x4096 .bf16) (wg : MBuf (F := F) c WD)

set_option maxHeartbeats 1000000 in
/-- One grid point. -/
theorem body_step (ok : Ok c te t1 t2 t3 t4) (t : ℕ) (ht : t < 80) (i0 : (i 0).val = t / 40) (i1 : (i 1).val = t % 40)
    (W : Waits sig Unit) (K : PUnit → sProp 𝕄) :
    iprop(tabs c t0 t1 t2 t3 t4 ∗ held c te t3 wg t ∗ owes (c : Thread nD τ) 0 W ∗ owns (c : Thread nD τ) arg8 fullShare x ∗ (∃ X, owns (c : Thread nD τ) arg10 fullShare X)
        ∗ (iprop(tabs c t0 t1 t2 t3 t4 ∗ held c te t3 wg (t + 1) ∗ (∃ W, owes (c : Thread nD τ) 0 W) ∗ owns (c : Thread nD τ) arg8 fullShare x
            ∗ outAt c arg10 (rd c T0 t0 (k0_off7 i) (k0_off7_inb i)) x (wB c wg (te (t % 40)).toNat (t / 40))) -∗ K ⟨⟩))
      ⊢ wp frame (wpE (defs₀ (F := F)) Variants.none c none) Set.univ (cc0_moe_down (F := F) i TX (Memref.isWhole_whole _) T0 (Memref.isWhole_whole _) T1 (Memref.isWhole_whole _) T2 (Memref.isWhole_whole _) T3 (Memref.isWhole_whole _) T4 (Memref.isWhole_whole _) arg8 harg8 WD (Memref.isWhole_whole _) arg10 harg10 SD (Memref.isWhole_whole _) BD (Memref.isWhole_whole _) cc0_scratch2) K := by
  have hn : t % 40 < 40 := Nat.mod_lt _ (by omega)
  have hj : t / 40 < 2 := by omega
  have hg := grp_lt te hn
  have hN := ng_lt te
  have e1 : rd c T1 t1 (k0_off1 i) (k0_off1_inb i) = BitVec.ofNat 32 (opens te (t % 40)).toNat := by rw [ok.f1, off1_eq, i1]
  have e2 : rd c T2 t2 (k0_off1 i) (k0_off1_inb i) = BitVec.ofNat 32 (grp te (t % 40)) := by rw [ok.f2, off1_eq, i1]
  have hk2 := chk2_ok i (grp te (t % 40)) (grp te 39 + 1) hg hN (rd c T1 t1 (k0_off1 i) (k0_off1_inb i))
  have hk3 : ∀ h, k0_chk3 i (rd c T1 t1 (k0_off1 i) (k0_off1_inb i)) (rd c T3 t3 (k0_off3 (BitVec.ofNat 32 (grp te (t % 40)))) h) := fun h => chk3_ok i _ _ (ok.f3lt _ _)
  have hk4 : ∀ h, k0_chk4 i (BitVec.ofNat 32 (grp te (t % 40))) (BitVec.ofNat 32 (grp te 39 + 1)) (rd c T1 t1 (k0_off1 i) (k0_off1_inb i)) (rd c T3 t3 (k0_off5 (BitVec.ofNat 32 (grp te (t % 40))) (BitVec.ofNat 32 (grp te 39 + 1))) h) :=
    fun h => chk4_ok i _ _ hg hN _ _ (ok.f3lt _ _)
  have hoff : ∀ h, k0_off6 i (BitVec.ofNat 32 (grp te (t % 40))) (BitVec.ofNat 32 (grp te 39 + 1)) (rd c T3 t3 (k0_off5 (BitVec.ofNat 32 (grp te (t % 40))) (BitVec.ofNat 32 (grp te 39 + 1))) h)
      = ![expOf c t3 (nxt (grp te (t % 40)) (grp te 39 + 1)), 0, col (grp te (t % 40)) (grp te 39 + 1) (t / 40) * 1024] := fun h => by
    rw [off6_eq i _ _ hg hN, i0]
    congr 1
    unfold expOf
    rw [dif_pos (nxt_lt hN)]
    exact congrArg BitVec.toNat (rd3_congr (off5_eq _ _ hg hN) _ _)
  have h3 := cond3_iff i (grp te (t % 40)) (grp te 39 + 1) hg hN
  rw [i0] at h3
  have hinb : col (grp te (t % 40)) (grp te 39 + 1) (t / 40) < 2 → ∀ a, (![expOf c t3 (nxt (grp te (t % 40)) (grp te 39 + 1)), 0, col (grp te (t % 40)) (grp te 39 + 1) (t / 40) * 1024] : Fin 3 → ℕ) a + S1x4096x1024.size a ≤ S16x4096x2048.size a :=
    fun h => inb_block (expOf_lt ok _) h
  cases hop : opens te (t % 40) with
  | false =>
    cases t with
    | zero => cases hop
    | succ p =>
      rw [held_carry wg p hop]
      simp only [held]
      have h0 : (p + 1) % 40 ≠ 0 := fun h => by rw [h] at hop; cases hop
      have e : (p + 1) % 40 = p % 40 + 1 := by omega
      have e' : (p + 1) / 40 = p / 40 := by omega
      have ht : te ((p + 1) % 40) = te (p % 40) := by
        rw [e]
        refine te_of_grp te ?_
        show grp te (p % 40) + (opens te (p % 40 + 1)).toNat = _
        rw [← e, hop]; rfl
      rw [ht, e']
      iintro ⟨HT, ⟨HW, HS⟩, HO, H7, H10, Hk⟩
      iapply (body_carry c i arg8 harg8 arg10 harg10 t0 t1 t2 t3 t4 x _ (by rw [e1, hop, cond1_iff]; exact Bool.false_ne_true) K)
      isplitl [HT]; · iexact HT
      isplitl [HW]; · iexact HW
      isplitl [H7]; · iexact H7
      isplitl [H10]; · iexact H10
      iintro ⟨HT, HW, H7, H10⟩
      iapply Hk
      isplitl [HT]; · iexact HT
      isplitl [HW HS]
      · isplitl [HW]; · iexact HW
        iexact HS
      isplitl [HO]; · iexists _; iexact HO
      isplitl [H7]; · iexact H7
      iexact H10
  | true =>
    have h1 : k0_cond1 (rd c T1 t1 (k0_off1 i) (k0_off1_inb i)) = 1#1 := by rw [e1, hop, cond1_iff]
    cases t with
    | zero =>
      have hc : col (grp te (0 % 40)) (grp te 39 + 1) (0 / 40) < 2 := by unfold col; split <;> omega
      have hr : rd c T3 t3 ![0] inb_S40_S1_0 = te (0 % 40) := ok.f3 _ _ 0 (by omega) rfl
      have ho2 : k0_off2 (rd c T3 t3 ![0] inb_S40_S1_0) = ![(te (0 % 40)).toNat, 0, 0 / 40 * 1024] := by
        rw [hr]; rfl
      have hin2 : ∀ a, (![(te (0 % 40)).toNat, 0, 0 / 40 * 1024] : Fin 3 → ℕ) a + S1x4096x1024.size a ≤ S16x4096x2048.size a := inb_block (ok.lt _) hj
      simp only [held]
      unfold stage idle inflight
      rw [if_pos hc]
      iintro ⟨HT, ⟨HB, HI⟩, HO, H7, H10, Hk⟩
      icases HI with ⟨HA, HC, HE⟩
      iapply (body_first c i arg8 harg8 arg10 harg10 t0 t1 t2 t3 t4 x wg _ _ e2 ok.f4 h1 hk2 hk3
        ((cond2_iff i _ hg).2 ⟨by rw [i0], rfl⟩) (fun v hv => chk1_ok i _ _ _ (by rw [hv]; exact ok.f3lt _ _)) _ ho2 hin2 (h3.2 hc) hk4 _ hoff (hinb hc) W K)
      isplitl [HT]; · iexact HT
      isplitl [HB]; · iexact HB
      isplitl [HA]; · iexact HA
      isplitl [HC]; · iexact HC
      isplitl [HE]; · iexact HE
      isplitl [HO]; · iexact HO
      isplitl [H7]; · iexact H7
      isplitl [H10]; · iexact H10
      rw [blk_bk c WD wg _ _ (ok.lt _) hj _ hin2 rfl, blk_bk c WD wg _ _ (expOf_lt ok _) hc _ (hinb hc) rfl]
      iintro ⟨HT, HW, HS, HO, H7, H10⟩
      iapply Hk
      isplitl [HT]; · iexact HT
      isplitl [HW HS]
      · isplitl [HW]; · iexact HW
        iexact HS
      isplitl [HO]; · iexact HO
      isplitl [H7]; · iexact H7
      iexact H10
    | succ p =>
      have h2 : ¬ k0_cond2 i (BitVec.ofNat 32 (grp te ((p + 1) % 40))) = 1#1 := by
        rw [cond2_iff i _ hg, i0]
        rintro ⟨ha, hb⟩
        have e : (p + 1) % 40 = p + 1 := by omega
        rw [e] at hop hb
        have hb' : grp te p + (opens te (p + 1)).toNat = 0 := hb
        rw [hop] at hb'
        have hb'' : grp te p + 1 = 0 := hb'
        omega
      simp only [held]
      rw [stage_opens ok wg p ht hop]
      by_cases hc : col (grp te ((p + 1) % 40)) (grp te 39 + 1) ((p + 1) / 40) < 2
      · unfold stage inflight
        rw [if_pos hc]
        iintro ⟨HT, ⟨HB, ⟨%g, %hg', HF⟩⟩, HO, H7, H10, Hk⟩
        iapply (body_next c i arg8 harg8 arg10 harg10 t0 t1 t2 t3 t4 x wg _ _ e2 ok.f4 h1 hk2 hk3 g h2 (h3.2 hc) hk4 _ hoff (hinb hc) W K)
        isplitl [HT]; · iexact HT
        isplitl [HB]; · iexists _; iexact HB
        isplitl [HF]; · iexact HF
        isplitl [HO]; · iexact HO
        isplitl [H7]; · iexact H7
        isplitl [H10]; · iexact H10
        rw [hg', blk_bk c WD wg _ _ (expOf_lt ok _) hc _ (hinb hc) rfl]
        iintro ⟨HT, HW, HS, HO, H7, H10⟩
        iapply Hk
        isplitl [HT]; · iexact HT
        isplitl [HW HS]
        · isplitl [HW]; · iexact HW
          iexact HS
        isplitl [HO]; · iexact HO
        isplitl [H7]; · iexact H7
        iexact H10
      · unfold stage inflight idle
        rw [if_neg hc]
        iintro ⟨HT, ⟨HB, ⟨%g, %hg', HF⟩⟩, HO, H7, H10, Hk⟩
        iapply (body_last c i arg8 harg8 arg10 harg10 t0 t1 t2 t3 t4 x wg _ _ e2 ok.f4 h1 hk2 hk3 g h2 (fun h => hc (h3.1 h)) W K)
        isplitl [HT]; · iexact HT
        isplitl [HB]; · iexists _; iexact HB
        isplitl [HF]; · iexact HF
        isplitl [HO]; · iexact HO
        isplitl [H7]; · iexact H7
        isplitl [H10]; · iexact H10
        rw [hg']
        iintro ⟨HT, HW, ⟨HA, HC, HE⟩, HO, H7, H10⟩
        iapply Hk
        isplitl [HT]; · iexact HT
        isplitl [HW HA HC HE]
        · isplitl [HW]; · iexact HW
          isplitl [HA]; · iexists _; iexact HA
          isplitl [HC]; · iexact HC
          iexact HE
        isplitl [HO]; · iexact HO
        isplitl [H7]; · iexact H7
        iexact H10

end Cert.Down

end
-- ==== Proof.Down.Run.lean ====
/-
The grid's run: what every point finds and leaves, and what the call leaves behind.
-/
module

public import proofs.«01_k».proof.Proof.Down.Start
public import proofs.«01_k».proof.Proof.Down.Step
public import Idealize.ShloMosaic.Lib.Claim

@[expose] public section

set_option maxRecDepth 16384

noncomputable section

namespace Cert.Down

open Cert.Kernel4Ideal Cert.Kernel4Ideal.Gen
open Cert.Up (grp wordAt col)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

/-- The stacked weights, as the call finds them. -/
def G0 (c : Dev nD) : MBuf (F := F) c WD := V m c main_v0

/-- Window `w`'s block at point `t`, of the arrays the call finds. -/
def iblk (c : Dev nD) (w : Fin 2) (t : Fin (cfgM m).N) := (((cfgM m).win w).blk t).view.read (Elt F) (V m c (Pipeline.arrRef spec0 w))

/-- The block of tokens at point `t`. -/
def xblk (c : Dev nD) (t : Fin (cfgM m).N) : Vec F S512x4096 .bf16 := iblk m c 0 t

/-- The output block of point `t`. -/
def outT (c : Dev nD) (t : Fin (cfgM m).N) : Vec F S512x1024 .f32 :=
  outVal (rd c T0 (W0 m c) (k0_off7 (grid0.coords t)) (k0_off7_inb (grid0.coords t))) (xblk m c t)
    (wB c (G0 m c) (wordAt (tea m c) (t.val % 40)).toNat (t.val / 40))

/-- What the body holds before point `t`. -/
def Phi (c : Dev nD) (t : ℕ) : sProp 𝕄 :=
  iprop(tabs c (W0 m c) (W1 m c) (W2 m c) (W3 m c) (W4 m c) ∗ pt c TX fullShare.right (WX m c) ∗ (∃ r, prngReg c r) ∗ held c (wordAt (tea m c)) (W3 m c) (G0 m c) t)

/-- The call's data. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outT m c t
  Φ t := Phi m c t.val
  q _ := fullShare
  owed _ := 0

theorem A_eq (c : Dev nD) (w : Fin (cfgM m).W) : (dats m 0 c).A w = V m c (Pipeline.arrRef spec0 w) := by dsimp only [dats]
theorem after_0 (c : Dev nD) (t : Fin (cfgM m).N) : (dats m 0 c).after 0 t = iblk m c 0 t := rfl
theorem after_1 (c : Dev nD) (t : Fin (cfgM m).N) : (dats m 0 c).after 1 t = outT m c t := rfl
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-- The body's call at point `t`. -/
theorem row (t : Fin (cfgM m).N) : defs₀ (F := F) .tc (cfgM m).body ((cfgM m).bodyArgs t ((cfgM m).slots t))
    = cc0_moe_down (F := F) (grid0.coords t) TX (Memref.isWhole_whole _) T0 (Memref.isWhole_whole _) T1 (Memref.isWhole_whole _) T2 (Memref.isWhole_whole _) T3 (Memref.isWhole_whole _) T4 (Memref.isWhole_whole _) (spec0_0.stage ((cfgM m).slots t 0)) (hstage0_0 (((cfgM m).slots t 0).cast nbuf0_0)) WD (Memref.isWhole_whole _) (spec0_1.stage ((cfgM m).slots t 1)) (hstage0_1 (((cfgM m).slots t 1).cast nbuf0_1)) SD (Memref.isWhole_whole _) BD (Memref.isWhole_whole _) cc0_scratch2 := by
  unfold defs₀; rw [Defs.onTc_tc]

theorem lt_N (t : Fin (cfgM m).N) : t.val < 80 := t.isLt.trans_eq N_0

theorem coord0 (t : Fin (cfgM m).N) : (grid0.coords t 0).val = t.val / 40 := by
  have := lt_N m t
  rw [show (grid0.coords t 0).val = t.val / 40 % 2 from Pipeline.Grid.coords_val (G := grid0) t 0 (S := 40) (B := 2) (by decide) rfl]; omega
theorem coord1 (t : Fin (cfgM m).N) : (grid0.coords t 1).val = t.val % 40 := by
  have := lt_N m t
  rw [show (grid0.coords t 1).val = t.val / 1 % 40 from Pipeline.Grid.coords_val (G := grid0) t 1 (S := 1) (B := 40) (by decide) rfl]; omega

/-- One point of the run, in the call's own terms. -/
theorem point (hm : Experts m) (c : Dev nD) (t : Fin (cfgM m).N) (K : PUnit → sProp 𝕄) :
    iprop(Phi m c t.val ∗ (dats m 0 c).owesAt () t.castSucc ∗ owns (c : Thread nD τ) (spec0_0.stage ((cfgM m).slots t 0)) fullShare (xblk m c t)
        ∗ (∃ X, owns (c : Thread nD τ) (spec0_1.stage ((cfgM m).slots t 1)) fullShare X)
        ∗ (iprop(Phi m c (t.val + 1) ∗ (dats m 0 c).owesAt () t.succ ∗ owns (c : Thread nD τ) (spec0_0.stage ((cfgM m).slots t 0)) fullShare (xblk m c t)
            ∗ (∃ X, ⌜Legal (rd c T0 (W0 m c) (k0_off7 (grid0.coords t)) (k0_off7_inb (grid0.coords t))) → X = outT m c t⌝
                ∗ owns (c : Thread nD τ) (spec0_1.stage ((cfgM m).slots t 1)) fullShare X)) -∗ K ⟨⟩))
      ⊢ wp frame (wpE (defs₀ (F := F)) Variants.none c none) Set.univ (defs₀ (F := F) .tc (cfgM m).body ((cfgM m).bodyArgs t ((cfgM m).slots t))) K := by
  rw [row]
  unfold Phi Dat.owesAt Pipeline.owesWithin
  rw [show (dats m 0 c).owed t.castSucc = 0 from rfl, show (dats m 0 c).owed t.succ = 0 from rfl]
  istart
  iintro ⟨⟨HT, HN, HP, HH⟩, ⟨%W, %hW, HO⟩, HX, HY, HK⟩
  iapply (body_step (F := F) (c := c) (grid0.coords t) (spec0_0.stage ((cfgM m).slots t 0)) (hstage0_0 (((cfgM m).slots t 0).cast nbuf0_0))
    (spec0_1.stage ((cfgM m).slots t 1)) (hstage0_1 (((cfgM m).slots t 1).cast nbuf0_1)) (W0 m c) (xblk m c t) (G0 m c)
    (ok_tbl m hm c) t.val (lt_N m t) (coord0 m t) (coord1 m t) W K)
  iframe HT HH HO HX HY
  iintro ⟨HT, HH, ⟨%W', HO⟩, HX, ⟨%X, %hX, HY⟩⟩
  iapply HK
  iframe HT HN HP HH HX
  isplitl [HO]
  · iexists W'
    isplitr
    · ipureintro; exact fun _ _ => Or.inl trivial
    · iexact HO
  · iexists X
    isplitr
    · ipureintro; exact hX
    · iexact HY

/-- The same, of the windows as the call numbers them. -/
theorem point' (hm : Experts m) (c : Dev nD) (t : Fin (cfgM m).N) (K : PUnit → sProp 𝕄) :
    iprop(Phi m c t.val ∗ (dats m 0 c).owesAt () t.castSucc ∗ owns (c : Thread nD τ) (((cfgM m).win 0).stage ((cfgM m).slots t 0)) fullShare (iblk m c 0 t)
        ∗ (∃ X, owns (c : Thread nD τ) (((cfgM m).win 1).stage ((cfgM m).slots t 1)) fullShare X)
        ∗ (iprop(Phi m c (t.val + 1) ∗ (dats m 0 c).owesAt () t.succ ∗ owns (c : Thread nD τ) (((cfgM m).win 0).stage ((cfgM m).slots t 0)) fullShare (iblk m c 0 t)
            ∗ (∃ X, ⌜Legal (rd c T0 (W0 m c) (k0_off7 (grid0.coords t)) (k0_off7_inb (grid0.coords t))) → X = (dats m 0 c).after 1 t⌝
                ∗ owns (c : Thread nD τ) (((cfgM m).win 1).stage ((cfgM m).slots t 1)) fullShare X)) -∗ K ⟨⟩))
      ⊢ wp frame (wpE (defs₀ (F := F)) Variants.none c none) Set.univ (defs₀ (F := F) .tc (cfgM m).body ((cfgM m).bodyArgs t ((cfgM m).slots t))) K :=
  point m hm c t K

/-! ## Into the run and out of it -/

theorem held_0 (c : Dev nD) (te : ℕ → BitVec 32) (t3 : MBuf (F := F) c T3) (wg : MBuf (F := F) c WD) :
    (held c te t3 wg 0 : sProp 𝕄) = iprop((∃ f, pt c BD fullShare f) ∗ idle c wg) := rfl

/-- After the last point no copy is under way. -/
theorem held_last (c : Dev nD) (te : ℕ → BitVec 32) (t3 : MBuf (F := F) c T3) (wg : MBuf (F := F) c WD) :
    ∃ a, (held c te t3 wg 80 : sProp 𝕄) = iprop(wts c a ∗ idle c wg) := by
  refine ⟨wB c wg (te (79 % 40)).toNat (79 / 40), ?_⟩
  show iprop(wts c (wB c wg (te (79 % 40)).toNat (79 / 40)) ∗ stage c t3 wg (grp te 39 + 1) (grp te 39) 1) = _
  unfold stage col
  rw [if_neg (by rw [if_pos (le_refl _)]; omega)]

theorem own_eq (c : Dev nD) : (Pipeline.ownSems0 (Ix := Unit) (Name := ℕ) (U := Pipeline.UD sig nD τ) (Lvl := ℕ) (Val := Elt F) (τ := τ) osem c : sProp 𝕄)
    = iprop(semVal ((c : Thread nD τ), SemLoc.dma s4) 0) := by
  unfold Pipeline.ownSems0
  rw [show (Finset.univ : Finset (Fin 1)) = {0} from by decide, bigSep_singleton]

theorem HW_eq (c : Dev nD) : (bigSep HW fun b => ((c : Thread nD τ).loc b) ↦{fullShare} V m c b : sProp 𝕄)
    = pt c WD fullShare (G0 m c) := by
  rw [bigSep_singleton]
  rfl

theorem tabs_eq (c : Dev nD) : (Pipeline.ΦT pre0 (tbl m) c : sProp 𝕄) = iprop(pt c TX fullShare.right (WX m c) ∗ tabs c (W0 m c) (W1 m c) (W2 m c) (W3 m c) (W4 m c)) := by
  rw [PhiT_eq]
  obtain rfl : c = 0 := Subsingleton.elim _ _
  rfl

theorem hin (c : Dev nD) : iprop(Pipeline.ΦD osem spec0 HW (V m) c ∗ Pipeline.ΦT pre0 (tbl m) c) ⊢ (Phi m c 0 : sProp 𝕄) := by
  rw [Pipeline.ΦD_eq, own_eq, HW_eq, tabs_eq, scopedRest0_eq]
  unfold Phi
  rw [held_0]
  unfold idle
  istart
  iintro ⟨⟨⟨H0, H1⟩, HP, S4, HG⟩, HN, HT⟩
  iframe HT HN HP H1 H0 HG S4

theorem hout (c : Dev nD) : (Phi m c 80 : sProp 𝕄) ⊢ Pipeline.ΦD osem spec0 HW (V m) c := by
  rw [Pipeline.ΦD_eq, own_eq, HW_eq, scopedRest0_eq]
  unfold Phi
  obtain ⟨a, h⟩ := held_last c (wordAt (tea m c)) (W3 m c) (G0 m c)
  rw [h]
  unfold idle
  istart
  iintro ⟨HT, HN, HP, HA, ⟨H0, HG, S4⟩⟩
  iframe HP H0 HG S4
  iexists _; iexact HA

/-! ## The obligations -/

/-- The output window's contents left unnamed. -/
abbrev fgt : Fin 2 → Bool := fun w => w == 1

theorem phi_before (c : Dev nD) (t : Fin (cfgM m).N) : (dats m 0 c).Φ t.castSucc = Phi m c t.val := by
  dsimp only [dats]; exact Dat.Φ_castSucc (fun n _ => Phi m c n) t
theorem phi_after (c : Dev nD) (t : Fin (cfgM m).N) : (dats m 0 c).Φ t.succ = Phi m c (t.val + 1) := rfl

theorem body_forget (hm : Experts m) (c : Dev nD) : BodyObligationLoose (dats m 0 c) (defs₀ (F := F)) Variants.none () Set.univ fgt := by
  intro t
  rw [bigSep_W0, bigSep_W0]
  rw [phi_before, phi_after]
  show iprop(Phi m c t.val ∗ (dats m 0 c).owesAt () t.castSucc ∗ ((∃ d, owns (c : Thread nD τ) (((cfgM m).win 0).stage ((cfgM m).slots t 0)) fullShare ((dats m 0 c).before 0 t d)) ∗ (∃ X, owns (c : Thread nD τ) (((cfgM m).win 1).stage ((cfgM m).slots t 1)) fullShare X)))
    ⊢ wp frame (wpE (defs₀ (F := F)) Variants.none c none) Set.univ (defs₀ (F := F) .tc (cfgM m).body ((cfgM m).bodyArgs t ((cfgM m).slots t)))
      (fun _ => iprop(Phi m c (t.val + 1) ∗ (dats m 0 c).owesAt () t.succ ∗ (owns (c : Thread nD τ) (((cfgM m).win 0).stage ((cfgM m).slots t 0)) fullShare ((dats m 0 c).after 0 t) ∗ (∃ X, owns (c : Thread nD τ) (((cfgM m).win 1).stage ((cfgM m).slots t 1)) fullShare X))))
  istart
  iintro ⟨HΦ, HO, ⟨%d, HX⟩, HY⟩
  iapply (point' m hm c t)
  rw [before_0, after_0]
  iframe HΦ HO HX HY
  iintro ⟨HΦ, HO, HX, ⟨%X, %hX, HY⟩⟩
  iframe HΦ HO HX
  iexists X
  iexact HY

end Cert.Down

end
-- ==== Proof.Down.Launch.lean ====
/-
The whole run: it ends, its arguments are as they were, every counter is at zero, and where the
valid-row words are ones the kernel counts by its result is the points' blocks.
-/
module

public import proofs.«01_k».proof.Proof.Down.Run

@[expose] public section

set_option maxRecDepth 16384

noncomputable section

namespace Cert.Down

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every valid-row word is one the kernel counts by. -/
def Rows : Prop := ∀ (c : Dev nD) i, Legal (m ((c : Thread nD τ).loc main_arg2) i)

theorem legal_word (hr : Rows m) (c : Dev nD) (off : Fin 1 → ℕ) (h : ∀ a, off a + S1.size a ≤ S40.size a) : Legal (rd c T0 (W0 m c) off h) := by
  rw [rd_T0 c _ off h]
  have e : W0 m c = m ((c : Thread nD τ).loc main_arg2) := V_arg2 m c
  exact (congrFun e _).symm ▸ hr c _

/-- Every point writes its output block back. -/
theorem flush_1 (t : Fin (cfgM m).N) : ((cfgM m).win 1).flush t = true :=
  (Pipeline.Window.flush_reads ((cfgM m).win 1) rfl (1 : Fin 2) (show 1 < grid0.bound 1 by decide) rfl
    (fun i i' h => Pipeline.Window.sep_of_coord cc0_transform_2 (1 : Fin 2) (0 : Fin 2) (fun _ => rfl) (by decide) i i' h) (P := 1) (m := 0) (show grid0.stride 1 = 1 by decide) rfl t).2 (Nat.mod_one _)

theorem leaves_1 (c : Dev nD) (t : Fin (cfgM m).N) :
    (owns (c : Thread nD τ) (((cfgM m).win 1).stage ((cfgM m).slots t 1)) fullShare ((dats m 0 c).after 1 t) : sProp 𝕄) ⊢ (dats m 0 c).leavesExact 1 t := by
  unfold Dat.leavesExact
  rw [flush_1]
  cases (cfgM m).idle 1 ((cfgM m).grid.coords t)
  · exact .rfl
  · exact .rfl

theorem body_exact (hm : Experts m) (hr : Rows m) (c : Dev nD) : BodyObligation (dats m 0 c) (defs₀ (F := F)) Variants.none () Set.univ := by
  intro t
  rw [bigSep_W0, bigSep_W0]
  rw [phi_before, phi_after]
  show iprop(Phi m c t.val ∗ (dats m 0 c).owesAt () t.castSucc ∗ ((∃ d, owns (c : Thread nD τ) (((cfgM m).win 0).stage ((cfgM m).slots t 0)) fullShare ((dats m 0 c).before 0 t d)) ∗ (∃ d, owns (c : Thread nD τ) (((cfgM m).win 1).stage ((cfgM m).slots t 1)) fullShare ((dats m 0 c).before 1 t d))))
    ⊢ wp frame (wpE (defs₀ (F := F)) Variants.none c none) Set.univ (defs₀ (F := F) .tc (cfgM m).body ((cfgM m).bodyArgs t ((cfgM m).slots t)))
      (fun _ => iprop(Phi m c (t.val + 1) ∗ (dats m 0 c).owesAt () t.succ ∗ (owns (c : Thread nD τ) (((cfgM m).win 0).stage ((cfgM m).slots t 0)) fullShare ((dats m 0 c).after 0 t) ∗ (dats m 0 c).leavesExact 1 t)))
  istart
  iintro ⟨HΦ, HO, ⟨%d, HX⟩, ⟨%d', HY⟩⟩
  iapply (point' m hm c t)
  rw [before_0, after_0]
  iframe HΦ HO HX
  isplitl [HY]
  · iexists _; iexact HY
  iintro ⟨HΦ, HO, HX, ⟨%X, %hX, HY⟩⟩
  iframe HΦ HO HX
  obtain rfl := hX (legal_word m hr c _ _)
  iapply (leaves_1 m c t)
  iexact HY

theorem hA (c : Dev nD) (w : Fin (cfgM m).W) : (dats m 0 c).A w = V m c (Pipeline.arrRef spec0 w) := A_eq m c w

set_option backward.isDefEq.respectTransparency.types false in
/-- The run, its result left unnamed. -/
theorem run_forget (hm : Experts m) : θ_run defs (onTc (τ := τ) (main (F := F))) (s₀ m ρ)
    (fun r => Pipeline.RDat.FramePost (cfgM m) (fun c => (dats m 0 c).toRForget fgt) (V m) r ∧ r.2.sem = fun _ => 0) :=
  Pipeline.θ_run_frameP_dma_forget (Q' := _) pcfgs (fun _ => adm m) (dats m) (0 : Fin 1) launch0 osem defs₀ Variants.none fgt ownSemFacts HW HW_sub m ρ main
    (hbody := body_forget m hm) (hshare := fun c w => by fin_cases w <;> rfl) (howed := fun _ _ => rfl) (V := V m) (hmain := hmain m Variants.none) (hA := A_eq m) (hpf := V_pre m)
    (hin := hin m) (hout := hout m)

set_option backward.isDefEq.respectTransparency.types false in
/-- The run, its result the points' blocks. -/
theorem run_exact (hm : Experts m) (hr : Rows m) : θ_run defs (onTc (τ := τ) (main (F := F))) (s₀ m ρ)
    (fun r => Pipeline.FramePost (Pipeline.pin pcfgs (fun _ => adm m)) (dats m) 0 (V m) r ∧ r.2.sem = fun _ => 0) :=
  Pipeline.θ_run_frameP_dma (Q' := _) pcfgs (fun _ => adm m) (dats m) (0 : Fin 1) launch0 osem defs₀ Variants.none ownSemFacts HW HW_sub m ρ main
    (hbody := fun c => (body_exact m hm hr c).loose) (hshare := fun c w => by fin_cases w <;> rfl) (howed := fun _ _ => rfl) (V := V m) (hmain := hmain m Variants.none) (hA := A_eq m) (hpf := V_pre m)
    (hin := hin m) (hout := hout m)

/-- What the run leaves in the arguments. -/
theorem kept (σ : MemSt nD τ sig (Elt F)) (h : Pipeline.RDat.FramePost (cfgM m) (fun c => (dats m 0 c).toRForget fgt) (V m) (⟨⟩, σ)) (c : Dev nD) :
    σ.mem ((c.tc : Thread nD τ).loc main_arg0) = m ((c.tc : Thread nD τ).loc main_arg0)
      ∧ σ.mem ((c.tc : Thread nD τ).loc main_arg1) = m ((c.tc : Thread nD τ).loc main_arg1)
      ∧ σ.mem ((c.tc : Thread nD τ).loc main_arg2) = m ((c.tc : Thread nD τ).loc main_arg2)
      ∧ σ.mem ((c.tc : Thread nD τ).loc main_arg3) = m ((c.tc : Thread nD τ).loc main_arg3) := by
  obtain ⟨hw, hrest⟩ := h c
  have hrest' : ∀ b ∈ Pipeline.restRefs sig spec0, σ.mem ((c.tc : Thread nD τ).loc b) = V m c b := hrest
  have e0 : σ.mem ((c.tc : Thread nD τ).loc main_arg0) = V m c main_arg0 :=
    (congrFun (Pipeline.RDat.ArrAt_in ((dats m 0 c).toRForget fgt) (0 : Fin 2) rfl (cfgM m).N) _).mp (hw (0 : Fin 2))
  refine ⟨e0.trans (V_arg0 m c), ?_, ?_, ?_⟩
  · exact (hrest' main_arg1 (Pipeline.mem_restRefs_of (win := spec0) main_arg1 (by decide) (by decide))).trans (V_arg1 m c)
  · exact (hrest' main_arg2 (Pipeline.mem_restRefs_of (win := spec0) main_arg2 (by decide) (by decide))).trans (V_arg2 m c)
  · exact (hrest' main_arg3 (Pipeline.mem_restRefs_of (win := spec0) main_arg3 (by decide) (by decide))).trans (V_arg3 m c)

/-- The arguments end as they were and every counter at zero. -/
theorem frame_run (hm : Experts m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept m r.2 h.1 c, h.2⟩) (run_forget m ρ hm)

/-- The result after the run. -/
theorem result_run (hm : Experts m) (hr : Rows m) : θ_run defs (onTc (τ := τ) (main (F := F))) ⟨m, fun _ => 0, ρ⟩ (fun r => ∀ c : Dev nD,
      r.2.mem ((c.tc : Thread nD τ).loc main_v22) = (dats m 0 c).arrAt 1 (cfgM m).N) :=
  (θ_run defs _ _).mono (fun r h c => (h.1 c).1 (1 : Fin 2)) (run_exact m ρ hm hr)

end Cert.Down

end
-- ==== Proof.Down.Blocks.lean ====
/-
What a point reads of the arguments, an entry at a time: its tile of tokens and its block of the
expert's weights.
-/
module

public import proofs.«01_k».proof.Proof.Down.Launch
public import Idealize.ShloMosaic.Lib.Pointwise
public import Idealize.ShloMosaic.Lib.ValueLayout
public import Idealize.ShloMosaic.Lib.Pipeline.ValueKit

@[expose] public section

set_option maxRecDepth 16384

noncomputable section

namespace Cert.Down

open Cert.Kernel4Ideal Cert.Kernel4Ideal.Gen
open Idealize.ShloMosaic Idealize.ShloMosaic.TcCoe Idealize.ShloMosaic.Tactic

variable (m : (ℓ : Loc nD τ sig) → Buf (Elt Ideal) ℓ)

/-- Which block of its array each window takes at point `t`. -/
theorem index_0' (t : Fin (cfgM m).N) : cc0_transform_0 k0_off1_inb numel1_S1 (tbl m) (grid0.coords t) = ![t.val % 40, 0] := by
  rw [rows_block m, coord1 m t]

theorem index_1' (t : Fin (cfgM m).N) : cc0_transform_2 (grid0.coords t) = ![t.val % 40, t.val / 40] := by
  show cc0_transform_2 (grid0.coords t) = _
  have h := coord1 m t
  have h' := coord0 m t
  have := lt_N m t
  funext k
  fin_cases k
  · show (BitVec.ofNat 32 (grid0.coords t 1).val).toNat = _
    rw [h, BitVec.toNat_ofNat]; show _ = t.val % 40; omega
  · show (BitVec.ofNat 32 (grid0.coords t 0).val).toNat = _
    rw [h', BitVec.toNat_ofNat]; show _ = t.val / 40; omega

/-- The tile of tokens. -/
theorem xblk_at (c : Dev nD) (t : Fin (cfgM m).N) (n : Fin 40) (hn : t.val % 40 = n) (i : Fin 512) (k : Fin 4096) :
    xblk m c t (ix2 i k) = m ((c : Thread nD τ).loc main_arg0) (ix2 ⟨n * 512 + i, by omega⟩ k) := by
  rw [← V_arg0 m c]
  unfold xblk iblk
  show V m c main_arg0 _ = _
  congr 1
  funext a
  refine Fin.ext ?_
  fin_cases a
  · show (cc0_transform_0 k0_off1_inb numel1_S1 (tbl m) (grid0.coords t) 0) * 512 + 1 * (i : ℕ) = _
    rw [index_0' m t]; show t.val % 40 * 512 + 1 * (i : ℕ) = _; rw [hn, one_mul]; rfl
  · show (cc0_transform_0 k0_off1_inb numel1_S1 (tbl m) (grid0.coords t) 1) * 4096 + 1 * (k : ℕ) = _
    rw [index_0' m t]; show 0 * 4096 + 1 * (k : ℕ) = (k : ℕ); omega

/-- The stacked weights are the arguments reshaped. -/
theorem G0_eq (c : Dev nD) : G0 m c = shapeCast S16x4096x2048 (m ((c : Thread nD τ).loc main_arg3)) shapeCasts_S2x8x4096x2048_S16x4096x2048 := by
  show StableHlo.after hostAll _ _ = _
  simp only [hostAll, hostOps0, hostOps0_1, hostOps0_2, List.flatten_cons, List.flatten_nil, List.append_nil, List.cons_append, List.nil_append]
  after_results
  rfl

theorem bk_WD_at (c : Dev nD) (w : MBuf (F := Ideal) c WD) (e : Fin 16) (j : Fin 2) (k : Fin 4096) (f : Fin 1024) :
    bk c WD w e j (ix2 k f) = w (ix3 e k ⟨j * 1024 + f, by omega⟩) := by
  unfold bk blk
  have he : (e : ℕ) % 16 = e := Nat.mod_eq_of_lt e.isLt
  have hj : (j : ℕ) % 2 = j := Nat.mod_eq_of_lt j.isLt
  show w ((Rect.unit (s := S16x4096x2048) ![(e : ℕ) % 16, 0, (j : ℕ) % 2 * 1024] S1x4096x1024.size
    (inb_block (Nat.mod_lt _ (by omega)) (Nat.mod_lt _ (by omega)))).emb (Shape.reshapeEquiv _ (ix2 k f))) = _
  refine (congrArg (fun z => w (Rect.emb _ z)) (ValueIdx.reshapeEquiv_ix2_1ab (a := 4096) (b := 1024) _ k f)).trans ?_
  congr 1
  funext a
  refine Fin.ext ?_
  fin_cases a
  · show (e : ℕ) % 16 + 1 * 0 = (e : ℕ); omega
  · show 0 + 1 * (k : ℕ) = (k : ℕ); omega
  · show (j : ℕ) % 2 * 1024 + 1 * (f : ℕ) = (j : ℕ) * 1024 + f; omega

theorem wB_at (c : Dev nD) (w : MBuf (F := Ideal) c WD) (e : Fin 16) (j : Fin 2) (k : Fin 4096) (f : Fin 1024) :
    wB c w e j (ix2 k f) = w (ix3 e k ⟨j * 1024 + f, by omega⟩) := by
  rw [← bk_WD_at c w e j k f]
  unfold wB
  pointwise [k0_pay3]

end Cert.Down

end
-- ==== Proof.Down.Pays.lean ====
/-
What a tile's products and zeros are, an entry at a time.
-/
module

public import proofs.«01_k».proof.Proof.Down.Body
public import proofs.«01_k».proof.Proof.Up.Glu
public import Idealize.ShloMosaic.Lib.Pointwise

@[expose] public section

set_option maxRecDepth 16384

noncomputable section

namespace Cert.Down

open Cert.Kernel4Ideal Cert.Kernel4Ideal.Gen
open Idealize.ShloMosaic Idealize.ShloMosaic.TcCoe

variable (a : Vec Ideal S4096x1024 .bf16)

/-- The product of a row. -/
abbrev gp (x a : Fin 4096 → EReal) : EReal := ∑ k, x k * a k

/-- An entry of the result: the product of a valid row, and zero below them. -/
def cell (n i : ℕ) (x a : Fin 4096 → EReal) : EReal := if i < n then ∑ k, x k * a k else 0

theorem pay5_at (x : Vec Ideal S64x4096 .bf16) (i : Fin 64) (f : Fin 1024) :
    k0_pay4 x a (ix2 i f) = gp (fun k => x (ix2 i k)) (fun k => a (ix2 k f)) := by
  pointwise [k0_pay4]

theorem pay7_at (x : Vec Ideal S128x4096 .bf16) (i : Fin 128) (f : Fin 1024) :
    k0_pay6 x a (ix2 i f) = gp (fun k => x (ix2 i k)) (fun k => a (ix2 k f)) := by
  pointwise [k0_pay6]

theorem pay9_at (x : Vec Ideal S192x4096 .bf16) (i : Fin 192) (f : Fin 1024) :
    k0_pay8 x a (ix2 i f) = gp (fun k => x (ix2 i k)) (fun k => a (ix2 k f)) := by
  pointwise [k0_pay8]

theorem pay11_at (x : Vec Ideal S256x4096 .bf16) (i : Fin 256) (f : Fin 1024) :
    k0_pay10 x a (ix2 i f) = gp (fun k => x (ix2 i k)) (fun k => a (ix2 k f)) := by
  pointwise [k0_pay10]

theorem pay13_at (x : Vec Ideal S320x4096 .bf16) (i : Fin 320) (f : Fin 1024) :
    k0_pay12 x a (ix2 i f) = gp (fun k => x (ix2 i k)) (fun k => a (ix2 k f)) := by
  pointwise [k0_pay12]

theorem pay15_at (x : Vec Ideal S384x4096 .bf16) (i : Fin 384) (f : Fin 1024) :
    k0_pay14 x a (ix2 i f) = gp (fun k => x (ix2 i k)) (fun k => a (ix2 k f)) := by
  pointwise [k0_pay14]

theorem pay17_at (x : Vec Ideal S448x4096 .bf16) (i : Fin 448) (f : Fin 1024) :
    k0_pay16 x a (ix2 i f) = gp (fun k => x (ix2 i k)) (fun k => a (ix2 k f)) := by
  pointwise [k0_pay16]

theorem pay1_at (x : Vec Ideal S512x4096 .bf16) (i : Fin 512) (f : Fin 1024) :
    k0_pay1 x a (ix2 i f) = gp (fun k => x (ix2 i k)) (fun k => a (ix2 k f)) := by
  pointwise [k0_pay1]

theorem pay6_at (y : S448x1024.Idx) : k0_pay5 (F := Ideal) y = 0 := by
  rw [eq_ix2 (n0 := 448) (n1 := 1024) y]
  pointwise [k0_pay5]

theorem pay8_at (y : S384x1024.Idx) : k0_pay7 (F := Ideal) y = 0 := by
  rw [eq_ix2 (n0 := 384) (n1 := 1024) y]
  pointwise [k0_pay7]

theorem pay10_at (y : S320x1024.Idx) : k0_pay9 (F := Ideal) y = 0 := by
  rw [eq_ix2 (n0 := 320) (n1 := 1024) y]
  pointwise [k0_pay9]

theorem pay12_at (y : S256x1024.Idx) : k0_pay11 (F := Ideal) y = 0 := by
  rw [eq_ix2 (n0 := 256) (n1 := 1024) y]
  pointwise [k0_pay11]

theorem pay14_at (y : S192x1024.Idx) : k0_pay13 (F := Ideal) y = 0 := by
  rw [eq_ix2 (n0 := 192) (n1 := 1024) y]
  pointwise [k0_pay13]

theorem pay16_at (y : S128x1024.Idx) : k0_pay15 (F := Ideal) y = 0 := by
  rw [eq_ix2 (n0 := 128) (n1 := 1024) y]
  pointwise [k0_pay15]

theorem pay18_at (y : S64x1024.Idx) : k0_pay17 (F := Ideal) y = 0 := by
  rw [eq_ix2 (n0 := 64) (n1 := 1024) y]
  pointwise [k0_pay17]

theorem pay2_at (y : S512x1024.Idx) : k0_pay2 (F := Ideal) y = 0 := by
  rw [eq_ix2 (n0 := 512) (n1 := 1024) y]
  pointwise [k0_pay2]

/-- Rows of the block of tokens, read off its part. -/
theorem part_rows {n : ℕ} (x : Vec Ideal S512x4096 .bf16) (h : ∀ k, (![0, 0] : Fin 2 → ℕ) k + (![n, 4096] : Fin 2 → ℕ) k ≤ S512x4096.size k) (i : Fin n) (hi : (i : ℕ) < 512) (k : Fin 4096) :
    part x (Rect.unit (s := S512x4096) ![0, 0] ![n, 4096] h) (ix2 i k) = x (ix2 ⟨i, hi⟩ k) := by
  unfold part
  congr 1
  funext j
  refine Fin.ext ?_
  fin_cases j
  · show 0 + 1 * (i : ℕ) = i; omega
  · show 0 + 1 * (k : ℕ) = k; omega

section
variable {sg : RefSig} (v : View sg .tc .vmem S512x1024 .f32) (g : v.ty.Contents (Elt Ideal))

/-- One piece over the whole block, read back. -/
theorem read_one (inb : ∀ k, (![0, 0] : Fin 2 → ℕ) k + S512x1024.size k ≤ S512x1024.size k) (w : Vec Ideal S512x1024 .f32) (i : Fin 512) (f : Fin 1024) :
    v.read (Elt Ideal) (v.writes (Elt Ideal) g [⟨Rect.unit (s := S512x1024) ![0, 0] S512x1024.size inb, w⟩]) (ix2 i f) = w (ix2 i f) :=
  View.read_writes_cons_rows_of_mem (d := ![512, 1024]) (o := 0) v g inb w [] (ix2 i f) (ix2 i f) rfl (Nat.zero_add _).symm rfl

/-- Two pieces, one above the other, read back. -/
theorem read_two {n r : ℕ} (h : n + r = 512) (inb : ∀ k, (![n, 0] : Fin 2 → ℕ) k + (![r, 1024] : Fin 2 → ℕ) k ≤ S512x1024.size k)
    (inb' : ∀ k, (![0, 0] : Fin 2 → ℕ) k + (![n, 1024] : Fin 2 → ℕ) k ≤ S512x1024.size k)
    (z : Vec Ideal (⟨2, ![r, 1024]⟩ : Shape) .f32) (w : Vec Ideal (⟨2, ![n, 1024]⟩ : Shape) .f32) (i : Fin 512) (f : Fin 1024) :
    v.read (Elt Ideal) (v.writes (Elt Ideal) g [⟨Rect.unit (s := S512x1024) ![n, 0] ![r, 1024] inb, z⟩, ⟨Rect.unit (s := S512x1024) ![0, 0] ![n, 1024] inb', w⟩]) (ix2 i f)
      = if hi : (i : ℕ) < n then w (ix2 ⟨i, hi⟩ f) else z (ix2 ⟨i - n, by omega⟩ f) := by
  by_cases hi : (i : ℕ) < n
  · rw [dif_pos hi]
    refine (View.read_writes_cons_rows_of_not_mem (d := ![512, 1024]) (o := n) (W := r) v g inb z _ (ix2 i f) rfl rfl (Or.inl hi)).trans ?_
    exact View.read_writes_cons_rows_of_mem (d := ![512, 1024]) (o := 0) v g inb' w [] (ix2 i f) (ix2 ⟨i, hi⟩ f) rfl (Nat.zero_add _).symm rfl
  · rw [dif_neg hi]
    exact View.read_writes_cons_rows_of_mem (d := ![512, 1024]) (o := n) v g inb z _ (ix2 i f) (ix2 ⟨i - n, by omega⟩ f) rfl
      (by show (i : ℕ) = n + (i - n); omega) rfl

theorem pieces_0 (x : Vec Ideal S512x4096 .bf16) (i : Fin 512) (f : Fin 1024) :
    v.read (Elt Ideal) (v.writes (Elt Ideal) g (outPieces 0#32 x a)) (ix2 i f) = cell 0 i (fun k => x (ix2 i k)) (fun k => a (ix2 k f)) := by
  unfold cell
  rw [if_neg (by omega)]
  exact (read_one v g inb_S512x1024_S512x1024_0_0 (k0_pay2 (F := Ideal)) i f).trans (pay2_at _)

theorem pieces_64 (x : Vec Ideal S512x4096 .bf16) (i : Fin 512) (f : Fin 1024) :
    v.read (Elt Ideal) (v.writes (Elt Ideal) g (outPieces 64#32 x a)) (ix2 i f) = cell 64 i (fun k => x (ix2 i k)) (fun k => a (ix2 k f)) := by
  unfold cell
  refine (read_two v g (n := 64) (r := 448) rfl inb_S512x1024_S448x1024_64_0 inb_S512x1024_S64x1024_0_0 (k0_pay5 (F := Ideal))
    (k0_pay4 (F := Ideal) (part x (Rect.unit (s := S512x4096) ![0, 0] S64x4096.size inb_S512x4096_S64x4096_0_0)) a) i f).trans ?_
  by_cases h : (i : ℕ) < 64
  · rw [dif_pos h, if_pos h]
    refine (pay5_at a _ ⟨i, h⟩ f).trans ?_
    unfold gp
    rw [funext fun k => part_rows x inb_S512x4096_S64x4096_0_0 ⟨i, h⟩ i.isLt k]
  · rw [dif_neg h, if_neg h]
    exact pay6_at _

theorem pieces_128 (x : Vec Ideal S512x4096 .bf16) (i : Fin 512) (f : Fin 1024) :
    v.read (Elt Ideal) (v.writes (Elt Ideal) g (outPieces 128#32 x a)) (ix2 i f) = cell 128 i (fun k => x (ix2 i k)) (fun k => a (ix2 k f)) := by
  unfold cell
  refine (read_two v g (n := 128) (r := 384) rfl inb_S512x1024_S384x1024_128_0 inb_S512x1024_S128x1024_0_0 (k0_pay7 (F := Ideal))
    (k0_pay6 (F := Ideal) (part x (Rect.unit (s := S512x4096) ![0, 0] S128x4096.size inb_S512x4096_S128x4096_0_0)) a) i f).trans ?_
  by_cases h : (i : ℕ) < 128
  · rw [dif_pos h, if_pos h]
    refine (pay7_at a _ ⟨i, h⟩ f).trans ?_
    unfold gp
    rw [funext fun k => part_rows x inb_S512x4096_S128x4096_0_0 ⟨i, h⟩ i.isLt k]
  · rw [dif_neg h, if_neg h]
    exact pay8_at _

theorem pieces_192 (x : Vec Ideal S512x4096 .bf16) (i : Fin 512) (f : Fin 1024) :
    v.read (Elt Ideal) (v.writes (Elt Ideal) g (outPieces 192#32 x a)) (ix2 i f) = cell 192 i (fun k => x (ix2 i k)) (fun k => a (ix2 k f)) := by
  unfold cell
  refine (read_two v g (n := 192) (r := 320) rfl inb_S512x1024_S320x1024_192_0 inb_S512x1024_S192x1024_0_0 (k0_pay9 (F := Ideal))
    (k0_pay8 (F := Ideal) (part x (Rect.unit (s := S512x4096) ![0, 0] S192x4096.size inb_S512x4096_S192x4096_0_0)) a) i f).trans ?_
  by_cases h : (i : ℕ) < 192
  · rw [dif_pos h, if_pos h]
    refine (pay9_at a _ ⟨i, h⟩ f).trans ?_
    unfold gp
    rw [funext fun k => part_rows x inb_S512x4096_S192x4096_0_0 ⟨i, h⟩ i.isLt k]
  · rw [dif_neg h, if_neg h]
    exact pay10_at _

theorem pieces_256 (x : Vec Ideal S512x4096 .bf16) (i : Fin 512) (f : Fin 1024) :
    v.read (Elt Ideal) (v.writes (Elt Ideal) g (outPieces 256#32 x a)) (ix2 i f) = cell 256 i (fun k => x (ix2 i k)) (fun k => a (ix2 k f)) := by
  unfold cell
  refine (read_two v g (n := 256) (r := 256) rfl inb_S512x1024_S256x1024_256_0 inb_S512x1024_S256x1024_0_0 (k0_pay11 (F := Ideal))
    (k0_pay10 (F := Ideal) (part x (Rect.unit (s := S512x4096) ![0, 0] S256x4096.size inb_S512x4096_S256x4096_0_0)) a) i f).trans ?_
  by_cases h : (i : ℕ) < 256
  · rw [dif_pos h, if_pos h]
    refine (pay11_at a _ ⟨i, h⟩ f).trans ?_
    unfold gp
    rw [funext fun k => part_rows x inb_S512x4096_S256x4096_0_0 ⟨i, h⟩ i.isLt k]
  · rw [dif_neg h, if_neg h]
    exact pay12_at _

theorem pieces_320 (x : Vec Ideal S512x4096 .bf16) (i : Fin 512) (f : Fin 1024) :
    v.read (Elt Ideal) (v.writes (Elt Ideal) g (outPieces 320#32 x a)) (ix2 i f) = cell 320 i (fun k => x (ix2 i k)) (fun k => a (ix2 k f)) := by
  unfold cell
  refine (read_two v g (n := 320) (r := 192) rfl inb_S512x1024_S192x1024_320_0 inb_S512x1024_S320x1024_0_0 (k0_pay13 (F := Ideal))
    (k0_pay12 (F := Ideal) (part x (Rect.unit (s := S512x4096) ![0, 0] S320x4096.size inb_S512x4096_S320x4096_0_0)) a) i f).trans ?_
  by_cases h : (i : ℕ) < 320
  · rw [dif_pos h, if_pos h]
    refine (pay13_at a _ ⟨i, h⟩ f).trans ?_
    unfold gp
    rw [funext fun k => part_rows x inb_S512x4096_S320x4096_0_0 ⟨i, h⟩ i.isLt k]
  · rw [dif_neg h, if_neg h]
    exact pay14_at _

theorem pieces_384 (x : Vec Ideal S512x4096 .bf16) (i : Fin 512) (f : Fin 1024) :
    v.read (Elt Ideal) (v.writes (Elt Ideal) g (outPieces 384#32 x a)) (ix2 i f) = cell 384 i (fun k => x (ix2 i k)) (fun k => a (ix2 k f)) := by
  unfold cell
  refine (read_two v g (n := 384) (r := 128) rfl inb_S512x1024_S128x1024_384_0 inb_S512x1024_S384x1024_0_0 (k0_pay15 (F := Ideal))
    (k0_pay14 (F := Ideal) (part x (Rect.unit (s := S512x4096) ![0, 0] S384x4096.size inb_S512x4096_S384x4096_0_0)) a) i f).trans ?_
  by_cases h : (i : ℕ) < 384
  · rw [dif_pos h, if_pos h]
    refine (pay15_at a _ ⟨i, h⟩ f).trans ?_
    unfold gp
    rw [funext fun k => part_rows x inb_S512x4096_S384x4096_0_0 ⟨i, h⟩ i.isLt k]
  · rw [dif_neg h, if_neg h]
    exact pay16_at _

theorem pieces_448 (x : Vec Ideal S512x4096 .bf16) (i : Fin 512) (f : Fin 1024) :
    v.read (Elt Ideal) (v.writes (Elt Ideal) g (outPieces 448#32 x a)) (ix2 i f) = cell 448 i (fun k => x (ix2 i k)) (fun k => a (ix2 k f)) := by
  unfold cell
  refine (read_two v g (n := 448) (r := 64) rfl inb_S512x1024_S64x1024_448_0 inb_S512x1024_S448x1024_0_0 (k0_pay17 (F := Ideal))
    (k0_pay16 (F := Ideal) (part x (Rect.unit (s := S512x4096) ![0, 0] S448x4096.size inb_S512x4096_S448x4096_0_0)) a) i f).trans ?_
  by_cases h : (i : ℕ) < 448
  · rw [dif_pos h, if_pos h]
    refine (pay17_at a _ ⟨i, h⟩ f).trans ?_
    unfold gp
    rw [funext fun k => part_rows x inb_S512x4096_S448x4096_0_0 ⟨i, h⟩ i.isLt k]
  · rw [dif_neg h, if_neg h]
    exact pay18_at _

theorem pieces_512 (x : Vec Ideal S512x4096 .bf16) (i : Fin 512) (f : Fin 1024) :
    v.read (Elt Ideal) (v.writes (Elt Ideal) g (outPieces 512#32 x a)) (ix2 i f) = cell 512 i (fun k => x (ix2 i k)) (fun k => a (ix2 k f)) := by
  unfold cell
  rw [if_pos (by omega)]
  refine (read_one v g inb_S512x1024_S512x1024_0_0 (k0_pay1 (F := Ideal) (part x (Rect.unit (s := S512x4096) ![0, 0] S512x4096.size inb_S512x4096_S512x4096_0_0)) a) i f).trans ((pay1_at a _ i f).trans ?_)
  unfold gp
  rw [funext fun k => part_rows x inb_S512x4096_S512x4096_0_0 i i.isLt k]

/-- A point's pieces, written over anything and read back, an entry at a time. -/
theorem pieces_at {n : BitVec 32} (hn : Legal n) (x : Vec Ideal S512x4096 .bf16) (i : Fin 512) (f : Fin 1024) :
    v.read (Elt Ideal) (v.writes (Elt Ideal) g (outPieces n x a)) (ix2 i f) = cell n.toNat i (fun k => x (ix2 i k)) (fun k => a (ix2 k f)) := by
  unfold Legal at hn
  rcases hn with rfl | rfl | rfl | rfl | rfl | rfl | rfl | rfl | rfl
  · exact pieces_0 a v g x i f
  · exact pieces_64 a v g x i f
  · exact pieces_128 a v g x i f
  · exact pieces_192 a v g x i f
  · exact pieces_256 a v g x i f
  · exact pieces_320 a v g x i f
  · exact pieces_384 a v g x i f
  · exact pieces_448 a v g x i f
  · exact pieces_512 a v g x i f
end

/-- What a point leaves, an entry at a time. -/
theorem outVal_at {n : BitVec 32} (hn : Legal n) (x : Vec Ideal S512x4096 .bf16) (i : Fin 512) (f : Fin 1024) :
    outVal n x a (ix2 i f) = cell n.toNat i (fun k => x (ix2 i k)) (fun k => a (ix2 k f)) :=
  pieces_at a BOut.view BOut.view.junk hn x i f

end Cert.Down

end
-- ==== Proof.Down.Out.lean ====
/-
The kernel's result, an entry at a time: what a point writes for its tile and column block is the product of
the tile's valid rows, and the points' blocks make up the result.
-/
module

public import proofs.«01_k».proof.Proof.Down.Blocks
public import proofs.«01_k».proof.Proof.Down.Pays

@[expose] public section

set_option maxRecDepth 16384

noncomputable section

namespace Cert.Down

open Cert.Kernel4Ideal Cert.Kernel4Ideal.Gen
open Cert.Up (wordAt)
open Idealize.ShloMosaic Idealize.ShloMosaic.TcCoe Idealize.ShloMosaic.Tactic
open Idealize.ShloMosaic.Pipeline (Dat)

variable (m : (ℓ : Loc nD τ sig) → Buf (Elt Ideal) ℓ)

/-- The entry of tile `n`, row `i` and column `f`, of the kernel's arguments. -/
abbrev entry (c : Dev nD) (n : Fin 40) (i : Fin 512) (f : Fin 2048) (e : Fin 16) : EReal :=
  cell ((m ((c : Thread nD τ).loc main_arg2) : IVec S40 32) (ix1 n)).toNat i
    (fun k => (m ((c : Thread nD τ).loc main_arg0) : FVec Ideal S20480x4096 .bf16) (ix2 ⟨n * 512 + i, by omega⟩ k))
    (fun k => shapeCast S16x4096x2048 (m ((c : Thread nD τ).loc main_arg3)) shapeCasts_S2x8x4096x2048_S16x4096x2048 (ix3 e k f))

/-- A point's word of valid rows. -/
theorem rows_word (c : Dev nD) (t : Fin (cfgM m).N) (n : Fin 40) (hn : t.val % 40 = n) :
    rd c T0 (W0 m c) (k0_off7 (grid0.coords t)) (k0_off7_inb (grid0.coords t)) = (m ((c : Thread nD τ).loc main_arg2) : IVec S40 32) (ix1 n) := by
  have h1 := coord1 m t
  have ht := lt_N m t
  have e : W0 m c = m ((c : Thread nD τ).loc main_arg2) := V_arg2 m c
  refine (rd_T0 c _ _ _).trans ((congrFun e _).trans ?_)
  congr 1
  congr 1
  refine Fin.ext ?_
  show k0_off7 (grid0.coords t) 0 = n
  show (BitVec.ofNat 32 (grid0.coords t 1).val).toNat = n
  rw [h1, BitVec.toNat_ofNat]
  omega

/-- A point's block, an entry at a time. -/
theorem outT_at (hr : Rows m) (c : Dev nD) (t : Fin (cfgM m).N) (n : Fin 40) (hn : t.val % 40 = n) (j : Fin 2) (hj : t.val / 40 = j)
    (e : Fin 16) (he : (tea m c (ix1 n)).toNat = e) (i : Fin 512) (f : Fin 1024) :
    outT m c t (ix2 i f) = entry m c n i ⟨j * 1024 + f, by omega⟩ e := by
  have hw : (wordAt (tea m c) (t.val % 40)).toNat = e := by
    unfold wordAt
    rw [dif_pos (Nat.mod_lt _ (by norm_num))]
    rw [← he]
    congr 3
    exact Fin.ext hn
  unfold outT
  rw [outVal_at _ (legal_word m hr c _ _), rows_word m c t n hn, hw, hj]
  unfold entry
  rw [funext fun k => xblk_at m c t n hn i k, funext fun k => wB_at c (G0 m c) e j k f, G0_eq]

/-- Every block of the result is some point's. -/
theorem covers : ((cfgM m).win 1).Covers := by
  refine ⟨fun a => ?_, fun β => ?_⟩
  · match a with
    | ⟨0, _⟩ => exact (by norm_num : 0 < 512)
    | ⟨1, _⟩ => exact (by norm_num : 0 < 1024)
  · have h0 : (β (0 : Fin 2)).val < 40 := (β (0 : Fin 2)).isLt.trans_eq (show (20480 + 512 - 1) / 512 = 40 by norm_num)
    have h1 : (β (1 : Fin 2)).val < 2 := (β (1 : Fin 2)).isLt.trans_eq (show (2048 + 1024 - 1) / 1024 = 2 by norm_num)
    let t : Fin (cfgM m).N := ⟨(β (1 : Fin 2)).val * 40 + (β (0 : Fin 2)).val, by rw [show (cfgM m).N = 80 from N_0]; omega⟩
    refine ⟨t, flush_1 m t, fun a => ⟨?_, Or.inl ?_⟩⟩
    · match a with
      | ⟨0, _⟩ =>
        refine (congrFun (index_1' m t) (0 : Fin 2)).trans ?_
        show ((β (1 : Fin 2)).val * 40 + (β (0 : Fin 2)).val) % 40 = (β (0 : Fin 2)).val
        omega
      | ⟨1, _⟩ =>
        refine (congrFun (index_1' m t) (1 : Fin 2)).trans ?_
        show ((β (1 : Fin 2)).val * 40 + (β (0 : Fin 2)).val) / 40 = (β (1 : Fin 2)).val
        omega
    · rfl

/-- Where a point's block lies in the result. -/
theorem place (t : Fin (cfgM m).N) (i : Fin 512) (f : Fin 1024) (n : Fin 40) (hn : t.val % 40 = n) (j : Fin 2) (hj : t.val / 40 = j) :
    (((cfgM m).win 1).blk t).view.emb (ix2 i f) = (ix2 (⟨n * 512 + i, by omega⟩ : Fin 20480) (⟨j * 1024 + f, by omega⟩ : Fin 2048) : S20480x2048.Idx) := by
  funext a
  refine Fin.ext ?_
  fin_cases a
  · show (cc0_transform_2 (grid0.coords t) 0) * 512 + 1 * (i : ℕ) = (n : ℕ) * 512 + i
    rw [index_1' m t]; show t.val % 40 * 512 + 1 * (i : ℕ) = _; rw [hn, one_mul]
  · show (cc0_transform_2 (grid0.coords t) 1) * 1024 + 1 * (f : ℕ) = (j : ℕ) * 1024 + f
    rw [index_1' m t]; show t.val / 40 * 1024 + 1 * (f : ℕ) = _; rw [hj, one_mul]

/-- The kernel's result is any array of these entries. -/
theorem final (hm : Experts m) (hr : Rows m) (c : Dev nD) (G : FVec Ideal S20480x2048 .f32)
    (hG : ∀ (n : Fin 40) (i : Fin 512) (f : Fin 2048), G (ix2 ⟨n * 512 + i, by omega⟩ f)
      = entry m c n i f ⟨(tea m c (ix1 n)).toNat, hm c _⟩) :
    (dats m 0 c).arrAt 1 (cfgM m).N = G := by
  refine (dats m 0 c).arrAt_eq_of_covers 1 _ (covers m) fun t _ y => ?_
  have ht := lt_N m t
  rw [after_1]
  have key : ∀ (i : Fin 512) (f : Fin 1024), outT m c t (ix2 i f) = G ((((cfgM m).win 1).blk t).view.emb (ix2 i f)) := fun i f => by
    rw [outT_at m hr c t ⟨t.val % 40, by omega⟩ rfl ⟨t.val / 40, by omega⟩ rfl ⟨(tea m c (ix1 ⟨t.val % 40, by omega⟩)).toNat, hm c _⟩ rfl i f, ← hG]
    exact congrArg G (place m t i f ⟨t.val % 40, by omega⟩ rfl ⟨t.val / 40, by omega⟩ rfl).symm
  have all : ∀ z : (⟨2, ![512, 1024]⟩ : Shape).Idx, outT m c t z = G ((((cfgM m).win 1).blk t).view.emb z) := fun z => by
    rw [eq_ix2 z]; exact key (z 0) (z 1)
  exact all y

end Cert.Down

end
-- ==== Proof.Down.Ref.lean ====
/-
The reference's result, an entry at a time: each tile's rows times its expert's weights, and zero below the
tile's valid rows.
-/
module

public import proofs.«01_k».proof.Proof.Gen.Reference4Ideal.Run
public import proofs.«01_k».proof.Proof.Down.Pays
public import Idealize.ShloMosaic.Lib.Pointwise
public import Idealize.ShloMosaic.Lib.WordCmp

@[expose] public section

set_option maxRecDepth 16384

noncomputable section

namespace Cert.Down.Ref

open Cert.Reference4Ideal Cert.Reference4Ideal.Gen
open Idealize.ShloMosaic Idealize.ShloMosaic.TcCoe Idealize.ShloMosaic.Tactic

/-- The experts, as the gather is given them: a negative one counted from the end. -/
def picks (te : IVec S40 32) : IVec S40x1 32 :=
  broadcastInDim S40x1 ![0] bcast_S40_S40x1_0 (select (cmpi .slt te (broadcastInDim S40 ![] bcast_S_S40 (constantI S_ 32 0#32)))
    (addi te (broadcastInDim S40 ![] bcast_S_S40 (constantI S_ 32 16#32))) te)

/-- Each tile's expert's weights. -/
def weights (w : FVec Ideal S2x8x4096x2048 .f32) (te : IVec S40 32) : FVec Ideal S40x4096x2048 .f32 :=
  Host.gather gather_S16x4096x2048_S40x1_S40x4096x2048_12_0_n_n_0_1_140962048 (shapeCast _ w shapeCasts_S2x8x4096x2048_S16x4096x2048) (picks te)

/-- The tiles of rows times their experts' weights. -/
def prods (x : FVec Ideal S20480x4096 .bf16) (w : FVec Ideal S40x4096x2048 .f32) : FVec Ideal S40x512x2048 .f32 :=
  Host.dotGeneral dot_S40x512x4096_S40x4096x2048_S40x512x2048_2_1_1_2_0_0 none (shapeCast _ x shapeCasts_S20480x4096_S40x512x4096) w

/-- The rows that are valid. -/
def valid (vr : IVec S40 32) : IVec S40x512x1 1 :=
  cmpi .slt (broadcastInDim S40x512x1 ![0, 1, 2] bcast_S1x512x1_S40x512x1_0_1_2 (broadcastInDim S1x512x1 ![1] bcast_S512_S1x512x1_1 (iotaInDim S512 32 0)))
    (broadcastInDim S40x512x1 ![0, 1, 2] bcast_S40x1x1_S40x512x1_0_1_2 (broadcastInDim S40x1x1 ![0] bcast_S40_S40x1x1_0 vr))

/-- The products of the valid rows, and zeros. -/
def kept (p : FVec Ideal S40x512x2048 .f32) (vr : IVec S40 32) : FVec Ideal S20480x2048 .f32 :=
  shapeCast _ (select (broadcastInDim S40x512x2048 ![0, 1, 2] bcast_S40x512x1_S40x512x2048_0_1_2 (valid vr)) p
    (broadcastInDim S40x512x2048 ![] bcast_S_S40x512x2048 (id (constant S_ .f32 0x00000000#32)))) shapeCasts_S40x512x2048_S20480x2048

/-- The reference's result, of its arguments. -/
def result (x : FVec Ideal S20480x4096 .bf16) (te vr : IVec S40 32) (wd : FVec Ideal S2x8x4096x2048 .f32) : FVec Ideal S20480x2048 .f32 :=
  kept (prods x (weights wd te)) vr

theorem picks_at (te : IVec S40 32) (n : Fin 40) (h : (te (ix1 n)).toNat < 16) : picks te (ix2 n (0 : Fin 1)) = te (ix1 n) := by
  have h0 : IntOp.cmpi .slt (te (ix1 n)) 0#32 = 0#1 := by
    rw [WordCmp.cmpi_slt_of_lt (by norm_num; omega) (by norm_num)]
    simp
  pointwise [picks]
  rw [h0]
  rfl

theorem weights_at (w : FVec Ideal S2x8x4096x2048 .f32) (te : IVec S40 32) (n : Fin 40) (k : Fin 4096) (f : Fin 2048) (h : (te (ix1 n)).toNat < 16) :
    weights w te (ix3 n k f) = shapeCast S16x4096x2048 w shapeCasts_S2x8x4096x2048_S16x4096x2048 (ix3 ⟨(te (ix1 n)).toNat, h⟩ k f) := by
  have hp := picks_at te n h
  unfold weights
  generalize shapeCast S16x4096x2048 w shapeCasts_S2x8x4096x2048_S16x4096x2048 = W
  generalize picks te = p at hp ⊢
  unfold Host.gather
  congr 1
  funext a
  refine Fin.ext ?_
  have h1 : a = 0 ∨ a = 1 ∨ a = 2 := by
    match a with
    | ⟨0, _⟩ => exact Or.inl rfl
    | ⟨1, _⟩ => exact Or.inr (Or.inl rfl)
    | ⟨2, _⟩ => exact Or.inr (Or.inr rfl)
  show GatherDims.start gather_S16x4096x2048_S40x1_S40x4096x2048_12_0_n_n_0_1_140962048 (ix3 n k f) p a
    + GatherDims.batchCoord gather_S16x4096x2048_S40x1_S40x4096x2048_12_0_n_n_0_1_140962048 (ix3 n k f) a
    + GatherDims.offCoord gather_S16x4096x2048_S40x1_S40x4096x2048_12_0_n_n_0_1_140962048 (ix3 n k f) a = _
  rw [GatherDims.batchCoord_eq_zero _ _ _ (show a ∉ ([] : List (Fin 3)) from List.not_mem_nil), Nat.add_zero]
  rcases h1 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S16x4096x2048_S40x1_S40x4096x2048_12_0_n_n_0_1_140962048.startIndexMap from List.mem_singleton.mpr rfl)]
    have hsi : GatherDims.siIdx gather_S16x4096x2048_S40x1_S40x4096x2048_12_0_n_n_0_1_140962048 (ix3 n k f) ⟨List.idxOf (0 : Fin 3) [0],
        List.idxOf_lt_length_iff.2 (List.mem_singleton.mpr rfl)⟩ = ix2 n (0 : Fin 1) := by
      funext b; refine Fin.ext ?_
      match b with
      | ⟨0, _⟩ => rfl
      | ⟨1, _⟩ => rfl
    refine (congrArg (fun z => min z.toInt.toNat 15) ((congrArg p hsi).trans hp)).trans ?_
    show min (te (ix1 n)).toInt.toNat 15 = (te (ix1 n)).toNat
    rw [BitVec.toInt_eq_toNat_of_lt (by omega)]
    omega
  · unfold GatherDims.start
    rw [dif_neg (show (1 : Fin 3) ∉ gather_S16x4096x2048_S40x1_S40x4096x2048_12_0_n_n_0_1_140962048.startIndexMap by decide), Nat.zero_add]
    rfl
  · unfold GatherDims.start
    rw [dif_neg (show (2 : Fin 3) ∉ gather_S16x4096x2048_S40x1_S40x4096x2048_12_0_n_n_0_1_140962048.startIndexMap by decide), Nat.zero_add]
    rfl

theorem prods_at (x : FVec Ideal S20480x4096 .bf16) (w : FVec Ideal S40x4096x2048 .f32) (n : Fin 40) (i : Fin 512) (f : Fin 2048) :
    prods x w (ix3 n i f) = ∑ k : Fin 4096, x (ix2 ⟨n * 512 + i, by omega⟩ k) * w (ix3 n k f) := by
  pointwise [prods]

theorem valid_at (vr : IVec S40 32) (n : Fin 40) (i : Fin 512) (h : (vr (ix1 n)).toNat ≤ 512) :
    valid vr (ix3 n i (0 : Fin 1)) = if (i : ℕ) < (vr (ix1 n)).toNat then 1#1 else 0#1 := by
  pointwise [valid]
  have hi : (BitVec.ofNat 32 (i : ℕ)).toNat = i := by rw [BitVec.toNat_ofNat]; omega
  rw [WordCmp.cmpi_slt_of_lt (by rw [hi]; norm_num; omega) (by norm_num; omega), hi]
  by_cases hc : (i : ℕ) < (vr (ix1 n)).toNat
  · rw [if_pos hc, decide_eq_true hc]; rfl
  · rw [if_neg hc, decide_eq_false hc]; rfl

theorem result_at (x : FVec Ideal S20480x4096 .bf16) (te vr : IVec S40 32) (wd : FVec Ideal S2x8x4096x2048 .f32)
    (n : Fin 40) (i : Fin 512) (f : Fin 2048) (h : (te (ix1 n)).toNat < 16) (hv : (vr (ix1 n)).toNat ≤ 512) :
    result x te vr wd (ix2 ⟨n * 512 + i, by omega⟩ f) = cell (vr (ix1 n)).toNat i (fun k => x (ix2 ⟨n * 512 + i, by omega⟩ k))
      (fun k => shapeCast S16x4096x2048 wd shapeCasts_S2x8x4096x2048_S16x4096x2048 (ix3 ⟨(te (ix1 n)).toNat, h⟩ k f)) := by
  have e : prods x (weights wd te) (ix3 n i f) = ∑ k : Fin 4096, x (ix2 ⟨n * 512 + i, by omega⟩ k)
      * shapeCast S16x4096x2048 wd shapeCasts_S2x8x4096x2048_S16x4096x2048 (ix3 ⟨(te (ix1 n)).toNat, h⟩ k f) :=
    (prods_at _ _ _ _ _).trans (Finset.sum_congr rfl fun k _ => by rw [weights_at wd te n k f h])
  unfold result cell
  rw [← e]
  generalize prods x (weights wd te) = p
  have hl := valid_at vr n i hv
  pointwise [kept]
  rw [hl]
  by_cases hc : (i : ℕ) < (vr (ix1 n)).toNat
  · rw [if_pos hc, if_pos hc]; rfl
  · rw [if_neg hc, if_neg hc]; exact Cert.Up.bits_zero

end Cert.Down.Ref

end
-- ==== Proof.Down.Bits.lean ====
/-
The down projection's kernel is printed twice, once to be read at machine floats and once at the extended reals.
The two printings are one program, over any floats: the same body at every grid point, and the same steps on the host.
-/
module

public import proofs.«01_k».proof.Proof.Gen.Kernel4
public import proofs.«01_k».proof.Proof.Gen.Kernel4.Skeleton
public import proofs.«01_k».proof.Proof.Gen.Kernel4Ideal
public import proofs.«01_k».proof.Proof.Gen.Kernel4Ideal.Skeleton

@[expose] public section

noncomputable section

namespace Cert.Down.Same

open Idealize.ShloMosaic Idealize.ShloMosaic.TcCoe Idealize.SL.Sem

variable {F : FTy → Type} [FloatOps F]

local instance : Cert.Kernel4.Facts := Cert.Kernel4.Gen.facts
local instance : Cert.Kernel4Ideal.Facts := Cert.Kernel4Ideal.Gen.facts

/-- The bodies the two programs name are the same. -/
theorem bodies : Cert.Kernel4.defs₀ (F := F) = Cert.Kernel4Ideal.defs₀ (F := F) := by
  unfold Cert.Kernel4.defs₀ Cert.Kernel4Ideal.defs₀
  refine congrArg Defs.onTc ?_
  funext l x
  match l, x with
  | 0, (t, s) => rfl
  | ⟨_ + 1, h⟩, _ => exact absurd h (Nat.not_lt.2 (Nat.le_add_left _ _))

theorem tables : Cert.Kernel4.defs (F := F) = Cert.Kernel4Ideal.defs (F := F) :=
  congrArg (Pipeline.defs Cert.Kernel4Ideal.pcfgs) bodies

/-- The running sum over the tiles, in its inner function and in its outer one. -/
theorem sum_inner (a : StableHlo.TRef Cert.Kernel4.sig ⟨Cert.Kernel4.S40, .i32⟩) :
    @Cert.Kernel4.fn_cumsum_0.body F _ _ a Cert.Kernel4.main_call0_call0
      = @Cert.Kernel4Ideal.fn_cumsum_0.body F _ _ a Cert.Kernel4Ideal.main_call0_call0 := rfl

theorem sum_outer (a : StableHlo.TRef Cert.Kernel4.sig ⟨Cert.Kernel4.S40, .i32⟩) :
    @Cert.Kernel4.fn_cumsum.body F _ _ a Cert.Kernel4.main_call0
      = @Cert.Kernel4Ideal.fn_cumsum.body F _ _ a Cert.Kernel4Ideal.main_call0 := by
  unfold Cert.Kernel4.fn_cumsum.body Cert.Kernel4Ideal.fn_cumsum.body
  exact congrArg (fun p => p >>= fun _ => pure PUnit.unit) (sum_inner a)

set_option maxHeartbeats 4000000 in
/-- The host's steps are the same, the running sum among them. -/
theorem hosts : Cert.Kernel4.main (F := F) = Cert.Kernel4Ideal.main (F := F) := by
  funext d
  unfold Cert.Kernel4.main Cert.Kernel4Ideal.main
  rw [sum_outer]
  rfl

end Cert.Down.Same

end

end
-- ==== Proof.DownWide.Entry.lean ====
/- The expert down-projection's launch: what the buffers hold when its region is entered, the prefetched
   tables read off them, and the region reached from @main. -/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DownWide

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

/-- All host operations before the region, in order. -/
abbrev hostAll : List (HloOp τ sig (Elt F)) := [hostOps0, hostOps0_1, hostOps0_2].flatten

/-- What core `c`'s buffers hold when the region is entered. -/
abbrev V (c : Dev nD) (b : Ref sig .tc) : Buf (Elt F) ((c : Thread nD τ).loc b) :=
  StableHlo.after hostAll (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

set_option maxHeartbeats 800000 in
/-- @main is the three host stretches, then the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

/-- The six tables as the region finds them. -/
def tbl : pre0.Contents (Elt F) := fun j => V m (0 : Dev nD) (pre0.ref j)
theorem V_pre (c : Dev nD) (j : Fin 6) : V m c (pre0.ref j) = tbl m j := by
  obtain rfl : c = 0 := Subsingleton.elim _ _; rfl

/-- The first table counts the tiles. -/
theorem entry_tiles (c : Dev nD) : V m c main_v1 = iotaInDim S44 32 0 := by
  show StableHlo.after hostAll _ _ = _
  simp only [hostAll, hostOps0, hostOps0_1, hostOps0_2, List.flatten_cons, List.flatten_nil, List.append_nil, List.cons_append, List.nil_append]
  after_results

/-- Which block of the rows each point takes: its tile's. -/
theorem rows_block (i : grid0.Coords) : cc0_transform_0 k0_off1_inb numel1_S1 (tbl m) i = ![(i 1).val, 0] := by
  have h : (i 1).val < 44 := (i 1).isLt
  have e0 : tbl m 0 = (iotaInDim S44 32 0 : IVec S44 32) := entry_tiles m 0
  funext k
  fin_cases k
  · show ((tbl m).at 0 (Rect.unit (s := S44) ![(BitVec.ofNat 32 (i 1).val).toNat] S1.size _) numel1_S1 : BitVec 32).toNat = (i 1).val
    show (tbl m 0 _ : BitVec 32).toNat = _
    rw [e0]
    show (BitVec.ofNat 32 ((BitVec.ofNat 32 (i 1).val).toNat + 1 * 0)).toNat = _
    rw [BitVec.toNat_ofNat, BitVec.toNat_ofNat]; omega
  · rfl

/-- The blocks the first table names lie in the rows' array. -/
theorem tbl_ok : ok0 (tbl m) := fun i => by
  have h : (i 1).val < 44 := (i 1).isLt
  rw [rows_block]
  refine ⟨fun a => ?_, Or.inr ?_⟩
  · fin_cases a
    · show ((i 1).val + 1) * 512 ≤ 22528; omega
    · show (0 + 1) * 4096 ≤ 4096; omega
  · exact Affine.block_words_dvd (of_decide_eq_true rfl) (by decide)

abbrev adm : (pcfg0 (F := F)).Adm := ⟨tbl m, tbl_ok m⟩
abbrev cfgM : Pipeline.Cfg sig Λ₀ := cfg0 (adm m)

abbrev TX : Memref sig .tc .smem S44 .i32 := Memref.whole main_v1
abbrev T0 : Memref sig .tc .smem S44 .i32 := Memref.whole main_arg2
abbrev T1 : Memref sig .tc .smem S44 .i32 := Memref.whole main_v7
abbrev T2 : Memref sig .tc .smem S44 .i32 := Memref.whole main_v10
abbrev T3 : Memref sig .tc .smem S44 .i32 := Memref.whole main_v18
abbrev T4 : Memref sig .tc .smem S1 .i32 := Memref.whole main_v21
abbrev WD : Memref sig .tc .hbm S16x4096x2048 .f32 := Memref.whole main_v0
abbrev SD : Memref sig .tc .vmem S4096x1024 .f32 := Memref.whole cc0_scratch0
abbrev BD : Memref sig .tc .vmem S4096x1024 .bf16 := Memref.whole cc0_scratch1

/-- A whole memref's buffer on core `c`, its contents' type and the buffer held at a share. -/
abbrev MBuf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : MBuf (F := F) c M) : sProp 𝕄 :=
  M.view.loc (c : Thread nD τ) ↦{q} f

/-- The tables' halves the region hands the body, table by table. -/
theorem PhiT_eq (c : Dev nD) : (Pipeline.ΦT pre0 (tbl m) c : sProp 𝕄)
    = iprop(pt c TX fullShare.right (tbl m 0) ∗ pt c T0 fullShare.right (tbl m 1) ∗ pt c T1 fullShare.right (tbl m 2) ∗ pt c T2 fullShare.right (tbl m 3)
        ∗ pt c T3 fullShare.right (tbl m 4) ∗ pt c T4 fullShare.right (tbl m 5)) := by
  unfold Pipeline.ΦT Pipeline.prefHeld
  rw [show (Finset.univ : Finset (Fin 6)) = insert 0 (insert 1 (insert 2 (insert 3 (insert 4 {5})))) from by decide,
    bigSep_insert (by decide), bigSep_insert (by decide), bigSep_insert (by decide), bigSep_insert (by decide), bigSep_insert (by decide), bigSep_singleton]
  rfl

/-- The cell of the body's own transfers. -/
abbrev osem : Fin 1 → SemLoc sig := fun _ => .dma ⟨4, by decide⟩
theorem ownSemFacts : Pipeline.OwnSemFacts spec0 osem := by decide

/-- The stacked weights, held by the body through the region. -/
abbrev HW : Finset (Ref sig .tc) := {main_v0}
theorem HW_sub : HW ⊆ Pipeline.restRefsP sig pre0 spec0 := by decide

end Cert.DownWide

end
-- ==== Proof.DownWide.Sched.lean ====
/-
The schedule the routing gives the expert products, as the down projection's host steps compute it: the up
projection's schedule of the same experts.
-/
module

public import proofs.«01_k».proof.Proof.DownWide.Entry
public import proofs.«01_k».proof.Proof.Wide.Tables
public import proofs.«01_k».proof.Proof.Wide.Words
public import proofs.«01_k».proof.Proof.Wide.Step

@[expose] public section

set_option maxRecDepth 16384

noncomputable section

namespace Cert.DownWide

open Cert.Kernel5Ideal Cert.Kernel5Ideal.Gen
open Cert.Wide (firstOf gidOf geOf ngOf)
open Idealize.ShloMosaic Idealize.ShloMosaic.TcCoe

variable {F : FTy → Type} [FloatOps F]
variable (m : (ℓ : Loc nD τ sig) → Buf (Elt F) ℓ)

set_option maxHeartbeats 1000000 in
theorem entry_first (c : Dev nD) : V m c main_v7 = firstOf (m ((c : Thread nD τ).loc main_arg1)) := by
  show StableHlo.after hostAll _ _ = _
  simp only [hostAll, hostOps0, hostOps0_1, hostOps0_2, List.flatten_cons, List.flatten_nil, List.append_nil, List.cons_append, List.nil_append]
  after_results
  unfold firstOf
  rfl

set_option maxHeartbeats 1000000 in
theorem entry_gid (c : Dev nD) : V m c main_v10 = gidOf (firstOf (m ((c : Thread nD τ).loc main_arg1))) := by
  show StableHlo.after hostAll _ _ = _
  simp only [hostAll, hostOps0, hostOps0_1, hostOps0_2, List.flatten_cons, List.flatten_nil, List.append_nil, List.cons_append, List.nil_append]
  after_results
  simp only [StableHlo.TRef.ofBuf, StableHlo.TRef.toBuf, cast_eq, cast_cast]
  unfold gidOf firstOf
  rfl

set_option maxHeartbeats 1000000 in
theorem entry_ge (c : Dev nD) : V m c main_v18 = geOf (gidOf (firstOf (m ((c : Thread nD τ).loc main_arg1)))) (m ((c : Thread nD τ).loc main_arg1)) := by
  show StableHlo.after hostAll _ _ = _
  simp only [hostAll, hostOps0, hostOps0_1, hostOps0_2, List.flatten_cons, List.flatten_nil, List.append_nil, List.cons_append, List.nil_append]
  after_results
  simp only [StableHlo.TRef.ofBuf, StableHlo.TRef.toBuf, cast_eq, cast_cast]
  unfold geOf gidOf firstOf
  rfl

set_option maxHeartbeats 1000000 in
theorem entry_ng (c : Dev nD) : V m c main_v21 = ngOf (gidOf (firstOf (m ((c : Thread nD τ).loc main_arg1)))) := by
  show StableHlo.after hostAll _ _ = _
  simp only [hostAll, hostOps0, hostOps0_1, hostOps0_2, List.flatten_cons, List.flatten_nil, List.append_nil, List.cons_append, List.nil_append]
  after_results
  simp only [StableHlo.TRef.ofBuf, StableHlo.TRef.toBuf, cast_eq, cast_cast]
  unfold ngOf gidOf firstOf
  rfl

end Cert.DownWide

end
-- ==== Proof.DownWide.Body.lean ====
/- The expert down projection's body, run: what a grid point reads, computes, stores and leaves in flight. -/
module

public import proofs.«01_k».proof.Proof.DownWide.Entry
public import proofs.«01_k».proof.Proof.Down.Body
public import Idealize.ShloMosaic.Lib.WholeRead
public import Idealize.ShloMosaic.Lib.WritesUnit

@[expose] public section

set_option maxRecDepth 16384

noncomputable section

namespace Cert.DownWide

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

abbrev s4 : DmaSem sig := ⟨4, by decide⟩

/-- A staging buffer held whole, at raw contents. -/
abbrev ptS (c : Dev nD) {sp : Space} {S : Shape} {e : EltTy} (M : Memref sig .tc sp S e) (f : MBuf (F := F) c M) : sProp 𝕄 :=
  M.view.loc (c : Thread nD τ) ↦[M.view.set]{fullShare} f

/-- One copy of a weight block in flight on `sem` to the staging buffer `S`, out of the stacked weights `M`. -/
abbrev flight (c : Dev nD) (sem : DmaSem sig) (S : Memref sig .tc .vmem S4096x1024 .f32) (M : Memref sig .tc .hbm S16x4096x2048 .f32)
    (g : MBuf (F := F) c S) (w : MBuf (F := F) c M) : sProp 𝕄 :=
  Transfers.Flight (countersEmb (U := Pipeline.UD sig nD τ)) (c : Thread nD τ) (.dma sem) () (S.view.amount (SemLoc.dma (sig := sig) sem))
    iprop(pt c S fullShare g ∗ pt c M fullShare w)

/-- The word a table of 44 holds where the kernel loads it from. -/
def rd (c : Dev nD) (M : Memref sig .tc .smem S44 .i32) (t : MBuf (F := F) c M) (off : Fin 1 → ℕ) (h : ∀ a, off a + S1.size a ≤ S44.size a) : BitVec 32 :=
  View.readAt (Elt F) M.view (Rect.unit (s := S44) off S1.size h).toLoadRect t (Shape.Idx.first (by show 0 < S1.numel; decide))
/-- The number of groups, as the kernel loads it. -/
def rdN (c : Dev nD) (t : MBuf (F := F) c T4) : BitVec 32 :=
  View.readAt (Elt F) T4.view (Rect.unit (s := S1) ![0] S1.size inb_S1_S1_0).toLoadRect t (Shape.Idx.first (by decide))

/-- The part of a block a rectangle names. -/
def part {s : Shape} {e : EltTy} (x : Vec F s e) (r : Rect s) : r.shape.Idx → Elt F e := fun y => x (r.toLoadRect.idx y)

/-- What a grid point whose valid-row word is `n` writes to its output block, last first: the products of its valid rows and
    zeros below them. -/
def outPieces (n : BitVec 32) (x : Vec F S512x4096 .bf16) (a : Vec F S4096x1024 .bf16) : List (View.Piece (Elt F) S512x1024 .f32) :=
  Cert.Down.outPieces n x a

abbrev BOut : Memref sig .tc .vmem S512x1024 .f32 := spec0_1.stage 0

/-- The output block a grid point with valid-row word `n` leaves. -/
def outVal (n : BitVec 32) (x : Vec F S512x4096 .bf16) (a : Vec F S4096x1024 .bf16) : Vec F S512x1024 .f32 :=
  BOut.view.read (Elt F) (BOut.view.writes (Elt F) BOut.view.junk (outPieces n x a))

/-- The words the kernel counts valid rows by. -/
def Legal (n : BitVec 32) : Prop := n = 0#32 ∨ n = 64#32 ∨ n = 128#32 ∨ n = 192#32 ∨ n = 256#32 ∨ n = 320#32 ∨ n = 384#32 ∨ n = 448#32 ∨ n = 512#32

theorem Legal.cover {n : BitVec 32} (h : Legal n) (x : Vec F S512x4096 .bf16) (a : Vec F S4096x1024 .bf16) :
    ∀ y, ∃ p ∈ outPieces n x a, y ∈ p.1.set := Cert.Down.Legal.cover h x a

/-- The staged weight block, bf16, as the body holds it. -/
abbrev wts (c : Dev nD) (a : Vec F S4096x1024 .bf16) : sProp 𝕄 :=
  iprop(pt c BD fullShare ((Memref.isWhole_whole cc0_scratch1).unread a))

/-- Reading a staged bf16 block whole is reading its contents. -/
theorem readAt_wts (M : Memref sig .tc .vmem S4096x1024 .bf16) (h : M.IsWhole) (a : Vec F S4096x1024 .bf16)
    (hb : ∀ k, (![0, 0] : Fin 2 → ℕ) k + S4096x1024.size k ≤ S4096x1024.size k) :
    View.readAt (Elt F) M.view (Rect.unit (s := S4096x1024) ![0, 0] S4096x1024.size hb).toLoadRect (h.unread a) = a := by
  funext y
  rw [h.readAt_unread]
  congr 1
  funext k
  refine Fin.ext ?_
  fin_cases k <;> simp [LoadRect.idx, Rect.unit, Rect.toLoadRect]

theorem readAt_part {S : Shape} {e : EltTy} (M : Memref sig .tc .vmem S e) (h : M.IsWhole) (x : Vec F S e) (r : Rect S) :
    View.readAt (Elt F) M.view r.toLoadRect (h.unread x) = part x r := funext fun y => h.readAt_unread x r.toLoadRect y

/-- The halves of the five tables the body reads. -/
abbrev tabs (c : Dev nD) (t0 : MBuf (F := F) c T0) (t1 : MBuf (F := F) c T1) (t2 : MBuf (F := F) c T2) (t3 : MBuf (F := F) c T3)
    (t4 : MBuf (F := F) c T4) : sProp 𝕄 :=
  iprop(pt c T0 fullShare.right t0 ∗ pt c T1 fullShare.right t1 ∗ pt c T2 fullShare.right t2 ∗ pt c T3 fullShare.right t3 ∗ pt c T4 fullShare.right t4)

/-- The output block a point leaves: determined by its valid-row word when that word is one the kernel counts by. -/
abbrev outAt (c : Dev nD) (M : Memref sig .tc .vmem S512x1024 .f32) (n : BitVec 32) (x : Vec F S512x4096 .bf16) (a : Vec F S4096x1024 .bf16) : sProp 𝕄 :=
  iprop(∃ X, ⌜Legal n → X = outVal n x a⌝ ∗ owns (c : Thread nD τ) M fullShare X)

theorem outAt_intro (c : Dev nD) (M : Memref sig .tc .vmem S512x1024 .f32) (n : BitVec 32) (x : Vec F S512x4096 .bf16) (a : Vec F S4096x1024 .bf16)
    (f : MBuf (F := F) c M) (L : List (View.Piece (Elt F) S512x1024 .f32)) (h : L = outPieces n x a) :
    ptS c M (M.view.writes (Elt F) f L) ⊢ outAt c M n x a := by
  subst h
  unfold outAt owns
  iintro H
  iexists _; isplitr
  swap
  · iexists _; isplitr
    swap; · iexact H
    ipureintro; rfl
  ipureintro
  intro hL
  exact View.read_writes_of_cover _ _ _ _ _ (hL.cover x a)

/-- Which of the kernel's nine row conditions hold at a valid-row word, and the writes that go with them. -/
theorem condCases (n : BitVec 32) :
    (k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a, outPieces (F := F) n x a = [⟨Rect.unit (s := S512x1024) ![64, 0] S448x1024.size inb_S512x1024_S448x1024_64_0, k0_pay5⟩, ⟨Rect.unit (s := S512x1024) ![0, 0] S64x1024.size inb_S512x1024_S64x1024_0_0, k0_pay4 (part x (Rect.unit (s := S512x4096) ![0, 0] S64x4096.size inb_S512x4096_S64x4096_0_0)) a⟩])
    ∨ (¬ k0_cond4 n = 1#1 ∧ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a, outPieces (F := F) n x a = [⟨Rect.unit (s := S512x1024) ![128, 0] S384x1024.size inb_S512x1024_S384x1024_128_0, k0_pay7⟩, ⟨Rect.unit (s := S512x1024) ![0, 0] S128x1024.size inb_S512x1024_S128x1024_0_0, k0_pay6 (part x (Rect.unit (s := S512x4096) ![0, 0] S128x4096.size inb_S512x4096_S128x4096_0_0)) a⟩])
    ∨ (¬ k0_cond4 n = 1#1 ∧ ¬ k0_cond5 n = 1#1 ∧ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a, outPieces (F := F) n x a = [⟨Rect.unit (s := S512x1024) ![192, 0] S320x1024.size inb_S512x1024_S320x1024_192_0, k0_pay9⟩, ⟨Rect.unit (s := S512x1024) ![0, 0] S192x1024.size inb_S512x1024_S192x1024_0_0, k0_pay8 (part x (Rect.unit (s := S512x4096) ![0, 0] S192x4096.size inb_S512x4096_S192x4096_0_0)) a⟩])
    ∨ (¬ k0_cond4 n = 1#1 ∧ ¬ k0_cond5 n = 1#1 ∧ ¬ k0_cond6 n = 1#1 ∧ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a, outPieces (F := F) n x a = [⟨Rect.unit (s := S512x1024) ![256, 0] S256x1024.size inb_S512x1024_S256x1024_256_0, k0_pay11⟩, ⟨Rect.unit (s := S512x1024) ![0, 0] S256x1024.size inb_S512x1024_S256x1024_0_0, k0_pay10 (part x (Rect.unit (s := S512x4096) ![0, 0] S256x4096.size inb_S512x4096_S256x4096_0_0)) a⟩])
    ∨ (¬ k0_cond4 n = 1#1 ∧ ¬ k0_cond5 n = 1#1 ∧ ¬ k0_cond6 n = 1#1 ∧ ¬ k0_cond7 n = 1#1 ∧ k0_cond8 n = 1#1 ∧ ¬ k0_cond9 n = 1#1 ∧ ¬ k0_cond10 n = 1#1 ∧ ¬ k0_cond11 n = 1#1 ∧ ¬ k0_cond12 n = 1#1
      ∧ ∀ x a, outPieces (F := F) n x a = [⟨Rect.unit (s := S512x1024) ![320, 0] S192x1024.size inb_S512x1024_S192x1024_320_0, k0_pay13⟩, ⟨Rect.unit (s := S512x1024) ![0, 0] S320x1024.size inb_S512x1024_S320x1024_0_0, k0_pay12 (part x (Rect.unit (s := S512x4096) ![0, 0] S320x4096.size inb_S512x4096_S320x4096_0_0)) a⟩])
    ∨ (¬ k0_cond4 n = 1#1 ∧ ¬ k0_cond5 n = 1#1 ∧ ¬ k0_cond6 n = 1#1 ∧ ¬ k0_cond7 n = 1#1 ∧ ¬ k0_cond8 n = 1#1 ∧ k0_cond9 n = 1#1 ∧ ¬ k0_cond10 n = 1#1 ∧ ¬ k0_cond11 n = 1#1 ∧ ¬ k0_cond12 n = 1#1
      ∧ ∀ x a, outPieces (F := F) n x a = [⟨Rect.unit (s := S512x1024) ![384, 0] S128x1024.size inb_S512x1024_S128x1024_384_0, k0_pay15⟩, ⟨Rect.unit (s := S512x1024) ![0, 0] S384x1024.size inb_S512x1024_S384x1024_0_0, k0_pay14 (part x (Rect.unit (s := S512x4096) ![0, 0] S384x4096.size inb_S512x4096_S384x4096_0_0)) a⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ k0_cond10 n = 1#1 ∧ ¬ k0_cond11 n = 1#1 ∧ ¬ k0_cond12 n = 1#1
      ∧ ∀ x a, outPieces (F := F) n x a = [⟨Rect.unit (s := S512x1024) ![448, 0] S64x1024.size inb_S512x1024_S64x1024_448_0, k0_pay17⟩, ⟨Rect.unit (s := S512x1024) ![0, 0] S448x1024.size inb_S512x1024_S448x1024_0_0, k0_pay16 (part x (Rect.unit (s := S512x4096) ![0, 0] S448x4096.size inb_S512x4096_S448x4096_0_0)) a⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ k0_cond11 n = 1#1 ∧ ¬ k0_cond12 n = 1#1
      ∧ ∀ x a, outPieces (F := F) n x a = [⟨Rect.unit (s := S512x1024) ![0, 0] S512x1024.size inb_S512x1024_S512x1024_0_0, k0_pay1 (part x (Rect.unit (s := S512x4096) ![0, 0] S512x4096.size inb_S512x4096_S512x4096_0_0)) a⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ k0_cond12 n = 1#1
      ∧ ∀ x a, outPieces (F := F) n x a = [⟨Rect.unit (s := S512x1024) ![0, 0] S512x1024.size inb_S512x1024_S512x1024_0_0, k0_pay2⟩])
    ∨ (¬ k0_cond4 n = 1#1 ∧ ¬ k0_cond5 n = 1#1 ∧ ¬ k0_cond6 n = 1#1 ∧ ¬ k0_cond7 n = 1#1 ∧ ¬ k0_cond8 n = 1#1 ∧ ¬ k0_cond9 n = 1#1 ∧ ¬ k0_cond10 n = 1#1 ∧ ¬ k0_cond11 n = 1#1 ∧ ¬ k0_cond12 n = 1#1
      ∧ ∀ x a, outPieces (F := F) n x a = []) := Cert.Down.condCases n

/-- A store of the whole staged block leaves its payload. -/
theorem read_writes_wts {e : EltTy} (M : Memref sig .tc .vmem S4096x1024 e) (f : M.view.ty.Contents (Elt F))
    (hb : ∀ k, (![0, 0] : Fin 2 → ℕ) k + S4096x1024.size k ≤ S4096x1024.size k) (p : Vec F S4096x1024 e) (L : List (View.Piece (Elt F) S4096x1024 e)) :
    M.view.read (Elt F) (M.view.writes (Elt F) f (⟨Rect.unit (s := S4096x1024) ![0, 0] S4096x1024.size hb, p⟩ :: L)) = p := by
  funext y
  refine View.read_writes_cons_unit_of_mem M.view f hb p L y y rfl fun k => ?_
  fin_cases k <;> exact (Nat.zero_add _).symm

theorem pt_wts (c : Dev nD) (M : Memref sig .tc .vmem S4096x1024 .bf16) (hM : M.IsWhole) (f : MBuf (F := F) c M)
    (hb : ∀ k, (![0, 0] : Fin 2 → ℕ) k + S4096x1024.size k ≤ S4096x1024.size k) (p q : Vec F S4096x1024 .bf16) (h : p = q) :
    pt c M fullShare (M.view.writes (Elt F) f [⟨Rect.unit (s := S4096x1024) ![0, 0] S4096x1024.size hb, p⟩]) ⊢ pt c M fullShare (hM.unread q) := by
  subst h
  rw [← hM.eq_unread (read_writes_wts M f hb p [])]

/-- Reading a staged f32 block whole is reading its contents. -/
theorem readAt_stage (c : Dev nD) (M : Memref sig .tc .vmem S4096x1024 .f32) (g : MBuf (F := F) c M)
    (hb : ∀ k, (![0, 0] : Fin 2 → ℕ) k + S4096x1024.size k ≤ S4096x1024.size k) :
    View.readAt (Elt F) M.view (Rect.unit (s := S4096x1024) ![0, 0] S4096x1024.size hb).toLoadRect g = M.view.read (Elt F) g := by
  funext y
  show M.view.read (Elt F) g _ = M.view.read (Elt F) g y
  congr 1
  funext k
  refine Fin.ext ?_
  fin_cases k <;> simp [LoadRect.idx, Rect.unit, Rect.toLoadRect]

/-- The weight block at `off` of the stacked weights. -/
def blk (c : Dev nD) (M : Memref sig .tc .hbm S16x4096x2048 .f32) (w : MBuf (F := F) c M) (off : Fin 3 → ℕ)
    (h : ∀ a, off a + S1x4096x1024.size a ≤ S16x4096x2048.size a) : Vec F S4096x1024 .f32 :=
  ((M.slice (Rect.unit (s := S16x4096x2048) off S1x4096x1024.size h) (fun _ => rfl)).squeeze S4096x1024 squeezes_S1x4096x1024_S4096x1024).view.read (Elt F) w

/-- A flight out of part of an array, with the rest of the array: a flight that delivers the array whole. -/
theorem flight_whole (c : Dev nD) (sm : SemLoc sig) (N : ℕ) (D : sProp 𝕄) {ℓ : Loc nD τ sig} (I : Finset (Idx ℓ)) (w : Buf (Elt F) ℓ) :
    iprop(Transfers.Flight (countersEmb (U := Pipeline.UD sig nD τ)) (c : Thread nD τ) sm () N iprop(D ∗ ℓ ↦[I]{fullShare} w) ∗ ℓ ↦[Finset.univ \ I]{fullShare} w)
      ⊢ (Transfers.Flight (countersEmb (U := Pipeline.UD sig nD τ)) (c : Thread nD τ) sm () N iprop(D ∗ ℓ ↦{fullShare} w) : sProp 𝕄) := by
  unfold Transfers.Flight
  iintro ⟨⟨⟨%R, HR, %hcap, %hpeek⟩, Hcred⟩, Hrest⟩
  isplitr [Hcred]
  · iexists iprop(R ∗ ℓ ↦[Finset.univ \ I]{fullShare} w)
    isplitl [HR Hrest]; · isplitl [HR] <;> iassumption
    isplit
    · ipureintro
      intro K
      iintro ⟨⟨HR, Hrest⟩, HK⟩
      iapply (hcap K)
      isplitl [HR]; · iexact HR
      iintro ⟨Hv, HD, Hs⟩
      iapply HK
      isplitl [Hv]; · iexact Hv
      isplitl [HD]; · iexact HD
      iapply (pointsTo_split_subset (Finset.subset_univ I)).2
      isplitl [Hs] <;> iassumption
    · ipureintro
      intro K
      iintro ⟨⟨HR, Hrest⟩, HK⟩
      iapply (hpeek K)
      isplitl [HR]; · iexact HR
      iintro HR
      iapply HK
      isplitl [HR] <;> iassumption
  · iexact Hcred

theorem blk_congr (c : Dev nD) (M : Memref sig .tc .hbm S16x4096x2048 .f32) (w : MBuf (F := F) c M) {off off' : Fin 3 → ℕ} (e : off = off')
    (h : ∀ a, off a + S1x4096x1024.size a ≤ S16x4096x2048.size a) (h' : ∀ a, off' a + S1x4096x1024.size a ≤ S16x4096x2048.size a) :
    blk c M w off h = blk c M w off' h' := by
  subst e; rfl

end Cert.DownWide

end
-- ==== Proof.DownWide.Words.lean ====
/-
The kernel's words at a grid point: its conditions, offsets and side conditions, under the schedule.
-/
module

public import proofs.«01_k».proof.Proof.DownWide.Sched
public import proofs.«01_k».proof.Proof.DownWide.Body

@[expose] public section

set_option maxRecDepth 16384

noncomputable section

namespace Cert.DownWide

open Cert.Kernel5Ideal Cert.Kernel5Ideal.Gen
open Cert.Wide (opens grp nxt nxt_lt col sge_word)
open Idealize.ShloMosaic Idealize.ShloMosaic.TcCoe Idealize.ShloMosaic.Routing Idealize.SL.Sem

variable {F : FTy → Type} [FloatOps F]

theorem rd_T0 (c : Dev nD) (t : MBuf (F := F) c T0) (off : Fin 1 → ℕ) (h : ∀ a, off a + S1.size a ≤ S44.size a) :
    rd c T0 t off h = (t : IVec S44 32) (ix1 ⟨off 0, by have := h 0; change off 0 + 1 ≤ 44 at this; omega⟩) := by
  show (t : IVec S44 32) _ = _
  congr 1; funext k; fin_cases k; refine Fin.ext ?_; simp [ix1, LoadRect.idx, Rect.unit, Rect.toLoadRect]
theorem rd_T1 (c : Dev nD) (t : MBuf (F := F) c T1) (off : Fin 1 → ℕ) (h : ∀ a, off a + S1.size a ≤ S44.size a) :
    rd c T1 t off h = (t : IVec S44 32) (ix1 ⟨off 0, by have := h 0; change off 0 + 1 ≤ 44 at this; omega⟩) := by
  show (t : IVec S44 32) _ = _
  congr 1; funext k; fin_cases k; refine Fin.ext ?_; simp [ix1, LoadRect.idx, Rect.unit, Rect.toLoadRect]
theorem rd_T2 (c : Dev nD) (t : MBuf (F := F) c T2) (off : Fin 1 → ℕ) (h : ∀ a, off a + S1.size a ≤ S44.size a) :
    rd c T2 t off h = (t : IVec S44 32) (ix1 ⟨off 0, by have := h 0; change off 0 + 1 ≤ 44 at this; omega⟩) := by
  show (t : IVec S44 32) _ = _
  congr 1; funext k; fin_cases k; refine Fin.ext ?_; simp [ix1, LoadRect.idx, Rect.unit, Rect.toLoadRect]
theorem rd_T3 (c : Dev nD) (t : MBuf (F := F) c T3) (off : Fin 1 → ℕ) (h : ∀ a, off a + S1.size a ≤ S44.size a) :
    rd c T3 t off h = (t : IVec S44 32) (ix1 ⟨off 0, by have := h 0; change off 0 + 1 ≤ 44 at this; omega⟩) := by
  show (t : IVec S44 32) _ = _
  congr 1; funext k; fin_cases k; refine Fin.ext ?_; simp [ix1, LoadRect.idx, Rect.unit, Rect.toLoadRect]

/-- The tables' words are the schedule of the experts `te`. -/
structure Ok (c : Dev nD) (te : ℕ → BitVec 32) (t1 : MBuf (F := F) c T1) (t2 : MBuf (F := F) c T2) (t3 : MBuf (F := F) c T3) (t4 : MBuf (F := F) c T4) : Prop where
  lt : ∀ n, (te n).toNat < 16
  f1 : ∀ off h, rd c T1 t1 off h = BitVec.ofNat 32 (opens te (off 0)).toNat
  f2 : ∀ off h, rd c T2 t2 off h = BitVec.ofNat 32 (grp te (off 0))
  f3lt : ∀ off h, (rd c T3 t3 off h).toNat < 16
  f3 : ∀ off h n, n < 44 → off 0 = grp te n → rd c T3 t3 off h = te n
  f4 : rdN c t4 = BitVec.ofNat 32 (grp te 43 + 1)

/-! ## The words -/

theorem off1_eq (i : grid0.Coords) : k0_off1 i 0 = (i 1).val := by
  have h : (i 1).val < 44 := (i 1).isLt
  show (BitVec.ofNat 32 (i 1).val).toNat = _
  rw [BitVec.toNat_ofNat]; omega
theorem off7_eq (i : grid0.Coords) : k0_off7 i 0 = (i 1).val := off1_eq i

theorem cond1_iff (b : Bool) : k0_cond1 (BitVec.ofNat 32 b.toNat) = 1#1 ↔ b = true := by
  cases b <;> decide

theorem cond2_iff (i : grid0.Coords) (g : ℕ) (hg : g < 44) : k0_cond2 i (BitVec.ofNat 32 g) = 1#1 ↔ (i 0).val = 0 ∧ g = 0 := by
  have h : (i 0).val < 2 := (i 0).isLt
  unfold k0_cond2
  generalize (i 0).val = j at h
  have key : ∀ j : Fin 2, ∀ g : Fin 44, Scalar.cmpi .ne (Scalar.extui (Scalar.andi (Scalar.cmpi .eq (BitVec.ofNat 32 j) 0#32) (Scalar.cmpi .eq (BitVec.ofNat 32 g) 0#32))) 0#32 = 1#1 ↔ j.val = 0 ∧ g.val = 0 := by
    decide +kernel
  exact key ⟨j, h⟩ ⟨g, hg⟩

theorem cond3_iff (i : grid0.Coords) (g N : ℕ) (hg : g < 44) (hN : N < 45) :
    k0_cond3 i (BitVec.ofNat 32 g) (BitVec.ofNat 32 N) = 1#1 ↔ col g N (i 0).val < 2 := by
  have h : (i 0).val < 2 := (i 0).isLt
  have hs := sge_word ⟨g, hg⟩ ⟨N, hN⟩
  unfold k0_cond3 col
  generalize (i 0).val = j at h
  simp only at hs ⊢
  rw [hs]
  by_cases e : N ≤ g + 1
  · simp only [e, if_true, decide_true]
    interval_cases j <;> decide
  · simp only [e, if_false, decide_false]
    interval_cases j <;> decide

theorem off3_eq (g : ℕ) (hg : g < 44) : k0_off3 (BitVec.ofNat 32 g) = ![g] := by
  show ![(BitVec.ofNat 32 g).toNat] = _
  rw [BitVec.toNat_ofNat, Nat.mod_eq_of_lt (by omega)]

theorem off5_eq (g N : ℕ) (hg : g < 44) (hN : N < 45) : k0_off5 (BitVec.ofNat 32 g) (BitVec.ofNat 32 N) = ![nxt g N] := by
  have hs := sge_word ⟨g, hg⟩ ⟨N, hN⟩
  unfold k0_off5 nxt
  simp only at hs ⊢
  rw [hs]
  by_cases e : N ≤ g + 1
  · simp only [e, if_true, decide_true]; rfl
  · simp only [e, if_false, decide_false]
    show ![(BitVec.ofNat 32 g + 1#32).toNat] = _
    rw [BitVec.toNat_add, BitVec.toNat_ofNat]
    congr 1
    show (g % 2 ^ 32 + 1) % 2 ^ 32 = _
    omega

theorem mult3_eq (i : grid0.Coords) (g N : ℕ) (hg : g < 44) (hN : N < 45) :
    (k0_mult3 i (BitVec.ofNat 32 g) (BitVec.ofNat 32 N)).toNat = col g N (i 0).val * 1024 := by
  have h : (i 0).val < 2 := (i 0).isLt
  have hs := sge_word ⟨g, hg⟩ ⟨N, hN⟩
  unfold k0_mult3 col
  generalize (i 0).val = j at h
  simp only at hs ⊢
  rw [hs]
  by_cases e : N ≤ g + 1
  · simp only [e, if_true, decide_true]
    interval_cases j <;> rfl
  · simp only [e, if_false, decide_false]
    interval_cases j <;> rfl

theorem off6_eq (i : grid0.Coords) (g N : ℕ) (hg : g < 44) (hN : N < 45) (w : BitVec 32) :
    k0_off6 i (BitVec.ofNat 32 g) (BitVec.ofNat 32 N) w = ![w.toNat, 0, col g N (i 0).val * 1024] := by
  rw [← mult3_eq i g N hg hN]; rfl

theorem off4_eq (i : grid0.Coords) (w : BitVec 32) : k0_off4 i w = ![w.toNat, 0, (i 0).val * 1024] := by
  have h : (i 0).val < 2 := (i 0).isLt
  have e : (k0_mult2 i).toNat = (i 0).val * 1024 := by
    unfold k0_mult2
    generalize (i 0).val = j at h
    interval_cases j <;> rfl
  rw [← e]; rfl

/-- A weight block's offsets lie in the array. -/
theorem inb_block {e j : ℕ} (he : e < 16) (hj : j < 2) : ∀ a, (![e, 0, j * 1024] : Fin 3 → ℕ) a + S1x4096x1024.size a ≤ S16x4096x2048.size a := by
  intro a
  fin_cases a
  · show e + 1 ≤ 16; omega
  · show 0 + 4096 ≤ 4096; omega
  · show j * 1024 + 1024 ≤ 2048; omega

theorem inb_word {g : ℕ} (h : g < 44) : ∀ a, (![g] : Fin 1 → ℕ) a + S1.size a ≤ S44.size a := by
  intro a
  fin_cases a
  show g + 1 ≤ 44
  omega

theorem chk2_ok (i : grid0.Coords) (g N : ℕ) (hg : g < 44) (hN : N < 45) (w : BitVec 32) : k0_chk2 i (BitVec.ofNat 32 g) (BitVec.ofNat 32 N) w := by
  refine ⟨fun _ => ?_, fun _ => ?_, fun _ _ => ?_⟩
  · rw [off3_eq g hg]; exact inb_word hg
  · rw [off5_eq g N hg hN]; exact inb_word (nxt_lt hN)
  · rw [mult3_eq i g N hg hN]; exact Dvd.intro_left _ rfl

theorem chk3_ok (i : grid0.Coords) (w v : BitVec 32) (hv : v.toNat < 16) : k0_chk3 i w v := fun _ => by
  rw [off4_eq]; exact inb_block hv (i 0).isLt

theorem chk1_ok (i : grid0.Coords) (u w v : BitVec 32) (hv : v.toNat < 16) : k0_chk1 i u w v := fun _ _ => inb_block (j := 0) hv (by omega)

theorem chk4_ok (i : grid0.Coords) (g N : ℕ) (hg : g < 44) (hN : N < 45) (w v : BitVec 32) (hv : v.toNat < 16) :
    k0_chk4 i (BitVec.ofNat 32 g) (BitVec.ofNat 32 N) w v := fun _ h3 => by
  rw [off6_eq i g N hg hN]; exact inb_block hv ((cond3_iff i g N hg hN).1 h3)

end Cert.DownWide

end
-- ==== Proof.DownWide.Start.lean ====
/-
The tables the kernel reads are the schedule of the experts it is given, and its arguments are
what the call finds.
-/
module

public import proofs.«01_k».proof.Proof.DownWide.Sched
public import proofs.«01_k».proof.Proof.DownWide.Words

@[expose] public section

set_option maxRecDepth 16384

noncomputable section

namespace Cert.DownWide

open Cert.Kernel5Ideal Cert.Kernel5Ideal.Gen
open Cert.Wide (firstOf gidOf geOf ngOf wordAt first_at gid_at ng_at ge_at ge_lt)
open Idealize.ShloMosaic Idealize.ShloMosaic.TcCoe Idealize.ShloMosaic.Tactic
open Idealize.SL Idealize.SL.RA Idealize.SL.BI

variable {F : FTy → Type} [FloatOps F]
variable (m : (ℓ : Loc nD τ sig) → Buf (Elt F) ℓ)

set_option maxHeartbeats 1000000 in
theorem V_arg0 (c : Dev nD) : V m c main_arg0 = m ((c : Thread nD τ).loc main_arg0) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg1 (c : Dev nD) : V m c main_arg1 = m ((c : Thread nD τ).loc main_arg1) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg2 (c : Dev nD) : V m c main_arg2 = m ((c : Thread nD τ).loc main_arg2) := by
  show StableHlo.after hostAll _ _ = _
  simp only [hostAll, hostOps0, hostOps0_1, hostOps0_2, List.flatten_cons, List.flatten_nil, List.append_nil, List.cons_append, List.nil_append]
  after_results
set_option maxHeartbeats 1000000 in
theorem V_arg3 (c : Dev nD) : V m c main_arg3 = m ((c : Thread nD τ).loc main_arg3) := by
  show StableHlo.after hostAll _ _ = _
  simp only [hostAll, hostOps0, hostOps0_1, hostOps0_2, List.flatten_cons, List.flatten_nil, List.append_nil, List.cons_append, List.nil_append]
  after_results

/-- The experts of the tiles, as the kernel is given them. -/
abbrev tea (c : Dev nD) : IVec S44 32 := m ((c : Thread nD τ).loc main_arg1)
/-- Every expert is one of the sixteen. -/
def Experts : Prop := ∀ (c : Dev nD) i, (tea m c i).toNat < 16

theorem wordAt_lt (a : IVec S44 32) (ha : ∀ i, (a i).toNat < 16) (n : ℕ) : (wordAt a n).toNat < 16 := by
  unfold wordAt; split
  · exact ha _
  · decide

/-- The tables, as the call finds them. -/
def WX (c : Dev nD) : MBuf (F := F) c TX := V m c main_v1
def W0 (c : Dev nD) : MBuf (F := F) c T0 := V m c main_arg2
def W1 (c : Dev nD) : MBuf (F := F) c T1 := V m c main_v7
def W2 (c : Dev nD) : MBuf (F := F) c T2 := V m c main_v10
def W3 (c : Dev nD) : MBuf (F := F) c T3 := V m c main_v18
def W4 (c : Dev nD) : MBuf (F := F) c T4 := V m c main_v21

/-- The tables' words are the schedule of the experts. -/
theorem ok_tbl (hm : Experts m) (c : Dev nD) : Ok c (wordAt (tea m c)) (W1 m c) (W2 m c) (W3 m c) (W4 m c) := by
  have e1 : W1 m c = firstOf (tea m c) := entry_first m c
  have e2 : W2 m c = gidOf (firstOf (tea m c)) := entry_gid m c
  have e3 : W3 m c = geOf (gidOf (firstOf (tea m c))) (tea m c) := entry_ge m c
  have e4 : W4 m c = ngOf (gidOf (firstOf (tea m c))) := entry_ng m c
  refine ⟨wordAt_lt _ (hm c), fun off h => ?_, fun off h => ?_, fun off h => ?_, fun off h n hn hx => ?_, ?_⟩
  · exact (rd_T1 c _ off h).trans ((congrFun e1 _).trans (first_at _ _))
  · exact (rd_T2 c _ off h).trans ((congrFun e2 _).trans (gid_at _ _))
  · rw [rd_T3 c _ off h]; exact (congrArg BitVec.toNat (congrFun e3 _)).trans_lt (ge_lt _ (hm c) _ _)
  · refine (rd_T3 c _ off h).trans ((congrFun e3 _).trans ((ge_at _ (hm c) ⟨n, hn⟩ ⟨off 0, _⟩ hx.symm).trans ?_))
    unfold wordAt; rw [dif_pos hn]
  · exact (congrArg (rdN c) e4).trans (ng_at _ _)

end Cert.DownWide

end
-- ==== Proof.DownWide.Carry.lean ====
/- A grid point whose tile goes on with the group of the tile before it. -/
module

public import proofs.«01_k».proof.Proof.DownWide.Body

@[expose] public section

set_option maxRecDepth 16384

noncomputable section

namespace Cert.DownWide

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 2000000 in
/-- A point whose tile goes on with the group before it: the staged blocks are used as they stand. -/
theorem body_carry (c : Dev nD) (i : grid0.Coords)
    (arg8 : Memref sig .tc .vmem S512x4096 .bf16) (harg8 : arg8.IsWhole) (arg10 : Memref sig .tc .vmem S512x1024 .f32) (harg10 : arg10.IsWhole)
    (t0 : MBuf (F := F) c T0) (t1 : MBuf (F := F) c T1) (t2 : MBuf (F := F) c T2) (t3 : MBuf (F := F) c T3) (t4 : MBuf (F := F) c T4)
    (x : Vec F S512x4096 .bf16) (a : Vec F S4096x1024 .bf16)
    (h1 : ¬ k0_cond1 (rd c T1 t1 (k0_off1 i) (k0_off1_inb i)) = 1#1) (K : PUnit → sProp 𝕄) :
    iprop(tabs c t0 t1 t2 t3 t4 ∗ wts c a ∗ owns (c : Thread nD τ) arg8 fullShare x ∗ (∃ X, owns (c : Thread nD τ) arg10 fullShare X)
        ∗ (iprop(tabs c t0 t1 t2 t3 t4 ∗ wts c a ∗ owns (c : Thread nD τ) arg8 fullShare x
            ∗ outAt c arg10 (rd c T0 t0 (k0_off7 i) (k0_off7_inb i)) x a) -∗ K ⟨⟩))
      ⊢ wp frame (wpE (defs₀ (F := F)) Variants.none c none) Set.univ (cc0_moe_down (F := F) i TX (Memref.isWhole_whole _) T0 (Memref.isWhole_whole _) T1 (Memref.isWhole_whole _) T2 (Memref.isWhole_whole _) T3 (Memref.isWhole_whole _) T4 (Memref.isWhole_whole _) arg8 harg8 WD (Memref.isWhole_whole _) arg10 harg10 SD (Memref.isWhole_whole _) BD (Memref.isWhole_whole _) cc0_scratch2) K := by
  simp only [cc0_moe_down_eq_skeleton]; unfold cc0_moe_down_skel
  simp only [k0_part1_eq_skeleton]
  have h2 : ∀ w1 w2, k0_chk2 i w1 w2 (rd c T1 t1 (k0_off1 i) (k0_off1_inb i)) :=
    fun w1 w2 => ⟨fun k => absurd k h1, fun k => absurd k h1, fun k => absurd k h1⟩
  unfold owns
  iintro ⟨⟨HT0, HT1, HT2, HT3, HT4⟩, HB, ⟨%f7, %hf7, H7⟩, ⟨%X10, %f10, -, H10⟩, Hk⟩
  obtain rfl := harg8.eq_unread hf7
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact h1 | exact h2 _ _ | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HB]; · iexact HB
    isplitl [H7]
    · iexists _; isplitr; · ipureintro; exact harg8.read_unread _
      iexact H7
    first
      | (iapply (outAt_intro c arg10 _ x a f10 [] (hp x a).symm)
         iexact H10)
      | (iapply outAt_intro
         rotate_left
         · iexact H10
         · try simp only [readAt_part]
           first
             | exact (hp x a).symm
             | exact (hp x _).symm.trans (congrArg (outPieces _ x) (readAt_wts BD (Memref.isWhole_whole _) a _)))

end Cert.DownWide

end
-- ==== Proof.DownWide.Last.lean ====
/- A grid point that opens the last group of the last column. -/
module

public import proofs.«01_k».proof.Proof.DownWide.Body

@[expose] public section

set_option maxRecDepth 16384

noncomputable section

namespace Cert.DownWide

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 4000000 in
/-- A point that opens the last group of the last column: it waits for its weight blocks and starts no copy. -/
theorem body_last (c : Dev nD) (i : grid0.Coords)
    (arg8 : Memref sig .tc .vmem S512x4096 .bf16) (harg8 : arg8.IsWhole) (arg10 : Memref sig .tc .vmem S512x1024 .f32) (harg10 : arg10.IsWhole)
    (t0 : MBuf (F := F) c T0) (t1 : MBuf (F := F) c T1) (t2 : MBuf (F := F) c T2) (t3 : MBuf (F := F) c T3) (t4 : MBuf (F := F) c T4)
    (x : Vec F S512x4096 .bf16) (wg : MBuf (F := F) c WD)
    (w1 w2 : BitVec 32) (hw1 : rd c T2 t2 (k0_off1 i) (k0_off1_inb i) = w1) (hw2 : rdN c t4 = w2)
    (h1 : k0_cond1 (rd c T1 t1 (k0_off1 i) (k0_off1_inb i)) = 1#1)
    (hk2 : k0_chk2 i w1 w2 (rd c T1 t1 (k0_off1 i) (k0_off1_inb i)))
    (hk3 : ∀ h, k0_chk3 i (rd c T1 t1 (k0_off1 i) (k0_off1_inb i)) (rd c T3 t3 (k0_off3 w1) h))
    (g : MBuf (F := F) c SD)
    (h2 : ¬ k0_cond2 i w1 = 1#1)
    (h3 : ¬ k0_cond3 i w1 w2 = 1#1)
    (W : Waits sig Unit) (K : PUnit → sProp 𝕄) :
    iprop(tabs c t0 t1 t2 t3 t4 ∗ (∃ f, pt c BD fullShare f) ∗ flight c s4 SD WD g wg ∗ owes (c : Thread nD τ) 0 W
        ∗ owns (c : Thread nD τ) arg8 fullShare x ∗ (∃ X, owns (c : Thread nD τ) arg10 fullShare X)
        ∗ (iprop(tabs c t0 t1 t2 t3 t4 ∗ wts c (k0_pay3 (SD.view.read (Elt F) g)) ∗ (pt c SD fullShare g ∗ pt c WD fullShare wg ∗ semVal ((c : Thread nD τ), SemLoc.dma s4) 0) ∗ (∃ W, owes (c : Thread nD τ) 0 W)
            ∗ owns (c : Thread nD τ) arg8 fullShare x
            ∗ outAt c arg10 (rd c T0 t0 (k0_off7 i) (k0_off7_inb i)) x (k0_pay3 (SD.view.read (Elt F) g))) -∗ K ⟨⟩))
      ⊢ wp frame (wpE (defs₀ (F := F)) Variants.none c none) Set.univ (cc0_moe_down (F := F) i TX (Memref.isWhole_whole _) T0 (Memref.isWhole_whole _) T1 (Memref.isWhole_whole _) T2 (Memref.isWhole_whole _) T3 (Memref.isWhole_whole _) T4 (Memref.isWhole_whole _) arg8 harg8 WD (Memref.isWhole_whole _) arg10 harg10 SD (Memref.isWhole_whole _) BD (Memref.isWhole_whole _) cc0_scratch2) K := by
  subst hw1 hw2
  simp only [cc0_moe_down_eq_skeleton]; unfold cc0_moe_down_skel
  simp only [k0_part1_eq_skeleton]; unfold k0_part1_skel
  unfold owns
  iintro ⟨⟨HT0, HT1, HT2, HT3, HT4⟩, ⟨%fg, HB⟩, HF, HO, ⟨%f7, %hf7, H7⟩, ⟨%X10, %f10, -, H10⟩, Hk⟩
  obtain rfl := harg8.eq_unread hf7
  set_option sl_exec.stopBefore "k0_cond4" in sl_exec (disch := first  | exact fun _ k => absurd k h3 | exact h2 | exact h3 | exact h1 | exact hk2 | exact hk3 _)
  generalize hA : k0_pay3 (SD.view.read (Elt F) g) = A
  ihave HB' := (pt_wts c BD (Memref.isWhole_whole _) fg _ _ A ((congrArg k0_pay3 (readAt_stage c SD _ _)).trans hA)) $$ HB
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HB']; · iexact HB'
    isplitl [HF_dst HF_src HF]
    · isplitl [HF_dst]; · iexact HF_dst
      isplitl [HF_src]; · iexact HF_src
      iexact HF
    isplitl [HO]; · iexists _; iexact HO
    isplitl [H7]
    · iexists _; isplitr; · ipureintro; exact harg8.read_unread _
      iexact H7
    first
      | (iapply (outAt_intro c arg10 _ x A f10 [] (hp x A).symm)
         iexact H10)
      | (iapply outAt_intro
         rotate_left
         · iexact H10
         · try simp only [readAt_part]
           first
             | exact (hp x A).symm
             | exact (hp x _).symm.trans (congrArg (outPieces _ x) (readAt_wts BD (Memref.isWhole_whole _) A _)))

end Cert.DownWide

end
-- ==== Proof.DownWide.Next.lean ====
/- A grid point that opens a group and starts the next group's copies. -/
module

public import proofs.«01_k».proof.Proof.DownWide.Body

@[expose] public section

set_option maxRecDepth 16384

noncomputable section

namespace Cert.DownWide

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 4000000 in
/-- A point that opens a group: it waits for its weight blocks and starts the copies of the next group's. -/
theorem body_next (c : Dev nD) (i : grid0.Coords)
    (arg8 : Memref sig .tc .vmem S512x4096 .bf16) (harg8 : arg8.IsWhole) (arg10 : Memref sig .tc .vmem S512x1024 .f32) (harg10 : arg10.IsWhole)
    (t0 : MBuf (F := F) c T0) (t1 : MBuf (F := F) c T1) (t2 : MBuf (F := F) c T2) (t3 : MBuf (F := F) c T3) (t4 : MBuf (F := F) c T4)
    (x : Vec F S512x4096 .bf16) (wg : MBuf (F := F) c WD)
    (w1 w2 : BitVec 32) (hw1 : rd c T2 t2 (k0_off1 i) (k0_off1_inb i) = w1) (hw2 : rdN c t4 = w2)
    (h1 : k0_cond1 (rd c T1 t1 (k0_off1 i) (k0_off1_inb i)) = 1#1)
    (hk2 : k0_chk2 i w1 w2 (rd c T1 t1 (k0_off1 i) (k0_off1_inb i)))
    (hk3 : ∀ h, k0_chk3 i (rd c T1 t1 (k0_off1 i) (k0_off1_inb i)) (rd c T3 t3 (k0_off3 w1) h))
    (g : MBuf (F := F) c SD)
    (h2 : ¬ k0_cond2 i w1 = 1#1)
    (h3 : k0_cond3 i w1 w2 = 1#1) (hk4 : ∀ h, k0_chk4 i w1 w2 (rd c T1 t1 (k0_off1 i) (k0_off1_inb i)) (rd c T3 t3 (k0_off5 w1 w2) h))
    (off' : Fin 3 → ℕ) (hoff' : ∀ h, k0_off6 i w1 w2 (rd c T3 t3 (k0_off5 w1 w2) h) = off') (hin' : ∀ a, off' a + S1x4096x1024.size a ≤ S16x4096x2048.size a)
    (W : Waits sig Unit) (K : PUnit → sProp 𝕄) :
    iprop(tabs c t0 t1 t2 t3 t4 ∗ (∃ f, pt c BD fullShare f) ∗ flight c s4 SD WD g wg ∗ owes (c : Thread nD τ) 0 W
        ∗ owns (c : Thread nD τ) arg8 fullShare x ∗ (∃ X, owns (c : Thread nD τ) arg10 fullShare X)
        ∗ (iprop(tabs c t0 t1 t2 t3 t4 ∗ wts c (k0_pay3 (SD.view.read (Elt F) g)) ∗ (∃ g', ⌜SD.view.read (Elt F) g' = blk c WD wg off' hin'⌝ ∗ flight c s4 SD WD g' wg) ∗ (∃ W, owes (c : Thread nD τ) 0 W)
            ∗ owns (c : Thread nD τ) arg8 fullShare x
            ∗ outAt c arg10 (rd c T0 t0 (k0_off7 i) (k0_off7_inb i)) x (k0_pay3 (SD.view.read (Elt F) g))) -∗ K ⟨⟩))
      ⊢ wp frame (wpE (defs₀ (F := F)) Variants.none c none) Set.univ (cc0_moe_down (F := F) i TX (Memref.isWhole_whole _) T0 (Memref.isWhole_whole _) T1 (Memref.isWhole_whole _) T2 (Memref.isWhole_whole _) T3 (Memref.isWhole_whole _) T4 (Memref.isWhole_whole _) arg8 harg8 WD (Memref.isWhole_whole _) arg10 harg10 SD (Memref.isWhole_whole _) BD (Memref.isWhole_whole _) cc0_scratch2) K := by
  subst hw1 hw2
  simp only [cc0_moe_down_eq_skeleton]; unfold cc0_moe_down_skel
  simp only [k0_part1_eq_skeleton]; unfold k0_part1_skel
  unfold owns
  iintro ⟨⟨HT0, HT1, HT2, HT3, HT4⟩, ⟨%fg, HB⟩, HF, HO, ⟨%f7, %hf7, H7⟩, ⟨%X10, %f10, -, H10⟩, Hk⟩
  obtain rfl := harg8.eq_unread hf7
  set_option sl_exec.stopBefore "k0_cond4" in sl_exec (disch := first | exact h2 | exact h3 | exact hk4 _ | exact h1 | exact hk2 | exact hk3 _)
  generalize hA : k0_pay3 (SD.view.read (Elt F) g) = A
  ihave HB' := (pt_wts c BD (Memref.isWhole_whole _) fg _ _ A ((congrArg k0_pay3 (readAt_stage c SD _ _)).trans hA)) $$ HB
  ihave HF' := (flight_whole c _ _ _ _ wg) $$ [HF HF_src]
  · isplitl [HF] <;> iassumption
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HB']; · iexact HB'
    isplitl [HF']
    · iexists _
      isplitr
      swap
      · iexact HF'
      ipureintro
      exact (View.read_write_univ _ _).trans (blk_congr c WD wg (hoff' _) _ hin')
    isplitl [HO]; · iexists _; iexact HO
    isplitl [H7]
    · iexists _; isplitr; · ipureintro; exact harg8.read_unread _
      iexact H7
    first
      | (iapply (outAt_intro c arg10 _ x A f10 [] (hp x A).symm)
         iexact H10)
      | (iapply outAt_intro
         rotate_left
         · iexact H10
         · try simp only [readAt_part]
           first
             | exact (hp x A).symm
             | exact (hp x _).symm.trans (congrArg (outPieces _ x) (readAt_wts BD (Memref.isWhole_whole _) A _)))

end Cert.DownWide

end
-- ==== Proof.DownWide.First.lean ====
/- The first grid point, which starts its own copies. -/
module

public import proofs.«01_k».proof.Proof.DownWide.Body

@[expose] public section

set_option maxRecDepth 16384

noncomputable section

namespace Cert.DownWide

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

theorem pt_wts_imp (c : Dev nD) (M : Memref sig .tc .vmem S4096x1024 .bf16) (hM : M.IsWhole) (f : MBuf (F := F) c M)
    (hb : ∀ k, (![0, 0] : Fin 2 → ℕ) k + S4096x1024.size k ≤ S4096x1024.size k) (p q : Vec F S4096x1024 .bf16) :
    pt c M fullShare (M.view.writes (Elt F) f [⟨Rect.unit (s := S4096x1024) ![0, 0] S4096x1024.size hb, p⟩]) ⊢ iprop(⌜p = q⌝ -∗ pt c M fullShare (hM.unread q)) := by
  iintro H %h
  iapply (pt_wts c M hM f hb p q h)
  iexact H

set_option maxHeartbeats 4000000 in
/-- The first point: it starts and awaits its own weight blocks, then starts the copies of the next group's. -/
theorem body_first (c : Dev nD) (i : grid0.Coords)
    (arg8 : Memref sig .tc .vmem S512x4096 .bf16) (harg8 : arg8.IsWhole) (arg10 : Memref sig .tc .vmem S512x1024 .f32) (harg10 : arg10.IsWhole)
    (t0 : MBuf (F := F) c T0) (t1 : MBuf (F := F) c T1) (t2 : MBuf (F := F) c T2) (t3 : MBuf (F := F) c T3) (t4 : MBuf (F := F) c T4)
    (x : Vec F S512x4096 .bf16) (wg : MBuf (F := F) c WD)
    (w1 w2 : BitVec 32) (hw1 : rd c T2 t2 (k0_off1 i) (k0_off1_inb i) = w1) (hw2 : rdN c t4 = w2)
    (h1 : k0_cond1 (rd c T1 t1 (k0_off1 i) (k0_off1_inb i)) = 1#1)
    (hk2 : k0_chk2 i w1 w2 (rd c T1 t1 (k0_off1 i) (k0_off1_inb i)))
    (hk3 : ∀ h, k0_chk3 i (rd c T1 t1 (k0_off1 i) (k0_off1_inb i)) (rd c T3 t3 (k0_off3 w1) h))
    (h2 : k0_cond2 i w1 = 1#1) (hk1 : ∀ v, v = rd c T3 t3 ![0] inb_S44_S1_0 → k0_chk1 i w1 (rd c T1 t1 (k0_off1 i) (k0_off1_inb i)) v)
    (off : Fin 3 → ℕ) (hoff : k0_off2 (rd c T3 t3 ![0] inb_S44_S1_0) = off) (hin : ∀ a, off a + S1x4096x1024.size a ≤ S16x4096x2048.size a)
    (h3 : k0_cond3 i w1 w2 = 1#1) (hk4 : ∀ h, k0_chk4 i w1 w2 (rd c T1 t1 (k0_off1 i) (k0_off1_inb i)) (rd c T3 t3 (k0_off5 w1 w2) h))
    (off' : Fin 3 → ℕ) (hoff' : ∀ h, k0_off6 i w1 w2 (rd c T3 t3 (k0_off5 w1 w2) h) = off') (hin' : ∀ a, off' a + S1x4096x1024.size a ≤ S16x4096x2048.size a)
    (W : Waits sig Unit) (K : PUnit → sProp 𝕄) :
    iprop(tabs c t0 t1 t2 t3 t4 ∗ (∃ f, pt c BD fullShare f) ∗ (∃ g, pt c SD fullShare g) ∗ pt c WD fullShare wg ∗ semVal ((c : Thread nD τ), SemLoc.dma s4) 0 ∗ owes (c : Thread nD τ) 0 W
        ∗ owns (c : Thread nD τ) arg8 fullShare x ∗ (∃ X, owns (c : Thread nD τ) arg10 fullShare X)
        ∗ (iprop(tabs c t0 t1 t2 t3 t4 ∗ wts c (k0_pay3 (blk c WD wg off hin)) ∗ (∃ g', ⌜SD.view.read (Elt F) g' = blk c WD wg off' hin'⌝ ∗ flight c s4 SD WD g' wg) ∗ (∃ W, owes (c : Thread nD τ) 0 W)
            ∗ owns (c : Thread nD τ) arg8 fullShare x
            ∗ outAt c arg10 (rd c T0 t0 (k0_off7 i) (k0_off7_inb i)) x (k0_pay3 (blk c WD wg off hin))) -∗ K ⟨⟩))
      ⊢ wp frame (wpE (defs₀ (F := F)) Variants.none c none) Set.univ (cc0_moe_down (F := F) i TX (Memref.isWhole_whole _) T0 (Memref.isWhole_whole _) T1 (Memref.isWhole_whole _) T2 (Memref.isWhole_whole _) T3 (Memref.isWhole_whole _) T4 (Memref.isWhole_whole _) arg8 harg8 WD (Memref.isWhole_whole _) arg10 harg10 SD (Memref.isWhole_whole _) BD (Memref.isWhole_whole _) cc0_scratch2) K := by
  subst hw1 hw2
  simp only [cc0_moe_down_eq_skeleton]; unfold cc0_moe_down_skel
  simp only [k0_part1_eq_skeleton]; unfold k0_part1_skel
  unfold owns
  iintro ⟨⟨HT0, HT1, HT2, HT3, HT4⟩, ⟨%fg, HB⟩, ⟨%g, HS⟩, HW_, HF, HO, ⟨%f7, %hf7, H7⟩, ⟨%X10, %f10, -, H10⟩, Hk⟩
  obtain rfl := harg8.eq_unread hf7
  set_option sl_exec.stopBefore "k0_cond4" in sl_exec (disch := first | exact h2 | exact h3 | exact hk1 _ rfl | exact hk4 _ | exact h1 | exact hk2 | exact hk3 _)
  generalize hA : k0_pay3 (blk c WD wg off hin) = A
  ihave HB1 := (pt_wts_imp c BD (Memref.isWhole_whole _) fg _ _ A) $$ HB
  ihave HB' := HB1 $$ []
  · ipureintro
    refine (congrArg k0_pay3 ((readAt_stage c SD _ _).trans ((View.read_write_univ _ _).trans ?_))).trans hA
    exact blk_congr c WD wg hoff _ hin
  ihave HF' := (flight_whole c _ _ _ _ wg) $$ [HF HW_]
  · isplitl [HF] <;> iassumption
  generalize hn : rd c T0 t0 (k0_off7 i) (k0_off7_inb i) = n
  rcases condCases (F := F) n with hc | hc | hc | hc | hc | hc | hc | hc | hc | hc
  all_goals
    obtain ⟨e4, e5, e6, e7, e8, e9, e10, e11, e12, hp⟩ := hc
    subst hn
    sl_exec (disch := first | exact e4 | exact e5 | exact e6 | exact e7 | exact e8 | exact e9 | exact e10 | exact e11 | exact e12)
    sl_step
    iapply Hk
    isplitl [HT0 HT1 HT2 HT3 HT4]
    · isplitl [HT0]; · iexact HT0
      isplitl [HT1]; · iexact HT1
      isplitl [HT2]; · iexact HT2
      isplitl [HT3]; · iexact HT3
      iexact HT4
    isplitl [HB']; · iexact HB'
    isplitl [HF']
    · iexists _
      isplitr
      swap
      · iexact HF'
      ipureintro
      exact (View.read_write_univ _ _).trans (blk_congr c WD wg (hoff' _) _ hin')
    isplitl [HO]; · iexists _; iexact HO
    isplitl [H7]
    · iexists _; isplitr; · ipureintro; exact harg8.read_unread _
      iexact H7
    first
      | (iapply (outAt_intro c arg10 _ x A f10 [] (hp x A).symm)
         iexact H10)
      | (iapply outAt_intro
         rotate_left
         · iexact H10
         · try simp only [readAt_part]
           first
             | exact (hp x A).symm
             | exact (hp x _).symm.trans (congrArg (outPieces _ x) (readAt_wts BD (Memref.isWhole_whole _) A _)))

end Cert.DownWide

end
-- ==== Proof.DownWide.Step.lean ====
/-
What the kernel holds between grid points, and one point's step: the weights' rounded blocks of the
tile's expert, and the copies of the next group's blocks under way.
-/
module

public import proofs.«01_k».proof.Proof.DownWide.Words
public import proofs.«01_k».proof.Proof.DownWide.Carry
public import proofs.«01_k».proof.Proof.DownWide.Last
public import proofs.«01_k».proof.Proof.DownWide.Next
public import proofs.«01_k».proof.Proof.DownWide.First

@[expose] public section

set_option maxRecDepth 16384

noncomputable section

namespace Cert.DownWide

open Cert.Kernel5Ideal Cert.Kernel5Ideal.Gen
open Cert.Wide (opens grp grp_le grp_mono te_of_grp nxt nxt_lt col grp_lt ng_lt)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The block of expert `e` and column `j` of a stacked weight. -/
def bk (c : Dev nD) (M : Memref sig .tc .hbm S16x4096x2048 .f32) (w : MBuf (F := F) c M) (e j : ℕ) : Vec F S4096x1024 .f32 :=
  blk c M w ![e % 16, 0, j % 2 * 1024] (inb_block (Nat.mod_lt _ (by omega)) (Nat.mod_lt _ (by omega)))

theorem blk_bk (c : Dev nD) (M : Memref sig .tc .hbm S16x4096x2048 .f32) (w : MBuf (F := F) c M) (e j : ℕ) (he : e < 16) (hj : j < 2)
    (off : Fin 3 → ℕ) (h : ∀ a, off a + S1x4096x1024.size a ≤ S16x4096x2048.size a) (ho : off = ![e, 0, j * 1024]) :
    blk c M w off h = bk c M w e j :=
  blk_congr c M w (by rw [ho, Nat.mod_eq_of_lt he, Nat.mod_eq_of_lt hj]) _ _

/-- The expert of group `k`, as the table gives it. -/
def expOf (c : Dev nD) (t3 : MBuf (F := F) c T3) (k : ℕ) : ℕ := if h : k < 44 then (rd c T3 t3 ![k] (inb_word h)).toNat else 0

/-- No copy under way. -/
def idle (c : Dev nD) (wg : MBuf (F := F) c WD) : sProp 𝕄 :=
  iprop((∃ g, pt c SD fullShare g) ∗ pt c WD fullShare wg ∗ semVal ((c : Thread nD τ), SemLoc.dma s4) 0)

/-- The copy of one block of the weight under way. -/
def inflight (c : Dev nD) (wg : MBuf (F := F) c WD) (e j : ℕ) : sProp 𝕄 :=
  iprop(∃ g, ⌜SD.view.read (Elt F) g = bk c WD wg e j⌝ ∗ flight c s4 SD WD g wg)

/-- The copies after a point in group `g` of `N`, column `j`. -/
def stage (c : Dev nD) (t3 : MBuf (F := F) c T3) (wg : MBuf (F := F) c WD) (N g j : ℕ) : sProp 𝕄 :=
  if col g N j < 2 then inflight c wg (expOf c t3 (nxt g N)) (col g N j) else idle c wg

/-- The rounded blocks of expert `e` and column `j`. -/
def wB (c : Dev nD) (wg : MBuf (F := F) c WD) (e j : ℕ) : Vec F S4096x1024 .bf16 := k0_pay3 (bk c WD wg e j)

/-- What the body holds before point `t`, beside the tables and the windows. -/
def held (c : Dev nD) (te : ℕ → BitVec 32) (t3 : MBuf (F := F) c T3) (wg : MBuf (F := F) c WD) : ℕ → sProp 𝕄
  | 0 => iprop((∃ f, pt c BD fullShare f) ∗ idle c wg)
  | p + 1 => iprop(wts c (wB c wg (te (p % 44)).toNat (p / 44)) ∗ stage c t3 wg (grp te 43 + 1) (grp te (p % 44)) (p / 44))

variable {c : Dev nD} {te : ℕ → BitVec 32} {t1 : MBuf (F := F) c T1} {t2 : MBuf (F := F) c T2} {t3 : MBuf (F := F) c T3} {t4 : MBuf (F := F) c T4}

theorem rd3_congr {off off' : Fin 1 → ℕ} (e : off = off') (h : ∀ a, off a + S1.size a ≤ S44.size a) (h' : ∀ a, off' a + S1.size a ≤ S44.size a) :
    rd c T3 t3 off h = rd c T3 t3 off' h' := by subst e; rfl

theorem expOf_lt (ok : Ok c te t1 t2 t3 t4) (k : ℕ) : expOf c t3 k < 16 := by
  unfold expOf; split
  · exact ok.f3lt _ _
  · omega

theorem expOf_eq (ok : Ok c te t1 t2 t3 t4) (n : ℕ) (hn : n < 44) : expOf c t3 (grp te n) = (te n).toNat := by
  have h := grp_le te n
  unfold expOf
  rw [dif_pos (by omega)]
  exact congrArg BitVec.toNat (ok.f3 _ _ n hn rfl)

/-- The opening of a tile's group finds its blocks under way. -/
theorem stage_opens (ok : Ok c te t1 t2 t3 t4) (wg : MBuf (F := F) c WD) (p : ℕ) (hp : p + 1 < 88) (ho : opens te ((p + 1) % 44) = true) :
    stage c t3 wg (grp te 43 + 1) (grp te (p % 44)) (p / 44) = inflight c wg (te ((p + 1) % 44)).toNat ((p + 1) / 44) := by
  have key : ∀ n j, n < 44 → j < 2 → nxt (grp te (p % 44)) (grp te 43 + 1) = grp te n → col (grp te (p % 44)) (grp te 43 + 1) (p / 44) = j →
      stage c t3 wg (grp te 43 + 1) (grp te (p % 44)) (p / 44) = inflight c wg (te n).toNat j := by
    intro n j hn hj e1 e2
    unfold stage
    rw [e1, e2, if_pos hj, expOf_eq ok n hn]
  refine key _ _ (Nat.mod_lt _ (by omega)) (by omega) ?_ ?_
  all_goals
    by_cases h : p % 44 = 43
    · rw [show (p + 1) % 44 = 0 by omega] at *
      first
        | (rw [h]; unfold nxt; rw [if_pos (le_refl _)]; rfl)
        | (rw [h]; unfold col; rw [if_pos (le_refl _)]; omega)
    · have e : (p + 1) % 44 = p % 44 + 1 := by omega
      rw [e] at ho
      have hg : grp te (p % 44 + 1) = grp te (p % 44) + 1 := by
        show grp te (p % 44) + (opens te (p % 44 + 1)).toNat = _
        rw [ho]; rfl
      have hm : grp te (p % 44 + 1) ≤ grp te 43 := grp_mono te (by omega)
      first
        | (rw [e, hg]; unfold nxt; rw [if_neg (by omega)])
        | (unfold col; rw [if_neg (by omega)]; omega)

/-- A tile that opens no group leaves what is held as it is. -/
theorem held_carry (wg : MBuf (F := F) c WD) (p : ℕ) (ho : opens te ((p + 1) % 44) = false) :
    held c te t3 wg (p + 1 + 1) = held c te t3 wg (p + 1) := by
  have h0 : (p + 1) % 44 ≠ 0 := fun h => by rw [h] at ho; cases ho
  have e : (p + 1) % 44 = p % 44 + 1 := by omega
  have e' : (p + 1) / 44 = p / 44 := by omega
  rw [e] at ho
  have hg : grp te (p % 44 + 1) = grp te (p % 44) := by
    show grp te (p % 44) + (opens te (p % 44 + 1)).toNat = _
    rw [ho]; rfl
  have ht : te (p % 44 + 1) = te (p % 44) := te_of_grp te hg
  simp only [held]
  rw [e, e', hg, ht]

variable (i : grid0.Coords)
    (arg8 : Memref sig .tc .vmem S512x4096 .bf16) (harg8 : arg8.IsWhole) (arg10 : Memref sig .tc .vmem S512x1024 .f32) (harg10 : arg10.IsWhole)
    (t0 : MBuf (F := F) c T0) (x : Vec F S512x4096 .bf16) (wg : MBuf (F := F) c WD)

set_option maxHeartbeats 1000000 in
/-- One grid point. -/
theorem body_step (ok : Ok c te t1 t2 t3 t4) (t : ℕ) (ht : t < 88) (i0 : (i 0).val = t / 44) (i1 : (i 1).val = t % 44)
    (W : Waits sig Unit) (K : PUnit → sProp 𝕄) :
    iprop(tabs c t0 t1 t2 t3 t4 ∗ held c te t3 wg t ∗ owes (c : Thread nD τ) 0 W ∗ owns (c : Thread nD τ) arg8 fullShare x ∗ (∃ X, owns (c : Thread nD τ) arg10 fullShare X)
        ∗ (iprop(tabs c t0 t1 t2 t3 t4 ∗ held c te t3 wg (t + 1) ∗ (∃ W, owes (c : Thread nD τ) 0 W) ∗ owns (c : Thread nD τ) arg8 fullShare x
            ∗ outAt c arg10 (rd c T0 t0 (k0_off7 i) (k0_off7_inb i)) x (wB c wg (te (t % 44)).toNat (t / 44))) -∗ K ⟨⟩))
      ⊢ wp frame (wpE (defs₀ (F := F)) Variants.none c none) Set.univ (cc0_moe_down (F := F) i TX (Memref.isWhole_whole _) T0 (Memref.isWhole_whole _) T1 (Memref.isWhole_whole _) T2 (Memref.isWhole_whole _) T3 (Memref.isWhole_whole _) T4 (Memref.isWhole_whole _) arg8 harg8 WD (Memref.isWhole_whole _) arg10 harg10 SD (Memref.isWhole_whole _) BD (Memref.isWhole_whole _) cc0_scratch2) K := by
  have hn : t % 44 < 44 := Nat.mod_lt _ (by omega)
  have hj : t / 44 < 2 := by omega
  have hg := grp_lt te hn
  have hN := ng_lt te
  have e1 : rd c T1 t1 (k0_off1 i) (k0_off1_inb i) = BitVec.ofNat 32 (opens te (t % 44)).toNat := by rw [ok.f1, off1_eq, i1]
  have e2 : rd c T2 t2 (k0_off1 i) (k0_off1_inb i) = BitVec.ofNat 32 (grp te (t % 44)) := by rw [ok.f2, off1_eq, i1]
  have hk2 := chk2_ok i (grp te (t % 44)) (grp te 43 + 1) hg hN (rd c T1 t1 (k0_off1 i) (k0_off1_inb i))
  have hk3 : ∀ h, k0_chk3 i (rd c T1 t1 (k0_off1 i) (k0_off1_inb i)) (rd c T3 t3 (k0_off3 (BitVec.ofNat 32 (grp te (t % 44)))) h) := fun h => chk3_ok i _ _ (ok.f3lt _ _)
  have hk4 : ∀ h, k0_chk4 i (BitVec.ofNat 32 (grp te (t % 44))) (BitVec.ofNat 32 (grp te 43 + 1)) (rd c T1 t1 (k0_off1 i) (k0_off1_inb i)) (rd c T3 t3 (k0_off5 (BitVec.ofNat 32 (grp te (t % 44))) (BitVec.ofNat 32 (grp te 43 + 1))) h) :=
    fun h => chk4_ok i _ _ hg hN _ _ (ok.f3lt _ _)
  have hoff : ∀ h, k0_off6 i (BitVec.ofNat 32 (grp te (t % 44))) (BitVec.ofNat 32 (grp te 43 + 1)) (rd c T3 t3 (k0_off5 (BitVec.ofNat 32 (grp te (t % 44))) (BitVec.ofNat 32 (grp te 43 + 1))) h)
      = ![expOf c t3 (nxt (grp te (t % 44)) (grp te 43 + 1)), 0, col (grp te (t % 44)) (grp te 43 + 1) (t / 44) * 1024] := fun h => by
    rw [off6_eq i _ _ hg hN, i0]
    congr 1
    unfold expOf
    rw [dif_pos (nxt_lt hN)]
    exact congrArg BitVec.toNat (rd3_congr (off5_eq _ _ hg hN) _ _)
  have h3 := cond3_iff i (grp te (t % 44)) (grp te 43 + 1) hg hN
  rw [i0] at h3
  have hinb : col (grp te (t % 44)) (grp te 43 + 1) (t / 44) < 2 → ∀ a, (![expOf c t3 (nxt (grp te (t % 44)) (grp te 43 + 1)), 0, col (grp te (t % 44)) (grp te 43 + 1) (t / 44) * 1024] : Fin 3 → ℕ) a + S1x4096x1024.size a ≤ S16x4096x2048.size a :=
    fun h => inb_block (expOf_lt ok _) h
  cases hop : opens te (t % 44) with
  | false =>
    cases t with
    | zero => cases hop
    | succ p =>
      rw [held_carry wg p hop]
      simp only [held]
      have h0 : (p + 1) % 44 ≠ 0 := fun h => by rw [h] at hop; cases hop
      have e : (p + 1) % 44 = p % 44 + 1 := by omega
      have e' : (p + 1) / 44 = p / 44 := by omega
      have ht : te ((p + 1) % 44) = te (p % 44) := by
        rw [e]
        refine te_of_grp te ?_
        show grp te (p % 44) + (opens te (p % 44 + 1)).toNat = _
        rw [← e, hop]; rfl
      rw [ht, e']
      iintro ⟨HT, ⟨HW, HS⟩, HO, H7, H10, Hk⟩
      iapply (body_carry c i arg8 harg8 arg10 harg10 t0 t1 t2 t3 t4 x _ (by rw [e1, hop, cond1_iff]; exact Bool.false_ne_true) K)
      isplitl [HT]; · iexact HT
      isplitl [HW]; · iexact HW
      isplitl [H7]; · iexact H7
      isplitl [H10]; · iexact H10
      iintro ⟨HT, HW, H7, H10⟩
      iapply Hk
      isplitl [HT]; · iexact HT
      isplitl [HW HS]
      · isplitl [HW]; · iexact HW
        iexact HS
      isplitl [HO]; · iexists _; iexact HO
      isplitl [H7]; · iexact H7
      iexact H10
  | true =>
    have h1 : k0_cond1 (rd c T1 t1 (k0_off1 i) (k0_off1_inb i)) = 1#1 := by rw [e1, hop, cond1_iff]
    cases t with
    | zero =>
      have hc : col (grp te (0 % 44)) (grp te 43 + 1) (0 / 44) < 2 := by unfold col; split <;> omega
      have hr : rd c T3 t3 ![0] inb_S44_S1_0 = te (0 % 44) := ok.f3 _ _ 0 (by omega) rfl
      have ho2 : k0_off2 (rd c T3 t3 ![0] inb_S44_S1_0) = ![(te (0 % 44)).toNat, 0, 0 / 44 * 1024] := by
        rw [hr]; rfl
      have hin2 : ∀ a, (![(te (0 % 44)).toNat, 0, 0 / 44 * 1024] : Fin 3 → ℕ) a + S1x4096x1024.size a ≤ S16x4096x2048.size a := inb_block (ok.lt _) hj
      simp only [held]
      unfold stage idle inflight
      rw [if_pos hc]
      iintro ⟨HT, ⟨HB, HI⟩, HO, H7, H10, Hk⟩
      icases HI with ⟨HA, HC, HE⟩
      iapply (body_first c i arg8 harg8 arg10 harg10 t0 t1 t2 t3 t4 x wg _ _ e2 ok.f4 h1 hk2 hk3
        ((cond2_iff i _ hg).2 ⟨by rw [i0], rfl⟩) (fun v hv => chk1_ok i _ _ _ (by rw [hv]; exact ok.f3lt _ _)) _ ho2 hin2 (h3.2 hc) hk4 _ hoff (hinb hc) W K)
      isplitl [HT]; · iexact HT
      isplitl [HB]; · iexact HB
      isplitl [HA]; · iexact HA
      isplitl [HC]; · iexact HC
      isplitl [HE]; · iexact HE
      isplitl [HO]; · iexact HO
      isplitl [H7]; · iexact H7
      isplitl [H10]; · iexact H10
      rw [blk_bk c WD wg _ _ (ok.lt _) hj _ hin2 rfl, blk_bk c WD wg _ _ (expOf_lt ok _) hc _ (hinb hc) rfl]
      iintro ⟨HT, HW, HS, HO, H7, H10⟩
      iapply Hk
      isplitl [HT]; · iexact HT
      isplitl [HW HS]
      · isplitl [HW]; · iexact HW
        iexact HS
      isplitl [HO]; · iexact HO
      isplitl [H7]; · iexact H7
      iexact H10
    | succ p =>
      have h2 : ¬ k0_cond2 i (BitVec.ofNat 32 (grp te ((p + 1) % 44))) = 1#1 := by
        rw [cond2_iff i _ hg, i0]
        rintro ⟨ha, hb⟩
        have e : (p + 1) % 44 = p + 1 := by omega
        rw [e] at hop hb
        have hb' : grp te p + (opens te (p + 1)).toNat = 0 := hb
        rw [hop] at hb'
        have hb'' : grp te p + 1 = 0 := hb'
        omega
      simp only [held]
      rw [stage_opens ok wg p ht hop]
      by_cases hc : col (grp te ((p + 1) % 44)) (grp te 43 + 1) ((p + 1) / 44) < 2
      · unfold stage inflight
        rw [if_pos hc]
        iintro ⟨HT, ⟨HB, ⟨%g, %hg', HF⟩⟩, HO, H7, H10, Hk⟩
        iapply (body_next c i arg8 harg8 arg10 harg10 t0 t1 t2 t3 t4 x wg _ _ e2 ok.f4 h1 hk2 hk3 g h2 (h3.2 hc) hk4 _ hoff (hinb hc) W K)
        isplitl [HT]; · iexact HT
        isplitl [HB]; · iexists _; iexact HB
        isplitl [HF]; · iexact HF
        isplitl [HO]; · iexact HO
        isplitl [H7]; · iexact H7
        isplitl [H10]; · iexact H10
        rw [hg', blk_bk c WD wg _ _ (expOf_lt ok _) hc _ (hinb hc) rfl]
        iintro ⟨HT, HW, HS, HO, H7, H10⟩
        iapply Hk
        isplitl [HT]; · iexact HT
        isplitl [HW HS]
        · isplitl [HW]; · iexact HW
          iexact HS
        isplitl [HO]; · iexact HO
        isplitl [H7]; · iexact H7
        iexact H10
      · unfold stage inflight idle
        rw [if_neg hc]
        iintro ⟨HT, ⟨HB, ⟨%g, %hg', HF⟩⟩, HO, H7, H10, Hk⟩
        iapply (body_last c i arg8 harg8 arg10 harg10 t0 t1 t2 t3 t4 x wg _ _ e2 ok.f4 h1 hk2 hk3 g h2 (fun h => hc (h3.1 h)) W K)
        isplitl [HT]; · iexact HT
        isplitl [HB]; · iexists _; iexact HB
        isplitl [HF]; · iexact HF
        isplitl [HO]; · iexact HO
        isplitl [H7]; · iexact H7
        isplitl [H10]; · iexact H10
        rw [hg']
        iintro ⟨HT, HW, ⟨HA, HC, HE⟩, HO, H7, H10⟩
        iapply Hk
        isplitl [HT]; · iexact HT
        isplitl [HW HA HC HE]
        · isplitl [HW]; · iexact HW
          isplitl [HA]; · iexists _; iexact HA
          isplitl [HC]; · iexact HC
          iexact HE
        isplitl [HO]; · iexact HO
        isplitl [H7]; · iexact H7
        iexact H10

end Cert.DownWide

end
-- ==== Proof.DownWide.Run.lean ====
/-
The grid's run: what every point finds and leaves, and what the call leaves behind.
-/
module

public import proofs.«01_k».proof.Proof.DownWide.Start
public import proofs.«01_k».proof.Proof.DownWide.Step
public import Idealize.ShloMosaic.Lib.Claim

@[expose] public section

set_option maxRecDepth 16384

noncomputable section

namespace Cert.DownWide

open Cert.Kernel5Ideal Cert.Kernel5Ideal.Gen
open Cert.Wide (grp wordAt col)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

/-- The stacked weights, as the call finds them. -/
def G0 (c : Dev nD) : MBuf (F := F) c WD := V m c main_v0

/-- Window `w`'s block at point `t`, of the arrays the call finds. -/
def iblk (c : Dev nD) (w : Fin 2) (t : Fin (cfgM m).N) := (((cfgM m).win w).blk t).view.read (Elt F) (V m c (Pipeline.arrRef spec0 w))

/-- The block of tokens at point `t`. -/
def xblk (c : Dev nD) (t : Fin (cfgM m).N) : Vec F S512x4096 .bf16 := iblk m c 0 t

/-- The output block of point `t`. -/
def outT (c : Dev nD) (t : Fin (cfgM m).N) : Vec F S512x1024 .f32 :=
  outVal (rd c T0 (W0 m c) (k0_off7 (grid0.coords t)) (k0_off7_inb (grid0.coords t))) (xblk m c t)
    (wB c (G0 m c) (wordAt (tea m c) (t.val % 44)).toNat (t.val / 44))

/-- What the body holds before point `t`. -/
def Phi (c : Dev nD) (t : ℕ) : sProp 𝕄 :=
  iprop(tabs c (W0 m c) (W1 m c) (W2 m c) (W3 m c) (W4 m c) ∗ pt c TX fullShare.right (WX m c) ∗ (∃ r, prngReg c r) ∗ held c (wordAt (tea m c)) (W3 m c) (G0 m c) t)

/-- The call's data. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outT m c t
  Φ t := Phi m c t.val
  q _ := fullShare
  owed _ := 0

theorem A_eq (c : Dev nD) (w : Fin (cfgM m).W) : (dats m 0 c).A w = V m c (Pipeline.arrRef spec0 w) := by dsimp only [dats]
theorem after_0 (c : Dev nD) (t : Fin (cfgM m).N) : (dats m 0 c).after 0 t = iblk m c 0 t := rfl
theorem after_1 (c : Dev nD) (t : Fin (cfgM m).N) : (dats m 0 c).after 1 t = outT m c t := rfl
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-- The body's call at point `t`. -/
theorem row (t : Fin (cfgM m).N) : defs₀ (F := F) .tc (cfgM m).body ((cfgM m).bodyArgs t ((cfgM m).slots t))
    = cc0_moe_down (F := F) (grid0.coords t) TX (Memref.isWhole_whole _) T0 (Memref.isWhole_whole _) T1 (Memref.isWhole_whole _) T2 (Memref.isWhole_whole _) T3 (Memref.isWhole_whole _) T4 (Memref.isWhole_whole _) (spec0_0.stage ((cfgM m).slots t 0)) (hstage0_0 (((cfgM m).slots t 0).cast nbuf0_0)) WD (Memref.isWhole_whole _) (spec0_1.stage ((cfgM m).slots t 1)) (hstage0_1 (((cfgM m).slots t 1).cast nbuf0_1)) SD (Memref.isWhole_whole _) BD (Memref.isWhole_whole _) cc0_scratch2 := by
  unfold defs₀; rw [Defs.onTc_tc]

theorem lt_N (t : Fin (cfgM m).N) : t.val < 88 := t.isLt.trans_eq N_0

theorem coord0 (t : Fin (cfgM m).N) : (grid0.coords t 0).val = t.val / 44 := by
  have := lt_N m t
  rw [show (grid0.coords t 0).val = t.val / 44 % 2 from Pipeline.Grid.coords_val (G := grid0) t 0 (S := 44) (B := 2) (by decide) rfl]; omega
theorem coord1 (t : Fin (cfgM m).N) : (grid0.coords t 1).val = t.val % 44 := by
  have := lt_N m t
  rw [show (grid0.coords t 1).val = t.val / 1 % 44 from Pipeline.Grid.coords_val (G := grid0) t 1 (S := 1) (B := 44) (by decide) rfl]; omega

/-- One point of the run, in the call's own terms. -/
theorem point (hm : Experts m) (c : Dev nD) (t : Fin (cfgM m).N) (K : PUnit → sProp 𝕄) :
    iprop(Phi m c t.val ∗ (dats m 0 c).owesAt () t.castSucc ∗ owns (c : Thread nD τ) (spec0_0.stage ((cfgM m).slots t 0)) fullShare (xblk m c t)
        ∗ (∃ X, owns (c : Thread nD τ) (spec0_1.stage ((cfgM m).slots t 1)) fullShare X)
        ∗ (iprop(Phi m c (t.val + 1) ∗ (dats m 0 c).owesAt () t.succ ∗ owns (c : Thread nD τ) (spec0_0.stage ((cfgM m).slots t 0)) fullShare (xblk m c t)
            ∗ (∃ X, ⌜Legal (rd c T0 (W0 m c) (k0_off7 (grid0.coords t)) (k0_off7_inb (grid0.coords t))) → X = outT m c t⌝
                ∗ owns (c : Thread nD τ) (spec0_1.stage ((cfgM m).slots t 1)) fullShare X)) -∗ K ⟨⟩))
      ⊢ wp frame (wpE (defs₀ (F := F)) Variants.none c none) Set.univ (defs₀ (F := F) .tc (cfgM m).body ((cfgM m).bodyArgs t ((cfgM m).slots t))) K := by
  rw [row]
  unfold Phi Dat.owesAt Pipeline.owesWithin
  rw [show (dats m 0 c).owed t.castSucc = 0 from rfl, show (dats m 0 c).owed t.succ = 0 from rfl]
  istart
  iintro ⟨⟨HT, HN, HP, HH⟩, ⟨%W, %hW, HO⟩, HX, HY, HK⟩
  iapply (body_step (F := F) (c := c) (grid0.coords t) (spec0_0.stage ((cfgM m).slots t 0)) (hstage0_0 (((cfgM m).slots t 0).cast nbuf0_0))
    (spec0_1.stage ((cfgM m).slots t 1)) (hstage0_1 (((cfgM m).slots t 1).cast nbuf0_1)) (W0 m c) (xblk m c t) (G0 m c)
    (ok_tbl m hm c) t.val (lt_N m t) (coord0 m t) (coord1 m t) W K)
  iframe HT HH HO HX HY
  iintro ⟨HT, HH, ⟨%W', HO⟩, HX, ⟨%X, %hX, HY⟩⟩
  iapply HK
  iframe HT HN HP HH HX
  isplitl [HO]
  · iexists W'
    isplitr
    · ipureintro; exact fun _ _ => Or.inl trivial
    · iexact HO
  · iexists X
    isplitr
    · ipureintro; exact hX
    · iexact HY

/-- The same, of the windows as the call numbers them. -/
theorem point' (hm : Experts m) (c : Dev nD) (t : Fin (cfgM m).N) (K : PUnit → sProp 𝕄) :
    iprop(Phi m c t.val ∗ (dats m 0 c).owesAt () t.castSucc ∗ owns (c : Thread nD τ) (((cfgM m).win 0).stage ((cfgM m).slots t 0)) fullShare (iblk m c 0 t)
        ∗ (∃ X, owns (c : Thread nD τ) (((cfgM m).win 1).stage ((cfgM m).slots t 1)) fullShare X)
        ∗ (iprop(Phi m c (t.val + 1) ∗ (dats m 0 c).owesAt () t.succ ∗ owns (c : Thread nD τ) (((cfgM m).win 0).stage ((cfgM m).slots t 0)) fullShare (iblk m c 0 t)
            ∗ (∃ X, ⌜Legal (rd c T0 (W0 m c) (k0_off7 (grid0.coords t)) (k0_off7_inb (grid0.coords t))) → X = (dats m 0 c).after 1 t⌝
                ∗ owns (c : Thread nD τ) (((cfgM m).win 1).stage ((cfgM m).slots t 1)) fullShare X)) -∗ K ⟨⟩))
      ⊢ wp frame (wpE (defs₀ (F := F)) Variants.none c none) Set.univ (defs₀ (F := F) .tc (cfgM m).body ((cfgM m).bodyArgs t ((cfgM m).slots t))) K :=
  point m hm c t K

/-! ## Into the run and out of it -/

theorem held_0 (c : Dev nD) (te : ℕ → BitVec 32) (t3 : MBuf (F := F) c T3) (wg : MBuf (F := F) c WD) :
    (held c te t3 wg 0 : sProp 𝕄) = iprop((∃ f, pt c BD fullShare f) ∗ idle c wg) := rfl

/-- After the last point no copy is under way. -/
theorem held_last (c : Dev nD) (te : ℕ → BitVec 32) (t3 : MBuf (F := F) c T3) (wg : MBuf (F := F) c WD) :
    ∃ a, (held c te t3 wg 88 : sProp 𝕄) = iprop(wts c a ∗ idle c wg) := by
  refine ⟨wB c wg (te (87 % 44)).toNat (87 / 44), ?_⟩
  show iprop(wts c (wB c wg (te (87 % 44)).toNat (87 / 44)) ∗ stage c t3 wg (grp te 43 + 1) (grp te 43) 1) = _
  unfold stage col
  rw [if_neg (by rw [if_pos (le_refl _)]; omega)]

theorem own_eq (c : Dev nD) : (Pipeline.ownSems0 (Ix := Unit) (Name := ℕ) (U := Pipeline.UD sig nD τ) (Lvl := ℕ) (Val := Elt F) (τ := τ) osem c : sProp 𝕄)
    = iprop(semVal ((c : Thread nD τ), SemLoc.dma s4) 0) := by
  unfold Pipeline.ownSems0
  rw [show (Finset.univ : Finset (Fin 1)) = {0} from by decide, bigSep_singleton]

theorem HW_eq (c : Dev nD) : (bigSep HW fun b => ((c : Thread nD τ).loc b) ↦{fullShare} V m c b : sProp 𝕄)
    = pt c WD fullShare (G0 m c) := by
  rw [bigSep_singleton]
  rfl

theorem tabs_eq (c : Dev nD) : (Pipeline.ΦT pre0 (tbl m) c : sProp 𝕄) = iprop(pt c TX fullShare.right (WX m c) ∗ tabs c (W0 m c) (W1 m c) (W2 m c) (W3 m c) (W4 m c)) := by
  rw [PhiT_eq]
  obtain rfl : c = 0 := Subsingleton.elim _ _
  rfl

theorem hin (c : Dev nD) : iprop(Pipeline.ΦD osem spec0 HW (V m) c ∗ Pipeline.ΦT pre0 (tbl m) c) ⊢ (Phi m c 0 : sProp 𝕄) := by
  rw [Pipeline.ΦD_eq, own_eq, HW_eq, tabs_eq, scopedRest0_eq]
  unfold Phi
  rw [held_0]
  unfold idle
  istart
  iintro ⟨⟨⟨H0, H1⟩, HP, S4, HG⟩, HN, HT⟩
  iframe HT HN HP H1 H0 HG S4

theorem hout (c : Dev nD) : (Phi m c 88 : sProp 𝕄) ⊢ Pipeline.ΦD osem spec0 HW (V m) c := by
  rw [Pipeline.ΦD_eq, own_eq, HW_eq, scopedRest0_eq]
  unfold Phi
  obtain ⟨a, h⟩ := held_last c (wordAt (tea m c)) (W3 m c) (G0 m c)
  rw [h]
  unfold idle
  istart
  iintro ⟨HT, HN, HP, HA, ⟨H0, HG, S4⟩⟩
  iframe HP H0 HG S4
  iexists _; iexact HA

/-! ## The obligations -/

/-- The output window's contents left unnamed. -/
abbrev fgt : Fin 2 → Bool := fun w => w == 1

theorem phi_before (c : Dev nD) (t : Fin (cfgM m).N) : (dats m 0 c).Φ t.castSucc = Phi m c t.val := by
  dsimp only [dats]; exact Dat.Φ_castSucc (fun n _ => Phi m c n) t
theorem phi_after (c : Dev nD) (t : Fin (cfgM m).N) : (dats m 0 c).Φ t.succ = Phi m c (t.val + 1) := rfl

theorem body_forget (hm : Experts m) (c : Dev nD) : BodyObligationLoose (dats m 0 c) (defs₀ (F := F)) Variants.none () Set.univ fgt := by
  intro t
  rw [bigSep_W0, bigSep_W0]
  rw [phi_before, phi_after]
  show iprop(Phi m c t.val ∗ (dats m 0 c).owesAt () t.castSucc ∗ ((∃ d, owns (c : Thread nD τ) (((cfgM m).win 0).stage ((cfgM m).slots t 0)) fullShare ((dats m 0 c).before 0 t d)) ∗ (∃ X, owns (c : Thread nD τ) (((cfgM m).win 1).stage ((cfgM m).slots t 1)) fullShare X)))
    ⊢ wp frame (wpE (defs₀ (F := F)) Variants.none c none) Set.univ (defs₀ (F := F) .tc (cfgM m).body ((cfgM m).bodyArgs t ((cfgM m).slots t)))
      (fun _ => iprop(Phi m c (t.val + 1) ∗ (dats m 0 c).owesAt () t.succ ∗ (owns (c : Thread nD τ) (((cfgM m).win 0).stage ((cfgM m).slots t 0)) fullShare ((dats m 0 c).after 0 t) ∗ (∃ X, owns (c : Thread nD τ) (((cfgM m).win 1).stage ((cfgM m).slots t 1)) fullShare X))))
  istart
  iintro ⟨HΦ, HO, ⟨%d, HX⟩, HY⟩
  iapply (point' m hm c t)
  rw [before_0, after_0]
  iframe HΦ HO HX HY
  iintro ⟨HΦ, HO, HX, ⟨%X, %hX, HY⟩⟩
  iframe HΦ HO HX
  iexists X
  iexact HY

end Cert.DownWide

end
-- ==== Proof.DownWide.Launch.lean ====
/-
The whole run: it ends, its arguments are as they were, every counter is at zero, and where the
valid-row words are ones the kernel counts by its result is the points' blocks.
-/
module

public import proofs.«01_k».proof.Proof.DownWide.Run

@[expose] public section

set_option maxRecDepth 16384

noncomputable section

namespace Cert.DownWide

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every valid-row word is one the kernel counts by. -/
def Rows : Prop := ∀ (c : Dev nD) i, Legal (m ((c : Thread nD τ).loc main_arg2) i)

theorem legal_word (hr : Rows m) (c : Dev nD) (off : Fin 1 → ℕ) (h : ∀ a, off a + S1.size a ≤ S44.size a) : Legal (rd c T0 (W0 m c) off h) := by
  rw [rd_T0 c _ off h]
  have e : W0 m c = m ((c : Thread nD τ).loc main_arg2) := V_arg2 m c
  exact (congrFun e _).symm ▸ hr c _

/-- Every point writes its output block back. -/
theorem flush_1 (t : Fin (cfgM m).N) : ((cfgM m).win 1).flush t = true :=
  (Pipeline.Window.flush_reads ((cfgM m).win 1) rfl (1 : Fin 2) (show 1 < grid0.bound 1 by decide) rfl
    (fun i i' h => Pipeline.Window.sep_of_coord cc0_transform_2 (1 : Fin 2) (0 : Fin 2) (fun _ => rfl) (by decide) i i' h) (P := 1) (m := 0) (show grid0.stride 1 = 1 by decide) rfl t).2 (Nat.mod_one _)

theorem leaves_1 (c : Dev nD) (t : Fin (cfgM m).N) :
    (owns (c : Thread nD τ) (((cfgM m).win 1).stage ((cfgM m).slots t 1)) fullShare ((dats m 0 c).after 1 t) : sProp 𝕄) ⊢ (dats m 0 c).leavesExact 1 t := by
  unfold Dat.leavesExact
  rw [flush_1]
  cases (cfgM m).idle 1 ((cfgM m).grid.coords t)
  · exact .rfl
  · exact .rfl

theorem body_exact (hm : Experts m) (hr : Rows m) (c : Dev nD) : BodyObligation (dats m 0 c) (defs₀ (F := F)) Variants.none () Set.univ := by
  intro t
  rw [bigSep_W0, bigSep_W0]
  rw [phi_before, phi_after]
  show iprop(Phi m c t.val ∗ (dats m 0 c).owesAt () t.castSucc ∗ ((∃ d, owns (c : Thread nD τ) (((cfgM m).win 0).stage ((cfgM m).slots t 0)) fullShare ((dats m 0 c).before 0 t d)) ∗ (∃ d, owns (c : Thread nD τ) (((cfgM m).win 1).stage ((cfgM m).slots t 1)) fullShare ((dats m 0 c).before 1 t d))))
    ⊢ wp frame (wpE (defs₀ (F := F)) Variants.none c none) Set.univ (defs₀ (F := F) .tc (cfgM m).body ((cfgM m).bodyArgs t ((cfgM m).slots t)))
      (fun _ => iprop(Phi m c (t.val + 1) ∗ (dats m 0 c).owesAt () t.succ ∗ (owns (c : Thread nD τ) (((cfgM m).win 0).stage ((cfgM m).slots t 0)) fullShare ((dats m 0 c).after 0 t) ∗ (dats m 0 c).leavesExact 1 t)))
  istart
  iintro ⟨HΦ, HO, ⟨%d, HX⟩, ⟨%d', HY⟩⟩
  iapply (point' m hm c t)
  rw [before_0, after_0]
  iframe HΦ HO HX
  isplitl [HY]
  · iexists _; iexact HY
  iintro ⟨HΦ, HO, HX, ⟨%X, %hX, HY⟩⟩
  iframe HΦ HO HX
  obtain rfl := hX (legal_word m hr c _ _)
  iapply (leaves_1 m c t)
  iexact HY

theorem hA (c : Dev nD) (w : Fin (cfgM m).W) : (dats m 0 c).A w = V m c (Pipeline.arrRef spec0 w) := A_eq m c w

set_option backward.isDefEq.respectTransparency.types false in
/-- The run, its result left unnamed. -/
theorem run_forget (hm : Experts m) : θ_run defs (onTc (τ := τ) (main (F := F))) (s₀ m ρ)
    (fun r => Pipeline.RDat.FramePost (cfgM m) (fun c => (dats m 0 c).toRForget fgt) (V m) r ∧ r.2.sem = fun _ => 0) :=
  Pipeline.θ_run_frameP_dma_forget (Q' := _) pcfgs (fun _ => adm m) (dats m) (0 : Fin 1) launch0 osem defs₀ Variants.none fgt ownSemFacts HW HW_sub m ρ main
    (hbody := body_forget m hm) (hshare := fun c w => by fin_cases w <;> rfl) (howed := fun _ _ => rfl) (V := V m) (hmain := hmain m Variants.none) (hA := A_eq m) (hpf := V_pre m)
    (hin := hin m) (hout := hout m)

set_option backward.isDefEq.respectTransparency.types false in
/-- The run, its result the points' blocks. -/
theorem run_exact (hm : Experts m) (hr : Rows m) : θ_run defs (onTc (τ := τ) (main (F := F))) (s₀ m ρ)
    (fun r => Pipeline.FramePost (Pipeline.pin pcfgs (fun _ => adm m)) (dats m) 0 (V m) r ∧ r.2.sem = fun _ => 0) :=
  Pipeline.θ_run_frameP_dma (Q' := _) pcfgs (fun _ => adm m) (dats m) (0 : Fin 1) launch0 osem defs₀ Variants.none ownSemFacts HW HW_sub m ρ main
    (hbody := fun c => (body_exact m hm hr c).loose) (hshare := fun c w => by fin_cases w <;> rfl) (howed := fun _ _ => rfl) (V := V m) (hmain := hmain m Variants.none) (hA := A_eq m) (hpf := V_pre m)
    (hin := hin m) (hout := hout m)

/-- What the run leaves in the arguments. -/
theorem kept (σ : MemSt nD τ sig (Elt F)) (h : Pipeline.RDat.FramePost (cfgM m) (fun c => (dats m 0 c).toRForget fgt) (V m) (⟨⟩, σ)) (c : Dev nD) :
    σ.mem ((c.tc : Thread nD τ).loc main_arg0) = m ((c.tc : Thread nD τ).loc main_arg0)
      ∧ σ.mem ((c.tc : Thread nD τ).loc main_arg1) = m ((c.tc : Thread nD τ).loc main_arg1)
      ∧ σ.mem ((c.tc : Thread nD τ).loc main_arg2) = m ((c.tc : Thread nD τ).loc main_arg2)
      ∧ σ.mem ((c.tc : Thread nD τ).loc main_arg3) = m ((c.tc : Thread nD τ).loc main_arg3) := by
  obtain ⟨hw, hrest⟩ := h c
  have hrest' : ∀ b ∈ Pipeline.restRefs sig spec0, σ.mem ((c.tc : Thread nD τ).loc b) = V m c b := hrest
  have e0 : σ.mem ((c.tc : Thread nD τ).loc main_arg0) = V m c main_arg0 :=
    (congrFun (Pipeline.RDat.ArrAt_in ((dats m 0 c).toRForget fgt) (0 : Fin 2) rfl (cfgM m).N) _).mp (hw (0 : Fin 2))
  refine ⟨e0.trans (V_arg0 m c), ?_, ?_, ?_⟩
  · exact (hrest' main_arg1 (Pipeline.mem_restRefs_of (win := spec0) main_arg1 (by decide) (by decide))).trans (V_arg1 m c)
  · exact (hrest' main_arg2 (Pipeline.mem_restRefs_of (win := spec0) main_arg2 (by decide) (by decide))).trans (V_arg2 m c)
  · exact (hrest' main_arg3 (Pipeline.mem_restRefs_of (win := spec0) main_arg3 (by decide) (by decide))).trans (V_arg3 m c)

/-- The arguments end as they were and every counter at zero. -/
theorem frame_run (hm : Experts m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept m r.2 h.1 c, h.2⟩) (run_forget m ρ hm)

/-- The result after the run. -/
theorem result_run (hm : Experts m) (hr : Rows m) : θ_run defs (onTc (τ := τ) (main (F := F))) ⟨m, fun _ => 0, ρ⟩ (fun r => ∀ c : Dev nD,
      r.2.mem ((c.tc : Thread nD τ).loc main_v22) = (dats m 0 c).arrAt 1 (cfgM m).N) :=
  (θ_run defs _ _).mono (fun r h c => (h.1 c).1 (1 : Fin 2)) (run_exact m ρ hm hr)

end Cert.DownWide

end
-- ==== Proof.DownWide.Blocks.lean ====
/-
What a point reads of the arguments, an entry at a time: its tile of tokens and its block of the
expert's weights.
-/
module

public import proofs.«01_k».proof.Proof.DownWide.Launch
public import Idealize.ShloMosaic.Lib.Pointwise
public import Idealize.ShloMosaic.Lib.ValueLayout
public import Idealize.ShloMosaic.Lib.Pipeline.ValueKit

@[expose] public section

set_option maxRecDepth 16384

noncomputable section

namespace Cert.DownWide

open Cert.Kernel5Ideal Cert.Kernel5Ideal.Gen
open Idealize.ShloMosaic Idealize.ShloMosaic.TcCoe Idealize.ShloMosaic.Tactic

variable (m : (ℓ : Loc nD τ sig) → Buf (Elt Ideal) ℓ)

/-- Which block of its array each window takes at point `t`. -/
theorem index_0' (t : Fin (cfgM m).N) : cc0_transform_0 k0_off1_inb numel1_S1 (tbl m) (grid0.coords t) = ![t.val % 44, 0] := by
  rw [rows_block m, coord1 m t]

theorem index_1' (t : Fin (cfgM m).N) : cc0_transform_2 (grid0.coords t) = ![t.val % 44, t.val / 44] := by
  show cc0_transform_2 (grid0.coords t) = _
  have h := coord1 m t
  have h' := coord0 m t
  have := lt_N m t
  funext k
  fin_cases k
  · show (BitVec.ofNat 32 (grid0.coords t 1).val).toNat = _
    rw [h, BitVec.toNat_ofNat]; show _ = t.val % 44; omega
  · show (BitVec.ofNat 32 (grid0.coords t 0).val).toNat = _
    rw [h', BitVec.toNat_ofNat]; show _ = t.val / 44; omega

/-- The tile of tokens. -/
theorem xblk_at (c : Dev nD) (t : Fin (cfgM m).N) (n : Fin 44) (hn : t.val % 44 = n) (i : Fin 512) (k : Fin 4096) :
    xblk m c t (ix2 i k) = m ((c : Thread nD τ).loc main_arg0) (ix2 ⟨n * 512 + i, by omega⟩ k) := by
  rw [← V_arg0 m c]
  unfold xblk iblk
  show V m c main_arg0 _ = _
  congr 1
  funext a
  refine Fin.ext ?_
  fin_cases a
  · show (cc0_transform_0 k0_off1_inb numel1_S1 (tbl m) (grid0.coords t) 0) * 512 + 1 * (i : ℕ) = _
    rw [index_0' m t]; show t.val % 44 * 512 + 1 * (i : ℕ) = _; rw [hn, one_mul]; rfl
  · show (cc0_transform_0 k0_off1_inb numel1_S1 (tbl m) (grid0.coords t) 1) * 4096 + 1 * (k : ℕ) = _
    rw [index_0' m t]; show 0 * 4096 + 1 * (k : ℕ) = (k : ℕ); omega

/-- The stacked weights are the arguments reshaped. -/
theorem G0_eq (c : Dev nD) : G0 m c = shapeCast S16x4096x2048 (m ((c : Thread nD τ).loc main_arg3)) shapeCasts_S2x8x4096x2048_S16x4096x2048 := by
  show StableHlo.after hostAll _ _ = _
  simp only [hostAll, hostOps0, hostOps0_1, hostOps0_2, List.flatten_cons, List.flatten_nil, List.append_nil, List.cons_append, List.nil_append]
  after_results
  rfl

theorem bk_WD_at (c : Dev nD) (w : MBuf (F := Ideal) c WD) (e : Fin 16) (j : Fin 2) (k : Fin 4096) (f : Fin 1024) :
    bk c WD w e j (ix2 k f) = w (ix3 e k ⟨j * 1024 + f, by omega⟩) := by
  unfold bk blk
  have he : (e : ℕ) % 16 = e := Nat.mod_eq_of_lt e.isLt
  have hj : (j : ℕ) % 2 = j := Nat.mod_eq_of_lt j.isLt
  show w ((Rect.unit (s := S16x4096x2048) ![(e : ℕ) % 16, 0, (j : ℕ) % 2 * 1024] S1x4096x1024.size
    (inb_block (Nat.mod_lt _ (by omega)) (Nat.mod_lt _ (by omega)))).emb (Shape.reshapeEquiv _ (ix2 k f))) = _
  refine (congrArg (fun z => w (Rect.emb _ z)) (ValueIdx.reshapeEquiv_ix2_1ab (a := 4096) (b := 1024) _ k f)).trans ?_
  congr 1
  funext a
  refine Fin.ext ?_
  fin_cases a
  · show (e : ℕ) % 16 + 1 * 0 = (e : ℕ); omega
  · show 0 + 1 * (k : ℕ) = (k : ℕ); omega
  · show (j : ℕ) % 2 * 1024 + 1 * (f : ℕ) = (j : ℕ) * 1024 + f; omega

theorem wB_at (c : Dev nD) (w : MBuf (F := Ideal) c WD) (e : Fin 16) (j : Fin 2) (k : Fin 4096) (f : Fin 1024) :
    wB c w e j (ix2 k f) = w (ix3 e k ⟨j * 1024 + f, by omega⟩) := by
  rw [← bk_WD_at c w e j k f]
  unfold wB
  pointwise [k0_pay3]

end Cert.DownWide

end
-- ==== Proof.DownWide.Pays.lean ====
/-
What a tile's products and zeros are, an entry at a time.
-/
module

public import proofs.«01_k».proof.Proof.DownWide.Body
public import proofs.«01_k».proof.Proof.Down.Pays
public import Idealize.ShloMosaic.Lib.Pointwise

@[expose] public section

set_option maxRecDepth 16384

noncomputable section

namespace Cert.DownWide

open Cert.Kernel5Ideal Cert.Kernel5Ideal.Gen
open Idealize.ShloMosaic Idealize.ShloMosaic.TcCoe

/-- What a point leaves, an entry at a time: its pieces are those of the call over 40 tiles. -/
theorem outVal_at (a : Vec Ideal S4096x1024 .bf16) {n : BitVec 32} (hn : Legal n) (x : Vec Ideal S512x4096 .bf16) (i : Fin 512) (f : Fin 1024) :
    outVal n x a (ix2 i f) = Cert.Down.cell n.toNat i (fun k => x (ix2 i k)) (fun k => a (ix2 k f)) :=
  Cert.Down.pieces_at a BOut.view BOut.view.junk hn x i f

end Cert.DownWide

end
-- ==== Proof.DownWide.Out.lean ====
/-
The kernel's result, an entry at a time: what a point writes for its tile and column block is the product of
the tile's valid rows, and the points' blocks make up the result.
-/
module

public import proofs.«01_k».proof.Proof.DownWide.Blocks
public import proofs.«01_k».proof.Proof.DownWide.Pays

@[expose] public section

set_option maxRecDepth 16384

noncomputable section

namespace Cert.DownWide

open Cert.Kernel5Ideal Cert.Kernel5Ideal.Gen
open Cert.Wide (wordAt)
open Idealize.ShloMosaic Idealize.ShloMosaic.TcCoe Idealize.ShloMosaic.Tactic
open Idealize.ShloMosaic.Pipeline (Dat)

variable (m : (ℓ : Loc nD τ sig) → Buf (Elt Ideal) ℓ)

/-- The entry of tile `n`, row `i` and column `f`, of the kernel's arguments. -/
abbrev entry (c : Dev nD) (n : Fin 44) (i : Fin 512) (f : Fin 2048) (e : Fin 16) : EReal :=
  Cert.Down.cell ((m ((c : Thread nD τ).loc main_arg2) : IVec S44 32) (ix1 n)).toNat i
    (fun k => (m ((c : Thread nD τ).loc main_arg0) : FVec Ideal S22528x4096 .bf16) (ix2 ⟨n * 512 + i, by omega⟩ k))
    (fun k => shapeCast S16x4096x2048 (m ((c : Thread nD τ).loc main_arg3)) shapeCasts_S2x8x4096x2048_S16x4096x2048 (ix3 e k f))

/-- A point's word of valid rows. -/
theorem rows_word (c : Dev nD) (t : Fin (cfgM m).N) (n : Fin 44) (hn : t.val % 44 = n) :
    rd c T0 (W0 m c) (k0_off7 (grid0.coords t)) (k0_off7_inb (grid0.coords t)) = (m ((c : Thread nD τ).loc main_arg2) : IVec S44 32) (ix1 n) := by
  have h1 := coord1 m t
  have ht := lt_N m t
  have e : W0 m c = m ((c : Thread nD τ).loc main_arg2) := V_arg2 m c
  refine (rd_T0 c _ _ _).trans ((congrFun e _).trans ?_)
  congr 1
  congr 1
  refine Fin.ext ?_
  show k0_off7 (grid0.coords t) 0 = n
  show (BitVec.ofNat 32 (grid0.coords t 1).val).toNat = n
  rw [h1, BitVec.toNat_ofNat]
  omega

/-- A point's block, an entry at a time. -/
theorem outT_at (hr : Rows m) (c : Dev nD) (t : Fin (cfgM m).N) (n : Fin 44) (hn : t.val % 44 = n) (j : Fin 2) (hj : t.val / 44 = j)
    (e : Fin 16) (he : (tea m c (ix1 n)).toNat = e) (i : Fin 512) (f : Fin 1024) :
    outT m c t (ix2 i f) = entry m c n i ⟨j * 1024 + f, by omega⟩ e := by
  have hw : (wordAt (tea m c) (t.val % 44)).toNat = e := by
    unfold wordAt
    rw [dif_pos (Nat.mod_lt _ (by norm_num))]
    rw [← he]
    congr 3
    exact Fin.ext hn
  unfold outT
  rw [outVal_at _ (legal_word m hr c _ _), rows_word m c t n hn, hw, hj]
  unfold entry
  rw [funext fun k => xblk_at m c t n hn i k, funext fun k => wB_at c (G0 m c) e j k f, G0_eq]

/-- Every block of the result is some point's. -/
theorem covers : ((cfgM m).win 1).Covers := by
  refine ⟨fun a => ?_, fun β => ?_⟩
  · match a with
    | ⟨0, _⟩ => exact (by norm_num : 0 < 512)
    | ⟨1, _⟩ => exact (by norm_num : 0 < 1024)
  · have h0 : (β (0 : Fin 2)).val < 44 := (β (0 : Fin 2)).isLt.trans_eq (show (22528 + 512 - 1) / 512 = 44 by norm_num)
    have h1 : (β (1 : Fin 2)).val < 2 := (β (1 : Fin 2)).isLt.trans_eq (show (2048 + 1024 - 1) / 1024 = 2 by norm_num)
    let t : Fin (cfgM m).N := ⟨(β (1 : Fin 2)).val * 44 + (β (0 : Fin 2)).val, by rw [show (cfgM m).N = 88 from N_0]; omega⟩
    refine ⟨t, flush_1 m t, fun a => ⟨?_, Or.inl ?_⟩⟩
    · match a with
      | ⟨0, _⟩ =>
        refine (congrFun (index_1' m t) (0 : Fin 2)).trans ?_
        show ((β (1 : Fin 2)).val * 44 + (β (0 : Fin 2)).val) % 44 = (β (0 : Fin 2)).val
        omega
      | ⟨1, _⟩ =>
        refine (congrFun (index_1' m t) (1 : Fin 2)).trans ?_
        show ((β (1 : Fin 2)).val * 44 + (β (0 : Fin 2)).val) / 44 = (β (1 : Fin 2)).val
        omega
    · rfl

/-- Where a point's block lies in the result. -/
theorem place (t : Fin (cfgM m).N) (i : Fin 512) (f : Fin 1024) (n : Fin 44) (hn : t.val % 44 = n) (j : Fin 2) (hj : t.val / 44 = j) :
    (((cfgM m).win 1).blk t).view.emb (ix2 i f) = (ix2 (⟨n * 512 + i, by omega⟩ : Fin 22528) (⟨j * 1024 + f, by omega⟩ : Fin 2048) : S22528x2048.Idx) := by
  funext a
  refine Fin.ext ?_
  fin_cases a
  · show (cc0_transform_2 (grid0.coords t) 0) * 512 + 1 * (i : ℕ) = (n : ℕ) * 512 + i
    rw [index_1' m t]; show t.val % 44 * 512 + 1 * (i : ℕ) = _; rw [hn, one_mul]
  · show (cc0_transform_2 (grid0.coords t) 1) * 1024 + 1 * (f : ℕ) = (j : ℕ) * 1024 + f
    rw [index_1' m t]; show t.val / 44 * 1024 + 1 * (f : ℕ) = _; rw [hj, one_mul]

/-- The kernel's result is any array of these entries. -/
theorem final (hm : Experts m) (hr : Rows m) (c : Dev nD) (G : FVec Ideal S22528x2048 .f32)
    (hG : ∀ (n : Fin 44) (i : Fin 512) (f : Fin 2048), G (ix2 ⟨n * 512 + i, by omega⟩ f)
      = entry m c n i f ⟨(tea m c (ix1 n)).toNat, hm c _⟩) :
    (dats m 0 c).arrAt 1 (cfgM m).N = G := by
  refine (dats m 0 c).arrAt_eq_of_covers 1 _ (covers m) fun t _ y => ?_
  have ht := lt_N m t
  rw [after_1]
  have key : ∀ (i : Fin 512) (f : Fin 1024), outT m c t (ix2 i f) = G ((((cfgM m).win 1).blk t).view.emb (ix2 i f)) := fun i f => by
    rw [outT_at m hr c t ⟨t.val % 44, by omega⟩ rfl ⟨t.val / 44, by omega⟩ rfl ⟨(tea m c (ix1 ⟨t.val % 44, by omega⟩)).toNat, hm c _⟩ rfl i f, ← hG]
    exact congrArg G (place m t i f ⟨t.val % 44, by omega⟩ rfl ⟨t.val / 44, by omega⟩ rfl).symm
  have all : ∀ z : (⟨2, ![512, 1024]⟩ : Shape).Idx, outT m c t z = G ((((cfgM m).win 1).blk t).view.emb z) := fun z => by
    rw [eq_ix2 z]; exact key (z 0) (z 1)
  exact all y

end Cert.DownWide

end
-- ==== Proof.DownWide.Ref.lean ====
/-
The reference's result, an entry at a time: each tile's rows times its expert's weights, and zero below the
tile's valid rows.
-/
module

public import proofs.«01_k».proof.Proof.Gen.Reference5Ideal.Run
public import proofs.«01_k».proof.Proof.DownWide.Pays
public import Idealize.ShloMosaic.Lib.Pointwise
public import Idealize.ShloMosaic.Lib.WordCmp

@[expose] public section

set_option maxRecDepth 16384

noncomputable section

namespace Cert.DownWide.Ref

open Cert.Reference5Ideal Cert.Reference5Ideal.Gen
open Idealize.ShloMosaic Idealize.ShloMosaic.TcCoe Idealize.ShloMosaic.Tactic

/-- The experts, as the gather is given them: a negative one counted from the end. -/
def picks (te : IVec S44 32) : IVec S44x1 32 :=
  broadcastInDim S44x1 ![0] bcast_S44_S44x1_0 (select (cmpi .slt te (broadcastInDim S44 ![] bcast_S_S44 (constantI S_ 32 0#32)))
    (addi te (broadcastInDim S44 ![] bcast_S_S44 (constantI S_ 32 16#32))) te)

/-- Each tile's expert's weights. -/
def weights (w : FVec Ideal S2x8x4096x2048 .f32) (te : IVec S44 32) : FVec Ideal S44x4096x2048 .f32 :=
  Host.gather gather_S16x4096x2048_S44x1_S44x4096x2048_12_0_n_n_0_1_140962048 (shapeCast _ w shapeCasts_S2x8x4096x2048_S16x4096x2048) (picks te)

/-- The tiles of rows times their experts' weights. -/
def prods (x : FVec Ideal S22528x4096 .bf16) (w : FVec Ideal S44x4096x2048 .f32) : FVec Ideal S44x512x2048 .f32 :=
  Host.dotGeneral dot_S44x512x4096_S44x4096x2048_S44x512x2048_2_1_1_2_0_0 none (shapeCast _ x shapeCasts_S22528x4096_S44x512x4096) w

/-- The rows that are valid. -/
def valid (vr : IVec S44 32) : IVec S44x512x1 1 :=
  cmpi .slt (broadcastInDim S44x512x1 ![0, 1, 2] bcast_S1x512x1_S44x512x1_0_1_2 (broadcastInDim S1x512x1 ![1] bcast_S512_S1x512x1_1 (iotaInDim S512 32 0)))
    (broadcastInDim S44x512x1 ![0, 1, 2] bcast_S44x1x1_S44x512x1_0_1_2 (broadcastInDim S44x1x1 ![0] bcast_S44_S44x1x1_0 vr))

/-- The products of the valid rows, and zeros. -/
def kept (p : FVec Ideal S44x512x2048 .f32) (vr : IVec S44 32) : FVec Ideal S22528x2048 .f32 :=
  shapeCast _ (select (broadcastInDim S44x512x2048 ![0, 1, 2] bcast_S44x512x1_S44x512x2048_0_1_2 (valid vr)) p
    (broadcastInDim S44x512x2048 ![] bcast_S_S44x512x2048 (id (constant S_ .f32 0x00000000#32)))) shapeCasts_S44x512x2048_S22528x2048

/-- The reference's result, of its arguments. -/
def result (x : FVec Ideal S22528x4096 .bf16) (te vr : IVec S44 32) (wd : FVec Ideal S2x8x4096x2048 .f32) : FVec Ideal S22528x2048 .f32 :=
  kept (prods x (weights wd te)) vr

theorem picks_at (te : IVec S44 32) (n : Fin 44) (h : (te (ix1 n)).toNat < 16) : picks te (ix2 n (0 : Fin 1)) = te (ix1 n) := by
  have h0 : IntOp.cmpi .slt (te (ix1 n)) 0#32 = 0#1 := by
    rw [WordCmp.cmpi_slt_of_lt (by norm_num; omega) (by norm_num)]
    simp
  pointwise [picks]
  rw [h0]
  rfl

theorem weights_at (w : FVec Ideal S2x8x4096x2048 .f32) (te : IVec S44 32) (n : Fin 44) (k : Fin 4096) (f : Fin 2048) (h : (te (ix1 n)).toNat < 16) :
    weights w te (ix3 n k f) = shapeCast S16x4096x2048 w shapeCasts_S2x8x4096x2048_S16x4096x2048 (ix3 ⟨(te (ix1 n)).toNat, h⟩ k f) := by
  have hp := picks_at te n h
  unfold weights
  generalize shapeCast S16x4096x2048 w shapeCasts_S2x8x4096x2048_S16x4096x2048 = W
  generalize picks te = p at hp ⊢
  unfold Host.gather
  congr 1
  funext a
  refine Fin.ext ?_
  have h1 : a = 0 ∨ a = 1 ∨ a = 2 := by
    match a with
    | ⟨0, _⟩ => exact Or.inl rfl
    | ⟨1, _⟩ => exact Or.inr (Or.inl rfl)
    | ⟨2, _⟩ => exact Or.inr (Or.inr rfl)
  show GatherDims.start gather_S16x4096x2048_S44x1_S44x4096x2048_12_0_n_n_0_1_140962048 (ix3 n k f) p a
    + GatherDims.batchCoord gather_S16x4096x2048_S44x1_S44x4096x2048_12_0_n_n_0_1_140962048 (ix3 n k f) a
    + GatherDims.offCoord gather_S16x4096x2048_S44x1_S44x4096x2048_12_0_n_n_0_1_140962048 (ix3 n k f) a = _
  rw [GatherDims.batchCoord_eq_zero _ _ _ (show a ∉ ([] : List (Fin 3)) from List.not_mem_nil), Nat.add_zero]
  rcases h1 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S16x4096x2048_S44x1_S44x4096x2048_12_0_n_n_0_1_140962048.startIndexMap from List.mem_singleton.mpr rfl)]
    have hsi : GatherDims.siIdx gather_S16x4096x2048_S44x1_S44x4096x2048_12_0_n_n_0_1_140962048 (ix3 n k f) ⟨List.idxOf (0 : Fin 3) [0],
        List.idxOf_lt_length_iff.2 (List.mem_singleton.mpr rfl)⟩ = ix2 n (0 : Fin 1) := by
      funext b; refine Fin.ext ?_
      match b with
      | ⟨0, _⟩ => rfl
      | ⟨1, _⟩ => rfl
    refine (congrArg (fun z => min z.toInt.toNat 15) ((congrArg p hsi).trans hp)).trans ?_
    show min (te (ix1 n)).toInt.toNat 15 = (te (ix1 n)).toNat
    rw [BitVec.toInt_eq_toNat_of_lt (by omega)]
    omega
  · unfold GatherDims.start
    rw [dif_neg (show (1 : Fin 3) ∉ gather_S16x4096x2048_S44x1_S44x4096x2048_12_0_n_n_0_1_140962048.startIndexMap by decide), Nat.zero_add]
    rfl
  · unfold GatherDims.start
    rw [dif_neg (show (2 : Fin 3) ∉ gather_S16x4096x2048_S44x1_S44x4096x2048_12_0_n_n_0_1_140962048.startIndexMap by decide), Nat.zero_add]
    rfl

theorem prods_at (x : FVec Ideal S22528x4096 .bf16) (w : FVec Ideal S44x4096x2048 .f32) (n : Fin 44) (i : Fin 512) (f : Fin 2048) :
    prods x w (ix3 n i f) = ∑ k : Fin 4096, x (ix2 ⟨n * 512 + i, by omega⟩ k) * w (ix3 n k f) := by
  pointwise [prods]

theorem valid_at (vr : IVec S44 32) (n : Fin 44) (i : Fin 512) (h : (vr (ix1 n)).toNat ≤ 512) :
    valid vr (ix3 n i (0 : Fin 1)) = if (i : ℕ) < (vr (ix1 n)).toNat then 1#1 else 0#1 := by
  pointwise [valid]
  have hi : (BitVec.ofNat 32 (i : ℕ)).toNat = i := by rw [BitVec.toNat_ofNat]; omega
  rw [WordCmp.cmpi_slt_of_lt (by rw [hi]; norm_num; omega) (by norm_num; omega), hi]
  by_cases hc : (i : ℕ) < (vr (ix1 n)).toNat
  · rw [if_pos hc, decide_eq_true hc]; rfl
  · rw [if_neg hc, decide_eq_false hc]; rfl

theorem result_at (x : FVec Ideal S22528x4096 .bf16) (te vr : IVec S44 32) (wd : FVec Ideal S2x8x4096x2048 .f32)
    (n : Fin 44) (i : Fin 512) (f : Fin 2048) (h : (te (ix1 n)).toNat < 16) (hv : (vr (ix1 n)).toNat ≤ 512) :
    result x te vr wd (ix2 ⟨n * 512 + i, by omega⟩ f) = Cert.Down.cell (vr (ix1 n)).toNat i (fun k => x (ix2 ⟨n * 512 + i, by omega⟩ k))
      (fun k => shapeCast S16x4096x2048 wd shapeCasts_S2x8x4096x2048_S16x4096x2048 (ix3 ⟨(te (ix1 n)).toNat, h⟩ k f)) := by
  have e : prods x (weights wd te) (ix3 n i f) = ∑ k : Fin 4096, x (ix2 ⟨n * 512 + i, by omega⟩ k)
      * shapeCast S16x4096x2048 wd shapeCasts_S2x8x4096x2048_S16x4096x2048 (ix3 ⟨(te (ix1 n)).toNat, h⟩ k f) :=
    (prods_at _ _ _ _ _).trans (Finset.sum_congr rfl fun k _ => by rw [weights_at wd te n k f h])
  unfold result Cert.Down.cell
  rw [← e]
  generalize prods x (weights wd te) = p
  have hl := valid_at vr n i hv
  pointwise [kept]
  rw [hl]
  by_cases hc : (i : ℕ) < (vr (ix1 n)).toNat
  · rw [if_pos hc, if_pos hc]; rfl
  · rw [if_neg hc, if_neg hc]; exact Cert.Up.bits_zero

end Cert.DownWide.Ref

end
-- ==== Proof.DownWide.Bits.lean ====
/-
The down projection's kernel is printed twice, once to be read at machine floats and once at the extended reals.
The two printings are one program, over any floats: the same body at every grid point, and the same steps on the host.
-/
module

public import proofs.«01_k».proof.Proof.Gen.Kernel5
public import proofs.«01_k».proof.Proof.Gen.Kernel5.Skeleton
public import proofs.«01_k».proof.Proof.Gen.Kernel5Ideal
public import proofs.«01_k».proof.Proof.Gen.Kernel5Ideal.Skeleton

@[expose] public section

noncomputable section

namespace Cert.DownWide.Same

open Idealize.ShloMosaic Idealize.ShloMosaic.TcCoe Idealize.SL.Sem

variable {F : FTy → Type} [FloatOps F]

local instance : Cert.Kernel5.Facts := Cert.Kernel5.Gen.facts
local instance : Cert.Kernel5Ideal.Facts := Cert.Kernel5Ideal.Gen.facts

/-- The bodies the two programs name are the same. -/
theorem bodies : Cert.Kernel5.defs₀ (F := F) = Cert.Kernel5Ideal.defs₀ (F := F) := by
  unfold Cert.Kernel5.defs₀ Cert.Kernel5Ideal.defs₀
  refine congrArg Defs.onTc ?_
  funext l x
  match l, x with
  | 0, (t, s) => rfl
  | ⟨_ + 1, h⟩, _ => exact absurd h (Nat.not_lt.2 (Nat.le_add_left _ _))

theorem tables : Cert.Kernel5.defs (F := F) = Cert.Kernel5Ideal.defs (F := F) :=
  congrArg (Pipeline.defs Cert.Kernel5Ideal.pcfgs) bodies

/-- The running sum over the tiles, in its inner function and in its outer one. -/
theorem sum_inner (a : StableHlo.TRef Cert.Kernel5.sig ⟨Cert.Kernel5.S44, .i32⟩) :
    @Cert.Kernel5.fn_cumsum_0.body F _ _ a Cert.Kernel5.main_call0_call0
      = @Cert.Kernel5Ideal.fn_cumsum_0.body F _ _ a Cert.Kernel5Ideal.main_call0_call0 := rfl

theorem sum_outer (a : StableHlo.TRef Cert.Kernel5.sig ⟨Cert.Kernel5.S44, .i32⟩) :
    @Cert.Kernel5.fn_cumsum.body F _ _ a Cert.Kernel5.main_call0
      = @Cert.Kernel5Ideal.fn_cumsum.body F _ _ a Cert.Kernel5Ideal.main_call0 := by
  unfold Cert.Kernel5.fn_cumsum.body Cert.Kernel5Ideal.fn_cumsum.body
  exact congrArg (fun p => p >>= fun _ => pure PUnit.unit) (sum_inner a)

set_option maxHeartbeats 4000000 in
/-- The host's steps are the same, the running sum among them. -/
theorem hosts : Cert.Kernel5.main (F := F) = Cert.Kernel5Ideal.main (F := F) := by
  funext d
  unfold Cert.Kernel5.main Cert.Kernel5Ideal.main
  rw [sum_outer]
  rfl

end Cert.DownWide.Same

end

end
-- ==== Proof.lean ====
/-
The claims, proved. The attention and the experts' projections: each kernel and its reference run and leave
their arguments as they were, each kernel's two printings are one program, and over the extended reals each kernel's
result is its reference's, wherever the queries and keys are finite and the tiles' experts and row counts in range.
-/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_experts
public import proofs.«01_k».proof.Proof.Gen.Pre_tiles
public import proofs.«01_k».proof.Proof.Gen.KernelIdeal.Value
public import proofs.«01_k».proof.Proof.Gen.ReferenceIdeal.Run
public import proofs.«01_k».proof.Proof.Final
public import proofs.«01_k».proof.Proof.Reference
public import proofs.«01_k».proof.Proof.Finite
public import proofs.«01_k».proof.Proof.Gen.Reference2Ideal.Run
public import proofs.«01_k».proof.Proof.Up.Out
public import proofs.«01_k».proof.Proof.Up.Ref
public import proofs.«01_k».proof.Proof.Up.Pre
public import proofs.«01_k».proof.Proof.Up.Bits
public import proofs.«01_k».proof.Proof.Gen.Kernel3
public import proofs.«01_k».proof.Proof.Gen.Kernel3.Skeleton
public import proofs.«01_k».proof.Proof.Gen.Kernel3.Launch
public import proofs.«01_k».proof.Proof.Gen.Kernel3.Flash
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Flash
public import proofs.«01_k».proof.Proof.Gen.Reference3Ideal
public import proofs.«01_k».proof.Proof.Gen.Pre_experts_all
public import proofs.«01_k».proof.Proof.Gen.Pre_tiles_all
public import proofs.«01_k».proof.Proof.Gen.Reference3Ideal.Run
public import proofs.«01_k».proof.Proof.Wide.Out
public import proofs.«01_k».proof.Proof.Wide.Ref
public import proofs.«01_k».proof.Proof.Wide.Bits
public import proofs.«01_k».proof.Proof.Gen.Kernel4
public import proofs.«01_k».proof.Proof.Gen.Kernel4.Skeleton
public import proofs.«01_k».proof.Proof.Gen.Kernel4.Launch
public import proofs.«01_k».proof.Proof.Gen.Kernel4.Flash
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Flash
public import proofs.«01_k».proof.Proof.Gen.Reference4Ideal
public import proofs.«01_k».proof.Proof.Gen.Pre_experts_down
public import proofs.«01_k».proof.Proof.Gen.Pre_tiles_down
public import proofs.«01_k».proof.Proof.Gen.Reference4Ideal.Run
public import Idealize.ShloMosaic.Adequacy
public import Idealize.ShloMosaic.Init
public import Idealize.ShloMosaic.Lib.Claim
public import proofs.«01_k».proof.Proof.Down.Out
public import proofs.«01_k».proof.Proof.Down.Ref
public import proofs.«01_k».proof.Proof.Down.Bits
public import proofs.«01_k».proof.Proof.Gen.Kernel5
public import proofs.«01_k».proof.Proof.Gen.Kernel5.Skeleton
public import proofs.«01_k».proof.Proof.Gen.Kernel5.Launch
public import proofs.«01_k».proof.Proof.Gen.Kernel5.Flash
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Flash
public import proofs.«01_k».proof.Proof.Gen.Reference5Ideal
public import proofs.«01_k».proof.Proof.Gen.Pre_experts_down_all
public import proofs.«01_k».proof.Proof.Gen.Pre_tiles_down_all
public import proofs.«01_k».proof.Proof.Gen.Reference5Ideal.Run
public import proofs.«01_k».proof.Proof.DownWide.Out
public import proofs.«01_k».proof.Proof.DownWide.Ref
public import proofs.«01_k».proof.Proof.DownWide.Bits

@[expose] public section

noncomputable section

namespace Cert.Proof

open Idealize.ShloMosaic Idealize.ShloMosaic.TcCoe Idealize.SL.Sem

/-- The precondition, read on the kernel's arguments. -/
theorem bounded (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Attn.Bounded m c := by
  obtain ⟨h0, h1, h2, h3, h5, h6⟩ := h c
  exact ⟨fun b i h e => Attention.finite_of_below _ _ h0 _, fun b i h e => Attention.finite_of_below _ _ h1 _,
    fun b i h e => Attention.finite_of_below _ _ h2 _, fun b i e => Attention.finite_of_below _ _ h3 _,
    fun b i h e => Attention.finite_of_below _ _ h5 _, fun b i e => Attention.finite_of_below _ _ h6 _⟩

/-- The reference leaves its arguments as they were; it declares no semaphore. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The two programs give the same result: an entry of either is the attention's. -/
theorem algebraic : Cert.algebraic_KernelIdeal_ReferenceIdeal_pre_finite := by
  pair_intro
  · run_from Cert.KernelIdeal.Value.run_blocks m g
  · run_from Cert.ReferenceIdeal.Value.run m' g'
    have hf := bounded m hpre c
    obtain ⟨a0, a1, a2, a3, a4, a5, a6, a7⟩ := hagree c
    refine (Cert.KernelIdeal.Attn.final m c hf _ fun b i h d => ?_).symm
    refine (Cert.ReferenceIdeal.Attn.result_at m' c b i h d (fun e => ?_) (fun e => ?_) (fun j e => ?_) (fun j e => ?_) (fun j e => ?_)
      (fun j e => ?_)).trans ?_
    · rw [a0]; exact hf.qn b i h e
    · rw [a1]; exact hf.qr b i h e
    · rw [a2]; exact hf.kn b j h e
    · rw [a3]; exact hf.kr b j e
    · rw [a5]; exact hf.kn' b j h e
    · rw [a6]; exact hf.kr' b j e
    · rw [a0, a1, a2, a3, a4, a5, a6, a7]

/-! ## The experts' gate and up projections -/

/-- The precondition of the frames, read on the kernel's arguments. -/
theorem experts (m : (ℓ : Loc Cert.Kernel2Ideal.nD Cert.Kernel2Ideal.τ Cert.Kernel2Ideal.sig) → Buf (Elt Ideal) ℓ)
    (h : Cert.Pre_Kernel2Ideal m) : Cert.Up.Experts m := fun c i =>
  Cert.Up.expert_word _ (congrFun (h c).1 i) (congrFun (h c).2 i)
theorem experts_bits (m : (ℓ : Loc Cert.Kernel2.nD Cert.Kernel2.τ Cert.Kernel2.sig) → Buf (Elt Bits) ℓ)
    (h : Cert.Pre_Kernel2 m) : Cert.Up.Experts (F := Bits) m := fun c i =>
  Cert.Up.expert_word _ (congrFun (h c).1 i) (congrFun (h c).2 i)

/-- The precondition of the value claim, read on the kernel's arguments. -/
theorem tiles_experts (m : (ℓ : Loc Cert.Kernel2Ideal.nD Cert.Kernel2Ideal.τ Cert.Kernel2Ideal.sig) → Buf (Elt Ideal) ℓ)
    (h : Cert.Pre_Kernel2Ideal_tiles m) : Cert.Up.Experts m := fun c i =>
  Cert.Up.expert_word _ (congrFun (h c).1 i) (congrFun (h c).2.1 i)
theorem tiles_rows (m : (ℓ : Loc Cert.Kernel2Ideal.nD Cert.Kernel2Ideal.τ Cert.Kernel2Ideal.sig) → Buf (Elt Ideal) ℓ)
    (h : Cert.Pre_Kernel2Ideal_tiles m) : Cert.Up.Rows m := fun c i =>
  Cert.Up.rows_legal _ (congrFun (h c).2.2.1 i) (congrFun (h c).2.2.2.1 i) (congrFun (h c).2.2.2.2 i)

/-- The kernel's run of bits is the run proved for any floats: its two printings are one program. -/
theorem up_frame_bits : Cert.quiescent_Kernel2 := fun m ρ h => by
  have run := Cert.Up.frame_run (F := Bits) m ρ (experts_bits m h)
  rw [← Cert.Up.Same.tables, ← Cert.Up.Same.hosts] at run
  exact run
theorem up_frame : Cert.quiescent_Kernel2Ideal := fun m ρ h => Cert.Up.frame_run m ρ (experts m h)
theorem up_frame_tiles : Cert.quiescent_Kernel2Ideal_pre_tiles := fun m ρ h => Cert.Up.frame_run m ρ (tiles_experts m h)

/-- The reference leaves its arguments as they were; it declares no semaphore. -/
theorem up_reference_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The two programs give the same result: an entry of either is the gated product of a valid row, or zero. -/
theorem up_algebraic : Cert.algebraic_Kernel2Ideal_Reference2Ideal_pre_tiles := by
  intro m g m' g' hpre hagree
  have hm := tiles_experts m hpre
  have hr := tiles_rows m hpre
  refine ⟨fun c => (Cert.Up.dats m 0 c).arrAt 1 (Cert.Up.cfgM m).N, ?_, ?_⟩
  · exact (θ_run Cert.Kernel2Ideal.defs _ _).mono (fun _ h c => ⟨h.1 c, h.2.1 c⟩)
      (θ_run_and (Cert.Up.result_run m g hm hr) (Cert.Up.frame_run m g hm))
  · refine (θ_run Cert.Reference2Ideal.defs _ _).mono (fun r h c => ⟨(h c).1.trans ?_, (h c).2⟩) (Cert.Reference2Ideal.Value.run m' g')
    obtain ⟨a0, a1, a2, a3, a4⟩ := hagree c
    rw [a0, a1, a2, a3, a4]
    refine (Cert.Up.final m hm hr c _ fun n i f => ?_).symm
    exact Cert.Up.Ref.result_at _ _ _ _ _ n i f (hm c _) (Cert.Up.legal_le (hr c _))

/-! ## The same call over the second layer's tiles -/

/-- The precondition of the frames, read on the kernel's arguments. -/
theorem wide_experts (m : (ℓ : Loc Cert.Kernel3Ideal.nD Cert.Kernel3Ideal.τ Cert.Kernel3Ideal.sig) → Buf (Elt Ideal) ℓ)
    (h : Cert.Pre_Kernel3Ideal m) : Cert.Wide.Experts m := fun c i =>
  Cert.Up.expert_word _ (congrFun (h c).1 i) (congrFun (h c).2 i)
theorem wide_experts_bits (m : (ℓ : Loc Cert.Kernel3.nD Cert.Kernel3.τ Cert.Kernel3.sig) → Buf (Elt Bits) ℓ)
    (h : Cert.Pre_Kernel3 m) : Cert.Wide.Experts (F := Bits) m := fun c i =>
  Cert.Up.expert_word _ (congrFun (h c).1 i) (congrFun (h c).2 i)

/-- The precondition of the value claim, read on the kernel's arguments. -/
theorem wide_tiles_experts (m : (ℓ : Loc Cert.Kernel3Ideal.nD Cert.Kernel3Ideal.τ Cert.Kernel3Ideal.sig) → Buf (Elt Ideal) ℓ)
    (h : Cert.Pre_Kernel3Ideal_tiles_all m) : Cert.Wide.Experts m := fun c i =>
  Cert.Up.expert_word _ (congrFun (h c).1 i) (congrFun (h c).2.1 i)
theorem wide_tiles_rows (m : (ℓ : Loc Cert.Kernel3Ideal.nD Cert.Kernel3Ideal.τ Cert.Kernel3Ideal.sig) → Buf (Elt Ideal) ℓ)
    (h : Cert.Pre_Kernel3Ideal_tiles_all m) : Cert.Wide.Rows m := fun c i =>
  Cert.Up.rows_legal _ (congrFun (h c).2.2.1 i) (congrFun (h c).2.2.2.1 i) (congrFun (h c).2.2.2.2 i)

/-- The kernel's run of bits is the run proved for any floats: its two printings are one program. -/
theorem wide_frame_bits : Cert.quiescent_Kernel3 := fun m ρ h => by
  have run := Cert.Wide.frame_run (F := Bits) m ρ (wide_experts_bits m h)
  rw [← Cert.Wide.Same.tables, ← Cert.Wide.Same.hosts] at run
  exact run
theorem wide_frame : Cert.quiescent_Kernel3Ideal := fun m ρ h => Cert.Wide.frame_run m ρ (wide_experts m h)
theorem wide_frame_tiles : Cert.quiescent_Kernel3Ideal_pre_tiles_all := fun m ρ h => Cert.Wide.frame_run m ρ (wide_tiles_experts m h)

/-- The reference leaves its arguments as they were; it declares no semaphore. -/
theorem wide_reference_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The two programs give the same result: an entry of either is the gated product of a valid row, or zero. -/
theorem wide_algebraic : Cert.algebraic_Kernel3Ideal_Reference3Ideal_pre_tiles_all := by
  intro m g m' g' hpre hagree
  have hm := wide_tiles_experts m hpre
  have hr := wide_tiles_rows m hpre
  refine ⟨fun c => (Cert.Wide.dats m 0 c).arrAt 1 (Cert.Wide.cfgM m).N, ?_, ?_⟩
  · exact (θ_run Cert.Kernel3Ideal.defs _ _).mono (fun _ h c => ⟨h.1 c, h.2.1 c⟩)
      (θ_run_and (Cert.Wide.result_run m g hm hr) (Cert.Wide.frame_run m g hm))
  · refine (θ_run Cert.Reference3Ideal.defs _ _).mono (fun r h c => ⟨(h c).1.trans ?_, (h c).2⟩) (Cert.Reference3Ideal.Value.run m' g')
    obtain ⟨a0, a1, a2, a3, a4⟩ := hagree c
    rw [a0, a1, a2, a3, a4]
    refine (Cert.Wide.final m hm hr c _ fun n i f => ?_).symm
    exact Cert.Wide.Ref.result_at _ _ _ _ _ n i f (hm c _) (Cert.Up.legal_le (hr c _))

/-! ## The experts' down projection -/

/-- The precondition of the frames, read on the kernel's arguments. -/
theorem down_experts (m : (ℓ : Loc Cert.Kernel4Ideal.nD Cert.Kernel4Ideal.τ Cert.Kernel4Ideal.sig) → Buf (Elt Ideal) ℓ)
    (h : Cert.Pre_Kernel4Ideal m) : Cert.Down.Experts m := fun c i =>
  Cert.Up.expert_word _ (congrFun (h c).1 i) (congrFun (h c).2 i)
theorem down_experts_bits (m : (ℓ : Loc Cert.Kernel4.nD Cert.Kernel4.τ Cert.Kernel4.sig) → Buf (Elt Bits) ℓ)
    (h : Cert.Pre_Kernel4 m) : Cert.Down.Experts (F := Bits) m := fun c i =>
  Cert.Up.expert_word _ (congrFun (h c).1 i) (congrFun (h c).2 i)

/-- The precondition of the value claim, read on the kernel's arguments. -/
theorem down_tiles_experts (m : (ℓ : Loc Cert.Kernel4Ideal.nD Cert.Kernel4Ideal.τ Cert.Kernel4Ideal.sig) → Buf (Elt Ideal) ℓ)
    (h : Cert.Pre_Kernel4Ideal_tiles_down m) : Cert.Down.Experts m := fun c i =>
  Cert.Up.expert_word _ (congrFun (h c).1 i) (congrFun (h c).2.1 i)
theorem down_tiles_rows (m : (ℓ : Loc Cert.Kernel4Ideal.nD Cert.Kernel4Ideal.τ Cert.Kernel4Ideal.sig) → Buf (Elt Ideal) ℓ)
    (h : Cert.Pre_Kernel4Ideal_tiles_down m) : Cert.Down.Rows m := fun c i =>
  Cert.Up.rows_legal _ (congrFun (h c).2.2.1 i) (congrFun (h c).2.2.2.1 i) (congrFun (h c).2.2.2.2 i)

/-- The kernel's run of bits is the run proved for any floats: its two printings are one program. -/
theorem down_frame_bits : Cert.quiescent_Kernel4 := fun m ρ h => by
  have run := Cert.Down.frame_run (F := Bits) m ρ (down_experts_bits m h)
  rw [← Cert.Down.Same.tables, ← Cert.Down.Same.hosts] at run
  exact run
theorem down_frame : Cert.quiescent_Kernel4Ideal := fun m ρ h => Cert.Down.frame_run m ρ (down_experts m h)
theorem down_frame_tiles : Cert.quiescent_Kernel4Ideal_pre_tiles_down := fun m ρ h => Cert.Down.frame_run m ρ (down_tiles_experts m h)

/-- The reference leaves its arguments as they were; it declares no semaphore. -/
theorem down_reference_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The two programs give the same result: an entry of either is the product of a valid row, or zero. -/
theorem down_algebraic : Cert.algebraic_Kernel4Ideal_Reference4Ideal_pre_tiles_down := by
  intro m g m' g' hpre hagree
  have hm := down_tiles_experts m hpre
  have hr := down_tiles_rows m hpre
  refine ⟨fun c => (Cert.Down.dats m 0 c).arrAt 1 (Cert.Down.cfgM m).N, ?_, ?_⟩
  · exact (θ_run Cert.Kernel4Ideal.defs _ _).mono (fun _ h c => ⟨h.1 c, h.2.1 c⟩)
      (θ_run_and (Cert.Down.result_run m g hm hr) (Cert.Down.frame_run m g hm))
  · refine (θ_run Cert.Reference4Ideal.defs _ _).mono (fun r h c => ⟨(h c).1.trans ?_, (h c).2⟩) (Cert.Reference4Ideal.Value.run m' g')
    obtain ⟨a0, a1, a2, a3⟩ := hagree c
    rw [a0, a1, a2, a3]
    refine (Cert.Down.final m hm hr c _ fun n i f => ?_).symm
    exact Cert.Down.Ref.result_at _ _ _ _ n i f (hm c _) (Cert.Up.legal_le (hr c _))

/-! ## The down projection over the second layer's tiles -/

/-- The precondition of the frames, read on the kernel's arguments. -/
theorem downWide_experts (m : (ℓ : Loc Cert.Kernel5Ideal.nD Cert.Kernel5Ideal.τ Cert.Kernel5Ideal.sig) → Buf (Elt Ideal) ℓ)
    (h : Cert.Pre_Kernel5Ideal m) : Cert.DownWide.Experts m := fun c i =>
  Cert.Up.expert_word _ (congrFun (h c).1 i) (congrFun (h c).2 i)
theorem downWide_experts_bits (m : (ℓ : Loc Cert.Kernel5.nD Cert.Kernel5.τ Cert.Kernel5.sig) → Buf (Elt Bits) ℓ)
    (h : Cert.Pre_Kernel5 m) : Cert.DownWide.Experts (F := Bits) m := fun c i =>
  Cert.Up.expert_word _ (congrFun (h c).1 i) (congrFun (h c).2 i)

/-- The precondition of the value claim, read on the kernel's arguments. -/
theorem downWide_tiles_experts (m : (ℓ : Loc Cert.Kernel5Ideal.nD Cert.Kernel5Ideal.τ Cert.Kernel5Ideal.sig) → Buf (Elt Ideal) ℓ)
    (h : Cert.Pre_Kernel5Ideal_tiles_down_all m) : Cert.DownWide.Experts m := fun c i =>
  Cert.Up.expert_word _ (congrFun (h c).1 i) (congrFun (h c).2.1 i)
theorem downWide_tiles_rows (m : (ℓ : Loc Cert.Kernel5Ideal.nD Cert.Kernel5Ideal.τ Cert.Kernel5Ideal.sig) → Buf (Elt Ideal) ℓ)
    (h : Cert.Pre_Kernel5Ideal_tiles_down_all m) : Cert.DownWide.Rows m := fun c i =>
  Cert.Up.rows_legal _ (congrFun (h c).2.2.1 i) (congrFun (h c).2.2.2.1 i) (congrFun (h c).2.2.2.2 i)

/-- The kernel's run of bits is the run proved for any floats: its two printings are one program. -/
theorem downWide_frame_bits : Cert.quiescent_Kernel5 := fun m ρ h => by
  have run := Cert.DownWide.frame_run (F := Bits) m ρ (downWide_experts_bits m h)
  rw [← Cert.DownWide.Same.tables, ← Cert.DownWide.Same.hosts] at run
  exact run
theorem downWide_frame : Cert.quiescent_Kernel5Ideal := fun m ρ h => Cert.DownWide.frame_run m ρ (downWide_experts m h)
theorem downWide_frame_tiles : Cert.quiescent_Kernel5Ideal_pre_tiles_down_all := fun m ρ h => Cert.DownWide.frame_run m ρ (downWide_tiles_experts m h)

/-- The reference leaves its arguments as they were; it declares no semaphore. -/
theorem downWide_reference_frame : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The two programs give the same result: an entry of either is the product of a valid row, or zero. -/
theorem downWide_algebraic : Cert.algebraic_Kernel5Ideal_Reference5Ideal_pre_tiles_down_all := by
  intro m g m' g' hpre hagree
  have hm := downWide_tiles_experts m hpre
  have hr := downWide_tiles_rows m hpre
  refine ⟨fun c => (Cert.DownWide.dats m 0 c).arrAt 1 (Cert.DownWide.cfgM m).N, ?_, ?_⟩
  · exact (θ_run Cert.Kernel5Ideal.defs _ _).mono (fun _ h c => ⟨h.1 c, h.2.1 c⟩)
      (θ_run_and (Cert.DownWide.result_run m g hm hr) (Cert.DownWide.frame_run m g hm))
  · refine (θ_run Cert.Reference5Ideal.defs _ _).mono (fun r h c => ⟨(h c).1.trans ?_, (h c).2⟩) (Cert.Reference5Ideal.Value.run m' g')
    obtain ⟨a0, a1, a2, a3⟩ := hagree c
    rw [a0, a1, a2, a3]
    refine (Cert.DownWide.final m hm hr c _ fun n i f => ?_).symm
    exact Cert.DownWide.Ref.result_at _ _ _ _ n i f (hm c _) (Cert.Up.legal_le (hr c _))

/-- All the claims. -/
theorem claim : Cert.Claim := ⟨Cert.Kernel2.Gen.facts, Cert.Kernel2Ideal.Gen.facts, Cert.Reference2Ideal.Gen.facts,
  Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_experts.Gen.facts, Cert.Pre_tiles.Gen.facts, Cert.Pre_finite.Gen.facts, Cert.Pre_experts_all.Gen.facts, Cert.Pre_tiles_all.Gen.facts,
  Cert.Pre_experts_down.Gen.facts, Cert.Pre_tiles_down.Gen.facts,
  Cert.Pre_experts_down_all.Gen.facts, Cert.Pre_tiles_down_all.Gen.facts,
  up_frame_bits, up_frame, up_frame_tiles, up_reference_frame, fun m ρ _ => up_reference_frame m ρ trivial,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  wide_frame_bits, wide_frame, wide_frame_tiles, wide_reference_frame, fun m ρ _ => wide_reference_frame m ρ trivial,
  down_frame_bits, down_frame, down_frame_tiles, down_reference_frame, fun m ρ _ => down_reference_frame m ρ trivial,
  downWide_frame_bits, downWide_frame, downWide_frame_tiles, downWide_reference_frame, fun m ρ _ => downWide_reference_frame m ρ trivial,
  trivial, up_algebraic, trivial, algebraic, trivial, wide_algebraic, trivial, down_algebraic,
  trivial, downWide_algebraic⟩

end Cert.Proof

end
